-- ==== Defs.lean ====
def Pre_Kernel [hPre_tables_ok : Cert.Pre_tables_ok.Facts] (m : (ℓ : Loc Cert.Kernel.nD Cert.Kernel.τ Cert.Kernel.sig) → Buf (Elt Bits) ℓ) : Prop :=
  ∀ c : Dev Cert.Kernel.nD,
    (Cert.Pre_tables_ok.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_tables_ok : Cert.Pre_tables_ok.Facts] (m : (ℓ : Loc Cert.KernelIdeal.nD Cert.KernelIdeal.τ Cert.KernelIdeal.sig) → Buf (Elt Ideal) ℓ) : Prop :=
  ∀ c : Dev Cert.KernelIdeal.nD,
    (Cert.Pre_tables_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tables_ok [hPre_tables_ok : Cert.Pre_tables_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tables_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Reference [hPre_tables_ok : Cert.Pre_tables_ok.Facts] (m : (ℓ : Loc Cert.Reference.nD Cert.Reference.τ Cert.Reference.sig) → Buf (Elt Bits) ℓ) : Prop :=
  ∀ c : Dev Cert.Reference.nD,
    (Cert.Pre_tables_ok.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2)) (m ((c.tc : Thread Cert.Reference.nD Cert.Reference.τ).loc Cert.Reference.main_arg3))) = (fun _ => 1#1)

def Pre_Kernel2 [hPre_tiles_ok : Cert.Pre_tiles_ok.Facts] (m : (ℓ : Loc Cert.Kernel2.nD Cert.Kernel2.τ Cert.Kernel2.sig) → Buf (Elt Bits) ℓ) : Prop :=
  ∀ c : Dev Cert.Kernel2.nD,
    (Cert.Pre_tiles_ok.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))) = (fun _ => 1#1)

def Pre_Kernel2Ideal [hPre_tiles_ok : Cert.Pre_tiles_ok.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_tiles_ok.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_tiles_ok [hPre_tiles_ok : Cert.Pre_tiles_ok.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_tiles_ok.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 [hPre_rows_ok : Cert.Pre_rows_ok.Facts] (m : (ℓ : Loc Cert.Kernel4.nD Cert.Kernel4.τ Cert.Kernel4.sig) → Buf (Elt Bits) ℓ) : Prop :=
  ∀ c : Dev Cert.Kernel4.nD,
    (Cert.Pre_rows_ok.fn (F := Bits) (m ((c.tc : Thread Cert.Kernel4.nD Cert.Kernel4.τ).loc Cert.Kernel4.main_arg0)) (m ((c.tc : Thread Cert.Kernel4.nD Cert.Kernel4.τ).loc Cert.Kernel4.main_arg1)) (m ((c.tc : Thread Cert.Kernel4.nD Cert.Kernel4.τ).loc Cert.Kernel4.main_arg2)) (m ((c.tc : Thread Cert.Kernel4.nD Cert.Kernel4.τ).loc Cert.Kernel4.main_arg3)) (m ((c.tc : Thread Cert.Kernel4.nD Cert.Kernel4.τ).loc Cert.Kernel4.main_arg4))) = (fun _ => 1#1)

def Pre_Kernel4Ideal [hPre_rows_ok : Cert.Pre_rows_ok.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_rows_ok.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_rows_ok [hPre_rows_ok : Cert.Pre_rows_ok.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_rows_ok.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] [hPre_tables_ok : Cert.Pre_tables_ok.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_tables_ok : Cert.Pre_tables_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_tables_ok [hReferenceIdeal : Cert.ReferenceIdeal.Facts] [hPre_tables_ok : Cert.Pre_tables_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tables_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Reference [hReference : Cert.Reference.Facts] [hPre_tables_ok : Cert.Pre_tables_ok.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3))
      ∧ r.2.sem = fun _ => 0)

def quiescent_Kernel2 [hKernel2 : Cert.Kernel2.Facts] [hPre_tiles_ok : Cert.Pre_tiles_ok.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] [hPre_tiles_ok : Cert.Pre_tiles_ok.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_tiles_ok [hReference2Ideal : Cert.Reference2Ideal.Facts] [hPre_tiles_ok : Cert.Pre_tiles_ok.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_tiles_ok m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] [hPre_rows_ok : Cert.Pre_rows_ok.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] [hPre_rows_ok : Cert.Pre_rows_ok.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Reference4Ideal_pre_rows_ok [hReference4Ideal : Cert.Reference4Ideal.Facts] [hPre_rows_ok : Cert.Pre_rows_ok.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_rows_ok m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def preserves_Kernel_KernelIdeal : Prop :=
  True

def bitexact_Kernel_Reference_on_rows_written [hKernel : Cert.Kernel.Facts] [hReference : Cert.Reference.Facts] [hPre_tables_ok : Cert.Pre_tables_ok.Facts] [hOn_rows_written : Cert.On_rows_written.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)
      ∧ m' ((c.tc : Thread Cert.Reference.nD Cert.Reference.τ).loc Cert.Reference.main_arg3) = m ((c.tc : Thread Cert.Kernel.nD Cert.Kernel.τ).loc Cert.Kernel.main_arg3)) →
    ∃ (v0 : (c : Dev Cert.Kernel.nD) → Buf (Elt Bits) ((c.tc : Thread Cert.Kernel.nD Cert.Kernel.τ).loc Cert.Kernel.main_v0)),
      θ_run (Cert.Kernel.defs (F := Bits)) (onTc (τ := Cert.Kernel.τ) (Cert.Kernel.main (F := Bits))) ⟨m, fun _ => 0, g⟩ (fun r => ∀ c : Dev Cert.Kernel.nD,
          (∀ i : (⟨2, ![73728, 1024]⟩ : Shape).Idx, (Cert.On_rows_written.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) i = 1#1 → r.2.mem ((c.tc : Thread Cert.Kernel.nD Cert.Kernel.τ).loc Cert.Kernel.main_v0) i = v0 c i)
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2)
          ∧ r.2.mem ((c.tc : Thread Cert.Kernel.nD Cert.Kernel.τ).loc Cert.Kernel.main_arg3) = m ((c.tc : Thread Cert.Kernel.nD Cert.Kernel.τ).loc Cert.Kernel.main_arg3))
      ∧ θ_run (Cert.Reference.defs (F := Bits)) (onTc (τ := Cert.Reference.τ) (Cert.Reference.main (F := Bits))) ⟨m', fun _ => 0, g'⟩ (fun r => ∀ c : Dev Cert.Reference.nD,
          (∀ i : (⟨2, ![73728, 1024]⟩ : Shape).Idx, (Cert.On_rows_written.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) i = 1#1 → r.2.mem ((c.tc : Thread Cert.Reference.nD Cert.Reference.τ).loc Cert.Reference.main_v14) i = v0 c i)
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2)
          ∧ r.2.mem ((c.tc : Thread Cert.Reference.nD Cert.Reference.τ).loc Cert.Reference.main_arg3) = m' ((c.tc : Thread Cert.Reference.nD Cert.Reference.τ).loc Cert.Reference.main_arg3))

def algebraic_KernelIdeal_ReferenceIdeal_on_rows_written [hKernelIdeal : Cert.KernelIdeal.Facts] [hReferenceIdeal : Cert.ReferenceIdeal.Facts] [hPre_tables_ok : Cert.Pre_tables_ok.Facts] [hOn_rows_written : Cert.On_rows_written.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![73728, 1024]⟩ : Shape).Idx, (Cert.On_rows_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) i = 1#1 → r.2.mem ((c.tc : Thread Cert.KernelIdeal.nD Cert.KernelIdeal.τ).loc Cert.KernelIdeal.main_v0) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![73728, 1024]⟩ : Shape).Idx, (Cert.On_rows_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) i = 1#1 → r.2.mem ((c.tc : Thread Cert.ReferenceIdeal.nD Cert.ReferenceIdeal.τ).loc Cert.ReferenceIdeal.main_v14) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] [hPre_tiles_ok : Cert.Pre_tiles_ok.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v158) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] [hPre_rows_ok : Cert.Pre_rows_ok.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v21) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v2_0)) (v1 : (c : Dev Cert.Kernel5Ideal.nD) → Buf (Elt Ideal) ((c.tc : Thread Cert.Kernel5Ideal.nD Cert.Kernel5Ideal.τ).loc Cert.Kernel5Ideal.main_v2_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2_0) = v0 c
          ∧ r.2.mem ((c.tc : Thread Cert.Kernel5Ideal.nD Cert.Kernel5Ideal.τ).loc Cert.Kernel5Ideal.main_v2_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_v19) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)) →
    ∃ (v0 : (c : Dev Cert.Kernel6Ideal.nD) → Buf (Elt Ideal) ((c.tc : Thread Cert.Kernel6Ideal.nD Cert.Kernel6Ideal.τ).loc Cert.Kernel6Ideal.main_v13_0)) (v1 : (c : Dev Cert.Kernel6Ideal.nD) → Buf (Elt Ideal) ((c.tc : Thread Cert.Kernel6Ideal.nD Cert.Kernel6Ideal.τ).loc Cert.Kernel6Ideal.main_v13_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v13_0) = v0 c
          ∧ r.2.mem ((c.tc : Thread Cert.Kernel6Ideal.nD Cert.Kernel6Ideal.τ).loc Cert.Kernel6Ideal.main_v13_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_v18) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7))

def Claim : Prop :=
  ∃ (hKernel : Cert.Kernel.Facts) (hKernelIdeal : Cert.KernelIdeal.Facts) (hReferenceIdeal : Cert.ReferenceIdeal.Facts) (hReference : Cert.Reference.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_tables_ok : Cert.Pre_tables_ok.Facts) (hPre_tiles_ok : Cert.Pre_tiles_ok.Facts) (hPre_rows_ok : Cert.Pre_rows_ok.Facts) (hOn_rows_written : Cert.On_rows_written.Facts),
    quiescent_Kernel (hKernel := hKernel) (hPre_tables_ok := hPre_tables_ok)
    ∧ quiescent_KernelIdeal (hKernelIdeal := hKernelIdeal) (hPre_tables_ok := hPre_tables_ok)
    ∧ quiescent_ReferenceIdeal (hReferenceIdeal := hReferenceIdeal)
    ∧ quiescent_ReferenceIdeal_pre_tables_ok (hReferenceIdeal := hReferenceIdeal) (hPre_tables_ok := hPre_tables_ok)
    ∧ quiescent_Reference (hReference := hReference) (hPre_tables_ok := hPre_tables_ok)
    ∧ quiescent_Kernel2 (hKernel2 := hKernel2) (hPre_tiles_ok := hPre_tiles_ok)
    ∧ quiescent_Kernel2Ideal (hKernel2Ideal := hKernel2Ideal) (hPre_tiles_ok := hPre_tiles_ok)
    ∧ quiescent_Reference2Ideal (hReference2Ideal := hReference2Ideal)
    ∧ quiescent_Reference2Ideal_pre_tiles_ok (hReference2Ideal := hReference2Ideal) (hPre_tiles_ok := hPre_tiles_ok)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4) (hPre_rows_ok := hPre_rows_ok)
    ∧ quiescent_Kernel4Ideal (hKernel4Ideal := hKernel4Ideal) (hPre_rows_ok := hPre_rows_ok)
    ∧ quiescent_Reference4Ideal (hReference4Ideal := hReference4Ideal)
    ∧ quiescent_Reference4Ideal_pre_rows_ok (hReference4Ideal := hReference4Ideal) (hPre_rows_ok := hPre_rows_ok)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ bitexact_Kernel_Reference_on_rows_written (hKernel := hKernel) (hReference := hReference) (hPre_tables_ok := hPre_tables_ok) (hOn_rows_written := hOn_rows_written)
    ∧ algebraic_KernelIdeal_ReferenceIdeal_on_rows_written (hKernelIdeal := hKernelIdeal) (hReferenceIdeal := hReferenceIdeal) (hPre_tables_ok := hPre_tables_ok) (hOn_rows_written := hOn_rows_written)
    ∧ preserves_Kernel2_Kernel2Ideal
    ∧ algebraic_Kernel2Ideal_Reference2Ideal (hKernel2Ideal := hKernel2Ideal) (hReference2Ideal := hReference2Ideal) (hPre_tiles_ok := hPre_tiles_ok)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal) (hPre_rows_ok := hPre_rows_ok)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== On_rows_written.lean ====
abbrev S32768 : Shape := ⟨1, ![32768]⟩
abbrev S16 : Shape := ⟨1, ![16]⟩
abbrev S32768x1024 : Shape := ⟨2, ![32768, 1024]⟩
abbrev S8 : Shape := ⟨1, ![8]⟩
abbrev S73728 : Shape := ⟨1, ![73728]⟩
abbrev S1x8 : Shape := ⟨2, ![1, 8]⟩
abbrev S73728x1 : Shape := ⟨2, ![73728, 1]⟩
abbrev S73728x8 : Shape := ⟨2, ![73728, 8]⟩
abbrev S_ : Shape := ⟨0, ![]⟩
abbrev S32768x1 : Shape := ⟨2, ![32768, 1]⟩
abbrev S73728x1024 : Shape := ⟨2, ![73728, 1024]⟩

class Facts : Prop where
  slices_S16_S8_0 : S16.Slices ![0] S8
  slices_S16_S8_8 : S16.Slices ![8] S8
  bcast_S8_S1x8_1 : S8.BroadcastsInDim S1x8 (![1] : Fin 1 → Fin S1x8.rank)
  bcast_S73728_S73728x1_0 : S73728.BroadcastsInDim S73728x1 (![0] : Fin 1 → Fin S73728x1.rank)
  bcast_S1x8_S73728x8_0_1 : S1x8.BroadcastsInDim S73728x8 (![0, 1] : Fin 2 → Fin S73728x8.rank)
  bcast_S73728x1_S73728x8_0_1 : S73728x1.BroadcastsInDim S73728x8 (![0, 1] : Fin 2 → Fin S73728x8.rank)
  reducesTo_S73728x8_S73728_d1 : S73728x8.ReducesTo [1] S73728
  h_S_ : 0 < S_.numel
  bcast_S_S73728 : S_.BroadcastsInDim S73728 (![] : Fin 0 → Fin S73728.rank)
  bcast_S_S32768 : S_.BroadcastsInDim S32768 (![] : Fin 0 → Fin S32768.rank)
  bcast_S32768_S32768x1_0 : S32768.BroadcastsInDim S32768x1 (![0] : Fin 1 → Fin S32768x1.rank)
  bcast_S73728x1_S73728x1024_0_1 : S73728x1.BroadcastsInDim S73728x1024 (![0, 1] : Fin 2 → Fin S73728x1024.rank)
  scatter_S73728_S32768x1_S32768_n_0_0_1_wf : ScatterDims.WF S73728 S32768x1 S32768 [] [0] [0] 1

variable [Facts]

def scatter_S73728_S32768x1_S32768_n_0_0_1 : ScatterDims S73728 S32768x1 S32768 where
  updateWindowDims := []
  insertedWindowDims := [0]
  scatterDimsToOperandDims := [0]
  indexVectorDim := 1
  wf := scatter_S73728_S32768x1_S32768_n_0_0_1_wf
def fn_part2 {F : FTy → Type} [FloatOps F] (main_v15 : IVec S73728 1) (main_v37 : IVec S73728 1) : IVec S73728x1024 1 :=
  let main_v38 : IVec S73728 1 := ori main_v15 main_v37
  let main_v39 : IVec S73728x1 1 := broadcastInDim S73728x1 ![0] bcast_S73728_S73728x1_0 main_v38
  let main_v40 : IVec S73728x1024 1 := broadcastInDim S73728x1024 ![0, 1] bcast_S73728x1_S73728x1024_0_1 main_v39
  main_v40

def fn_part1 {F : FTy → Type} [FloatOps F] (main_arg0 : IVec S32768 32) (main_arg1 : IVec S32768 32) (main_v15 : IVec S73728 1) (main_v16 : IVec S73728 32) (main_v18 : IVec S32768 1) (main_v19 : IVec S32768 32) : IVec S73728x1024 1 :=
  let main_v20 : IVec S32768 32 := addi main_arg0 main_v19
  let main_v21 : IVec S32768 32 := select main_v18 main_v20 main_arg0
  let main_v22 : IVec S32768x1 32 := broadcastInDim S32768x1 ![0] bcast_S32768_S32768x1_0 main_v21
  let main_c_3 : IVec S_ 32 := constantI S_ 32 1#32
  let main_v23 : IVec S32768 32 := broadcastInDim S32768 ![] bcast_S_S32768 main_c_3
  let main_v24 : IVec S73728 32 := (fun x i u => Host.scatter scatter_S73728_S32768x1_S32768_n_0_0_1 (fun _ b => b) x i u) main_v16 main_v22 main_v23
  let main_c_4 : IVec S_ 32 := constantI S_ 32 1#32
  let main_v25 : IVec S73728 32 := broadcastInDim S73728 ![] bcast_S_S73728 main_c_4
  let main_v26 : IVec S73728 1 := cmpi .eq main_v24 main_v25
  let main_c_5 : IVec S_ 32 := constantI S_ 32 0#32
  let main_v27 : IVec S32768 32 := broadcastInDim S32768 ![] bcast_S_S32768 main_c_5
  let main_v28 : IVec S32768 1 := cmpi .slt main_arg1 main_v27
  let main_c_6 : IVec S_ 32 := constantI S_ 32 73728#32
  let main_v29 : IVec S32768 32 := broadcastInDim S32768 ![] bcast_S_S32768 main_c_6
  let main_v30 : IVec S32768 32 := addi main_arg1 main_v29
  let main_v31 : IVec S32768 32 := select main_v28 main_v30 main_arg1
  let main_v32 : IVec S32768x1 32 := broadcastInDim S32768x1 ![0] bcast_S32768_S32768x1_0 main_v31
  let main_c_7 : IVec S_ 32 := constantI S_ 32 1#32
  let main_v33 : IVec S32768 32 := broadcastInDim S32768 ![] bcast_S_S32768 main_c_7
  let main_v34 : IVec S73728 32 := (fun x i u => Host.scatter scatter_S73728_S32768x1_S32768_n_0_0_1 (fun _ b => b) x i u) main_v16 main_v32 main_v33
  let main_c_8 : IVec S_ 32 := constantI S_ 32 1#32
  let main_v35 : IVec S73728 32 := broadcastInDim S73728 ![] bcast_S_S73728 main_c_8
  let main_v36 : IVec S73728 1 := cmpi .eq main_v34 main_v35
  let main_v37 : IVec S73728 1 := ori main_v26 main_v36
  fn_part2 (F := F) main_v15 main_v37

def fn {F : FTy → Type} [FloatOps F] (main_arg0 : IVec S32768 32) (main_arg1 : IVec S32768 32) (main_arg2 : IVec S16 32) (main_arg3 : FVec F S32768x1024 .f32) : IVec S73728x1024 1 :=
  let main_v0 : IVec S8 32 := (extractStridedSlice S8 ![0] · slices_S16_S8_0) main_arg2
  let main_v1 : IVec S8 32 := (extractStridedSlice S8 ![8] · slices_S16_S8_8) main_arg2
  let main_v2 : IVec S8 32 := addi main_v0 main_v1
  let main_v3 : IVec S73728 32 := iotaInDim S73728 32 0
  let main_v4 : IVec S1x8 32 := broadcastInDim S1x8 ![1] bcast_S8_S1x8_1 main_v0
  let main_v5 : IVec S73728x1 32 := broadcastInDim S73728x1 ![0] bcast_S73728_S73728x1_0 main_v3
  let main_v6 : IVec S73728x8 32 := broadcastInDim S73728x8 ![0, 1] bcast_S1x8_S73728x8_0_1 main_v4
  let main_v7 : IVec S73728x8 32 := broadcastInDim S73728x8 ![0, 1] bcast_S73728x1_S73728x8_0_1 main_v5
  let main_v8 : IVec S73728x8 1 := cmpi .sle main_v6 main_v7
  let main_v9 : IVec S73728x1 32 := broadcastInDim S73728x1 ![0] bcast_S73728_S73728x1_0 main_v3
  let main_v10 : IVec S1x8 32 := broadcastInDim S1x8 ![1] bcast_S8_S1x8_1 main_v2
  let main_v11 : IVec S73728x8 32 := broadcastInDim S73728x8 ![0, 1] bcast_S73728x1_S73728x8_0_1 main_v9
  let main_v12 : IVec S73728x8 32 := broadcastInDim S73728x8 ![0, 1] bcast_S1x8_S73728x8_0_1 main_v10
  let main_v13 : IVec S73728x8 1 := cmpi .slt main_v11 main_v12
  let main_v14 : IVec S73728x8 1 := andi main_v8 main_v13
  let main_c : IVec S_ 1 := constantI S_ 1 0#1
  let main_v15 : IVec S73728 1 := (fun x v => Host.reduce IntOp.ori x v reducesTo_S73728x8_S73728_d1 h_S_) main_v14 main_c
  let main_c_0 : IVec S_ 32 := constantI S_ 32 0#32
  let main_v16 : IVec S73728 32 := broadcastInDim S73728 ![] bcast_S_S73728 main_c_0
  let main_c_1 : IVec S_ 32 := constantI S_ 32 0#32
  let main_v17 : IVec S32768 32 := broadcastInDim S32768 ![] bcast_S_S32768 main_c_1
  let main_v18 : IVec S32768 1 := cmpi .slt main_arg0 main_v17
  let main_c_2 : IVec S_ 32 := constantI S_ 32 73728#32
  let main_v19 : IVec S32768 32 := broadcastInDim S32768 ![] bcast_S_S32768 main_c_2
  fn_part1 (F := F) main_arg0 main_arg1 main_v15 main_v16 main_v18 main_v19
-- ==== Pre_rows_ok.lean ====
abbrev S32768 : Shape := ⟨1, ![32768]⟩
abbrev S73728x1024 : Shape := ⟨2, ![73728, 1024]⟩
abbrev S32768x1024 : Shape := ⟨2, ![32768, 1024]⟩
abbrev S32768x128 : Shape := ⟨2, ![32768, 128]⟩
abbrev S_ : Shape := ⟨0, ![]⟩

class Facts : Prop where
  bcast_S_S32768 : S_.BroadcastsInDim S32768 (![] : Fin 0 → Fin S32768.rank)
  reducesTo_S32768_S_d0 : S32768.ReducesTo [0] S_
  h_S_ : 0 < S_.numel

variable [Facts]

def fn {F : FTy → Type} [FloatOps F] (main_arg0 : IVec S32768 32) (main_arg1 : IVec S32768 32) (main_arg2 : FVec F S73728x1024 .f32) (main_arg3 : FVec F S32768x1024 .f32) (main_arg4 : FVec F S32768x128 .f32) : IVec S_ 1 :=
  let main_c : IVec S_ 32 := constantI S_ 32 0#32
  let main_v0 : IVec S32768 32 := broadcastInDim S32768 ![] bcast_S_S32768 main_c
  let main_v1 : IVec S32768 1 := cmpi .sge main_arg0 main_v0
  let main_c_0 : IVec S_ 32 := constantI S_ 32 73728#32
  let main_v2 : IVec S32768 32 := broadcastInDim S32768 ![] bcast_S_S32768 main_c_0
  let main_v3 : IVec S32768 1 := cmpi .slt main_arg0 main_v2
  let main_v4 : IVec S32768 1 := andi main_v1 main_v3
  let main_c_1 : IVec S_ 1 := constantI S_ 1 1#1
  let main_v5 : IVec S_ 1 := (fun x v => Host.reduce IntOp.andi x v reducesTo_S32768_S_d0 h_S_) main_v4 main_c_1
  let main_c_2 : IVec S_ 32 := constantI S_ 32 0#32
  let main_v6 : IVec S32768 32 := broadcastInDim S32768 ![] bcast_S_S32768 main_c_2
  let main_v7 : IVec S32768 1 := cmpi .sge main_arg1 main_v6
  let main_c_3 : IVec S_ 32 := constantI S_ 32 73728#32
  let main_v8 : IVec S32768 32 := broadcastInDim S32768 ![] bcast_S_S32768 main_c_3
  let main_v9 : IVec S32768 1 := cmpi .slt main_arg1 main_v8
  let main_v10 : IVec S32768 1 := andi main_v7 main_v9
  let main_c_4 : IVec S_ 1 := constantI S_ 1 1#1
  let main_v11 : IVec S_ 1 := (fun x v => Host.reduce IntOp.andi x v reducesTo_S32768_S_d0 h_S_) main_v10 main_c_4
  let main_v12 : IVec S_ 1 := andi main_v5 main_v11
  main_v12
-- ==== Pre_tables_ok.lean ====
abbrev S32768 : Shape := ⟨1, ![32768]⟩
abbrev S16 : Shape := ⟨1, ![16]⟩
abbrev S32768x1024 : Shape := ⟨2, ![32768, 1024]⟩
abbrev S65536 : Shape := ⟨1, ![65536]⟩
abbrev S8 : Shape := ⟨1, ![8]⟩
abbrev S_ : Shape := ⟨0, ![]⟩
abbrev S65535 : Shape := ⟨1, ![65535]⟩
abbrev S8x1 : Shape := ⟨2, ![8, 1]⟩
abbrev S1x8 : Shape := ⟨2, ![1, 8]⟩
abbrev S8x8 : Shape := ⟨2, ![8, 8]⟩
abbrev S65536x1 : Shape := ⟨2, ![65536, 1]⟩
abbrev S65536x8 : Shape := ⟨2, ![65536, 8]⟩

class Facts : Prop where
  concatenates_S32768_S32768_S65536_d0 : Shape.Concatenates [S32768, S32768] S65536 0
  slices_S16_S8_0 : S16.Slices ![0] S8
  slices_S16_S8_8 : S16.Slices ![8] S8
  bcast_S_S65536 : S_.BroadcastsInDim S65536 (![] : Fin 0 → Fin S65536.rank)
  reducesTo_S65536_S_d0 : S65536.ReducesTo [0] S_
  h_S_ : 0 < S_.numel
  slices_S65536_S65535_0 : S65536.Slices ![0] S65535
  slices_S65536_S65535_1 : S65536.Slices ![1] S65535
  reducesTo_S65535_S_d0 : S65535.ReducesTo [0] S_
  bcast_S_S8 : S_.BroadcastsInDim S8 (![] : Fin 0 → Fin S8.rank)
  reducesTo_S8_S_d0 : S8.ReducesTo [0] S_
  bcast_S8_S8x1_0 : S8.BroadcastsInDim S8x1 (![0] : Fin 1 → Fin S8x1.rank)
  bcast_S8_S1x8_1 : S8.BroadcastsInDim S1x8 (![1] : Fin 1 → Fin S1x8.rank)
  bcast_S8x1_S8x8_0_1 : S8x1.BroadcastsInDim S8x8 (![0, 1] : Fin 2 → Fin S8x8.rank)
  bcast_S1x8_S8x8_0_1 : S1x8.BroadcastsInDim S8x8 (![0, 1] : Fin 2 → Fin S8x8.rank)
  reducesTo_S8x8_S_d0_1 : S8x8.ReducesTo [0, 1] S_
  bcast_S65536_S65536x1_0 : S65536.BroadcastsInDim S65536x1 (![0] : Fin 1 → Fin S65536x1.rank)
  bcast_S65536x1_S65536x8_0_1 : S65536x1.BroadcastsInDim S65536x8 (![0, 1] : Fin 2 → Fin S65536x8.rank)
  bcast_S1x8_S65536x8_0_1 : S1x8.BroadcastsInDim S65536x8 (![0, 1] : Fin 2 → Fin S65536x8.rank)
  reducesTo_S65536x8_S_d0_1 : S65536x8.ReducesTo [0, 1] S_

variable [Facts]

def comparator_i32_d0 : BitVec 32 → BitVec 32 → BitVec 1 :=
  fun l r =>
    let v1 := IntOp.cmpi .slt l r
    v1
def fn_sort {F : FTy → Type} [FloatOps F] (arg0 : IVec S65536 32) : IVec S65536 32 :=
  let v0 : IVec S65536 32 := (fun x => Host.sort S65536 0 comparator_i32_d0 x) arg0
  v0

def fn_part3 {F : FTy → Type} [FloatOps F] (main_v11 : IVec S_ 1) (main_v15 : IVec S_ 1) (main_v30 : IVec S_ 1) (main_v48 : IVec S_ 1) (main_v59 : IVec S65536x8 1) (main_c_10 : IVec S_ 1) : IVec S_ 1 :=
  let main_v60 : IVec S_ 1 := (fun x v => Host.reduce IntOp.andi x v reducesTo_S65536x8_S_d0_1 h_S_) main_v59 main_c_10
  let main_v61 : IVec S_ 1 := andi main_v11 main_v15
  let main_v62 : IVec S_ 1 := andi main_v61 main_v30
  let main_v63 : IVec S_ 1 := andi main_v62 main_v48
  let main_v64 : IVec S_ 1 := andi main_v63 main_v60
  main_v64

def fn_part2 {F : FTy → Type} [FloatOps F] (main_v0 : IVec S65536 32) (main_v2 : IVec S8 32) (main_v4 : IVec S8 32) (main_v11 : IVec S_ 1) (main_v15 : IVec S_ 1) (main_v30 : IVec S_ 1) (main_v35 : IVec S8x8 1) (main_v36 : IVec S8x1 32) (main_v37 : IVec S1x8 32) : IVec S_ 1 :=
  let main_v38 : IVec S8x8 32 := broadcastInDim S8x8 ![0, 1] bcast_S8x1_S8x8_0_1 main_v36
  let main_v39 : IVec S8x8 32 := broadcastInDim S8x8 ![0, 1] bcast_S1x8_S8x8_0_1 main_v37
  let main_v40 : IVec S8x8 1 := cmpi .sle main_v38 main_v39
  let main_v41 : IVec S8x8 1 := ori main_v35 main_v40
  let main_v42 : IVec S1x8 32 := broadcastInDim S1x8 ![1] bcast_S8_S1x8_1 main_v4
  let main_v43 : IVec S8x1 32 := broadcastInDim S8x1 ![0] bcast_S8_S8x1_0 main_v2
  let main_v44 : IVec S8x8 32 := broadcastInDim S8x8 ![0, 1] bcast_S1x8_S8x8_0_1 main_v42
  let main_v45 : IVec S8x8 32 := broadcastInDim S8x8 ![0, 1] bcast_S8x1_S8x8_0_1 main_v43
  let main_v46 : IVec S8x8 1 := cmpi .sle main_v44 main_v45
  let main_v47 : IVec S8x8 1 := ori main_v41 main_v46
  let main_c_9 : IVec S_ 1 := constantI S_ 1 1#1
  let main_v48 : IVec S_ 1 := (fun x v => Host.reduce IntOp.andi x v reducesTo_S8x8_S_d0_1 h_S_) main_v47 main_c_9
  let main_v49 : IVec S65536x1 32 := broadcastInDim S65536x1 ![0] bcast_S65536_S65536x1_0 main_v0
  let main_v50 : IVec S1x8 32 := broadcastInDim S1x8 ![1] bcast_S8_S1x8_1 main_v2
  let main_v51 : IVec S65536x8 32 := broadcastInDim S65536x8 ![0, 1] bcast_S65536x1_S65536x8_0_1 main_v49
  let main_v52 : IVec S65536x8 32 := broadcastInDim S65536x8 ![0, 1] bcast_S1x8_S65536x8_0_1 main_v50
  let main_v53 : IVec S65536x8 1 := cmpi .slt main_v51 main_v52
  let main_v54 : IVec S1x8 32 := broadcastInDim S1x8 ![1] bcast_S8_S1x8_1 main_v4
  let main_v55 : IVec S65536x1 32 := broadcastInDim S65536x1 ![0] bcast_S65536_S65536x1_0 main_v0
  let main_v56 : IVec S65536x8 32 := broadcastInDim S65536x8 ![0, 1] bcast_S1x8_S65536x8_0_1 main_v54
  let main_v57 : IVec S65536x8 32 := broadcastInDim S65536x8 ![0, 1] bcast_S65536x1_S65536x8_0_1 main_v55
  let main_v58 : IVec S65536x8 1 := cmpi .sle main_v56 main_v57
  let main_v59 : IVec S65536x8 1 := ori main_v53 main_v58
  let main_c_10 : IVec S_ 1 := constantI S_ 1 1#1
  fn_part3 (F := F) main_v11 main_v15 main_v30 main_v48 main_v59 main_c_10

def fn_part1 {F : FTy → Type} [FloatOps F] (main_v0 : IVec S65536 32) (main_v2 : IVec S8 32) (main_v3 : IVec S8 32) (main_v4 : IVec S8 32) (main_v5 : IVec S8 32) (main_v11 : IVec S_ 1) (main_v15 : IVec S_ 1) (main_v17 : IVec S8 1) (main_c_4 : IVec S_ 32) : IVec S_ 1 :=
  let main_v18 : IVec S8 32 := broadcastInDim S8 ![] bcast_S_S8 main_c_4
  let main_v19 : IVec S8 1 := cmpi .sle main_v2 main_v18
  let main_v20 : IVec S8 1 := andi main_v17 main_v19
  let main_c_5 : IVec S_ 32 := constantI S_ 32 0#32
  let main_v21 : IVec S8 32 := broadcastInDim S8 ![] bcast_S_S8 main_c_5
  let main_v22 : IVec S8 1 := cmpi .sge main_v3 main_v21
  let main_v23 : IVec S8 1 := andi main_v20 main_v22
  let main_c_6 : IVec S_ 32 := constantI S_ 32 73728#32
  let main_v24 : IVec S8 32 := broadcastInDim S8 ![] bcast_S_S8 main_c_6
  let main_v25 : IVec S8 1 := cmpi .sle main_v3 main_v24
  let main_v26 : IVec S8 1 := andi main_v23 main_v25
  let main_c_7 : IVec S_ 32 := constantI S_ 32 73728#32
  let main_v27 : IVec S8 32 := broadcastInDim S8 ![] bcast_S_S8 main_c_7
  let main_v28 : IVec S8 1 := cmpi .sle main_v4 main_v27
  let main_v29 : IVec S8 1 := andi main_v26 main_v28
  let main_c_8 : IVec S_ 1 := constantI S_ 1 1#1
  let main_v30 : IVec S_ 1 := (fun x v => Host.reduce IntOp.andi x v reducesTo_S8_S_d0 h_S_) main_v29 main_c_8
  let main_v31 : IVec S8x1 32 := broadcastInDim S8x1 ![0] bcast_S8_S8x1_0 main_v5
  let main_v32 : IVec S1x8 32 := broadcastInDim S1x8 ![1] bcast_S8_S1x8_1 main_v5
  let main_v33 : IVec S8x8 32 := broadcastInDim S8x8 ![0, 1] bcast_S8x1_S8x8_0_1 main_v31
  let main_v34 : IVec S8x8 32 := broadcastInDim S8x8 ![0, 1] bcast_S1x8_S8x8_0_1 main_v32
  let main_v35 : IVec S8x8 1 := cmpi .eq main_v33 main_v34
  let main_v36 : IVec S8x1 32 := broadcastInDim S8x1 ![0] bcast_S8_S8x1_0 main_v4
  let main_v37 : IVec S1x8 32 := broadcastInDim S1x8 ![1] bcast_S8_S1x8_1 main_v2
  fn_part2 (F := F) main_v0 main_v2 main_v4 main_v11 main_v15 main_v30 main_v35 main_v36 main_v37

def fn {F : FTy → Type} [FloatOps F] (main_arg0 : IVec S32768 32) (main_arg1 : IVec S32768 32) (main_arg2 : IVec S16 32) (main_arg3 : FVec F S32768x1024 .f32) : IVec S_ 1 :=
  let main_v0 : IVec S65536 32 := (fun a b => concatenate S65536 0 [⟨S32768, a⟩, ⟨S32768, b⟩] concatenates_S32768_S32768_S65536_d0) main_arg0 main_arg1
  let main_v1 : IVec S65536 32 := fn_sort (F := F) main_v0
  let main_v2 : IVec S8 32 := (extractStridedSlice S8 ![0] · slices_S16_S8_0) main_arg2
  let main_v3 : IVec S8 32 := (extractStridedSlice S8 ![8] · slices_S16_S8_8) main_arg2
  let main_v4 : IVec S8 32 := addi main_v2 main_v3
  let main_v5 : IVec S8 32 := iotaInDim S8 32 0
  let main_c : IVec S_ 32 := constantI S_ 32 0#32
  let main_v6 : IVec S65536 32 := broadcastInDim S65536 ![] bcast_S_S65536 main_c
  let main_v7 : IVec S65536 1 := cmpi .sge main_v0 main_v6
  let main_c_0 : IVec S_ 32 := constantI S_ 32 73728#32
  let main_v8 : IVec S65536 32 := broadcastInDim S65536 ![] bcast_S_S65536 main_c_0
  let main_v9 : IVec S65536 1 := cmpi .slt main_v0 main_v8
  let main_v10 : IVec S65536 1 := andi main_v7 main_v9
  let main_c_1 : IVec S_ 1 := constantI S_ 1 1#1
  let main_v11 : IVec S_ 1 := (fun x v => Host.reduce IntOp.andi x v reducesTo_S65536_S_d0 h_S_) main_v10 main_c_1
  let main_v12 : IVec S65535 32 := (extractStridedSlice S65535 ![0] · slices_S65536_S65535_0) main_v1
  let main_v13 : IVec S65535 32 := (extractStridedSlice S65535 ![1] · slices_S65536_S65535_1) main_v1
  let main_v14 : IVec S65535 1 := cmpi .slt main_v12 main_v13
  let main_c_2 : IVec S_ 1 := constantI S_ 1 1#1
  let main_v15 : IVec S_ 1 := (fun x v => Host.reduce IntOp.andi x v reducesTo_S65535_S_d0 h_S_) main_v14 main_c_2
  let main_c_3 : IVec S_ 32 := constantI S_ 32 0#32
  let main_v16 : IVec S8 32 := broadcastInDim S8 ![] bcast_S_S8 main_c_3
  let main_v17 : IVec S8 1 := cmpi .sge main_v2 main_v16
  let main_c_4 : IVec S_ 32 := constantI S_ 32 73728#32
  fn_part1 (F := F) main_v0 main_v2 main_v3 main_v4 main_v5 main_v11 main_v15 main_v17 main_c_4
-- ==== Pre_tiles_ok.lean ====
abbrev S72 : Shape := ⟨1, ![72]⟩
abbrev S73728x1024 : Shape := ⟨2, ![73728, 1024]⟩
abbrev S8x1024x3584 : Shape := ⟨3, ![8, 1024, 3584]⟩
abbrev S8x3584x1024 : Shape := ⟨3, ![8, 3584, 1024]⟩
abbrev S_ : Shape := ⟨0, ![]⟩

class Facts : Prop where
  bcast_S_S72 : S_.BroadcastsInDim S72 (![] : Fin 0 → Fin S72.rank)
  reducesTo_S72_S_d0 : S72.ReducesTo [0] S_
  h_S_ : 0 < S_.numel

variable [Facts]

def fn {F : FTy → Type} [FloatOps F] (main_arg0 : IVec S72 32) (main_arg1 : IVec S72 32) (main_arg2 : FVec F S73728x1024 .f32) (main_arg3 : FVec F S8x1024x3584 .f32) (main_arg4 : FVec F S8x1024x3584 .f32) (main_arg5 : FVec F S8x3584x1024 .f32) : IVec S_ 1 :=
  let main_c : IVec S_ 32 := constantI S_ 32 0#32
  let main_v0 : IVec S72 32 := broadcastInDim S72 ![] bcast_S_S72 main_c
  let main_v1 : IVec S72 1 := cmpi .sge main_arg0 main_v0
  let main_c_0 : IVec S_ 32 := constantI S_ 32 8#32
  let main_v2 : IVec S72 32 := broadcastInDim S72 ![] bcast_S_S72 main_c_0
  let main_v3 : IVec S72 1 := cmpi .slt main_arg0 main_v2
  let main_v4 : IVec S72 1 := andi main_v1 main_v3
  let main_c_1 : IVec S_ 1 := constantI S_ 1 1#1
  let main_v5 : IVec S_ 1 := (fun x v => Host.reduce IntOp.andi x v reducesTo_S72_S_d0 h_S_) main_v4 main_c_1
  let main_c_2 : IVec S_ 32 := constantI S_ 32 0#32
  let main_v6 : IVec S72 32 := broadcastInDim S72 ![] bcast_S_S72 main_c_2
  let main_v7 : IVec S72 1 := cmpi .eq main_arg1 main_v6
  let main_c_3 : IVec S_ 32 := constantI S_ 32 1#32
  let main_v8 : IVec S72 32 := broadcastInDim S72 ![] bcast_S_S72 main_c_3
  let main_v9 : IVec S72 1 := cmpi .eq main_arg1 main_v8
  let main_v10 : IVec S72 1 := ori main_v7 main_v9
  let main_c_4 : IVec S_ 1 := constantI S_ 1 1#1
  let main_v11 : IVec S_ 1 := (fun x v => Host.reduce IntOp.andi x v reducesTo_S72_S_d0 h_S_) main_v10 main_c_4
  let main_v12 : IVec S_ 1 := andi main_v5 main_v11
  main_v12
-- ==== Kernel.lean ====
abbrev S32768 : Shape := ⟨1, ![32768]⟩
abbrev S16 : Shape := ⟨1, ![16]⟩
abbrev S32768x1024 : Shape := ⟨2, ![32768, 1024]⟩
abbrev S73728x1024 : Shape := ⟨2, ![73728, 1024]⟩
abbrev S3x512x1024 : Shape := ⟨3, ![3, 512, 1024]⟩
abbrev S8x1024 : Shape := ⟨2, ![8, 1024]⟩
abbrev S3 : Shape := ⟨1, ![3]⟩
abbrev S_ : Shape := ⟨0, ![]⟩
abbrev S1 : Shape := ⟨1, ![1]⟩
abbrev S1x512x1024 : Shape := ⟨3, ![1, 512, 1024]⟩
abbrev S512x1024 : Shape := ⟨2, ![512, 1024]⟩
abbrev S1x1024 : Shape := ⟨2, ![1, 1024]⟩
abbrev S1x1x1024 : Shape := ⟨3, ![1, 1, 1024]⟩

abbrev nBuf : Space → Nat
  | .hbm => 2
  | .vmem => 2
  | .smem => 3
  | _ => 0

abbrev bufTy : (tb : Table) → Fin (tcTables nBuf tb) → BufTy
  | .hbm, ⟨0, _⟩ => ⟨S32768x1024, .f32⟩
  | .hbm, ⟨1, _⟩ => ⟨S73728x1024, .f32⟩
  | .local _ .vmem, ⟨0, _⟩ => ⟨S3x512x1024, .f32⟩
  | .local _ .vmem, ⟨1, _⟩ => ⟨S8x1024, .f32⟩
  | .local _ .smem, ⟨0, _⟩ => ⟨S32768, .i32⟩
  | .local _ .smem, ⟨1, _⟩ => ⟨S32768, .i32⟩
  | .local _ .smem, ⟨2, _⟩ => ⟨S16, .i32⟩
  | _, _ => ⟨S32768x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg3 : Ref sig .tc := ⟨.hbm, 0, rfl⟩
abbrev main_v0 : Ref sig .tc := ⟨.hbm, 1, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev cc0_scratch0 : Ref sig .tc := ⟨.vmem, 0, rfl⟩
abbrev cc0_scratch1 : Ref sig .tc := ⟨.vmem, 1, rfl⟩

abbrev nD : Nat := 1
abbrev τ : Topo := Topo.v7x

variable {F : FTy → Type} [FloatOps F]

abbrev grid0 : Pipeline.Grid := ⟨1, ![1], ![false]⟩

abbrev pre0 : Pipeline.Prefetch sig := ⟨3, ![main_arg0.idx, main_arg1.idx, main_arg2.idx], fun | 0 => main_arg0.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

@[reducible] def k0_t1_loop (v9 : BitVec 32) : Scf.Loop 32 :=
  let c0_i32_6 : BitVec 32 := 0#32
  let v10 : BitVec 32 := Scalar.subi v9 c0_i32_6
  let c1_i32 : BitVec 32 := 1#32
  let v12 : BitVec 32 := Scalar.divsi v10 c1_i32
  let v13 : BitVec 32 := Scalar.muli v12 c1_i32
  let v14 : BitVec 32 := Scalar.addi c0_i32_6 v13
  let c1_i32_8 : BitVec 32 := 1#32
  ⟨c0_i32_6, v14, c1_i32_8⟩

def k0_off1 (v9 : BitVec 32) (k0_t1 : Fin (k0_t1_loop v9).trips) (v140 : BitVec 32) : Fin 2 → Nat :=
  let c0_i32_6 : BitVec 32 := 0#32
  let c1_i32_8 : BitVec 32 := 1#32
  let arg11 : BitVec 32 := Scf.iv c0_i32_6 c1_i32_8 k0_t1
  let v141 : BitVec 32 := Scalar.addi v140 arg11
  let c0_i32_105 : BitVec 32 := 0#32
  ![v141.toNat, 0]

def k0_chk2 (v9 : BitVec 32) (k0_t1 : Fin (k0_t1_loop v9).trips) (v140 : BitVec 32) : Prop :=
  (∀ a, (k0_off1 v9 k0_t1 v140) a + S1x1024.size a ≤ S73728x1024.size a)
theorem k0_off1_inb : ∀ (v9 : BitVec 32) (k0_t1 : Fin (k0_t1_loop v9).trips) (v140 : BitVec 32) (k0_hw2 : k0_chk2 v9 k0_t1 v140), ∀ a, (k0_off1 v9 k0_t1 v140) a + S1x1024.size a ≤ S73728x1024.size a := fun v9 k0_t1 v140 k0_hw2 => k0_hw2

@[reducible] def k0_t2_loop (v9 : BitVec 32) : Scf.Loop 32 :=
  let c0_i32_6 : BitVec 32 := 0#32
  let v10 : BitVec 32 := Scalar.subi v9 c0_i32_6
  let c1_i32 : BitVec 32 := 1#32
  let v12 : BitVec 32 := Scalar.divsi v10 c1_i32
  let v13 : BitVec 32 := Scalar.muli v12 c1_i32
  let v14 : BitVec 32 := Scalar.addi c0_i32_6 v13
  let v11 : BitVec 32 := Scalar.addi c0_i32_6 v10
  let c1_i32_9 : BitVec 32 := 1#32
  ⟨v14, v11, c1_i32_9⟩

def k0_chk1 (v9 : BitVec 32) : Prop :=
  ((k0_t1_loop v9).OK) ∧
  ((k0_t2_loop v9).OK)
theorem k0_t1_ok : ∀ (v9 : BitVec 32) (k0_hw1 : k0_chk1 v9), (k0_t1_loop v9).OK := fun v9 k0_hw1 => k0_hw1.1
theorem k0_t2_ok : ∀ (v9 : BitVec 32) (k0_hw1 : k0_chk1 v9), (k0_t2_loop v9).OK := fun v9 k0_hw1 => k0_hw1.2

def k0_off2 (v9 : BitVec 32) (k0_t2 : Fin (k0_t2_loop v9).trips) (v140 : BitVec 32) : Fin 2 → Nat :=
  let c0_i32_6 : BitVec 32 := 0#32
  let v10 : BitVec 32 := Scalar.subi v9 c0_i32_6
  let c1_i32 : BitVec 32 := 1#32
  let v12 : BitVec 32 := Scalar.divsi v10 c1_i32
  let v13 : BitVec 32 := Scalar.muli v12 c1_i32
  let v14 : BitVec 32 := Scalar.addi c0_i32_6 v13
  let c1_i32_9 : BitVec 32 := 1#32
  let arg11 : BitVec 32 := Scf.iv v14 c1_i32_9 k0_t2
  let v141 : BitVec 32 := Scalar.addi v140 arg11
  let c0_i32_105 : BitVec 32 := 0#32
  ![v141.toNat, 0]

def k0_chk3 (v9 : BitVec 32) (k0_t2 : Fin (k0_t2_loop v9).trips) (v140 : BitVec 32) : Prop :=
  (∀ a, (k0_off2 v9 k0_t2 v140) a + S1x1024.size a ≤ S73728x1024.size a)
theorem k0_off2_inb : ∀ (v9 : BitVec 32) (k0_t2 : Fin (k0_t2_loop v9).trips) (v140 : BitVec 32) (k0_hw3 : k0_chk3 v9 k0_t2 v140), ∀ a, (k0_off2 v9 k0_t2 v140) a + S1x1024.size a ≤ S73728x1024.size a := fun v9 k0_t2 v140 k0_hw3 => k0_hw3

@[reducible] def k0_t3_loop (v17 : BitVec 32) : Scf.Loop 32 :=
  let c0_i32_10 : BitVec 32 := 0#32
  let v18 : BitVec 32 := Scalar.subi v17 c0_i32_10
  let c1_i32_12 : BitVec 32 := 1#32
  let v20 : BitVec 32 := Scalar.divsi v18 c1_i32_12
  let v21 : BitVec 32 := Scalar.muli v20 c1_i32_12
  let v22 : BitVec 32 := Scalar.addi c0_i32_10 v21
  let c1_i32_13 : BitVec 32 := 1#32
  ⟨c0_i32_10, v22, c1_i32_13⟩

def k0_off3 (v17 : BitVec 32) (k0_t3 : Fin (k0_t3_loop v17).trips) (v140 : BitVec 32) : Fin 2 → Nat :=
  let c0_i32_10 : BitVec 32 := 0#32
  let c1_i32_13 : BitVec 32 := 1#32
  let arg11 : BitVec 32 := Scf.iv c0_i32_10 c1_i32_13 k0_t3
  let v141 : BitVec 32 := Scalar.addi v140 arg11
  let c0_i32_104 : BitVec 32 := 0#32
  ![v141.toNat, 0]

def k0_chk5 (v17 : BitVec 32) (k0_t3 : Fin (k0_t3_loop v17).trips) (v140 : BitVec 32) : Prop :=
  (∀ a, (k0_off3 v17 k0_t3 v140) a + S1x1024.size a ≤ S73728x1024.size a)
theorem k0_off3_inb : ∀ (v17 : BitVec 32) (k0_t3 : Fin (k0_t3_loop v17).trips) (v140 : BitVec 32) (k0_hw5 : k0_chk5 v17 k0_t3 v140), ∀ a, (k0_off3 v17 k0_t3 v140) a + S1x1024.size a ≤ S73728x1024.size a := fun v17 k0_t3 v140 k0_hw5 => k0_hw5

@[reducible] def k0_t4_loop (v17 : BitVec 32) : Scf.Loop 32 :=
  let c0_i32_10 : BitVec 32 := 0#32
  let v18 : BitVec 32 := Scalar.subi v17 c0_i32_10
  let c1_i32_12 : BitVec 32 := 1#32
  let v20 : BitVec 32 := Scalar.divsi v18 c1_i32_12
  let v21 : BitVec 32 := Scalar.muli v20 c1_i32_12
  let v22 : BitVec 32 := Scalar.addi c0_i32_10 v21
  let v19 : BitVec 32 := Scalar.addi c0_i32_10 v18
  let c1_i32_14 : BitVec 32 := 1#32
  ⟨v22, v19, c1_i32_14⟩

def k0_chk4 (v17 : BitVec 32) : Prop :=
  ((k0_t3_loop v17).OK) ∧
  ((k0_t4_loop v17).OK)
theorem k0_t3_ok : ∀ (v17 : BitVec 32) (k0_hw4 : k0_chk4 v17), (k0_t3_loop v17).OK := fun v17 k0_hw4 => k0_hw4.1
theorem k0_t4_ok : ∀ (v17 : BitVec 32) (k0_hw4 : k0_chk4 v17), (k0_t4_loop v17).OK := fun v17 k0_hw4 => k0_hw4.2

def k0_off4 (v17 : BitVec 32) (k0_t4 : Fin (k0_t4_loop v17).trips) (v140 : BitVec 32) : Fin 2 → Nat :=
  let c0_i32_10 : BitVec 32 := 0#32
  let v18 : BitVec 32 := Scalar.subi v17 c0_i32_10
  let c1_i32_12 : BitVec 32 := 1#32
  let v20 : BitVec 32 := Scalar.divsi v18 c1_i32_12
  let v21 : BitVec 32 := Scalar.muli v20 c1_i32_12
  let v22 : BitVec 32 := Scalar.addi c0_i32_10 v21
  let c1_i32_14 : BitVec 32 := 1#32
  let arg11 : BitVec 32 := Scf.iv v22 c1_i32_14 k0_t4
  let v141 : BitVec 32 := Scalar.addi v140 arg11
  let c0_i32_104 : BitVec 32 := 0#32
  ![v141.toNat, 0]

def k0_chk6 (v17 : BitVec 32) (k0_t4 : Fin (k0_t4_loop v17).trips) (v140 : BitVec 32) : Prop :=
  (∀ a, (k0_off4 v17 k0_t4 v140) a + S1x1024.size a ≤ S73728x1024.size a)
theorem k0_off4_inb : ∀ (v17 : BitVec 32) (k0_t4 : Fin (k0_t4_loop v17).trips) (v140 : BitVec 32) (k0_hw6 : k0_chk6 v17 k0_t4 v140), ∀ a, (k0_off4 v17 k0_t4 v140) a + S1x1024.size a ≤ S73728x1024.size a := fun v17 k0_t4 v140 k0_hw6 => k0_hw6

@[reducible] def k0_t5_loop (v25 : BitVec 32) : Scf.Loop 32 :=
  let c0_i32_15 : BitVec 32 := 0#32
  let v26 : BitVec 32 := Scalar.subi v25 c0_i32_15
  let c1_i32_17 : BitVec 32 := 1#32
  let v28 : BitVec 32 := Scalar.divsi v26 c1_i32_17
  let v29 : BitVec 32 := Scalar.muli v28 c1_i32_17
  let v30 : BitVec 32 := Scalar.addi c0_i32_15 v29
  let c1_i32_18 : BitVec 32 := 1#32
  ⟨c0_i32_15, v30, c1_i32_18⟩

def k0_off5 (v25 : BitVec 32) (k0_t5 : Fin (k0_t5_loop v25).trips) (v140 : BitVec 32) : Fin 2 → Nat :=
  let c0_i32_15 : BitVec 32 := 0#32
  let c1_i32_18 : BitVec 32 := 1#32
  let arg11 : BitVec 32 := Scf.iv c0_i32_15 c1_i32_18 k0_t5
  let v141 : BitVec 32 := Scalar.addi v140 arg11
  let c0_i32_104 : BitVec 32 := 0#32
  ![v141.toNat, 0]

def k0_chk8 (v25 : BitVec 32) (k0_t5 : Fin (k0_t5_loop v25).trips) (v140 : BitVec 32) : Prop :=
  (∀ a, (k0_off5 v25 k0_t5 v140) a + S1x1024.size a ≤ S73728x1024.size a)
theorem k0_off5_inb : ∀ (v25 : BitVec 32) (k0_t5 : Fin (k0_t5_loop v25).trips) (v140 : BitVec 32) (k0_hw8 : k0_chk8 v25 k0_t5 v140), ∀ a, (k0_off5 v25 k0_t5 v140) a + S1x1024.size a ≤ S73728x1024.size a := fun v25 k0_t5 v140 k0_hw8 => k0_hw8

@[reducible] def k0_t6_loop (v25 : BitVec 32) : Scf.Loop 32 :=
  let c0_i32_15 : BitVec 32 := 0#32
  let v26 : BitVec 32 := Scalar.subi v25 c0_i32_15
  let c1_i32_17 : BitVec 32 := 1#32
  let v28 : BitVec 32 := Scalar.divsi v26 c1_i32_17
  let v29 : BitVec 32 := Scalar.muli v28 c1_i32_17
  let v30 : BitVec 32 := Scalar.addi c0_i32_15 v29
  let v27 : BitVec 32 := Scalar.addi c0_i32_15 v26
  let c1_i32_19 : BitVec 32 := 1#32
  ⟨v30, v27, c1_i32_19⟩

def k0_chk7 (v25 : BitVec 32) : Prop :=
  ((k0_t5_loop v25).OK) ∧
  ((k0_t6_loop v25).OK)
theorem k0_t5_ok : ∀ (v25 : BitVec 32) (k0_hw7 : k0_chk7 v25), (k0_t5_loop v25).OK := fun v25 k0_hw7 => k0_hw7.1
theorem k0_t6_ok : ∀ (v25 : BitVec 32) (k0_hw7 : k0_chk7 v25), (k0_t6_loop v25).OK := fun v25 k0_hw7 => k0_hw7.2

def k0_off6 (v25 : BitVec 32) (k0_t6 : Fin (k0_t6_loop v25).trips) (v140 : BitVec 32) : Fin 2 → Nat :=
  let c0_i32_15 : BitVec 32 := 0#32
  let v26 : BitVec 32 := Scalar.subi v25 c0_i32_15
  let c1_i32_17 : BitVec 32 := 1#32
  let v28 : BitVec 32 := Scalar.divsi v26 c1_i32_17
  let v29 : BitVec 32 := Scalar.muli v28 c1_i32_17
  let v30 : BitVec 32 := Scalar.addi c0_i32_15 v29
  let c1_i32_19 : BitVec 32 := 1#32
  let arg11 : BitVec 32 := Scf.iv v30 c1_i32_19 k0_t6
  let v141 : BitVec 32 := Scalar.addi v140 arg11
  let c0_i32_104 : BitVec 32 := 0#32
  ![v141.toNat, 0]

def k0_chk9 (v25 : BitVec 32) (k0_t6 : Fin (k0_t6_loop v25).trips) (v140 : BitVec 32) : Prop :=
  (∀ a, (k0_off6 v25 k0_t6 v140) a + S1x1024.size a ≤ S73728x1024.size a)
theorem k0_off6_inb : ∀ (v25 : BitVec 32) (k0_t6 : Fin (k0_t6_loop v25).trips) (v140 : BitVec 32) (k0_hw9 : k0_chk9 v25 k0_t6 v140), ∀ a, (k0_off6 v25 k0_t6 v140) a + S1x1024.size a ≤ S73728x1024.size a := fun v25 k0_t6 v140 k0_hw9 => k0_hw9

@[reducible] def k0_t7_loop (v33 : BitVec 32) : Scf.Loop 32 :=
  let c0_i32_20 : BitVec 32 := 0#32
  let v34 : BitVec 32 := Scalar.subi v33 c0_i32_20
  let c1_i32_22 : BitVec 32 := 1#32
  let v36 : BitVec 32 := Scalar.divsi v34 c1_i32_22
  let v37 : BitVec 32 := Scalar.muli v36 c1_i32_22
  let v38 : BitVec 32 := Scalar.addi c0_i32_20 v37
  let c1_i32_23 : BitVec 32 := 1#32
  ⟨c0_i32_20, v38, c1_i32_23⟩

def k0_off7 (v33 : BitVec 32) (k0_t7 : Fin (k0_t7_loop v33).trips) (v140 : BitVec 32) : Fin 2 → Nat :=
  let c0_i32_20 : BitVec 32 := 0#32
  let c1_i32_23 : BitVec 32 := 1#32
  let arg11 : BitVec 32 := Scf.iv c0_i32_20 c1_i32_23 k0_t7
  let v141 : BitVec 32 := Scalar.addi v140 arg11
  let c0_i32_104 : BitVec 32 := 0#32
  ![v141.toNat, 0]

def k0_chk11 (v33 : BitVec 32) (k0_t7 : Fin (k0_t7_loop v33).trips) (v140 : BitVec 32) : Prop :=
  (∀ a, (k0_off7 v33 k0_t7 v140) a + S1x1024.size a ≤ S73728x1024.size a)
theorem k0_off7_inb : ∀ (v33 : BitVec 32) (k0_t7 : Fin (k0_t7_loop v33).trips) (v140 : BitVec 32) (k0_hw11 : k0_chk11 v33 k0_t7 v140), ∀ a, (k0_off7 v33 k0_t7 v140) a + S1x1024.size a ≤ S73728x1024.size a := fun v33 k0_t7 v140 k0_hw11 => k0_hw11

@[reducible] def k0_t8_loop (v33 : BitVec 32) : Scf.Loop 32 :=
  let c0_i32_20 : BitVec 32 := 0#32
  let v34 : BitVec 32 := Scalar.subi v33 c0_i32_20
  let c1_i32_22 : BitVec 32 := 1#32
  let v36 : BitVec 32 := Scalar.divsi v34 c1_i32_22
  let v37 : BitVec 32 := Scalar.muli v36 c1_i32_22
  let v38 : BitVec 32 := Scalar.addi c0_i32_20 v37
  let v35 : BitVec 32 := Scalar.addi c0_i32_20 v34
  let c1_i32_24 : BitVec 32 := 1#32
  ⟨v38, v35, c1_i32_24⟩

def k0_chk10 (v33 : BitVec 32) : Prop :=
  ((k0_t7_loop v33).OK) ∧
  ((k0_t8_loop v33).OK)
theorem k0_t7_ok : ∀ (v33 : BitVec 32) (k0_hw10 : k0_chk10 v33), (k0_t7_loop v33).OK := fun v33 k0_hw10 => k0_hw10.1
theorem k0_t8_ok : ∀ (v33 : BitVec 32) (k0_hw10 : k0_chk10 v33), (k0_t8_loop v33).OK := fun v33 k0_hw10 => k0_hw10.2

def k0_off8 (v33 : BitVec 32) (k0_t8 : Fin (k0_t8_loop v33).trips) (v140 : BitVec 32) : Fin 2 → Nat :=
  let c0_i32_20 : BitVec 32 := 0#32
  let v34 : BitVec 32 := Scalar.subi v33 c0_i32_20
  let c1_i32_22 : BitVec 32 := 1#32
  let v36 : BitVec 32 := Scalar.divsi v34 c1_i32_22
  let v37 : BitVec 32 := Scalar.muli v36 c1_i32_22
  let v38 : BitVec 32 := Scalar.addi c0_i32_20 v37
  let c1_i32_24 : BitVec 32 := 1#32
  let arg11 : BitVec 32 := Scf.iv v38 c1_i32_24 k0_t8
  let v141 : BitVec 32 := Scalar.addi v140 arg11
  let c0_i32_104 : BitVec 32 := 0#32
  ![v141.toNat, 0]

def k0_chk12 (v33 : BitVec 32) (k0_t8 : Fin (k0_t8_loop v33).trips) (v140 : BitVec 32) : Prop :=
  (∀ a, (k0_off8 v33 k0_t8 v140) a + S1x1024.size a ≤ S73728x1024.size a)
theorem k0_off8_inb : ∀ (v33 : BitVec 32) (k0_t8 : Fin (k0_t8_loop v33).trips) (v140 : BitVec 32) (k0_hw12 : k0_chk12 v33 k0_t8 v140), ∀ a, (k0_off8 v33 k0_t8 v140) a + S1x1024.size a ≤ S73728x1024.size a := fun v33 k0_t8 v140 k0_hw12 => k0_hw12

@[reducible] def k0_t9_loop (v41 : BitVec 32) : Scf.Loop 32 :=
  let c0_i32_25 : BitVec 32 := 0#32
  let v42 : BitVec 32 := Scalar.subi v41 c0_i32_25
  let c1_i32_27 : BitVec 32 := 1#32
  let v44 : BitVec 32 := Scalar.divsi v42 c1_i32_27
  let v45 : BitVec 32 := Scalar.muli v44 c1_i32_27
  let v46 : BitVec 32 := Scalar.addi c0_i32_25 v45
  let c1_i32_28 : BitVec 32 := 1#32
  ⟨c0_i32_25, v46, c1_i32_28⟩

def k0_off9 (v41 : BitVec 32) (k0_t9 : Fin (k0_t9_loop v41).trips) (v140 : BitVec 32) : Fin 2 → Nat :=
  let c0_i32_25 : BitVec 32 := 0#32
  let c1_i32_28 : BitVec 32 := 1#32
  let arg11 : BitVec 32 := Scf.iv c0_i32_25 c1_i32_28 k0_t9
  let v141 : BitVec 32 := Scalar.addi v140 arg11
  let c0_i32_104 : BitVec 32 := 0#32
  ![v141.toNat, 0]

def k0_chk14 (v41 : BitVec 32) (k0_t9 : Fin (k0_t9_loop v41).trips) (v140 : BitVec 32) : Prop :=
  (∀ a, (k0_off9 v41 k0_t9 v140) a + S1x1024.size a ≤ S73728x1024.size a)
theorem k0_off9_inb : ∀ (v41 : BitVec 32) (k0_t9 : Fin (k0_t9_loop v41).trips) (v140 : BitVec 32) (k0_hw14 : k0_chk14 v41 k0_t9 v140), ∀ a, (k0_off9 v41 k0_t9 v140) a + S1x1024.size a ≤ S73728x1024.size a := fun v41 k0_t9 v140 k0_hw14 => k0_hw14

@[reducible] def k0_t10_loop (v41 : BitVec 32) : Scf.Loop 32 :=
  let c0_i32_25 : BitVec 32 := 0#32
  let v42 : BitVec 32 := Scalar.subi v41 c0_i32_25
  let c1_i32_27 : BitVec 32 := 1#32
  let v44 : BitVec 32 := Scalar.divsi v42 c1_i32_27
  let v45 : BitVec 32 := Scalar.muli v44 c1_i32_27
  let v46 : BitVec 32 := Scalar.addi c0_i32_25 v45
  let v43 : BitVec 32 := Scalar.addi c0_i32_25 v42
  let c1_i32_29 : BitVec 32 := 1#32
  ⟨v46, v43, c1_i32_29⟩

def k0_chk13 (v41 : BitVec 32) : Prop :=
  ((k0_t9_loop v41).OK) ∧
  ((k0_t10_loop v41).OK)
theorem k0_t9_ok : ∀ (v41 : BitVec 32) (k0_hw13 : k0_chk13 v41), (k0_t9_loop v41).OK := fun v41 k0_hw13 => k0_hw13.1
theorem k0_t10_ok : ∀ (v41 : BitVec 32) (k0_hw13 : k0_chk13 v41), (k0_t10_loop v41).OK := fun v41 k0_hw13 => k0_hw13.2

def k0_off10 (v41 : BitVec 32) (k0_t10 : Fin (k0_t10_loop v41).trips) (v140 : BitVec 32) : Fin 2 → Nat :=
  let c0_i32_25 : BitVec 32 := 0#32
  let v42 : BitVec 32 := Scalar.subi v41 c0_i32_25
  let c1_i32_27 : BitVec 32 := 1#32
  let v44 : BitVec 32 := Scalar.divsi v42 c1_i32_27
  let v45 : BitVec 32 := Scalar.muli v44 c1_i32_27
  let v46 : BitVec 32 := Scalar.addi c0_i32_25 v45
  let c1_i32_29 : BitVec 32 := 1#32
  let arg11 : BitVec 32 := Scf.iv v46 c1_i32_29 k0_t10
  let v141 : BitVec 32 := Scalar.addi v140 arg11
  let c0_i32_104 : BitVec 32 := 0#32
  ![v141.toNat, 0]

def k0_chk15 (v41 : BitVec 32) (k0_t10 : Fin (k0_t10_loop v41).trips) (v140 : BitVec 32) : Prop :=
  (∀ a, (k0_off10 v41 k0_t10 v140) a + S1x1024.size a ≤ S73728x1024.size a)
theorem k0_off10_inb : ∀ (v41 : BitVec 32) (k0_t10 : Fin (k0_t10_loop v41).trips) (v140 : BitVec 32) (k0_hw15 : k0_chk15 v41 k0_t10 v140), ∀ a, (k0_off10 v41 k0_t10 v140) a + S1x1024.size a ≤ S73728x1024.size a := fun v41 k0_t10 v140 k0_hw15 => k0_hw15

@[reducible] def k0_t11_loop (v49 : BitVec 32) : Scf.Loop 32 :=
  let c0_i32_30 : BitVec 32 := 0#32
  let v50 : BitVec 32 := Scalar.subi v49 c0_i32_30
  let c1_i32_32 : BitVec 32 := 1#32
  let v52 : BitVec 32 := Scalar.divsi v50 c1_i32_32
  let v53 : BitVec 32 := Scalar.muli v52 c1_i32_32
  let v54 : BitVec 32 := Scalar.addi c0_i32_30 v53
  let c1_i32_33 : BitVec 32 := 1#32
  ⟨c0_i32_30, v54, c1_i32_33⟩

def k0_off11 (v49 : BitVec 32) (k0_t11 : Fin (k0_t11_loop v49).trips) (v140 : BitVec 32) : Fin 2 → Nat :=
  let c0_i32_30 : BitVec 32 := 0#32
  let c1_i32_33 : BitVec 32 := 1#32
  let arg11 : BitVec 32 := Scf.iv c0_i32_30 c1_i32_33 k0_t11
  let v141 : BitVec 32 := Scalar.addi v140 arg11
  let c0_i32_104 : BitVec 32 := 0#32
  ![v141.toNat, 0]

def k0_chk17 (v49 : BitVec 32) (k0_t11 : Fin (k0_t11_loop v49).trips) (v140 : BitVec 32) : Prop :=
  (∀ a, (k0_off11 v49 k0_t11 v140) a + S1x1024.size a ≤ S73728x1024.size a)
theorem k0_off11_inb : ∀ (v49 : BitVec 32) (k0_t11 : Fin (k0_t11_loop v49).trips) (v140 : BitVec 32) (k0_hw17 : k0_chk17 v49 k0_t11 v140), ∀ a, (k0_off11 v49 k0_t11 v140) a + S1x1024.size a ≤ S73728x1024.size a := fun v49 k0_t11 v140 k0_hw17 => k0_hw17

@[reducible] def k0_t12_loop (v49 : BitVec 32) : Scf.Loop 32 :=
  let c0_i32_30 : BitVec 32 := 0#32
  let v50 : BitVec 32 := Scalar.subi v49 c0_i32_30
  let c1_i32_32 : BitVec 32 := 1#32
  let v52 : BitVec 32 := Scalar.divsi v50 c1_i32_32
  let v53 : BitVec 32 := Scalar.muli v52 c1_i32_32
  let v54 : BitVec 32 := Scalar.addi c0_i32_30 v53
  let v51 : BitVec 32 := Scalar.addi c0_i32_30 v50
  let c1_i32_34 : BitVec 32 := 1#32
  ⟨v54, v51, c1_i32_34⟩

def k0_chk16 (v49 : BitVec 32) : Prop :=
  ((k0_t11_loop v49).OK) ∧
  ((k0_t12_loop v49).OK)
theorem k0_t11_ok : ∀ (v49 : BitVec 32) (k0_hw16 : k0_chk16 v49), (k0_t11_loop v49).OK := fun v49 k0_hw16 => k0_hw16.1
theorem k0_t12_ok : ∀ (v49 : BitVec 32) (k0_hw16 : k0_chk16 v49), (k0_t12_loop v49).OK := fun v49 k0_hw16 => k0_hw16.2

def k0_off12 (v49 : BitVec 32) (k0_t12 : Fin (k0_t12_loop v49).trips) (v140 : BitVec 32) : Fin 2 → Nat :=
  let c0_i32_30 : BitVec 32 := 0#32
  let v50 : BitVec 32 := Scalar.subi v49 c0_i32_30
  let c1_i32_32 : BitVec 32 := 1#32
  let v52 : BitVec 32 := Scalar.divsi v50 c1_i32_32
  let v53 : BitVec 32 := Scalar.muli v52 c1_i32_32
  let v54 : BitVec 32 := Scalar.addi c0_i32_30 v53
  let c1_i32_34 : BitVec 32 := 1#32
  let arg11 : BitVec 32 := Scf.iv v54 c1_i32_34 k0_t12
  let v141 : BitVec 32 := Scalar.addi v140 arg11
  let c0_i32_104 : BitVec 32 := 0#32
  ![v141.toNat, 0]

def k0_chk18 (v49 : BitVec 32) (k0_t12 : Fin (k0_t12_loop v49).trips) (v140 : BitVec 32) : Prop :=
  (∀ a, (k0_off12 v49 k0_t12 v140) a + S1x1024.size a ≤ S73728x1024.size a)
theorem k0_off12_inb : ∀ (v49 : BitVec 32) (k0_t12 : Fin (k0_t12_loop v49).trips) (v140 : BitVec 32) (k0_hw18 : k0_chk18 v49 k0_t12 v140), ∀ a, (k0_off12 v49 k0_t12 v140) a + S1x1024.size a ≤ S73728x1024.size a := fun v49 k0_t12 v140 k0_hw18 => k0_hw18

@[reducible] def k0_t13_loop (v57 : BitVec 32) : Scf.Loop 32 :=
  let c0_i32_35 : BitVec 32 := 0#32
  let v58 : BitVec 32 := Scalar.subi v57 c0_i32_35
  let c1_i32_37 : BitVec 32 := 1#32
  let v60 : BitVec 32 := Scalar.divsi v58 c1_i32_37
  let v61 : BitVec 32 := Scalar.muli v60 c1_i32_37
  let v62 : BitVec 32 := Scalar.addi c0_i32_35 v61
  let c1_i32_38 : BitVec 32 := 1#32
  ⟨c0_i32_35, v62, c1_i32_38⟩

def k0_off13 (v57 : BitVec 32) (k0_t13 : Fin (k0_t13_loop v57).trips) (v140 : BitVec 32) : Fin 2 → Nat :=
  let c0_i32_35 : BitVec 32 := 0#32
  let c1_i32_38 : BitVec 32 := 1#32
  let arg11 : BitVec 32 := Scf.iv c0_i32_35 c1_i32_38 k0_t13
  let v141 : BitVec 32 := Scalar.addi v140 arg11
  let c0_i32_104 : BitVec 32 := 0#32
  ![v141.toNat, 0]

def k0_chk20 (v57 : BitVec 32) (k0_t13 : Fin (k0_t13_loop v57).trips) (v140 : BitVec 32) : Prop :=
  (∀ a, (k0_off13 v57 k0_t13 v140) a + S1x1024.size a ≤ S73728x1024.size a)
theorem k0_off13_inb : ∀ (v57 : BitVec 32) (k0_t13 : Fin (k0_t13_loop v57).trips) (v140 : BitVec 32) (k0_hw20 : k0_chk20 v57 k0_t13 v140), ∀ a, (k0_off13 v57 k0_t13 v140) a + S1x1024.size a ≤ S73728x1024.size a := fun v57 k0_t13 v140 k0_hw20 => k0_hw20

@[reducible] def k0_t14_loop (v57 : BitVec 32) : Scf.Loop 32 :=
  let c0_i32_35 : BitVec 32 := 0#32
  let v58 : BitVec 32 := Scalar.subi v57 c0_i32_35
  let c1_i32_37 : BitVec 32 := 1#32
  let v60 : BitVec 32 := Scalar.divsi v58 c1_i32_37
  let v61 : BitVec 32 := Scalar.muli v60 c1_i32_37
  let v62 : BitVec 32 := Scalar.addi c0_i32_35 v61
  let v59 : BitVec 32 := Scalar.addi c0_i32_35 v58
  let c1_i32_39 : BitVec 32 := 1#32
  ⟨v62, v59, c1_i32_39⟩

def k0_chk19 (v57 : BitVec 32) : Prop :=
  ((k0_t13_loop v57).OK) ∧
  ((k0_t14_loop v57).OK)
theorem k0_t13_ok : ∀ (v57 : BitVec 32) (k0_hw19 : k0_chk19 v57), (k0_t13_loop v57).OK := fun v57 k0_hw19 => k0_hw19.1
theorem k0_t14_ok : ∀ (v57 : BitVec 32) (k0_hw19 : k0_chk19 v57), (k0_t14_loop v57).OK := fun v57 k0_hw19 => k0_hw19.2

def k0_off14 (v57 : BitVec 32) (k0_t14 : Fin (k0_t14_loop v57).trips) (v140 : BitVec 32) : Fin 2 → Nat :=
  let c0_i32_35 : BitVec 32 := 0#32
  let v58 : BitVec 32 := Scalar.subi v57 c0_i32_35
  let c1_i32_37 : BitVec 32 := 1#32
  let v60 : BitVec 32 := Scalar.divsi v58 c1_i32_37
  let v61 : BitVec 32 := Scalar.muli v60 c1_i32_37
  let v62 : BitVec 32 := Scalar.addi c0_i32_35 v61
  let c1_i32_39 : BitVec 32 := 1#32
  let arg11 : BitVec 32 := Scf.iv v62 c1_i32_39 k0_t14
  let v141 : BitVec 32 := Scalar.addi v140 arg11
  let c0_i32_104 : BitVec 32 := 0#32
  ![v141.toNat, 0]

def k0_chk21 (v57 : BitVec 32) (k0_t14 : Fin (k0_t14_loop v57).trips) (v140 : BitVec 32) : Prop :=
  (∀ a, (k0_off14 v57 k0_t14 v140) a + S1x1024.size a ≤ S73728x1024.size a)
theorem k0_off14_inb : ∀ (v57 : BitVec 32) (k0_t14 : Fin (k0_t14_loop v57).trips) (v140 : BitVec 32) (k0_hw21 : k0_chk21 v57 k0_t14 v140), ∀ a, (k0_off14 v57 k0_t14 v140) a + S1x1024.size a ≤ S73728x1024.size a := fun v57 k0_t14 v140 k0_hw21 => k0_hw21

@[reducible] def k0_t15_loop (v65 : BitVec 32) : Scf.Loop 32 :=
  let c0_i32_40 : BitVec 32 := 0#32
  let v66 : BitVec 32 := Scalar.subi v65 c0_i32_40
  let c1_i32_42 : BitVec 32 := 1#32
  let v68 : BitVec 32 := Scalar.divsi v66 c1_i32_42
  let v69 : BitVec 32 := Scalar.muli v68 c1_i32_42
  let v70 : BitVec 32 := Scalar.addi c0_i32_40 v69
  let c1_i32_43 : BitVec 32 := 1#32
  ⟨c0_i32_40, v70, c1_i32_43⟩

def k0_off15 (v65 : BitVec 32) (k0_t15 : Fin (k0_t15_loop v65).trips) (v140 : BitVec 32) : Fin 2 → Nat :=
  let c0_i32_40 : BitVec 32 := 0#32
  let c1_i32_43 : BitVec 32 := 1#32
  let arg11 : BitVec 32 := Scf.iv c0_i32_40 c1_i32_43 k0_t15
  let v141 : BitVec 32 := Scalar.addi v140 arg11
  let c0_i32_104 : BitVec 32 := 0#32
  ![v141.toNat, 0]

def k0_chk23 (v65 : BitVec 32) (k0_t15 : Fin (k0_t15_loop v65).trips) (v140 : BitVec 32) : Prop :=
  (∀ a, (k0_off15 v65 k0_t15 v140) a + S1x1024.size a ≤ S73728x1024.size a)
theorem k0_off15_inb : ∀ (v65 : BitVec 32) (k0_t15 : Fin (k0_t15_loop v65).trips) (v140 : BitVec 32) (k0_hw23 : k0_chk23 v65 k0_t15 v140), ∀ a, (k0_off15 v65 k0_t15 v140) a + S1x1024.size a ≤ S73728x1024.size a := fun v65 k0_t15 v140 k0_hw23 => k0_hw23

@[reducible] def k0_t16_loop (v65 : BitVec 32) : Scf.Loop 32 :=
  let c0_i32_40 : BitVec 32 := 0#32
  let v66 : BitVec 32 := Scalar.subi v65 c0_i32_40
  let c1_i32_42 : BitVec 32 := 1#32
  let v68 : BitVec 32 := Scalar.divsi v66 c1_i32_42
  let v69 : BitVec 32 := Scalar.muli v68 c1_i32_42
  let v70 : BitVec 32 := Scalar.addi c0_i32_40 v69
  let v67 : BitVec 32 := Scalar.addi c0_i32_40 v66
  let c1_i32_44 : BitVec 32 := 1#32
  ⟨v70, v67, c1_i32_44⟩

def k0_chk22 (v65 : BitVec 32) : Prop :=
  ((k0_t15_loop v65).OK) ∧
  ((k0_t16_loop v65).OK)
theorem k0_t15_ok : ∀ (v65 : BitVec 32) (k0_hw22 : k0_chk22 v65), (k0_t15_loop v65).OK := fun v65 k0_hw22 => k0_hw22.1
theorem k0_t16_ok : ∀ (v65 : BitVec 32) (k0_hw22 : k0_chk22 v65), (k0_t16_loop v65).OK := fun v65 k0_hw22 => k0_hw22.2

def k0_off16 (v65 : BitVec 32) (k0_t16 : Fin (k0_t16_loop v65).trips) (v140 : BitVec 32) : Fin 2 → Nat :=
  let c0_i32_40 : BitVec 32 := 0#32
  let v66 : BitVec 32 := Scalar.subi v65 c0_i32_40
  let c1_i32_42 : BitVec 32 := 1#32
  let v68 : BitVec 32 := Scalar.divsi v66 c1_i32_42
  let v69 : BitVec 32 := Scalar.muli v68 c1_i32_42
  let v70 : BitVec 32 := Scalar.addi c0_i32_40 v69
  let c1_i32_44 : BitVec 32 := 1#32
  let arg11 : BitVec 32 := Scf.iv v70 c1_i32_44 k0_t16
  let v141 : BitVec 32 := Scalar.addi v140 arg11
  let c0_i32_104 : BitVec 32 := 0#32
  ![v141.toNat, 0]

def k0_chk24 (v65 : BitVec 32) (k0_t16 : Fin (k0_t16_loop v65).trips) (v140 : BitVec 32) : Prop :=
  (∀ a, (k0_off16 v65 k0_t16 v140) a + S1x1024.size a ≤ S73728x1024.size a)
theorem k0_off16_inb : ∀ (v65 : BitVec 32) (k0_t16 : Fin (k0_t16_loop v65).trips) (v140 : BitVec 32) (k0_hw24 : k0_chk24 v65 k0_t16 v140), ∀ a, (k0_off16 v65 k0_t16 v140) a + S1x1024.size a ≤ S73728x1024.size a := fun v65 k0_t16 v140 k0_hw24 => k0_hw24

@[reducible] def k0_t17_loop (v73 : BitVec 32) : Scf.Loop 32 :=
  let c0_i32_46 : BitVec 32 := 0#32
  let v74 : BitVec 32 := Scalar.subi v73 c0_i32_46
  let c1_i32_48 : BitVec 32 := 1#32
  let v76 : BitVec 32 := Scalar.divsi v74 c1_i32_48
  let v77 : BitVec 32 := Scalar.muli v76 c1_i32_48
  let v78 : BitVec 32 := Scalar.addi c0_i32_46 v77
  let c1_i32_49 : BitVec 32 := 1#32
  ⟨c0_i32_46, v78, c1_i32_49⟩

@[reducible] def k0_t18_loop (v73 : BitVec 32) : Scf.Loop 32 :=
  let c0_i32_46 : BitVec 32 := 0#32
  let v74 : BitVec 32 := Scalar.subi v73 c0_i32_46
  let c1_i32_48 : BitVec 32 := 1#32
  let v76 : BitVec 32 := Scalar.divsi v74 c1_i32_48
  let v77 : BitVec 32 := Scalar.muli v76 c1_i32_48
  let v78 : BitVec 32 := Scalar.addi c0_i32_46 v77
  let v75 : BitVec 32 := Scalar.addi c0_i32_46 v74
  let c1_i32_50 : BitVec 32 := 1#32
  ⟨v78, v75, c1_i32_50⟩

def k0_chk25 (v73 : BitVec 32) : Prop :=
  ((k0_t17_loop v73).OK) ∧
  ((k0_t18_loop v73).OK)
theorem k0_t17_ok : ∀ (v73 : BitVec 32) (k0_hw25 : k0_chk25 v73), (k0_t17_loop v73).OK := fun v73 k0_hw25 => k0_hw25.1
theorem k0_t18_ok : ∀ (v73 : BitVec 32) (k0_hw25 : k0_chk25 v73), (k0_t18_loop v73).OK := fun v73 k0_hw25 => k0_hw25.2

@[reducible] def k0_t19_loop (v81 : BitVec 32) : Scf.Loop 32 :=
  let c0_i32_52 : BitVec 32 := 0#32
  let v82 : BitVec 32 := Scalar.subi v81 c0_i32_52
  let c1_i32_54 : BitVec 32 := 1#32
  let v84 : BitVec 32 := Scalar.divsi v82 c1_i32_54
  let v85 : BitVec 32 := Scalar.muli v84 c1_i32_54
  let v86 : BitVec 32 := Scalar.addi c0_i32_52 v85
  let c1_i32_55 : BitVec 32 := 1#32
  ⟨c0_i32_52, v86, c1_i32_55⟩

@[reducible] def k0_t20_loop (v81 : BitVec 32) : Scf.Loop 32 :=
  let c0_i32_52 : BitVec 32 := 0#32
  let v82 : BitVec 32 := Scalar.subi v81 c0_i32_52
  let c1_i32_54 : BitVec 32 := 1#32
  let v84 : BitVec 32 := Scalar.divsi v82 c1_i32_54
  let v85 : BitVec 32 := Scalar.muli v84 c1_i32_54
  let v86 : BitVec 32 := Scalar.addi c0_i32_52 v85
  let v83 : BitVec 32 := Scalar.addi c0_i32_52 v82
  let c1_i32_56 : BitVec 32 := 1#32
  ⟨v86, v83, c1_i32_56⟩

def k0_chk26 (v81 : BitVec 32) : Prop :=
  ((k0_t19_loop v81).OK) ∧
  ((k0_t20_loop v81).OK)
theorem k0_t19_ok : ∀ (v81 : BitVec 32) (k0_hw26 : k0_chk26 v81), (k0_t19_loop v81).OK := fun v81 k0_hw26 => k0_hw26.1
theorem k0_t20_ok : ∀ (v81 : BitVec 32) (k0_hw26 : k0_chk26 v81), (k0_t20_loop v81).OK := fun v81 k0_hw26 => k0_hw26.2

@[reducible] def k0_t21_loop (v89 : BitVec 32) : Scf.Loop 32 :=
  let c0_i32_58 : BitVec 32 := 0#32
  let v90 : BitVec 32 := Scalar.subi v89 c0_i32_58
  let c1_i32_60 : BitVec 32 := 1#32
  let v92 : BitVec 32 := Scalar.divsi v90 c1_i32_60
  let v93 : BitVec 32 := Scalar.muli v92 c1_i32_60
  let v94 : BitVec 32 := Scalar.addi c0_i32_58 v93
  let c1_i32_61 : BitVec 32 := 1#32
  ⟨c0_i32_58, v94, c1_i32_61⟩

@[reducible] def k0_t22_loop (v89 : BitVec 32) : Scf.Loop 32 :=
  let c0_i32_58 : BitVec 32 := 0#32
  let v90 : BitVec 32 := Scalar.subi v89 c0_i32_58
  let c1_i32_60 : BitVec 32 := 1#32
  let v92 : BitVec 32 := Scalar.divsi v90 c1_i32_60
  let v93 : BitVec 32 := Scalar.muli v92 c1_i32_60
  let v94 : BitVec 32 := Scalar.addi c0_i32_58 v93
  let v91 : BitVec 32 := Scalar.addi c0_i32_58 v90
  let c1_i32_62 : BitVec 32 := 1#32
  ⟨v94, v91, c1_i32_62⟩

def k0_chk27 (v89 : BitVec 32) : Prop :=
  ((k0_t21_loop v89).OK) ∧
  ((k0_t22_loop v89).OK)
theorem k0_t21_ok : ∀ (v89 : BitVec 32) (k0_hw27 : k0_chk27 v89), (k0_t21_loop v89).OK := fun v89 k0_hw27 => k0_hw27.1
theorem k0_t22_ok : ∀ (v89 : BitVec 32) (k0_hw27 : k0_chk27 v89), (k0_t22_loop v89).OK := fun v89 k0_hw27 => k0_hw27.2

@[reducible] def k0_t23_loop (v97 : BitVec 32) : Scf.Loop 32 :=
  let c0_i32_64 : BitVec 32 := 0#32
  let v98 : BitVec 32 := Scalar.subi v97 c0_i32_64
  let c1_i32_66 : BitVec 32 := 1#32
  let v100 : BitVec 32 := Scalar.divsi v98 c1_i32_66
  let v101 : BitVec 32 := Scalar.muli v100 c1_i32_66
  let v102 : BitVec 32 := Scalar.addi c0_i32_64 v101
  let c1_i32_67 : BitVec 32 := 1#32
  ⟨c0_i32_64, v102, c1_i32_67⟩

@[reducible] def k0_t24_loop (v97 : BitVec 32) : Scf.Loop 32 :=
  let c0_i32_64 : BitVec 32 := 0#32
  let v98 : BitVec 32 := Scalar.subi v97 c0_i32_64
  let c1_i32_66 : BitVec 32 := 1#32
  let v100 : BitVec 32 := Scalar.divsi v98 c1_i32_66
  let v101 : BitVec 32 := Scalar.muli v100 c1_i32_66
  let v102 : BitVec 32 := Scalar.addi c0_i32_64 v101
  let v99 : BitVec 32 := Scalar.addi c0_i32_64 v98
  let c1_i32_68 : BitVec 32 := 1#32
  ⟨v102, v99, c1_i32_68⟩

def k0_chk28 (v97 : BitVec 32) : Prop :=
  ((k0_t23_loop v97).OK) ∧
  ((k0_t24_loop v97).OK)
theorem k0_t23_ok : ∀ (v97 : BitVec 32) (k0_hw28 : k0_chk28 v97), (k0_t23_loop v97).OK := fun v97 k0_hw28 => k0_hw28.1
theorem k0_t24_ok : ∀ (v97 : BitVec 32) (k0_hw28 : k0_chk28 v97), (k0_t24_loop v97).OK := fun v97 k0_hw28 => k0_hw28.2

@[reducible] def k0_t25_loop (v105 : BitVec 32) : Scf.Loop 32 :=
  let c0_i32_70 : BitVec 32 := 0#32
  let v106 : BitVec 32 := Scalar.subi v105 c0_i32_70
  let c1_i32_72 : BitVec 32 := 1#32
  let v108 : BitVec 32 := Scalar.divsi v106 c1_i32_72
  let v109 : BitVec 32 := Scalar.muli v108 c1_i32_72
  let v110 : BitVec 32 := Scalar.addi c0_i32_70 v109
  let c1_i32_73 : BitVec 32 := 1#32
  ⟨c0_i32_70, v110, c1_i32_73⟩

@[reducible] def k0_t26_loop (v105 : BitVec 32) : Scf.Loop 32 :=
  let c0_i32_70 : BitVec 32 := 0#32
  let v106 : BitVec 32 := Scalar.subi v105 c0_i32_70
  let c1_i32_72 : BitVec 32 := 1#32
  let v108 : BitVec 32 := Scalar.divsi v106 c1_i32_72
  let v109 : BitVec 32 := Scalar.muli v108 c1_i32_72
  let v110 : BitVec 32 := Scalar.addi c0_i32_70 v109
  let v107 : BitVec 32 := Scalar.addi c0_i32_70 v106
  let c1_i32_74 : BitVec 32 := 1#32
  ⟨v110, v107, c1_i32_74⟩

def k0_chk29 (v105 : BitVec 32) : Prop :=
  ((k0_t25_loop v105).OK) ∧
  ((k0_t26_loop v105).OK)
theorem k0_t25_ok : ∀ (v105 : BitVec 32) (k0_hw29 : k0_chk29 v105), (k0_t25_loop v105).OK := fun v105 k0_hw29 => k0_hw29.1
theorem k0_t26_ok : ∀ (v105 : BitVec 32) (k0_hw29 : k0_chk29 v105), (k0_t26_loop v105).OK := fun v105 k0_hw29 => k0_hw29.2

@[reducible] def k0_t27_loop (v113 : BitVec 32) : Scf.Loop 32 :=
  let c0_i32_76 : BitVec 32 := 0#32
  let v114 : BitVec 32 := Scalar.subi v113 c0_i32_76
  let c1_i32_78 : BitVec 32 := 1#32
  let v116 : BitVec 32 := Scalar.divsi v114 c1_i32_78
  let v117 : BitVec 32 := Scalar.muli v116 c1_i32_78
  let v118 : BitVec 32 := Scalar.addi c0_i32_76 v117
  let c1_i32_79 : BitVec 32 := 1#32
  ⟨c0_i32_76, v118, c1_i32_79⟩

@[reducible] def k0_t28_loop (v113 : BitVec 32) : Scf.Loop 32 :=
  let c0_i32_76 : BitVec 32 := 0#32
  let v114 : BitVec 32 := Scalar.subi v113 c0_i32_76
  let c1_i32_78 : BitVec 32 := 1#32
  let v116 : BitVec 32 := Scalar.divsi v114 c1_i32_78
  let v117 : BitVec 32 := Scalar.muli v116 c1_i32_78
  let v118 : BitVec 32 := Scalar.addi c0_i32_76 v117
  let v115 : BitVec 32 := Scalar.addi c0_i32_76 v114
  let c1_i32_80 : BitVec 32 := 1#32
  ⟨v118, v115, c1_i32_80⟩

def k0_chk30 (v113 : BitVec 32) : Prop :=
  ((k0_t27_loop v113).OK) ∧
  ((k0_t28_loop v113).OK)
theorem k0_t27_ok : ∀ (v113 : BitVec 32) (k0_hw30 : k0_chk30 v113), (k0_t27_loop v113).OK := fun v113 k0_hw30 => k0_hw30.1
theorem k0_t28_ok : ∀ (v113 : BitVec 32) (k0_hw30 : k0_chk30 v113), (k0_t28_loop v113).OK := fun v113 k0_hw30 => k0_hw30.2

@[reducible] def k0_t29_loop (v121 : BitVec 32) : Scf.Loop 32 :=
  let c0_i32_82 : BitVec 32 := 0#32
  let v122 : BitVec 32 := Scalar.subi v121 c0_i32_82
  let c1_i32_84 : BitVec 32 := 1#32
  let v124 : BitVec 32 := Scalar.divsi v122 c1_i32_84
  let v125 : BitVec 32 := Scalar.muli v124 c1_i32_84
  let v126 : BitVec 32 := Scalar.addi c0_i32_82 v125
  let c1_i32_85 : BitVec 32 := 1#32
  ⟨c0_i32_82, v126, c1_i32_85⟩

@[reducible] def k0_t30_loop (v121 : BitVec 32) : Scf.Loop 32 :=
  let c0_i32_82 : BitVec 32 := 0#32
  let v122 : BitVec 32 := Scalar.subi v121 c0_i32_82
  let c1_i32_84 : BitVec 32 := 1#32
  let v124 : BitVec 32 := Scalar.divsi v122 c1_i32_84
  let v125 : BitVec 32 := Scalar.muli v124 c1_i32_84
  let v126 : BitVec 32 := Scalar.addi c0_i32_82 v125
  let v123 : BitVec 32 := Scalar.addi c0_i32_82 v122
  let c1_i32_86 : BitVec 32 := 1#32
  ⟨v126, v123, c1_i32_86⟩

def k0_chk31 (v121 : BitVec 32) : Prop :=
  ((k0_t29_loop v121).OK) ∧
  ((k0_t30_loop v121).OK)
theorem k0_t29_ok : ∀ (v121 : BitVec 32) (k0_hw31 : k0_chk31 v121), (k0_t29_loop v121).OK := fun v121 k0_hw31 => k0_hw31.1
theorem k0_t30_ok : ∀ (v121 : BitVec 32) (k0_hw31 : k0_chk31 v121), (k0_t30_loop v121).OK := fun v121 k0_hw31 => k0_hw31.2

@[reducible] def k0_t31_loop (v129 : BitVec 32) : Scf.Loop 32 :=
  let c0_i32_88 : BitVec 32 := 0#32
  let v130 : BitVec 32 := Scalar.subi v129 c0_i32_88
  let c1_i32_90 : BitVec 32 := 1#32
  let v132 : BitVec 32 := Scalar.divsi v130 c1_i32_90
  let v133 : BitVec 32 := Scalar.muli v132 c1_i32_90
  let v134 : BitVec 32 := Scalar.addi c0_i32_88 v133
  let c1_i32_91 : BitVec 32 := 1#32
  ⟨c0_i32_88, v134, c1_i32_91⟩

@[reducible] def k0_t32_loop (v129 : BitVec 32) : Scf.Loop 32 :=
  let c0_i32_88 : BitVec 32 := 0#32
  let v130 : BitVec 32 := Scalar.subi v129 c0_i32_88
  let c1_i32_90 : BitVec 32 := 1#32
  let v132 : BitVec 32 := Scalar.divsi v130 c1_i32_90
  let v133 : BitVec 32 := Scalar.muli v132 c1_i32_90
  let v134 : BitVec 32 := Scalar.addi c0_i32_88 v133
  let v131 : BitVec 32 := Scalar.addi c0_i32_88 v130
  let c1_i32_92 : BitVec 32 := 1#32
  ⟨v134, v131, c1_i32_92⟩

def k0_chk32 (v129 : BitVec 32) : Prop :=
  ((k0_t31_loop v129).OK) ∧
  ((k0_t32_loop v129).OK)
theorem k0_t31_ok : ∀ (v129 : BitVec 32) (k0_hw32 : k0_chk32 v129), (k0_t31_loop v129).OK := fun v129 k0_hw32 => k0_hw32.1
theorem k0_t32_ok : ∀ (v129 : BitVec 32) (k0_hw32 : k0_chk32 v129), (k0_t32_loop v129).OK := fun v129 k0_hw32 => k0_hw32.2

@[reducible] def k0_t33_loop : Scf.Loop 32 :=
  let c0_i32_93 : BitVec 32 := 0#32
  let c64_i32 : BitVec 32 := 64#32
  let v137 : BitVec 32 := Scalar.addi c0_i32_93 c64_i32
  let c1_i32_94 : BitVec 32 := 1#32
  ⟨c0_i32_93, v137, c1_i32_94⟩
def k0_off17 (k0_t33 : Fin k0_t33_loop.trips) : Fin 1 → Nat :=
  let c0_i32_93 : BitVec 32 := 0#32
  let c1_i32_94 : BitVec 32 := 1#32
  let arg11 : BitVec 32 := Scf.iv c0_i32_93 c1_i32_94 k0_t33
  let c3_i32 : BitVec 32 := 3#32
  let v140 : BitVec 32 := Scalar.remsi arg11 c3_i32
  ![v140.toNat]
def k0_off18 (k0_t33 : Fin k0_t33_loop.trips) : Fin 3 → Nat :=
  let c0_i32_93 : BitVec 32 := 0#32
  let c1_i32_94 : BitVec 32 := 1#32
  let arg11 : BitVec 32 := Scf.iv c0_i32_93 c1_i32_94 k0_t33
  let c3_i32 : BitVec 32 := 3#32
  let v140 : BitVec 32 := Scalar.remsi arg11 c3_i32
  let c0_i32_104 : BitVec 32 := 0#32
  let c0_i32_105 : BitVec 32 := 0#32
  ![v140.toNat, 0, 0]
def k0_off19 (k0_t33 : Fin k0_t33_loop.trips) : Fin 2 → Nat :=
  let c0_i32_93 : BitVec 32 := 0#32
  let c1_i32_94 : BitVec 32 := 1#32
  let arg11 : BitVec 32 := Scf.iv c0_i32_93 c1_i32_94 k0_t33
  let c512_i32 : BitVec 32 := 512#32
  let v141 : BitVec 32 := Scalar.muli arg11 c512_i32
  let c0_i32_106 : BitVec 32 := 0#32
  ![v141.toNat, 0]
def k0_cond1 (k0_t33 : Fin k0_t33_loop.trips) : BitVec 1 :=
  let c0_i32_93 : BitVec 32 := 0#32
  let c1_i32_94 : BitVec 32 := 1#32
  let arg11 : BitVec 32 := Scf.iv c0_i32_93 c1_i32_94 k0_t33
  let c2_i32_107 : BitVec 32 := 2#32
  let v147 : BitVec 1 := Scalar.cmpi .sge arg11 c2_i32_107
  let v148 : BitVec 32 := Scalar.extui v147
  let c0_i32_108 : BitVec 32 := 0#32
  let v149 : BitVec 1 := Scalar.cmpi .ne v148 c0_i32_108
  v149

@[reducible] def k0_t34_loop : Scf.Loop 32 :=
  let c0_i32_119 : BitVec 32 := 0#32
  let c1024_i32_120 : BitVec 32 := 1024#32
  let v157 : BitVec 32 := Scalar.addi c0_i32_119 c1024_i32_120
  let c1_i32_121 : BitVec 32 := 1#32
  ⟨c0_i32_119, v157, c1_i32_121⟩
def k0_off20 (k0_t33 : Fin k0_t33_loop.trips) : Fin 1 → Nat :=
  let c0_i32_93 : BitVec 32 := 0#32
  let c1_i32_94 : BitVec 32 := 1#32
  let arg11 : BitVec 32 := Scf.iv c0_i32_93 c1_i32_94 k0_t33
  let c2_i32_116 : BitVec 32 := 2#32
  let v155 : BitVec 32 := Scalar.subi arg11 c2_i32_116
  let c3_i32_117 : BitVec 32 := 3#32
  let v156 : BitVec 32 := Scalar.remsi v155 c3_i32_117
  ![v156.toNat]
def k0_cond2 (k0_t33 : Fin k0_t33_loop.trips) : BitVec 1 :=
  let c0_i32_93 : BitVec 32 := 0#32
  let c1_i32_94 : BitVec 32 := 1#32
  let arg11 : BitVec 32 := Scf.iv c0_i32_93 c1_i32_94 k0_t33
  let c1_i32_109 : BitVec 32 := 1#32
  let v150 : BitVec 32 := Scalar.addi arg11 c1_i32_109
  let c64_i32_110 : BitVec 32 := 64#32
  let v151 : BitVec 1 := Scalar.cmpi .slt v150 c64_i32_110
  let v152 : BitVec 32 := Scalar.extui v151
  let c0_i32_111 : BitVec 32 := 0#32
  let v153 : BitVec 1 := Scalar.cmpi .ne v152 c0_i32_111
  v153

def k0_off21 (k0_t33 : Fin k0_t33_loop.trips) : Fin 1 → Nat :=
  let c0_i32_93 : BitVec 32 := 0#32
  let c1_i32_94 : BitVec 32 := 1#32
  let arg11 : BitVec 32 := Scf.iv c0_i32_93 c1_i32_94 k0_t33
  let c1_i32_117 : BitVec 32 := 1#32
  let v156 : BitVec 32 := Scalar.addi arg11 c1_i32_117
  let c3_i32_118 : BitVec 32 := 3#32
  let v157 : BitVec 32 := Scalar.remsi v156 c3_i32_118
  ![v157.toNat]
def k0_off22 (k0_t33 : Fin k0_t33_loop.trips) : Fin 3 → Nat :=
  let c0_i32_93 : BitVec 32 := 0#32
  let c1_i32_94 : BitVec 32 := 1#32
  let arg11 : BitVec 32 := Scf.iv c0_i32_93 c1_i32_94 k0_t33
  let c1_i32_117 : BitVec 32 := 1#32
  let v156 : BitVec 32 := Scalar.addi arg11 c1_i32_117
  let c3_i32_118 : BitVec 32 := 3#32
  let v157 : BitVec 32 := Scalar.remsi v156 c3_i32_118
  let c0_i32_120 : BitVec 32 := 0#32
  let c0_i32_121 : BitVec 32 := 0#32
  ![v157.toNat, 0, 0]
def k0_off23 (k0_t33 : Fin k0_t33_loop.trips) : Fin 2 → Nat :=
  let c0_i32_93 : BitVec 32 := 0#32
  let c1_i32_94 : BitVec 32 := 1#32
  let arg11 : BitVec 32 := Scf.iv c0_i32_93 c1_i32_94 k0_t33
  let c1_i32_116 : BitVec 32 := 1#32
  let v155 : BitVec 32 := Scalar.addi arg11 c1_i32_116
  let c512_i32_119 : BitVec 32 := 512#32
  let v158 : BitVec 32 := Scalar.muli v155 c512_i32_119
  let c0_i32_122 : BitVec 32 := 0#32
  ![v158.toNat, 0]
@[reducible] def k0_t35_loop : Scf.Loop 32 :=
  let c0_i32_112 : BitVec 32 := 0#32
  let c64_i32_113 : BitVec 32 := 64#32
  let v154 : BitVec 32 := Scalar.addi c0_i32_112 c64_i32_113
  let c1_i32_114 : BitVec 32 := 1#32
  ⟨c0_i32_112, v154, c1_i32_114⟩
def k0_off24 (k0_t33 : Fin k0_t33_loop.trips) (k0_t35 : Fin k0_t35_loop.trips) : Fin 1 → Nat :=
  let c0_i32_93 : BitVec 32 := 0#32
  let c1_i32_94 : BitVec 32 := 1#32
  let arg11 : BitVec 32 := Scf.iv c0_i32_93 c1_i32_94 k0_t33
  let c512_i32_117 : BitVec 32 := 512#32
  let v157 : BitVec 32 := Scalar.muli arg11 c512_i32_117
  let c0_i32_112 : BitVec 32 := 0#32
  let c1_i32_114 : BitVec 32 := 1#32
  let arg12 : BitVec 32 := Scf.iv c0_i32_112 c1_i32_114 k0_t35
  let c8_i32 : BitVec 32 := 8#32
  let v155 : BitVec 32 := Scalar.muli arg12 c8_i32
  let c0_i32_116 : BitVec 32 := 0#32
  let v156 : BitVec 32 := Scalar.addi v155 c0_i32_116
  let v158 : BitVec 32 := Scalar.addi v157 v156
  let v159 : Index := Scalar.indexCast v158
  ![v159.toNat]
def k0_off25 (k0_t33 : Fin k0_t33_loop.trips) : Fin 1 → Nat :=
  let c0_i32_93 : BitVec 32 := 0#32
  let c1_i32_94 : BitVec 32 := 1#32
  let arg11 : BitVec 32 := Scf.iv c0_i32_93 c1_i32_94 k0_t33
  let c3_i32 : BitVec 32 := 3#32
  let v140 : BitVec 32 := Scalar.remsi arg11 c3_i32
  ![v140.toNat]
def k0_off26 (v160 : BitVec 32) : Fin 2 → Nat :=
  let c0_i32_118 : BitVec 32 := 0#32
  ![v160.toNat, 0]

def k0_chk33 (v160 : BitVec 32) : Prop :=
  (∀ a, (k0_off26 v160) a + S1x1024.size a ≤ S73728x1024.size a)
theorem k0_off26_inb : ∀ (v160 : BitVec 32) (k0_hw33 : k0_chk33 v160), ∀ a, (k0_off26 v160) a + S1x1024.size a ≤ S73728x1024.size a := fun v160 k0_hw33 => k0_hw33

def k0_off27 (k0_t33 : Fin k0_t33_loop.trips) (k0_t35 : Fin k0_t35_loop.trips) : Fin 3 → Nat :=
  let c0_i32_93 : BitVec 32 := 0#32
  let c1_i32_94 : BitVec 32 := 1#32
  let arg11 : BitVec 32 := Scf.iv c0_i32_93 c1_i32_94 k0_t33
  let c3_i32 : BitVec 32 := 3#32
  let v140 : BitVec 32 := Scalar.remsi arg11 c3_i32
  let c0_i32_112 : BitVec 32 := 0#32
  let c1_i32_114 : BitVec 32 := 1#32
  let arg12 : BitVec 32 := Scf.iv c0_i32_112 c1_i32_114 k0_t35
  let c8_i32 : BitVec 32 := 8#32
  let v155 : BitVec 32 := Scalar.muli arg12 c8_i32
  let c0_i32_116 : BitVec 32 := 0#32
  let v156 : BitVec 32 := Scalar.addi v155 c0_i32_116
  let c0_i32_119 : BitVec 32 := 0#32
  ![v140.toNat, v156.toNat, 0]
def k0_off28 (k0_t33 : Fin k0_t33_loop.trips) (k0_t35 : Fin k0_t35_loop.trips) : Fin 1 → Nat :=
  let c0_i32_93 : BitVec 32 := 0#32
  let c1_i32_94 : BitVec 32 := 1#32
  let arg11 : BitVec 32 := Scf.iv c0_i32_93 c1_i32_94 k0_t33
  let c512_i32_117 : BitVec 32 := 512#32
  let v157 : BitVec 32 := Scalar.muli arg11 c512_i32_117
  let c0_i32_112 : BitVec 32 := 0#32
  let c1_i32_114 : BitVec 32 := 1#32
  let arg12 : BitVec 32 := Scf.iv c0_i32_112 c1_i32_114 k0_t35
  let c8_i32 : BitVec 32 := 8#32
  let v155 : BitVec 32 := Scalar.muli arg12 c8_i32
  let c0_i32_116 : BitVec 32 := 0#32
  let v156 : BitVec 32 := Scalar.addi v155 c0_i32_116
  let v158 : BitVec 32 := Scalar.addi v157 v156
  let v166 : Index := Scalar.indexCast v158
  ![v166.toNat]
def k0_off29 (k0_t33 : Fin k0_t33_loop.trips) : Fin 1 → Nat :=
  let c0_i32_93 : BitVec 32 := 0#32
  let c1_i32_94 : BitVec 32 := 1#32
  let arg11 : BitVec 32 := Scf.iv c0_i32_93 c1_i32_94 k0_t33
  let c3_i32 : BitVec 32 := 3#32
  let v140 : BitVec 32 := Scalar.remsi arg11 c3_i32
  ![v140.toNat]
def k0_off30 (v167 : BitVec 32) : Fin 2 → Nat :=
  let c0_i32_120 : BitVec 32 := 0#32
  ![v167.toNat, 0]

def k0_chk34 (v167 : BitVec 32) : Prop :=
  (∀ a, (k0_off30 v167) a + S1x1024.size a ≤ S73728x1024.size a)
theorem k0_off30_inb : ∀ (v167 : BitVec 32) (k0_hw34 : k0_chk34 v167), ∀ a, (k0_off30 v167) a + S1x1024.size a ≤ S73728x1024.size a := fun v167 k0_hw34 => k0_hw34

def k0_off31 (k0_t33 : Fin k0_t33_loop.trips) (k0_t35 : Fin k0_t35_loop.trips) : Fin 3 → Nat :=
  let c0_i32_93 : BitVec 32 := 0#32
  let c1_i32_94 : BitVec 32 := 1#32
  let arg11 : BitVec 32 := Scf.iv c0_i32_93 c1_i32_94 k0_t33
  let c3_i32 : BitVec 32 := 3#32
  let v140 : BitVec 32 := Scalar.remsi arg11 c3_i32
  let c0_i32_112 : BitVec 32 := 0#32
  let c1_i32_114 : BitVec 32 := 1#32
  let arg12 : BitVec 32 := Scf.iv c0_i32_112 c1_i32_114 k0_t35
  let c8_i32 : BitVec 32 := 8#32
  let v155 : BitVec 32 := Scalar.muli arg12 c8_i32
  let c0_i32_116 : BitVec 32 := 0#32
  let v156 : BitVec 32 := Scalar.addi v155 c0_i32_116
  let c0_i32_121 : BitVec 32 := 0#32
  ![v140.toNat, v156.toNat, 0]
def k0_off32 (k0_t33 : Fin k0_t33_loop.trips) (k0_t35 : Fin k0_t35_loop.trips) : Fin 1 → Nat :=
  let c0_i32_93 : BitVec 32 := 0#32
  let c1_i32_94 : BitVec 32 := 1#32
  let arg11 : BitVec 32 := Scf.iv c0_i32_93 c1_i32_94 k0_t33
  let c512_i32_124 : BitVec 32 := 512#32
  let v175 : BitVec 32 := Scalar.muli arg11 c512_i32_124
  let c0_i32_112 : BitVec 32 := 0#32
  let c1_i32_114 : BitVec 32 := 1#32
  let arg12 : BitVec 32 := Scf.iv c0_i32_112 c1_i32_114 k0_t35
  let c8_i32_122 : BitVec 32 := 8#32
  let v173 : BitVec 32 := Scalar.muli arg12 c8_i32_122
  let c1_i32_123 : BitVec 32 := 1#32
  let v174 : BitVec 32 := Scalar.addi v173 c1_i32_123
  let v176 : BitVec 32 := Scalar.addi v175 v174
  let v177 : Index := Scalar.indexCast v176
  ![v177.toNat]
def k0_off33 (k0_t33 : Fin k0_t33_loop.trips) : Fin 1 → Nat :=
  let c0_i32_93 : BitVec 32 := 0#32
  let c1_i32_94 : BitVec 32 := 1#32
  let arg11 : BitVec 32 := Scf.iv c0_i32_93 c1_i32_94 k0_t33
  let c3_i32 : BitVec 32 := 3#32
  let v140 : BitVec 32 := Scalar.remsi arg11 c3_i32
  ![v140.toNat]
def k0_off34 (v178 : BitVec 32) : Fin 2 → Nat :=
  let c0_i32_125 : BitVec 32 := 0#32
  ![v178.toNat, 0]

def k0_chk35 (v178 : BitVec 32) : Prop :=
  (∀ a, (k0_off34 v178) a + S1x1024.size a ≤ S73728x1024.size a)
theorem k0_off34_inb : ∀ (v178 : BitVec 32) (k0_hw35 : k0_chk35 v178), ∀ a, (k0_off34 v178) a + S1x1024.size a ≤ S73728x1024.size a := fun v178 k0_hw35 => k0_hw35

def k0_off35 (k0_t33 : Fin k0_t33_loop.trips) (k0_t35 : Fin k0_t35_loop.trips) : Fin 3 → Nat :=
  let c0_i32_93 : BitVec 32 := 0#32
  let c1_i32_94 : BitVec 32 := 1#32
  let arg11 : BitVec 32 := Scf.iv c0_i32_93 c1_i32_94 k0_t33
  let c3_i32 : BitVec 32 := 3#32
  let v140 : BitVec 32 := Scalar.remsi arg11 c3_i32
  let c0_i32_112 : BitVec 32 := 0#32
  let c1_i32_114 : BitVec 32 := 1#32
  let arg12 : BitVec 32 := Scf.iv c0_i32_112 c1_i32_114 k0_t35
  let c8_i32_122 : BitVec 32 := 8#32
  let v173 : BitVec 32 := Scalar.muli arg12 c8_i32_122
  let c1_i32_123 : BitVec 32 := 1#32
  let v174 : BitVec 32 := Scalar.addi v173 c1_i32_123
  let c0_i32_126 : BitVec 32 := 0#32
  ![v140.toNat, v174.toNat, 0]
def k0_off36 (k0_t33 : Fin k0_t33_loop.trips) (k0_t35 : Fin k0_t35_loop.trips) : Fin 1 → Nat :=
  let c0_i32_93 : BitVec 32 := 0#32
  let c1_i32_94 : BitVec 32 := 1#32
  let arg11 : BitVec 32 := Scf.iv c0_i32_93 c1_i32_94 k0_t33
  let c512_i32_124 : BitVec 32 := 512#32
  let v175 : BitVec 32 := Scalar.muli arg11 c512_i32_124
  let c0_i32_112 : BitVec 32 := 0#32
  let c1_i32_114 : BitVec 32 := 1#32
  let arg12 : BitVec 32 := Scf.iv c0_i32_112 c1_i32_114 k0_t35
  let c8_i32_122 : BitVec 32 := 8#32
  let v173 : BitVec 32 := Scalar.muli arg12 c8_i32_122
  let c1_i32_123 : BitVec 32 := 1#32
  let v174 : BitVec 32 := Scalar.addi v173 c1_i32_123
  let v176 : BitVec 32 := Scalar.addi v175 v174
  let v184 : Index := Scalar.indexCast v176
  ![v184.toNat]
def k0_off37 (k0_t33 : Fin k0_t33_loop.trips) : Fin 1 → Nat :=
  let c0_i32_93 : BitVec 32 := 0#32
  let c1_i32_94 : BitVec 32 := 1#32
  let arg11 : BitVec 32 := Scf.iv c0_i32_93 c1_i32_94 k0_t33
  let c3_i32 : BitVec 32 := 3#32
  let v140 : BitVec 32 := Scalar.remsi arg11 c3_i32
  ![v140.toNat]
def k0_off38 (v185 : BitVec 32) : Fin 2 → Nat :=
  let c0_i32_127 : BitVec 32 := 0#32
  ![v185.toNat, 0]

def k0_chk36 (v185 : BitVec 32) : Prop :=
  (∀ a, (k0_off38 v185) a + S1x1024.size a ≤ S73728x1024.size a)
theorem k0_off38_inb : ∀ (v185 : BitVec 32) (k0_hw36 : k0_chk36 v185), ∀ a, (k0_off38 v185) a + S1x1024.size a ≤ S73728x1024.size a := fun v185 k0_hw36 => k0_hw36

def k0_off39 (k0_t33 : Fin k0_t33_loop.trips) (k0_t35 : Fin k0_t35_loop.trips) : Fin 3 → Nat :=
  let c0_i32_93 : BitVec 32 := 0#32
  let c1_i32_94 : BitVec 32 := 1#32
  let arg11 : BitVec 32 := Scf.iv c0_i32_93 c1_i32_94 k0_t33
  let c3_i32 : BitVec 32 := 3#32
  let v140 : BitVec 32 := Scalar.remsi arg11 c3_i32
  let c0_i32_112 : BitVec 32 := 0#32
  let c1_i32_114 : BitVec 32 := 1#32
  let arg12 : BitVec 32 := Scf.iv c0_i32_112 c1_i32_114 k0_t35
  let c8_i32_122 : BitVec 32 := 8#32
  let v173 : BitVec 32 := Scalar.muli arg12 c8_i32_122
  let c1_i32_123 : BitVec 32 := 1#32
  let v174 : BitVec 32 := Scalar.addi v173 c1_i32_123
  let c0_i32_128 : BitVec 32 := 0#32
  ![v140.toNat, v174.toNat, 0]
def k0_off40 (k0_t33 : Fin k0_t33_loop.trips) (k0_t35 : Fin k0_t35_loop.trips) : Fin 1 → Nat :=
  let c0_i32_93 : BitVec 32 := 0#32
  let c1_i32_94 : BitVec 32 := 1#32
  let arg11 : BitVec 32 := Scf.iv c0_i32_93 c1_i32_94 k0_t33
  let c512_i32_131 : BitVec 32 := 512#32
  let v193 : BitVec 32 := Scalar.muli arg11 c512_i32_131
  let c0_i32_112 : BitVec 32 := 0#32
  let c1_i32_114 : BitVec 32 := 1#32
  let arg12 : BitVec 32 := Scf.iv c0_i32_112 c1_i32_114 k0_t35
  let c8_i32_129 : BitVec 32 := 8#32
  let v191 : BitVec 32 := Scalar.muli arg12 c8_i32_129
  let c2_i32_130 : BitVec 32 := 2#32
  let v192 : BitVec 32 := Scalar.addi v191 c2_i32_130
  let v194 : BitVec 32 := Scalar.addi v193 v192
  let v195 : Index := Scalar.indexCast v194
  ![v195.toNat]
def k0_off41 (k0_t33 : Fin k0_t33_loop.trips) : Fin 1 → Nat :=
  let c0_i32_93 : BitVec 32 := 0#32
  let c1_i32_94 : BitVec 32 := 1#32
  let arg11 : BitVec 32 := Scf.iv c0_i32_93 c1_i32_94 k0_t33
  let c3_i32 : BitVec 32 := 3#32
  let v140 : BitVec 32 := Scalar.remsi arg11 c3_i32
  ![v140.toNat]
def k0_off42 (v196 : BitVec 32) : Fin 2 → Nat :=
  let c0_i32_132 : BitVec 32 := 0#32
  ![v196.toNat, 0]

def k0_chk37 (v196 : BitVec 32) : Prop :=
  (∀ a, (k0_off42 v196) a + S1x1024.size a ≤ S73728x1024.size a)
theorem k0_off42_inb : ∀ (v196 : BitVec 32) (k0_hw37 : k0_chk37 v196), ∀ a, (k0_off42 v196) a + S1x1024.size a ≤ S73728x1024.size a := fun v196 k0_hw37 => k0_hw37

def k0_off43 (k0_t33 : Fin k0_t33_loop.trips) (k0_t35 : Fin k0_t35_loop.trips) : Fin 3 → Nat :=
  let c0_i32_93 : BitVec 32 := 0#32
  let c1_i32_94 : BitVec 32 := 1#32
  let arg11 : BitVec 32 := Scf.iv c0_i32_93 c1_i32_94 k0_t33
  let c3_i32 : BitVec 32 := 3#32
  let v140 : BitVec 32 := Scalar.remsi arg11 c3_i32
  let c0_i32_112 : BitVec 32 := 0#32
  let c1_i32_114 : BitVec 32 := 1#32
  let arg12 : BitVec 32 := Scf.iv c0_i32_112 c1_i32_114 k0_t35
  let c8_i32_129 : BitVec 32 := 8#32
  let v191 : BitVec 32 := Scalar.muli arg12 c8_i32_129
  let c2_i32_130 : BitVec 32 := 2#32
  let v192 : BitVec 32 := Scalar.addi v191 c2_i32_130
  let c0_i32_133 : BitVec 32 := 0#32
  ![v140.toNat, v192.toNat, 0]
def k0_off44 (k0_t33 : Fin k0_t33_loop.trips) (k0_t35 : Fin k0_t35_loop.trips) : Fin 1 → Nat :=
  let c0_i32_93 : BitVec 32 := 0#32
  let c1_i32_94 : BitVec 32 := 1#32
  let arg11 : BitVec 32 := Scf.iv c0_i32_93 c1_i32_94 k0_t33
  let c512_i32_131 : BitVec 32 := 512#32
  let v193 : BitVec 32 := Scalar.muli arg11 c512_i32_131
  let c0_i32_112 : BitVec 32 := 0#32
  let c1_i32_114 : BitVec 32 := 1#32
  let arg12 : BitVec 32 := Scf.iv c0_i32_112 c1_i32_114 k0_t35
  let c8_i32_129 : BitVec 32 := 8#32
  let v191 : BitVec 32 := Scalar.muli arg12 c8_i32_129
  let c2_i32_130 : BitVec 32 := 2#32
  let v192 : BitVec 32 := Scalar.addi v191 c2_i32_130
  let v194 : BitVec 32 := Scalar.addi v193 v192
  let v202 : Index := Scalar.indexCast v194
  ![v202.toNat]
def k0_off45 (k0_t33 : Fin k0_t33_loop.trips) : Fin 1 → Nat :=
  let c0_i32_93 : BitVec 32 := 0#32
  let c1_i32_94 : BitVec 32 := 1#32
  let arg11 : BitVec 32 := Scf.iv c0_i32_93 c1_i32_94 k0_t33
  let c3_i32 : BitVec 32 := 3#32
  let v140 : BitVec 32 := Scalar.remsi arg11 c3_i32
  ![v140.toNat]
def k0_off46 (v203 : BitVec 32) : Fin 2 → Nat :=
  let c0_i32_134 : BitVec 32 := 0#32
  ![v203.toNat, 0]

def k0_chk38 (v203 : BitVec 32) : Prop :=
  (∀ a, (k0_off46 v203) a + S1x1024.size a ≤ S73728x1024.size a)
theorem k0_off46_inb : ∀ (v203 : BitVec 32) (k0_hw38 : k0_chk38 v203), ∀ a, (k0_off46 v203) a + S1x1024.size a ≤ S73728x1024.size a := fun v203 k0_hw38 => k0_hw38

def k0_off47 (k0_t33 : Fin k0_t33_loop.trips) (k0_t35 : Fin k0_t35_loop.trips) : Fin 3 → Nat :=
  let c0_i32_93 : BitVec 32 := 0#32
  let c1_i32_94 : BitVec 32 := 1#32
  let arg11 : BitVec 32 := Scf.iv c0_i32_93 c1_i32_94 k0_t33
  let c3_i32 : BitVec 32 := 3#32
  let v140 : BitVec 32 := Scalar.remsi arg11 c3_i32
  let c0_i32_112 : BitVec 32 := 0#32
  let c1_i32_114 : BitVec 32 := 1#32
  let arg12 : BitVec 32 := Scf.iv c0_i32_112 c1_i32_114 k0_t35
  let c8_i32_129 : BitVec 32 := 8#32
  let v191 : BitVec 32 := Scalar.muli arg12 c8_i32_129
  let c2_i32_130 : BitVec 32 := 2#32
  let v192 : BitVec 32 := Scalar.addi v191 c2_i32_130
  let c0_i32_135 : BitVec 32 := 0#32
  ![v140.toNat, v192.toNat, 0]
def k0_off48 (k0_t33 : Fin k0_t33_loop.trips) (k0_t35 : Fin k0_t35_loop.trips) : Fin 1 → Nat :=
  let c0_i32_93 : BitVec 32 := 0#32
  let c1_i32_94 : BitVec 32 := 1#32
  let arg11 : BitVec 32 := Scf.iv c0_i32_93 c1_i32_94 k0_t33
  let c512_i32_138 : BitVec 32 := 512#32
  let v211 : BitVec 32 := Scalar.muli arg11 c512_i32_138
  let c0_i32_112 : BitVec 32 := 0#32
  let c1_i32_114 : BitVec 32 := 1#32
  let arg12 : BitVec 32 := Scf.iv c0_i32_112 c1_i32_114 k0_t35
  let c8_i32_136 : BitVec 32 := 8#32
  let v209 : BitVec 32 := Scalar.muli arg12 c8_i32_136
  let c3_i32_137 : BitVec 32 := 3#32
  let v210 : BitVec 32 := Scalar.addi v209 c3_i32_137
  let v212 : BitVec 32 := Scalar.addi v211 v210
  let v213 : Index := Scalar.indexCast v212
  ![v213.toNat]
def k0_off49 (k0_t33 : Fin k0_t33_loop.trips) : Fin 1 → Nat :=
  let c0_i32_93 : BitVec 32 := 0#32
  let c1_i32_94 : BitVec 32 := 1#32
  let arg11 : BitVec 32 := Scf.iv c0_i32_93 c1_i32_94 k0_t33
  let c3_i32 : BitVec 32 := 3#32
  let v140 : BitVec 32 := Scalar.remsi arg11 c3_i32
  ![v140.toNat]
def k0_off50 (v214 : BitVec 32) : Fin 2 → Nat :=
  let c0_i32_139 : BitVec 32 := 0#32
  ![v214.toNat, 0]

def k0_chk39 (v214 : BitVec 32) : Prop :=
  (∀ a, (k0_off50 v214) a + S1x1024.size a ≤ S73728x1024.size a)
theorem k0_off50_inb : ∀ (v214 : BitVec 32) (k0_hw39 : k0_chk39 v214), ∀ a, (k0_off50 v214) a + S1x1024.size a ≤ S73728x1024.size a := fun v214 k0_hw39 => k0_hw39

def k0_off51 (k0_t33 : Fin k0_t33_loop.trips) (k0_t35 : Fin k0_t35_loop.trips) : Fin 3 → Nat :=
  let c0_i32_93 : BitVec 32 := 0#32
  let c1_i32_94 : BitVec 32 := 1#32
  let arg11 : BitVec 32 := Scf.iv c0_i32_93 c1_i32_94 k0_t33
  let c3_i32 : BitVec 32 := 3#32
  let v140 : BitVec 32 := Scalar.remsi arg11 c3_i32
  let c0_i32_112 : BitVec 32 := 0#32
  let c1_i32_114 : BitVec 32 := 1#32
  let arg12 : BitVec 32 := Scf.iv c0_i32_112 c1_i32_114 k0_t35
  let c8_i32_136 : BitVec 32 := 8#32
  let v209 : BitVec 32 := Scalar.muli arg12 c8_i32_136
  let c3_i32_137 : BitVec 32 := 3#32
  let v210 : BitVec 32 := Scalar.addi v209 c3_i32_137
  let c0_i32_140 : BitVec 32 := 0#32
  ![v140.toNat, v210.toNat, 0]
def k0_off52 (k0_t33 : Fin k0_t33_loop.trips) (k0_t35 : Fin k0_t35_loop.trips) : Fin 1 → Nat :=
  let c0_i32_93 : BitVec 32 := 0#32
  let c1_i32_94 : BitVec 32 := 1#32
  let arg11 : BitVec 32 := Scf.iv c0_i32_93 c1_i32_94 k0_t33
  let c512_i32_138 : BitVec 32 := 512#32
  let v211 : BitVec 32 := Scalar.muli arg11 c512_i32_138
  let c0_i32_112 : BitVec 32 := 0#32
  let c1_i32_114 : BitVec 32 := 1#32
  let arg12 : BitVec 32 := Scf.iv c0_i32_112 c1_i32_114 k0_t35
  let c8_i32_136 : BitVec 32 := 8#32
  let v209 : BitVec 32 := Scalar.muli arg12 c8_i32_136
  let c3_i32_137 : BitVec 32 := 3#32
  let v210 : BitVec 32 := Scalar.addi v209 c3_i32_137
  let v212 : BitVec 32 := Scalar.addi v211 v210
  let v220 : Index := Scalar.indexCast v212
  ![v220.toNat]
def k0_off53 (k0_t33 : Fin k0_t33_loop.trips) : Fin 1 → Nat :=
  let c0_i32_93 : BitVec 32 := 0#32
  let c1_i32_94 : BitVec 32 := 1#32
  let arg11 : BitVec 32 := Scf.iv c0_i32_93 c1_i32_94 k0_t33
  let c3_i32 : BitVec 32 := 3#32
  let v140 : BitVec 32 := Scalar.remsi arg11 c3_i32
  ![v140.toNat]
def k0_off54 (v221 : BitVec 32) : Fin 2 → Nat :=
  let c0_i32_141 : BitVec 32 := 0#32
  ![v221.toNat, 0]

def k0_chk40 (v221 : BitVec 32) : Prop :=
  (∀ a, (k0_off54 v221) a + S1x1024.size a ≤ S73728x1024.size a)
theorem k0_off54_inb : ∀ (v221 : BitVec 32) (k0_hw40 : k0_chk40 v221), ∀ a, (k0_off54 v221) a + S1x1024.size a ≤ S73728x1024.size a := fun v221 k0_hw40 => k0_hw40

def k0_off55 (k0_t33 : Fin k0_t33_loop.trips) (k0_t35 : Fin k0_t35_loop.trips) : Fin 3 → Nat :=
  let c0_i32_93 : BitVec 32 := 0#32
  let c1_i32_94 : BitVec 32 := 1#32
  let arg11 : BitVec 32 := Scf.iv c0_i32_93 c1_i32_94 k0_t33
  let c3_i32 : BitVec 32 := 3#32
  let v140 : BitVec 32 := Scalar.remsi arg11 c3_i32
  let c0_i32_112 : BitVec 32 := 0#32
  let c1_i32_114 : BitVec 32 := 1#32
  let arg12 : BitVec 32 := Scf.iv c0_i32_112 c1_i32_114 k0_t35
  let c8_i32_136 : BitVec 32 := 8#32
  let v209 : BitVec 32 := Scalar.muli arg12 c8_i32_136
  let c3_i32_137 : BitVec 32 := 3#32
  let v210 : BitVec 32 := Scalar.addi v209 c3_i32_137
  let c0_i32_142 : BitVec 32 := 0#32
  ![v140.toNat, v210.toNat, 0]
def k0_off56 (k0_t33 : Fin k0_t33_loop.trips) (k0_t35 : Fin k0_t35_loop.trips) : Fin 1 → Nat :=
  let c0_i32_93 : BitVec 32 := 0#32
  let c1_i32_94 : BitVec 32 := 1#32
  let arg11 : BitVec 32 := Scf.iv c0_i32_93 c1_i32_94 k0_t33
  let c512_i32_144 : BitVec 32 := 512#32
  let v229 : BitVec 32 := Scalar.muli arg11 c512_i32_144
  let c0_i32_112 : BitVec 32 := 0#32
  let c1_i32_114 : BitVec 32 := 1#32
  let arg12 : BitVec 32 := Scf.iv c0_i32_112 c1_i32_114 k0_t35
  let c8_i32_143 : BitVec 32 := 8#32
  let v227 : BitVec 32 := Scalar.muli arg12 c8_i32_143
  let c4_i32 : BitVec 32 := 4#32
  let v228 : BitVec 32 := Scalar.addi v227 c4_i32
  let v230 : BitVec 32 := Scalar.addi v229 v228
  let v231 : Index := Scalar.indexCast v230
  ![v231.toNat]
def k0_off57 (k0_t33 : Fin k0_t33_loop.trips) : Fin 1 → Nat :=
  let c0_i32_93 : BitVec 32 := 0#32
  let c1_i32_94 : BitVec 32 := 1#32
  let arg11 : BitVec 32 := Scf.iv c0_i32_93 c1_i32_94 k0_t33
  let c3_i32 : BitVec 32 := 3#32
  let v140 : BitVec 32 := Scalar.remsi arg11 c3_i32
  ![v140.toNat]
def k0_off58 (v232 : BitVec 32) : Fin 2 → Nat :=
  let c0_i32_145 : BitVec 32 := 0#32
  ![v232.toNat, 0]

def k0_chk41 (v232 : BitVec 32) : Prop :=
  (∀ a, (k0_off58 v232) a + S1x1024.size a ≤ S73728x1024.size a)
theorem k0_off58_inb : ∀ (v232 : BitVec 32) (k0_hw41 : k0_chk41 v232), ∀ a, (k0_off58 v232) a + S1x1024.size a ≤ S73728x1024.size a := fun v232 k0_hw41 => k0_hw41

def k0_off59 (k0_t33 : Fin k0_t33_loop.trips) (k0_t35 : Fin k0_t35_loop.trips) : Fin 3 → Nat :=
  let c0_i32_93 : BitVec 32 := 0#32
  let c1_i32_94 : BitVec 32 := 1#32
  let arg11 : BitVec 32 := Scf.iv c0_i32_93 c1_i32_94 k0_t33
  let c3_i32 : BitVec 32 := 3#32
  let v140 : BitVec 32 := Scalar.remsi arg11 c3_i32
  let c0_i32_112 : BitVec 32 := 0#32
  let c1_i32_114 : BitVec 32 := 1#32
  let arg12 : BitVec 32 := Scf.iv c0_i32_112 c1_i32_114 k0_t35
  let c8_i32_143 : BitVec 32 := 8#32
  let v227 : BitVec 32 := Scalar.muli arg12 c8_i32_143
  let c4_i32 : BitVec 32 := 4#32
  let v228 : BitVec 32 := Scalar.addi v227 c4_i32
  let c0_i32_146 : BitVec 32 := 0#32
  ![v140.toNat, v228.toNat, 0]
def k0_off60 (k0_t33 : Fin k0_t33_loop.trips) (k0_t35 : Fin k0_t35_loop.trips) : Fin 1 → Nat :=
  let c0_i32_93 : BitVec 32 := 0#32
  let c1_i32_94 : BitVec 32 := 1#32
  let arg11 : BitVec 32 := Scf.iv c0_i32_93 c1_i32_94 k0_t33
  let c512_i32_144 : BitVec 32 := 512#32
  let v229 : BitVec 32 := Scalar.muli arg11 c512_i32_144
  let c0_i32_112 : BitVec 32 := 0#32
  let c1_i32_114 : BitVec 32 := 1#32
  let arg12 : BitVec 32 := Scf.iv c0_i32_112 c1_i32_114 k0_t35
  let c8_i32_143 : BitVec 32 := 8#32
  let v227 : BitVec 32 := Scalar.muli arg12 c8_i32_143
  let c4_i32 : BitVec 32 := 4#32
  let v228 : BitVec 32 := Scalar.addi v227 c4_i32
  let v230 : BitVec 32 := Scalar.addi v229 v228
  let v238 : Index := Scalar.indexCast v230
  ![v238.toNat]
def k0_off61 (k0_t33 : Fin k0_t33_loop.trips) : Fin 1 → Nat :=
  let c0_i32_93 : BitVec 32 := 0#32
  let c1_i32_94 : BitVec 32 := 1#32
  let arg11 : BitVec 32 := Scf.iv c0_i32_93 c1_i32_94 k0_t33
  let c3_i32 : BitVec 32 := 3#32
  let v140 : BitVec 32 := Scalar.remsi arg11 c3_i32
  ![v140.toNat]
def k0_off62 (v239 : BitVec 32) : Fin 2 → Nat :=
  let c0_i32_147 : BitVec 32 := 0#32
  ![v239.toNat, 0]

def k0_chk42 (v239 : BitVec 32) : Prop :=
  (∀ a, (k0_off62 v239) a + S1x1024.size a ≤ S73728x1024.size a)
theorem k0_off62_inb : ∀ (v239 : BitVec 32) (k0_hw42 : k0_chk42 v239), ∀ a, (k0_off62 v239) a + S1x1024.size a ≤ S73728x1024.size a := fun v239 k0_hw42 => k0_hw42

def k0_off63 (k0_t33 : Fin k0_t33_loop.trips) (k0_t35 : Fin k0_t35_loop.trips) : Fin 3 → Nat :=
  let c0_i32_93 : BitVec 32 := 0#32
  let c1_i32_94 : BitVec 32 := 1#32
  let arg11 : BitVec 32 := Scf.iv c0_i32_93 c1_i32_94 k0_t33
  let c3_i32 : BitVec 32 := 3#32
  let v140 : BitVec 32 := Scalar.remsi arg11 c3_i32
  let c0_i32_112 : BitVec 32 := 0#32
  let c1_i32_114 : BitVec 32 := 1#32
  let arg12 : BitVec 32 := Scf.iv c0_i32_112 c1_i32_114 k0_t35
  let c8_i32_143 : BitVec 32 := 8#32
  let v227 : BitVec 32 := Scalar.muli arg12 c8_i32_143
  let c4_i32 : BitVec 32 := 4#32
  let v228 : BitVec 32 := Scalar.addi v227 c4_i32
  let c0_i32_148 : BitVec 32 := 0#32
  ![v140.toNat, v228.toNat, 0]
def k0_off64 (k0_t33 : Fin k0_t33_loop.trips) (k0_t35 : Fin k0_t35_loop.trips) : Fin 1 → Nat :=
  let c0_i32_93 : BitVec 32 := 0#32
  let c1_i32_94 : BitVec 32 := 1#32
  let arg11 : BitVec 32 := Scf.iv c0_i32_93 c1_i32_94 k0_t33
  let c512_i32_150 : BitVec 32 := 512#32
  let v247 : BitVec 32 := Scalar.muli arg11 c512_i32_150
  let c0_i32_112 : BitVec 32 := 0#32
  let c1_i32_114 : BitVec 32 := 1#32
  let arg12 : BitVec 32 := Scf.iv c0_i32_112 c1_i32_114 k0_t35
  let c8_i32_149 : BitVec 32 := 8#32
  let v245 : BitVec 32 := Scalar.muli arg12 c8_i32_149
  let c5_i32 : BitVec 32 := 5#32
  let v246 : BitVec 32 := Scalar.addi v245 c5_i32
  let v248 : BitVec 32 := Scalar.addi v247 v246
  let v249 : Index := Scalar.indexCast v248
  ![v249.toNat]
def k0_off65 (k0_t33 : Fin k0_t33_loop.trips) : Fin 1 → Nat :=
  let c0_i32_93 : BitVec 32 := 0#32
  let c1_i32_94 : BitVec 32 := 1#32
  let arg11 : BitVec 32 := Scf.iv c0_i32_93 c1_i32_94 k0_t33
  let c3_i32 : BitVec 32 := 3#32
  let v140 : BitVec 32 := Scalar.remsi arg11 c3_i32
  ![v140.toNat]
def k0_off66 (v250 : BitVec 32) : Fin 2 → Nat :=
  let c0_i32_151 : BitVec 32 := 0#32
  ![v250.toNat, 0]

def k0_chk43 (v250 : BitVec 32) : Prop :=
  (∀ a, (k0_off66 v250) a + S1x1024.size a ≤ S73728x1024.size a)
theorem k0_off66_inb : ∀ (v250 : BitVec 32) (k0_hw43 : k0_chk43 v250), ∀ a, (k0_off66 v250) a + S1x1024.size a ≤ S73728x1024.size a := fun v250 k0_hw43 => k0_hw43

def k0_off67 (k0_t33 : Fin k0_t33_loop.trips) (k0_t35 : Fin k0_t35_loop.trips) : Fin 3 → Nat :=
  let c0_i32_93 : BitVec 32 := 0#32
  let c1_i32_94 : BitVec 32 := 1#32
  let arg11 : BitVec 32 := Scf.iv c0_i32_93 c1_i32_94 k0_t33
  let c3_i32 : BitVec 32 := 3#32
  let v140 : BitVec 32 := Scalar.remsi arg11 c3_i32
  let c0_i32_112 : BitVec 32 := 0#32
  let c1_i32_114 : BitVec 32 := 1#32
  let arg12 : BitVec 32 := Scf.iv c0_i32_112 c1_i32_114 k0_t35
  let c8_i32_149 : BitVec 32 := 8#32
  let v245 : BitVec 32 := Scalar.muli arg12 c8_i32_149
  let c5_i32 : BitVec 32 := 5#32
  let v246 : BitVec 32 := Scalar.addi v245 c5_i32
  let c0_i32_152 : BitVec 32 := 0#32
  ![v140.toNat, v246.toNat, 0]
def k0_off68 (k0_t33 : Fin k0_t33_loop.trips) (k0_t35 : Fin k0_t35_loop.trips) : Fin 1 → Nat :=
  let c0_i32_93 : BitVec 32 := 0#32
  let c1_i32_94 : BitVec 32 := 1#32
  let arg11 : BitVec 32 := Scf.iv c0_i32_93 c1_i32_94 k0_t33
  let c512_i32_150 : BitVec 32 := 512#32
  let v247 : BitVec 32 := Scalar.muli arg11 c512_i32_150
  let c0_i32_112 : BitVec 32 := 0#32
  let c1_i32_114 : BitVec 32 := 1#32
  let arg12 : BitVec 32 := Scf.iv c0_i32_112 c1_i32_114 k0_t35
  let c8_i32_149 : BitVec 32 := 8#32
  let v245 : BitVec 32 := Scalar.muli arg12 c8_i32_149
  let c5_i32 : BitVec 32 := 5#32
  let v246 : BitVec 32 := Scalar.addi v245 c5_i32
  let v248 : BitVec 32 := Scalar.addi v247 v246
  let v256 : Index := Scalar.indexCast v248
  ![v256.toNat]
def k0_off69 (k0_t33 : Fin k0_t33_loop.trips) : Fin 1 → Nat :=
  let c0_i32_93 : BitVec 32 := 0#32
  let c1_i32_94 : BitVec 32 := 1#32
  let arg11 : BitVec 32 := Scf.iv c0_i32_93 c1_i32_94 k0_t33
  let c3_i32 : BitVec 32 := 3#32
  let v140 : BitVec 32 := Scalar.remsi arg11 c3_i32
  ![v140.toNat]
def k0_off70 (v257 : BitVec 32) : Fin 2 → Nat :=
  let c0_i32_153 : BitVec 32 := 0#32
  ![v257.toNat, 0]

def k0_chk44 (v257 : BitVec 32) : Prop :=
  (∀ a, (k0_off70 v257) a + S1x1024.size a ≤ S73728x1024.size a)
theorem k0_off70_inb : ∀ (v257 : BitVec 32) (k0_hw44 : k0_chk44 v257), ∀ a, (k0_off70 v257) a + S1x1024.size a ≤ S73728x1024.size a := fun v257 k0_hw44 => k0_hw44

def k0_off71 (k0_t33 : Fin k0_t33_loop.trips) (k0_t35 : Fin k0_t35_loop.trips) : Fin 3 → Nat :=
  let c0_i32_93 : BitVec 32 := 0#32
  let c1_i32_94 : BitVec 32 := 1#32
  let arg11 : BitVec 32 := Scf.iv c0_i32_93 c1_i32_94 k0_t33
  let c3_i32 : BitVec 32 := 3#32
  let v140 : BitVec 32 := Scalar.remsi arg11 c3_i32
  let c0_i32_112 : BitVec 32 := 0#32
  let c1_i32_114 : BitVec 32 := 1#32
  let arg12 : BitVec 32 := Scf.iv c0_i32_112 c1_i32_114 k0_t35
  let c8_i32_149 : BitVec 32 := 8#32
  let v245 : BitVec 32 := Scalar.muli arg12 c8_i32_149
  let c5_i32 : BitVec 32 := 5#32
  let v246 : BitVec 32 := Scalar.addi v245 c5_i32
  let c0_i32_154 : BitVec 32 := 0#32
  ![v140.toNat, v246.toNat, 0]
def k0_off72 (k0_t33 : Fin k0_t33_loop.trips) (k0_t35 : Fin k0_t35_loop.trips) : Fin 1 → Nat :=
  let c0_i32_93 : BitVec 32 := 0#32
  let c1_i32_94 : BitVec 32 := 1#32
  let arg11 : BitVec 32 := Scf.iv c0_i32_93 c1_i32_94 k0_t33
  let c512_i32_156 : BitVec 32 := 512#32
  let v265 : BitVec 32 := Scalar.muli arg11 c512_i32_156
  let c0_i32_112 : BitVec 32 := 0#32
  let c1_i32_114 : BitVec 32 := 1#32
  let arg12 : BitVec 32 := Scf.iv c0_i32_112 c1_i32_114 k0_t35
  let c8_i32_155 : BitVec 32 := 8#32
  let v263 : BitVec 32 := Scalar.muli arg12 c8_i32_155
  let c6_i32 : BitVec 32 := 6#32
  let v264 : BitVec 32 := Scalar.addi v263 c6_i32
  let v266 : BitVec 32 := Scalar.addi v265 v264
  let v267 : Index := Scalar.indexCast v266
  ![v267.toNat]
def k0_off73 (k0_t33 : Fin k0_t33_loop.trips) : Fin 1 → Nat :=
  let c0_i32_93 : BitVec 32 := 0#32
  let c1_i32_94 : BitVec 32 := 1#32
  let arg11 : BitVec 32 := Scf.iv c0_i32_93 c1_i32_94 k0_t33
  let c3_i32 : BitVec 32 := 3#32
  let v140 : BitVec 32 := Scalar.remsi arg11 c3_i32
  ![v140.toNat]
def k0_off74 (v268 : BitVec 32) : Fin 2 → Nat :=
  let c0_i32_157 : BitVec 32 := 0#32
  ![v268.toNat, 0]

def k0_chk45 (v268 : BitVec 32) : Prop :=
  (∀ a, (k0_off74 v268) a + S1x1024.size a ≤ S73728x1024.size a)
theorem k0_off74_inb : ∀ (v268 : BitVec 32) (k0_hw45 : k0_chk45 v268), ∀ a, (k0_off74 v268) a + S1x1024.size a ≤ S73728x1024.size a := fun v268 k0_hw45 => k0_hw45

def k0_off75 (k0_t33 : Fin k0_t33_loop.trips) (k0_t35 : Fin k0_t35_loop.trips) : Fin 3 → Nat :=
  let c0_i32_93 : BitVec 32 := 0#32
  let c1_i32_94 : BitVec 32 := 1#32
  let arg11 : BitVec 32 := Scf.iv c0_i32_93 c1_i32_94 k0_t33
  let c3_i32 : BitVec 32 := 3#32
  let v140 : BitVec 32 := Scalar.remsi arg11 c3_i32
  let c0_i32_112 : BitVec 32 := 0#32
  let c1_i32_114 : BitVec 32 := 1#32
  let arg12 : BitVec 32 := Scf.iv c0_i32_112 c1_i32_114 k0_t35
  let c8_i32_155 : BitVec 32 := 8#32
  let v263 : BitVec 32 := Scalar.muli arg12 c8_i32_155
  let c6_i32 : BitVec 32 := 6#32
  let v264 : BitVec 32 := Scalar.addi v263 c6_i32
  let c0_i32_158 : BitVec 32 := 0#32
  ![v140.toNat, v264.toNat, 0]
def k0_off76 (k0_t33 : Fin k0_t33_loop.trips) (k0_t35 : Fin k0_t35_loop.trips) : Fin 1 → Nat :=
  let c0_i32_93 : BitVec 32 := 0#32
  let c1_i32_94 : BitVec 32 := 1#32
  let arg11 : BitVec 32 := Scf.iv c0_i32_93 c1_i32_94 k0_t33
  let c512_i32_156 : BitVec 32 := 512#32
  let v265 : BitVec 32 := Scalar.muli arg11 c512_i32_156
  let c0_i32_112 : BitVec 32 := 0#32
  let c1_i32_114 : BitVec 32 := 1#32
  let arg12 : BitVec 32 := Scf.iv c0_i32_112 c1_i32_114 k0_t35
  let c8_i32_155 : BitVec 32 := 8#32
  let v263 : BitVec 32 := Scalar.muli arg12 c8_i32_155
  let c6_i32 : BitVec 32 := 6#32
  let v264 : BitVec 32 := Scalar.addi v263 c6_i32
  let v266 : BitVec 32 := Scalar.addi v265 v264
  let v274 : Index := Scalar.indexCast v266
  ![v274.toNat]
def k0_off77 (k0_t33 : Fin k0_t33_loop.trips) : Fin 1 → Nat :=
  let c0_i32_93 : BitVec 32 := 0#32
  let c1_i32_94 : BitVec 32 := 1#32
  let arg11 : BitVec 32 := Scf.iv c0_i32_93 c1_i32_94 k0_t33
  let c3_i32 : BitVec 32 := 3#32
  let v140 : BitVec 32 := Scalar.remsi arg11 c3_i32
  ![v140.toNat]
def k0_off78 (v275 : BitVec 32) : Fin 2 → Nat :=
  let c0_i32_159 : BitVec 32 := 0#32
  ![v275.toNat, 0]

def k0_chk46 (v275 : BitVec 32) : Prop :=
  (∀ a, (k0_off78 v275) a + S1x1024.size a ≤ S73728x1024.size a)
theorem k0_off78_inb : ∀ (v275 : BitVec 32) (k0_hw46 : k0_chk46 v275), ∀ a, (k0_off78 v275) a + S1x1024.size a ≤ S73728x1024.size a := fun v275 k0_hw46 => k0_hw46

def k0_off79 (k0_t33 : Fin k0_t33_loop.trips) (k0_t35 : Fin k0_t35_loop.trips) : Fin 3 → Nat :=
  let c0_i32_93 : BitVec 32 := 0#32
  let c1_i32_94 : BitVec 32 := 1#32
  let arg11 : BitVec 32 := Scf.iv c0_i32_93 c1_i32_94 k0_t33
  let c3_i32 : BitVec 32 := 3#32
  let v140 : BitVec 32 := Scalar.remsi arg11 c3_i32
  let c0_i32_112 : BitVec 32 := 0#32
  let c1_i32_114 : BitVec 32 := 1#32
  let arg12 : BitVec 32 := Scf.iv c0_i32_112 c1_i32_114 k0_t35
  let c8_i32_155 : BitVec 32 := 8#32
  let v263 : BitVec 32 := Scalar.muli arg12 c8_i32_155
  let c6_i32 : BitVec 32 := 6#32
  let v264 : BitVec 32 := Scalar.addi v263 c6_i32
  let c0_i32_160 : BitVec 32 := 0#32
  ![v140.toNat, v264.toNat, 0]
def k0_off80 (k0_t33 : Fin k0_t33_loop.trips) (k0_t35 : Fin k0_t35_loop.trips) : Fin 1 → Nat :=
  let c0_i32_93 : BitVec 32 := 0#32
  let c1_i32_94 : BitVec 32 := 1#32
  let arg11 : BitVec 32 := Scf.iv c0_i32_93 c1_i32_94 k0_t33
  let c512_i32_162 : BitVec 32 := 512#32
  let v283 : BitVec 32 := Scalar.muli arg11 c512_i32_162
  let c0_i32_112 : BitVec 32 := 0#32
  let c1_i32_114 : BitVec 32 := 1#32
  let arg12 : BitVec 32 := Scf.iv c0_i32_112 c1_i32_114 k0_t35
  let c8_i32_161 : BitVec 32 := 8#32
  let v281 : BitVec 32 := Scalar.muli arg12 c8_i32_161
  let c7_i32 : BitVec 32 := 7#32
  let v282 : BitVec 32 := Scalar.addi v281 c7_i32
  let v284 : BitVec 32 := Scalar.addi v283 v282
  let v285 : Index := Scalar.indexCast v284
  ![v285.toNat]
def k0_off81 (k0_t33 : Fin k0_t33_loop.trips) : Fin 1 → Nat :=
  let c0_i32_93 : BitVec 32 := 0#32
  let c1_i32_94 : BitVec 32 := 1#32
  let arg11 : BitVec 32 := Scf.iv c0_i32_93 c1_i32_94 k0_t33
  let c3_i32 : BitVec 32 := 3#32
  let v140 : BitVec 32 := Scalar.remsi arg11 c3_i32
  ![v140.toNat]
def k0_off82 (v286 : BitVec 32) : Fin 2 → Nat :=
  let c0_i32_163 : BitVec 32 := 0#32
  ![v286.toNat, 0]

def k0_chk47 (v286 : BitVec 32) : Prop :=
  (∀ a, (k0_off82 v286) a + S1x1024.size a ≤ S73728x1024.size a)
theorem k0_off82_inb : ∀ (v286 : BitVec 32) (k0_hw47 : k0_chk47 v286), ∀ a, (k0_off82 v286) a + S1x1024.size a ≤ S73728x1024.size a := fun v286 k0_hw47 => k0_hw47

def k0_off83 (k0_t33 : Fin k0_t33_loop.trips) (k0_t35 : Fin k0_t35_loop.trips) : Fin 3 → Nat :=
  let c0_i32_93 : BitVec 32 := 0#32
  let c1_i32_94 : BitVec 32 := 1#32
  let arg11 : BitVec 32 := Scf.iv c0_i32_93 c1_i32_94 k0_t33
  let c3_i32 : BitVec 32 := 3#32
  let v140 : BitVec 32 := Scalar.remsi arg11 c3_i32
  let c0_i32_112 : BitVec 32 := 0#32
  let c1_i32_114 : BitVec 32 := 1#32
  let arg12 : BitVec 32 := Scf.iv c0_i32_112 c1_i32_114 k0_t35
  let c8_i32_161 : BitVec 32 := 8#32
  let v281 : BitVec 32 := Scalar.muli arg12 c8_i32_161
  let c7_i32 : BitVec 32 := 7#32
  let v282 : BitVec 32 := Scalar.addi v281 c7_i32
  let c0_i32_164 : BitVec 32 := 0#32
  ![v140.toNat, v282.toNat, 0]
def k0_off84 (k0_t33 : Fin k0_t33_loop.trips) (k0_t35 : Fin k0_t35_loop.trips) : Fin 1 → Nat :=
  let c0_i32_93 : BitVec 32 := 0#32
  let c1_i32_94 : BitVec 32 := 1#32
  let arg11 : BitVec 32 := Scf.iv c0_i32_93 c1_i32_94 k0_t33
  let c512_i32_162 : BitVec 32 := 512#32
  let v283 : BitVec 32 := Scalar.muli arg11 c512_i32_162
  let c0_i32_112 : BitVec 32 := 0#32
  let c1_i32_114 : BitVec 32 := 1#32
  let arg12 : BitVec 32 := Scf.iv c0_i32_112 c1_i32_114 k0_t35
  let c8_i32_161 : BitVec 32 := 8#32
  let v281 : BitVec 32 := Scalar.muli arg12 c8_i32_161
  let c7_i32 : BitVec 32 := 7#32
  let v282 : BitVec 32 := Scalar.addi v281 c7_i32
  let v284 : BitVec 32 := Scalar.addi v283 v282
  let v292 : Index := Scalar.indexCast v284
  ![v292.toNat]
def k0_off85 (k0_t33 : Fin k0_t33_loop.trips) : Fin 1 → Nat :=
  let c0_i32_93 : BitVec 32 := 0#32
  let c1_i32_94 : BitVec 32 := 1#32
  let arg11 : BitVec 32 := Scf.iv c0_i32_93 c1_i32_94 k0_t33
  let c3_i32 : BitVec 32 := 3#32
  let v140 : BitVec 32 := Scalar.remsi arg11 c3_i32
  ![v140.toNat]
def k0_off86 (v293 : BitVec 32) : Fin 2 → Nat :=
  let c0_i32_165 : BitVec 32 := 0#32
  ![v293.toNat, 0]

def k0_chk48 (v293 : BitVec 32) : Prop :=
  (∀ a, (k0_off86 v293) a + S1x1024.size a ≤ S73728x1024.size a)
theorem k0_off86_inb : ∀ (v293 : BitVec 32) (k0_hw48 : k0_chk48 v293), ∀ a, (k0_off86 v293) a + S1x1024.size a ≤ S73728x1024.size a := fun v293 k0_hw48 => k0_hw48

def k0_off87 (k0_t33 : Fin k0_t33_loop.trips) (k0_t35 : Fin k0_t35_loop.trips) : Fin 3 → Nat :=
  let c0_i32_93 : BitVec 32 := 0#32
  let c1_i32_94 : BitVec 32 := 1#32
  let arg11 : BitVec 32 := Scf.iv c0_i32_93 c1_i32_94 k0_t33
  let c3_i32 : BitVec 32 := 3#32
  let v140 : BitVec 32 := Scalar.remsi arg11 c3_i32
  let c0_i32_112 : BitVec 32 := 0#32
  let c1_i32_114 : BitVec 32 := 1#32
  let arg12 : BitVec 32 := Scf.iv c0_i32_112 c1_i32_114 k0_t35
  let c8_i32_161 : BitVec 32 := 8#32
  let v281 : BitVec 32 := Scalar.muli arg12 c8_i32_161
  let c7_i32 : BitVec 32 := 7#32
  let v282 : BitVec 32 := Scalar.addi v281 c7_i32
  let c0_i32_166 : BitVec 32 := 0#32
  ![v140.toNat, v282.toNat, 0]
@[reducible] def k0_t36_loop : Scf.Loop 32 :=
  let c0_i32_97 : BitVec 32 := 0#32
  let c1024_i32 : BitVec 32 := 1024#32
  let v138 : BitVec 32 := Scalar.addi c0_i32_97 c1024_i32
  let c1_i32_98 : BitVec 32 := 1#32
  ⟨c0_i32_97, v138, c1_i32_98⟩
@[reducible] def k0_t37_loop : Scf.Loop 32 :=
  let c0_i32_101 : BitVec 32 := 0#32
  let c1024_i32_102 : BitVec 32 := 1024#32
  let v139 : BitVec 32 := Scalar.addi c0_i32_101 c1024_i32_102
  let c1_i32_103 : BitVec 32 := 1#32
  ⟨c0_i32_101, v139, c1_i32_103⟩
-- ==== Reference.lean ====
abbrev S32768 : Shape := ⟨1, ![32768]⟩
abbrev S16 : Shape := ⟨1, ![16]⟩
abbrev S32768x1024 : Shape := ⟨2, ![32768, 1024]⟩
abbrev S_ : Shape := ⟨0, ![]⟩
abbrev S73728x1024 : Shape := ⟨2, ![73728, 1024]⟩
abbrev S32768x1 : Shape := ⟨2, ![32768, 1]⟩

abbrev nBuf : Space → Nat
  | .hbm => 24
  | .vmem => 0
  | .smem => 0
  | _ => 0

abbrev bufTy : (tb : Table) → Fin (tcTables nBuf tb) → BufTy
  | .hbm, ⟨0, _⟩ => ⟨S32768, .i32⟩
  | .hbm, ⟨1, _⟩ => ⟨S32768, .i32⟩
  | .hbm, ⟨2, _⟩ => ⟨S16, .i32⟩
  | .hbm, ⟨3, _⟩ => ⟨S32768x1024, .f32⟩
  | .hbm, ⟨4, _⟩ => ⟨S_, .f32⟩
  | .hbm, ⟨5, _⟩ => ⟨S73728x1024, .f32⟩
  | .hbm, ⟨6, _⟩ => ⟨S_, .i32⟩
  | .hbm, ⟨7, _⟩ => ⟨S32768, .i32⟩
  | .hbm, ⟨8, _⟩ => ⟨S32768, .i1⟩
  | .hbm, ⟨9, _⟩ => ⟨S_, .i32⟩
  | .hbm, ⟨10, _⟩ => ⟨S32768, .i32⟩
  | .hbm, ⟨11, _⟩ => ⟨S32768, .i32⟩
  | .hbm, ⟨12, _⟩ => ⟨S32768, .i32⟩
  | .hbm, ⟨13, _⟩ => ⟨S32768x1, .i32⟩
  | .hbm, ⟨14, _⟩ => ⟨S73728x1024, .f32⟩
  | .hbm, ⟨15, _⟩ => ⟨S_, .i32⟩
  | .hbm, ⟨16, _⟩ => ⟨S32768, .i32⟩
  | .hbm, ⟨17, _⟩ => ⟨S32768, .i1⟩
  | .hbm, ⟨18, _⟩ => ⟨S_, .i32⟩
  | .hbm, ⟨19, _⟩ => ⟨S32768, .i32⟩
  | .hbm, ⟨20, _⟩ => ⟨S32768, .i32⟩
  | .hbm, ⟨21, _⟩ => ⟨S32768, .i32⟩
  | .hbm, ⟨22, _⟩ => ⟨S32768x1, .i32⟩
  | .hbm, ⟨23, _⟩ => ⟨S73728x1024, .f32⟩
  | _, _ => ⟨S32768, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== Kernel2.lean ====
abbrev S72 : Shape := ⟨1, ![72]⟩
abbrev S73728x1024 : Shape := ⟨2, ![73728, 1024]⟩
abbrev S8x1024x3584 : Shape := ⟨3, ![8, 1024, 3584]⟩
abbrev S8x3584x1024 : Shape := ⟨3, ![8, 3584, 1024]⟩
abbrev S1024x1024 : Shape := ⟨2, ![1024, 1024]⟩
abbrev S1 : Shape := ⟨1, ![1]⟩
abbrev S1x1024x896 : Shape := ⟨3, ![1, 1024, 896]⟩
abbrev S1x896x1024 : Shape := ⟨3, ![1, 896, 1024]⟩
abbrev S1024x896 : Shape := ⟨2, ![1024, 896]⟩
abbrev S896x1024 : Shape := ⟨2, ![896, 1024]⟩

abbrev nBuf : Space → Nat
  | .hbm => 5
  | .vmem => 10
  | .smem => 2
  | _ => 0

abbrev bufTy : (tb : Table) → Fin (tcTables nBuf tb) → BufTy
  | .hbm, ⟨0, _⟩ => ⟨S73728x1024, .f32⟩
  | .hbm, ⟨1, _⟩ => ⟨S8x1024x3584, .f32⟩
  | .hbm, ⟨2, _⟩ => ⟨S8x1024x3584, .f32⟩
  | .hbm, ⟨3, _⟩ => ⟨S8x3584x1024, .f32⟩
  | .hbm, ⟨4, _⟩ => ⟨S73728x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024x896, .f32⟩
  | .local _ .vmem, ⟨3, _⟩ => ⟨S1x1024x896, .f32⟩
  | .local _ .vmem, ⟨4, _⟩ => ⟨S1x1024x896, .f32⟩
  | .local _ .vmem, ⟨5, _⟩ => ⟨S1x1024x896, .f32⟩
  | .local _ .vmem, ⟨6, _⟩ => ⟨S1x896x1024, .f32⟩
  | .local _ .vmem, ⟨7, _⟩ => ⟨S1x896x1024, .f32⟩
  | .local _ .vmem, ⟨8, _⟩ => ⟨S1024x1024, .f32⟩
  | .local _ .vmem, ⟨9, _⟩ => ⟨S1024x1024, .f32⟩
  | .local _ .smem, ⟨0, _⟩ => ⟨S72, .i32⟩
  | .local _ .smem, ⟨1, _⟩ => ⟨S72, .i32⟩
  | _, _ => ⟨S73728x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![72, 4], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (v4 : BitVec 32) : BitVec 1 :=
  let c1_i32 : BitVec 32 := 1#32
  let v5 : BitVec 1 := Scalar.cmpi .eq v4 c1_i32
  let v6 : BitVec 32 := Scalar.extui v5
  let c0_i32_1 : BitVec 32 := 0#32
  let v7 : BitVec 1 := Scalar.cmpi .ne v6 c0_i32_1
  v7

def cc0_transform_0 (k0_off1_inb : ∀ i : grid0.Coords, ∀ a, (k0_off1 i) a + S1.size a ≤ S72.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 1 (Rect.unit (s := S72) ![v0.toNat] S1.size (k0_off1_inb i)) numel1_S1
  let v2 : BitVec 32 := Scalar.muli arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let v2 : Index := Scalar.indexCast arg0
  let v3 : BitVec 32 := pf.at 1 (Rect.unit (s := S72) ![v2.toNat] S1.size (k0_off1_inb i)) numel1_S1
  let v4 : BitVec 32 := Scalar.muli arg1 v3
  let v5 : Index := Scalar.indexCast arg0
  let v6 : BitVec 32 := pf.at 1 (Rect.unit (s := S72) ![v5.toNat] S1.size (k0_off1_inb i)) numel1_S1
  let c1_i32 : BitVec 32 := 1#32
  let v7 : BitVec 32 := Scalar.subi c1_i32 v6
  let c3_i32 : BitVec 32 := 3#32
  let v8 : BitVec 32 := Scalar.muli c3_i32 v7
  let v9 : BitVec 32 := Scalar.addi v4 v8
  let c0_i32 : BitVec 32 := 0#32
  let c0_i32_0 : BitVec 32 := 0#32
  ![v1.toNat, c0_i32.toNat, v9.toNat]

def cc0_transform_2 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let v2 : Index := Scalar.indexCast arg0
  let v3 : BitVec 32 := pf.at 1 (Rect.unit (s := S72) ![v2.toNat] S1.size (k0_off1_inb i)) numel1_S1
  let v4 : BitVec 32 := Scalar.muli arg1 v3
  let v5 : Index := Scalar.indexCast arg0
  let v6 : BitVec 32 := pf.at 1 (Rect.unit (s := S72) ![v5.toNat] S1.size (k0_off1_inb i)) numel1_S1
  let c1_i32 : BitVec 32 := 1#32
  let v7 : BitVec 32 := Scalar.subi c1_i32 v6
  let c3_i32 : BitVec 32 := 3#32
  let v8 : BitVec 32 := Scalar.muli c3_i32 v7
  let v9 : BitVec 32 := Scalar.addi v4 v8
  let c0_i32 : BitVec 32 := 0#32
  let c0_i32_0 : BitVec 32 := 0#32
  ![v1.toNat, c0_i32.toNat, v9.toNat]

def cc0_transform_3 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let v2 : Index := Scalar.indexCast arg0
  let v3 : BitVec 32 := pf.at 1 (Rect.unit (s := S72) ![v2.toNat] S1.size (k0_off1_inb i)) numel1_S1
  let v4 : BitVec 32 := Scalar.muli arg1 v3
  let v5 : Index := Scalar.indexCast arg0
  let v6 : BitVec 32 := pf.at 1 (Rect.unit (s := S72) ![v5.toNat] S1.size (k0_off1_inb i)) numel1_S1
  let c1_i32 : BitVec 32 := 1#32
  let v7 : BitVec 32 := Scalar.subi c1_i32 v6
  let c3_i32 : BitVec 32 := 3#32
  let v8 : BitVec 32 := Scalar.muli c3_i32 v7
  let v9 : BitVec 32 := Scalar.addi v4 v8
  let c0_i32 : BitVec 32 := 0#32
  let c0_i32_0 : BitVec 32 := 0#32
  ![v1.toNat, v9.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x896 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x896x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference2Ideal.lean ====
abbrev S72 : Shape := ⟨1, ![72]⟩
abbrev S73728x1024 : Shape := ⟨2, ![73728, 1024]⟩
abbrev S8x1024x3584 : Shape := ⟨3, ![8, 1024, 3584]⟩
abbrev S8x3584x1024 : Shape := ⟨3, ![8, 3584, 1024]⟩
abbrev S72x1 : Shape := ⟨2, ![72, 1]⟩
abbrev S72x1024 : Shape := ⟨2, ![72, 1024]⟩
abbrev S73728 : Shape := ⟨1, ![73728]⟩
abbrev S_ : Shape := ⟨0, ![]⟩
abbrev S73728x1 : Shape := ⟨2, ![73728, 1]⟩
abbrev S1x1024x3584 : Shape := ⟨3, ![1, 1024, 3584]⟩
abbrev S1024x3584 : Shape := ⟨2, ![1024, 3584]⟩
abbrev S1x3584x1024 : Shape := ⟨3, ![1, 3584, 1024]⟩
abbrev S3584x1024 : Shape := ⟨2, ![3584, 1024]⟩
abbrev S73728x3584 : Shape := ⟨2, ![73728, 3584]⟩

abbrev nBuf : Space → Nat
  | .hbm => 278
  | .vmem => 0
  | .smem => 0
  | _ => 0

abbrev hbmTy0_0 (i : Nat) : BufTy := match i % 128 with
  | 0 => ⟨S72, .i32⟩
  | 1 => ⟨S72, .i32⟩
  | 2 => ⟨S73728x1024, .f32⟩
  | 3 => ⟨S8x1024x3584, .f32⟩
  | 4 => ⟨S8x1024x3584, .f32⟩
  | 5 => ⟨S8x3584x1024, .f32⟩
  | 6 => ⟨S72x1, .i32⟩
  | 7 => ⟨S72x1024, .i32⟩
  | 8 => ⟨S73728, .i32⟩
  | 9 => ⟨S72x1, .i32⟩
  | 10 => ⟨S72x1024, .i32⟩
  | 11 => ⟨S73728, .i32⟩
  | 12 => ⟨S_, .f32⟩
  | 13 => ⟨S73728x1024, .f32⟩
  | 14 => ⟨S_, .i32⟩
  | 15 => ⟨S73728, .i32⟩
  | 16 => ⟨S73728, .i1⟩
  | 17 => ⟨S_, .i32⟩
  | 18 => ⟨S73728, .i32⟩
  | 19 => ⟨S73728, .i1⟩
  | 20 => ⟨S73728, .i1⟩
  | 21 => ⟨S73728x1, .i1⟩
  | 22 => ⟨S1x1024x3584, .f32⟩
  | 23 => ⟨S1024x3584, .f32⟩
  | 24 => ⟨S1x1024x3584, .f32⟩
  | 25 => ⟨S1024x3584, .f32⟩
  | 26 => ⟨S1x3584x1024, .f32⟩
  | 27 => ⟨S3584x1024, .f32⟩
  | 28 => ⟨S73728x3584, .f32⟩
  | 29 => ⟨S73728x3584, .f32⟩
  | 30 => ⟨S73728x3584, .f32⟩
  | 31 => ⟨S_, .f32⟩
  | 32 => ⟨S73728x3584, .f32⟩
  | 33 => ⟨S73728x3584, .f32⟩
  | 34 => ⟨S_, .f32⟩
  | 35 => ⟨S73728x3584, .f32⟩
  | 36 => ⟨S73728x3584, .f32⟩
  | 37 => ⟨S73728x3584, .f32⟩
  | 38 => ⟨S73728x3584, .f32⟩
  | 39 => ⟨S73728x3584, .f32⟩
  | 40 => ⟨S73728x1024, .f32⟩
  | 41 => ⟨S_, .f32⟩
  | 42 => ⟨S_, .f32⟩
  | 43 => ⟨S73728x1024, .i1⟩
  | 44 => ⟨S73728x1024, .f32⟩
  | 45 => ⟨S73728x1024, .f32⟩
  | 46 => ⟨S73728x1024, .f32⟩
  | 47 => ⟨S_, .i32⟩
  | 48 => ⟨S73728, .i32⟩
  | 49 => ⟨S73728, .i1⟩
  | 50 => ⟨S_, .i32⟩
  | 51 => ⟨S73728, .i32⟩
  | 52 => ⟨S73728, .i1⟩
  | 53 => ⟨S73728, .i1⟩
  | 54 => ⟨S73728x1, .i1⟩
  | 55 => ⟨S1x1024x3584, .f32⟩
  | 56 => ⟨S1024x3584, .f32⟩
  | 57 => ⟨S1x1024x3584, .f32⟩
  | 58 => ⟨S1024x3584, .f32⟩
  | 59 => ⟨S1x3584x1024, .f32⟩
  | 60 => ⟨S3584x1024, .f32⟩
  | 61 => ⟨S73728x3584, .f32⟩
  | 62 => ⟨S73728x3584, .f32⟩
  | 63 => ⟨S73728x3584, .f32⟩
  | 64 => ⟨S_, .f32⟩
  | 65 => ⟨S73728x3584, .f32⟩
  | 66 => ⟨S73728x3584, .f32⟩
  | 67 => ⟨S_, .f32⟩
  | 68 => ⟨S73728x3584, .f32⟩
  | 69 => ⟨S73728x3584, .f32⟩
  | 70 => ⟨S73728x3584, .f32⟩
  | 71 => ⟨S73728x3584, .f32⟩
  | 72 => ⟨S73728x3584, .f32⟩
  | 73 => ⟨S73728x1024, .f32⟩
  | 74 => ⟨S_, .f32⟩
  | 75 => ⟨S_, .f32⟩
  | 76 => ⟨S73728x1024, .i1⟩
  | 77 => ⟨S73728x1024, .f32⟩
  | 78 => ⟨S73728x1024, .f32⟩
  | 79 => ⟨S73728x1024, .f32⟩
  | 80 => ⟨S_, .i32⟩
  | 81 => ⟨S73728, .i32⟩
  | 82 => ⟨S73728, .i1⟩
  | 83 => ⟨S_, .i32⟩
  | 84 => ⟨S73728, .i32⟩
  | 85 => ⟨S73728, .i1⟩
  | 86 => ⟨S73728, .i1⟩
  | 87 => ⟨S73728x1, .i1⟩
  | 88 => ⟨S1x1024x3584, .f32⟩
  | 89 => ⟨S1024x3584, .f32⟩
  | 90 => ⟨S1x1024x3584, .f32⟩
  | 91 => ⟨S1024x3584, .f32⟩
  | 92 => ⟨S1x3584x1024, .f32⟩
  | 93 => ⟨S3584x1024, .f32⟩
  | 94 => ⟨S73728x3584, .f32⟩
  | 95 => ⟨S73728x3584, .f32⟩
  | 96 => ⟨S73728x3584, .f32⟩
  | 97 => ⟨S_, .f32⟩
  | 98 => ⟨S73728x3584, .f32⟩
  | 99 => ⟨S73728x3584, .f32⟩
  | 100 => ⟨S_, .f32⟩
  | 101 => ⟨S73728x3584, .f32⟩
  | 102 => ⟨S73728x3584, .f32⟩
  | 103 => ⟨S73728x3584, .f32⟩
  | 104 => ⟨S73728x3584, .f32⟩
  | 105 => ⟨S73728x3584, .f32⟩
  | 106 => ⟨S73728x1024, .f32⟩
  | 107 => ⟨S_, .f32⟩
  | 108 => ⟨S_, .f32⟩
  | 109 => ⟨S73728x1024, .i1⟩
  | 110 => ⟨S73728x1024, .f32⟩
  | 111 => ⟨S73728x1024, .f32⟩
  | 112 => ⟨S73728x1024, .f32⟩
  | 113 => ⟨S_, .i32⟩
  | 114 => ⟨S73728, .i32⟩
  | 115 => ⟨S73728, .i1⟩
  | 116 => ⟨S_, .i32⟩
  | 117 => ⟨S73728, .i32⟩
  | 118 => ⟨S73728, .i1⟩
  | 119 => ⟨S73728, .i1⟩
  | 120 => ⟨S73728x1, .i1⟩
  | 121 => ⟨S1x1024x3584, .f32⟩
  | 122 => ⟨S1024x3584, .f32⟩
  | 123 => ⟨S1x1024x3584, .f32⟩
  | 124 => ⟨S1024x3584, .f32⟩
  | 125 => ⟨S1x3584x1024, .f32⟩
  | 126 => ⟨S3584x1024, .f32⟩
  | 127 => ⟨S73728x3584, .f32⟩
  | _ => ⟨S72, .i32⟩

abbrev hbmTy0_1 (i : Nat) : BufTy := match i % 128 with
  | 0 => ⟨S73728x3584, .f32⟩
  | 1 => ⟨S73728x3584, .f32⟩
  | 2 => ⟨S_, .f32⟩
  | 3 => ⟨S73728x3584, .f32⟩
  | 4 => ⟨S73728x3584, .f32⟩
  | 5 => ⟨S_, .f32⟩
  | 6 => ⟨S73728x3584, .f32⟩
  | 7 => ⟨S73728x3584, .f32⟩
  | 8 => ⟨S73728x3584, .f32⟩
  | 9 => ⟨S73728x3584, .f32⟩
  | 10 => ⟨S73728x3584, .f32⟩
  | 11 => ⟨S73728x1024, .f32⟩
  | 12 => ⟨S_, .f32⟩
  | 13 => ⟨S_, .f32⟩
  | 14 => ⟨S73728x1024, .i1⟩
  | 15 => ⟨S73728x1024, .f32⟩
  | 16 => ⟨S73728x1024, .f32⟩
  | 17 => ⟨S73728x1024, .f32⟩
  | 18 => ⟨S_, .i32⟩
  | 19 => ⟨S73728, .i32⟩
  | 20 => ⟨S73728, .i1⟩
  | 21 => ⟨S_, .i32⟩
  | 22 => ⟨S73728, .i32⟩
  | 23 => ⟨S73728, .i1⟩
  | 24 => ⟨S73728, .i1⟩
  | 25 => ⟨S73728x1, .i1⟩
  | 26 => ⟨S1x1024x3584, .f32⟩
  | 27 => ⟨S1024x3584, .f32⟩
  | 28 => ⟨S1x1024x3584, .f32⟩
  | 29 => ⟨S1024x3584, .f32⟩
  | 30 => ⟨S1x3584x1024, .f32⟩
  | 31 => ⟨S3584x1024, .f32⟩
  | 32 => ⟨S73728x3584, .f32⟩
  | 33 => ⟨S73728x3584, .f32⟩
  | 34 => ⟨S73728x3584, .f32⟩
  | 35 => ⟨S_, .f32⟩
  | 36 => ⟨S73728x3584, .f32⟩
  | 37 => ⟨S73728x3584, .f32⟩
  | 38 => ⟨S_, .f32⟩
  | 39 => ⟨S73728x3584, .f32⟩
  | 40 => ⟨S73728x3584, .f32⟩
  | 41 => ⟨S73728x3584, .f32⟩
  | 42 => ⟨S73728x3584, .f32⟩
  | 43 => ⟨S73728x3584, .f32⟩
  | 44 => ⟨S73728x1024, .f32⟩
  | 45 => ⟨S_, .f32⟩
  | 46 => ⟨S_, .f32⟩
  | 47 => ⟨S73728x1024, .i1⟩
  | 48 => ⟨S73728x1024, .f32⟩
  | 49 => ⟨S73728x1024, .f32⟩
  | 50 => ⟨S73728x1024, .f32⟩
  | 51 => ⟨S_, .i32⟩
  | 52 => ⟨S73728, .i32⟩
  | 53 => ⟨S73728, .i1⟩
  | 54 => ⟨S_, .i32⟩
  | 55 => ⟨S73728, .i32⟩
  | 56 => ⟨S73728, .i1⟩
  | 57 => ⟨S73728, .i1⟩
  | 58 => ⟨S73728x1, .i1⟩
  | 59 => ⟨S1x1024x3584, .f32⟩
  | 60 => ⟨S1024x3584, .f32⟩
  | 61 => ⟨S1x1024x3584, .f32⟩
  | 62 => ⟨S1024x3584, .f32⟩
  | 63 => ⟨S1x3584x1024, .f32⟩
  | 64 => ⟨S3584x1024, .f32⟩
  | 65 => ⟨S73728x3584, .f32⟩
  | 66 => ⟨S73728x3584, .f32⟩
  | 67 => ⟨S73728x3584, .f32⟩
  | 68 => ⟨S_, .f32⟩
  | 69 => ⟨S73728x3584, .f32⟩
  | 70 => ⟨S73728x3584, .f32⟩
  | 71 => ⟨S_, .f32⟩
  | 72 => ⟨S73728x3584, .f32⟩
  | 73 => ⟨S73728x3584, .f32⟩
  | 74 => ⟨S73728x3584, .f32⟩
  | 75 => ⟨S73728x3584, .f32⟩
  | 76 => ⟨S73728x3584, .f32⟩
  | 77 => ⟨S73728x1024, .f32⟩
  | 78 => ⟨S_, .f32⟩
  | 79 => ⟨S_, .f32⟩
  | 80 => ⟨S73728x1024, .i1⟩
  | 81 => ⟨S73728x1024, .f32⟩
  | 82 => ⟨S73728x1024, .f32⟩
  | 83 => ⟨S73728x1024, .f32⟩
  | 84 => ⟨S_, .i32⟩
  | 85 => ⟨S73728, .i32⟩
  | 86 => ⟨S73728, .i1⟩
  | 87 => ⟨S_, .i32⟩
  | 88 => ⟨S73728, .i32⟩
  | 89 => ⟨S73728, .i1⟩
  | 90 => ⟨S73728, .i1⟩
  | 91 => ⟨S73728x1, .i1⟩
  | 92 => ⟨S1x1024x3584, .f32⟩
  | 93 => ⟨S1024x3584, .f32⟩
  | 94 => ⟨S1x1024x3584, .f32⟩
  | 95 => ⟨S1024x3584, .f32⟩
  | 96 => ⟨S1x3584x1024, .f32⟩
  | 97 => ⟨S3584x1024, .f32⟩
  | 98 => ⟨S73728x3584, .f32⟩
  | 99 => ⟨S73728x3584, .f32⟩
  | 100 => ⟨S73728x3584, .f32⟩
  | 101 => ⟨S_, .f32⟩
  | 102 => ⟨S73728x3584, .f32⟩
  | 103 => ⟨S73728x3584, .f32⟩
  | 104 => ⟨S_, .f32⟩
  | 105 => ⟨S73728x3584, .f32⟩
  | 106 => ⟨S73728x3584, .f32⟩
  | 107 => ⟨S73728x3584, .f32⟩
  | 108 => ⟨S73728x3584, .f32⟩
  | 109 => ⟨S73728x3584, .f32⟩
  | 110 => ⟨S73728x1024, .f32⟩
  | 111 => ⟨S_, .f32⟩
  | 112 => ⟨S_, .f32⟩
  | 113 => ⟨S73728x1024, .i1⟩
  | 114 => ⟨S73728x1024, .f32⟩
  | 115 => ⟨S73728x1024, .f32⟩
  | 116 => ⟨S73728x1024, .f32⟩
  | 117 => ⟨S_, .i32⟩
  | 118 => ⟨S73728, .i32⟩
  | 119 => ⟨S73728, .i1⟩
  | 120 => ⟨S_, .i32⟩
  | 121 => ⟨S73728, .i32⟩
  | 122 => ⟨S73728, .i1⟩
  | 123 => ⟨S73728, .i1⟩
  | 124 => ⟨S73728x1, .i1⟩
  | 125 => ⟨S1x1024x3584, .f32⟩
  | 126 => ⟨S1024x3584, .f32⟩
  | 127 => ⟨S1x1024x3584, .f32⟩
  | _ => ⟨S72, .i32⟩

abbrev hbmTy0_2 (i : Nat) : BufTy := match i % 128 with
  | 0 => ⟨S1024x3584, .f32⟩
  | 1 => ⟨S1x3584x1024, .f32⟩
  | 2 => ⟨S3584x1024, .f32⟩
  | 3 => ⟨S73728x3584, .f32⟩
  | 4 => ⟨S73728x3584, .f32⟩
  | 5 => ⟨S73728x3584, .f32⟩
  | 6 => ⟨S_, .f32⟩
  | 7 => ⟨S73728x3584, .f32⟩
  | 8 => ⟨S73728x3584, .f32⟩
  | 9 => ⟨S_, .f32⟩
  | 10 => ⟨S73728x3584, .f32⟩
  | 11 => ⟨S73728x3584, .f32⟩
  | 12 => ⟨S73728x3584, .f32⟩
  | 13 => ⟨S73728x3584, .f32⟩
  | 14 => ⟨S73728x3584, .f32⟩
  | 15 => ⟨S73728x1024, .f32⟩
  | 16 => ⟨S_, .f32⟩
  | 17 => ⟨S_, .f32⟩
  | 18 => ⟨S73728x1024, .i1⟩
  | 19 => ⟨S73728x1024, .f32⟩
  | 20 => ⟨S73728x1024, .f32⟩
  | 21 => ⟨S73728x1024, .f32⟩
  | _ => ⟨S72, .i32⟩

abbrev hbmTy (i : Nat) : BufTy := match i / 128 with
  | 0 => hbmTy0_0 i
  | 1 => hbmTy0_1 i
  | 2 => hbmTy0_2 i
  | _ => ⟨S72, .i32⟩

abbrev bufTy : (tb : Table) → Fin (tcTables nBuf tb) → BufTy
  | .hbm, ⟨i, _⟩ => hbmTy i
  | _, _ => ⟨S72, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_c : Ref sig .tc := ⟨.hbm, 14, rfl⟩
abbrev main_v7 : Ref sig .tc := ⟨.hbm, 15, rfl⟩
abbrev main_v8 : Ref sig .tc := ⟨.hbm, 16, rfl⟩
abbrev main_c_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_1 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_v24 : Ref sig .tc := ⟨.hbm, 45, rfl⟩
abbrev main_v25 : Ref sig .tc := ⟨.hbm, 46, rfl⟩
abbrev main_c_2 : Ref sig .tc := ⟨.hbm, 47, rfl⟩
abbrev main_v26 : Ref sig .tc := ⟨.hbm, 48, rfl⟩
abbrev main_v27 : Ref sig .tc := ⟨.hbm, 49, rfl⟩
abbrev main_c_3 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_call2_v0 : Ref sig .tc := ⟨.hbm, 62, rfl⟩
abbrev main_call2_v1 : Ref sig .tc := ⟨.hbm, 63, rfl⟩
abbrev main_call2_cst : Ref sig .tc := ⟨.hbm, 64, rfl⟩
abbrev main_call2_v2 : Ref sig .tc := ⟨.hbm, 65, rfl⟩
abbrev main_call2_v3 : Ref sig .tc := ⟨.hbm, 66, rfl⟩
abbrev main_call2_cst_0 : Ref sig .tc := ⟨.hbm, 67, rfl⟩
abbrev main_call2_v4 : Ref sig .tc := ⟨.hbm, 68, rfl⟩
abbrev main_call2_v5 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_cst_4 : Ref sig .tc := ⟨.hbm, 74, rfl⟩
abbrev main_call3_v0 : Ref sig .tc := ⟨.hbm, 75, rfl⟩
abbrev main_call3_v1 : Ref sig .tc := ⟨.hbm, 76, rfl⟩
abbrev main_call3_v2 : Ref sig .tc := ⟨.hbm, 77, rfl⟩
abbrev main_v43 : Ref sig .tc := ⟨.hbm, 78, rfl⟩
abbrev main_v44 : Ref sig .tc := ⟨.hbm, 79, rfl⟩
abbrev main_c_5 : Ref sig .tc := ⟨.hbm, 80, rfl⟩
abbrev main_v45 : Ref sig .tc := ⟨.hbm, 81, rfl⟩
abbrev main_v46 : Ref sig .tc := ⟨.hbm, 82, rfl⟩
abbrev main_c_6 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_call4_v0 : Ref sig .tc := ⟨.hbm, 95, rfl⟩
abbrev main_call4_v1 : Ref sig .tc := ⟨.hbm, 96, rfl⟩
abbrev main_call4_cst : Ref sig .tc := ⟨.hbm, 97, rfl⟩
abbrev main_call4_v2 : Ref sig .tc := ⟨.hbm, 98, rfl⟩
abbrev main_call4_v3 : Ref sig .tc := ⟨.hbm, 99, rfl⟩
abbrev main_call4_cst_0 : Ref sig .tc := ⟨.hbm, 100, rfl⟩
abbrev main_call4_v4 : Ref sig .tc := ⟨.hbm, 101, rfl⟩
abbrev main_call4_v5 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_cst_7 : Ref sig .tc := ⟨.hbm, 107, rfl⟩
abbrev main_call5_v0 : Ref sig .tc := ⟨.hbm, 108, rfl⟩
abbrev main_call5_v1 : Ref sig .tc := ⟨.hbm, 109, rfl⟩
abbrev main_call5_v2 : Ref sig .tc := ⟨.hbm, 110, rfl⟩
abbrev main_v62 : Ref sig .tc := ⟨.hbm, 111, rfl⟩
abbrev main_v63 : Ref sig .tc := ⟨.hbm, 112, rfl⟩
abbrev main_c_8 : Ref sig .tc := ⟨.hbm, 113, rfl⟩
abbrev main_v64 : Ref sig .tc := ⟨.hbm, 114, rfl⟩
abbrev main_v65 : Ref sig .tc := ⟨.hbm, 115, rfl⟩
abbrev main_c_9 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_call6_v0 : Ref sig .tc := ⟨.hbm, 128, rfl⟩
abbrev main_call6_v1 : Ref sig .tc := ⟨.hbm, 129, rfl⟩
abbrev main_call6_cst : Ref sig .tc := ⟨.hbm, 130, rfl⟩
abbrev main_call6_v2 : Ref sig .tc := ⟨.hbm, 131, rfl⟩
abbrev main_call6_v3 : Ref sig .tc := ⟨.hbm, 132, rfl⟩
abbrev main_call6_cst_0 : Ref sig .tc := ⟨.hbm, 133, rfl⟩
abbrev main_call6_v4 : Ref sig .tc := ⟨.hbm, 134, rfl⟩
abbrev main_call6_v5 : Ref sig .tc := ⟨.hbm, 135, rfl⟩
abbrev main_v77 : Ref sig .tc := ⟨.hbm, 136, rfl⟩
abbrev main_v78 : Ref sig .tc := ⟨.hbm, 137, rfl⟩
abbrev main_v79 : Ref sig .tc := ⟨.hbm, 138, rfl⟩
abbrev main_v80 : Ref sig .tc := ⟨.hbm, 139, rfl⟩
abbrev main_cst_10 : Ref sig .tc := ⟨.hbm, 140, rfl⟩
abbrev main_call7_v0 : Ref sig .tc := ⟨.hbm, 141, rfl⟩
abbrev main_call7_v1 : Ref sig .tc := ⟨.hbm, 142, rfl⟩
abbrev main_call7_v2 : Ref sig .tc := ⟨.hbm, 143, rfl⟩
abbrev main_v81 : Ref sig .tc := ⟨.hbm, 144, rfl⟩
abbrev main_v82 : Ref sig .tc := ⟨.hbm, 145, rfl⟩
abbrev main_c_11 : Ref sig .tc := ⟨.hbm, 146, rfl⟩
abbrev main_v83 : Ref sig .tc := ⟨.hbm, 147, rfl⟩
abbrev main_v84 : Ref sig .tc := ⟨.hbm, 148, rfl⟩
abbrev main_c_12 : Ref sig .tc := ⟨.hbm, 149, rfl⟩
abbrev main_v85 : Ref sig .tc := ⟨.hbm, 150, rfl⟩
abbrev main_v86 : Ref sig .tc := ⟨.hbm, 151, rfl⟩
abbrev main_v87 : Ref sig .tc := ⟨.hbm, 152, rfl⟩
abbrev main_v88 : Ref sig .tc := ⟨.hbm, 153, rfl⟩
abbrev main_v89 : Ref sig .tc := ⟨.hbm, 154, rfl⟩
abbrev main_v90 : Ref sig .tc := ⟨.hbm, 155, rfl⟩
abbrev main_v91 : Ref sig .tc := ⟨.hbm, 156, rfl⟩
abbrev main_v92 : Ref sig .tc := ⟨.hbm, 157, rfl⟩
abbrev main_v93 : Ref sig .tc := ⟨.hbm, 158, rfl⟩
abbrev main_v94 : Ref sig .tc := ⟨.hbm, 159, rfl⟩
abbrev main_v95 : Ref sig .tc := ⟨.hbm, 160, rfl⟩
abbrev main_call8_v0 : Ref sig .tc := ⟨.hbm, 161, rfl⟩
abbrev main_call8_v1 : Ref sig .tc := ⟨.hbm, 162, rfl⟩
abbrev main_call8_cst : Ref sig .tc := ⟨.hbm, 163, rfl⟩
abbrev main_call8_v2 : Ref sig .tc := ⟨.hbm, 164, rfl⟩
abbrev main_call8_v3 : Ref sig .tc := ⟨.hbm, 165, rfl⟩
abbrev main_call8_cst_0 : Ref sig .tc := ⟨.hbm, 166, rfl⟩
abbrev main_call8_v4 : Ref sig .tc := ⟨.hbm, 167, rfl⟩
abbrev main_call8_v5 : Ref sig .tc := ⟨.hbm, 168, rfl⟩
abbrev main_v96 : Ref sig .tc := ⟨.hbm, 169, rfl⟩
abbrev main_v97 : Ref sig .tc := ⟨.hbm, 170, rfl⟩
abbrev main_v98 : Ref sig .tc := ⟨.hbm, 171, rfl⟩
abbrev main_v99 : Ref sig .tc := ⟨.hbm, 172, rfl⟩
abbrev main_cst_13 : Ref sig .tc := ⟨.hbm, 173, rfl⟩
abbrev main_call9_v0 : Ref sig .tc := ⟨.hbm, 174, rfl⟩
abbrev main_call9_v1 : Ref sig .tc := ⟨.hbm, 175, rfl⟩
abbrev main_call9_v2 : Ref sig .tc := ⟨.hbm, 176, rfl⟩
abbrev main_v100 : Ref sig .tc := ⟨.hbm, 177, rfl⟩
abbrev main_v101 : Ref sig .tc := ⟨.hbm, 178, rfl⟩
abbrev main_c_14 : Ref sig .tc := ⟨.hbm, 179, rfl⟩
abbrev main_v102 : Ref sig .tc := ⟨.hbm, 180, rfl⟩
abbrev main_v103 : Ref sig .tc := ⟨.hbm, 181, rfl⟩
abbrev main_c_15 : Ref sig .tc := ⟨.hbm, 182, rfl⟩
abbrev main_v104 : Ref sig .tc := ⟨.hbm, 183, rfl⟩
abbrev main_v105 : Ref sig .tc := ⟨.hbm, 184, rfl⟩
abbrev main_v106 : Ref sig .tc := ⟨.hbm, 185, rfl⟩
abbrev main_v107 : Ref sig .tc := ⟨.hbm, 186, rfl⟩
abbrev main_v108 : Ref sig .tc := ⟨.hbm, 187, rfl⟩
abbrev main_v109 : Ref sig .tc := ⟨.hbm, 188, rfl⟩
abbrev main_v110 : Ref sig .tc := ⟨.hbm, 189, rfl⟩
abbrev main_v111 : Ref sig .tc := ⟨.hbm, 190, rfl⟩
abbrev main_v112 : Ref sig .tc := ⟨.hbm, 191, rfl⟩
abbrev main_v113 : Ref sig .tc := ⟨.hbm, 192, rfl⟩
abbrev main_v114 : Ref sig .tc := ⟨.hbm, 193, rfl⟩
abbrev main_call10_v0 : Ref sig .tc := ⟨.hbm, 194, rfl⟩
abbrev main_call10_v1 : Ref sig .tc := ⟨.hbm, 195, rfl⟩
abbrev main_call10_cst : Ref sig .tc := ⟨.hbm, 196, rfl⟩
abbrev main_call10_v2 : Ref sig .tc := ⟨.hbm, 197, rfl⟩
abbrev main_call10_v3 : Ref sig .tc := ⟨.hbm, 198, rfl⟩
abbrev main_call10_cst_0 : Ref sig .tc := ⟨.hbm, 199, rfl⟩
abbrev main_call10_v4 : Ref sig .tc := ⟨.hbm, 200, rfl⟩
abbrev main_call10_v5 : Ref sig .tc := ⟨.hbm, 201, rfl⟩
abbrev main_v115 : Ref sig .tc := ⟨.hbm, 202, rfl⟩
abbrev main_v116 : Ref sig .tc := ⟨.hbm, 203, rfl⟩
abbrev main_v117 : Ref sig .tc := ⟨.hbm, 204, rfl⟩
abbrev main_v118 : Ref sig .tc := ⟨.hbm, 205, rfl⟩
abbrev main_cst_16 : Ref sig .tc := ⟨.hbm, 206, rfl⟩
abbrev main_call11_v0 : Ref sig .tc := ⟨.hbm, 207, rfl⟩
abbrev main_call11_v1 : Ref sig .tc := ⟨.hbm, 208, rfl⟩
abbrev main_call11_v2 : Ref sig .tc := ⟨.hbm, 209, rfl⟩
abbrev main_v119 : Ref sig .tc := ⟨.hbm, 210, rfl⟩
abbrev main_v120 : Ref sig .tc := ⟨.hbm, 211, rfl⟩
abbrev main_c_17 : Ref sig .tc := ⟨.hbm, 212, rfl⟩
abbrev main_v121 : Ref sig .tc := ⟨.hbm, 213, rfl⟩
abbrev main_v122 : Ref sig .tc := ⟨.hbm, 214, rfl⟩
abbrev main_c_18 : Ref sig .tc := ⟨.hbm, 215, rfl⟩
abbrev main_v123 : Ref sig .tc := ⟨.hbm, 216, rfl⟩
abbrev main_v124 : Ref sig .tc := ⟨.hbm, 217, rfl⟩
abbrev main_v125 : Ref sig .tc := ⟨.hbm, 218, rfl⟩
abbrev main_v126 : Ref sig .tc := ⟨.hbm, 219, rfl⟩
abbrev main_v127 : Ref sig .tc := ⟨.hbm, 220, rfl⟩
abbrev main_v128 : Ref sig .tc := ⟨.hbm, 221, rfl⟩
abbrev main_v129 : Ref sig .tc := ⟨.hbm, 222, rfl⟩
abbrev main_v130 : Ref sig .tc := ⟨.hbm, 223, rfl⟩
abbrev main_v131 : Ref sig .tc := ⟨.hbm, 224, rfl⟩
abbrev main_v132 : Ref sig .tc := ⟨.hbm, 225, rfl⟩
abbrev main_v133 : Ref sig .tc := ⟨.hbm, 226, rfl⟩
abbrev main_call12_v0 : Ref sig .tc := ⟨.hbm, 227, rfl⟩
abbrev main_call12_v1 : Ref sig .tc := ⟨.hbm, 228, rfl⟩
abbrev main_call12_cst : Ref sig .tc := ⟨.hbm, 229, rfl⟩
abbrev main_call12_v2 : Ref sig .tc := ⟨.hbm, 230, rfl⟩
abbrev main_call12_v3 : Ref sig .tc := ⟨.hbm, 231, rfl⟩
abbrev main_call12_cst_0 : Ref sig .tc := ⟨.hbm, 232, rfl⟩
abbrev main_call12_v4 : Ref sig .tc := ⟨.hbm, 233, rfl⟩
abbrev main_call12_v5 : Ref sig .tc := ⟨.hbm, 234, rfl⟩
abbrev main_v134 : Ref sig .tc := ⟨.hbm, 235, rfl⟩
abbrev main_v135 : Ref sig .tc := ⟨.hbm, 236, rfl⟩
abbrev main_v136 : Ref sig .tc := ⟨.hbm, 237, rfl⟩
abbrev main_v137 : Ref sig .tc := ⟨.hbm, 238, rfl⟩
abbrev main_cst_19 : Ref sig .tc := ⟨.hbm, 239, rfl⟩
abbrev main_call13_v0 : Ref sig .tc := ⟨.hbm, 240, rfl⟩
abbrev main_call13_v1 : Ref sig .tc := ⟨.hbm, 241, rfl⟩
abbrev main_call13_v2 : Ref sig .tc := ⟨.hbm, 242, rfl⟩
abbrev main_v138 : Ref sig .tc := ⟨.hbm, 243, rfl⟩
abbrev main_v139 : Ref sig .tc := ⟨.hbm, 244, rfl⟩
abbrev main_c_20 : Ref sig .tc := ⟨.hbm, 245, rfl⟩
abbrev main_v140 : Ref sig .tc := ⟨.hbm, 246, rfl⟩
abbrev main_v141 : Ref sig .tc := ⟨.hbm, 247, rfl⟩
abbrev main_c_21 : Ref sig .tc := ⟨.hbm, 248, rfl⟩
abbrev main_v142 : Ref sig .tc := ⟨.hbm, 249, rfl⟩
abbrev main_v143 : Ref sig .tc := ⟨.hbm, 250, rfl⟩
abbrev main_v144 : Ref sig .tc := ⟨.hbm, 251, rfl⟩
abbrev main_v145 : Ref sig .tc := ⟨.hbm, 252, rfl⟩
abbrev main_v146 : Ref sig .tc := ⟨.hbm, 253, rfl⟩
abbrev main_v147 : Ref sig .tc := ⟨.hbm, 254, rfl⟩
abbrev main_v148 : Ref sig .tc := ⟨.hbm, 255, rfl⟩
abbrev main_v149 : Ref sig .tc := ⟨.hbm, 256, rfl⟩
abbrev main_v150 : Ref sig .tc := ⟨.hbm, 257, rfl⟩
abbrev main_v151 : Ref sig .tc := ⟨.hbm, 258, rfl⟩
abbrev main_v152 : Ref sig .tc := ⟨.hbm, 259, rfl⟩
abbrev main_call14_v0 : Ref sig .tc := ⟨.hbm, 260, rfl⟩
abbrev main_call14_v1 : Ref sig .tc := ⟨.hbm, 261, rfl⟩
abbrev main_call14_cst : Ref sig .tc := ⟨.hbm, 262, rfl⟩
abbrev main_call14_v2 : Ref sig .tc := ⟨.hbm, 263, rfl⟩
abbrev main_call14_v3 : Ref sig .tc := ⟨.hbm, 264, rfl⟩
abbrev main_call14_cst_0 : Ref sig .tc := ⟨.hbm, 265, rfl⟩
abbrev main_call14_v4 : Ref sig .tc := ⟨.hbm, 266, rfl⟩
abbrev main_call14_v5 : Ref sig .tc := ⟨.hbm, 267, rfl⟩
abbrev main_v153 : Ref sig .tc := ⟨.hbm, 268, rfl⟩
abbrev main_v154 : Ref sig .tc := ⟨.hbm, 269, rfl⟩
abbrev main_v155 : Ref sig .tc := ⟨.hbm, 270, rfl⟩
abbrev main_v156 : Ref sig .tc := ⟨.hbm, 271, rfl⟩
abbrev main_cst_22 : Ref sig .tc := ⟨.hbm, 272, rfl⟩
abbrev main_call15_v0 : Ref sig .tc := ⟨.hbm, 273, rfl⟩
abbrev main_call15_v1 : Ref sig .tc := ⟨.hbm, 274, rfl⟩
abbrev main_call15_v2 : Ref sig .tc := ⟨.hbm, 275, rfl⟩
abbrev main_v157 : Ref sig .tc := ⟨.hbm, 276, rfl⟩
abbrev main_v158 : Ref sig .tc := ⟨.hbm, 277, rfl⟩

abbrev nD : Nat := 1
abbrev τ : Topo := Topo.v7x

variable {F : FTy → Type} [FloatOps F]
-- ==== Kernel3.lean ====
abbrev S32768x1024 : Shape := ⟨2, ![32768, 1024]⟩
abbrev S1024x3584 : Shape := ⟨2, ![1024, 3584]⟩
abbrev S3584x1024 : Shape := ⟨2, ![3584, 1024]⟩
abbrev S1024x1024 : Shape := ⟨2, ![1024, 1024]⟩
abbrev S1024x896 : Shape := ⟨2, ![1024, 896]⟩
abbrev S896x1024 : Shape := ⟨2, ![896, 1024]⟩

abbrev nBuf : Space → Nat
  | .hbm => 6
  | .vmem => 12
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S1024x3584, .f32⟩
  | .hbm, ⟨3, _⟩ => ⟨S1024x3584, .f32⟩
  | .hbm, ⟨4, _⟩ => ⟨S3584x1024, .f32⟩
  | .hbm, ⟨5, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x896, .f32⟩
  | .local _ .vmem, ⟨5, _⟩ => ⟨S1024x896, .f32⟩
  | .local _ .vmem, ⟨6, _⟩ => ⟨S1024x896, .f32⟩
  | .local _ .vmem, ⟨7, _⟩ => ⟨S1024x896, .f32⟩
  | .local _ .vmem, ⟨8, _⟩ => ⟨S896x1024, .f32⟩
  | .local _ .vmem, ⟨9, _⟩ => ⟨S896x1024, .f32⟩
  | .local _ .vmem, ⟨10, _⟩ => ⟨S1024x1024, .f32⟩
  | .local _ .vmem, ⟨11, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x896 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S896x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference3Ideal.lean ====
abbrev S32768x1024 : Shape := ⟨2, ![32768, 1024]⟩
abbrev S1024x3584 : Shape := ⟨2, ![1024, 3584]⟩
abbrev S3584x1024 : Shape := ⟨2, ![3584, 1024]⟩
abbrev S32768x3584 : Shape := ⟨2, ![32768, 3584]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S1024x3584, .f32⟩
  | .hbm, ⟨3, _⟩ => ⟨S1024x3584, .f32⟩
  | .hbm, ⟨4, _⟩ => ⟨S3584x1024, .f32⟩
  | .hbm, ⟨5, _⟩ => ⟨S32768x3584, .f32⟩
  | .hbm, ⟨6, _⟩ => ⟨S32768x3584, .f32⟩
  | .hbm, ⟨7, _⟩ => ⟨S32768x3584, .f32⟩
  | .hbm, ⟨8, _⟩ => ⟨S_, .f32⟩
  | .hbm, ⟨9, _⟩ => ⟨S32768x3584, .f32⟩
  | .hbm, ⟨10, _⟩ => ⟨S32768x3584, .f32⟩
  | .hbm, ⟨11, _⟩ => ⟨S_, .f32⟩
  | .hbm, ⟨12, _⟩ => ⟨S32768x3584, .f32⟩
  | .hbm, ⟨13, _⟩ => ⟨S32768x3584, .f32⟩
  | .hbm, ⟨14, _⟩ => ⟨S32768x3584, .f32⟩
  | .hbm, ⟨15, _⟩ => ⟨S32768x3584, .f32⟩
  | .hbm, ⟨16, _⟩ => ⟨S32768x3584, .f32⟩
  | .hbm, ⟨17, _⟩ => ⟨S32768x1024, .f32⟩
  | .hbm, ⟨18, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩

abbrev nD : Nat := 1
abbrev τ : Topo := Topo.v7x

variable {F : FTy → Type} [FloatOps F]
-- ==== Kernel4.lean ====
abbrev S32768 : Shape := ⟨1, ![32768]⟩
abbrev S73728x1024 : Shape := ⟨2, ![73728, 1024]⟩
abbrev S32768x1024 : Shape := ⟨2, ![32768, 1024]⟩
abbrev S32768x128 : Shape := ⟨2, ![32768, 128]⟩
abbrev S512x1024 : Shape := ⟨2, ![512, 1024]⟩
abbrev S512x128 : Shape := ⟨2, ![512, 128]⟩
abbrev S2x512x1024 : Shape := ⟨3, ![2, 512, 1024]⟩
abbrev S2 : Shape := ⟨1, ![2]⟩
abbrev S1 : Shape := ⟨1, ![1]⟩
abbrev S_ : Shape := ⟨0, ![]⟩
abbrev S1x1x1024 : Shape := ⟨3, ![1, 1, 1024]⟩
abbrev S1x1024 : Shape := ⟨2, ![1, 1024]⟩
abbrev S1x512x1024 : Shape := ⟨3, ![1, 512, 1024]⟩
abbrev S512 : Shape := ⟨1, ![512]⟩
abbrev S512x1 : Shape := ⟨2, ![512, 1]⟩

abbrev nBuf : Space → Nat
  | .hbm => 4
  | .vmem => 8
  | .smem => 2
  | _ => 0

abbrev bufTy : (tb : Table) → Fin (tcTables nBuf tb) → BufTy
  | .hbm, ⟨0, _⟩ => ⟨S73728x1024, .f32⟩
  | .hbm, ⟨1, _⟩ => ⟨S32768x1024, .f32⟩
  | .hbm, ⟨2, _⟩ => ⟨S32768x128, .f32⟩
  | .hbm, ⟨3, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x128, .f32⟩
  | .local _ .vmem, ⟨3, _⟩ => ⟨S512x128, .f32⟩
  | .local _ .vmem, ⟨4, _⟩ => ⟨S512x1024, .f32⟩
  | .local _ .vmem, ⟨5, _⟩ => ⟨S512x1024, .f32⟩
  | .local _ .vmem, ⟨6, _⟩ => ⟨S2x512x1024, .f32⟩
  | .local _ .vmem, ⟨7, _⟩ => ⟨S2x512x1024, .f32⟩
  | .local _ .smem, ⟨0, _⟩ => ⟨S32768, .i32⟩
  | .local _ .smem, ⟨1, _⟩ => ⟨S32768, .i32⟩
  | _, _ => ⟨S73728x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_16 : BitVec 32 := 0#32
  let c64_i32 : BitVec 32 := 64#32
  let v29 : BitVec 32 := Scalar.addi c0_i32_16 c64_i32
  let c1_i32_17 : BitVec 32 := 1#32
  ⟨c0_i32_16, v29, c1_i32_17⟩
def k0_off1 (k0_t1 : Fin k0_t1_loop.trips) : Fin 1 → Nat :=
  let c0_i32_20 : BitVec 32 := 0#32
  let c0_i32_16 : BitVec 32 := 0#32
  let c1_i32_17 : BitVec 32 := 1#32
  let arg10 : BitVec 32 := Scf.iv c0_i32_16 c1_i32_17 k0_t1
  let c8_i32 : BitVec 32 := 8#32
  let v30 : BitVec 32 := Scalar.muli arg10 c8_i32
  let c0_i32_19 : BitVec 32 := 0#32
  let v31 : BitVec 32 := Scalar.addi v30 c0_i32_19
  let v32 : BitVec 32 := Scalar.addi c0_i32_20 v31
  let v33 : Index := Scalar.indexCast v32
  ![v33.toNat]
def k0_off2 (k0_t1 : Fin k0_t1_loop.trips) : Fin 3 → Nat :=
  let c0_i32_21 : BitVec 32 := 0#32
  let c0_i32_16 : BitVec 32 := 0#32
  let c1_i32_17 : BitVec 32 := 1#32
  let arg10 : BitVec 32 := Scf.iv c0_i32_16 c1_i32_17 k0_t1
  let c8_i32 : BitVec 32 := 8#32
  let v30 : BitVec 32 := Scalar.muli arg10 c8_i32
  let c0_i32_19 : BitVec 32 := 0#32
  let v31 : BitVec 32 := Scalar.addi v30 c0_i32_19
  let c0_i32_22 : BitVec 32 := 0#32
  ![0, v31.toNat, 0]
def k0_off3 (v34 : BitVec 32) : Fin 2 → Nat :=
  let c0_i32_23 : BitVec 32 := 0#32
  ![v34.toNat, 0]

def k0_chk1 (i : grid0.Coords) (v34 : BitVec 32) : Prop :=
  (∀ (k0_h1 : k0_cond1 i = 1#1), ∀ a, (k0_off3 v34) a + S1x1024.size a ≤ S73728x1024.size a)
theorem k0_off3_inb : ∀ (i : grid0.Coords) (v34 : BitVec 32) (k0_hw1 : k0_chk1 i v34), ∀ (k0_h1 : k0_cond1 i = 1#1), ∀ a, (k0_off3 v34) a + S1x1024.size a ≤ S73728x1024.size a := fun i v34 k0_hw1 k0_h1 => k0_hw1 k0_h1

def k0_off4 (k0_t1 : Fin k0_t1_loop.trips) : Fin 1 → Nat :=
  let c0_i32_20 : BitVec 32 := 0#32
  let c0_i32_16 : BitVec 32 := 0#32
  let c1_i32_17 : BitVec 32 := 1#32
  let arg10 : BitVec 32 := Scf.iv c0_i32_16 c1_i32_17 k0_t1
  let c8_i32 : BitVec 32 := 8#32
  let v30 : BitVec 32 := Scalar.muli arg10 c8_i32
  let c0_i32_19 : BitVec 32 := 0#32
  let v31 : BitVec 32 := Scalar.addi v30 c0_i32_19
  let v32 : BitVec 32 := Scalar.addi c0_i32_20 v31
  let v40 : Index := Scalar.indexCast v32
  ![v40.toNat]
def k0_off5 (k0_t1 : Fin k0_t1_loop.trips) : Fin 3 → Nat :=
  let c1_i32_24 : BitVec 32 := 1#32
  let c0_i32_16 : BitVec 32 := 0#32
  let c1_i32_17 : BitVec 32 := 1#32
  let arg10 : BitVec 32 := Scf.iv c0_i32_16 c1_i32_17 k0_t1
  let c8_i32 : BitVec 32 := 8#32
  let v30 : BitVec 32 := Scalar.muli arg10 c8_i32
  let c0_i32_19 : BitVec 32 := 0#32
  let v31 : BitVec 32 := Scalar.addi v30 c0_i32_19
  let c0_i32_25 : BitVec 32 := 0#32
  ![1, v31.toNat, 0]
def k0_off6 (v41 : BitVec 32) : Fin 2 → Nat :=
  let c0_i32_26 : BitVec 32 := 0#32
  ![v41.toNat, 0]

def k0_chk2 (i : grid0.Coords) (v41 : BitVec 32) : Prop :=
  (∀ (k0_h1 : k0_cond1 i = 1#1), ∀ a, (k0_off6 v41) a + S1x1024.size a ≤ S73728x1024.size a)
theorem k0_off6_inb : ∀ (i : grid0.Coords) (v41 : BitVec 32) (k0_hw2 : k0_chk2 i v41), ∀ (k0_h1 : k0_cond1 i = 1#1), ∀ a, (k0_off6 v41) a + S1x1024.size a ≤ S73728x1024.size a := fun i v41 k0_hw2 k0_h1 => k0_hw2 k0_h1

def k0_off7 (k0_t1 : Fin k0_t1_loop.trips) : Fin 1 → Nat :=
  let c0_i32_29 : BitVec 32 := 0#32
  let c0_i32_16 : BitVec 32 := 0#32
  let c1_i32_17 : BitVec 32 := 1#32
  let arg10 : BitVec 32 := Scf.iv c0_i32_16 c1_i32_17 k0_t1
  let c8_i32_27 : BitVec 32 := 8#32
  let v47 : BitVec 32 := Scalar.muli arg10 c8_i32_27
  let c1_i32_28 : BitVec 32 := 1#32
  let v48 : BitVec 32 := Scalar.addi v47 c1_i32_28
  let v49 : BitVec 32 := Scalar.addi c0_i32_29 v48
  let v50 : Index := Scalar.indexCast v49
  ![v50.toNat]
def k0_off8 (k0_t1 : Fin k0_t1_loop.trips) : Fin 3 → Nat :=
  let c0_i32_30 : BitVec 32 := 0#32
  let c0_i32_16 : BitVec 32 := 0#32
  let c1_i32_17 : BitVec 32 := 1#32
  let arg10 : BitVec 32 := Scf.iv c0_i32_16 c1_i32_17 k0_t1
  let c8_i32_27 : BitVec 32 := 8#32
  let v47 : BitVec 32 := Scalar.muli arg10 c8_i32_27
  let c1_i32_28 : BitVec 32 := 1#32
  let v48 : BitVec 32 := Scalar.addi v47 c1_i32_28
  let c0_i32_31 : BitVec 32 := 0#32
  ![0, v48.toNat, 0]
def k0_off9 (v51 : BitVec 32) : Fin 2 → Nat :=
  let c0_i32_32 : BitVec 32 := 0#32
  ![v51.toNat, 0]

def k0_chk3 (i : grid0.Coords) (v51 : BitVec 32) : Prop :=
  (∀ (k0_h1 : k0_cond1 i = 1#1), ∀ a, (k0_off9 v51) a + S1x1024.size a ≤ S73728x1024.size a)
theorem k0_off9_inb : ∀ (i : grid0.Coords) (v51 : BitVec 32) (k0_hw3 : k0_chk3 i v51), ∀ (k0_h1 : k0_cond1 i = 1#1), ∀ a, (k0_off9 v51) a + S1x1024.size a ≤ S73728x1024.size a := fun i v51 k0_hw3 k0_h1 => k0_hw3 k0_h1

def k0_off10 (k0_t1 : Fin k0_t1_loop.trips) : Fin 1 → Nat :=
  let c0_i32_29 : BitVec 32 := 0#32
  let c0_i32_16 : BitVec 32 := 0#32
  let c1_i32_17 : BitVec 32 := 1#32
  let arg10 : BitVec 32 := Scf.iv c0_i32_16 c1_i32_17 k0_t1
  let c8_i32_27 : BitVec 32 := 8#32
  let v47 : BitVec 32 := Scalar.muli arg10 c8_i32_27
  let c1_i32_28 : BitVec 32 := 1#32
  let v48 : BitVec 32 := Scalar.addi v47 c1_i32_28
  let v49 : BitVec 32 := Scalar.addi c0_i32_29 v48
  let v57 : Index := Scalar.indexCast v49
  ![v57.toNat]
def k0_off11 (k0_t1 : Fin k0_t1_loop.trips) : Fin 3 → Nat :=
  let c1_i32_33 : BitVec 32 := 1#32
  let c0_i32_16 : BitVec 32 := 0#32
  let c1_i32_17 : BitVec 32 := 1#32
  let arg10 : BitVec 32 := Scf.iv c0_i32_16 c1_i32_17 k0_t1
  let c8_i32_27 : BitVec 32 := 8#32
  let v47 : BitVec 32 := Scalar.muli arg10 c8_i32_27
  let c1_i32_28 : BitVec 32 := 1#32
  let v48 : BitVec 32 := Scalar.addi v47 c1_i32_28
  let c0_i32_34 : BitVec 32 := 0#32
  ![1, v48.toNat, 0]
def k0_off12 (v58 : BitVec 32) : Fin 2 → Nat :=
  let c0_i32_35 : BitVec 32 := 0#32
  ![v58.toNat, 0]

def k0_chk4 (i : grid0.Coords) (v58 : BitVec 32) : Prop :=
  (∀ (k0_h1 : k0_cond1 i = 1#1), ∀ a, (k0_off12 v58) a + S1x1024.size a ≤ S73728x1024.size a)
theorem k0_off12_inb : ∀ (i : grid0.Coords) (v58 : BitVec 32) (k0_hw4 : k0_chk4 i v58), ∀ (k0_h1 : k0_cond1 i = 1#1), ∀ a, (k0_off12 v58) a + S1x1024.size a ≤ S73728x1024.size a := fun i v58 k0_hw4 k0_h1 => k0_hw4 k0_h1

def k0_off13 (k0_t1 : Fin k0_t1_loop.trips) : Fin 1 → Nat :=
  let c0_i32_38 : BitVec 32 := 0#32
  let c0_i32_16 : BitVec 32 := 0#32
  let c1_i32_17 : BitVec 32 := 1#32
  let arg10 : BitVec 32 := Scf.iv c0_i32_16 c1_i32_17 k0_t1
  let c8_i32_36 : BitVec 32 := 8#32
  let v64 : BitVec 32 := Scalar.muli arg10 c8_i32_36
  let c2_i32_37 : BitVec 32 := 2#32
  let v65 : BitVec 32 := Scalar.addi v64 c2_i32_37
  let v66 : BitVec 32 := Scalar.addi c0_i32_38 v65
  let v67 : Index := Scalar.indexCast v66
  ![v67.toNat]
def k0_off14 (k0_t1 : Fin k0_t1_loop.trips) : Fin 3 → Nat :=
  let c0_i32_39 : BitVec 32 := 0#32
  let c0_i32_16 : BitVec 32 := 0#32
  let c1_i32_17 : BitVec 32 := 1#32
  let arg10 : BitVec 32 := Scf.iv c0_i32_16 c1_i32_17 k0_t1
  let c8_i32_36 : BitVec 32 := 8#32
  let v64 : BitVec 32 := Scalar.muli arg10 c8_i32_36
  let c2_i32_37 : BitVec 32 := 2#32
  let v65 : BitVec 32 := Scalar.addi v64 c2_i32_37
  let c0_i32_40 : BitVec 32 := 0#32
  ![0, v65.toNat, 0]
def k0_off15 (v68 : BitVec 32) : Fin 2 → Nat :=
  let c0_i32_41 : BitVec 32 := 0#32
  ![v68.toNat, 0]

def k0_chk5 (i : grid0.Coords) (v68 : BitVec 32) : Prop :=
  (∀ (k0_h1 : k0_cond1 i = 1#1), ∀ a, (k0_off15 v68) a + S1x1024.size a ≤ S73728x1024.size a)
theorem k0_off15_inb : ∀ (i : grid0.Coords) (v68 : BitVec 32) (k0_hw5 : k0_chk5 i v68), ∀ (k0_h1 : k0_cond1 i = 1#1), ∀ a, (k0_off15 v68) a + S1x1024.size a ≤ S73728x1024.size a := fun i v68 k0_hw5 k0_h1 => k0_hw5 k0_h1

def k0_off16 (k0_t1 : Fin k0_t1_loop.trips) : Fin 1 → Nat :=
  let c0_i32_38 : BitVec 32 := 0#32
  let c0_i32_16 : BitVec 32 := 0#32
  let c1_i32_17 : BitVec 32 := 1#32
  let arg10 : BitVec 32 := Scf.iv c0_i32_16 c1_i32_17 k0_t1
  let c8_i32_36 : BitVec 32 := 8#32
  let v64 : BitVec 32 := Scalar.muli arg10 c8_i32_36
  let c2_i32_37 : BitVec 32 := 2#32
  let v65 : BitVec 32 := Scalar.addi v64 c2_i32_37
  let v66 : BitVec 32 := Scalar.addi c0_i32_38 v65
  let v74 : Index := Scalar.indexCast v66
  ![v74.toNat]
def k0_off17 (k0_t1 : Fin k0_t1_loop.trips) : Fin 3 → Nat :=
  let c1_i32_42 : BitVec 32 := 1#32
  let c0_i32_16 : BitVec 32 := 0#32
  let c1_i32_17 : BitVec 32 := 1#32
  let arg10 : BitVec 32 := Scf.iv c0_i32_16 c1_i32_17 k0_t1
  let c8_i32_36 : BitVec 32 := 8#32
  let v64 : BitVec 32 := Scalar.muli arg10 c8_i32_36
  let c2_i32_37 : BitVec 32 := 2#32
  let v65 : BitVec 32 := Scalar.addi v64 c2_i32_37
  let c0_i32_43 : BitVec 32 := 0#32
  ![1, v65.toNat, 0]
def k0_off18 (v75 : BitVec 32) : Fin 2 → Nat :=
  let c0_i32_44 : BitVec 32 := 0#32
  ![v75.toNat, 0]

def k0_chk6 (i : grid0.Coords) (v75 : BitVec 32) : Prop :=
  (∀ (k0_h1 : k0_cond1 i = 1#1), ∀ a, (k0_off18 v75) a + S1x1024.size a ≤ S73728x1024.size a)
theorem k0_off18_inb : ∀ (i : grid0.Coords) (v75 : BitVec 32) (k0_hw6 : k0_chk6 i v75), ∀ (k0_h1 : k0_cond1 i = 1#1), ∀ a, (k0_off18 v75) a + S1x1024.size a ≤ S73728x1024.size a := fun i v75 k0_hw6 k0_h1 => k0_hw6 k0_h1

def k0_off19 (k0_t1 : Fin k0_t1_loop.trips) : Fin 1 → Nat :=
  let c0_i32_46 : BitVec 32 := 0#32
  let c0_i32_16 : BitVec 32 := 0#32
  let c1_i32_17 : BitVec 32 := 1#32
  let arg10 : BitVec 32 := Scf.iv c0_i32_16 c1_i32_17 k0_t1
  let c8_i32_45 : BitVec 32 := 8#32
  let v81 : BitVec 32 := Scalar.muli arg10 c8_i32_45
  let c3_i32 : BitVec 32 := 3#32
  let v82 : BitVec 32 := Scalar.addi v81 c3_i32
  let v83 : BitVec 32 := Scalar.addi c0_i32_46 v82
  let v84 : Index := Scalar.indexCast v83
  ![v84.toNat]
def k0_off20 (k0_t1 : Fin k0_t1_loop.trips) : Fin 3 → Nat :=
  let c0_i32_47 : BitVec 32 := 0#32
  let c0_i32_16 : BitVec 32 := 0#32
  let c1_i32_17 : BitVec 32 := 1#32
  let arg10 : BitVec 32 := Scf.iv c0_i32_16 c1_i32_17 k0_t1
  let c8_i32_45 : BitVec 32 := 8#32
  let v81 : BitVec 32 := Scalar.muli arg10 c8_i32_45
  let c3_i32 : BitVec 32 := 3#32
  let v82 : BitVec 32 := Scalar.addi v81 c3_i32
  let c0_i32_48 : BitVec 32 := 0#32
  ![0, v82.toNat, 0]
def k0_off21 (v85 : BitVec 32) : Fin 2 → Nat :=
  let c0_i32_49 : BitVec 32 := 0#32
  ![v85.toNat, 0]

def k0_chk7 (i : grid0.Coords) (v85 : BitVec 32) : Prop :=
  (∀ (k0_h1 : k0_cond1 i = 1#1), ∀ a, (k0_off21 v85) a + S1x1024.size a ≤ S73728x1024.size a)
theorem k0_off21_inb : ∀ (i : grid0.Coords) (v85 : BitVec 32) (k0_hw7 : k0_chk7 i v85), ∀ (k0_h1 : k0_cond1 i = 1#1), ∀ a, (k0_off21 v85) a + S1x1024.size a ≤ S73728x1024.size a := fun i v85 k0_hw7 k0_h1 => k0_hw7 k0_h1

def k0_off22 (k0_t1 : Fin k0_t1_loop.trips) : Fin 1 → Nat :=
  let c0_i32_46 : BitVec 32 := 0#32
  let c0_i32_16 : BitVec 32 := 0#32
  let c1_i32_17 : BitVec 32 := 1#32
  let arg10 : BitVec 32 := Scf.iv c0_i32_16 c1_i32_17 k0_t1
  let c8_i32_45 : BitVec 32 := 8#32
  let v81 : BitVec 32 := Scalar.muli arg10 c8_i32_45
  let c3_i32 : BitVec 32 := 3#32
  let v82 : BitVec 32 := Scalar.addi v81 c3_i32
  let v83 : BitVec 32 := Scalar.addi c0_i32_46 v82
  let v91 : Index := Scalar.indexCast v83
  ![v91.toNat]
def k0_off23 (k0_t1 : Fin k0_t1_loop.trips) : Fin 3 → Nat :=
  let c1_i32_50 : BitVec 32 := 1#32
  let c0_i32_16 : BitVec 32 := 0#32
  let c1_i32_17 : BitVec 32 := 1#32
  let arg10 : BitVec 32 := Scf.iv c0_i32_16 c1_i32_17 k0_t1
  let c8_i32_45 : BitVec 32 := 8#32
  let v81 : BitVec 32 := Scalar.muli arg10 c8_i32_45
  let c3_i32 : BitVec 32 := 3#32
  let v82 : BitVec 32 := Scalar.addi v81 c3_i32
  let c0_i32_51 : BitVec 32 := 0#32
  ![1, v82.toNat, 0]
def k0_off24 (v92 : BitVec 32) : Fin 2 → Nat :=
  let c0_i32_52 : BitVec 32 := 0#32
  ![v92.toNat, 0]

def k0_chk8 (i : grid0.Coords) (v92 : BitVec 32) : Prop :=
  (∀ (k0_h1 : k0_cond1 i = 1#1), ∀ a, (k0_off24 v92) a + S1x1024.size a ≤ S73728x1024.size a)
theorem k0_off24_inb : ∀ (i : grid0.Coords) (v92 : BitVec 32) (k0_hw8 : k0_chk8 i v92), ∀ (k0_h1 : k0_cond1 i = 1#1), ∀ a, (k0_off24 v92) a + S1x1024.size a ≤ S73728x1024.size a := fun i v92 k0_hw8 k0_h1 => k0_hw8 k0_h1

def k0_off25 (k0_t1 : Fin k0_t1_loop.trips) : Fin 1 → Nat :=
  let c0_i32_54 : BitVec 32 := 0#32
  let c0_i32_16 : BitVec 32 := 0#32
  let c1_i32_17 : BitVec 32 := 1#32
  let arg10 : BitVec 32 := Scf.iv c0_i32_16 c1_i32_17 k0_t1
  let c8_i32_53 : BitVec 32 := 8#32
  let v98 : BitVec 32 := Scalar.muli arg10 c8_i32_53
  let c4_i32 : BitVec 32 := 4#32
  let v99 : BitVec 32 := Scalar.addi v98 c4_i32
  let v100 : BitVec 32 := Scalar.addi c0_i32_54 v99
  let v101 : Index := Scalar.indexCast v100
  ![v101.toNat]
def k0_off26 (k0_t1 : Fin k0_t1_loop.trips) : Fin 3 → Nat :=
  let c0_i32_55 : BitVec 32 := 0#32
  let c0_i32_16 : BitVec 32 := 0#32
  let c1_i32_17 : BitVec 32 := 1#32
  let arg10 : BitVec 32 := Scf.iv c0_i32_16 c1_i32_17 k0_t1
  let c8_i32_53 : BitVec 32 := 8#32
  let v98 : BitVec 32 := Scalar.muli arg10 c8_i32_53
  let c4_i32 : BitVec 32 := 4#32
  let v99 : BitVec 32 := Scalar.addi v98 c4_i32
  let c0_i32_56 : BitVec 32 := 0#32
  ![0, v99.toNat, 0]
def k0_off27 (v102 : BitVec 32) : Fin 2 → Nat :=
  let c0_i32_57 : BitVec 32 := 0#32
  ![v102.toNat, 0]

def k0_chk9 (i : grid0.Coords) (v102 : BitVec 32) : Prop :=
  (∀ (k0_h1 : k0_cond1 i = 1#1), ∀ a, (k0_off27 v102) a + S1x1024.size a ≤ S73728x1024.size a)
theorem k0_off27_inb : ∀ (i : grid0.Coords) (v102 : BitVec 32) (k0_hw9 : k0_chk9 i v102), ∀ (k0_h1 : k0_cond1 i = 1#1), ∀ a, (k0_off27 v102) a + S1x1024.size a ≤ S73728x1024.size a := fun i v102 k0_hw9 k0_h1 => k0_hw9 k0_h1

def k0_off28 (k0_t1 : Fin k0_t1_loop.trips) : Fin 1 → Nat :=
  let c0_i32_54 : BitVec 32 := 0#32
  let c0_i32_16 : BitVec 32 := 0#32
  let c1_i32_17 : BitVec 32 := 1#32
  let arg10 : BitVec 32 := Scf.iv c0_i32_16 c1_i32_17 k0_t1
  let c8_i32_53 : BitVec 32 := 8#32
  let v98 : BitVec 32 := Scalar.muli arg10 c8_i32_53
  let c4_i32 : BitVec 32 := 4#32
  let v99 : BitVec 32 := Scalar.addi v98 c4_i32
  let v100 : BitVec 32 := Scalar.addi c0_i32_54 v99
  let v108 : Index := Scalar.indexCast v100
  ![v108.toNat]
def k0_off29 (k0_t1 : Fin k0_t1_loop.trips) : Fin 3 → Nat :=
  let c1_i32_58 : BitVec 32 := 1#32
  let c0_i32_16 : BitVec 32 := 0#32
  let c1_i32_17 : BitVec 32 := 1#32
  let arg10 : BitVec 32 := Scf.iv c0_i32_16 c1_i32_17 k0_t1
  let c8_i32_53 : BitVec 32 := 8#32
  let v98 : BitVec 32 := Scalar.muli arg10 c8_i32_53
  let c4_i32 : BitVec 32 := 4#32
  let v99 : BitVec 32 := Scalar.addi v98 c4_i32
  let c0_i32_59 : BitVec 32 := 0#32
  ![1, v99.toNat, 0]
def k0_off30 (v109 : BitVec 32) : Fin 2 → Nat :=
  let c0_i32_60 : BitVec 32 := 0#32
  ![v109.toNat, 0]

def k0_chk10 (i : grid0.Coords) (v109 : BitVec 32) : Prop :=
  (∀ (k0_h1 : k0_cond1 i = 1#1), ∀ a, (k0_off30 v109) a + S1x1024.size a ≤ S73728x1024.size a)
theorem k0_off30_inb : ∀ (i : grid0.Coords) (v109 : BitVec 32) (k0_hw10 : k0_chk10 i v109), ∀ (k0_h1 : k0_cond1 i = 1#1), ∀ a, (k0_off30 v109) a + S1x1024.size a ≤ S73728x1024.size a := fun i v109 k0_hw10 k0_h1 => k0_hw10 k0_h1

def k0_off31 (k0_t1 : Fin k0_t1_loop.trips) : Fin 1 → Nat :=
  let c0_i32_62 : BitVec 32 := 0#32
  let c0_i32_16 : BitVec 32 := 0#32
  let c1_i32_17 : BitVec 32 := 1#32
  let arg10 : BitVec 32 := Scf.iv c0_i32_16 c1_i32_17 k0_t1
  let c8_i32_61 : BitVec 32 := 8#32
  let v115 : BitVec 32 := Scalar.muli arg10 c8_i32_61
  let c5_i32 : BitVec 32 := 5#32
  let v116 : BitVec 32 := Scalar.addi v115 c5_i32
  let v117 : BitVec 32 := Scalar.addi c0_i32_62 v116
  let v118 : Index := Scalar.indexCast v117
  ![v118.toNat]
def k0_off32 (k0_t1 : Fin k0_t1_loop.trips) : Fin 3 → Nat :=
  let c0_i32_63 : BitVec 32 := 0#32
  let c0_i32_16 : BitVec 32 := 0#32
  let c1_i32_17 : BitVec 32 := 1#32
  let arg10 : BitVec 32 := Scf.iv c0_i32_16 c1_i32_17 k0_t1
  let c8_i32_61 : BitVec 32 := 8#32
  let v115 : BitVec 32 := Scalar.muli arg10 c8_i32_61
  let c5_i32 : BitVec 32 := 5#32
  let v116 : BitVec 32 := Scalar.addi v115 c5_i32
  let c0_i32_64 : BitVec 32 := 0#32
  ![0, v116.toNat, 0]
def k0_off33 (v119 : BitVec 32) : Fin 2 → Nat :=
  let c0_i32_65 : BitVec 32 := 0#32
  ![v119.toNat, 0]

def k0_chk11 (i : grid0.Coords) (v119 : BitVec 32) : Prop :=
  (∀ (k0_h1 : k0_cond1 i = 1#1), ∀ a, (k0_off33 v119) a + S1x1024.size a ≤ S73728x1024.size a)
theorem k0_off33_inb : ∀ (i : grid0.Coords) (v119 : BitVec 32) (k0_hw11 : k0_chk11 i v119), ∀ (k0_h1 : k0_cond1 i = 1#1), ∀ a, (k0_off33 v119) a + S1x1024.size a ≤ S73728x1024.size a := fun i v119 k0_hw11 k0_h1 => k0_hw11 k0_h1

def k0_off34 (k0_t1 : Fin k0_t1_loop.trips) : Fin 1 → Nat :=
  let c0_i32_62 : BitVec 32 := 0#32
  let c0_i32_16 : BitVec 32 := 0#32
  let c1_i32_17 : BitVec 32 := 1#32
  let arg10 : BitVec 32 := Scf.iv c0_i32_16 c1_i32_17 k0_t1
  let c8_i32_61 : BitVec 32 := 8#32
  let v115 : BitVec 32 := Scalar.muli arg10 c8_i32_61
  let c5_i32 : BitVec 32 := 5#32
  let v116 : BitVec 32 := Scalar.addi v115 c5_i32
  let v117 : BitVec 32 := Scalar.addi c0_i32_62 v116
  let v125 : Index := Scalar.indexCast v117
  ![v125.toNat]
def k0_off35 (k0_t1 : Fin k0_t1_loop.trips) : Fin 3 → Nat :=
  let c1_i32_66 : BitVec 32 := 1#32
  let c0_i32_16 : BitVec 32 := 0#32
  let c1_i32_17 : BitVec 32 := 1#32
  let arg10 : BitVec 32 := Scf.iv c0_i32_16 c1_i32_17 k0_t1
  let c8_i32_61 : BitVec 32 := 8#32
  let v115 : BitVec 32 := Scalar.muli arg10 c8_i32_61
  let c5_i32 : BitVec 32 := 5#32
  let v116 : BitVec 32 := Scalar.addi v115 c5_i32
  let c0_i32_67 : BitVec 32 := 0#32
  ![1, v116.toNat, 0]
def k0_off36 (v126 : BitVec 32) : Fin 2 → Nat :=
  let c0_i32_68 : BitVec 32 := 0#32
  ![v126.toNat, 0]

def k0_chk12 (i : grid0.Coords) (v126 : BitVec 32) : Prop :=
  (∀ (k0_h1 : k0_cond1 i = 1#1), ∀ a, (k0_off36 v126) a + S1x1024.size a ≤ S73728x1024.size a)
theorem k0_off36_inb : ∀ (i : grid0.Coords) (v126 : BitVec 32) (k0_hw12 : k0_chk12 i v126), ∀ (k0_h1 : k0_cond1 i = 1#1), ∀ a, (k0_off36 v126) a + S1x1024.size a ≤ S73728x1024.size a := fun i v126 k0_hw12 k0_h1 => k0_hw12 k0_h1

def k0_off37 (k0_t1 : Fin k0_t1_loop.trips) : Fin 1 → Nat :=
  let c0_i32_70 : BitVec 32 := 0#32
  let c0_i32_16 : BitVec 32 := 0#32
  let c1_i32_17 : BitVec 32 := 1#32
  let arg10 : BitVec 32 := Scf.iv c0_i32_16 c1_i32_17 k0_t1
  let c8_i32_69 : BitVec 32 := 8#32
  let v132 : BitVec 32 := Scalar.muli arg10 c8_i32_69
  let c6_i32 : BitVec 32 := 6#32
  let v133 : BitVec 32 := Scalar.addi v132 c6_i32
  let v134 : BitVec 32 := Scalar.addi c0_i32_70 v133
  let v135 : Index := Scalar.indexCast v134
  ![v135.toNat]
def k0_off38 (k0_t1 : Fin k0_t1_loop.trips) : Fin 3 → Nat :=
  let c0_i32_71 : BitVec 32 := 0#32
  let c0_i32_16 : BitVec 32 := 0#32
  let c1_i32_17 : BitVec 32 := 1#32
  let arg10 : BitVec 32 := Scf.iv c0_i32_16 c1_i32_17 k0_t1
  let c8_i32_69 : BitVec 32 := 8#32
  let v132 : BitVec 32 := Scalar.muli arg10 c8_i32_69
  let c6_i32 : BitVec 32 := 6#32
  let v133 : BitVec 32 := Scalar.addi v132 c6_i32
  let c0_i32_72 : BitVec 32 := 0#32
  ![0, v133.toNat, 0]
def k0_off39 (v136 : BitVec 32) : Fin 2 → Nat :=
  let c0_i32_73 : BitVec 32 := 0#32
  ![v136.toNat, 0]

def k0_chk13 (i : grid0.Coords) (v136 : BitVec 32) : Prop :=
  (∀ (k0_h1 : k0_cond1 i = 1#1), ∀ a, (k0_off39 v136) a + S1x1024.size a ≤ S73728x1024.size a)
theorem k0_off39_inb : ∀ (i : grid0.Coords) (v136 : BitVec 32) (k0_hw13 : k0_chk13 i v136), ∀ (k0_h1 : k0_cond1 i = 1#1), ∀ a, (k0_off39 v136) a + S1x1024.size a ≤ S73728x1024.size a := fun i v136 k0_hw13 k0_h1 => k0_hw13 k0_h1

def k0_off40 (k0_t1 : Fin k0_t1_loop.trips) : Fin 1 → Nat :=
  let c0_i32_70 : BitVec 32 := 0#32
  let c0_i32_16 : BitVec 32 := 0#32
  let c1_i32_17 : BitVec 32 := 1#32
  let arg10 : BitVec 32 := Scf.iv c0_i32_16 c1_i32_17 k0_t1
  let c8_i32_69 : BitVec 32 := 8#32
  let v132 : BitVec 32 := Scalar.muli arg10 c8_i32_69
  let c6_i32 : BitVec 32 := 6#32
  let v133 : BitVec 32 := Scalar.addi v132 c6_i32
  let v134 : BitVec 32 := Scalar.addi c0_i32_70 v133
  let v142 : Index := Scalar.indexCast v134
  ![v142.toNat]
def k0_off41 (k0_t1 : Fin k0_t1_loop.trips) : Fin 3 → Nat :=
  let c1_i32_74 : BitVec 32 := 1#32
  let c0_i32_16 : BitVec 32 := 0#32
  let c1_i32_17 : BitVec 32 := 1#32
  let arg10 : BitVec 32 := Scf.iv c0_i32_16 c1_i32_17 k0_t1
  let c8_i32_69 : BitVec 32 := 8#32
  let v132 : BitVec 32 := Scalar.muli arg10 c8_i32_69
  let c6_i32 : BitVec 32 := 6#32
  let v133 : BitVec 32 := Scalar.addi v132 c6_i32
  let c0_i32_75 : BitVec 32 := 0#32
  ![1, v133.toNat, 0]
def k0_off42 (v143 : BitVec 32) : Fin 2 → Nat :=
  let c0_i32_76 : BitVec 32 := 0#32
  ![v143.toNat, 0]

def k0_chk14 (i : grid0.Coords) (v143 : BitVec 32) : Prop :=
  (∀ (k0_h1 : k0_cond1 i = 1#1), ∀ a, (k0_off42 v143) a + S1x1024.size a ≤ S73728x1024.size a)
theorem k0_off42_inb : ∀ (i : grid0.Coords) (v143 : BitVec 32) (k0_hw14 : k0_chk14 i v143), ∀ (k0_h1 : k0_cond1 i = 1#1), ∀ a, (k0_off42 v143) a + S1x1024.size a ≤ S73728x1024.size a := fun i v143 k0_hw14 k0_h1 => k0_hw14 k0_h1

def k0_off43 (k0_t1 : Fin k0_t1_loop.trips) : Fin 1 → Nat :=
  let c0_i32_78 : BitVec 32 := 0#32
  let c0_i32_16 : BitVec 32 := 0#32
  let c1_i32_17 : BitVec 32 := 1#32
  let arg10 : BitVec 32 := Scf.iv c0_i32_16 c1_i32_17 k0_t1
  let c8_i32_77 : BitVec 32 := 8#32
  let v149 : BitVec 32 := Scalar.muli arg10 c8_i32_77
  let c7_i32 : BitVec 32 := 7#32
  let v150 : BitVec 32 := Scalar.addi v149 c7_i32
  let v151 : BitVec 32 := Scalar.addi c0_i32_78 v150
  let v152 : Index := Scalar.indexCast v151
  ![v152.toNat]
def k0_off44 (k0_t1 : Fin k0_t1_loop.trips) : Fin 3 → Nat :=
  let c0_i32_79 : BitVec 32 := 0#32
  let c0_i32_16 : BitVec 32 := 0#32
  let c1_i32_17 : BitVec 32 := 1#32
  let arg10 : BitVec 32 := Scf.iv c0_i32_16 c1_i32_17 k0_t1
  let c8_i32_77 : BitVec 32 := 8#32
  let v149 : BitVec 32 := Scalar.muli arg10 c8_i32_77
  let c7_i32 : BitVec 32 := 7#32
  let v150 : BitVec 32 := Scalar.addi v149 c7_i32
  let c0_i32_80 : BitVec 32 := 0#32
  ![0, v150.toNat, 0]
def k0_off45 (v153 : BitVec 32) : Fin 2 → Nat :=
  let c0_i32_81 : BitVec 32 := 0#32
  ![v153.toNat, 0]

def k0_chk15 (i : grid0.Coords) (v153 : BitVec 32) : Prop :=
  (∀ (k0_h1 : k0_cond1 i = 1#1), ∀ a, (k0_off45 v153) a + S1x1024.size a ≤ S73728x1024.size a)
theorem k0_off45_inb : ∀ (i : grid0.Coords) (v153 : BitVec 32) (k0_hw15 : k0_chk15 i v153), ∀ (k0_h1 : k0_cond1 i = 1#1), ∀ a, (k0_off45 v153) a + S1x1024.size a ≤ S73728x1024.size a := fun i v153 k0_hw15 k0_h1 => k0_hw15 k0_h1

def k0_off46 (k0_t1 : Fin k0_t1_loop.trips) : Fin 1 → Nat :=
  let c0_i32_78 : BitVec 32 := 0#32
  let c0_i32_16 : BitVec 32 := 0#32
  let c1_i32_17 : BitVec 32 := 1#32
  let arg10 : BitVec 32 := Scf.iv c0_i32_16 c1_i32_17 k0_t1
  let c8_i32_77 : BitVec 32 := 8#32
  let v149 : BitVec 32 := Scalar.muli arg10 c8_i32_77
  let c7_i32 : BitVec 32 := 7#32
  let v150 : BitVec 32 := Scalar.addi v149 c7_i32
  let v151 : BitVec 32 := Scalar.addi c0_i32_78 v150
  let v159 : Index := Scalar.indexCast v151
  ![v159.toNat]
def k0_off47 (k0_t1 : Fin k0_t1_loop.trips) : Fin 3 → Nat :=
  let c1_i32_82 : BitVec 32 := 1#32
  let c0_i32_16 : BitVec 32 := 0#32
  let c1_i32_17 : BitVec 32 := 1#32
  let arg10 : BitVec 32 := Scf.iv c0_i32_16 c1_i32_17 k0_t1
  let c8_i32_77 : BitVec 32 := 8#32
  let v149 : BitVec 32 := Scalar.muli arg10 c8_i32_77
  let c7_i32 : BitVec 32 := 7#32
  let v150 : BitVec 32 := Scalar.addi v149 c7_i32
  let c0_i32_83 : BitVec 32 := 0#32
  ![1, v150.toNat, 0]
def k0_off48 (v160 : BitVec 32) : Fin 2 → Nat :=
  let c0_i32_84 : BitVec 32 := 0#32
  ![v160.toNat, 0]

def k0_chk16 (i : grid0.Coords) (v160 : BitVec 32) : Prop :=
  (∀ (k0_h1 : k0_cond1 i = 1#1), ∀ a, (k0_off48 v160) a + S1x1024.size a ≤ S73728x1024.size a)
theorem k0_off48_inb : ∀ (i : grid0.Coords) (v160 : BitVec 32) (k0_hw16 : k0_chk16 i v160), ∀ (k0_h1 : k0_cond1 i = 1#1), ∀ a, (k0_off48 v160) a + S1x1024.size a ≤ S73728x1024.size a := fun i v160 k0_hw16 k0_h1 => k0_hw16 k0_h1

def k0_cond2 (i : grid0.Coords) : BitVec 1 :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_5 : BitVec 32 := 0#32
  let v13 : BitVec 1 := Scalar.cmpi .eq v12 c0_i32_5
  let v14 : BitVec 32 := Scalar.extui v13
  let c0_i32_6 : BitVec 32 := 0#32
  let v15 : BitVec 1 := Scalar.cmpi .ne v14 c0_i32_6
  v15

def k0_cond3 (i : grid0.Coords) : BitVec 1 :=
  let arg0 : BitVec 32 := BitVec.ofNat 32 (i 0).val
  let c1_i32_15 : BitVec 32 := 1#32
  let v29 : BitVec 32 := Scalar.addi arg0 c1_i32_15
  let c64_i32 : BitVec 32 := 64#32
  let v30 : BitVec 1 := Scalar.cmpi .slt v29 c64_i32
  let v31 : BitVec 32 := Scalar.extui v30
  let c0_i32_16 : BitVec 32 := 0#32
  let v32 : BitVec 1 := Scalar.cmpi .ne v31 c0_i32_16
  v32

@[reducible] def k0_t2_loop : Scf.Loop 32 :=
  let c0_i32_36 : BitVec 32 := 0#32
  let c64_i32_37 : BitVec 32 := 64#32
  let v61 : BitVec 32 := Scalar.addi c0_i32_36 c64_i32_37
  let c1_i32_38 : BitVec 32 := 1#32
  ⟨c0_i32_36, v61, c1_i32_38⟩
def k0_off49 (i : grid0.Coords) (k0_t2 : Fin k0_t2_loop.trips) : Fin 1 → Nat :=
  let arg0 : BitVec 32 := BitVec.ofNat 32 (i 0).val
  let c1_i32_34 : BitVec 32 := 1#32
  let v60 : BitVec 32 := Scalar.addi arg0 c1_i32_34
  let c512_i32 : BitVec 32 := 512#32
  let v64 : BitVec 32 := Scalar.muli v60 c512_i32
  let c0_i32_36 : BitVec 32 := 0#32
  let c1_i32_38 : BitVec 32 := 1#32
  let arg10 : BitVec 32 := Scf.iv c0_i32_36 c1_i32_38 k0_t2
  let c8_i32 : BitVec 32 := 8#32
  let v62 : BitVec 32 := Scalar.muli arg10 c8_i32
  let c0_i32_40 : BitVec 32 := 0#32
  let v63 : BitVec 32 := Scalar.addi v62 c0_i32_40
  let v65 : BitVec 32 := Scalar.addi v64 v63
  let v66 : Index := Scalar.indexCast v65
  ![v66.toNat]
def k0_off50 (k0_t2 : Fin k0_t2_loop.trips) : Fin 3 → Nat :=
  let c0_i32_41 : BitVec 32 := 0#32
  let c0_i32_36 : BitVec 32 := 0#32
  let c1_i32_38 : BitVec 32 := 1#32
  let arg10 : BitVec 32 := Scf.iv c0_i32_36 c1_i32_38 k0_t2
  let c8_i32 : BitVec 32 := 8#32
  let v62 : BitVec 32 := Scalar.muli arg10 c8_i32
  let c0_i32_40 : BitVec 32 := 0#32
  let v63 : BitVec 32 := Scalar.addi v62 c0_i32_40
  let c0_i32_42 : BitVec 32 := 0#32
  ![0, v63.toNat, 0]
def k0_off51 (v67 : BitVec 32) : Fin 2 → Nat :=
  let c0_i32_43 : BitVec 32 := 0#32
  ![v67.toNat, 0]

def k0_chk17 (i : grid0.Coords) (v67 : BitVec 32) : Prop :=
  (∀ (k0_h2 : k0_cond2 i = 1#1), ∀ (k0_h3 : k0_cond3 i = 1#1), ∀ a, (k0_off51 v67) a + S1x1024.size a ≤ S73728x1024.size a)
theorem k0_off51_inb : ∀ (i : grid0.Coords) (v67 : BitVec 32) (k0_hw17 : k0_chk17 i v67), ∀ (k0_h2 : k0_cond2 i = 1#1), ∀ (k0_h3 : k0_cond3 i = 1#1), ∀ a, (k0_off51 v67) a + S1x1024.size a ≤ S73728x1024.size a := fun i v67 k0_hw17 k0_h2 k0_h3 => k0_hw17 k0_h2 k0_h3

def k0_off52 (i : grid0.Coords) (k0_t2 : Fin k0_t2_loop.trips) : Fin 1 → Nat :=
  let arg0 : BitVec 32 := BitVec.ofNat 32 (i 0).val
  let c1_i32_34 : BitVec 32 := 1#32
  let v60 : BitVec 32 := Scalar.addi arg0 c1_i32_34
  let c512_i32 : BitVec 32 := 512#32
  let v64 : BitVec 32 := Scalar.muli v60 c512_i32
  let c0_i32_36 : BitVec 32 := 0#32
  let c1_i32_38 : BitVec 32 := 1#32
  let arg10 : BitVec 32 := Scf.iv c0_i32_36 c1_i32_38 k0_t2
  let c8_i32 : BitVec 32 := 8#32
  let v62 : BitVec 32 := Scalar.muli arg10 c8_i32
  let c0_i32_40 : BitVec 32 := 0#32
  let v63 : BitVec 32 := Scalar.addi v62 c0_i32_40
  let v65 : BitVec 32 := Scalar.addi v64 v63
  let v73 : Index := Scalar.indexCast v65
  ![v73.toNat]
def k0_off53 (k0_t2 : Fin k0_t2_loop.trips) : Fin 3 → Nat :=
  let c1_i32_44 : BitVec 32 := 1#32
  let c0_i32_36 : BitVec 32 := 0#32
  let c1_i32_38 : BitVec 32 := 1#32
  let arg10 : BitVec 32 := Scf.iv c0_i32_36 c1_i32_38 k0_t2
  let c8_i32 : BitVec 32 := 8#32
  let v62 : BitVec 32 := Scalar.muli arg10 c8_i32
  let c0_i32_40 : BitVec 32 := 0#32
  let v63 : BitVec 32 := Scalar.addi v62 c0_i32_40
  let c0_i32_45 : BitVec 32 := 0#32
  ![1, v63.toNat, 0]
def k0_off54 (v74 : BitVec 32) : Fin 2 → Nat :=
  let c0_i32_46 : BitVec 32 := 0#32
  ![v74.toNat, 0]

def k0_chk18 (i : grid0.Coords) (v74 : BitVec 32) : Prop :=
  (∀ (k0_h2 : k0_cond2 i = 1#1), ∀ (k0_h3 : k0_cond3 i = 1#1), ∀ a, (k0_off54 v74) a + S1x1024.size a ≤ S73728x1024.size a)
theorem k0_off54_inb : ∀ (i : grid0.Coords) (v74 : BitVec 32) (k0_hw18 : k0_chk18 i v74), ∀ (k0_h2 : k0_cond2 i = 1#1), ∀ (k0_h3 : k0_cond3 i = 1#1), ∀ a, (k0_off54 v74) a + S1x1024.size a ≤ S73728x1024.size a := fun i v74 k0_hw18 k0_h2 k0_h3 => k0_hw18 k0_h2 k0_h3

def k0_off55 (i : grid0.Coords) (k0_t2 : Fin k0_t2_loop.trips) : Fin 1 → Nat :=
  let arg0 : BitVec 32 := BitVec.ofNat 32 (i 0).val
  let c1_i32_34 : BitVec 32 := 1#32
  let v60 : BitVec 32 := Scalar.addi arg0 c1_i32_34
  let c512_i32_49 : BitVec 32 := 512#32
  let v82 : BitVec 32 := Scalar.muli v60 c512_i32_49
  let c0_i32_36 : BitVec 32 := 0#32
  let c1_i32_38 : BitVec 32 := 1#32
  let arg10 : BitVec 32 := Scf.iv c0_i32_36 c1_i32_38 k0_t2
  let c8_i32_47 : BitVec 32 := 8#32
  let v80 : BitVec 32 := Scalar.muli arg10 c8_i32_47
  let c1_i32_48 : BitVec 32 := 1#32
  let v81 : BitVec 32 := Scalar.addi v80 c1_i32_48
  let v83 : BitVec 32 := Scalar.addi v82 v81
  let v84 : Index := Scalar.indexCast v83
  ![v84.toNat]
def k0_off56 (k0_t2 : Fin k0_t2_loop.trips) : Fin 3 → Nat :=
  let c0_i32_50 : BitVec 32 := 0#32
  let c0_i32_36 : BitVec 32 := 0#32
  let c1_i32_38 : BitVec 32 := 1#32
  let arg10 : BitVec 32 := Scf.iv c0_i32_36 c1_i32_38 k0_t2
  let c8_i32_47 : BitVec 32 := 8#32
  let v80 : BitVec 32 := Scalar.muli arg10 c8_i32_47
  let c1_i32_48 : BitVec 32 := 1#32
  let v81 : BitVec 32 := Scalar.addi v80 c1_i32_48
  let c0_i32_51 : BitVec 32 := 0#32
  ![0, v81.toNat, 0]
def k0_off57 (v85 : BitVec 32) : Fin 2 → Nat :=
  let c0_i32_52 : BitVec 32 := 0#32
  ![v85.toNat, 0]

def k0_chk19 (i : grid0.Coords) (v85 : BitVec 32) : Prop :=
  (∀ (k0_h2 : k0_cond2 i = 1#1), ∀ (k0_h3 : k0_cond3 i = 1#1), ∀ a, (k0_off57 v85) a + S1x1024.size a ≤ S73728x1024.size a)
theorem k0_off57_inb : ∀ (i : grid0.Coords) (v85 : BitVec 32) (k0_hw19 : k0_chk19 i v85), ∀ (k0_h2 : k0_cond2 i = 1#1), ∀ (k0_h3 : k0_cond3 i = 1#1), ∀ a, (k0_off57 v85) a + S1x1024.size a ≤ S73728x1024.size a := fun i v85 k0_hw19 k0_h2 k0_h3 => k0_hw19 k0_h2 k0_h3

def k0_off58 (i : grid0.Coords) (k0_t2 : Fin k0_t2_loop.trips) : Fin 1 → Nat :=
  let arg0 : BitVec 32 := BitVec.ofNat 32 (i 0).val
  let c1_i32_34 : BitVec 32 := 1#32
  let v60 : BitVec 32 := Scalar.addi arg0 c1_i32_34
  let c512_i32_49 : BitVec 32 := 512#32
  let v82 : BitVec 32 := Scalar.muli v60 c512_i32_49
  let c0_i32_36 : BitVec 32 := 0#32
  let c1_i32_38 : BitVec 32 := 1#32
  let arg10 : BitVec 32 := Scf.iv c0_i32_36 c1_i32_38 k0_t2
  let c8_i32_47 : BitVec 32 := 8#32
  let v80 : BitVec 32 := Scalar.muli arg10 c8_i32_47
  let c1_i32_48 : BitVec 32 := 1#32
  let v81 : BitVec 32 := Scalar.addi v80 c1_i32_48
  let v83 : BitVec 32 := Scalar.addi v82 v81
  let v91 : Index := Scalar.indexCast v83
  ![v91.toNat]
def k0_off59 (k0_t2 : Fin k0_t2_loop.trips) : Fin 3 → Nat :=
  let c1_i32_53 : BitVec 32 := 1#32
  let c0_i32_36 : BitVec 32 := 0#32
  let c1_i32_38 : BitVec 32 := 1#32
  let arg10 : BitVec 32 := Scf.iv c0_i32_36 c1_i32_38 k0_t2
  let c8_i32_47 : BitVec 32 := 8#32
  let v80 : BitVec 32 := Scalar.muli arg10 c8_i32_47
  let c1_i32_48 : BitVec 32 := 1#32
  let v81 : BitVec 32 := Scalar.addi v80 c1_i32_48
  let c0_i32_54 : BitVec 32 := 0#32
  ![1, v81.toNat, 0]
def k0_off60 (v92 : BitVec 32) : Fin 2 → Nat :=
  let c0_i32_55 : BitVec 32 := 0#32
  ![v92.toNat, 0]

def k0_chk20 (i : grid0.Coords) (v92 : BitVec 32) : Prop :=
  (∀ (k0_h2 : k0_cond2 i = 1#1), ∀ (k0_h3 : k0_cond3 i = 1#1), ∀ a, (k0_off60 v92) a + S1x1024.size a ≤ S73728x1024.size a)
theorem k0_off60_inb : ∀ (i : grid0.Coords) (v92 : BitVec 32) (k0_hw20 : k0_chk20 i v92), ∀ (k0_h2 : k0_cond2 i = 1#1), ∀ (k0_h3 : k0_cond3 i = 1#1), ∀ a, (k0_off60 v92) a + S1x1024.size a ≤ S73728x1024.size a := fun i v92 k0_hw20 k0_h2 k0_h3 => k0_hw20 k0_h2 k0_h3

def k0_off61 (i : grid0.Coords) (k0_t2 : Fin k0_t2_loop.trips) : Fin 1 → Nat :=
  let arg0 : BitVec 32 := BitVec.ofNat 32 (i 0).val
  let c1_i32_34 : BitVec 32 := 1#32
  let v60 : BitVec 32 := Scalar.addi arg0 c1_i32_34
  let c512_i32_58 : BitVec 32 := 512#32
  let v100 : BitVec 32 := Scalar.muli v60 c512_i32_58
  let c0_i32_36 : BitVec 32 := 0#32
  let c1_i32_38 : BitVec 32 := 1#32
  let arg10 : BitVec 32 := Scf.iv c0_i32_36 c1_i32_38 k0_t2
  let c8_i32_56 : BitVec 32 := 8#32
  let v98 : BitVec 32 := Scalar.muli arg10 c8_i32_56
  let c2_i32_57 : BitVec 32 := 2#32
  let v99 : BitVec 32 := Scalar.addi v98 c2_i32_57
  let v101 : BitVec 32 := Scalar.addi v100 v99
  let v102 : Index := Scalar.indexCast v101
  ![v102.toNat]
def k0_off62 (k0_t2 : Fin k0_t2_loop.trips) : Fin 3 → Nat :=
  let c0_i32_59 : BitVec 32 := 0#32
  let c0_i32_36 : BitVec 32 := 0#32
  let c1_i32_38 : BitVec 32 := 1#32
  let arg10 : BitVec 32 := Scf.iv c0_i32_36 c1_i32_38 k0_t2
  let c8_i32_56 : BitVec 32 := 8#32
  let v98 : BitVec 32 := Scalar.muli arg10 c8_i32_56
  let c2_i32_57 : BitVec 32 := 2#32
  let v99 : BitVec 32 := Scalar.addi v98 c2_i32_57
  let c0_i32_60 : BitVec 32 := 0#32
  ![0, v99.toNat, 0]
def k0_off63 (v103 : BitVec 32) : Fin 2 → Nat :=
  let c0_i32_61 : BitVec 32 := 0#32
  ![v103.toNat, 0]

def k0_chk21 (i : grid0.Coords) (v103 : BitVec 32) : Prop :=
  (∀ (k0_h2 : k0_cond2 i = 1#1), ∀ (k0_h3 : k0_cond3 i = 1#1), ∀ a, (k0_off63 v103) a + S1x1024.size a ≤ S73728x1024.size a)
theorem k0_off63_inb : ∀ (i : grid0.Coords) (v103 : BitVec 32) (k0_hw21 : k0_chk21 i v103), ∀ (k0_h2 : k0_cond2 i = 1#1), ∀ (k0_h3 : k0_cond3 i = 1#1), ∀ a, (k0_off63 v103) a + S1x1024.size a ≤ S73728x1024.size a := fun i v103 k0_hw21 k0_h2 k0_h3 => k0_hw21 k0_h2 k0_h3

def k0_off64 (i : grid0.Coords) (k0_t2 : Fin k0_t2_loop.trips) : Fin 1 → Nat :=
  let arg0 : BitVec 32 := BitVec.ofNat 32 (i 0).val
  let c1_i32_34 : BitVec 32 := 1#32
  let v60 : BitVec 32 := Scalar.addi arg0 c1_i32_34
  let c512_i32_58 : BitVec 32 := 512#32
  let v100 : BitVec 32 := Scalar.muli v60 c512_i32_58
  let c0_i32_36 : BitVec 32 := 0#32
  let c1_i32_38 : BitVec 32 := 1#32
  let arg10 : BitVec 32 := Scf.iv c0_i32_36 c1_i32_38 k0_t2
  let c8_i32_56 : BitVec 32 := 8#32
  let v98 : BitVec 32 := Scalar.muli arg10 c8_i32_56
  let c2_i32_57 : BitVec 32 := 2#32
  let v99 : BitVec 32 := Scalar.addi v98 c2_i32_57
  let v101 : BitVec 32 := Scalar.addi v100 v99
  let v109 : Index := Scalar.indexCast v101
  ![v109.toNat]
def k0_off65 (k0_t2 : Fin k0_t2_loop.trips) : Fin 3 → Nat :=
  let c1_i32_62 : BitVec 32 := 1#32
  let c0_i32_36 : BitVec 32 := 0#32
  let c1_i32_38 : BitVec 32 := 1#32
  let arg10 : BitVec 32 := Scf.iv c0_i32_36 c1_i32_38 k0_t2
  let c8_i32_56 : BitVec 32 := 8#32
  let v98 : BitVec 32 := Scalar.muli arg10 c8_i32_56
  let c2_i32_57 : BitVec 32 := 2#32
  let v99 : BitVec 32 := Scalar.addi v98 c2_i32_57
  let c0_i32_63 : BitVec 32 := 0#32
  ![1, v99.toNat, 0]
def k0_off66 (v110 : BitVec 32) : Fin 2 → Nat :=
  let c0_i32_64 : BitVec 32 := 0#32
  ![v110.toNat, 0]

def k0_chk22 (i : grid0.Coords) (v110 : BitVec 32) : Prop :=
  (∀ (k0_h2 : k0_cond2 i = 1#1), ∀ (k0_h3 : k0_cond3 i = 1#1), ∀ a, (k0_off66 v110) a + S1x1024.size a ≤ S73728x1024.size a)
theorem k0_off66_inb : ∀ (i : grid0.Coords) (v110 : BitVec 32) (k0_hw22 : k0_chk22 i v110), ∀ (k0_h2 : k0_cond2 i = 1#1), ∀ (k0_h3 : k0_cond3 i = 1#1), ∀ a, (k0_off66 v110) a + S1x1024.size a ≤ S73728x1024.size a := fun i v110 k0_hw22 k0_h2 k0_h3 => k0_hw22 k0_h2 k0_h3

def k0_off67 (i : grid0.Coords) (k0_t2 : Fin k0_t2_loop.trips) : Fin 1 → Nat :=
  let arg0 : BitVec 32 := BitVec.ofNat 32 (i 0).val
  let c1_i32_34 : BitVec 32 := 1#32
  let v60 : BitVec 32 := Scalar.addi arg0 c1_i32_34
  let c512_i32_66 : BitVec 32 := 512#32
  let v118 : BitVec 32 := Scalar.muli v60 c512_i32_66
  let c0_i32_36 : BitVec 32 := 0#32
  let c1_i32_38 : BitVec 32 := 1#32
  let arg10 : BitVec 32 := Scf.iv c0_i32_36 c1_i32_38 k0_t2
  let c8_i32_65 : BitVec 32 := 8#32
  let v116 : BitVec 32 := Scalar.muli arg10 c8_i32_65
  let c3_i32 : BitVec 32 := 3#32
  let v117 : BitVec 32 := Scalar.addi v116 c3_i32
  let v119 : BitVec 32 := Scalar.addi v118 v117
  let v120 : Index := Scalar.indexCast v119
  ![v120.toNat]
def k0_off68 (k0_t2 : Fin k0_t2_loop.trips) : Fin 3 → Nat :=
  let c0_i32_67 : BitVec 32 := 0#32
  let c0_i32_36 : BitVec 32 := 0#32
  let c1_i32_38 : BitVec 32 := 1#32
  let arg10 : BitVec 32 := Scf.iv c0_i32_36 c1_i32_38 k0_t2
  let c8_i32_65 : BitVec 32 := 8#32
  let v116 : BitVec 32 := Scalar.muli arg10 c8_i32_65
  let c3_i32 : BitVec 32 := 3#32
  let v117 : BitVec 32 := Scalar.addi v116 c3_i32
  let c0_i32_68 : BitVec 32 := 0#32
  ![0, v117.toNat, 0]
def k0_off69 (v121 : BitVec 32) : Fin 2 → Nat :=
  let c0_i32_69 : BitVec 32 := 0#32
  ![v121.toNat, 0]

def k0_chk23 (i : grid0.Coords) (v121 : BitVec 32) : Prop :=
  (∀ (k0_h2 : k0_cond2 i = 1#1), ∀ (k0_h3 : k0_cond3 i = 1#1), ∀ a, (k0_off69 v121) a + S1x1024.size a ≤ S73728x1024.size a)
theorem k0_off69_inb : ∀ (i : grid0.Coords) (v121 : BitVec 32) (k0_hw23 : k0_chk23 i v121), ∀ (k0_h2 : k0_cond2 i = 1#1), ∀ (k0_h3 : k0_cond3 i = 1#1), ∀ a, (k0_off69 v121) a + S1x1024.size a ≤ S73728x1024.size a := fun i v121 k0_hw23 k0_h2 k0_h3 => k0_hw23 k0_h2 k0_h3

def k0_off70 (i : grid0.Coords) (k0_t2 : Fin k0_t2_loop.trips) : Fin 1 → Nat :=
  let arg0 : BitVec 32 := BitVec.ofNat 32 (i 0).val
  let c1_i32_34 : BitVec 32 := 1#32
  let v60 : BitVec 32 := Scalar.addi arg0 c1_i32_34
  let c512_i32_66 : BitVec 32 := 512#32
  let v118 : BitVec 32 := Scalar.muli v60 c512_i32_66
  let c0_i32_36 : BitVec 32 := 0#32
  let c1_i32_38 : BitVec 32 := 1#32
  let arg10 : BitVec 32 := Scf.iv c0_i32_36 c1_i32_38 k0_t2
  let c8_i32_65 : BitVec 32 := 8#32
  let v116 : BitVec 32 := Scalar.muli arg10 c8_i32_65
  let c3_i32 : BitVec 32 := 3#32
  let v117 : BitVec 32 := Scalar.addi v116 c3_i32
  let v119 : BitVec 32 := Scalar.addi v118 v117
  let v127 : Index := Scalar.indexCast v119
  ![v127.toNat]
def k0_off71 (k0_t2 : Fin k0_t2_loop.trips) : Fin 3 → Nat :=
  let c1_i32_70 : BitVec 32 := 1#32
  let c0_i32_36 : BitVec 32 := 0#32
  let c1_i32_38 : BitVec 32 := 1#32
  let arg10 : BitVec 32 := Scf.iv c0_i32_36 c1_i32_38 k0_t2
  let c8_i32_65 : BitVec 32 := 8#32
  let v116 : BitVec 32 := Scalar.muli arg10 c8_i32_65
  let c3_i32 : BitVec 32 := 3#32
  let v117 : BitVec 32 := Scalar.addi v116 c3_i32
  let c0_i32_71 : BitVec 32 := 0#32
  ![1, v117.toNat, 0]
def k0_off72 (v128 : BitVec 32) : Fin 2 → Nat :=
  let c0_i32_72 : BitVec 32 := 0#32
  ![v128.toNat, 0]

def k0_chk24 (i : grid0.Coords) (v128 : BitVec 32) : Prop :=
  (∀ (k0_h2 : k0_cond2 i = 1#1), ∀ (k0_h3 : k0_cond3 i = 1#1), ∀ a, (k0_off72 v128) a + S1x1024.size a ≤ S73728x1024.size a)
theorem k0_off72_inb : ∀ (i : grid0.Coords) (v128 : BitVec 32) (k0_hw24 : k0_chk24 i v128), ∀ (k0_h2 : k0_cond2 i = 1#1), ∀ (k0_h3 : k0_cond3 i = 1#1), ∀ a, (k0_off72 v128) a + S1x1024.size a ≤ S73728x1024.size a := fun i v128 k0_hw24 k0_h2 k0_h3 => k0_hw24 k0_h2 k0_h3

def k0_off73 (i : grid0.Coords) (k0_t2 : Fin k0_t2_loop.trips) : Fin 1 → Nat :=
  let arg0 : BitVec 32 := BitVec.ofNat 32 (i 0).val
  let c1_i32_34 : BitVec 32 := 1#32
  let v60 : BitVec 32 := Scalar.addi arg0 c1_i32_34
  let c512_i32_75 : BitVec 32 := 512#32
  let v136 : BitVec 32 := Scalar.muli v60 c512_i32_75
  let c0_i32_36 : BitVec 32 := 0#32
  let c1_i32_38 : BitVec 32 := 1#32
  let arg10 : BitVec 32 := Scf.iv c0_i32_36 c1_i32_38 k0_t2
  let c8_i32_73 : BitVec 32 := 8#32
  let v134 : BitVec 32 := Scalar.muli arg10 c8_i32_73
  let c4_i32_74 : BitVec 32 := 4#32
  let v135 : BitVec 32 := Scalar.addi v134 c4_i32_74
  let v137 : BitVec 32 := Scalar.addi v136 v135
  let v138 : Index := Scalar.indexCast v137
  ![v138.toNat]
def k0_off74 (k0_t2 : Fin k0_t2_loop.trips) : Fin 3 → Nat :=
  let c0_i32_76 : BitVec 32 := 0#32
  let c0_i32_36 : BitVec 32 := 0#32
  let c1_i32_38 : BitVec 32 := 1#32
  let arg10 : BitVec 32 := Scf.iv c0_i32_36 c1_i32_38 k0_t2
  let c8_i32_73 : BitVec 32 := 8#32
  let v134 : BitVec 32 := Scalar.muli arg10 c8_i32_73
  let c4_i32_74 : BitVec 32 := 4#32
  let v135 : BitVec 32 := Scalar.addi v134 c4_i32_74
  let c0_i32_77 : BitVec 32 := 0#32
  ![0, v135.toNat, 0]
def k0_off75 (v139 : BitVec 32) : Fin 2 → Nat :=
  let c0_i32_78 : BitVec 32 := 0#32
  ![v139.toNat, 0]

def k0_chk25 (i : grid0.Coords) (v139 : BitVec 32) : Prop :=
  (∀ (k0_h2 : k0_cond2 i = 1#1), ∀ (k0_h3 : k0_cond3 i = 1#1), ∀ a, (k0_off75 v139) a + S1x1024.size a ≤ S73728x1024.size a)
theorem k0_off75_inb : ∀ (i : grid0.Coords) (v139 : BitVec 32) (k0_hw25 : k0_chk25 i v139), ∀ (k0_h2 : k0_cond2 i = 1#1), ∀ (k0_h3 : k0_cond3 i = 1#1), ∀ a, (k0_off75 v139) a + S1x1024.size a ≤ S73728x1024.size a := fun i v139 k0_hw25 k0_h2 k0_h3 => k0_hw25 k0_h2 k0_h3

def k0_off76 (i : grid0.Coords) (k0_t2 : Fin k0_t2_loop.trips) : Fin 1 → Nat :=
  let arg0 : BitVec 32 := BitVec.ofNat 32 (i 0).val
  let c1_i32_34 : BitVec 32 := 1#32
  let v60 : BitVec 32 := Scalar.addi arg0 c1_i32_34
  let c512_i32_75 : BitVec 32 := 512#32
  let v136 : BitVec 32 := Scalar.muli v60 c512_i32_75
  let c0_i32_36 : BitVec 32 := 0#32
  let c1_i32_38 : BitVec 32 := 1#32
  let arg10 : BitVec 32 := Scf.iv c0_i32_36 c1_i32_38 k0_t2
  let c8_i32_73 : BitVec 32 := 8#32
  let v134 : BitVec 32 := Scalar.muli arg10 c8_i32_73
  let c4_i32_74 : BitVec 32 := 4#32
  let v135 : BitVec 32 := Scalar.addi v134 c4_i32_74
  let v137 : BitVec 32 := Scalar.addi v136 v135
  let v145 : Index := Scalar.indexCast v137
  ![v145.toNat]
def k0_off77 (k0_t2 : Fin k0_t2_loop.trips) : Fin 3 → Nat :=
  let c1_i32_79 : BitVec 32 := 1#32
  let c0_i32_36 : BitVec 32 := 0#32
  let c1_i32_38 : BitVec 32 := 1#32
  let arg10 : BitVec 32 := Scf.iv c0_i32_36 c1_i32_38 k0_t2
  let c8_i32_73 : BitVec 32 := 8#32
  let v134 : BitVec 32 := Scalar.muli arg10 c8_i32_73
  let c4_i32_74 : BitVec 32 := 4#32
  let v135 : BitVec 32 := Scalar.addi v134 c4_i32_74
  let c0_i32_80 : BitVec 32 := 0#32
  ![1, v135.toNat, 0]
def k0_off78 (v146 : BitVec 32) : Fin 2 → Nat :=
  let c0_i32_81 : BitVec 32 := 0#32
  ![v146.toNat, 0]

def k0_chk26 (i : grid0.Coords) (v146 : BitVec 32) : Prop :=
  (∀ (k0_h2 : k0_cond2 i = 1#1), ∀ (k0_h3 : k0_cond3 i = 1#1), ∀ a, (k0_off78 v146) a + S1x1024.size a ≤ S73728x1024.size a)
theorem k0_off78_inb : ∀ (i : grid0.Coords) (v146 : BitVec 32) (k0_hw26 : k0_chk26 i v146), ∀ (k0_h2 : k0_cond2 i = 1#1), ∀ (k0_h3 : k0_cond3 i = 1#1), ∀ a, (k0_off78 v146) a + S1x1024.size a ≤ S73728x1024.size a := fun i v146 k0_hw26 k0_h2 k0_h3 => k0_hw26 k0_h2 k0_h3

def k0_off79 (i : grid0.Coords) (k0_t2 : Fin k0_t2_loop.trips) : Fin 1 → Nat :=
  let arg0 : BitVec 32 := BitVec.ofNat 32 (i 0).val
  let c1_i32_34 : BitVec 32 := 1#32
  let v60 : BitVec 32 := Scalar.addi arg0 c1_i32_34
  let c512_i32_84 : BitVec 32 := 512#32
  let v154 : BitVec 32 := Scalar.muli v60 c512_i32_84
  let c0_i32_36 : BitVec 32 := 0#32
  let c1_i32_38 : BitVec 32 := 1#32
  let arg10 : BitVec 32 := Scf.iv c0_i32_36 c1_i32_38 k0_t2
  let c8_i32_82 : BitVec 32 := 8#32
  let v152 : BitVec 32 := Scalar.muli arg10 c8_i32_82
  let c5_i32_83 : BitVec 32 := 5#32
  let v153 : BitVec 32 := Scalar.addi v152 c5_i32_83
  let v155 : BitVec 32 := Scalar.addi v154 v153
  let v156 : Index := Scalar.indexCast v155
  ![v156.toNat]
def k0_off80 (k0_t2 : Fin k0_t2_loop.trips) : Fin 3 → Nat :=
  let c0_i32_85 : BitVec 32 := 0#32
  let c0_i32_36 : BitVec 32 := 0#32
  let c1_i32_38 : BitVec 32 := 1#32
  let arg10 : BitVec 32 := Scf.iv c0_i32_36 c1_i32_38 k0_t2
  let c8_i32_82 : BitVec 32 := 8#32
  let v152 : BitVec 32 := Scalar.muli arg10 c8_i32_82
  let c5_i32_83 : BitVec 32 := 5#32
  let v153 : BitVec 32 := Scalar.addi v152 c5_i32_83
  let c0_i32_86 : BitVec 32 := 0#32
  ![0, v153.toNat, 0]
def k0_off81 (v157 : BitVec 32) : Fin 2 → Nat :=
  let c0_i32_87 : BitVec 32 := 0#32
  ![v157.toNat, 0]

def k0_chk27 (i : grid0.Coords) (v157 : BitVec 32) : Prop :=
  (∀ (k0_h2 : k0_cond2 i = 1#1), ∀ (k0_h3 : k0_cond3 i = 1#1), ∀ a, (k0_off81 v157) a + S1x1024.size a ≤ S73728x1024.size a)
theorem k0_off81_inb : ∀ (i : grid0.Coords) (v157 : BitVec 32) (k0_hw27 : k0_chk27 i v157), ∀ (k0_h2 : k0_cond2 i = 1#1), ∀ (k0_h3 : k0_cond3 i = 1#1), ∀ a, (k0_off81 v157) a + S1x1024.size a ≤ S73728x1024.size a := fun i v157 k0_hw27 k0_h2 k0_h3 => k0_hw27 k0_h2 k0_h3

def k0_off82 (i : grid0.Coords) (k0_t2 : Fin k0_t2_loop.trips) : Fin 1 → Nat :=
  let arg0 : BitVec 32 := BitVec.ofNat 32 (i 0).val
  let c1_i32_34 : BitVec 32 := 1#32
  let v60 : BitVec 32 := Scalar.addi arg0 c1_i32_34
  let c512_i32_84 : BitVec 32 := 512#32
  let v154 : BitVec 32 := Scalar.muli v60 c512_i32_84
  let c0_i32_36 : BitVec 32 := 0#32
  let c1_i32_38 : BitVec 32 := 1#32
  let arg10 : BitVec 32 := Scf.iv c0_i32_36 c1_i32_38 k0_t2
  let c8_i32_82 : BitVec 32 := 8#32
  let v152 : BitVec 32 := Scalar.muli arg10 c8_i32_82
  let c5_i32_83 : BitVec 32 := 5#32
  let v153 : BitVec 32 := Scalar.addi v152 c5_i32_83
  let v155 : BitVec 32 := Scalar.addi v154 v153
  let v163 : Index := Scalar.indexCast v155
  ![v163.toNat]
def k0_off83 (k0_t2 : Fin k0_t2_loop.trips) : Fin 3 → Nat :=
  let c1_i32_88 : BitVec 32 := 1#32
  let c0_i32_36 : BitVec 32 := 0#32
  let c1_i32_38 : BitVec 32 := 1#32
  let arg10 : BitVec 32 := Scf.iv c0_i32_36 c1_i32_38 k0_t2
  let c8_i32_82 : BitVec 32 := 8#32
  let v152 : BitVec 32 := Scalar.muli arg10 c8_i32_82
  let c5_i32_83 : BitVec 32 := 5#32
  let v153 : BitVec 32 := Scalar.addi v152 c5_i32_83
  let c0_i32_89 : BitVec 32 := 0#32
  ![1, v153.toNat, 0]
def k0_off84 (v164 : BitVec 32) : Fin 2 → Nat :=
  let c0_i32_90 : BitVec 32 := 0#32
  ![v164.toNat, 0]

def k0_chk28 (i : grid0.Coords) (v164 : BitVec 32) : Prop :=
  (∀ (k0_h2 : k0_cond2 i = 1#1), ∀ (k0_h3 : k0_cond3 i = 1#1), ∀ a, (k0_off84 v164) a + S1x1024.size a ≤ S73728x1024.size a)
theorem k0_off84_inb : ∀ (i : grid0.Coords) (v164 : BitVec 32) (k0_hw28 : k0_chk28 i v164), ∀ (k0_h2 : k0_cond2 i = 1#1), ∀ (k0_h3 : k0_cond3 i = 1#1), ∀ a, (k0_off84 v164) a + S1x1024.size a ≤ S73728x1024.size a := fun i v164 k0_hw28 k0_h2 k0_h3 => k0_hw28 k0_h2 k0_h3

def k0_off85 (i : grid0.Coords) (k0_t2 : Fin k0_t2_loop.trips) : Fin 1 → Nat :=
  let arg0 : BitVec 32 := BitVec.ofNat 32 (i 0).val
  let c1_i32_34 : BitVec 32 := 1#32
  let v60 : BitVec 32 := Scalar.addi arg0 c1_i32_34
  let c512_i32_92 : BitVec 32 := 512#32
  let v172 : BitVec 32 := Scalar.muli v60 c512_i32_92
  let c0_i32_36 : BitVec 32 := 0#32
  let c1_i32_38 : BitVec 32 := 1#32
  let arg10 : BitVec 32 := Scf.iv c0_i32_36 c1_i32_38 k0_t2
  let c8_i32_91 : BitVec 32 := 8#32
  let v170 : BitVec 32 := Scalar.muli arg10 c8_i32_91
  let c6_i32 : BitVec 32 := 6#32
  let v171 : BitVec 32 := Scalar.addi v170 c6_i32
  let v173 : BitVec 32 := Scalar.addi v172 v171
  let v174 : Index := Scalar.indexCast v173
  ![v174.toNat]
def k0_off86 (k0_t2 : Fin k0_t2_loop.trips) : Fin 3 → Nat :=
  let c0_i32_93 : BitVec 32 := 0#32
  let c0_i32_36 : BitVec 32 := 0#32
  let c1_i32_38 : BitVec 32 := 1#32
  let arg10 : BitVec 32 := Scf.iv c0_i32_36 c1_i32_38 k0_t2
  let c8_i32_91 : BitVec 32 := 8#32
  let v170 : BitVec 32 := Scalar.muli arg10 c8_i32_91
  let c6_i32 : BitVec 32 := 6#32
  let v171 : BitVec 32 := Scalar.addi v170 c6_i32
  let c0_i32_94 : BitVec 32 := 0#32
  ![0, v171.toNat, 0]
def k0_off87 (v175 : BitVec 32) : Fin 2 → Nat :=
  let c0_i32_95 : BitVec 32 := 0#32
  ![v175.toNat, 0]

def k0_chk29 (i : grid0.Coords) (v175 : BitVec 32) : Prop :=
  (∀ (k0_h2 : k0_cond2 i = 1#1), ∀ (k0_h3 : k0_cond3 i = 1#1), ∀ a, (k0_off87 v175) a + S1x1024.size a ≤ S73728x1024.size a)
theorem k0_off87_inb : ∀ (i : grid0.Coords) (v175 : BitVec 32) (k0_hw29 : k0_chk29 i v175), ∀ (k0_h2 : k0_cond2 i = 1#1), ∀ (k0_h3 : k0_cond3 i = 1#1), ∀ a, (k0_off87 v175) a + S1x1024.size a ≤ S73728x1024.size a := fun i v175 k0_hw29 k0_h2 k0_h3 => k0_hw29 k0_h2 k0_h3

def k0_off88 (i : grid0.Coords) (k0_t2 : Fin k0_t2_loop.trips) : Fin 1 → Nat :=
  let arg0 : BitVec 32 := BitVec.ofNat 32 (i 0).val
  let c1_i32_34 : BitVec 32 := 1#32
  let v60 : BitVec 32 := Scalar.addi arg0 c1_i32_34
  let c512_i32_92 : BitVec 32 := 512#32
  let v172 : BitVec 32 := Scalar.muli v60 c512_i32_92
  let c0_i32_36 : BitVec 32 := 0#32
  let c1_i32_38 : BitVec 32 := 1#32
  let arg10 : BitVec 32 := Scf.iv c0_i32_36 c1_i32_38 k0_t2
  let c8_i32_91 : BitVec 32 := 8#32
  let v170 : BitVec 32 := Scalar.muli arg10 c8_i32_91
  let c6_i32 : BitVec 32 := 6#32
  let v171 : BitVec 32 := Scalar.addi v170 c6_i32
  let v173 : BitVec 32 := Scalar.addi v172 v171
  let v181 : Index := Scalar.indexCast v173
  ![v181.toNat]
def k0_off89 (k0_t2 : Fin k0_t2_loop.trips) : Fin 3 → Nat :=
  let c1_i32_96 : BitVec 32 := 1#32
  let c0_i32_36 : BitVec 32 := 0#32
  let c1_i32_38 : BitVec 32 := 1#32
  let arg10 : BitVec 32 := Scf.iv c0_i32_36 c1_i32_38 k0_t2
  let c8_i32_91 : BitVec 32 := 8#32
  let v170 : BitVec 32 := Scalar.muli arg10 c8_i32_91
  let c6_i32 : BitVec 32 := 6#32
  let v171 : BitVec 32 := Scalar.addi v170 c6_i32
  let c0_i32_97 : BitVec 32 := 0#32
  ![1, v171.toNat, 0]
def k0_off90 (v182 : BitVec 32) : Fin 2 → Nat :=
  let c0_i32_98 : BitVec 32 := 0#32
  ![v182.toNat, 0]

def k0_chk30 (i : grid0.Coords) (v182 : BitVec 32) : Prop :=
  (∀ (k0_h2 : k0_cond2 i = 1#1), ∀ (k0_h3 : k0_cond3 i = 1#1), ∀ a, (k0_off90 v182) a + S1x1024.size a ≤ S73728x1024.size a)
theorem k0_off90_inb : ∀ (i : grid0.Coords) (v182 : BitVec 32) (k0_hw30 : k0_chk30 i v182), ∀ (k0_h2 : k0_cond2 i = 1#1), ∀ (k0_h3 : k0_cond3 i = 1#1), ∀ a, (k0_off90 v182) a + S1x1024.size a ≤ S73728x1024.size a := fun i v182 k0_hw30 k0_h2 k0_h3 => k0_hw30 k0_h2 k0_h3

def k0_off91 (i : grid0.Coords) (k0_t2 : Fin k0_t2_loop.trips) : Fin 1 → Nat :=
  let arg0 : BitVec 32 := BitVec.ofNat 32 (i 0).val
  let c1_i32_34 : BitVec 32 := 1#32
  let v60 : BitVec 32 := Scalar.addi arg0 c1_i32_34
  let c512_i32_100 : BitVec 32 := 512#32
  let v190 : BitVec 32 := Scalar.muli v60 c512_i32_100
  let c0_i32_36 : BitVec 32 := 0#32
  let c1_i32_38 : BitVec 32 := 1#32
  let arg10 : BitVec 32 := Scf.iv c0_i32_36 c1_i32_38 k0_t2
  let c8_i32_99 : BitVec 32 := 8#32
  let v188 : BitVec 32 := Scalar.muli arg10 c8_i32_99
  let c7_i32 : BitVec 32 := 7#32
  let v189 : BitVec 32 := Scalar.addi v188 c7_i32
  let v191 : BitVec 32 := Scalar.addi v190 v189
  let v192 : Index := Scalar.indexCast v191
  ![v192.toNat]
def k0_off92 (k0_t2 : Fin k0_t2_loop.trips) : Fin 3 → Nat :=
  let c0_i32_101 : BitVec 32 := 0#32
  let c0_i32_36 : BitVec 32 := 0#32
  let c1_i32_38 : BitVec 32 := 1#32
  let arg10 : BitVec 32 := Scf.iv c0_i32_36 c1_i32_38 k0_t2
  let c8_i32_99 : BitVec 32 := 8#32
  let v188 : BitVec 32 := Scalar.muli arg10 c8_i32_99
  let c7_i32 : BitVec 32 := 7#32
  let v189 : BitVec 32 := Scalar.addi v188 c7_i32
  let c0_i32_102 : BitVec 32 := 0#32
  ![0, v189.toNat, 0]
def k0_off93 (v193 : BitVec 32) : Fin 2 → Nat :=
  let c0_i32_103 : BitVec 32 := 0#32
  ![v193.toNat, 0]

def k0_chk31 (i : grid0.Coords) (v193 : BitVec 32) : Prop :=
  (∀ (k0_h2 : k0_cond2 i = 1#1), ∀ (k0_h3 : k0_cond3 i = 1#1), ∀ a, (k0_off93 v193) a + S1x1024.size a ≤ S73728x1024.size a)
theorem k0_off93_inb : ∀ (i : grid0.Coords) (v193 : BitVec 32) (k0_hw31 : k0_chk31 i v193), ∀ (k0_h2 : k0_cond2 i = 1#1), ∀ (k0_h3 : k0_cond3 i = 1#1), ∀ a, (k0_off93 v193) a + S1x1024.size a ≤ S73728x1024.size a := fun i v193 k0_hw31 k0_h2 k0_h3 => k0_hw31 k0_h2 k0_h3

def k0_off94 (i : grid0.Coords) (k0_t2 : Fin k0_t2_loop.trips) : Fin 1 → Nat :=
  let arg0 : BitVec 32 := BitVec.ofNat 32 (i 0).val
  let c1_i32_34 : BitVec 32 := 1#32
  let v60 : BitVec 32 := Scalar.addi arg0 c1_i32_34
  let c512_i32_100 : BitVec 32 := 512#32
  let v190 : BitVec 32 := Scalar.muli v60 c512_i32_100
  let c0_i32_36 : BitVec 32 := 0#32
  let c1_i32_38 : BitVec 32 := 1#32
  let arg10 : BitVec 32 := Scf.iv c0_i32_36 c1_i32_38 k0_t2
  let c8_i32_99 : BitVec 32 := 8#32
  let v188 : BitVec 32 := Scalar.muli arg10 c8_i32_99
  let c7_i32 : BitVec 32 := 7#32
  let v189 : BitVec 32 := Scalar.addi v188 c7_i32
  let v191 : BitVec 32 := Scalar.addi v190 v189
  let v199 : Index := Scalar.indexCast v191
  ![v199.toNat]
def k0_off95 (k0_t2 : Fin k0_t2_loop.trips) : Fin 3 → Nat :=
  let c1_i32_104 : BitVec 32 := 1#32
  let c0_i32_36 : BitVec 32 := 0#32
  let c1_i32_38 : BitVec 32 := 1#32
  let arg10 : BitVec 32 := Scf.iv c0_i32_36 c1_i32_38 k0_t2
  let c8_i32_99 : BitVec 32 := 8#32
  let v188 : BitVec 32 := Scalar.muli arg10 c8_i32_99
  let c7_i32 : BitVec 32 := 7#32
  let v189 : BitVec 32 := Scalar.addi v188 c7_i32
  let c0_i32_105 : BitVec 32 := 0#32
  ![1, v189.toNat, 0]
def k0_off96 (v200 : BitVec 32) : Fin 2 → Nat :=
  let c0_i32_106 : BitVec 32 := 0#32
  ![v200.toNat, 0]

def k0_chk32 (i : grid0.Coords) (v200 : BitVec 32) : Prop :=
  (∀ (k0_h2 : k0_cond2 i = 1#1), ∀ (k0_h3 : k0_cond3 i = 1#1), ∀ a, (k0_off96 v200) a + S1x1024.size a ≤ S73728x1024.size a)
theorem k0_off96_inb : ∀ (i : grid0.Coords) (v200 : BitVec 32) (k0_hw32 : k0_chk32 i v200), ∀ (k0_h2 : k0_cond2 i = 1#1), ∀ (k0_h3 : k0_cond3 i = 1#1), ∀ a, (k0_off96 v200) a + S1x1024.size a ≤ S73728x1024.size a := fun i v200 k0_hw32 k0_h2 k0_h3 => k0_hw32 k0_h2 k0_h3

@[reducible] def k0_t3_loop : Scf.Loop 32 :=
  let c0_i32_19 : BitVec 32 := 0#32
  let c1024_i32 : BitVec 32 := 1024#32
  let v33 : BitVec 32 := Scalar.addi c0_i32_19 c1024_i32
  let c1_i32_20 : BitVec 32 := 1#32
  ⟨c0_i32_19, v33, c1_i32_20⟩
def k0_cond4 (i : grid0.Coords) : BitVec 1 :=
  let arg0 : BitVec 32 := BitVec.ofNat 32 (i 0).val
  let c2_i32_7 : BitVec 32 := 2#32
  let c0_i32_8 : BitVec 32 := 0#32
  let v16 : BitVec 1 := Scalar.cmpi .eq c2_i32_7 c0_i32_8
  let c1_i32_9 : BitVec 32 := 1#32
  let v17 : BitVec 32 := Scalar.select v16 c1_i32_9 c2_i32_7
  let v18 : BitVec 32 := Scalar.remsi arg0 v17
  let c0_i32_11 : BitVec 32 := 0#32
  let v20 : BitVec 1 := Scalar.cmpi .slt v18 c0_i32_11
  let c0_i32_12 : BitVec 32 := 0#32
  let v21 : BitVec 1 := Scalar.cmpi .slt v17 c0_i32_12
  let v22 : BitVec 1 := Scalar.xori v20 v21
  let c0_i32_10 : BitVec 32 := 0#32
  let v19 : BitVec 1 := Scalar.cmpi .ne v18 c0_i32_10
  let v23 : BitVec 1 := Scalar.andi v22 v19
  let v24 : BitVec 32 := Scalar.addi v18 v17
  let v25 : BitVec 32 := Scalar.select v23 v24 v18
  let c1_i32_13 : BitVec 32 := 1#32
  let v26 : BitVec 1 := Scalar.cmpi .eq v25 c1_i32_13
  let v27 : BitVec 32 := Scalar.extui v26
  let c0_i32_14 : BitVec 32 := 0#32
  let v28 : BitVec 1 := Scalar.cmpi .ne v27 c0_i32_14
  v28

def k0_cond5 (i : grid0.Coords) : BitVec 1 :=
  let arg0 : BitVec 32 := BitVec.ofNat 32 (i 0).val
  let c1_i32_15 : BitVec 32 := 1#32
  let v29 : BitVec 32 := Scalar.addi arg0 c1_i32_15
  let c64_i32 : BitVec 32 := 64#32
  let v30 : BitVec 1 := Scalar.cmpi .slt v29 c64_i32
  let v31 : BitVec 32 := Scalar.extui v30
  let c0_i32_16 : BitVec 32 := 0#32
  let v32 : BitVec 1 := Scalar.cmpi .ne v31 c0_i32_16
  v32

@[reducible] def k0_t4_loop : Scf.Loop 32 :=
  let c0_i32_36 : BitVec 32 := 0#32
  let c64_i32_37 : BitVec 32 := 64#32
  let v61 : BitVec 32 := Scalar.addi c0_i32_36 c64_i32_37
  let c1_i32_38 : BitVec 32 := 1#32
  ⟨c0_i32_36, v61, c1_i32_38⟩
def k0_off97 (i : grid0.Coords) (k0_t4 : Fin k0_t4_loop.trips) : Fin 1 → Nat :=
  let arg0 : BitVec 32 := BitVec.ofNat 32 (i 0).val
  let c1_i32_34 : BitVec 32 := 1#32
  let v60 : BitVec 32 := Scalar.addi arg0 c1_i32_34
  let c512_i32 : BitVec 32 := 512#32
  let v64 : BitVec 32 := Scalar.muli v60 c512_i32
  let c0_i32_36 : BitVec 32 := 0#32
  let c1_i32_38 : BitVec 32 := 1#32
  let arg10 : BitVec 32 := Scf.iv c0_i32_36 c1_i32_38 k0_t4
  let c8_i32 : BitVec 32 := 8#32
  let v62 : BitVec 32 := Scalar.muli arg10 c8_i32
  let c0_i32_40 : BitVec 32 := 0#32
  let v63 : BitVec 32 := Scalar.addi v62 c0_i32_40
  let v65 : BitVec 32 := Scalar.addi v64 v63
  let v66 : Index := Scalar.indexCast v65
  ![v66.toNat]
def k0_off98 (k0_t4 : Fin k0_t4_loop.trips) : Fin 3 → Nat :=
  let c0_i32_41 : BitVec 32 := 0#32
  let c0_i32_36 : BitVec 32 := 0#32
  let c1_i32_38 : BitVec 32 := 1#32
  let arg10 : BitVec 32 := Scf.iv c0_i32_36 c1_i32_38 k0_t4
  let c8_i32 : BitVec 32 := 8#32
  let v62 : BitVec 32 := Scalar.muli arg10 c8_i32
  let c0_i32_40 : BitVec 32 := 0#32
  let v63 : BitVec 32 := Scalar.addi v62 c0_i32_40
  let c0_i32_42 : BitVec 32 := 0#32
  ![0, v63.toNat, 0]
def k0_off99 (v67 : BitVec 32) : Fin 2 → Nat :=
  let c0_i32_43 : BitVec 32 := 0#32
  ![v67.toNat, 0]

def k0_chk33 (i : grid0.Coords) (v67 : BitVec 32) : Prop :=
  (∀ (k0_h4 : k0_cond4 i = 1#1), ∀ (k0_h5 : k0_cond5 i = 1#1), ∀ a, (k0_off99 v67) a + S1x1024.size a ≤ S73728x1024.size a)
theorem k0_off99_inb : ∀ (i : grid0.Coords) (v67 : BitVec 32) (k0_hw33 : k0_chk33 i v67), ∀ (k0_h4 : k0_cond4 i = 1#1), ∀ (k0_h5 : k0_cond5 i = 1#1), ∀ a, (k0_off99 v67) a + S1x1024.size a ≤ S73728x1024.size a := fun i v67 k0_hw33 k0_h4 k0_h5 => k0_hw33 k0_h4 k0_h5

def k0_off100 (i : grid0.Coords) (k0_t4 : Fin k0_t4_loop.trips) : Fin 1 → Nat :=
  let arg0 : BitVec 32 := BitVec.ofNat 32 (i 0).val
  let c1_i32_34 : BitVec 32 := 1#32
  let v60 : BitVec 32 := Scalar.addi arg0 c1_i32_34
  let c512_i32 : BitVec 32 := 512#32
  let v64 : BitVec 32 := Scalar.muli v60 c512_i32
  let c0_i32_36 : BitVec 32 := 0#32
  let c1_i32_38 : BitVec 32 := 1#32
  let arg10 : BitVec 32 := Scf.iv c0_i32_36 c1_i32_38 k0_t4
  let c8_i32 : BitVec 32 := 8#32
  let v62 : BitVec 32 := Scalar.muli arg10 c8_i32
  let c0_i32_40 : BitVec 32 := 0#32
  let v63 : BitVec 32 := Scalar.addi v62 c0_i32_40
  let v65 : BitVec 32 := Scalar.addi v64 v63
  let v73 : Index := Scalar.indexCast v65
  ![v73.toNat]
def k0_off101 (k0_t4 : Fin k0_t4_loop.trips) : Fin 3 → Nat :=
  let c1_i32_44 : BitVec 32 := 1#32
  let c0_i32_36 : BitVec 32 := 0#32
  let c1_i32_38 : BitVec 32 := 1#32
  let arg10 : BitVec 32 := Scf.iv c0_i32_36 c1_i32_38 k0_t4
  let c8_i32 : BitVec 32 := 8#32
  let v62 : BitVec 32 := Scalar.muli arg10 c8_i32
  let c0_i32_40 : BitVec 32 := 0#32
  let v63 : BitVec 32 := Scalar.addi v62 c0_i32_40
  let c0_i32_45 : BitVec 32 := 0#32
  ![1, v63.toNat, 0]
def k0_off102 (v74 : BitVec 32) : Fin 2 → Nat :=
  let c0_i32_46 : BitVec 32 := 0#32
  ![v74.toNat, 0]

def k0_chk34 (i : grid0.Coords) (v74 : BitVec 32) : Prop :=
  (∀ (k0_h4 : k0_cond4 i = 1#1), ∀ (k0_h5 : k0_cond5 i = 1#1), ∀ a, (k0_off102 v74) a + S1x1024.size a ≤ S73728x1024.size a)
theorem k0_off102_inb : ∀ (i : grid0.Coords) (v74 : BitVec 32) (k0_hw34 : k0_chk34 i v74), ∀ (k0_h4 : k0_cond4 i = 1#1), ∀ (k0_h5 : k0_cond5 i = 1#1), ∀ a, (k0_off102 v74) a + S1x1024.size a ≤ S73728x1024.size a := fun i v74 k0_hw34 k0_h4 k0_h5 => k0_hw34 k0_h4 k0_h5

def k0_off103 (i : grid0.Coords) (k0_t4 : Fin k0_t4_loop.trips) : Fin 1 → Nat :=
  let arg0 : BitVec 32 := BitVec.ofNat 32 (i 0).val
  let c1_i32_34 : BitVec 32 := 1#32
  let v60 : BitVec 32 := Scalar.addi arg0 c1_i32_34
  let c512_i32_49 : BitVec 32 := 512#32
  let v82 : BitVec 32 := Scalar.muli v60 c512_i32_49
  let c0_i32_36 : BitVec 32 := 0#32
  let c1_i32_38 : BitVec 32 := 1#32
  let arg10 : BitVec 32 := Scf.iv c0_i32_36 c1_i32_38 k0_t4
  let c8_i32_47 : BitVec 32 := 8#32
  let v80 : BitVec 32 := Scalar.muli arg10 c8_i32_47
  let c1_i32_48 : BitVec 32 := 1#32
  let v81 : BitVec 32 := Scalar.addi v80 c1_i32_48
  let v83 : BitVec 32 := Scalar.addi v82 v81
  let v84 : Index := Scalar.indexCast v83
  ![v84.toNat]
def k0_off104 (k0_t4 : Fin k0_t4_loop.trips) : Fin 3 → Nat :=
  let c0_i32_50 : BitVec 32 := 0#32
  let c0_i32_36 : BitVec 32 := 0#32
  let c1_i32_38 : BitVec 32 := 1#32
  let arg10 : BitVec 32 := Scf.iv c0_i32_36 c1_i32_38 k0_t4
  let c8_i32_47 : BitVec 32 := 8#32
  let v80 : BitVec 32 := Scalar.muli arg10 c8_i32_47
  let c1_i32_48 : BitVec 32 := 1#32
  let v81 : BitVec 32 := Scalar.addi v80 c1_i32_48
  let c0_i32_51 : BitVec 32 := 0#32
  ![0, v81.toNat, 0]
def k0_off105 (v85 : BitVec 32) : Fin 2 → Nat :=
  let c0_i32_52 : BitVec 32 := 0#32
  ![v85.toNat, 0]

def k0_chk35 (i : grid0.Coords) (v85 : BitVec 32) : Prop :=
  (∀ (k0_h4 : k0_cond4 i = 1#1), ∀ (k0_h5 : k0_cond5 i = 1#1), ∀ a, (k0_off105 v85) a + S1x1024.size a ≤ S73728x1024.size a)
theorem k0_off105_inb : ∀ (i : grid0.Coords) (v85 : BitVec 32) (k0_hw35 : k0_chk35 i v85), ∀ (k0_h4 : k0_cond4 i = 1#1), ∀ (k0_h5 : k0_cond5 i = 1#1), ∀ a, (k0_off105 v85) a + S1x1024.size a ≤ S73728x1024.size a := fun i v85 k0_hw35 k0_h4 k0_h5 => k0_hw35 k0_h4 k0_h5

def k0_off106 (i : grid0.Coords) (k0_t4 : Fin k0_t4_loop.trips) : Fin 1 → Nat :=
  let arg0 : BitVec 32 := BitVec.ofNat 32 (i 0).val
  let c1_i32_34 : BitVec 32 := 1#32
  let v60 : BitVec 32 := Scalar.addi arg0 c1_i32_34
  let c512_i32_49 : BitVec 32 := 512#32
  let v82 : BitVec 32 := Scalar.muli v60 c512_i32_49
  let c0_i32_36 : BitVec 32 := 0#32
  let c1_i32_38 : BitVec 32 := 1#32
  let arg10 : BitVec 32 := Scf.iv c0_i32_36 c1_i32_38 k0_t4
  let c8_i32_47 : BitVec 32 := 8#32
  let v80 : BitVec 32 := Scalar.muli arg10 c8_i32_47
  let c1_i32_48 : BitVec 32 := 1#32
  let v81 : BitVec 32 := Scalar.addi v80 c1_i32_48
  let v83 : BitVec 32 := Scalar.addi v82 v81
  let v91 : Index := Scalar.indexCast v83
  ![v91.toNat]
def k0_off107 (k0_t4 : Fin k0_t4_loop.trips) : Fin 3 → Nat :=
  let c1_i32_53 : BitVec 32 := 1#32
  let c0_i32_36 : BitVec 32 := 0#32
  let c1_i32_38 : BitVec 32 := 1#32
  let arg10 : BitVec 32 := Scf.iv c0_i32_36 c1_i32_38 k0_t4
  let c8_i32_47 : BitVec 32 := 8#32
  let v80 : BitVec 32 := Scalar.muli arg10 c8_i32_47
  let c1_i32_48 : BitVec 32 := 1#32
  let v81 : BitVec 32 := Scalar.addi v80 c1_i32_48
  let c0_i32_54 : BitVec 32 := 0#32
  ![1, v81.toNat, 0]
def k0_off108 (v92 : BitVec 32) : Fin 2 → Nat :=
  let c0_i32_55 : BitVec 32 := 0#32
  ![v92.toNat, 0]

def k0_chk36 (i : grid0.Coords) (v92 : BitVec 32) : Prop :=
  (∀ (k0_h4 : k0_cond4 i = 1#1), ∀ (k0_h5 : k0_cond5 i = 1#1), ∀ a, (k0_off108 v92) a + S1x1024.size a ≤ S73728x1024.size a)
theorem k0_off108_inb : ∀ (i : grid0.Coords) (v92 : BitVec 32) (k0_hw36 : k0_chk36 i v92), ∀ (k0_h4 : k0_cond4 i = 1#1), ∀ (k0_h5 : k0_cond5 i = 1#1), ∀ a, (k0_off108 v92) a + S1x1024.size a ≤ S73728x1024.size a := fun i v92 k0_hw36 k0_h4 k0_h5 => k0_hw36 k0_h4 k0_h5

def k0_off109 (i : grid0.Coords) (k0_t4 : Fin k0_t4_loop.trips) : Fin 1 → Nat :=
  let arg0 : BitVec 32 := BitVec.ofNat 32 (i 0).val
  let c1_i32_34 : BitVec 32 := 1#32
  let v60 : BitVec 32 := Scalar.addi arg0 c1_i32_34
  let c512_i32_58 : BitVec 32 := 512#32
  let v100 : BitVec 32 := Scalar.muli v60 c512_i32_58
  let c0_i32_36 : BitVec 32 := 0#32
  let c1_i32_38 : BitVec 32 := 1#32
  let arg10 : BitVec 32 := Scf.iv c0_i32_36 c1_i32_38 k0_t4
  let c8_i32_56 : BitVec 32 := 8#32
  let v98 : BitVec 32 := Scalar.muli arg10 c8_i32_56
  let c2_i32_57 : BitVec 32 := 2#32
  let v99 : BitVec 32 := Scalar.addi v98 c2_i32_57
  let v101 : BitVec 32 := Scalar.addi v100 v99
  let v102 : Index := Scalar.indexCast v101
  ![v102.toNat]
def k0_off110 (k0_t4 : Fin k0_t4_loop.trips) : Fin 3 → Nat :=
  let c0_i32_59 : BitVec 32 := 0#32
  let c0_i32_36 : BitVec 32 := 0#32
  let c1_i32_38 : BitVec 32 := 1#32
  let arg10 : BitVec 32 := Scf.iv c0_i32_36 c1_i32_38 k0_t4
  let c8_i32_56 : BitVec 32 := 8#32
  let v98 : BitVec 32 := Scalar.muli arg10 c8_i32_56
  let c2_i32_57 : BitVec 32 := 2#32
  let v99 : BitVec 32 := Scalar.addi v98 c2_i32_57
  let c0_i32_60 : BitVec 32 := 0#32
  ![0, v99.toNat, 0]
def k0_off111 (v103 : BitVec 32) : Fin 2 → Nat :=
  let c0_i32_61 : BitVec 32 := 0#32
  ![v103.toNat, 0]

def k0_chk37 (i : grid0.Coords) (v103 : BitVec 32) : Prop :=
  (∀ (k0_h4 : k0_cond4 i = 1#1), ∀ (k0_h5 : k0_cond5 i = 1#1), ∀ a, (k0_off111 v103) a + S1x1024.size a ≤ S73728x1024.size a)
theorem k0_off111_inb : ∀ (i : grid0.Coords) (v103 : BitVec 32) (k0_hw37 : k0_chk37 i v103), ∀ (k0_h4 : k0_cond4 i = 1#1), ∀ (k0_h5 : k0_cond5 i = 1#1), ∀ a, (k0_off111 v103) a + S1x1024.size a ≤ S73728x1024.size a := fun i v103 k0_hw37 k0_h4 k0_h5 => k0_hw37 k0_h4 k0_h5

def k0_off112 (i : grid0.Coords) (k0_t4 : Fin k0_t4_loop.trips) : Fin 1 → Nat :=
  let arg0 : BitVec 32 := BitVec.ofNat 32 (i 0).val
  let c1_i32_34 : BitVec 32 := 1#32
  let v60 : BitVec 32 := Scalar.addi arg0 c1_i32_34
  let c512_i32_58 : BitVec 32 := 512#32
  let v100 : BitVec 32 := Scalar.muli v60 c512_i32_58
  let c0_i32_36 : BitVec 32 := 0#32
  let c1_i32_38 : BitVec 32 := 1#32
  let arg10 : BitVec 32 := Scf.iv c0_i32_36 c1_i32_38 k0_t4
  let c8_i32_56 : BitVec 32 := 8#32
  let v98 : BitVec 32 := Scalar.muli arg10 c8_i32_56
  let c2_i32_57 : BitVec 32 := 2#32
  let v99 : BitVec 32 := Scalar.addi v98 c2_i32_57
  let v101 : BitVec 32 := Scalar.addi v100 v99
  let v109 : Index := Scalar.indexCast v101
  ![v109.toNat]
def k0_off113 (k0_t4 : Fin k0_t4_loop.trips) : Fin 3 → Nat :=
  let c1_i32_62 : BitVec 32 := 1#32
  let c0_i32_36 : BitVec 32 := 0#32
  let c1_i32_38 : BitVec 32 := 1#32
  let arg10 : BitVec 32 := Scf.iv c0_i32_36 c1_i32_38 k0_t4
  let c8_i32_56 : BitVec 32 := 8#32
  let v98 : BitVec 32 := Scalar.muli arg10 c8_i32_56
  let c2_i32_57 : BitVec 32 := 2#32
  let v99 : BitVec 32 := Scalar.addi v98 c2_i32_57
  let c0_i32_63 : BitVec 32 := 0#32
  ![1, v99.toNat, 0]
def k0_off114 (v110 : BitVec 32) : Fin 2 → Nat :=
  let c0_i32_64 : BitVec 32 := 0#32
  ![v110.toNat, 0]

def k0_chk38 (i : grid0.Coords) (v110 : BitVec 32) : Prop :=
  (∀ (k0_h4 : k0_cond4 i = 1#1), ∀ (k0_h5 : k0_cond5 i = 1#1), ∀ a, (k0_off114 v110) a + S1x1024.size a ≤ S73728x1024.size a)
theorem k0_off114_inb : ∀ (i : grid0.Coords) (v110 : BitVec 32) (k0_hw38 : k0_chk38 i v110), ∀ (k0_h4 : k0_cond4 i = 1#1), ∀ (k0_h5 : k0_cond5 i = 1#1), ∀ a, (k0_off114 v110) a + S1x1024.size a ≤ S73728x1024.size a := fun i v110 k0_hw38 k0_h4 k0_h5 => k0_hw38 k0_h4 k0_h5

def k0_off115 (i : grid0.Coords) (k0_t4 : Fin k0_t4_loop.trips) : Fin 1 → Nat :=
  let arg0 : BitVec 32 := BitVec.ofNat 32 (i 0).val
  let c1_i32_34 : BitVec 32 := 1#32
  let v60 : BitVec 32 := Scalar.addi arg0 c1_i32_34
  let c512_i32_66 : BitVec 32 := 512#32
  let v118 : BitVec 32 := Scalar.muli v60 c512_i32_66
  let c0_i32_36 : BitVec 32 := 0#32
  let c1_i32_38 : BitVec 32 := 1#32
  let arg10 : BitVec 32 := Scf.iv c0_i32_36 c1_i32_38 k0_t4
  let c8_i32_65 : BitVec 32 := 8#32
  let v116 : BitVec 32 := Scalar.muli arg10 c8_i32_65
  let c3_i32 : BitVec 32 := 3#32
  let v117 : BitVec 32 := Scalar.addi v116 c3_i32
  let v119 : BitVec 32 := Scalar.addi v118 v117
  let v120 : Index := Scalar.indexCast v119
  ![v120.toNat]
def k0_off116 (k0_t4 : Fin k0_t4_loop.trips) : Fin 3 → Nat :=
  let c0_i32_67 : BitVec 32 := 0#32
  let c0_i32_36 : BitVec 32 := 0#32
  let c1_i32_38 : BitVec 32 := 1#32
  let arg10 : BitVec 32 := Scf.iv c0_i32_36 c1_i32_38 k0_t4
  let c8_i32_65 : BitVec 32 := 8#32
  let v116 : BitVec 32 := Scalar.muli arg10 c8_i32_65
  let c3_i32 : BitVec 32 := 3#32
  let v117 : BitVec 32 := Scalar.addi v116 c3_i32
  let c0_i32_68 : BitVec 32 := 0#32
  ![0, v117.toNat, 0]
def k0_off117 (v121 : BitVec 32) : Fin 2 → Nat :=
  let c0_i32_69 : BitVec 32 := 0#32
  ![v121.toNat, 0]

def k0_chk39 (i : grid0.Coords) (v121 : BitVec 32) : Prop :=
  (∀ (k0_h4 : k0_cond4 i = 1#1), ∀ (k0_h5 : k0_cond5 i = 1#1), ∀ a, (k0_off117 v121) a + S1x1024.size a ≤ S73728x1024.size a)
theorem k0_off117_inb : ∀ (i : grid0.Coords) (v121 : BitVec 32) (k0_hw39 : k0_chk39 i v121), ∀ (k0_h4 : k0_cond4 i = 1#1), ∀ (k0_h5 : k0_cond5 i = 1#1), ∀ a, (k0_off117 v121) a + S1x1024.size a ≤ S73728x1024.size a := fun i v121 k0_hw39 k0_h4 k0_h5 => k0_hw39 k0_h4 k0_h5

def k0_off118 (i : grid0.Coords) (k0_t4 : Fin k0_t4_loop.trips) : Fin 1 → Nat :=
  let arg0 : BitVec 32 := BitVec.ofNat 32 (i 0).val
  let c1_i32_34 : BitVec 32 := 1#32
  let v60 : BitVec 32 := Scalar.addi arg0 c1_i32_34
  let c512_i32_66 : BitVec 32 := 512#32
  let v118 : BitVec 32 := Scalar.muli v60 c512_i32_66
  let c0_i32_36 : BitVec 32 := 0#32
  let c1_i32_38 : BitVec 32 := 1#32
  let arg10 : BitVec 32 := Scf.iv c0_i32_36 c1_i32_38 k0_t4
  let c8_i32_65 : BitVec 32 := 8#32
  let v116 : BitVec 32 := Scalar.muli arg10 c8_i32_65
  let c3_i32 : BitVec 32 := 3#32
  let v117 : BitVec 32 := Scalar.addi v116 c3_i32
  let v119 : BitVec 32 := Scalar.addi v118 v117
  let v127 : Index := Scalar.indexCast v119
  ![v127.toNat]
def k0_off119 (k0_t4 : Fin k0_t4_loop.trips) : Fin 3 → Nat :=
  let c1_i32_70 : BitVec 32 := 1#32
  let c0_i32_36 : BitVec 32 := 0#32
  let c1_i32_38 : BitVec 32 := 1#32
  let arg10 : BitVec 32 := Scf.iv c0_i32_36 c1_i32_38 k0_t4
  let c8_i32_65 : BitVec 32 := 8#32
  let v116 : BitVec 32 := Scalar.muli arg10 c8_i32_65
  let c3_i32 : BitVec 32 := 3#32
  let v117 : BitVec 32 := Scalar.addi v116 c3_i32
  let c0_i32_71 : BitVec 32 := 0#32
  ![1, v117.toNat, 0]
def k0_off120 (v128 : BitVec 32) : Fin 2 → Nat :=
  let c0_i32_72 : BitVec 32 := 0#32
  ![v128.toNat, 0]

def k0_chk40 (i : grid0.Coords) (v128 : BitVec 32) : Prop :=
  (∀ (k0_h4 : k0_cond4 i = 1#1), ∀ (k0_h5 : k0_cond5 i = 1#1), ∀ a, (k0_off120 v128) a + S1x1024.size a ≤ S73728x1024.size a)
theorem k0_off120_inb : ∀ (i : grid0.Coords) (v128 : BitVec 32) (k0_hw40 : k0_chk40 i v128), ∀ (k0_h4 : k0_cond4 i = 1#1), ∀ (k0_h5 : k0_cond5 i = 1#1), ∀ a, (k0_off120 v128) a + S1x1024.size a ≤ S73728x1024.size a := fun i v128 k0_hw40 k0_h4 k0_h5 => k0_hw40 k0_h4 k0_h5

def k0_off121 (i : grid0.Coords) (k0_t4 : Fin k0_t4_loop.trips) : Fin 1 → Nat :=
  let arg0 : BitVec 32 := BitVec.ofNat 32 (i 0).val
  let c1_i32_34 : BitVec 32 := 1#32
  let v60 : BitVec 32 := Scalar.addi arg0 c1_i32_34
  let c512_i32_75 : BitVec 32 := 512#32
  let v136 : BitVec 32 := Scalar.muli v60 c512_i32_75
  let c0_i32_36 : BitVec 32 := 0#32
  let c1_i32_38 : BitVec 32 := 1#32
  let arg10 : BitVec 32 := Scf.iv c0_i32_36 c1_i32_38 k0_t4
  let c8_i32_73 : BitVec 32 := 8#32
  let v134 : BitVec 32 := Scalar.muli arg10 c8_i32_73
  let c4_i32_74 : BitVec 32 := 4#32
  let v135 : BitVec 32 := Scalar.addi v134 c4_i32_74
  let v137 : BitVec 32 := Scalar.addi v136 v135
  let v138 : Index := Scalar.indexCast v137
  ![v138.toNat]
def k0_off122 (k0_t4 : Fin k0_t4_loop.trips) : Fin 3 → Nat :=
  let c0_i32_76 : BitVec 32 := 0#32
  let c0_i32_36 : BitVec 32 := 0#32
  let c1_i32_38 : BitVec 32 := 1#32
  let arg10 : BitVec 32 := Scf.iv c0_i32_36 c1_i32_38 k0_t4
  let c8_i32_73 : BitVec 32 := 8#32
  let v134 : BitVec 32 := Scalar.muli arg10 c8_i32_73
  let c4_i32_74 : BitVec 32 := 4#32
  let v135 : BitVec 32 := Scalar.addi v134 c4_i32_74
  let c0_i32_77 : BitVec 32 := 0#32
  ![0, v135.toNat, 0]
def k0_off123 (v139 : BitVec 32) : Fin 2 → Nat :=
  let c0_i32_78 : BitVec 32 := 0#32
  ![v139.toNat, 0]

def k0_chk41 (i : grid0.Coords) (v139 : BitVec 32) : Prop :=
  (∀ (k0_h4 : k0_cond4 i = 1#1), ∀ (k0_h5 : k0_cond5 i = 1#1), ∀ a, (k0_off123 v139) a + S1x1024.size a ≤ S73728x1024.size a)
theorem k0_off123_inb : ∀ (i : grid0.Coords) (v139 : BitVec 32) (k0_hw41 : k0_chk41 i v139), ∀ (k0_h4 : k0_cond4 i = 1#1), ∀ (k0_h5 : k0_cond5 i = 1#1), ∀ a, (k0_off123 v139) a + S1x1024.size a ≤ S73728x1024.size a := fun i v139 k0_hw41 k0_h4 k0_h5 => k0_hw41 k0_h4 k0_h5

def k0_off124 (i : grid0.Coords) (k0_t4 : Fin k0_t4_loop.trips) : Fin 1 → Nat :=
  let arg0 : BitVec 32 := BitVec.ofNat 32 (i 0).val
  let c1_i32_34 : BitVec 32 := 1#32
  let v60 : BitVec 32 := Scalar.addi arg0 c1_i32_34
  let c512_i32_75 : BitVec 32 := 512#32
  let v136 : BitVec 32 := Scalar.muli v60 c512_i32_75
  let c0_i32_36 : BitVec 32 := 0#32
  let c1_i32_38 : BitVec 32 := 1#32
  let arg10 : BitVec 32 := Scf.iv c0_i32_36 c1_i32_38 k0_t4
  let c8_i32_73 : BitVec 32 := 8#32
  let v134 : BitVec 32 := Scalar.muli arg10 c8_i32_73
  let c4_i32_74 : BitVec 32 := 4#32
  let v135 : BitVec 32 := Scalar.addi v134 c4_i32_74
  let v137 : BitVec 32 := Scalar.addi v136 v135
  let v145 : Index := Scalar.indexCast v137
  ![v145.toNat]
def k0_off125 (k0_t4 : Fin k0_t4_loop.trips) : Fin 3 → Nat :=
  let c1_i32_79 : BitVec 32 := 1#32
  let c0_i32_36 : BitVec 32 := 0#32
  let c1_i32_38 : BitVec 32 := 1#32
  let arg10 : BitVec 32 := Scf.iv c0_i32_36 c1_i32_38 k0_t4
  let c8_i32_73 : BitVec 32 := 8#32
  let v134 : BitVec 32 := Scalar.muli arg10 c8_i32_73
  let c4_i32_74 : BitVec 32 := 4#32
  let v135 : BitVec 32 := Scalar.addi v134 c4_i32_74
  let c0_i32_80 : BitVec 32 := 0#32
  ![1, v135.toNat, 0]
def k0_off126 (v146 : BitVec 32) : Fin 2 → Nat :=
  let c0_i32_81 : BitVec 32 := 0#32
  ![v146.toNat, 0]

def k0_chk42 (i : grid0.Coords) (v146 : BitVec 32) : Prop :=
  (∀ (k0_h4 : k0_cond4 i = 1#1), ∀ (k0_h5 : k0_cond5 i = 1#1), ∀ a, (k0_off126 v146) a + S1x1024.size a ≤ S73728x1024.size a)
theorem k0_off126_inb : ∀ (i : grid0.Coords) (v146 : BitVec 32) (k0_hw42 : k0_chk42 i v146), ∀ (k0_h4 : k0_cond4 i = 1#1), ∀ (k0_h5 : k0_cond5 i = 1#1), ∀ a, (k0_off126 v146) a + S1x1024.size a ≤ S73728x1024.size a := fun i v146 k0_hw42 k0_h4 k0_h5 => k0_hw42 k0_h4 k0_h5

def k0_off127 (i : grid0.Coords) (k0_t4 : Fin k0_t4_loop.trips) : Fin 1 → Nat :=
  let arg0 : BitVec 32 := BitVec.ofNat 32 (i 0).val
  let c1_i32_34 : BitVec 32 := 1#32
  let v60 : BitVec 32 := Scalar.addi arg0 c1_i32_34
  let c512_i32_84 : BitVec 32 := 512#32
  let v154 : BitVec 32 := Scalar.muli v60 c512_i32_84
  let c0_i32_36 : BitVec 32 := 0#32
  let c1_i32_38 : BitVec 32 := 1#32
  let arg10 : BitVec 32 := Scf.iv c0_i32_36 c1_i32_38 k0_t4
  let c8_i32_82 : BitVec 32 := 8#32
  let v152 : BitVec 32 := Scalar.muli arg10 c8_i32_82
  let c5_i32_83 : BitVec 32 := 5#32
  let v153 : BitVec 32 := Scalar.addi v152 c5_i32_83
  let v155 : BitVec 32 := Scalar.addi v154 v153
  let v156 : Index := Scalar.indexCast v155
  ![v156.toNat]
def k0_off128 (k0_t4 : Fin k0_t4_loop.trips) : Fin 3 → Nat :=
  let c0_i32_85 : BitVec 32 := 0#32
  let c0_i32_36 : BitVec 32 := 0#32
  let c1_i32_38 : BitVec 32 := 1#32
  let arg10 : BitVec 32 := Scf.iv c0_i32_36 c1_i32_38 k0_t4
  let c8_i32_82 : BitVec 32 := 8#32
  let v152 : BitVec 32 := Scalar.muli arg10 c8_i32_82
  let c5_i32_83 : BitVec 32 := 5#32
  let v153 : BitVec 32 := Scalar.addi v152 c5_i32_83
  let c0_i32_86 : BitVec 32 := 0#32
  ![0, v153.toNat, 0]
def k0_off129 (v157 : BitVec 32) : Fin 2 → Nat :=
  let c0_i32_87 : BitVec 32 := 0#32
  ![v157.toNat, 0]

def k0_chk43 (i : grid0.Coords) (v157 : BitVec 32) : Prop :=
  (∀ (k0_h4 : k0_cond4 i = 1#1), ∀ (k0_h5 : k0_cond5 i = 1#1), ∀ a, (k0_off129 v157) a + S1x1024.size a ≤ S73728x1024.size a)
theorem k0_off129_inb : ∀ (i : grid0.Coords) (v157 : BitVec 32) (k0_hw43 : k0_chk43 i v157), ∀ (k0_h4 : k0_cond4 i = 1#1), ∀ (k0_h5 : k0_cond5 i = 1#1), ∀ a, (k0_off129 v157) a + S1x1024.size a ≤ S73728x1024.size a := fun i v157 k0_hw43 k0_h4 k0_h5 => k0_hw43 k0_h4 k0_h5

def k0_off130 (i : grid0.Coords) (k0_t4 : Fin k0_t4_loop.trips) : Fin 1 → Nat :=
  let arg0 : BitVec 32 := BitVec.ofNat 32 (i 0).val
  let c1_i32_34 : BitVec 32 := 1#32
  let v60 : BitVec 32 := Scalar.addi arg0 c1_i32_34
  let c512_i32_84 : BitVec 32 := 512#32
  let v154 : BitVec 32 := Scalar.muli v60 c512_i32_84
  let c0_i32_36 : BitVec 32 := 0#32
  let c1_i32_38 : BitVec 32 := 1#32
  let arg10 : BitVec 32 := Scf.iv c0_i32_36 c1_i32_38 k0_t4
  let c8_i32_82 : BitVec 32 := 8#32
  let v152 : BitVec 32 := Scalar.muli arg10 c8_i32_82
  let c5_i32_83 : BitVec 32 := 5#32
  let v153 : BitVec 32 := Scalar.addi v152 c5_i32_83
  let v155 : BitVec 32 := Scalar.addi v154 v153
  let v163 : Index := Scalar.indexCast v155
  ![v163.toNat]
def k0_off131 (k0_t4 : Fin k0_t4_loop.trips) : Fin 3 → Nat :=
  let c1_i32_88 : BitVec 32 := 1#32
  let c0_i32_36 : BitVec 32 := 0#32
  let c1_i32_38 : BitVec 32 := 1#32
  let arg10 : BitVec 32 := Scf.iv c0_i32_36 c1_i32_38 k0_t4
  let c8_i32_82 : BitVec 32 := 8#32
  let v152 : BitVec 32 := Scalar.muli arg10 c8_i32_82
  let c5_i32_83 : BitVec 32 := 5#32
  let v153 : BitVec 32 := Scalar.addi v152 c5_i32_83
  let c0_i32_89 : BitVec 32 := 0#32
  ![1, v153.toNat, 0]
def k0_off132 (v164 : BitVec 32) : Fin 2 → Nat :=
  let c0_i32_90 : BitVec 32 := 0#32
  ![v164.toNat, 0]

def k0_chk44 (i : grid0.Coords) (v164 : BitVec 32) : Prop :=
  (∀ (k0_h4 : k0_cond4 i = 1#1), ∀ (k0_h5 : k0_cond5 i = 1#1), ∀ a, (k0_off132 v164) a + S1x1024.size a ≤ S73728x1024.size a)
theorem k0_off132_inb : ∀ (i : grid0.Coords) (v164 : BitVec 32) (k0_hw44 : k0_chk44 i v164), ∀ (k0_h4 : k0_cond4 i = 1#1), ∀ (k0_h5 : k0_cond5 i = 1#1), ∀ a, (k0_off132 v164) a + S1x1024.size a ≤ S73728x1024.size a := fun i v164 k0_hw44 k0_h4 k0_h5 => k0_hw44 k0_h4 k0_h5

def k0_off133 (i : grid0.Coords) (k0_t4 : Fin k0_t4_loop.trips) : Fin 1 → Nat :=
  let arg0 : BitVec 32 := BitVec.ofNat 32 (i 0).val
  let c1_i32_34 : BitVec 32 := 1#32
  let v60 : BitVec 32 := Scalar.addi arg0 c1_i32_34
  let c512_i32_92 : BitVec 32 := 512#32
  let v172 : BitVec 32 := Scalar.muli v60 c512_i32_92
  let c0_i32_36 : BitVec 32 := 0#32
  let c1_i32_38 : BitVec 32 := 1#32
  let arg10 : BitVec 32 := Scf.iv c0_i32_36 c1_i32_38 k0_t4
  let c8_i32_91 : BitVec 32 := 8#32
  let v170 : BitVec 32 := Scalar.muli arg10 c8_i32_91
  let c6_i32 : BitVec 32 := 6#32
  let v171 : BitVec 32 := Scalar.addi v170 c6_i32
  let v173 : BitVec 32 := Scalar.addi v172 v171
  let v174 : Index := Scalar.indexCast v173
  ![v174.toNat]
def k0_off134 (k0_t4 : Fin k0_t4_loop.trips) : Fin 3 → Nat :=
  let c0_i32_93 : BitVec 32 := 0#32
  let c0_i32_36 : BitVec 32 := 0#32
  let c1_i32_38 : BitVec 32 := 1#32
  let arg10 : BitVec 32 := Scf.iv c0_i32_36 c1_i32_38 k0_t4
  let c8_i32_91 : BitVec 32 := 8#32
  let v170 : BitVec 32 := Scalar.muli arg10 c8_i32_91
  let c6_i32 : BitVec 32 := 6#32
  let v171 : BitVec 32 := Scalar.addi v170 c6_i32
  let c0_i32_94 : BitVec 32 := 0#32
  ![0, v171.toNat, 0]
def k0_off135 (v175 : BitVec 32) : Fin 2 → Nat :=
  let c0_i32_95 : BitVec 32 := 0#32
  ![v175.toNat, 0]

def k0_chk45 (i : grid0.Coords) (v175 : BitVec 32) : Prop :=
  (∀ (k0_h4 : k0_cond4 i = 1#1), ∀ (k0_h5 : k0_cond5 i = 1#1), ∀ a, (k0_off135 v175) a + S1x1024.size a ≤ S73728x1024.size a)
theorem k0_off135_inb : ∀ (i : grid0.Coords) (v175 : BitVec 32) (k0_hw45 : k0_chk45 i v175), ∀ (k0_h4 : k0_cond4 i = 1#1), ∀ (k0_h5 : k0_cond5 i = 1#1), ∀ a, (k0_off135 v175) a + S1x1024.size a ≤ S73728x1024.size a := fun i v175 k0_hw45 k0_h4 k0_h5 => k0_hw45 k0_h4 k0_h5

def k0_off136 (i : grid0.Coords) (k0_t4 : Fin k0_t4_loop.trips) : Fin 1 → Nat :=
  let arg0 : BitVec 32 := BitVec.ofNat 32 (i 0).val
  let c1_i32_34 : BitVec 32 := 1#32
  let v60 : BitVec 32 := Scalar.addi arg0 c1_i32_34
  let c512_i32_92 : BitVec 32 := 512#32
  let v172 : BitVec 32 := Scalar.muli v60 c512_i32_92
  let c0_i32_36 : BitVec 32 := 0#32
  let c1_i32_38 : BitVec 32 := 1#32
  let arg10 : BitVec 32 := Scf.iv c0_i32_36 c1_i32_38 k0_t4
  let c8_i32_91 : BitVec 32 := 8#32
  let v170 : BitVec 32 := Scalar.muli arg10 c8_i32_91
  let c6_i32 : BitVec 32 := 6#32
  let v171 : BitVec 32 := Scalar.addi v170 c6_i32
  let v173 : BitVec 32 := Scalar.addi v172 v171
  let v181 : Index := Scalar.indexCast v173
  ![v181.toNat]
def k0_off137 (k0_t4 : Fin k0_t4_loop.trips) : Fin 3 → Nat :=
  let c1_i32_96 : BitVec 32 := 1#32
  let c0_i32_36 : BitVec 32 := 0#32
  let c1_i32_38 : BitVec 32 := 1#32
  let arg10 : BitVec 32 := Scf.iv c0_i32_36 c1_i32_38 k0_t4
  let c8_i32_91 : BitVec 32 := 8#32
  let v170 : BitVec 32 := Scalar.muli arg10 c8_i32_91
  let c6_i32 : BitVec 32 := 6#32
  let v171 : BitVec 32 := Scalar.addi v170 c6_i32
  let c0_i32_97 : BitVec 32 := 0#32
  ![1, v171.toNat, 0]
def k0_off138 (v182 : BitVec 32) : Fin 2 → Nat :=
  let c0_i32_98 : BitVec 32 := 0#32
  ![v182.toNat, 0]

def k0_chk46 (i : grid0.Coords) (v182 : BitVec 32) : Prop :=
  (∀ (k0_h4 : k0_cond4 i = 1#1), ∀ (k0_h5 : k0_cond5 i = 1#1), ∀ a, (k0_off138 v182) a + S1x1024.size a ≤ S73728x1024.size a)
theorem k0_off138_inb : ∀ (i : grid0.Coords) (v182 : BitVec 32) (k0_hw46 : k0_chk46 i v182), ∀ (k0_h4 : k0_cond4 i = 1#1), ∀ (k0_h5 : k0_cond5 i = 1#1), ∀ a, (k0_off138 v182) a + S1x1024.size a ≤ S73728x1024.size a := fun i v182 k0_hw46 k0_h4 k0_h5 => k0_hw46 k0_h4 k0_h5

def k0_off139 (i : grid0.Coords) (k0_t4 : Fin k0_t4_loop.trips) : Fin 1 → Nat :=
  let arg0 : BitVec 32 := BitVec.ofNat 32 (i 0).val
  let c1_i32_34 : BitVec 32 := 1#32
  let v60 : BitVec 32 := Scalar.addi arg0 c1_i32_34
  let c512_i32_100 : BitVec 32 := 512#32
  let v190 : BitVec 32 := Scalar.muli v60 c512_i32_100
  let c0_i32_36 : BitVec 32 := 0#32
  let c1_i32_38 : BitVec 32 := 1#32
  let arg10 : BitVec 32 := Scf.iv c0_i32_36 c1_i32_38 k0_t4
  let c8_i32_99 : BitVec 32 := 8#32
  let v188 : BitVec 32 := Scalar.muli arg10 c8_i32_99
  let c7_i32 : BitVec 32 := 7#32
  let v189 : BitVec 32 := Scalar.addi v188 c7_i32
  let v191 : BitVec 32 := Scalar.addi v190 v189
  let v192 : Index := Scalar.indexCast v191
  ![v192.toNat]
def k0_off140 (k0_t4 : Fin k0_t4_loop.trips) : Fin 3 → Nat :=
  let c0_i32_101 : BitVec 32 := 0#32
  let c0_i32_36 : BitVec 32 := 0#32
  let c1_i32_38 : BitVec 32 := 1#32
  let arg10 : BitVec 32 := Scf.iv c0_i32_36 c1_i32_38 k0_t4
  let c8_i32_99 : BitVec 32 := 8#32
  let v188 : BitVec 32 := Scalar.muli arg10 c8_i32_99
  let c7_i32 : BitVec 32 := 7#32
  let v189 : BitVec 32 := Scalar.addi v188 c7_i32
  let c0_i32_102 : BitVec 32 := 0#32
  ![0, v189.toNat, 0]
def k0_off141 (v193 : BitVec 32) : Fin 2 → Nat :=
  let c0_i32_103 : BitVec 32 := 0#32
  ![v193.toNat, 0]

def k0_chk47 (i : grid0.Coords) (v193 : BitVec 32) : Prop :=
  (∀ (k0_h4 : k0_cond4 i = 1#1), ∀ (k0_h5 : k0_cond5 i = 1#1), ∀ a, (k0_off141 v193) a + S1x1024.size a ≤ S73728x1024.size a)
theorem k0_off141_inb : ∀ (i : grid0.Coords) (v193 : BitVec 32) (k0_hw47 : k0_chk47 i v193), ∀ (k0_h4 : k0_cond4 i = 1#1), ∀ (k0_h5 : k0_cond5 i = 1#1), ∀ a, (k0_off141 v193) a + S1x1024.size a ≤ S73728x1024.size a := fun i v193 k0_hw47 k0_h4 k0_h5 => k0_hw47 k0_h4 k0_h5

def k0_off142 (i : grid0.Coords) (k0_t4 : Fin k0_t4_loop.trips) : Fin 1 → Nat :=
  let arg0 : BitVec 32 := BitVec.ofNat 32 (i 0).val
  let c1_i32_34 : BitVec 32 := 1#32
  let v60 : BitVec 32 := Scalar.addi arg0 c1_i32_34
  let c512_i32_100 : BitVec 32 := 512#32
  let v190 : BitVec 32 := Scalar.muli v60 c512_i32_100
  let c0_i32_36 : BitVec 32 := 0#32
  let c1_i32_38 : BitVec 32 := 1#32
  let arg10 : BitVec 32 := Scf.iv c0_i32_36 c1_i32_38 k0_t4
  let c8_i32_99 : BitVec 32 := 8#32
  let v188 : BitVec 32 := Scalar.muli arg10 c8_i32_99
  let c7_i32 : BitVec 32 := 7#32
  let v189 : BitVec 32 := Scalar.addi v188 c7_i32
  let v191 : BitVec 32 := Scalar.addi v190 v189
  let v199 : Index := Scalar.indexCast v191
  ![v199.toNat]
def k0_off143 (k0_t4 : Fin k0_t4_loop.trips) : Fin 3 → Nat :=
  let c1_i32_104 : BitVec 32 := 1#32
  let c0_i32_36 : BitVec 32 := 0#32
  let c1_i32_38 : BitVec 32 := 1#32
  let arg10 : BitVec 32 := Scf.iv c0_i32_36 c1_i32_38 k0_t4
  let c8_i32_99 : BitVec 32 := 8#32
  let v188 : BitVec 32 := Scalar.muli arg10 c8_i32_99
  let c7_i32 : BitVec 32 := 7#32
  let v189 : BitVec 32 := Scalar.addi v188 c7_i32
  let c0_i32_105 : BitVec 32 := 0#32
  ![1, v189.toNat, 0]
def k0_off144 (v200 : BitVec 32) : Fin 2 → Nat :=
  let c0_i32_106 : BitVec 32 := 0#32
  ![v200.toNat, 0]

def k0_chk48 (i : grid0.Coords) (v200 : BitVec 32) : Prop :=
  (∀ (k0_h4 : k0_cond4 i = 1#1), ∀ (k0_h5 : k0_cond5 i = 1#1), ∀ a, (k0_off144 v200) a + S1x1024.size a ≤ S73728x1024.size a)
theorem k0_off144_inb : ∀ (i : grid0.Coords) (v200 : BitVec 32) (k0_hw48 : k0_chk48 i v200), ∀ (k0_h4 : k0_cond4 i = 1#1), ∀ (k0_h5 : k0_cond5 i = 1#1), ∀ a, (k0_off144 v200) a + S1x1024.size a ≤ S73728x1024.size a := fun i v200 k0_hw48 k0_h4 k0_h5 => k0_hw48 k0_h4 k0_h5

@[reducible] def k0_t5_loop : Scf.Loop 32 :=
  let c0_i32_19 : BitVec 32 := 0#32
  let c1024_i32 : BitVec 32 := 1024#32
  let v33 : BitVec 32 := Scalar.addi c0_i32_19 c1024_i32
  let c1_i32_20 : BitVec 32 := 1#32
  ⟨c0_i32_19, v33, c1_i32_20⟩
def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference4Ideal.lean ====
abbrev S32768 : Shape := ⟨1, ![32768]⟩
abbrev S73728x1024 : Shape := ⟨2, ![73728, 1024]⟩
abbrev S32768x1024 : Shape := ⟨2, ![32768, 1024]⟩
abbrev S32768x128 : Shape := ⟨2, ![32768, 128]⟩
abbrev S_ : Shape := ⟨0, ![]⟩
abbrev S32768x1 : Shape := ⟨2, ![32768, 1]⟩

abbrev nBuf : Space → Nat
  | .hbm => 31
  | .vmem => 0
  | .smem => 0
  | _ => 0

abbrev bufTy : (tb : Table) → Fin (tcTables nBuf tb) → BufTy
  | .hbm, ⟨0, _⟩ => ⟨S32768, .i32⟩
  | .hbm, ⟨1, _⟩ => ⟨S32768, .i32⟩
  | .hbm, ⟨2, _⟩ => ⟨S73728x1024, .f32⟩
  | .hbm, ⟨3, _⟩ => ⟨S32768x1024, .f32⟩
  | .hbm, ⟨4, _⟩ => ⟨S32768x128, .f32⟩
  | .hbm, ⟨5, _⟩ => ⟨S_, .i32⟩
  | .hbm, ⟨6, _⟩ => ⟨S32768, .i32⟩
  | .hbm, ⟨7, _⟩ => ⟨S32768, .i1⟩
  | .hbm, ⟨8, _⟩ => ⟨S_, .i32⟩
  | .hbm, ⟨9, _⟩ => ⟨S32768, .i32⟩
  | .hbm, ⟨10, _⟩ => ⟨S32768, .i32⟩
  | .hbm, ⟨11, _⟩ => ⟨S32768, .i32⟩
  | .hbm, ⟨12, _⟩ => ⟨S32768x1, .i32⟩
  | .hbm, ⟨13, _⟩ => ⟨S32768x1024, .f32⟩
  | .hbm, ⟨14, _⟩ => ⟨S_, .i32⟩
  | .hbm, ⟨15, _⟩ => ⟨S32768, .i32⟩
  | .hbm, ⟨16, _⟩ => ⟨S32768, .i1⟩
  | .hbm, ⟨17, _⟩ => ⟨S_, .i32⟩
  | .hbm, ⟨18, _⟩ => ⟨S32768, .i32⟩
  | .hbm, ⟨19, _⟩ => ⟨S32768, .i32⟩
  | .hbm, ⟨20, _⟩ => ⟨S32768, .i32⟩
  | .hbm, ⟨21, _⟩ => ⟨S32768x1, .i32⟩
  | .hbm, ⟨22, _⟩ => ⟨S32768x1024, .f32⟩
  | .hbm, ⟨23, _⟩ => ⟨S32768x1, .f32⟩
  | .hbm, ⟨24, _⟩ => ⟨S32768x1024, .f32⟩
  | .hbm, ⟨25, _⟩ => ⟨S32768x1024, .f32⟩
  | .hbm, ⟨26, _⟩ => ⟨S32768x1024, .f32⟩
  | .hbm, ⟨27, _⟩ => ⟨S32768x1, .f32⟩
  | .hbm, ⟨28, _⟩ => ⟨S32768x1024, .f32⟩
  | .hbm, ⟨29, _⟩ => ⟨S32768x1024, .f32⟩
  | .hbm, ⟨30, _⟩ => ⟨S32768x1024, .f32⟩
  | _, _ => ⟨S32768, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== Kernel5.lean ====
abbrev S32768x1024 : Shape := ⟨2, ![32768, 1024]⟩
abbrev S32768x512 : Shape := ⟨2, ![32768, 512]⟩
abbrev S32768x256 : Shape := ⟨2, ![32768, 256]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S512x512 : Shape := ⟨2, ![512, 512]⟩
abbrev S512x256 : Shape := ⟨2, ![512, 256]⟩
abbrev S256x1024 : Shape := ⟨2, ![256, 1024]⟩
abbrev S512 : Shape := ⟨1, ![512]⟩
abbrev S512x1 : Shape := ⟨2, ![512, 1]⟩

abbrev nBuf : Space → Nat
  | .hbm => 10
  | .vmem => 14
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x256, .bf16⟩
  | .hbm, ⟨3, _⟩ => ⟨S32768x256, .bf16⟩
  | .hbm, ⟨4, _⟩ => ⟨S1024x1024, .f32⟩
  | .hbm, ⟨5, _⟩ => ⟨S1024, .f32⟩
  | .hbm, ⟨6, _⟩ => ⟨S1024x1024, .bf16⟩
  | .hbm, ⟨7, _⟩ => ⟨S1x1024, .f32⟩
  | .hbm, ⟨8, _⟩ => ⟨S32768x1024, .f32⟩
  | .hbm, ⟨9, _⟩ => ⟨S32768x1024, .bf16⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S1024x1024, .bf16⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference5Ideal.lean ====
abbrev S32768x1024 : Shape := ⟨2, ![32768, 1024]⟩
abbrev S32768x512 : Shape := ⟨2, ![32768, 512]⟩
abbrev S32768x256 : Shape := ⟨2, ![32768, 256]⟩
abbrev S1024x1024 : Shape := ⟨2, ![1024, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩

abbrev nBuf : Space → Nat
  | .hbm => 29
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x256, .bf16⟩
  | .hbm, ⟨3, _⟩ => ⟨S32768x256, .bf16⟩
  | .hbm, ⟨4, _⟩ => ⟨S1024x1024, .f32⟩
  | .hbm, ⟨5, _⟩ => ⟨S1024, .f32⟩
  | .hbm, ⟨6, _⟩ => ⟨S32768x512, .f32⟩
  | .hbm, ⟨7, _⟩ => ⟨S32768x256, .f32⟩
  | .hbm, ⟨8, _⟩ => ⟨S32768x256, .f32⟩
  | .hbm, ⟨9, _⟩ => ⟨S32768x1024, .f32⟩
  | .hbm, ⟨10, _⟩ => ⟨S32768x1024, .f32⟩
  | .hbm, ⟨11, _⟩ => ⟨S32768x1024, .f32⟩
  | .hbm, ⟨12, _⟩ => ⟨S32768x1024, .f32⟩
  | .hbm, ⟨13, _⟩ => ⟨S_, .f32⟩
  | .hbm, ⟨14, _⟩ => ⟨S32768, .f32⟩
  | .hbm, ⟨15, _⟩ => ⟨S32768x1, .f32⟩
  | .hbm, ⟨16, _⟩ => ⟨S_, .f32⟩
  | .hbm, ⟨17, _⟩ => ⟨S32768x1, .f32⟩
  | .hbm, ⟨18, _⟩ => ⟨S32768x1, .f32⟩
  | .hbm, ⟨19, _⟩ => ⟨S_, .f32⟩
  | .hbm, ⟨20, _⟩ => ⟨S32768x1, .f32⟩
  | .hbm, ⟨21, _⟩ => ⟨S32768x1, .f32⟩
  | .hbm, ⟨22, _⟩ => ⟨S32768x1, .f32⟩
  | .hbm, ⟨23, _⟩ => ⟨S32768x1024, .f32⟩
  | .hbm, ⟨24, _⟩ => ⟨S32768x1024, .f32⟩
  | .hbm, ⟨25, _⟩ => ⟨S1x1024, .f32⟩
  | .hbm, ⟨26, _⟩ => ⟨S32768x1024, .f32⟩
  | .hbm, ⟨27, _⟩ => ⟨S32768x1024, .f32⟩
  | .hbm, ⟨28, _⟩ => ⟨S32768x1024, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]
-- ==== Kernel6.lean ====
abbrev S32768x1024 : Shape := ⟨2, ![32768, 1024]⟩
abbrev S32768x512 : Shape := ⟨2, ![32768, 512]⟩
abbrev S32768x256 : Shape := ⟨2, ![32768, 256]⟩
abbrev S1024x1024 : Shape := ⟨2, ![1024, 1024]⟩
abbrev S1024 : Shape := ⟨1, ![1024]⟩
abbrev S1024x8 : Shape := ⟨2, ![1024, 8]⟩
abbrev S8 : Shape := ⟨1, ![8]⟩
abbrev S_ : Shape := ⟨0, ![]⟩
abbrev S512x512 : Shape := ⟨2, ![512, 512]⟩
abbrev S1024x128 : Shape := ⟨2, ![1024, 128]⟩
abbrev S1024x256 : Shape := ⟨2, ![1024, 256]⟩
abbrev S128 : Shape := ⟨1, ![128]⟩
abbrev S1x128 : Shape := ⟨2, ![1, 128]⟩
abbrev S1x1024 : Shape := ⟨2, ![1, 1024]⟩
abbrev S32768x128 : Shape := ⟨2, ![32768, 128]⟩
abbrev S8x32768 : Shape := ⟨2, ![8, 32768]⟩
abbrev S8x128 : Shape := ⟨2, ![8, 128]⟩
abbrev S512x1024 : Shape := ⟨2, ![512, 1024]⟩
abbrev S512x256 : Shape := ⟨2, ![512, 256]⟩
abbrev S512x128 : Shape := ⟨2, ![512, 128]⟩
abbrev S8x512 : Shape := ⟨2, ![8, 512]⟩
abbrev S256x1024 : Shape := ⟨2, ![256, 1024]⟩
abbrev S512 : Shape := ⟨1, ![512]⟩
abbrev S512x1 : Shape := ⟨2, ![512, 1]⟩
abbrev S128x512 : Shape := ⟨2, ![128, 512]⟩

abbrev nBuf : Space → Nat
  | .hbm => 39
  | .vmem => 23
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x256, .bf16⟩
  | .hbm, ⟨3, _⟩ => ⟨S32768x256, .bf16⟩
  | .hbm, ⟨4, _⟩ => ⟨S1024x1024, .f32⟩
  | .hbm, ⟨5, _⟩ => ⟨S1024, .f32⟩
  | .hbm, ⟨6, _⟩ => ⟨S1024x8, .f32⟩
  | .hbm, ⟨7, _⟩ => ⟨S8, .f32⟩
  | .hbm, ⟨8, _⟩ => ⟨S_, .f32⟩
  | .hbm, ⟨9, _⟩ => ⟨S512x512, .f32⟩
  | .hbm, ⟨10, _⟩ => ⟨S512x512, .i32⟩
  | .hbm, ⟨11, _⟩ => ⟨S_, .i32⟩
  | .hbm, ⟨12, _⟩ => ⟨S512x512, .i32⟩
  | .hbm, ⟨13, _⟩ => ⟨S512x512, .i32⟩
  | .hbm, ⟨14, _⟩ => ⟨S512x512, .i32⟩
  | .hbm, ⟨15, _⟩ => ⟨S512x512, .i1⟩
  | .hbm, ⟨16, _⟩ => ⟨S_, .f32⟩
  | .hbm, ⟨17, _⟩ => ⟨S512x512, .f32⟩
  | .hbm, ⟨18, _⟩ => ⟨S512x512, .f32⟩
  | .hbm, ⟨19, _⟩ => ⟨S512x512, .bf16⟩
  | .hbm, ⟨20, _⟩ => ⟨S_, .i32⟩
  | .hbm, ⟨21, _⟩ => ⟨S_, .f32⟩
  | .hbm, ⟨22, _⟩ => ⟨S1024x128, .f32⟩
  | .hbm, ⟨23, _⟩ => ⟨S1024x128, .bf16⟩
  | .hbm, ⟨24, _⟩ => ⟨S1024x128, .f32⟩
  | .hbm, ⟨25, _⟩ => ⟨S1024x128, .f32⟩
  | .hbm, ⟨26, _⟩ => ⟨S1024x128, .bf16⟩
  | .hbm, ⟨27, _⟩ => ⟨S1024x256, .bf16⟩
  | .hbm, ⟨28, _⟩ => ⟨S_, .i32⟩
  | .hbm, ⟨29, _⟩ => ⟨S_, .f32⟩
  | .hbm, ⟨30, _⟩ => ⟨S128, .f32⟩
  | .hbm, ⟨31, _⟩ => ⟨S1x128, .f32⟩
  | .hbm, ⟨32, _⟩ => ⟨S1024x1024, .bf16⟩
  | .hbm, ⟨33, _⟩ => ⟨S1x1024, .f32⟩
  | .hbm, ⟨34, _⟩ => ⟨S32768x1024, .f32⟩
  | .hbm, ⟨35, _⟩ => ⟨S32768x1024, .f32⟩
  | .hbm, ⟨36, _⟩ => ⟨S32768x128, .f32⟩
  | .hbm, ⟨37, _⟩ => ⟨S8x32768, .f32⟩
  | .hbm, ⟨38, _⟩ => ⟨S8x128, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S1024x1024, .bf16⟩
  | .local _ .vmem, ⟨9, _⟩ => ⟨S1x1024, .f32⟩
  | .local _ .vmem, ⟨10, _⟩ => ⟨S1024x256, .bf16⟩
  | .local _ .vmem, ⟨11, _⟩ => ⟨S1x128, .f32⟩
  | .local _ .vmem, ⟨12, _⟩ => ⟨S512x512, .bf16⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x128, .f32⟩
  | .local _ .vmem, ⟨18, _⟩ => ⟨S512x128, .f32⟩
  | .local _ .vmem, ⟨19, _⟩ => ⟨S8x512, .f32⟩
  | .local _ .vmem, ⟨20, _⟩ => ⟨S8x512, .f32⟩
  | .local _ .vmem, ⟨21, _⟩ => ⟨S8x128, .f32⟩
  | .local _ .vmem, ⟨22, _⟩ => ⟨S1x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_call0_v0 : Ref sig .tc := ⟨.hbm, 10, rfl⟩
abbrev main_call0_c : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_cst : Ref sig .tc := ⟨.hbm, 16, rfl⟩
abbrev main_call0_v5 : Ref sig .tc := ⟨.hbm, 17, rfl⟩
abbrev main_v1 : Ref sig .tc := ⟨.hbm, 18, rfl⟩
abbrev main_v2 : Ref sig .tc := ⟨.hbm, 19, rfl⟩
abbrev main_c : Ref sig .tc := ⟨.hbm, 20, rfl⟩
abbrev main_call1_v0 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_c_0 : Ref sig .tc := ⟨.hbm, 28, rfl⟩
abbrev main_call2_v0 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13_0 : Ref sig .tc := ⟨.hbm, 34, rfl⟩
abbrev main_v13_1 : Ref sig .tc := ⟨.hbm, 35, rfl⟩
abbrev main_v13_2 : Ref sig .tc := ⟨.hbm, 36, rfl⟩
abbrev main_v13_3 : Ref sig .tc := ⟨.hbm, 37, rfl⟩
abbrev main_v13_4 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S8x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference6Ideal.lean ====
abbrev S32768x1024 : Shape := ⟨2, ![32768, 1024]⟩
abbrev S32768x512 : Shape := ⟨2, ![32768, 512]⟩
abbrev S32768x256 : Shape := ⟨2, ![32768, 256]⟩
abbrev S1024x1024 : Shape := ⟨2, ![1024, 1024]⟩
abbrev S1024 : Shape := ⟨1, ![1024]⟩
abbrev S1024x8 : Shape := ⟨2, ![1024, 8]⟩
abbrev S8 : Shape := ⟨1, ![8]⟩
abbrev S_ : Shape := ⟨0, ![]⟩
abbrev S32768 : Shape := ⟨1, ![32768]⟩
abbrev S32768x1 : Shape := ⟨2, ![32768, 1]⟩
abbrev S1x1024 : Shape := ⟨2, ![1, 1024]⟩

abbrev nBuf : Space → Nat
  | .hbm => 30
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x256, .bf16⟩
  | .hbm, ⟨3, _⟩ => ⟨S32768x256, .bf16⟩
  | .hbm, ⟨4, _⟩ => ⟨S1024x1024, .f32⟩
  | .hbm, ⟨5, _⟩ => ⟨S1024, .f32⟩
  | .hbm, ⟨6, _⟩ => ⟨S1024x8, .f32⟩
  | .hbm, ⟨7, _⟩ => ⟨S8, .f32⟩
  | .hbm, ⟨8, _⟩ => ⟨S32768x512, .f32⟩
  | .hbm, ⟨9, _⟩ => ⟨S32768x256, .f32⟩
  | .hbm, ⟨10, _⟩ => ⟨S32768x256, .f32⟩
  | .hbm, ⟨11, _⟩ => ⟨S32768x1024, .f32⟩
  | .hbm, ⟨12, _⟩ => ⟨S32768x1024, .f32⟩
  | .hbm, ⟨13, _⟩ => ⟨S32768x1024, .f32⟩
  | .hbm, ⟨14, _⟩ => ⟨S32768x1024, .f32⟩
  | .hbm, ⟨15, _⟩ => ⟨S_, .f32⟩
  | .hbm, ⟨16, _⟩ => ⟨S32768, .f32⟩
  | .hbm, ⟨17, _⟩ => ⟨S32768x1, .f32⟩
  | .hbm, ⟨18, _⟩ => ⟨S_, .f32⟩
  | .hbm, ⟨19, _⟩ => ⟨S32768x1, .f32⟩
  | .hbm, ⟨20, _⟩ => ⟨S32768x1, .f32⟩
  | .hbm, ⟨21, _⟩ => ⟨S_, .f32⟩
  | .hbm, ⟨22, _⟩ => ⟨S32768x1, .f32⟩
  | .hbm, ⟨23, _⟩ => ⟨S32768x1, .f32⟩
  | .hbm, ⟨24, _⟩ => ⟨S32768x1, .f32⟩
  | .hbm, ⟨25, _⟩ => ⟨S32768x1024, .f32⟩
  | .hbm, ⟨26, _⟩ => ⟨S32768x1024, .f32⟩
  | .hbm, ⟨27, _⟩ => ⟨S1x1024, .f32⟩
  | .hbm, ⟨28, _⟩ => ⟨S32768x1024, .f32⟩
  | .hbm, ⟨29, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩

abbrev nD : Nat := 1
abbrev τ : Topo := Topo.v7x

variable {F : FTy → Type} [FloatOps F]
-- ==== Proof.Grouped.Spec.lean ====
/-
  The grouped feed-forward layer as plain sums over the extended reals: what a row of one expert's layer is, and what
  the whole result is, given each tile's expert and mark.
-/
module

public import Idealize.ShloMosaic.PureOps.Ideal.Laws
public import Idealize.ShloMosaic.Lib.ValueIdxCore

@[expose] public section

noncomputable section

namespace Cert.Grouped

open Idealize.ShloMosaic
open Idealize.ShloMosaic.ValueIdx

/-- The rows, a projection of every expert from the model's width to the hidden width, and one back. -/
abbrev Rows := (⟨2, ![73728, 1024]⟩ : Shape).Idx → EReal
abbrev Wide := (⟨3, ![8, 1024, 3584]⟩ : Shape).Idx → EReal
abbrev Narrow := (⟨3, ![8, 3584, 1024]⟩ : Shape).Idx → EReal
abbrev Tiles := (⟨1, ![72]⟩ : Shape).Idx → BitVec 32

/-- The number the layer's constant 1 denotes. -/
def one : EReal := Ideal.ofBits .f32 0x3F800000#32

/-- `g` times the logistic function of `g`. -/
def silu (g : EReal) : EReal := g * Ideal.div one (one + Ideal.exp (-g))

/-- A row's projection on one hidden column. -/
def proj (x : Rows) (w : Wide) (r : Fin 73728) (e : Fin 8) (k : Fin 3584) : EReal := ∑ q : Fin 1024, x (ix2 r q) * w (ix3 e q k)

/-- A row's hidden value. -/
def act (x : Rows) (wg wu : Wide) (r : Fin 73728) (e : Fin 8) (k : Fin 3584) : EReal := silu (proj x wg r e k) * proj x wu r e k

/-- A row of one expert's layer. -/
def ffn (x : Rows) (wg wu : Wide) (wd : Narrow) (r : Fin 73728) (e : Fin 8) (c : Fin 1024) : EReal :=
  ∑ k : Fin 3584, act x wg wu r e k * wd (ix3 e k c)

/-- A row's tile. -/
def tileOf (r : Fin 73728) : (⟨1, ![72]⟩ : Shape).Idx := ix1 (⟨r.val / 1024, by omega⟩ : Fin 72)

/-- A tile's expert. -/
def expertOf (te : Tiles) (j : (⟨1, ![72]⟩ : Shape).Idx) : Fin 8 := ⟨(te j).toNat % 8, by omega⟩

/-- The layer: a row of a marked tile is its expert's, every other row is zero. -/
def layer (te ta : Tiles) (x : Rows) (wg wu : Wide) (wd : Narrow) : Rows := fun i =>
  if ta (tileOf (i 0)) = 1#32 then ffn x wg wu wd (i 0) (expertOf te (tileOf (i 0))) (i 1) else 0

end Cert.Grouped

end
-- ==== Proof.Dense.Spec.lean ====
/-
  The dense layer's feed-forward part as plain sums over the extended reals.
-/
module

public import proofs.«01_k».proof.Proof.Grouped.Spec

@[expose] public section

noncomputable section

namespace Cert.Dense

open Idealize.ShloMosaic
open Idealize.ShloMosaic.ValueIdx
open Cert.Grouped (silu)

/-- The rows, the two projections to the hidden width, and the one back. -/
abbrev Rows := (⟨2, ![32768, 1024]⟩ : Shape).Idx → EReal
abbrev Wide := (⟨2, ![1024, 3584]⟩ : Shape).Idx → EReal
abbrev Narrow := (⟨2, ![3584, 1024]⟩ : Shape).Idx → EReal

/-- A row's projection on one hidden column. -/
def proj (h : Rows) (w : Wide) (r : Fin 32768) (k : Fin 3584) : EReal := ∑ q : Fin 1024, h (ix2 r q) * w (ix2 q k)

/-- A row's hidden value. -/
def act (h : Rows) (wg wu : Wide) (r : Fin 32768) (k : Fin 3584) : EReal := silu (proj h wg r k) * proj h wu r k

/-- The stream with the layer added to it. -/
def layer (h x : Rows) (wg wu : Wide) (wd : Narrow) : Rows := fun i =>
  x i + ∑ k : Fin 3584, act h wg wu (i 0) k * wd (ix2 k (i 1))

end Cert.Dense

end
-- ==== Proof.Dense.Reference.lean ====
/-
  The dense layer's reference computes the layer.
-/
module

public import proofs.«01_k».proof.Proof.Gen.Reference3Ideal.Read
public import proofs.«01_k».proof.Proof.Dense.Spec

@[expose] public section

noncomputable section

namespace Cert.Reference3Ideal.Dense

open Cert.Reference3Ideal Cert.Reference3Ideal.Gen Cert.Reference3Ideal.Read
open Idealize.ShloMosaic
open Idealize.ShloMosaic.ValueIdx
open Cert.Dense

variable (h x : FVec Ideal S32768x1024 .f32) (wg wu : FVec Ideal S1024x3584 .f32) (wd : FVec Ideal S3584x1024 .f32)

/-- Both projections are one product with the weights they are given. -/
theorem proj_apply (w : FVec Ideal S1024x3584 .f32) (i : S32768x3584.Idx) : val_main_v0 (F := Ideal) h w i = proj h w (i 0) (i 1) := by
  refine (val_main_v0_apply h w i).trans (Finset.sum_congr rfl fun q _ => congrArg₂ (· * ·) (congrArg h (funext fun a => ?_)) (congrArg w (funext fun a => ?_)))
  · match a with
    | ⟨0, _⟩ => rfl
    | ⟨1, _⟩ => rfl
  · match a with
    | ⟨0, _⟩ => rfl
    | ⟨1, _⟩ => rfl

/-- The hidden values. -/
theorem act_apply (i : S32768x3584.Idx) : val_main_v3 (F := Ideal) h wg wu i = act h wg wu (i 0) (i 1) := by
  have h1 := proj_apply h wg i
  have h2 : val_main_v2 (F := Ideal) h wu i = proj h wu (i 0) (i 1) := proj_apply h wu i
  unfold act Cert.Grouped.silu
  rw [← h1, ← h2]
  rfl

/-- The reference is the layer. -/
theorem value : val_main_v5 (F := Ideal) h x wg wu wd = layer h x wg wu wd := by
  funext i
  refine congrArg (x i + ·) ((val_main_v4_apply h wg wu wd i).trans (Finset.sum_congr rfl fun k _ => ?_))
  refine congrArg₂ (· * ·) (act_apply h wg wu _) (congrArg wd (funext fun a => ?_))
  match a with
  | ⟨0, _⟩ => rfl
  | ⟨1, _⟩ => rfl

end Cert.Reference3Ideal.Dense

end
-- ==== Proof.Dense.Same.lean ====
/-
  The dense layer is printed twice, once for each reading of its floats.  The two texts are the
  same, so over any one carrier the two programs are equal, and what is proved of a run of the one
  is proved of a run of the other.
-/
module
public import proofs.«01_k».proof.Proof.Gen.Kernel3
public import proofs.«01_k».proof.Proof.Gen.Kernel3Ideal

@[expose] public section

namespace Cert.Kernel3Ideal.Dense

open Idealize.ShloMosaic Idealize.ShloMosaic.TcCoe Idealize.SL.Sem

variable {F : FTy → Type} [FloatOps F]

set_option backward.isDefEq.respectTransparency.types false in
set_option maxHeartbeats 1000000 in
/-- The tables of bodies agree, label by label. -/
theorem bodies_eq : Cert.Kernel3.defs₀ (F := F) = Cert.Kernel3Ideal.defs₀ (F := F) := by
  unfold Cert.Kernel3.defs₀ Cert.Kernel3Ideal.defs₀
  refine congrArg (Defs.onTc (nD := Cert.Kernel3Ideal.nD) (τ := Cert.Kernel3Ideal.τ) (sig := Cert.Kernel3Ideal.sig) (Λ := Cert.Kernel3Ideal.Λ₀)) (funext fun l => ?_)
  funext x
  match l, x with
  | 0, (t, s) => rfl

set_option backward.isDefEq.respectTransparency.types false in
set_option maxHeartbeats 1000000 in
/-- So do the tables with the pipelines' own labels. -/
theorem defs_eq : Cert.Kernel3.defs (F := F) = Cert.Kernel3Ideal.defs (F := F) :=
  congrArg (Pipeline.defs (Cert.Kernel3Ideal.pcfgs (F := F))) bodies_eq

set_option backward.isDefEq.respectTransparency.types false in
set_option maxHeartbeats 1000000 in
/-- And the main programs. -/
theorem main_eq : Cert.Kernel3.main (F := F) = Cert.Kernel3Ideal.main (F := F) := rfl

set_option backward.isDefEq.respectTransparency.types false in
set_option maxHeartbeats 1000000 in
/-- A run of the one program is a run of the other. -/
theorem run_eq (m : (ℓ : Loc Cert.Kernel3Ideal.nD Cert.Kernel3Ideal.τ Cert.Kernel3Ideal.sig) → Buf (Elt F) ℓ)
    (ρ : Dev Cert.Kernel3Ideal.nD → PrngReg) :
    θ_run (Cert.Kernel3.defs (F := F)) (onTc (τ := Cert.Kernel3.τ) (Cert.Kernel3.main (F := F))) ⟨m, fun _ => 0, ρ⟩
      = θ_run (Cert.Kernel3Ideal.defs (F := F)) (onTc (τ := Cert.Kernel3Ideal.τ) (Cert.Kernel3Ideal.main (F := F))) ⟨m, fun _ => 0, ρ⟩ :=
  congrArg₂ (fun D M => θ_run D (onTc (τ := Cert.Kernel3Ideal.τ) M)
    (⟨m, fun _ => 0, ρ⟩ : MemSt Cert.Kernel3Ideal.nD Cert.Kernel3Ideal.τ Cert.Kernel3Ideal.sig (Elt F))) (defs_eq (F := F)) (main_eq (F := F))

set_option backward.isDefEq.respectTransparency.types false in
set_option maxHeartbeats 1000000 in
/-- What holds of every end of the one holds of every end of the other. -/
theorem run_of (m : (ℓ : Loc Cert.Kernel3Ideal.nD Cert.Kernel3Ideal.τ Cert.Kernel3Ideal.sig) → Buf (Elt F) ℓ)
    (ρ : Dev Cert.Kernel3Ideal.nD → PrngReg) (Q : PUnit × MemSt Cert.Kernel3Ideal.nD Cert.Kernel3Ideal.τ Cert.Kernel3Ideal.sig (Elt F) → Prop)
    (h : θ_run (Cert.Kernel3Ideal.defs (F := F)) (onTc (τ := Cert.Kernel3Ideal.τ) (Cert.Kernel3Ideal.main (F := F))) ⟨m, fun _ => 0, ρ⟩ Q) :
    θ_run (Cert.Kernel3.defs (F := F)) (onTc (τ := Cert.Kernel3.τ) (Cert.Kernel3.main (F := F))) ⟨m, fun _ => 0, ρ⟩ Q := by
  rw [run_eq]
  exact h

end Cert.Kernel3Ideal.Dense
-- ==== Proof.Grouped.Body.lean ====
/-
  The grouped feed-forward's body at one grid point: the output block is zeroed at the tile's first chunk, and the
  chunk's contribution is added to it if the tile is in use.
-/
module

public import proofs.«01_k».proof.Proof.Gen.Kernel2Ideal.Skeleton
public import proofs.«01_k».proof.Proof.Gen.Kernel2Ideal.Launch
public import Idealize.ShloMosaic.Lib.Pipeline.TableIdle
public import Idealize.ShloMosaic.Lib.Pipeline.FrameBody
public import Idealize.ShloMosaic.Lib.Pipeline.Value
public import Idealize.ShloMosaic.Lib.Writes
public import Idealize.ShloMosaic.Lib.Ring
public import Idealize.ShloMosaic.Lib.Exec
public import Idealize.ShloMosaic.Lib.Tactic

@[expose] public section

noncomputable section

namespace Cert.Kernel2Ideal.Grouped

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

abbrev tbM0 : Memref sig .tc .smem S72 .i32 := Memref.whole main_arg0
abbrev tbM1 : Memref sig .tc .smem S72 .i32 := Memref.whole main_arg1

/-- The word the body reads of the second table at a grid point. -/
abbrev wordAt (T1 : S72.Idx → BitVec 32) (i : grid0.Coords) : BitVec 32 :=
  View.readAt (Elt F) tbM1.view (Rect.unit (s := S72) (k0_off1 i) S1.size (k0_off1_inb i)).toLoadRect T1 (Shape.Idx.first (numel1_S1.symm ▸ Nat.one_pos))

/-- The output block the body starts from: zero at a tile's first chunk, what it held otherwise. -/
def start (i : grid0.Coords) (y : S1024x1024.Idx → F .f32) : S1024x1024.Idx → F .f32 :=
  if k0_cond1 i = 1#1 then k0_pay1 (F := F) else y

/-- The output block after the body. -/
def stepVal (i : grid0.Coords) (w : BitVec 32) (x0 : S1024x1024.Idx → F .f32) (x1 x2 : S1x1024x896.Idx → F .f32) (x3 : S1x896x1024.Idx → F .f32)
    (y : S1024x1024.Idx → F .f32) : S1024x1024.Idx → F .f32 :=
  if k0_cond2 w = 1#1 then k0_pay2 (start i y) x0 x1 x2 x3 else start i y

theorem hz2 : (![0, 0] : Fin S1024x1024.rank → Nat) = fun _ => 0 := by funext a; fin_cases a <;> rfl

/-- What a store of the whole block, the last one made, leaves. -/
theorem read_full (v : View sig .tc .vmem S1024x1024 .f32) (f : v.ty.Contents (Elt F)) (inb : ∀ a, (![0, 0] : Fin 2 → Nat) a + S1024x1024.size a ≤ S1024x1024.size a)
    (w : S1024x1024.Idx → Elt F .f32) (L : List (View.Piece (Elt F) S1024x1024 .f32)) :
    v.read (Elt F) (v.writes (Elt F) f ((⟨Rect.unit (s := S1024x1024) ![0, 0] S1024x1024.size inb, w⟩ : View.Piece (Elt F) S1024x1024 .f32) :: L)) = w := by
  have hc : ∀ y : S1024x1024.Idx, ∃ p ∈ ((⟨Rect.unit (s := S1024x1024) ![0, 0] S1024x1024.size inb, w⟩ : View.Piece (Elt F) S1024x1024 .f32) :: L), y ∈ p.1.set := by
    intro y
    refine ⟨_, List.mem_cons_self, ?_⟩
    exact View.mem_set_unit_zero (S := S1024x1024) hz2 inb y
  rw [View.read_writes_eq_canon v f _ hc]
  exact View.canon_cons_unit_zero (S := S1024x1024) hz2 inb w L

theorem hz3 : (![0, 0, 0] : Fin 3 → Nat) = fun _ => 0 := by funext a; fin_cases a <;> rfl

set_option maxHeartbeats 4000000 in
theorem body_run (c : Dev nD) (i : grid0.Coords) (arg4 : Memref sig .tc .vmem S1024x1024 .f32) (harg4 : arg4.IsWhole)
    (arg5 : Memref sig .tc .vmem S1x1024x896 .f32) (harg5 : arg5.IsWhole) (arg6 : Memref sig .tc .vmem S1x1024x896 .f32) (harg6 : arg6.IsWhole)
    (arg7 : Memref sig .tc .vmem S1x896x1024 .f32) (harg7 : arg7.IsWhole) (arg8 : Memref sig .tc .vmem S1024x1024 .f32) (harg8 : arg8.IsWhole)
    (T0 T1 : S72.Idx → BitVec 32) (x0 : S1024x1024.Idx → F .f32) (x1 x2 : S1x1024x896.Idx → F .f32) (x3 : S1x896x1024.Idx → F .f32)
    (y : S1024x1024.Idx → F .f32) (K : PUnit → sProp 𝕄) :
    iprop((arg4.view.loc (c : Thread nD τ) ↦[arg4.view.set]{fullShare} arg4.view.rep x0)
      ∗ (arg5.view.loc (c : Thread nD τ) ↦[arg5.view.set]{fullShare} arg5.view.rep x1)
      ∗ (arg6.view.loc (c : Thread nD τ) ↦[arg6.view.set]{fullShare} arg6.view.rep x2)
      ∗ (arg7.view.loc (c : Thread nD τ) ↦[arg7.view.set]{fullShare} arg7.view.rep x3)
      ∗ (tbM0.view.loc (c : Thread nD τ) ↦{fullShare.right} T0)
      ∗ (tbM1.view.loc (c : Thread nD τ) ↦{fullShare.right} T1)
      ∗ owns (c : Thread nD τ) arg8 fullShare y
      ∗ (iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (tbM0.view.loc (c : Thread nD τ) ↦{fullShare.right} T0)
          ∗ (tbM1.view.loc (c : Thread nD τ) ↦{fullShare.right} T1)
          ∗ owns (c : Thread nD τ) arg8 fullShare (stepVal i (wordAt (F := F) T1 i) x0 x1 x2 x3 y)) -∗ K ⟨⟩))
      ⊢ wp frame (wpE (defs₀ (F := F)) Variants.none c none) Set.univ
        (cc0_swiglu_grouped i tbM0 (Memref.isWhole_whole _) tbM1 (Memref.isWhole_whole _) arg4 harg4 arg5 harg5 arg6 harg6 arg7 harg7 arg8 harg8) K := by
  have hT0 : tbM0.IsWhole := Memref.isWhole_whole _
  have hT1 : tbM1.IsWhole := Memref.isWhole_whole _
  unfold owns
  rw [cc0_swiglu_grouped_eq_skeleton]; unfold cc0_swiglu_grouped_skel
  iintro ⟨H0, H1, H2, H3, HT0, HT1, ⟨%f4, %hf4, HO4⟩, Hk⟩
  obtain rfl := harg8.eq_unread hf4
  by_cases h1 : k0_cond1 i = 1#1
  · by_cases h2 : k0_cond2 (wordAt (F := F) T1 i) = 1#1
    · sl_exec! (disch := first | (guard_target = k0_cond1 _ = _; exact h1) | (guard_target = k0_cond2 _ = _; exact h2))
      sl_step
      iapply Hk
      isplitl [H0]; · iexact H0
      isplitl [H1]; · iexact H1
      isplitl [H2]; · iexact H2
      isplitl [H3]; · iexact H3
      isplitl [HT0]; · iexact HT0
      isplitl [HT1]; · iexact HT1
      iexists _; isplitr; swap
      · iexact HO4
      ipureintro
      unfold stepVal start
      rw [if_pos h2, if_pos h1]
      sl_unfold_words
      rw [read_full]
      simp only [View.readCov_unit_zero (S := S1024x1024) _ hz2, View.readAt_eq_ld, View.read_rep, View.ld_unit_zero (S := S1024x1024) hz2, View.ld_unit_zero (S := S1x1024x896) hz3, View.ld_unit_zero (S := S1x896x1024) hz3]
    · sl_exec! (disch := first | (guard_target = k0_cond1 _ = _; exact h1) | (guard_target = ¬(k0_cond2 _ = _); exact h2))
      sl_step
      iapply Hk
      isplitl [H0]; · iexact H0
      isplitl [H1]; · iexact H1
      isplitl [H2]; · iexact H2
      isplitl [H3]; · iexact H3
      isplitl [HT0]; · iexact HT0
      isplitl [HT1]; · iexact HT1
      iexists _; isplitr; swap
      · iexact HO4
      ipureintro
      unfold stepVal start
      rw [if_neg h2, if_pos h1]
      sl_unfold_words
      rw [read_full]
  · by_cases h2 : k0_cond2 (wordAt (F := F) T1 i) = 1#1
    · sl_exec! (disch := first | (guard_target = ¬(k0_cond1 _ = _); exact h1) | (guard_target = k0_cond2 _ = _; exact h2))
      sl_step
      iapply Hk
      isplitl [H0]; · iexact H0
      isplitl [H1]; · iexact H1
      isplitl [H2]; · iexact H2
      isplitl [H3]; · iexact H3
      isplitl [HT0]; · iexact HT0
      isplitl [HT1]; · iexact HT1
      iexists _; isplitr; swap
      · iexact HO4
      ipureintro
      unfold stepVal start
      rw [if_pos h2, if_neg h1]
      sl_unfold_words
      rw [read_full]
      simp only [View.readAt_eq_ld, harg8.read_unread, View.read_rep, View.ld_unit_zero (S := S1024x1024) hz2, View.ld_unit_zero (S := S1x1024x896) hz3, View.ld_unit_zero (S := S1x896x1024) hz3]
    · sl_exec! (disch := first | (guard_target = ¬(k0_cond1 _ = _); exact h1) | (guard_target = ¬(k0_cond2 _ = _); exact h2))
      sl_step
      iapply Hk
      isplitl [H0]; · iexact H0
      isplitl [H1]; · iexact H1
      isplitl [H2]; · iexact H2
      isplitl [H3]; · iexact H3
      isplitl [HT0]; · iexact HT0
      isplitl [HT1]; · iexact HT1
      iexists _; isplitr; swap
      · iexact HO4
      ipureintro
      unfold stepVal start
      rw [if_neg h2, if_neg h1]
      exact harg8.read_unread (Val := Elt F) y

end Cert.Kernel2Ideal.Grouped

end
-- ==== Proof.Grouped.Sched.lean ====
/-
  The tables and the grid: what an index map reads of the tables, that every block lies inside its array, and when the
  output block is left untouched, written back and started afresh.
-/
module

public import proofs.«01_k».proof.Proof.Grouped.Body
public import Idealize.ShloMosaic.Lib.ValueIdxCore
public import Mathlib.Tactic.IntervalCases

@[expose] public section

noncomputable section

namespace Cert.Kernel2Ideal.Grouped

open Cert.Kernel2Ideal Cert.Kernel2Ideal.Gen
open Idealize.ShloMosaic Idealize.ShloMosaic.TcCoe
open Idealize.ShloMosaic.ValueIdx
open Idealize.ShloMosaic.Pipeline (Dat Cfg Window)

variable {F : FTy → Type} [FloatOps F]

/-- A tile's index, a chunk's index. -/
theorem row_lt (i : grid0.Coords) : (i 0).val < 72 := (i 0).isLt
theorem col_lt (i : grid0.Coords) : (i 1).val < 4 := (i 1).isLt

/-- The tables in range: each tile's expert is one of the eight, its mark 0 or 1. -/
def InRange (T0 T1 : S72.Idx → BitVec 32) : Prop := ∀ j : S72.Idx, (T0 j).toNat < 8 ∧ (T1 j = 0#32 ∨ T1 j = 1#32)

theorem off1_eq (i : grid0.Coords) : k0_off1 i 0 = (i 0).val := by
  have h := row_lt i
  show (Scalar.indexCast (BitVec.ofNat 32 (i 0).val)).toNat = _
  unfold Scalar.indexCast
  simp [BitVec.toNat_setWidth]
  omega

/-- The word of a table at a tile's index. -/
abbrev tileIx (i : grid0.Coords) : S72.Idx := ix1 (⟨(i 0).val, row_lt i⟩ : Fin 72)

theorem emb_eq (i : grid0.Coords) (x : (Rect.unit (s := S72) (k0_off1 i) S1.size (k0_off1_inb i)).shape.Idx) :
    (Rect.unit (s := S72) (k0_off1 i) S1.size (k0_off1_inb i)).emb x = tileIx i := by
  funext a
  obtain rfl : a = 0 := Subsingleton.elim _ _
  apply Fin.ext
  show k0_off1 i 0 + 1 * (x 0).val = (i 0).val
  have hx : (x 0).val < 1 := (x 0).isLt
  rw [off1_eq]; omega

theorem wordAt_eq (T1 : S72.Idx → BitVec 32) (i : grid0.Coords) : wordAt (F := F) T1 i = T1 (tileIx i) :=
  congrArg T1 (emb_eq i _)

theorem atD_eq (pf : pre0.Contents (Elt F)) (i : grid0.Coords) : pf.atD 1 (k0_off1 i) = pf 1 (tileIx i) := by
  have h : ∀ a : Fin 1, k0_off1 i a + 1 ≤ S72.size a := fun a => by
    obtain rfl : a = 0 := Subsingleton.elim _ _
    have := row_lt i
    show k0_off1 i 0 + 1 ≤ 72
    rw [off1_eq]; omega
  refine (dif_pos h).trans (congrArg (pf 1) (funext fun b : Fin 1 => ?_))
  obtain rfl : b = 0 := Subsingleton.elim _ _
  exact Fin.ext (off1_eq i)

theorem at1_eq (pf : pre0.Contents (Elt F)) (i : grid0.Coords) (h) : pf.at 1 (Rect.unit (s := S72) (k0_off1 i) S1.size (k0_off1_inb i)) h = pf 1 (tileIx i) :=
  congrArg (pf 1) (emb_eq i _)
theorem at0_eq (pf : pre0.Contents (Elt F)) (i : grid0.Coords) (h) : pf.at 0 (Rect.unit (s := S72) (k0_off1 i) S1.size (k0_off1_inb i)) h = pf 0 (tileIx i) :=
  congrArg (pf 0) (emb_eq i _)

/-! ## The conditions -/

theorem cond1_iff (i : grid0.Coords) : k0_cond1 i = 1#1 ↔ (i 1).val = 0 := by
  have h := col_lt i
  unfold k0_cond1
  generalize (i 1).val = n at h ⊢
  interval_cases n <;> decide

theorem cond2_one : k0_cond2 1#32 = 1#1 := by decide
theorem cond2_zero : ¬ k0_cond2 0#32 = 1#1 := by decide

/-! ## The index maps -/

theorem t0_eq (pf : pre0.Contents (Elt F)) (i : grid0.Coords) :
    cc0_transform_0 k0_off1_inb numel1_S1 pf i = ![(Scalar.muli (BitVec.ofNat 32 (i 0).val) (pf 1 (tileIx i))).toNat, 0] := by
  rw [← at1_eq pf i numel1_S1]; rfl

/-- The chunk a weight block is read at: the chunk of the grid where the tile is in use, the last one otherwise. -/
def chunkWord (w : BitVec 32) (i : grid0.Coords) : BitVec 32 :=
  Scalar.addi (Scalar.muli (BitVec.ofNat 32 (i 1).val) w) (Scalar.muli 3#32 (Scalar.subi 1#32 w))

theorem t1_eq (pf : pre0.Contents (Elt F)) (i : grid0.Coords) :
    cc0_transform_1 k0_off1_inb numel1_S1 pf i = ![BitVec.toNat (w := 32) (pf 0 (tileIx i)), 0, (chunkWord (pf 1 (tileIx i)) i).toNat] := by
  rw [← at1_eq pf i numel1_S1, ← at0_eq pf i numel1_S1]; rfl
theorem t2_eq (pf : pre0.Contents (Elt F)) (i : grid0.Coords) :
    cc0_transform_2 k0_off1_inb numel1_S1 pf i = ![BitVec.toNat (w := 32) (pf 0 (tileIx i)), 0, (chunkWord (pf 1 (tileIx i)) i).toNat] := by
  rw [← at1_eq pf i numel1_S1, ← at0_eq pf i numel1_S1]; rfl
theorem t3_eq (pf : pre0.Contents (Elt F)) (i : grid0.Coords) :
    cc0_transform_3 k0_off1_inb numel1_S1 pf i = ![BitVec.toNat (w := 32) (pf 0 (tileIx i)), (chunkWord (pf 1 (tileIx i)) i).toNat, 0] := by
  rw [← at1_eq pf i numel1_S1, ← at0_eq pf i numel1_S1]; rfl

theorem t4_eq (i : grid0.Coords) : cc0_transform_4 i = ![(i 0).val, 0] := by
  have h := row_lt i
  show ![(BitVec.ofNat 32 (i 0).val).toNat, 0] = _
  rw [BitVec.toNat_ofNat, Nat.mod_eq_of_lt (by omega)]

theorem chunk_one (i : grid0.Coords) : (chunkWord 1#32 i).toNat = (i 1).val := by
  have h := col_lt i
  unfold chunkWord
  generalize (i 1).val = n at h ⊢
  interval_cases n <;> decide
theorem chunk_zero (i : grid0.Coords) : (chunkWord 0#32 i).toNat = 3 := by
  have h := col_lt i
  unfold chunkWord
  generalize (i 1).val = n at h ⊢
  interval_cases n <;> decide
theorem chunk_le (w : BitVec 32) (hw : w = 0#32 ∨ w = 1#32) (i : grid0.Coords) : (chunkWord w i).toNat ≤ 3 := by
  have h := col_lt i
  rcases hw with rfl | rfl
  · rw [chunk_zero]
  · rw [chunk_one]; omega

theorem tile_one (i : grid0.Coords) : (Scalar.muli (BitVec.ofNat 32 (i 0).val) 1#32).toNat = (i 0).val := by
  have h := row_lt i
  unfold Scalar.muli IntOp.muli
  simp
  omega
theorem tile_zero (i : grid0.Coords) : (Scalar.muli (BitVec.ofNat 32 (i 0).val) 0#32).toNat = 0 := by
  unfold Scalar.muli IntOp.muli
  simp
theorem tile_le (w : BitVec 32) (hw : w = 0#32 ∨ w = 1#32) (i : grid0.Coords) : (Scalar.muli (BitVec.ofNat 32 (i 0).val) w).toNat ≤ 71 := by
  have h := row_lt i
  rcases hw with rfl | rfl
  · rw [tile_zero]; omega
  · rw [tile_one]; omega

/-- Every block of every window lies inside its array. -/
theorem ok_of_range (pf : pre0.Contents (Elt F)) (h : InRange (pf 0) (pf 1)) : ok0 pf := by
  refine ⟨fun i => ⟨?_, .inl rfl⟩, fun i => ⟨?_, .inl rfl⟩, fun i => ⟨?_, .inl rfl⟩, fun i => ⟨?_, .inl rfl⟩⟩
  · rw [t0_eq]
    have := tile_le _ (h (tileIx i)).2 i
    intro a; fin_cases a
    · show (_ + 1) * 1024 ≤ 73728; simp only [Matrix.cons_val_zero, Fin.zero_eta]; omega
    · show (0 + 1) * 1024 ≤ 1024; omega
  · rw [t1_eq]
    have h1 := (h (tileIx i)).1
    have h2 := chunk_le _ (h (tileIx i)).2 i
    intro a; fin_cases a
    · show (BitVec.toNat _ + 1) * 1 ≤ 8; omega
    · show (0 + 1) * 1024 ≤ 1024; omega
    · show (BitVec.toNat _ + 1) * 896 ≤ 3584; omega
  · rw [t2_eq]
    have h1 := (h (tileIx i)).1
    have h2 := chunk_le _ (h (tileIx i)).2 i
    intro a; fin_cases a
    · show (BitVec.toNat _ + 1) * 1 ≤ 8; omega
    · show (0 + 1) * 1024 ≤ 1024; omega
    · show (BitVec.toNat _ + 1) * 896 ≤ 3584; omega
  · rw [t3_eq]
    have h1 := (h (tileIx i)).1
    have h2 := chunk_le _ (h (tileIx i)).2 i
    intro a; fin_cases a
    · show (BitVec.toNat _ + 1) * 1 ≤ 8; omega
    · show (BitVec.toNat _ + 1) * 896 ≤ 3584; omega
    · show (0 + 1) * 1024 ≤ 1024; omega

/-! ## The grid's points and the output window's schedule -/

variable (a : (pcfg0 (F := F)).Adm)

theorem row_coords (t : Fin grid0.N) : (grid0.coords t 0).val = t.val / 4 := by
  have h : t.val < 288 := t.isLt
  show t.val / 4 % 72 = _
  rw [Nat.mod_eq_of_lt (by omega)]
theorem col_coords (t : Fin grid0.N) : (grid0.coords t 1).val = t.val % 4 := by
  show t.val / 1 % 4 = _
  rw [Nat.div_one]

theorem index4 (t : Fin (cfg0 a).N) : ((cfg0 a).win 4).index t = ![t.val / 4, 0] := by
  show cc0_transform_4 (grid0.coords t) = _
  rw [t4_eq, row_coords]

/-- The output block is written back after a tile's last chunk. -/
theorem flush4 (t : Fin (cfg0 a).N) : ((cfg0 a).win 4).flush t = decide (t.val % 4 = 3) := by
  have h : t.val < 288 := t.isLt
  have key : ((cfg0 a).win 4).flush t = true ↔ t.val % 4 = 3 := by
    unfold Window.flush
    rw [Bool.and_eq_true, Bool.or_eq_true, decide_eq_true_iff, decide_eq_true_iff]
    have e : (cfg0 a).grid.N = 288 := N_0
    constructor
    · rintro ⟨-, h1 | ⟨h2, h3⟩⟩
      · omega
      · rw [index4, index4] at h3
        by_contra hc
        refine h3 ?_
        show ![(t.val + 1) / 4, 0] = ![t.val / 4, 0]
        rw [show (t.val + 1) / 4 = t.val / 4 by omega]
    · intro h4
      refine ⟨rfl, ?_⟩
      by_cases h5 : t.val + 1 = (cfg0 a).grid.N
      · exact .inl h5
      · refine .inr ⟨by omega, ?_⟩
        rw [index4, index4]
        intro h6
        have h7 : (t.val + 1) / 4 = t.val / 4 := congrFun h6 0
        omega
  rw [Bool.eq_iff_iff, key, decide_eq_true_iff]

/-- The output block is untouched exactly away from a tile's first chunk, at a tile not in use. -/
theorem idle4 (t : Fin (cfg0 a).N) : (cfg0 a).idle 4 ((cfg0 a).grid.coords t)
    = (!(k0_cond1 (grid0.coords t) == 1#1) && !(k0_cond2 (a.1 1 (tileIx (grid0.coords t))) == 1#1)) := by
  show (!(k0_cond1 (grid0.coords t) == 1#1) && !(k0_cond2 (a.1.atD 1 (k0_off1 (grid0.coords t))) == 1#1)) = _
  rw [atD_eq]

/-- What the output block held is lost exactly at a tile's first chunk. -/
theorem fresh4 (n : ℕ) (hn : n ≤ (cfg0 a).N) : (cfg0 a).fresh 4 n = decide (n % 4 = 0) := by
  refine Pipeline.Cfg.fresh_tab (cfg0 a) 4 (fun n => decide (n % 4 = 0)) rfl (fun t => ?_) n hn
  rw [flush4, idle4]
  have h1 := cond1_iff (grid0.coords t)
  rw [col_coords] at h1
  by_cases h0 : t.val % 4 = 0
  · rw [h1.2 h0]
    have e1 : ¬ (t.val + 1) % 4 = 0 := by omega
    have e2 : ¬ t.val % 4 = 3 := by omega
    simp [e1, e2]
  · have e : (t.val + 1) % 4 = 0 ↔ t.val % 4 = 3 := by omega
    simp [h0, e]

end Cert.Kernel2Ideal.Grouped

end
-- ==== Proof.Grouped.Frame.lean ====
/-
  The launch: the output block point by point, the body's obligation at every point, and the run of the whole program.
-/
module

public import proofs.«01_k».proof.Proof.Grouped.Sched
public import Idealize.ShloMosaic.Lib.Pipeline.Quiescent
public import Idealize.ShloMosaic.Lib.Claim
public import Idealize.ShloMosaic.Adequacy
public import Idealize.ShloMosaic.Init

@[expose] public section

noncomputable section

namespace Cert.Kernel2Ideal.Grouped

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The tables at the launch. -/
def tbl : pre0.Contents (Elt F) := fun j => m (((0 : Dev nD) : Thread nD τ).loc (pre0.ref j))
abbrev T0 : S72.Idx → BitVec 32 := m (((0 : Dev nD) : Thread nD τ).loc main_arg0)
abbrev T1 : S72.Idx → BitVec 32 := m (((0 : Dev nD) : Thread nD τ).loc main_arg1)

theorem V_pre (c : Dev nD) (j : Fin 2) : m ((c : Thread nD τ).loc (pre0.ref j)) = tbl m j := by
  obtain rfl : c = 0 := Subsingleton.elim _ _; rfl

variable (hT : InRange (T0 m) (T1 m))

/-- The tables with the bounds they satisfy, and the pipeline at them. -/
abbrev adm : (pcfg0 (F := F)).Adm := ⟨tbl m, ok_of_range (tbl m) hT⟩
abbrev cfgA : Cfg sig Λ₀ := cfg0 (adm m hT)
abbrev crd (t : Fin (cfgA m hT).N) : grid0.Coords := grid0.coords t

abbrev ms0_0 (t : Fin (cfgA m hT).N) : Memref sig .tc .vmem S1024x1024 .f32 := spec0_0.stage ((cfgA m hT).slots t 0)
abbrev hs0_0 (t : Fin (cfgA m hT).N) : (ms0_0 m hT t).IsWhole := hstage0_0 (((cfgA m hT).slots t 0).cast nbuf0_0)
abbrev ms0_1 (t : Fin (cfgA m hT).N) : Memref sig .tc .vmem S1x1024x896 .f32 := spec0_1.stage ((cfgA m hT).slots t 1)
abbrev hs0_1 (t : Fin (cfgA m hT).N) : (ms0_1 m hT t).IsWhole := hstage0_1 (((cfgA m hT).slots t 1).cast nbuf0_1)
abbrev ms0_2 (t : Fin (cfgA m hT).N) : Memref sig .tc .vmem S1x1024x896 .f32 := spec0_2.stage ((cfgA m hT).slots t 2)
abbrev hs0_2 (t : Fin (cfgA m hT).N) : (ms0_2 m hT t).IsWhole := hstage0_2 (((cfgA m hT).slots t 2).cast nbuf0_2)
abbrev ms0_3 (t : Fin (cfgA m hT).N) : Memref sig .tc .vmem S1x896x1024 .f32 := spec0_3.stage ((cfgA m hT).slots t 3)
abbrev hs0_3 (t : Fin (cfgA m hT).N) : (ms0_3 m hT t).IsWhole := hstage0_3 (((cfgA m hT).slots t 3).cast nbuf0_3)
abbrev ms0_4 (t : Fin (cfgA m hT).N) : Memref sig .tc .vmem S1024x1024 .f32 := spec0_4.stage ((cfgA m hT).slots t 4)
abbrev hs0_4 (t : Fin (cfgA m hT).N) : (ms0_4 m hT t).IsWhole := hstage0_4 (((cfgA m hT).slots t 4).cast nbuf0_4)

/-- The block of a window's array at a grid point. -/
def iblk (c : Dev nD) (w : Fin 5) (t : Fin (cfgA m hT).N) : ((cfgA m hT).win w).block.Idx → Elt F ((cfgA m hT).win w).elt :=
  (((cfgA m hT).win w).blk t).view.read (Elt F) (m (((cfgA m hT).win w).arr.view.loc (c : Thread nD τ)))

/-! ## The output block, point by point -/

/-- The output block after a point, from what it held before. -/
def step (c : Dev nD) (t : Fin (cfgA m hT).N) (y : S1024x1024.Idx → F .f32) : S1024x1024.Idx → F .f32 :=
  stepVal (F := F) (crd m hT t) (T1 m (tileIx (crd m hT t))) (iblk m hT c 0 t) (iblk m hT c 1 t) (iblk m hT c 2 t) (iblk m hT c 3 t) y

def traj (c : Dev nD) : (n : ℕ) → n < (cfgA m hT).N → S1024x1024.Idx → F .f32
  | 0, h => step m hT c ⟨0, h⟩ (k0_pay1 (F := F))
  | n + 1, h => step m hT c ⟨n + 1, h⟩ (traj c n (Nat.lt_of_succ_lt h))

/-- The block before a point. -/
def prev (c : Dev nD) (t : Fin (cfgA m hT).N) : S1024x1024.Idx → F .f32 :=
  if h : t.val = 0 then k0_pay1 (F := F) else traj m hT c (t.val - 1) (by omega)

theorem traj_eq (c : Dev nD) (t : Fin (cfgA m hT).N) : traj m hT c t.val t.isLt = step m hT c t (prev m hT c t) := by
  obtain ⟨n, hn⟩ := t
  cases n with
  | zero => rfl
  | succ n => unfold prev; simp only [Nat.add_one_ne_zero, dif_neg, not_false_eq_true]; rfl

/-- At a point that leaves the block untouched the step changes nothing. -/
theorem step_idle (c : Dev nD) (t : Fin (cfgA m hT).N) (hi : (cfgA m hT).idle 4 ((cfgA m hT).grid.coords t) = true) (y : S1024x1024.Idx → F .f32) :
    step m hT c t y = y := by
  rw [idle4] at hi
  simp only [Bool.and_eq_true, Bool.not_eq_true', beq_eq_false_iff_ne, ne_eq] at hi
  unfold step stepVal start
  rw [if_neg (show ¬ k0_cond2 (T1 m (tileIx (crd m hT t))) = 1#1 from hi.2), if_neg (show ¬ k0_cond1 (crd m hT t) = 1#1 from hi.1)]

/-- Where the block starts afresh the step reads nothing of it. -/
theorem step_fresh (c : Dev nD) (t : Fin (cfgA m hT).N) (hf : (cfgA m hT).fresh 4 t.val = true) (y y' : S1024x1024.Idx → F .f32) :
    step m hT c t y = step m hT c t y' := by
  rw [fresh4 _ _ (Nat.le_of_lt t.isLt), decide_eq_true_iff] at hf
  have h1 : k0_cond1 (crd m hT t) = 1#1 := (cond1_iff _).2 ((col_coords t).trans hf)
  unfold step stepVal start
  rw [if_pos h1, if_pos h1]

/-! ## The pipeline's data -/

def Phi (c : Dev nD) : sProp 𝕄 :=
  iprop((tbM0.view.loc (c : Thread nD τ) ↦{fullShare.right} T0 m) ∗ (tbM1.view.loc (c : Thread nD τ) ↦{fullShare.right} T1 m))

def dats (_ : Fin 1) (c : Dev nD) : Dat τ (Elt F) Unit ℕ (UR sig nD τ) ℕ (cfgA m hT) c where
  A w := m (((cfgA m hT).win w).arr.view.loc (c : Thread nD τ))
  after w t := match w with
    | ⟨0, _⟩ => iblk m hT c 0 t
    | ⟨1, _⟩ => iblk m hT c 1 t
    | ⟨2, _⟩ => iblk m hT c 2 t
    | ⟨3, _⟩ => iblk m hT c 3 t
    | ⟨4, _⟩ => traj m hT c t.val t.isLt
  Φ t := Phi m c
  q _ := fullShare
  owed _ := 0

abbrev dat (c : Dev nD) : Dat τ (Elt F) Unit ℕ (UR sig nD τ) ℕ (cfgA m hT) c := dats m hT 0 c

theorem after0_0 (c : Dev nD) (t : Fin (cfgA m hT).N) : (dats m hT 0 c).after (0 : Fin 5) t = iblk m hT c 0 t := rfl
theorem after0_1 (c : Dev nD) (t : Fin (cfgA m hT).N) : (dats m hT 0 c).after (1 : Fin 5) t = iblk m hT c 1 t := rfl
theorem after0_2 (c : Dev nD) (t : Fin (cfgA m hT).N) : (dats m hT 0 c).after (2 : Fin 5) t = iblk m hT c 2 t := rfl
theorem after0_3 (c : Dev nD) (t : Fin (cfgA m hT).N) : (dats m hT 0 c).after (3 : Fin 5) t = iblk m hT c 3 t := rfl
theorem after0_4 (c : Dev nD) (t : Fin (cfgA m hT).N) : (dats m hT 0 c).after (4 : Fin 5) t = traj m hT c t.val t.isLt := rfl

theorem before0_0 (c : Dev nD) (t : Fin (cfgA m hT).N) (d) : (dats m hT 0 c).before (0 : Fin 5) t d = iblk m hT c 0 t :=
  ((dats m hT 0 c).before_in_eq_fetched (0 : Fin 5) rfl (fun _ => rfl) (fun _ _ _ => rfl) (fun t => by rw [after0_0]; unfold Dat.blockOf iblk; rfl) t d).trans
    (by unfold Dat.fetched Dat.blockOf iblk; rfl)
theorem before0_1 (c : Dev nD) (t : Fin (cfgA m hT).N) (d) : (dats m hT 0 c).before (1 : Fin 5) t d = iblk m hT c 1 t :=
  ((dats m hT 0 c).before_in_eq_fetched (1 : Fin 5) rfl (fun _ => rfl) (fun _ _ _ => rfl) (fun t => by rw [after0_1]; unfold Dat.blockOf iblk; rfl) t d).trans
    (by unfold Dat.fetched Dat.blockOf iblk; rfl)
theorem before0_2 (c : Dev nD) (t : Fin (cfgA m hT).N) (d) : (dats m hT 0 c).before (2 : Fin 5) t d = iblk m hT c 2 t :=
  ((dats m hT 0 c).before_in_eq_fetched (2 : Fin 5) rfl (fun _ => rfl) (fun _ _ _ => rfl) (fun t => by rw [after0_2]; unfold Dat.blockOf iblk; rfl) t d).trans
    (by unfold Dat.fetched Dat.blockOf iblk; rfl)
theorem before0_3 (c : Dev nD) (t : Fin (cfgA m hT).N) (d) : (dats m hT 0 c).before (3 : Fin 5) t d = iblk m hT c 3 t :=
  ((dats m hT 0 c).before_in_eq_fetched (3 : Fin 5) rfl (fun _ => rfl) (fun _ _ _ => rfl) (fun t => by rw [after0_3]; unfold Dat.blockOf iblk; rfl) t d).trans
    (by unfold Dat.fetched Dat.blockOf iblk; rfl)

/-- What the output block holds carries through the points that leave it untouched. -/
theorem carry4 (c : Dev nD) : ∀ (t : Fin (cfgA m hT).N) (ht : t.val ≠ 0), (cfgA m hT).idle (4 : Fin 5) ((cfgA m hT).grid.coords t) = true → (cfgA m hT).fresh (4 : Fin 5) t.val = false →
    (dats m hT 0 c).after (4 : Fin 5) t = (dats m hT 0 c).after (4 : Fin 5) ⟨t.val - 1, by omega⟩ := by
  intro t ht hi hf
  rw [after0_4, after0_4, traj_eq, step_idle m hT c t hi]
  unfold prev; rw [dif_neg ht]

theorem before0_4 (c : Dev nD) (t : Fin (cfgA m hT).N) (d) :
    (dats m hT 0 c).before (4 : Fin 5) t d = if (cfgA m hT).fresh (4 : Fin 5) t.val then d else prev m hT c t := by
  rw [(dats m hT 0 c).before_out_traj (4 : Fin 5) rfl (fun _ _ => rfl) (carry4 m hT c) t.val t rfl d]
  by_cases hf : (cfgA m hT).fresh (4 : Fin 5) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_4]; unfold prev; rw [dif_neg h0]

/-- The step from what the block holds gives what the data say it holds after. -/
theorem step_before (c : Dev nD) (t : Fin (cfgA m hT).N) (d) :
    step m hT c t ((dats m hT 0 c).before (4 : Fin 5) t d) = (dats m hT 0 c).after (4 : Fin 5) t := by
  rw [after0_4, traj_eq, before0_4]
  by_cases hf : (cfgA m hT).fresh (4 : Fin 5) t.val = true
  · exact step_fresh m hT c t hf _ _
  · rw [if_neg hf]

/-! ## The body's obligation -/

abbrev bodyAt0 (t : Fin (cfgA m hT).N) : Prog (TpuEff nD τ sig (Elt F) Λ₀ .tc) PUnit :=
  cc0_swiglu_grouped (crd m hT t) tbM0 (Memref.isWhole_whole _) tbM1 (Memref.isWhole_whole _) (ms0_0 m hT t) (hs0_0 m hT t) (ms0_1 m hT t) (hs0_1 m hT t) (ms0_2 m hT t) (hs0_2 m hT t) (ms0_3 m hT t) (hs0_3 m hT t) (ms0_4 m hT t) (hs0_4 m hT t)

theorem stepVal_eq (c : Dev nD) (t : Fin (cfgA m hT).N) (y : S1024x1024.Idx → F .f32) :
    stepVal (F := F) (crd m hT t) (wordAt (F := F) (T1 m) (crd m hT t)) (iblk m hT c 0 t) (iblk m hT c 1 t) (iblk m hT c 2 t) (iblk m hT c 3 t) y = step m hT c t y := by
  rw [wordAt_eq]; rfl

set_option maxHeartbeats 4000000 in
theorem sound_body (c : Dev nD) (t : Fin (cfgA m hT).N) :
    iprop((dats m hT 0 c).Φ t.castSucc ∗ (dats m hT 0 c).owesAt () t.castSucc
        ∗ (∃ d, owns (c : Thread nD τ) (ms0_0 m hT t) fullShare ((dats m hT 0 c).before (0 : Fin 5) t d))
        ∗ (∃ d, owns (c : Thread nD τ) (ms0_1 m hT t) fullShare ((dats m hT 0 c).before (1 : Fin 5) t d))
        ∗ (∃ d, owns (c : Thread nD τ) (ms0_2 m hT t) fullShare ((dats m hT 0 c).before (2 : Fin 5) t d))
        ∗ (∃ d, owns (c : Thread nD τ) (ms0_3 m hT t) fullShare ((dats m hT 0 c).before (3 : Fin 5) t d))
        ∗ (∃ d, owns (c : Thread nD τ) (ms0_4 m hT t) fullShare ((dats m hT 0 c).before (4 : Fin 5) t d)))
      ⊢ wp frame (wpE (defs₀ (F := F)) Variants.none c none) Set.univ (bodyAt0 m hT t) fun _ =>
          iprop((dats m hT 0 c).Φ t.succ ∗ (dats m hT 0 c).owesAt () t.succ
            ∗ bigSep Finset.univ fun w : Fin (cfgA m hT).W =>
                match (cfgA m hT).idle w ((cfgA m hT).grid.coords t) with
                | true =>
                  match ((cfgA m hT).win w).flush t with
                  | false => iprop(∃ d, owns (c : Thread nD τ) (((cfgA m hT).win w).stage ((cfgA m hT).slots t w)) fullShare ((dats m hT 0 c).before w t d))
                  | true => owns (c : Thread nD τ) (((cfgA m hT).win w).stage ((cfgA m hT).slots t w)) fullShare ((dats m hT 0 c).after w t)
                | false => owns (c : Thread nD τ) (((cfgA m hT).win w).stage ((cfgA m hT).slots t w)) fullShare ((dats m hT 0 c).after w t)) := by
  rw [bigSep_W0]
  have hlast : ∀ d, (owns (c : Thread nD τ) (ms0_4 m hT t) fullShare (step m hT c t ((dats m hT 0 c).before (4 : Fin 5) t d)) : sProp 𝕄)
      ⊢ (match (cfgA m hT).idle 4 ((cfgA m hT).grid.coords t) with
          | true =>
            match ((cfgA m hT).win 4).flush t with
            | false => iprop(∃ d, owns (c : Thread nD τ) (((cfgA m hT).win 4).stage ((cfgA m hT).slots t 4)) fullShare ((dats m hT 0 c).before 4 t d))
            | true => owns (c : Thread nD τ) (((cfgA m hT).win 4).stage ((cfgA m hT).slots t 4)) fullShare ((dats m hT 0 c).after 4 t)
          | false => owns (c : Thread nD τ) (((cfgA m hT).win 4).stage ((cfgA m hT).slots t 4)) fullShare ((dats m hT 0 c).after 4 t)) := by
    intro d
    cases i4 : (cfgA m hT).idle 4 ((cfgA m hT).grid.coords t)
    · rw [step_before]
      exact .rfl
    · cases f4 : ((cfgA m hT).win 4).flush t
      · rw [step_idle m hT c t i4]
        iintro H; iexists d; iexact H
      · rw [step_before]
        exact .rfl
  rewrite [show (dats m hT 0 c).Φ t.succ = Phi m c from rfl, show (dats m hT 0 c).Φ t.castSucc = Phi m c from rfl,
      show (dats m hT 0 c).owesAt () t.succ = (dats m hT 0 c).owesAt () t.castSucc from rfl]
  simp only [before0_0, before0_1, before0_2, before0_3, after0_0, after0_1, after0_2, after0_3]
  unfold Phi
  iintro ⟨⟨HT0, HT1⟩, Ho, ⟨%d0, H0⟩, ⟨%d1, H1⟩, ⟨%d2, H2⟩, ⟨%d3, H3⟩, ⟨%d4, H4⟩⟩
  iapply (body_run c (crd m hT t) (ms0_0 m hT t) (hs0_0 m hT t) (ms0_1 m hT t) (hs0_1 m hT t) (ms0_2 m hT t) (hs0_2 m hT t) (ms0_3 m hT t) (hs0_3 m hT t) (ms0_4 m hT t) (hs0_4 m hT t)
    (T0 m) (T1 m) (iblk m hT c 0 t) (iblk m hT c 1 t) (iblk m hT c 2 t) (iblk m hT c 3 t) ((dats m hT 0 c).before (4 : Fin 5) t d4))
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [H4]; · iexact H4
  rewrite [stepVal_eq]
  iintro ⟨H0, H1, H2, H3, HT0, HT1, H4⟩
  isplitl [HT0 HT1]
  · isplitl [HT0]
    · iexact HT0
    iexact HT1
  isplitl [Ho]; · iexact Ho
  isplitl [H0]
  · iapply owns_of_rep; iexact H0
  isplitl [H1]
  · iapply owns_of_rep; iexact H1
  isplitl [H2]
  · iapply owns_of_rep; iexact H2
  isplitl [H3]
  · iapply owns_of_rep; iexact H3
  iapply (hlast d4)
  iexact H4

theorem body_obligation (c : Dev nD) : BodyObligation (dats m hT 0 c) (defs₀ (F := F)) Variants.none () Set.univ := fun t => by
  rw [bigSep_W0]
  exact sound_body m hT c t

/-! ## The launch -/

abbrev EP : Emb (UR sig nD τ) 𝕄 := emb₁

abbrev pcs : Fin 1 → Cfg sig Λ₀ := Pipeline.pin (pcfgs (F := F)) fun _ => adm m hT

def u₀ : UR sig nD τ :=
  initOf (Pipeline.cells (pcs m hT) ((launch0 (F := F)).cellOf_inj fun _ => adm m hT))
    (Pipeline.launchToks (pcs m hT) ((launch0 (F := F)).cellOf_inj fun _ => adm m hT))

theorem share_eq (c : Dev nD) (w : Fin (cfgA m hT).W) : (dats m hT 0 c).share w = fullShare := by unfold Dat.share; split <;> rfl

theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

theorem phi0_intro (c : Dev nD) :
    iprop(BI.emp ∗ Pipeline.prefHeld pre0 c (fun _ => fullShare.right) (adm m hT).1 ∗ Pipeline.scopedRest spec0 c) ⊢ (dats m hT 0 c).Φ 0 := by
  rw [prefHeld_eq, scopedRest0_eq, show (dats m hT 0 c).Φ 0 = Phi m c from rfl]
  unfold Phi
  iintro ⟨-, ⟨HT0, HT1⟩, -⟩
  isplitl [HT0]
  · iexact HT0
  iexact HT1

theorem phiN_exit (c : Dev nD) : (dats m hT 0 c).Φ (Fin.last (cfgA m hT).N) ⊢ iprop(BI.emp ∗ Pipeline.scopedRest spec0 c) := by
  rw [scopedRest0_eq, show (dats m hT 0 c).Φ (Fin.last (cfgA m hT).N) = Phi m c from rfl]
  unfold Phi
  iintro ⟨-, -⟩
  isplitr; · iempintro
  iempintro

/-- What a run ends with: every array at what the pipeline's data say, the tables as they were. -/
def Ends (r : PUnit × MemSt nD τ sig (Elt F)) : Prop :=
  ∀ c : Dev nD, (∀ w : Fin (cfgA m hT).W, r.2.mem (((cfgA m hT).win w).arr.view.loc (c : Thread nD τ)) = (dats m hT 0 c).arrAt w (cfgA m hT).N)
    ∧ ∀ j, r.2.mem ((c : Thread nD τ).loc (pre0.ref j)) = (adm m hT).1 j

set_option backward.isDefEq.respectTransparency.types false in
set_option maxHeartbeats 4000000 in
theorem run_main : θ_run (defs (F := F)) (onTc (τ := τ) (main (F := F))) ⟨m, fun _ => 0, ρ⟩ (fun r => Ends m hT r ∧ r.2.sem = fun _ => 0) :=
  Pipeline.θ_run_region_noSem_pf_quiescent pcfgs (fun _ => adm m hT) (dats m hT) () ((launch0 (F := F)).cellOf_inj fun _ => adm m hT) (0 : Fin 1)
    (launch0 (F := F)).win.to₀ (launch0 (F := F)).pre EP defs₀ Variants.none m ρ main
    (hbody := fun c => (body_obligation m hT c).loose) (hne := (launch0 (F := F)).block_pos)
    (harr := (launch0 (F := F)).arr_whole) (hstage := (launch0 (F := F)).stage_whole) (howed := fun _ _ => rfl)
    (u₀ := u₀ m hT) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs m hT) (dats m hT) 0 (launch0 (F := F)).win.arr_inj c (launch0 (F := F)).arr_whole
      (share_eq m hT c) _ _ fun _ => rfl)
    (hpf := V_pre m)
    (X := fun _ => iprop(emp)) (Y := fun _ => iprop(emp)) (Z := fun _ => iprop(emp))
    (hX := fun c => by rw [unscopedRestP0_eq]; iintro -; isplitr <;> iempintro)
    (hin := phi0_intro m hT)
    (hout := phiN_exit m hT)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The arguments end as they were. -/
theorem args_kept {r : PUnit × MemSt nD τ sig (Elt F)} (h : Ends m hT r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).2 0).trans (V_pre m c 0).symm, ((h c).2 1).trans (V_pre m c 1).symm,
    ((h c).1 (0 : Fin 5)).trans ((dats m hT 0 c).arrAt_in (0 : Fin 5) rfl _), ((h c).1 (1 : Fin 5)).trans ((dats m hT 0 c).arrAt_in (1 : Fin 5) rfl _),
    ((h c).1 (2 : Fin 5)).trans ((dats m hT 0 c).arrAt_in (2 : Fin 5) rfl _), ((h c).1 (3 : Fin 5)).trans ((dats m hT 0 c).arrAt_in (3 : Fin 5) rfl _)⟩

end Cert.Kernel2Ideal.Grouped

end
-- ==== Proof.Grouped.Payload.lean ====
/-
  What one step adds to the output block over the extended reals: the layer's sum over the hidden columns of the chunk.
-/
module

public import proofs.«01_k».proof.Proof.Grouped.Frame
public import proofs.«01_k».proof.Proof.Grouped.Spec
public import Idealize.ShloMosaic.Lib.Pipeline.Value
public import Idealize.ShloMosaic.Lib.ValueIdx

@[expose] public section

noncomputable section

namespace Cert.Kernel2Ideal.Grouped

open Cert.Kernel2Ideal Cert.Kernel2Ideal.Gen
open Idealize.ShloMosaic
open Idealize.ShloMosaic.ValueIdx
open Cert.Grouped

/-! ## The two products -/

abbrev dW : DotDims S1024x1024 S1024x896 S1024x896 := dot_S1024x1024_S1024x896_S1024x896_1_0_0_1_n_n
abbrev dN : DotDims S1024x896 S896x1024 S1024x1024 := dot_S1024x896_S896x1024_S1024x1024_1_0_0_1_n_n

theorem mulW (x : FVec Ideal S1024x1024 .bf16) (w : FVec Ideal S1024x896 .bf16) (i : S1024x896.Idx) :
    matmul (F := Ideal) dW none x w (constant S1024x896 .f32 0x00000000#32) i = ∑ q : Fin 1024, x (ix2 (i 0) q) * w (ix2 q (i 1)) := by
  simp only [matmul]
  rw [Ideal.matmul_constant_zero_apply, ← Equiv.sum_comp (contrEquiv1 dW 1024 rfl rfl).symm]
  refine Finset.sum_congr rfl fun k _ => ?_
  have hk := contrEquiv1_symm_val dW 1024 rfl rfl k
  refine congrArg₂ (fun a b => x a * w b) (funext fun a => Fin.ext ?_) (funext fun a => Fin.ext ?_)
  · match a with
    | ⟨0, _⟩ =>
      show (dW.lhsIdx i _ 0).val = _
      unfold DotDims.lhsIdx
      rw [dif_neg (show ¬(0 : Fin S1024x1024.rank) ∈ dW.lhsBatch by decide), dif_pos (show (0 : Fin S1024x1024.rank) ∈ dW.lhsNonContracting by decide)]
      rfl
    | ⟨1, _⟩ => exact (dW.lhsIdx_val_of_single rfl i _).trans hk
  · match a with
    | ⟨0, _⟩ => exact (dW.rhsIdx_val_of_single rfl i _).trans hk
    | ⟨1, _⟩ =>
      show (dW.rhsIdx i _ 1).val = _
      unfold DotDims.rhsIdx
      rw [dif_neg (show ¬(1 : Fin S1024x896.rank) ∈ dW.rhsBatch by decide), dif_pos (show (1 : Fin S1024x896.rank) ∈ dW.rhsNonContracting by decide)]
      rfl

theorem mulN (x : FVec Ideal S1024x896 .bf16) (w : FVec Ideal S896x1024 .bf16) (i : S1024x1024.Idx) :
    matmul (F := Ideal) dN none x w (constant S1024x1024 .f32 0x00000000#32) i = ∑ q : Fin 896, x (ix2 (i 0) q) * w (ix2 q (i 1)) := by
  simp only [matmul]
  rw [Ideal.matmul_constant_zero_apply, ← Equiv.sum_comp (contrEquiv1 dN 896 rfl rfl).symm]
  refine Finset.sum_congr rfl fun k _ => ?_
  have hk := contrEquiv1_symm_val dN 896 rfl rfl k
  refine congrArg₂ (fun a b => x a * w b) (funext fun a => Fin.ext ?_) (funext fun a => Fin.ext ?_)
  · match a with
    | ⟨0, _⟩ =>
      show (dN.lhsIdx i _ 0).val = _
      unfold DotDims.lhsIdx
      rw [dif_neg (show ¬(0 : Fin S1024x896.rank) ∈ dN.lhsBatch by decide), dif_pos (show (0 : Fin S1024x896.rank) ∈ dN.lhsNonContracting by decide)]
      rfl
    | ⟨1, _⟩ => exact (dN.lhsIdx_val_of_single rfl i _).trans hk
  · match a with
    | ⟨0, _⟩ => exact (dN.rhsIdx_val_of_single rfl i _).trans hk
    | ⟨1, _⟩ =>
      show (dN.rhsIdx i _ 1).val = _
      unfold DotDims.rhsIdx
      rw [dif_neg (show ¬(1 : Fin S896x1024.rank) ∈ dN.rhsBatch by decide), dif_pos (show (1 : Fin S896x1024.rank) ∈ dN.rhsNonContracting by decide)]
      rfl

/-! ## A weight block without its unit axis -/

theorem dropW (w : FVec Ideal S1x1024x896 .f32) (j : S1024x896.Idx) :
    shapeCast S1024x896 w shapeCasts_S1x1024x896_S1024x896 j = w (ix3 (0 : Fin 1) (j 0) (j 1)) :=
  (shapeCast_dropUnit_apply ![1024, 896] _ _ j).trans (congrArg w (funext fun a => match a with
    | ⟨0, _⟩ => rfl | ⟨1, _⟩ => rfl | ⟨2, _⟩ => rfl))

theorem dropN (w : FVec Ideal S1x896x1024 .f32) (j : S896x1024.Idx) :
    shapeCast S896x1024 w shapeCasts_S1x896x1024_S896x1024 j = w (ix3 (0 : Fin 1) (j 0) (j 1)) :=
  (shapeCast_dropUnit_apply ![896, 1024] _ _ j).trans (congrArg w (funext fun a => match a with
    | ⟨0, _⟩ => rfl | ⟨1, _⟩ => rfl | ⟨2, _⟩ => rfl))

/-! ## The step's sum -/

variable (y x : FVec Ideal S1024x1024 .f32) (g u : FVec Ideal S1x1024x896 .f32) (d : FVec Ideal S1x896x1024 .f32)

/-- A block row's projection on one of the chunk's hidden columns. -/
def bproj (w : FVec Ideal S1x1024x896 .f32) (r : Fin 1024) (k : Fin 896) : EReal := ∑ q : Fin 1024, x (ix2 r q) * w (ix3 (0 : Fin 1) q k)

/-- What the chunk adds to the block. -/
def bsum (i : S1024x1024.Idx) : EReal :=
  ∑ k : Fin 896, (silu (bproj x g (i 0) k) * bproj x u (i 0) k) * d (ix3 (0 : Fin 1) k (i 1))

theorem wide_block (w : FVec Ideal S1x1024x896 .f32) (j : S1024x896.Idx) :
    matmul (F := Ideal) dW none (truncf .bf16 x bitsLt_bf16_f32)
      (truncf .bf16 (shapeCast S1024x896 w shapeCasts_S1x1024x896_S1024x896) bitsLt_bf16_f32) (constant S1024x896 .f32 0x00000000#32) j
      = bproj x w (j 0) (j 1) := by
  refine (mulW _ _ j).trans (Finset.sum_congr rfl fun q _ => ?_)
  exact congrArg (x (ix2 (j 0) q) * ·) (dropW w _)

theorem pay2_apply (i : S1024x1024.Idx) : k0_pay2 (F := Ideal) y x g u d i = y i + bsum x g u d i := by
  unfold k0_pay2 bsum
  refine congrArg₂ (· + ·) (congrFun (shapeCast_self y _) i) ?_
  refine (mulN _ _ i).trans (Finset.sum_congr rfl fun k _ => ?_)
  refine congrArg₂ (· * ·) ?_ (dropN d _)
  have h1 := wide_block x g (ix2 (i 0) k)
  have h2 := wide_block x u (ix2 (i 0) k)
  refine congrArg₂ (· * ·) (congrArg₂ (· * ·) h1 ?_) h2
  refine congrArg (fun z => Ideal.div one (one + Ideal.exp z)) ?_
  refine Eq.trans (congrArg (Ideal.ofBits .f32 0x00000000#32 - ·) h1) ?_
  rw [Ideal.ofBits_zero_f32, zero_sub]

theorem pay1_apply (i : S1024x1024.Idx) : k0_pay1 (F := Ideal) i = (0 : EReal) := Ideal.ofBits_zero_f32

end Cert.Kernel2Ideal.Grouped

end
-- ==== Proof.Dense.Value.lean ====
/-
  The dense layer's kernel computes the layer: what a chunk of hidden columns adds to a block of rows, the block after
  the last chunk, and the array the blocks make up.
-/
module

public import proofs.«01_k».proof.Proof.Gen.Kernel3Ideal.Value
public import proofs.«01_k».proof.Proof.Grouped.Payload
public import proofs.«01_k».proof.Proof.Dense.Spec
public import Idealize.ShloMosaic.Lib.Pipeline.ValueKit.Geometry
public import Mathlib.Algebra.BigOperators.Fin

@[expose] public section

noncomputable section

namespace Cert.Kernel3Ideal.Dense

open Cert.Kernel3Ideal Cert.Kernel3Ideal.Gen
open Idealize.ShloMosaic Idealize.ShloMosaic.TcCoe
open Idealize.ShloMosaic.ValueIdx
open Idealize.ShloMosaic.Pipeline (Dat Cfg Window)
open Cert.Dense
open Cert.Grouped (silu one)

/-! ## One step -/

section
variable (y h : FVec Ideal S1024x1024 .f32) (g u : FVec Ideal S1024x896 .f32) (d : FVec Ideal S896x1024 .f32)

/-- A block row's projection on one of the chunk's hidden columns. -/
def bproj (w : FVec Ideal S1024x896 .f32) (r : Fin 1024) (k : Fin 896) : EReal := ∑ q : Fin 1024, h (ix2 r q) * w (ix2 q k)

/-- What the chunk adds to the block. -/
def bsum (i : S1024x1024.Idx) : EReal :=
  ∑ k : Fin 896, (silu (bproj h g (i 0) k) * bproj h u (i 0) k) * d (ix2 k (i 1))

/-- A step adds the chunk's sum to what the block held. -/
theorem pay_apply (i : S1024x1024.Idx) : k0_pay1 (F := Ideal) y h g u d i = y i + bsum h g u d i := by
  unfold k0_pay1 bsum
  refine congrArg₂ (· + ·) (congrFun (shapeCast_self y _) i) ?_
  refine (Cert.Kernel2Ideal.Grouped.mulN _ _ i).trans (Finset.sum_congr rfl fun k _ => ?_)
  refine congrArg₂ (· * ·) ?_ rfl
  have h1 := Cert.Kernel2Ideal.Grouped.mulW (truncf .bf16 h bitsLt_bf16_f32) (truncf .bf16 g bitsLt_bf16_f32) (ix2 (i 0) k)
  have h2 := Cert.Kernel2Ideal.Grouped.mulW (truncf .bf16 h bitsLt_bf16_f32) (truncf .bf16 u bitsLt_bf16_f32) (ix2 (i 0) k)
  refine congrArg₂ (· * ·) (congrArg₂ (· * ·) h1 ?_) h2
  refine congrArg (fun z => Ideal.div one (one + Ideal.exp z)) ?_
  refine Eq.trans (congrArg (Ideal.ofBits .f32 0x00000000#32 - ·) h1) ?_
  rw [Ideal.ofBits_zero_f32, zero_sub]
  rfl

end

/-! ## The blocks a point reads -/

variable (m : (ℓ : Loc nD τ sig) → Buf (Elt Ideal) ℓ) (c : Dev nD)

abbrev aH : Rows := m ((c : Thread nD τ).loc main_arg0)
abbrev aX : Rows := m ((c : Thread nD τ).loc main_arg1)
abbrev aG : Wide := m ((c : Thread nD τ).loc main_arg2)
abbrev aU : Wide := m ((c : Thread nD τ).loc main_arg3)
abbrev aD : Narrow := m ((c : Thread nD τ).loc main_arg4)

theorem idx_rows : ∀ t : Fin cfg0.N, win0_0.index t = ![t.val / 4, 0] ∧ win0_1.index t = ![t.val / 4, 0] :=
  (by decide +kernel : ∀ t : Fin grid0.N, _)
theorem idx_cols : ∀ t : Fin cfg0.N, win0_2.index t = ![0, t.val % 4] ∧ win0_3.index t = ![0, t.val % 4] ∧ win0_4.index t = ![t.val % 4, 0] :=
  (by decide +kernel : ∀ t : Fin grid0.N, _)

section
variable (t : Fin cfg0.N)

theorem pt_lt : t.val < 128 := lt_of_lt_of_eq t.isLt N_0
def rowAt (r : Fin 1024) : Fin 32768 := ⟨t.val / 4 * 1024 + r.val, by have := pt_lt t; omega⟩
def colAt (k : Fin 896) : Fin 3584 := ⟨t.val % 4 * 896 + k.val, by omega⟩

theorem blk0 (r q : Fin 1024) : iblk m c 0 t (ix2 r q) = aH m c (ix2 (rowAt t r) q) := by
  show aH m c ((win0_0.rect t).emb (ix2 r q)) = _
  refine congrArg (aH m c) (funext fun a => Fin.ext ?_)
  refine (Window.rect_emb_val win0_0 t (ix2 r q) a).trans ?_
  rw [(idx_rows t).1]
  match a with
  | ⟨0, _⟩ => rfl
  | ⟨1, _⟩ => show 0 * 1024 + q.val = q.val; omega

theorem blk1 (i : S1024x1024.Idx) : iblk m c 1 t i = aX m c (ix2 (rowAt t (i 0)) (i 1)) := by
  show aX m c ((win0_1.rect t).emb i) = _
  refine congrArg (aX m c) (funext fun a => Fin.ext ?_)
  refine (Window.rect_emb_val win0_1 t i a).trans ?_
  rw [(idx_rows t).2]
  match a with
  | ⟨0, _⟩ => rfl
  | ⟨1, _⟩ => show 0 * 1024 + (i 1).val = (i 1).val; omega

theorem blk2 (q : Fin 1024) (k : Fin 896) : iblk m c 2 t (ix2 q k) = aG m c (ix2 q (colAt t k)) := by
  show aG m c ((win0_2.rect t).emb (ix2 q k)) = _
  refine congrArg (aG m c) (funext fun a => Fin.ext ?_)
  refine (Window.rect_emb_val win0_2 t (ix2 q k) a).trans ?_
  rw [(idx_cols t).1]
  match a with
  | ⟨0, _⟩ => show 0 * 1024 + q.val = q.val; omega
  | ⟨1, _⟩ => rfl

theorem blk3 (q : Fin 1024) (k : Fin 896) : iblk m c 3 t (ix2 q k) = aU m c (ix2 q (colAt t k)) := by
  show aU m c ((win0_3.rect t).emb (ix2 q k)) = _
  refine congrArg (aU m c) (funext fun a => Fin.ext ?_)
  refine (Window.rect_emb_val win0_3 t (ix2 q k) a).trans ?_
  rw [(idx_cols t).2.1]
  match a with
  | ⟨0, _⟩ => show 0 * 1024 + q.val = q.val; omega
  | ⟨1, _⟩ => rfl

theorem blk4 (k : Fin 896) (q : Fin 1024) : iblk m c 4 t (ix2 k q) = aD m c (ix2 (colAt t k) q) := by
  show aD m c ((win0_4.rect t).emb (ix2 k q)) = _
  refine congrArg (aD m c) (funext fun a => Fin.ext ?_)
  refine (Window.rect_emb_val win0_4 t (ix2 k q) a).trans ?_
  rw [(idx_cols t).2.2]
  match a with
  | ⟨0, _⟩ => rfl
  | ⟨1, _⟩ => show 0 * 1024 + q.val = q.val; omega

end

/-! ## The chunks -/

/-- What a chunk of hidden columns adds to a row. -/
def chunk (r : Fin 32768) (q : Fin 1024) (f : ℕ) : EReal :=
  if hf : f < 4 then ∑ k : Fin 896, act (aH m c) (aG m c) (aU m c) r ⟨f * 896 + k.val, by omega⟩ * aD m c (ix2 (⟨f * 896 + k.val, by omega⟩ : Fin 3584) q) else 0

/-- A chunk of the hidden columns after another, all of them. -/
theorem chunks (r : Fin 32768) (q : Fin 1024) :
    ∑ f ∈ Finset.range 4, chunk m c r q f = ∑ k : Fin 3584, act (aH m c) (aG m c) (aU m c) r k * aD m c (ix2 k q) := by
  rw [Finset.sum_range]
  rw [← Equiv.sum_comp (finProdFinEquiv (m := 4) (n := 896)) (fun k : Fin 3584 => act (aH m c) (aG m c) (aU m c) r k * aD m c (ix2 k q)),
    Fintype.sum_prod_type]
  refine Finset.sum_congr rfl fun f _ => ?_
  unfold chunk
  rw [dif_pos f.isLt]
  refine Finset.sum_congr rfl fun k _ => ?_
  have hk : (⟨f.val * 896 + k.val, by omega⟩ : Fin 3584) = finProdFinEquiv (f, k) := Fin.ext (by
    show f.val * 896 + k.val = k.val + 896 * f.val; omega)
  rw [hk]

/-- A point's step adds its chunk. -/
theorem bsum_eq (t : Fin cfg0.N) (i : S1024x1024.Idx) :
    bsum (iblk m c 0 t) (iblk m c 2 t) (iblk m c 3 t) (iblk m c 4 t) i = chunk m c (rowAt t (i 0)) (i 1) (t.val % 4) := by
  unfold bsum chunk
  rw [dif_pos (Nat.mod_lt _ (by omega))]
  refine Finset.sum_congr rfl fun k _ => congrArg₂ (· * ·) ?_ (blk4 m c t k (i 1))
  have hg : bproj (iblk m c 0 t) (iblk m c 2 t) (i 0) k = proj (aH m c) (aG m c) (rowAt t (i 0)) (colAt t k) :=
    Finset.sum_congr rfl fun q _ => congrArg₂ (· * ·) (blk0 m c t (i 0) q) (blk2 m c t q k)
  have hu : bproj (iblk m c 0 t) (iblk m c 3 t) (i 0) k = proj (aH m c) (aU m c) (rowAt t (i 0)) (colAt t k) :=
    Finset.sum_congr rfl fun q _ => congrArg₂ (· * ·) (blk0 m c t (i 0) q) (blk3 m c t q k)
  rw [hg, hu]
  rfl

/-- A row of a block of rows. -/
def rowOf (a : Fin 32) (r : Fin 1024) : Fin 32768 := ⟨a.val * 1024 + r.val, by omega⟩

theorem rowAt_pt (a : Fin 32) (j : ℕ) (hj : j < 4) (h : 4 * a.val + j < cfg0.N) (r : Fin 1024) : rowAt ⟨4 * a.val + j, h⟩ r = rowOf a r :=
  Fin.ext (by show (4 * a.val + j) / 4 * 1024 + r.val = a.val * 1024 + r.val; omega)

/-- The block after a chunk: the stream's rows and the chunks so far. -/
theorem acc_apply (a : Fin 32) (i : S1024x1024.Idx) : ∀ (j : ℕ) (hj : j < 4) (h : 4 * a.val + j < cfg0.N),
    Pipeline.accAt (Value.reset5 m c) (Value.step5 m c) (4 * a.val) j h i
      = aX m c (ix2 (rowOf a (i 0)) (i 1)) + ∑ f ∈ Finset.range (j + 1), chunk m c (rowOf a (i 0)) (i 1) f
  | 0, hj, h => by
    rw [Pipeline.accAt_zero]
    unfold Value.reset5
    refine (pay_apply _ _ _ _ _ i).trans ?_
    rw [Finset.sum_range_one]
    refine congrArg₂ (· + ·) ((blk1 m c _ i).trans (congrArg (fun r => aX m c (ix2 r (i 1))) (rowAt_pt a 0 hj h (i 0)))) ((bsum_eq m c _ i).trans ?_)
    refine congrArg₂ (fun r f => chunk m c r (i 1) f) (rowAt_pt a 0 hj h (i 0)) ?_
    show (4 * a.val) % 4 = 0; omega
  | j + 1, hj, h => by
    rw [Pipeline.accAt_succ]
    refine (pay_apply _ _ _ _ _ i).trans ?_
    refine (congrArg (· + _) (acc_apply a i j (by omega) (Nat.lt_of_succ_lt h))).trans ?_
    refine Eq.trans ?_ (congrArg (aX m c (ix2 (rowOf a (i 0)) (i 1)) + ·) (Finset.sum_range_succ (chunk m c (rowOf a (i 0)) (i 1)) (j + 1)).symm)
    refine Eq.trans ?_ (add_assoc _ _ _)
    refine congrArg (_ + ·) ((bsum_eq m c _ i).trans ?_)
    refine congrArg₂ (fun r f => chunk m c r (i 1) f) (rowAt_pt a (j + 1) hj h (i 0)) ?_
    show (4 * a.val + (j + 1)) % 4 = j + 1; omega

/-- So the result array ends holding the layer. -/
theorem result_eq : Value.G5 m c = layer (aH m c) (aX m c) (aG m c) (aU m c) (aD m c) := by
  funext i
  have h0 : (i 0).val < 32768 := (i 0).isLt
  have h1 : (i 1).val < 1024 := (i 1).isLt
  have hrun : Value.run5Of i = (i 0).val / 1024 := by
    show 1 * ((i 0).val / 1024 - 0) + 1 * ((i 1).val / 1024 - 0) = _; omega
  have hN : cfg0.N = 128 := N_0
  let a : Fin 32 := ⟨Value.run5Of i, by omega⟩
  unfold Value.G5
  rw [dif_pos (by omega)]
  have hacc := acc_apply m c a (Value.loc5Of i) 3 (by omega) (show 4 * Value.run5Of i + 3 < cfg0.N by omega)
  have hrow : rowOf a (Value.loc5Of i 0) = i 0 := Fin.ext (by
    show Value.run5Of i * 1024 + (i 0).val % 1024 = (i 0).val; omega)
  have hcol : Value.loc5Of i 1 = i 1 := Fin.ext (by show (i 1).val % 1024 = (i 1).val; omega)
  have hi : ix2 (i 0) (i 1) = i := funext fun b => match b with | ⟨0, _⟩ => rfl | ⟨1, _⟩ => rfl
  refine hacc.trans ?_
  refine Eq.trans (congrArg₂ (fun r q => aX m c (ix2 r q) + ∑ f ∈ Finset.range 4, chunk m c r q f) hrow hcol) ?_
  exact congrArg₂ (· + ·) (congrArg (aX m c) hi) (chunks m c (i 0) (i 1))

end Cert.Kernel3Ideal.Dense

end
-- ==== Proof.Outproj.Spec.lean ====
/-
  The output projection and the norm after it as plain sums over the extended reals.
-/
module

public import Idealize.ShloMosaic.PureOps.Ideal.Laws
public import Idealize.ShloMosaic.Lib.ValueIdx
public import Mathlib.Algebra.BigOperators.Fin

@[expose] public section

noncomputable section

namespace Cert.Outproj

open Idealize.ShloMosaic
open Idealize.ShloMosaic.ValueIdx

/-- The stream's rows, the mixers' outputs, the weights and the norm's gain. -/
abbrev Rows := (⟨2, ![32768, 1024]⟩ : Shape).Idx → EReal
abbrev Half := (⟨2, ![32768, 512]⟩ : Shape).Idx → EReal
abbrev Quarter := (⟨2, ![32768, 256]⟩ : Shape).Idx → EReal
abbrev Weights := (⟨2, ![1024, 1024]⟩ : Shape).Idx → EReal
abbrev Gain := (⟨1, ![1024]⟩ : Shape).Idx → EReal

/-- The weights' rows that belong to the attention, the convolution and the recurrence. -/
def rowA (k : Fin 512) : Fin 1024 := ⟨k.val, by omega⟩
def rowC (k : Fin 256) : Fin 1024 := ⟨512 + k.val, by omega⟩
def rowR (k : Fin 256) : Fin 1024 := ⟨768 + k.val, by omega⟩

/-- A row of the stream after the mixers. -/
def stream (x : Rows) (a : Half) (v r : Quarter) (w : Weights) (p : Fin 32768) (q : Fin 1024) : EReal :=
  ((x (ix2 p q) + ∑ k : Fin 512, a (ix2 p k) * w (ix2 (rowA k) q)) + ∑ k : Fin 256, v (ix2 p k) * w (ix2 (rowC k) q))
    + ∑ k : Fin 256, r (ix2 p k) * w (ix2 (rowR k) q)

/-- The stream after the mixers. -/
def mixed (x : Rows) (a : Half) (v r : Quarter) (w : Weights) : Rows := fun i => stream x a v r w (i 0) (i 1)

/-- One over a row's root mean square, from the sum of its squares. -/
def scale (s : EReal) : EReal := Ideal.rsqrt (Ideal.div s (Ideal.ofBits .f32 0x44800000#32) + Ideal.ofBits .f32 0x358637BD#32)

/-- Its rows divided by their root mean squares, times the gain. -/
def normed (x : Rows) (a : Half) (v r : Quarter) (w : Weights) (g : Gain) : Rows := fun i =>
  stream x a v r w (i 0) (i 1) * scale (∑ k : Fin 1024, stream x a v r w (i 0) k * stream x a v r w (i 0) k) * g (ix1 (i 1))

/-- A sum over the weights' rows is the three mixers' sums. -/
theorem rows_sum (f : Fin 1024 → EReal) :
    ∑ k : Fin 1024, f k = (∑ k : Fin 512, f (rowA k) + ∑ k : Fin 256, f (rowC k)) + ∑ k : Fin 256, f (rowR k) := by
  refine (Fin.sum_univ_add (a := 768) (b := 256) f).trans (congrArg₂ (· + ·) ?_ rfl)
  exact Fin.sum_univ_add (a := 512) (b := 256) fun k => f (Fin.castAdd 256 k)

end Cert.Outproj

end
-- ==== Proof.Outproj.Reference.lean ====
/-
  The output projection's reference computes the stream after the mixers and its norm.
-/
module

public import proofs.«01_k».proof.Proof.Gen.Reference5Ideal.Read
public import proofs.«01_k».proof.Proof.Outproj.Spec
public import Idealize.ShloMosaic.Lib.Pointwise.SelectCore

@[expose] public section

noncomputable section

namespace Cert.Reference5Ideal.Outproj

open Cert.Reference5Ideal Cert.Reference5Ideal.Gen Cert.Reference5Ideal.Read
open Idealize.ShloMosaic hiding ix1 ix2
open Idealize.ShloMosaic.ValueIdx
open Cert.Outproj

variable (x : FVec Ideal S32768x1024 .f32) (a : FVec Ideal S32768x512 .bf16) (v r : FVec Ideal S32768x256 .bf16)
  (w : FVec Ideal S1024x1024 .f32) (g : FVec Ideal S1024 .f32)

/-! ## The mixers' outputs side by side -/

theorem catA (p : Fin 32768) (k : Fin 512) : val_main_v3 (F := Ideal) a v r (ix2 p (rowA k)) = a (ix2 p k) := by
  refine (concatenate_apply _ _ _ _ _).trans ((concatenateAt_cons _ _ _ _ _ _ _ _).trans ?_)
  refine (dif_pos (show (rowA k).val < 512 from k.isLt)).trans (congrArg a (funext fun b => ?_))
  match b with
  | ⟨0, _⟩ => rfl
  | ⟨1, _⟩ => rfl

theorem catC (p : Fin 32768) (k : Fin 256) : val_main_v3 (F := Ideal) a v r (ix2 p (rowC k)) = v (ix2 p k) := by
  refine (concatenate_apply _ _ _ _ _).trans ((concatenateAt_cons _ _ _ _ _ _ _ _).trans ?_)
  refine (dif_neg (show ¬512 + k.val < 512 by omega)).trans ((concatenateAt_cons _ _ _ _ _ _ _ _).trans ?_)
  refine (dif_pos (show 512 + k.val - 512 < 256 by omega)).trans (congrArg v (funext fun b => Fin.ext ?_))
  match b with
  | ⟨0, _⟩ => rfl
  | ⟨1, _⟩ => show 512 + k.val - 512 = k.val; omega

theorem catR (p : Fin 32768) (k : Fin 256) : val_main_v3 (F := Ideal) a v r (ix2 p (rowR k)) = r (ix2 p k) := by
  refine (concatenate_apply _ _ _ _ _).trans ((concatenateAt_cons _ _ _ _ _ _ _ _).trans ?_)
  refine (dif_neg (show ¬768 + k.val < 512 by omega)).trans ((concatenateAt_cons _ _ _ _ _ _ _ _).trans ?_)
  refine (dif_neg (show ¬768 + k.val - 512 < 256 by omega)).trans ((concatenateAt_singleton _ _ _ _ _ _).trans ?_)
  refine congrArg r (funext fun b => Fin.ext ?_)
  match b with
  | ⟨0, _⟩ => rfl
  | ⟨1, _⟩ => show 768 + k.val - 512 - 256 = k.val; omega

/-! ## The stream -/

theorem dot_apply (p : Fin 32768) (q : Fin 1024) : val_main_v4 (F := Ideal) a v r w (ix2 p q)
    = (∑ k : Fin 512, a (ix2 p k) * w (ix2 (rowA k) q) + ∑ k : Fin 256, v (ix2 p k) * w (ix2 (rowC k) q))
      + ∑ k : Fin 256, r (ix2 p k) * w (ix2 (rowR k) q) := by
  refine (val_main_v4_apply a v r w (ix2 p q)).trans ?_
  refine Eq.trans (Finset.sum_congr rfl (g := fun k : Fin 1024 => val_main_v3 (F := Ideal) a v r (ix2 p k) * w (ix2 k q)) fun k _ =>
    congrArg₂ (· * ·) (congrArg _ (funext fun b => ?_)) (congrArg w (funext fun b => ?_))) ?_
  · match b with
    | ⟨0, _⟩ => rfl
    | ⟨1, _⟩ => rfl
  · match b with
    | ⟨0, _⟩ => rfl
    | ⟨1, _⟩ => rfl
  refine (rows_sum _).trans (congrArg₂ (· + ·) (congrArg₂ (· + ·) ?_ ?_) ?_)
  · exact Finset.sum_congr rfl fun k _ => congrArg (· * _) (catA a v r p k)
  · exact Finset.sum_congr rfl fun k _ => congrArg (· * _) (catC a v r p k)
  · exact Finset.sum_congr rfl fun k _ => congrArg (· * _) (catR a v r p k)

theorem stream_apply (p : Fin 32768) (q : Fin 1024) : val_main_v5 (F := Ideal) x a v r w (ix2 p q) = stream x a v r w p q := by
  refine (congrArg (x (ix2 p q) + ·) (dot_apply a v r w p q)).trans ?_
  unfold stream
  rw [← add_assoc, ← add_assoc]

/-- The first result. -/
theorem value_mixed : val_main_v5 (F := Ideal) x a v r w = mixed x a v r w := by
  funext i
  exact (congrArg _ (funext fun b => match b with | ⟨0, _⟩ => rfl | ⟨1, _⟩ => rfl)).trans (stream_apply x a v r w (i 0) (i 1))

/-! ## The norm -/

theorem squares_apply (i : S32768.Idx) : val_main_v7 (F := Ideal) x a v r w i
    = ∑ k : Fin 1024, stream x a v r w (i 0) k * stream x a v r w (i 0) k := by
  refine (val_main_v7_apply x a v r w i).trans ?_
  refine (congrArg (· + _) (show (val_main_cst (F := Ideal)) (Shape.Idx.first h_S_) = (0 : EReal) from Ideal.ofBits_zero_f32)).trans ?_
  refine (zero_add _).trans (Finset.sum_congr rfl fun k _ => ?_)
  have h : val_main_v5 (F := Ideal) x a v r w (idx_main_v7 i k) = stream x a v r w (i 0) k :=
    (congrArg _ (funext fun b => match b with | ⟨0, _⟩ => rfl | ⟨1, _⟩ => rfl)).trans (stream_apply x a v r w (i 0) k)
  exact congrArg₂ (· * ·) h h

theorem scale_apply (i : S32768x1.Idx) : val_main_v13 (F := Ideal) x a v r w i
    = scale (∑ k : Fin 1024, stream x a v r w (i 0) k * stream x a v r w (i 0) k) := by
  refine (val_main_v13_apply (F := Ideal) x a v r w i).trans (congrArg Ideal.rsqrt ?_)
  refine (val_main_v12_apply (F := Ideal) x a v r w i).trans (congrArg₂ (· + ·) ?_ ?_)
  · refine (val_main_v10_apply (F := Ideal) x a v r w i).trans (congrArg₂ Ideal.div ?_ ?_)
    · exact (val_main_v8_apply (F := Ideal) x a v r w i).trans (squares_apply x a v r w _)
    · exact (val_main_v9_apply (F := Ideal) i).trans (val_main_cst_0_apply _)
  · exact (val_main_v11_apply (F := Ideal) i).trans (val_main_cst_1_apply _)

/-- The second result. -/
theorem value_normed : val_main_v19 (F := Ideal) x a v r w g = normed x a v r w g := by
  funext i
  refine (val_main_v19_apply (F := Ideal) x a v r w g i).trans ((val_main_v18_apply (F := Ideal) x a v r w g i).trans (congrArg₂ (· * ·) ?_ ?_))
  · refine (val_main_v15_apply (F := Ideal) x a v r w i).trans (congrArg₂ (· * ·) (congrFun (value_mixed x a v r w) i) ?_)
    exact (val_main_v14_apply (F := Ideal) x a v r w i).trans (scale_apply x a v r w _)
  · refine (val_main_v17_apply (F := Ideal) g i).trans ((val_main_v16_apply (F := Ideal) g _).trans (congrArg g (funext fun b => ?_)))
    match b with
    | ⟨0, _⟩ => rfl

end Cert.Reference5Ideal.Outproj

end
-- ==== Proof.Outproj.Same.lean ====
/-
  The output projection is printed twice, once for each reading of its floats.  The two texts are the
  same, so over any one carrier the two programs are equal, and what is proved of a run of the one
  is proved of a run of the other.
-/
module
public import proofs.«01_k».proof.Proof.Gen.Kernel5
public import proofs.«01_k».proof.Proof.Gen.Kernel5Ideal

@[expose] public section

namespace Cert.Kernel5Ideal.Outproj

open Idealize.ShloMosaic Idealize.ShloMosaic.TcCoe Idealize.SL.Sem

variable {F : FTy → Type} [FloatOps F]

set_option backward.isDefEq.respectTransparency.types false in
set_option maxHeartbeats 1000000 in
/-- The tables of bodies agree, label by label. -/
theorem bodies_eq : Cert.Kernel5.defs₀ (F := F) = Cert.Kernel5Ideal.defs₀ (F := F) := by
  unfold Cert.Kernel5.defs₀ Cert.Kernel5Ideal.defs₀
  refine congrArg (Defs.onTc (nD := Cert.Kernel5Ideal.nD) (τ := Cert.Kernel5Ideal.τ) (sig := Cert.Kernel5Ideal.sig) (Λ := Cert.Kernel5Ideal.Λ₀)) (funext fun l => ?_)
  funext x
  match l, x with
  | 0, (t, s) => rfl

set_option backward.isDefEq.respectTransparency.types false in
set_option maxHeartbeats 1000000 in
/-- So do the tables with the pipelines' own labels. -/
theorem defs_eq : Cert.Kernel5.defs (F := F) = Cert.Kernel5Ideal.defs (F := F) :=
  congrArg (Pipeline.defs (Cert.Kernel5Ideal.pcfgs (F := F))) bodies_eq

set_option backward.isDefEq.respectTransparency.types false in
set_option maxHeartbeats 1000000 in
/-- And the main programs. -/
theorem main_eq : Cert.Kernel5.main (F := F) = Cert.Kernel5Ideal.main (F := F) := rfl

set_option backward.isDefEq.respectTransparency.types false in
set_option maxHeartbeats 1000000 in
/-- A run of the one program is a run of the other. -/
theorem run_eq (m : (ℓ : Loc Cert.Kernel5Ideal.nD Cert.Kernel5Ideal.τ Cert.Kernel5Ideal.sig) → Buf (Elt F) ℓ)
    (ρ : Dev Cert.Kernel5Ideal.nD → PrngReg) :
    θ_run (Cert.Kernel5.defs (F := F)) (onTc (τ := Cert.Kernel5.τ) (Cert.Kernel5.main (F := F))) ⟨m, fun _ => 0, ρ⟩
      = θ_run (Cert.Kernel5Ideal.defs (F := F)) (onTc (τ := Cert.Kernel5Ideal.τ) (Cert.Kernel5Ideal.main (F := F))) ⟨m, fun _ => 0, ρ⟩ :=
  congrArg₂ (fun D M => θ_run D (onTc (τ := Cert.Kernel5Ideal.τ) M)
    (⟨m, fun _ => 0, ρ⟩ : MemSt Cert.Kernel5Ideal.nD Cert.Kernel5Ideal.τ Cert.Kernel5Ideal.sig (Elt F))) (defs_eq (F := F)) (main_eq (F := F))

set_option backward.isDefEq.respectTransparency.types false in
set_option maxHeartbeats 1000000 in
/-- What holds of every end of the one holds of every end of the other. -/
theorem run_of (m : (ℓ : Loc Cert.Kernel5Ideal.nD Cert.Kernel5Ideal.τ Cert.Kernel5Ideal.sig) → Buf (Elt F) ℓ)
    (ρ : Dev Cert.Kernel5Ideal.nD → PrngReg) (Q : PUnit × MemSt Cert.Kernel5Ideal.nD Cert.Kernel5Ideal.τ Cert.Kernel5Ideal.sig (Elt F) → Prop)
    (h : θ_run (Cert.Kernel5Ideal.defs (F := F)) (onTc (τ := Cert.Kernel5Ideal.τ) (Cert.Kernel5Ideal.main (F := F))) ⟨m, fun _ => 0, ρ⟩ Q) :
    θ_run (Cert.Kernel5.defs (F := F)) (onTc (τ := Cert.Kernel5.τ) (Cert.Kernel5.main (F := F))) ⟨m, fun _ => 0, ρ⟩ Q := by
  rw [run_eq]
  exact h

end Cert.Kernel5Ideal.Outproj
-- ==== Proof.Outproj.Value.lean ====
/-
  The kernel computes the stream after the mixers and its norm: the blocks a point reads, the two blocks it writes,
  and the arrays the blocks make up.
-/
module

public import proofs.«01_k».proof.Proof.Gen.Kernel5Ideal.Value
public import proofs.«01_k».proof.Proof.Outproj.Spec
public import Idealize.ShloMosaic.Lib.Pipeline.ValueKit.Geometry
public import Idealize.ShloMosaic.Lib.Pipeline.ValueKit.Basic
public import Idealize.ShloMosaic.Lib.Pipeline.ValueKit.Tiles
public import Idealize.ShloMosaic.Lib.ValueLayout
public import Idealize.ShloMosaic.Lib.ValueLayoutCasts

@[expose] public section

noncomputable section

namespace Cert.Kernel5Ideal.Outproj

open Cert.Kernel5Ideal Cert.Kernel5Ideal.Gen
open Idealize.ShloMosaic Idealize.ShloMosaic.TcCoe
open Idealize.ShloMosaic.ValueIdx
open Idealize.ShloMosaic.Pipeline (Dat Cfg Window)
open Cert.Outproj

/-! ## The products -/

abbrev dH : DotDims S512x512 S512x1024 S512x1024 := dot_S512x512_S512x1024_S512x1024_1_0_0_1_n_n
abbrev dQ : DotDims S512x256 S256x1024 S512x1024 := dot_S512x256_S256x1024_S512x1024_1_0_0_1_n_n

theorem mulH (y : FVec Ideal S512x512 .bf16) (w : FVec Ideal S512x1024 .bf16) (i : S512x1024.Idx) :
    matmul (F := Ideal) dH none y w (constant S512x1024 .f32 0x00000000#32) i = ∑ k : Fin 512, y (ix2 (i 0) k) * w (ix2 k (i 1)) := by
  simp only [matmul]
  rw [Ideal.matmul_constant_zero_apply, ← Equiv.sum_comp (contrEquiv1 dH 512 rfl rfl).symm]
  refine Finset.sum_congr rfl fun k _ => ?_
  have hk := contrEquiv1_symm_val dH 512 rfl rfl k
  refine congrArg₂ (fun a b => y a * w b) (funext fun a => Fin.ext ?_) (funext fun a => Fin.ext ?_)
  · match a with
    | ⟨0, _⟩ =>
      show (dH.lhsIdx i _ 0).val = _
      unfold DotDims.lhsIdx
      rw [dif_neg (show ¬(0 : Fin S512x512.rank) ∈ dH.lhsBatch by decide), dif_pos (show (0 : Fin S512x512.rank) ∈ dH.lhsNonContracting by decide)]
      rfl
    | ⟨1, _⟩ => exact (dH.lhsIdx_val_of_single rfl i _).trans hk
  · match a with
    | ⟨0, _⟩ => exact (dH.rhsIdx_val_of_single rfl i _).trans hk
    | ⟨1, _⟩ =>
      show (dH.rhsIdx i _ 1).val = _
      unfold DotDims.rhsIdx
      rw [dif_neg (show ¬(1 : Fin S512x1024.rank) ∈ dH.rhsBatch by decide), dif_pos (show (1 : Fin S512x1024.rank) ∈ dH.rhsNonContracting by decide)]
      rfl

theorem mulQ (y : FVec Ideal S512x256 .bf16) (w : FVec Ideal S256x1024 .bf16) (i : S512x1024.Idx) :
    matmul (F := Ideal) dQ none y w (constant S512x1024 .f32 0x00000000#32) i = ∑ k : Fin 256, y (ix2 (i 0) k) * w (ix2 k (i 1)) := by
  simp only [matmul]
  rw [Ideal.matmul_constant_zero_apply, ← Equiv.sum_comp (contrEquiv1 dQ 256 rfl rfl).symm]
  refine Finset.sum_congr rfl fun k _ => ?_
  have hk := contrEquiv1_symm_val dQ 256 rfl rfl k
  refine congrArg₂ (fun a b => y a * w b) (funext fun a => Fin.ext ?_) (funext fun a => Fin.ext ?_)
  · match a with
    | ⟨0, _⟩ =>
      show (dQ.lhsIdx i _ 0).val = _
      unfold DotDims.lhsIdx
      rw [dif_neg (show ¬(0 : Fin S512x256.rank) ∈ dQ.lhsBatch by decide), dif_pos (show (0 : Fin S512x256.rank) ∈ dQ.lhsNonContracting by decide)]
      rfl
    | ⟨1, _⟩ => exact (dQ.lhsIdx_val_of_single rfl i _).trans hk
  · match a with
    | ⟨0, _⟩ => exact (dQ.rhsIdx_val_of_single rfl i _).trans hk
    | ⟨1, _⟩ =>
      show (dQ.rhsIdx i _ 1).val = _
      unfold DotDims.rhsIdx
      rw [dif_neg (show ¬(1 : Fin S256x1024.rank) ∈ dQ.rhsBatch by decide), dif_pos (show (1 : Fin S256x1024.rank) ∈ dQ.rhsNonContracting by decide)]
      rfl

/-! ## One block's arithmetic -/

section
variable (x : FVec Ideal S512x1024 .f32) (a : FVec Ideal S512x512 .bf16) (wa : FVec Ideal S512x1024 .bf16)
  (v : FVec Ideal S512x256 .bf16) (wv : FVec Ideal S256x1024 .bf16) (r : FVec Ideal S512x256 .bf16) (wr : FVec Ideal S256x1024 .bf16)

/-- The first block: the stream's rows and the three products. -/
theorem pay1_apply (p : Fin 512) (q : Fin 1024) : k0_pay1 (F := Ideal) x a wa v wv r wr (ix2 p q)
    = ((x (ix2 p q) + ∑ k : Fin 512, a (ix2 p k) * wa (ix2 k q)) + ∑ k : Fin 256, v (ix2 p k) * wv (ix2 k q))
      + ∑ k : Fin 256, r (ix2 p k) * wr (ix2 k q) := by
  unfold k0_pay1
  rw [shapeCast_self wa, shapeCast_self wv, shapeCast_self wr]
  exact congrArg₂ (· + ·) (congrArg₂ (· + ·) (congrArg (x (ix2 p q) + ·) (mulH a wa (ix2 p q))) (mulQ v wv (ix2 p q))) (mulQ r wr (ix2 p q))

/-- Column `k` put back into a row's index. -/
theorem lift_row (h : S512x1024.Reduces [1] S512) (p : Fin 512) (k : Fin (S512x1024.size 1)) :
    h.lift (ix1 p) k = ix2 p (⟨k.val, k.isLt⟩ : Fin 1024) := by
  funext b; apply Fin.ext
  fin_cases b <;> rfl

/-- The sum of a row's squares. -/
theorem squares (y : FVec Ideal S512x1024 .f32) (h : S512x1024.Reduces [1] S512) (p : Fin 512) :
    multiReduction (F := Ideal) (φ := .f32) .add [1] S512 (mulf y y) 0x00000000#32 h (.inl rfl) rfl (ix1 p)
      = ∑ k : Fin 1024, y (ix2 p k) * y (ix2 p k) := by
  refine (Idealize.ShloMosaic.Ideal.multiReduction_add_single _ _ _ _ _ _).trans ?_
  exact Finset.sum_congr rfl fun k _ => congrArg (fun i => y i * y i) (lift_row h p k)

end

/-! ## The blocks a point reads -/

variable (m : (ℓ : Loc nD τ sig) → Buf (Elt Ideal) ℓ) (c : Dev nD)

abbrev aX : Rows := m ((c : Thread nD τ).loc main_arg0)
abbrev aA : Half := m ((c : Thread nD τ).loc main_arg1)
abbrev aV : Quarter := m ((c : Thread nD τ).loc main_arg2)
abbrev aR : Quarter := m ((c : Thread nD τ).loc main_arg3)
abbrev aW : Weights := m ((c : Thread nD τ).loc main_arg4)
abbrev aG : Gain := m ((c : Thread nD τ).loc main_arg5)

/-- The weights as the pipeline finds them: no rounding is left of the cast. -/
theorem V_weights : (V m c main_v0 : S1024x1024.Idx → EReal) = aW m c := by
  show StableHlo.after hostOps0 _ (Proc.devRef .tc main_v0) = _
  after_results
  rfl

/-- The gain as the pipeline finds it, a row. -/
theorem V_gain (i : S1x1024.Idx) : (V m c main_v1 : S1x1024.Idx → EReal) i = aG m c (ix1 (i 1)) := by
  have h : (V m c main_v1 : S1x1024.Idx → EReal) = shapeCast S1x1024 (aG m c) shapeCasts_S1024_S1x1024 := by
    show StableHlo.after hostOps0 _ (Proc.devRef .tc main_v1) = _
    after_results
    rfl
  rw [h]
  refine (shapeCast_addUnit_apply ![1024] (aG m c) shapeCasts_S1024_S1x1024 i).trans (congrArg (aG m c) (funext fun a => ?_))
  match a with
  | ⟨0, _⟩ => rfl

theorem idx_rows : ∀ t : Fin cfg0.N, win0_0.index t = ![t.val, 0] ∧ win0_1.index t = ![t.val, 0] ∧ win0_2.index t = ![t.val, 0]
    ∧ win0_3.index t = ![t.val, 0] ∧ win0_6.index t = ![t.val, 0] ∧ win0_7.index t = ![t.val, 0] :=
  (by decide +kernel : ∀ t : Fin grid0.N, _)
theorem idx_whole : ∀ t : Fin cfg0.N, win0_4.index t = ![0, 0] ∧ win0_5.index t = ![0, 0] :=
  (by decide +kernel : ∀ t : Fin grid0.N, _)

variable (t : Fin cfg0.N)

theorem pt_lt : t.val < 64 := lt_of_lt_of_eq t.isLt N_0
def rowAt (p : Fin 512) : Fin 32768 := ⟨t.val * 512 + p.val, by have := pt_lt t; omega⟩

theorem blk0 (p : Fin 512) (q : Fin 1024) : iblk m c 0 t (ix2 p q) = aX m c (ix2 (rowAt t p) q) := by
  show V m c main_arg0 ((win0_0.rect t).emb (ix2 p q)) = _
  rw [V_main_arg0]
  refine congrArg (aX m c) (funext fun a => Fin.ext ?_)
  refine (Window.rect_emb_val win0_0 t (ix2 p q) a).trans ?_
  rw [(idx_rows t).1]
  match a with
  | ⟨0, _⟩ => rfl
  | ⟨1, _⟩ => show 0 * 1024 + q.val = q.val; omega

theorem blk1 (p : Fin 512) (k : Fin 512) : iblk m c 1 t (ix2 p k) = aA m c (ix2 (rowAt t p) k) := by
  show V m c main_arg1 ((win0_1.rect t).emb (ix2 p k)) = _
  rw [V_main_arg1]
  refine congrArg (aA m c) (funext fun a => Fin.ext ?_)
  refine (Window.rect_emb_val win0_1 t (ix2 p k) a).trans ?_
  rw [(idx_rows t).2.1]
  match a with
  | ⟨0, _⟩ => rfl
  | ⟨1, _⟩ => show 0 * 512 + k.val = k.val; omega

theorem blk2 (p : Fin 512) (k : Fin 256) : iblk m c 2 t (ix2 p k) = aV m c (ix2 (rowAt t p) k) := by
  show V m c main_arg2 ((win0_2.rect t).emb (ix2 p k)) = _
  rw [V_main_arg2]
  refine congrArg (aV m c) (funext fun a => Fin.ext ?_)
  refine (Window.rect_emb_val win0_2 t (ix2 p k) a).trans ?_
  rw [(idx_rows t).2.2.1]
  match a with
  | ⟨0, _⟩ => rfl
  | ⟨1, _⟩ => show 0 * 256 + k.val = k.val; omega

theorem blk3 (p : Fin 512) (k : Fin 256) : iblk m c 3 t (ix2 p k) = aR m c (ix2 (rowAt t p) k) := by
  show V m c main_arg3 ((win0_3.rect t).emb (ix2 p k)) = _
  rw [V_main_arg3]
  refine congrArg (aR m c) (funext fun a => Fin.ext ?_)
  refine (Window.rect_emb_val win0_3 t (ix2 p k) a).trans ?_
  rw [(idx_rows t).2.2.2.1]
  match a with
  | ⟨0, _⟩ => rfl
  | ⟨1, _⟩ => show 0 * 256 + k.val = k.val; omega

theorem blk4 (k q : Fin 1024) : iblk m c 4 t (ix2 k q) = aW m c (ix2 k q) := by
  show (V m c main_v0 : S1024x1024.Idx → EReal) ((win0_4.rect t).emb (ix2 k q)) = _
  rw [V_weights]
  refine congrArg (aW m c) (funext fun a => Fin.ext ?_)
  refine (Window.rect_emb_val win0_4 t (ix2 k q) a).trans ?_
  rw [(idx_whole t).1]
  match a with
  | ⟨0, _⟩ => show 0 * 1024 + k.val = k.val; omega
  | ⟨1, _⟩ => show 0 * 1024 + q.val = q.val; omega

theorem blk5 (q : Fin 1024) : iblk m c 5 t (ix2 (0 : Fin 1) q) = aG m c (ix1 q) := by
  show (V m c main_v1 : S1x1024.Idx → EReal) ((win0_5.rect t).emb (ix2 (0 : Fin 1) q)) = _
  rw [V_gain]
  refine congrArg (fun k => aG m c (ix1 k)) (Fin.ext ?_)
  refine (Window.rect_emb_val win0_5 t (ix2 (0 : Fin 1) q) 1).trans ?_
  rw [(idx_whole t).2]
  show 0 * 1024 + q.val = q.val; omega

/-! ## The parts of the blocks it loads -/

theorem ldX (X : FVec Ideal S512x1024 .f32) (p : Fin 512) (q : Fin 1024) : View.ld (Val := Elt Ideal) (e' := .f32) X r0_0 (ix2 p q) = X (ix2 p q) := by
  refine congrArg X (funext fun a => Fin.ext ?_)
  match a with
  | ⟨0, _⟩ => show 0 + 1 * p.val = p.val; omega
  | ⟨1, _⟩ => show 0 + 1 * q.val = q.val; omega

theorem ldH (X : FVec Ideal S512x512 .bf16) (p : Fin 512) (k : Fin 512) : View.ld (Val := Elt Ideal) (e' := .bf16) X r0_1 (ix2 p k) = X (ix2 p k) := by
  refine congrArg X (funext fun a => Fin.ext ?_)
  match a with
  | ⟨0, _⟩ => show 0 + 1 * p.val = p.val; omega
  | ⟨1, _⟩ => show 0 + 1 * k.val = k.val; omega

theorem ldQ (X : FVec Ideal S512x256 .bf16) (p : Fin 512) (k : Fin 256) : View.ld (Val := Elt Ideal) (e' := .bf16) X r0_3 (ix2 p k) = X (ix2 p k) := by
  refine congrArg X (funext fun a => Fin.ext ?_)
  match a with
  | ⟨0, _⟩ => show 0 + 1 * p.val = p.val; omega
  | ⟨1, _⟩ => show 0 + 1 * k.val = k.val; omega

theorem ldA (X : FVec Ideal S1024x1024 .bf16) (k : Fin 512) (q : Fin 1024) : View.ld (Val := Elt Ideal) (e' := .bf16) X r0_2 (ix2 k q) = X (ix2 (rowA k) q) := by
  refine congrArg X (funext fun a => Fin.ext ?_)
  match a with
  | ⟨0, _⟩ => show 0 + 1 * k.val = k.val; omega
  | ⟨1, _⟩ => show 0 + 1 * q.val = q.val; omega

theorem ldC (X : FVec Ideal S1024x1024 .bf16) (k : Fin 256) (q : Fin 1024) : View.ld (Val := Elt Ideal) (e' := .bf16) X r0_4 (ix2 k q) = X (ix2 (rowC k) q) := by
  refine congrArg X (funext fun a => Fin.ext ?_)
  match a with
  | ⟨0, _⟩ => show 512 + 1 * k.val = 512 + k.val; omega
  | ⟨1, _⟩ => show 0 + 1 * q.val = q.val; omega

theorem ldR (X : FVec Ideal S1024x1024 .bf16) (k : Fin 256) (q : Fin 1024) : View.ld (Val := Elt Ideal) (e' := .bf16) X r0_5 (ix2 k q) = X (ix2 (rowR k) q) := by
  refine congrArg X (funext fun a => Fin.ext ?_)
  match a with
  | ⟨0, _⟩ => show 768 + 1 * k.val = 768 + k.val; omega
  | ⟨1, _⟩ => show 0 + 1 * q.val = q.val; omega

theorem ldG (X : FVec Ideal S1x1024 .f32) (p : Fin 1) (q : Fin 1024) : View.ld (Val := Elt Ideal) (e' := .f32) X r0_6 (ix2 p q) = X (ix2 p q) := by
  refine congrArg X (funext fun a => Fin.ext ?_)
  match a with
  | ⟨0, _⟩ => show 0 + 1 * p.val = p.val; omega
  | ⟨1, _⟩ => show 0 + 1 * q.val = q.val; omega

/-! ## The blocks it writes -/

/-- The first block, from what the point reads. -/
abbrev first : FVec Ideal S512x1024 .f32 :=
  k0_pay1 (View.ld (iblk m c 0 t) r0_0) (View.ld (iblk m c 1 t) r0_1) (View.ld (iblk m c 4 t) r0_2) (View.ld (iblk m c 2 t) r0_3)
    (View.ld (iblk m c 4 t) r0_4) (View.ld (iblk m c 3 t) r0_3) (View.ld (iblk m c 4 t) r0_5)

theorem first_apply (p : Fin 512) (q : Fin 1024) : first m c t (ix2 p q) = stream (aX m c) (aA m c) (aV m c) (aR m c) (aW m c) (rowAt t p) q := by
  refine (pay1_apply _ _ _ _ _ _ _ p q).trans ?_
  refine congrArg₂ (· + ·) (congrArg₂ (· + ·) (congrArg₂ (· + ·) ?_ (Finset.sum_congr rfl fun k _ => congrArg₂ (· * ·) ?_ ?_))
    (Finset.sum_congr rfl fun k _ => congrArg₂ (· * ·) ?_ ?_)) (Finset.sum_congr rfl fun k _ => congrArg₂ (· * ·) ?_ ?_)
  · exact (ldX _ p q).trans (blk0 m c t p q)
  · exact (ldH _ p k).trans (blk1 m c t p k)
  · exact (ldA _ k q).trans (blk4 m c t (rowA k) q)
  · exact (ldQ _ p k).trans (blk2 m c t p k)
  · exact (ldC _ k q).trans (blk4 m c t (rowC k) q)
  · exact (ldQ _ p k).trans (blk3 m c t p k)
  · exact (ldR _ k q).trans (blk4 m c t (rowR k) q)

theorem out6_apply (p : Fin 512) (q : Fin 1024) :
    out0_6 (iblk m c 0 t) (iblk m c 1 t) (iblk m c 2 t) (iblk m c 3 t) (iblk m c 4 t) (iblk m c 5 t) (ix2 p q)
      = stream (aX m c) (aA m c) (aV m c) (aR m c) (aW m c) (rowAt t p) q := by
  unfold out0_6
  refine Eq.trans (congrFun (View.canon_cons_unit_lit _ _ _ (fun a => ?_)) (ix2 p q)) (first_apply m c t p q)
  match a with
  | ⟨0, _⟩ => rfl
  | ⟨1, _⟩ => rfl

theorem out7_apply (p : Fin 512) (q : Fin 1024) :
    out0_7 (iblk m c 0 t) (iblk m c 1 t) (iblk m c 2 t) (iblk m c 3 t) (iblk m c 4 t) (iblk m c 5 t) (ix2 p q)
      = normed (aX m c) (aA m c) (aV m c) (aR m c) (aW m c) (aG m c) (ix2 (rowAt t p) q) := by
  unfold out0_7
  refine (Value.canon7_eq _ _ _ _ _ _ _ _ (ix2 p q)).trans ?_
  refine congrArg₂ (· * ·) (congrArg₂ (· * ·) ?_ (congrArg scale ?_)) ?_
  · refine Eq.trans (congrArg (first m c t) (funext fun a => ?_)) (first_apply m c t p q)
    match a with
    | ⟨0, _⟩ => rfl
    | ⟨1, _⟩ => rfl
  · refine Eq.trans (congrArg _ (funext fun a => ?_)) ((squares (first m c t) _ p).trans (Finset.sum_congr rfl fun k _ =>
      congrArg₂ (· * ·) (first_apply m c t p k) (first_apply m c t p k)))
    match a with
    | ⟨0, _⟩ => rfl
  · exact (ldG _ 0 q).trans (blk5 m c t q)

/-! ## The results -/

theorem emb6 (z : S512x1024.Idx) : (win0_6.rect t).emb z = ix2 (rowAt t (z 0)) (z 1) := by
  refine funext fun a => Fin.ext ?_
  refine (Window.rect_emb_val win0_6 t z a).trans ?_
  rw [(idx_rows t).2.2.2.2.1]
  match a with
  | ⟨0, _⟩ => rfl
  | ⟨1, _⟩ => show 0 * 1024 + (z 1).val = (z 1).val; omega

theorem emb7 (z : S512x1024.Idx) : (win0_7.rect t).emb z = ix2 (rowAt t (z 0)) (z 1) := by
  refine funext fun a => Fin.ext ?_
  refine (Window.rect_emb_val win0_7 t z a).trans ?_
  rw [(idx_rows t).2.2.2.2.2]
  match a with
  | ⟨0, _⟩ => rfl
  | ⟨1, _⟩ => show 0 * 1024 + (z 1).val = (z 1).val; omega

theorem flush67 : ∀ t : Fin cfg0.N, win0_6.flush t = true ∧ win0_7.flush t = true :=
  (by decide +kernel : ∀ t : Fin grid0.N, _)

theorem mem6 (z : S512x1024.Idx) (i : S32768x1024.Idx) (h : (win0_6.rect t).emb z = i) : i ∈ ((cfg0.win 6).blk t).view.set := by
  subst h
  exact View.emb_mem_set ((cfg0.win 6).blk t).view z

theorem mem7 (z : S512x1024.Idx) (i : S32768x1024.Idx) (h : (win0_7.rect t).emb z = i) : i ∈ ((cfg0.win 7).blk t).view.set := by
  subst h
  exact View.emb_mem_set ((cfg0.win 7).blk t).view z

/-- An index of a result array, as a row of a block of rows. -/
theorem place (i : S32768x1024.Idx) (h : (i 0).val / 512 < cfg0.N) :
    ix2 (rowAt ⟨(i 0).val / 512, h⟩ (⟨(i 0).val % 512, Nat.mod_lt _ (by omega)⟩ : Fin 512)) (i 1) = i := by
  refine funext fun a => Fin.ext ?_
  match a with
  | ⟨0, _⟩ => show (i 0).val / 512 * 512 + (i 0).val % 512 = (i 0).val; omega
  | ⟨1, _⟩ => rfl

theorem pt_of (i : S32768x1024.Idx) : (i 0).val / 512 < cfg0.N := by
  have h0 : (i 0).val < 32768 := (i 0).isLt
  rw [show cfg0.N = 64 from N_0]; omega

theorem cover6 (i : S32768x1024.Idx) : ∃ t : Fin cfg0.N, (cfg0.win 6).flush t = true ∧ i ∈ ((cfg0.win 6).blk t).view.set :=
  ⟨⟨(i 0).val / 512, pt_of i⟩, (flush67 _).1,
    mem6 _ (ix2 (⟨(i 0).val % 512, Nat.mod_lt _ (by omega)⟩ : Fin 512) (i 1)) i ((emb6 _ _).trans (place i (pt_of i)))⟩

theorem cover7 (i : S32768x1024.Idx) : ∃ t : Fin cfg0.N, (cfg0.win 7).flush t = true ∧ i ∈ ((cfg0.win 7).blk t).view.set :=
  ⟨⟨(i 0).val / 512, pt_of i⟩, (flush67 _).2,
    mem7 _ (ix2 (⟨(i 0).val % 512, Nat.mod_lt _ (by omega)⟩ : Fin 512) (i 1)) i ((emb7 _ _).trans (place i (pt_of i)))⟩

theorem after6 (z : S512x1024.Idx) :
    out0_6 (iblk m c 0 t) (iblk m c 1 t) (iblk m c 2 t) (iblk m c 3 t) (iblk m c 4 t) (iblk m c 5 t) z
      = mixed (aX m c) (aA m c) (aV m c) (aR m c) (aW m c) ((win0_6.rect t).emb z) := by
  obtain ⟨p, q, rfl⟩ : ∃ (p : Fin 512) (q : Fin 1024), z = ix2 p q :=
    ⟨z 0, z 1, by funext a; match a with | ⟨0, _⟩ => rfl | ⟨1, _⟩ => rfl⟩
  exact (out6_apply m c t p q).trans (congrArg (mixed (aX m c) (aA m c) (aV m c) (aR m c) (aW m c)) (emb6 t (ix2 p q)).symm)

theorem after7 (z : S512x1024.Idx) :
    out0_7 (iblk m c 0 t) (iblk m c 1 t) (iblk m c 2 t) (iblk m c 3 t) (iblk m c 4 t) (iblk m c 5 t) z
      = normed (aX m c) (aA m c) (aV m c) (aR m c) (aW m c) (aG m c) ((win0_7.rect t).emb z) := by
  obtain ⟨p, q, rfl⟩ : ∃ (p : Fin 512) (q : Fin 1024), z = ix2 p q :=
    ⟨z 0, z 1, by funext a; match a with | ⟨0, _⟩ => rfl | ⟨1, _⟩ => rfl⟩
  exact (out7_apply m c t p q).trans (congrArg (normed (aX m c) (aA m c) (aV m c) (aR m c) (aW m c) (aG m c)) (emb7 t (ix2 p q)).symm)

/-- The first result array ends holding the stream after the mixers, -/
theorem mixed_eq : (dats m 0 c).arrAt 6 cfg0.N = mixed (aX m c) (aA m c) (aV m c) (aR m c) (aW m c) :=
  (dats m 0 c).arrAt_eq_of_emb 6 (mixed (aX m c) (aA m c) (aV m c) (aR m c) (aW m c))
    (fun t _ z => (congrFun (after0_6 m c t) z).trans (after6 m c t z)) cover6

/-- the second its norm. -/
theorem normed_eq : (dats m 0 c).arrAt 7 cfg0.N = normed (aX m c) (aA m c) (aV m c) (aR m c) (aW m c) (aG m c) :=
  (dats m 0 c).arrAt_eq_of_emb 7 (normed (aX m c) (aA m c) (aV m c) (aR m c) (aW m c) (aG m c))
    (fun t _ z => (congrFun (after0_7 m c t) z).trans (after7 m c t z)) cover7

end Cert.Kernel5Ideal.Outproj

end
-- ==== Proof.Routed.Reference.lean ====
/-
  The reference of the output projection with the router: its two results are the stream after the mixers and its norm,
  as the dense layer's are, but for the rounding of the second, of which nothing is left over the extended reals.
-/
module

public import proofs.«01_k».proof.Proof.Gen.Reference6Ideal.Read
public import proofs.«01_k».proof.Proof.Outproj.Reference

@[expose] public section

noncomputable section

namespace Cert.Reference6Ideal.Routed

open Cert.Reference6Ideal Cert.Reference6Ideal.Gen Cert.Reference6Ideal.Read
open Idealize.ShloMosaic
open Cert.Outproj

variable (x : FVec Ideal S32768x1024 .f32) (a : FVec Ideal S32768x512 .bf16) (v r : FVec Ideal S32768x256 .bf16)
  (w : FVec Ideal S1024x1024 .f32) (g : FVec Ideal S1024 .f32)

/-- The first result. -/
theorem value_mixed : val_main_v5 (F := Ideal) x a v r w = mixed x a v r w :=
  Eq.trans (b := Cert.Reference5Ideal.Read.val_main_v5 (F := Ideal) x a v r w) rfl (Cert.Reference5Ideal.Outproj.value_mixed x a v r w)

/-- The second result. -/
theorem value_normed : val_main_v18 (F := Ideal) x a v r w g = normed x a v r w g :=
  Eq.trans (b := Cert.Reference5Ideal.Read.val_main_v19 (F := Ideal) x a v r w g) rfl (Cert.Reference5Ideal.Outproj.value_normed x a v r w g)

end Cert.Reference6Ideal.Routed

end
-- ==== Proof.Routed.Same.lean ====
/-
  The output projection with the router is printed twice, once for each reading of its floats.  The two texts are the
  same, so over any one carrier the two programs are equal, and what is proved of a run of the one
  is proved of a run of the other.
-/
module
public import proofs.«01_k».proof.Proof.Gen.Kernel6
public import proofs.«01_k».proof.Proof.Gen.Kernel6Ideal

@[expose] public section

namespace Cert.Kernel6Ideal.Routed

open Idealize.ShloMosaic Idealize.ShloMosaic.TcCoe Idealize.SL.Sem

variable {F : FTy → Type} [FloatOps F]

set_option backward.isDefEq.respectTransparency.types false in
set_option maxHeartbeats 1000000 in
/-- The tables of bodies agree, label by label. -/
theorem bodies_eq : Cert.Kernel6.defs₀ (F := F) = Cert.Kernel6Ideal.defs₀ (F := F) := by
  unfold Cert.Kernel6.defs₀ Cert.Kernel6Ideal.defs₀
  refine congrArg (Defs.onTc (nD := Cert.Kernel6Ideal.nD) (τ := Cert.Kernel6Ideal.τ) (sig := Cert.Kernel6Ideal.sig) (Λ := Cert.Kernel6Ideal.Λ₀)) (funext fun l => ?_)
  funext x
  match l, x with
  | 0, (t, s) => rfl

set_option backward.isDefEq.respectTransparency.types false in
set_option maxHeartbeats 1000000 in
/-- So do the tables with the pipelines' own labels. -/
theorem defs_eq : Cert.Kernel6.defs (F := F) = Cert.Kernel6Ideal.defs (F := F) :=
  congrArg (Pipeline.defs (Cert.Kernel6Ideal.pcfgs (F := F))) bodies_eq

set_option backward.isDefEq.respectTransparency.types false in
set_option maxHeartbeats 1000000 in
/-- And the main programs. -/
theorem main_eq : Cert.Kernel6.main (F := F) = Cert.Kernel6Ideal.main (F := F) := rfl

set_option backward.isDefEq.respectTransparency.types false in
set_option maxHeartbeats 1000000 in
/-- A run of the one program is a run of the other. -/
theorem run_eq (m : (ℓ : Loc Cert.Kernel6Ideal.nD Cert.Kernel6Ideal.τ Cert.Kernel6Ideal.sig) → Buf (Elt F) ℓ)
    (ρ : Dev Cert.Kernel6Ideal.nD → PrngReg) :
    θ_run (Cert.Kernel6.defs (F := F)) (onTc (τ := Cert.Kernel6.τ) (Cert.Kernel6.main (F := F))) ⟨m, fun _ => 0, ρ⟩
      = θ_run (Cert.Kernel6Ideal.defs (F := F)) (onTc (τ := Cert.Kernel6Ideal.τ) (Cert.Kernel6Ideal.main (F := F))) ⟨m, fun _ => 0, ρ⟩ :=
  congrArg₂ (fun D M => θ_run D (onTc (τ := Cert.Kernel6Ideal.τ) M)
    (⟨m, fun _ => 0, ρ⟩ : MemSt Cert.Kernel6Ideal.nD Cert.Kernel6Ideal.τ Cert.Kernel6Ideal.sig (Elt F))) (defs_eq (F := F)) (main_eq (F := F))

set_option backward.isDefEq.respectTransparency.types false in
set_option maxHeartbeats 1000000 in
/-- What holds of every end of the one holds of every end of the other. -/
theorem run_of (m : (ℓ : Loc Cert.Kernel6Ideal.nD Cert.Kernel6Ideal.τ Cert.Kernel6Ideal.sig) → Buf (Elt F) ℓ)
    (ρ : Dev Cert.Kernel6Ideal.nD → PrngReg) (Q : PUnit × MemSt Cert.Kernel6Ideal.nD Cert.Kernel6Ideal.τ Cert.Kernel6Ideal.sig (Elt F) → Prop)
    (h : θ_run (Cert.Kernel6Ideal.defs (F := F)) (onTc (τ := Cert.Kernel6Ideal.τ) (Cert.Kernel6Ideal.main (F := F))) ⟨m, fun _ => 0, ρ⟩ Q) :
    θ_run (Cert.Kernel6.defs (F := F)) (onTc (τ := Cert.Kernel6.τ) (Cert.Kernel6.main (F := F))) ⟨m, fun _ => 0, ρ⟩ Q := by
  rw [run_eq]
  exact h

end Cert.Kernel6Ideal.Routed
-- ==== Proof.Routed.Value.lean ====
/-
  The output projection with the router: its first two results are the stream after the mixers and its norm.  A point's
  two blocks are the dense layer's, whichever way the point's one branch goes; the counts it keeps do not enter them.
-/
module

public import proofs.«01_k».proof.Proof.Gen.Kernel6Ideal.Value
public import proofs.«01_k».proof.Proof.Outproj.Value

@[expose] public section

noncomputable section

namespace Cert.Kernel6Ideal.Routed

open Cert.Kernel6Ideal Cert.Kernel6Ideal.Gen
open Idealize.ShloMosaic Idealize.ShloMosaic.TcCoe
open Idealize.ShloMosaic.ValueIdx
open Idealize.ShloMosaic.Pipeline (Dat Cfg Window)
open Cert.Outproj
open Cert.Kernel5Ideal.Outproj (pay1_apply squares ldX ldH ldQ ldA ldC ldR ldG)
open Cert.Kernel5Ideal.Gen (r0_0 r0_1 r0_2 r0_3 r0_4 r0_5 r0_6)

/-- An entry of the dense layer's norm, written out. -/
theorem entry (P0 : Vec Ideal Cert.Kernel5Ideal.S512x1024 .f32) (P1 : Vec Ideal Cert.Kernel5Ideal.S512x512 .bf16) (P2 : Vec Ideal Cert.Kernel5Ideal.S512x1024 .bf16)
    (P3 : Vec Ideal Cert.Kernel5Ideal.S512x256 .bf16) (P4 : Vec Ideal Cert.Kernel5Ideal.S256x1024 .bf16) (P5 : Vec Ideal Cert.Kernel5Ideal.S512x256 .bf16) (P6 : Vec Ideal Cert.Kernel5Ideal.S256x1024 .bf16)
    (P7 : Vec Ideal Cert.Kernel5Ideal.S1x1024 .f32) (z : Cert.Kernel5Ideal.S512x1024.Idx) :
    Cert.Kernel5Ideal.Gen.k0_pay2 (F := Ideal) P0 P1 P2 P3 P4 P5 P6 P7 z = Cert.Kernel5Ideal.Value.E7 (F := Ideal) P0 P1 P2 P3 P4 P5 P6 P7 z := by
  have hz : r0_0.idx z = z := by
    funext b
    refine Fin.ext ?_
    match b with
    | ⟨0, _⟩ => show 0 + 1 * (z 0).val = (z 0).val; omega
    | ⟨1, _⟩ => show 0 + 1 * (z 1).val = (z 1).val; omega
  exact (Cert.Kernel5Ideal.Value.piece7_0 P0 P1 P2 P3 P4 P5 P6 P7 z).trans (congrArg _ hz)

/-! ## Two blocks, from what they are made of -/

section
variable (X : FVec Ideal S512x1024 .f32) (A : FVec Ideal S512x512 .bf16) (V R : FVec Ideal S512x256 .bf16)
  (W : FVec Ideal S1024x1024 .bf16) (G : FVec Ideal S1x1024 .f32)

/-- The stream's block, -/
abbrev first : FVec Ideal S512x1024 .f32 :=
  k0_pay2 (View.ld X r0_0) (View.ld A r0_1) (View.ld W r0_2) (View.ld V r0_3) (View.ld W r0_4) (View.ld R r0_3) (View.ld W r0_5)

/-- and its norm's. -/
abbrev second : FVec Ideal S512x1024 .f32 :=
  k0_pay3 (View.ld X r0_0) (View.ld A r0_1) (View.ld W r0_2) (View.ld V r0_3) (View.ld W r0_4) (View.ld R r0_3) (View.ld W r0_5)
    (View.ld G r0_6)

/-- The dense layer's norm of the same block, -/
abbrev rounded : FVec Ideal S512x1024 .bf16 :=
  Cert.Kernel5Ideal.Gen.k0_pay2 (F := Ideal) (View.ld X r0_0) (View.ld A r0_1) (View.ld W r0_2) (View.ld V r0_3) (View.ld W r0_4)
    (View.ld R r0_3) (View.ld W r0_5) (View.ld G r0_6)

/-- which is this one's but for a rounding. -/
theorem second_eq : second X A V R W G = rounded X A V R W G := by
  unfold second rounded k0_pay3 Cert.Kernel5Ideal.Gen.k0_pay2
  rfl

variable (x : Rows) (a : Half) (v r : Quarter) (w : Weights) (g : Gain) (row : Fin 512 → Fin 32768)
  (hX : ∀ p q, X (ix2 p q) = x (ix2 (row p) q)) (hA : ∀ p k, A (ix2 p k) = a (ix2 (row p) k))
  (hV : ∀ p k, V (ix2 p k) = v (ix2 (row p) k)) (hR : ∀ p k, R (ix2 p k) = r (ix2 (row p) k))
  (hW : ∀ k q, W (ix2 k q) = w (ix2 k q)) (hG : ∀ q, G (ix2 (0 : Fin 1) q) = g (ix1 q))

include hX hA hV hR hW in
theorem first_apply (p : Fin 512) (q : Fin 1024) : first X A V R W (ix2 p q) = stream x a v r w (row p) q := by
  refine (pay1_apply _ _ _ _ _ _ _ p q).trans ?_
  refine congrArg₂ (· + ·) (congrArg₂ (· + ·) (congrArg₂ (· + ·) ?_ (Finset.sum_congr rfl fun k _ => congrArg₂ (· * ·) ?_ ?_))
    (Finset.sum_congr rfl fun k _ => congrArg₂ (· * ·) ?_ ?_)) (Finset.sum_congr rfl fun k _ => congrArg₂ (· * ·) ?_ ?_)
  · exact (ldX _ p q).trans (hX p q)
  · exact (ldH _ p k).trans (hA p k)
  · exact (ldA _ k q).trans (hW (rowA k) q)
  · exact (ldQ _ p k).trans (hV p k)
  · exact (ldC _ k q).trans (hW (rowC k) q)
  · exact (ldQ _ p k).trans (hR p k)
  · exact (ldR _ k q).trans (hW (rowR k) q)

include hX hA hV hR hW hG in
theorem second_apply (p : Fin 512) (q : Fin 1024) :
    second X A V R W G (ix2 p q) = normed x a v r w g (ix2 (row p) q) := by
  refine (congrFun (second_eq X A V R W G) (ix2 p q)).trans ?_
  refine (entry (View.ld X r0_0) (View.ld A r0_1) (View.ld W r0_2) (View.ld V r0_3) (View.ld W r0_4) (View.ld R r0_3)
    (View.ld W r0_5) (View.ld G r0_6) (ix2 p q)).trans ?_
  refine congrArg₂ (· * ·) (congrArg₂ (· * ·) ?_ (congrArg scale ?_)) ?_
  · refine Eq.trans (congrArg (first X A V R W) (funext fun b => ?_)) (first_apply X A V R W x a v r w row hX hA hV hR hW p q)
    match b with
    | ⟨0, _⟩ => rfl
    | ⟨1, _⟩ => rfl
  · refine Eq.trans (congrArg _ (funext fun b => ?_)) ((squares (first X A V R W) _ p).trans (Finset.sum_congr rfl fun k _ =>
      congrArg₂ (· * ·) (first_apply X A V R W x a v r w row hX hA hV hR hW p k) (first_apply X A V R W x a v r w row hX hA hV hR hW p k)))
    match b with
    | ⟨0, _⟩ => rfl
  · refine Eq.trans (congrArg _ (funext fun b => ?_)) ((ldG G 0 q).trans (hG q))
    match b with
    | ⟨0, _⟩ => rfl
    | ⟨1, _⟩ => rfl

end

/-! ## The blocks a point reads -/

variable (m : (ℓ : Loc nD τ sig) → Buf (Elt Ideal) ℓ) (c : Dev nD)

abbrev aX : Rows := m ((c : Thread nD τ).loc main_arg0)
abbrev aA : Half := m ((c : Thread nD τ).loc main_arg1)
abbrev aV : Quarter := m ((c : Thread nD τ).loc main_arg2)
abbrev aR : Quarter := m ((c : Thread nD τ).loc main_arg3)
abbrev aW : Weights := m ((c : Thread nD τ).loc main_arg4)
abbrev aG : Gain := m ((c : Thread nD τ).loc main_arg5)

/-- The weights as the pipeline finds them: no rounding is left of the cast. -/
theorem V_weights : (V m c main_v11 : S1024x1024.Idx → EReal) = aW m c := by
  show StableHlo.after (List.flatten [hostOps0 (F := Ideal), hostOps0_1, hostOps0_2, hostOps0_3, hostOps0_4, hostOps0_5, hostOps0_6]) _ (Proc.devRef .tc main_v11) = _
  simp only [List.flatten_cons, List.flatten_nil, List.append_nil, List.cons_append, List.nil_append]
  after_results
  rfl

/-- The gain as the pipeline finds it, a row. -/
theorem V_gain (i : S1x1024.Idx) : (V m c main_v12 : S1x1024.Idx → EReal) i = aG m c (ix1 (i 1)) := by
  have h : (V m c main_v12 : S1x1024.Idx → EReal) = shapeCast S1x1024 (aG m c) shapeCasts_S1024_S1x1024 := by
    show StableHlo.after (List.flatten [hostOps0 (F := Ideal), hostOps0_1, hostOps0_2, hostOps0_3, hostOps0_4, hostOps0_5, hostOps0_6]) _ (Proc.devRef .tc main_v12) = _
    simp only [List.flatten_cons, List.flatten_nil, List.append_nil, List.cons_append, List.nil_append]
    after_results
    rfl
  rw [h]
  refine (shapeCast_addUnit_apply ![1024] (aG m c) shapeCasts_S1024_S1x1024 i).trans (congrArg (aG m c) (funext fun a => ?_))
  match a with
  | ⟨0, _⟩ => rfl

theorem idx_rows : ∀ t : Fin cfg0.N, win0_0.index t = ![t.val, 0] ∧ win0_1.index t = ![t.val, 0] ∧ win0_2.index t = ![t.val, 0]
    ∧ win0_3.index t = ![t.val, 0] ∧ win0_9.index t = ![t.val, 0] ∧ win0_10.index t = ![t.val, 0] :=
  (by decide +kernel : ∀ t : Fin grid0.N, _)
theorem idx_whole : ∀ t : Fin cfg0.N, win0_4.index t = ![0, 0] ∧ win0_5.index t = ![0, 0] :=
  (by decide +kernel : ∀ t : Fin grid0.N, _)

variable (t : Fin cfg0.N)

theorem pt_lt : t.val < 64 := lt_of_lt_of_eq t.isLt N_0
def rowAt (p : Fin 512) : Fin 32768 := ⟨t.val * 512 + p.val, by have := pt_lt t; omega⟩

theorem blk0 (p : Fin 512) (q : Fin 1024) : iblk m c 0 t (ix2 p q) = aX m c (ix2 (rowAt t p) q) := by
  show V m c main_arg0 ((win0_0.rect t).emb (ix2 p q)) = _
  rw [V_main_arg0]
  refine congrArg (aX m c) (funext fun a => Fin.ext ?_)
  refine (Window.rect_emb_val win0_0 t (ix2 p q) a).trans ?_
  rw [(idx_rows t).1]
  match a with
  | ⟨0, _⟩ => rfl
  | ⟨1, _⟩ => show 0 * 1024 + q.val = q.val; omega

theorem blk1 (p : Fin 512) (k : Fin 512) : iblk m c 1 t (ix2 p k) = aA m c (ix2 (rowAt t p) k) := by
  show V m c main_arg1 ((win0_1.rect t).emb (ix2 p k)) = _
  rw [V_main_arg1]
  refine congrArg (aA m c) (funext fun a => Fin.ext ?_)
  refine (Window.rect_emb_val win0_1 t (ix2 p k) a).trans ?_
  rw [(idx_rows t).2.1]
  match a with
  | ⟨0, _⟩ => rfl
  | ⟨1, _⟩ => show 0 * 512 + k.val = k.val; omega

theorem blk2 (p : Fin 512) (k : Fin 256) : iblk m c 2 t (ix2 p k) = aV m c (ix2 (rowAt t p) k) := by
  show V m c main_arg2 ((win0_2.rect t).emb (ix2 p k)) = _
  rw [V_main_arg2]
  refine congrArg (aV m c) (funext fun a => Fin.ext ?_)
  refine (Window.rect_emb_val win0_2 t (ix2 p k) a).trans ?_
  rw [(idx_rows t).2.2.1]
  match a with
  | ⟨0, _⟩ => rfl
  | ⟨1, _⟩ => show 0 * 256 + k.val = k.val; omega

theorem blk3 (p : Fin 512) (k : Fin 256) : iblk m c 3 t (ix2 p k) = aR m c (ix2 (rowAt t p) k) := by
  show V m c main_arg3 ((win0_3.rect t).emb (ix2 p k)) = _
  rw [V_main_arg3]
  refine congrArg (aR m c) (funext fun a => Fin.ext ?_)
  refine (Window.rect_emb_val win0_3 t (ix2 p k) a).trans ?_
  rw [(idx_rows t).2.2.2.1]
  match a with
  | ⟨0, _⟩ => rfl
  | ⟨1, _⟩ => show 0 * 256 + k.val = k.val; omega

theorem blk4 (k q : Fin 1024) : iblk m c 4 t (ix2 k q) = aW m c (ix2 k q) := by
  show (V m c main_v11 : S1024x1024.Idx → EReal) ((win0_4.rect t).emb (ix2 k q)) = _
  rw [V_weights]
  refine congrArg (aW m c) (funext fun a => Fin.ext ?_)
  refine (Window.rect_emb_val win0_4 t (ix2 k q) a).trans ?_
  rw [(idx_whole t).1]
  match a with
  | ⟨0, _⟩ => show 0 * 1024 + k.val = k.val; omega
  | ⟨1, _⟩ => show 0 * 1024 + q.val = q.val; omega

theorem blk5 (q : Fin 1024) : iblk m c 5 t (ix2 (0 : Fin 1) q) = aG m c (ix1 q) := by
  show (V m c main_v12 : S1x1024.Idx → EReal) ((win0_5.rect t).emb (ix2 (0 : Fin 1) q)) = _
  rw [V_gain]
  refine congrArg (fun k => aG m c (ix1 k)) (Fin.ext ?_)
  refine (Window.rect_emb_val win0_5 t (ix2 (0 : Fin 1) q) 1).trans ?_
  rw [(idx_whole t).2]
  show 0 * 1024 + q.val = q.val; omega

/-! ## The blocks a point writes -/

theorem zero2 : (![0, 0] : Fin 2 → ℕ) = fun _ => 0 := by
  funext b
  match b with
  | ⟨0, _⟩ => rfl
  | ⟨1, _⟩ => rfl

/-- At the first point, which clears the counts, and at any other, which does not: the same block of the stream, -/
theorem out9_eq : (outsAt0 m c t.val t.isLt).1 = first (iblk m c 0 t) (iblk m c 1 t) (iblk m c 2 t) (iblk m c 3 t) (iblk m c 4 t) := by
  by_cases h0 : t.val % 64 = 0
  · rw [outsAt0_A m c t h0]
    dsimp only
    unfold out0_A_9
    rw [View.read_writes_junk_eq_canon]
    unfold kernelRun0_A
    dsimp only
    try sl_unfold_words
    rw [View.canon_unit_zero zero2]
    simp only [View.readAt_eq_ld, (hs0_0 t).read_unread, (hs0_1 t).read_unread, (hs0_2 t).read_unread, (hs0_3 t).read_unread, (hs0_4 t).read_unread]
  · rw [outsAt0_B m c t h0]
    dsimp only
    unfold out0_B_9
    rw [View.read_writes_junk_eq_canon]
    unfold kernelRun0_B
    dsimp only
    try sl_unfold_words
    rw [View.canon_unit_zero zero2]
    simp only [View.readAt_eq_ld, (hs0_0 t).read_unread, (hs0_1 t).read_unread, (hs0_2 t).read_unread, (hs0_3 t).read_unread, (hs0_4 t).read_unread]

/-- and of its norm. -/
theorem out10_eq : (outsAt0 m c t.val t.isLt).2.1 = second (iblk m c 0 t) (iblk m c 1 t) (iblk m c 2 t) (iblk m c 3 t) (iblk m c 4 t) (iblk m c 5 t) := by
  by_cases h0 : t.val % 64 = 0
  · rw [outsAt0_A m c t h0]
    dsimp only
    unfold out0_A_10
    rw [View.read_writes_junk_eq_canon]
    unfold kernelRun0_A
    dsimp only
    try sl_unfold_words
    rw [View.canon_unit_zero zero2]
    simp only [View.readAt_eq_ld, (hs0_0 t).read_unread, (hs0_1 t).read_unread, (hs0_2 t).read_unread, (hs0_3 t).read_unread, (hs0_4 t).read_unread, (hs0_5 t).read_unread]
  · rw [outsAt0_B m c t h0]
    dsimp only
    unfold out0_B_10
    rw [View.read_writes_junk_eq_canon]
    unfold kernelRun0_B
    dsimp only
    try sl_unfold_words
    rw [View.canon_unit_zero zero2]
    simp only [View.readAt_eq_ld, (hs0_0 t).read_unread, (hs0_1 t).read_unread, (hs0_2 t).read_unread, (hs0_3 t).read_unread, (hs0_4 t).read_unread, (hs0_5 t).read_unread]

/-! ## The results -/

theorem emb9 (z : S512x1024.Idx) : (win0_9.rect t).emb z = ix2 (rowAt t (z 0)) (z 1) := by
  refine funext fun a => Fin.ext ?_
  refine (Window.rect_emb_val win0_9 t z a).trans ?_
  rw [(idx_rows t).2.2.2.2.1]
  match a with
  | ⟨0, _⟩ => rfl
  | ⟨1, _⟩ => show 0 * 1024 + (z 1).val = (z 1).val; omega

theorem emb10 (z : S512x1024.Idx) : (win0_10.rect t).emb z = ix2 (rowAt t (z 0)) (z 1) := by
  refine funext fun a => Fin.ext ?_
  refine (Window.rect_emb_val win0_10 t z a).trans ?_
  rw [(idx_rows t).2.2.2.2.2]
  match a with
  | ⟨0, _⟩ => rfl
  | ⟨1, _⟩ => show 0 * 1024 + (z 1).val = (z 1).val; omega

theorem flush910 : ∀ t : Fin cfg0.N, win0_9.flush t = true ∧ win0_10.flush t = true :=
  (by decide +kernel : ∀ t : Fin grid0.N, _)

theorem mem9 (z : S512x1024.Idx) (i : S32768x1024.Idx) (h : (win0_9.rect t).emb z = i) : i ∈ ((cfg0.win 9).blk t).view.set := by
  subst h
  exact View.emb_mem_set ((cfg0.win 9).blk t).view z

theorem mem10 (z : S512x1024.Idx) (i : S32768x1024.Idx) (h : (win0_10.rect t).emb z = i) : i ∈ ((cfg0.win 10).blk t).view.set := by
  subst h
  exact View.emb_mem_set ((cfg0.win 10).blk t).view z

/-- An index of a result array, as a row of a block of rows. -/
theorem place (i : S32768x1024.Idx) (h : (i 0).val / 512 < cfg0.N) :
    ix2 (rowAt ⟨(i 0).val / 512, h⟩ (⟨(i 0).val % 512, Nat.mod_lt _ (by omega)⟩ : Fin 512)) (i 1) = i := by
  refine funext fun a => Fin.ext ?_
  match a with
  | ⟨0, _⟩ => show (i 0).val / 512 * 512 + (i 0).val % 512 = (i 0).val; omega
  | ⟨1, _⟩ => rfl

theorem pt_of (i : S32768x1024.Idx) : (i 0).val / 512 < cfg0.N := by
  have h0 : (i 0).val < 32768 := (i 0).isLt
  rw [show cfg0.N = 64 from N_0]; omega

theorem cover9 (i : S32768x1024.Idx) : ∃ t : Fin cfg0.N, (cfg0.win 9).flush t = true ∧ i ∈ ((cfg0.win 9).blk t).view.set :=
  ⟨⟨(i 0).val / 512, pt_of i⟩, (flush910 _).1,
    mem9 _ (ix2 (⟨(i 0).val % 512, Nat.mod_lt _ (by omega)⟩ : Fin 512) (i 1)) i ((emb9 _ _).trans (place i (pt_of i)))⟩

theorem cover10 (i : S32768x1024.Idx) : ∃ t : Fin cfg0.N, (cfg0.win 10).flush t = true ∧ i ∈ ((cfg0.win 10).blk t).view.set :=
  ⟨⟨(i 0).val / 512, pt_of i⟩, (flush910 _).2,
    mem10 _ (ix2 (⟨(i 0).val % 512, Nat.mod_lt _ (by omega)⟩ : Fin 512) (i 1)) i ((emb10 _ _).trans (place i (pt_of i)))⟩

/-- What a point leaves in its two blocks, entry by entry. -/
theorem first_at (z : S512x1024.Idx) : first (iblk m c 0 t) (iblk m c 1 t) (iblk m c 2 t) (iblk m c 3 t) (iblk m c 4 t) z
    = mixed (aX m c) (aA m c) (aV m c) (aR m c) (aW m c) ((win0_9.rect t).emb z) := by
  obtain ⟨p, q, rfl⟩ : ∃ (p : Fin 512) (q : Fin 1024), z = ix2 p q :=
    ⟨z 0, z 1, by funext a; match a with | ⟨0, _⟩ => rfl | ⟨1, _⟩ => rfl⟩
  exact (first_apply _ _ _ _ _ _ _ _ _ _ (rowAt t) (blk0 m c t) (blk1 m c t) (blk2 m c t) (blk3 m c t) (blk4 m c t) p q).trans
    (congrArg (mixed (aX m c) (aA m c) (aV m c) (aR m c) (aW m c)) (emb9 t (ix2 p q)).symm)

theorem second_at (z : S512x1024.Idx) : second (iblk m c 0 t) (iblk m c 1 t) (iblk m c 2 t) (iblk m c 3 t) (iblk m c 4 t) (iblk m c 5 t) z
    = normed (aX m c) (aA m c) (aV m c) (aR m c) (aW m c) (aG m c) ((win0_10.rect t).emb z) := by
  obtain ⟨p, q, rfl⟩ : ∃ (p : Fin 512) (q : Fin 1024), z = ix2 p q :=
    ⟨z 0, z 1, by funext a; match a with | ⟨0, _⟩ => rfl | ⟨1, _⟩ => rfl⟩
  exact (second_apply _ _ _ _ _ _ _ _ _ _ _ _ (rowAt t) (blk0 m c t) (blk1 m c t) (blk2 m c t) (blk3 m c t) (blk4 m c t) (blk5 m c t) p q).trans
    (congrArg (normed (aX m c) (aA m c) (aV m c) (aR m c) (aW m c) (aG m c)) (emb10 t (ix2 p q)).symm)

/-- The first result array ends holding the stream after the mixers, -/
theorem mixed_eq : (dats m 0 c).arrAt 9 cfg0.N = mixed (aX m c) (aA m c) (aV m c) (aR m c) (aW m c) :=
  (dats m 0 c).arrAt_eq_of_emb 9 (mixed (aX m c) (aA m c) (aV m c) (aR m c) (aW m c))
    (fun t _ z => (congrFun ((after0_9 m c t).trans (out9_eq m c t)) z).trans (first_at m c t z)) cover9

/-- the second its norm. -/
theorem normed_eq : (dats m 0 c).arrAt 10 cfg0.N = normed (aX m c) (aA m c) (aV m c) (aR m c) (aW m c) (aG m c) :=
  (dats m 0 c).arrAt_eq_of_emb 10 (normed (aX m c) (aA m c) (aV m c) (aR m c) (aW m c) (aG m c))
    (fun t _ z => (congrFun ((after0_10 m c t).trans (out10_eq m c t)) z).trans (second_at m c t z)) cover10

end Cert.Kernel6Ideal.Routed

end
-- ==== Proof.Combine.Rows.lean ====
/-
  The rows of the experts' products and the rows of the two buffers of the combine kernel as sets of elements; what a
  copy of one row writes, element by element.
-/
module

public import proofs.«01_k».proof.Proof.Gen.Kernel4Ideal.Skeleton
public import proofs.«01_k».proof.Proof.Gen.Kernel4Ideal.Launch
public import Idealize.ShloMosaic.Lib.ValueLayout
public import Idealize.ShloMosaic.Lib.Ring
public import Idealize.ShloMosaic.Lib.Batch

@[expose] public section

noncomputable section

namespace Cert.Kernel4Ideal.Combine

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.Sem Idealize.SL.ProofMode
open Idealize.ShloMosaic.ValueIdx

variable {F : FTy → Type} [FloatOps F]

local notation "𝕄" => MT nD τ sig Unit (Elt F) ℕ (Pipeline.UD sig nD τ) ℕ

/-- Row `r` of the experts' products; row `r` of plane `p` of a buffer of two planes. -/
def rowSet (r : ℕ) : Finset S73728x1024.Idx := Finset.univ.filter fun y => (y 0).val = r
def stSet (p r : ℕ) : Finset S2x512x1024.Idx := Finset.univ.filter fun y => (y 0).val = p ∧ (y 1).val = r

theorem mem_rowSet {r : ℕ} {y : S73728x1024.Idx} : y ∈ rowSet r ↔ (y 0).val = r := by simp [rowSet]
theorem mem_stSet {p r : ℕ} {y : S2x512x1024.Idx} : y ∈ stSet p r ↔ (y 0).val = p ∧ (y 1).val = r := by simp [stSet]

abbrev YRow (off : Fin 2 → ℕ) (h : ∀ a, off a + S1x1024.size a ≤ S73728x1024.size a) : Memref sig .tc .hbm S1x1024 .f32 :=
  (Memref.whole main_arg2).slice (Rect.unit (s := S73728x1024) off S1x1024.size h) (fun _ => rfl)
abbrev ARow (off : Fin 3 → ℕ) (h : ∀ a, off a + S1x1x1024.size a ≤ S2x512x1024.size a) : Memref sig .tc .vmem S1x1024 .f32 :=
  ((Memref.whole cc0_scratch0).slice (Rect.unit (s := S2x512x1024) off S1x1x1024.size h) (fun _ => rfl)).squeeze S1x1024 squeezes_S1x1x1024_S1x1024
abbrev BRow (off : Fin 3 → ℕ) (h : ∀ a, off a + S1x1x1024.size a ≤ S2x512x1024.size a) : Memref sig .tc .vmem S1x1024 .f32 :=
  ((Memref.whole cc0_scratch1).slice (Rect.unit (s := S2x512x1024) off S1x1x1024.size h) (fun _ => rfl)).squeeze S1x1024 squeezes_S1x1x1024_S1x1024

theorem YRow_set (r : ℕ) (h : ∀ a, (![r, 0] : Fin 2 → ℕ) a + S1x1024.size a ≤ S73728x1024.size a) :
    (YRow ![r, 0] h).view.set = rowSet r := by
  refine (View.set_slice_whole _ _).trans ?_
  ext y
  have h1 : (y 1).val < 1024 := (y 1).isLt
  refine (Rect.mem_set_unit).trans (Iff.trans ?_ mem_rowSet.symm)
  constructor
  · intro H; have a0 : r ≤ (y 0).val ∧ (y 0).val < r + 1 := H 0; omega
  · intro H a; fin_cases a
    · show r ≤ (y 0).val ∧ (y 0).val < r + 1; omega
    · show 0 ≤ (y 1).val ∧ (y 1).val < 0 + 1024; omega

theorem st_rect (p r : ℕ) (h : ∀ a, (![p, r, 0] : Fin 3 → ℕ) a + S1x1x1024.size a ≤ S2x512x1024.size a) :
    (Rect.unit (s := S2x512x1024) ![p, r, 0] S1x1x1024.size h).set = stSet p r := by
  ext y
  have h1 : (y 2).val < 1024 := (y 2).isLt
  refine (Rect.mem_set_unit).trans (Iff.trans ?_ mem_stSet.symm)
  constructor
  · intro H
    have a0 : p ≤ (y 0).val ∧ (y 0).val < p + 1 := H 0
    have a1 : r ≤ (y 1).val ∧ (y 1).val < r + 1 := H 1
    omega
  · intro H a; fin_cases a
    · show p ≤ (y 0).val ∧ (y 0).val < p + 1; omega
    · show r ≤ (y 1).val ∧ (y 1).val < r + 1; omega
    · show 0 ≤ (y 2).val ∧ (y 2).val < 0 + 1024; omega

theorem ARow_set (p r : ℕ) (h : ∀ a, (![p, r, 0] : Fin 3 → ℕ) a + S1x1x1024.size a ≤ S2x512x1024.size a) :
    (ARow ![p, r, 0] h).view.set = stSet p r :=
  (View.set_reshape _ _).trans ((View.set_slice_whole _ _).trans (st_rect p r h))
theorem BRow_set (p r : ℕ) (h : ∀ a, (![p, r, 0] : Fin 3 → ℕ) a + S1x1x1024.size a ≤ S2x512x1024.size a) :
    (BRow ![p, r, 0] h).view.set = stSet p r :=
  (View.set_reshape _ _).trans ((View.set_slice_whole _ _).trans (st_rect p r h))

/-- Row `ρ` of the products copied onto row `r` of plane `p` of a buffer. -/
theorem gather_writeA (p r ρ : ℕ) (hd : ∀ a, (![p, r, 0] : Fin 3 → ℕ) a + S1x1x1024.size a ≤ S2x512x1024.size a)
    (hs : ∀ a, (![ρ, 0] : Fin 2 → ℕ) a + S1x1024.size a ≤ S73728x1024.size a)
    (fd : S2x512x1024.Idx → Elt F .f32) (fs : S73728x1024.Idx → Elt F .f32) (g : S2x512x1024.Idx → Elt F .f32)
    (hg : ∀ (z : S2x512x1024.Idx) (w : S73728x1024.Idx), (z 0).val = p → (z 1).val = r → (w 0).val = ρ → (w 1).val = (z 2).val → fs w = g z)
    (y : S2x512x1024.Idx) (hy : y ∈ stSet p r) :
    (ARow ![p, r, 0] hd).view.write (Elt F) fd (ReadAs.same.apply ((YRow ![ρ, 0] hs).view.read (Elt F) fs)) Finset.univ y = g y := by
  rw [← ARow_set p r hd] at hy
  obtain ⟨x, -, rfl⟩ := Finset.mem_map.mp hy
  refine (View.write_emb_of_mem _ _ (Finset.mem_univ x)).trans ?_
  obtain ⟨a, b, rfl⟩ : ∃ (a : Fin 1) (b : Fin 1024), x = ix2 a b := ⟨x 0, x 1, (eq_ix2 x)⟩
  show fs ((YRow ![ρ, 0] hs).view.emb (ix2 a b)) = _
  have e0 : (ARow ![p, r, 0] hd).view.emb (ix2 a b)
      = (Rect.unit (s := S2x512x1024) ![p, r, 0] S1x1x1024.size hd).emb (ix3 (0 : Fin 1) a b) :=
    congrArg (Rect.unit (s := S2x512x1024) ![p, r, 0] S1x1x1024.size hd).emb (reshapeEquiv_ix2_1ab _ a b)
  have ha : a.val = 0 := by omega
  refine (hg _ _ ?_ ?_ ?_ ?_).trans (congrArg g e0.symm)
  · show p + 1 * 0 = p; omega
  · show r + 1 * a.val = r; omega
  · show ρ + 1 * a.val = ρ; omega
  · show 0 + 1 * b.val = 0 + 1 * b.val; rfl
theorem gather_writeB (p r ρ : ℕ) (hd : ∀ a, (![p, r, 0] : Fin 3 → ℕ) a + S1x1x1024.size a ≤ S2x512x1024.size a)
    (hs : ∀ a, (![ρ, 0] : Fin 2 → ℕ) a + S1x1024.size a ≤ S73728x1024.size a)
    (fd : S2x512x1024.Idx → Elt F .f32) (fs : S73728x1024.Idx → Elt F .f32) (g : S2x512x1024.Idx → Elt F .f32)
    (hg : ∀ (z : S2x512x1024.Idx) (w : S73728x1024.Idx), (z 0).val = p → (z 1).val = r → (w 0).val = ρ → (w 1).val = (z 2).val → fs w = g z)
    (y : S2x512x1024.Idx) (hy : y ∈ stSet p r) :
    (BRow ![p, r, 0] hd).view.write (Elt F) fd (ReadAs.same.apply ((YRow ![ρ, 0] hs).view.read (Elt F) fs)) Finset.univ y = g y := by
  rw [← BRow_set p r hd] at hy
  obtain ⟨x, -, rfl⟩ := Finset.mem_map.mp hy
  refine (View.write_emb_of_mem _ _ (Finset.mem_univ x)).trans ?_
  obtain ⟨a, b, rfl⟩ : ∃ (a : Fin 1) (b : Fin 1024), x = ix2 a b := ⟨x 0, x 1, (eq_ix2 x)⟩
  show fs ((YRow ![ρ, 0] hs).view.emb (ix2 a b)) = _
  have e0 : (BRow ![p, r, 0] hd).view.emb (ix2 a b)
      = (Rect.unit (s := S2x512x1024) ![p, r, 0] S1x1x1024.size hd).emb (ix3 (0 : Fin 1) a b) :=
    congrArg (Rect.unit (s := S2x512x1024) ![p, r, 0] S1x1x1024.size hd).emb (reshapeEquiv_ix2_1ab _ a b)
  have ha : a.val = 0 := by omega
  refine (hg _ _ ?_ ?_ ?_ ?_).trans (congrArg g e0.symm)
  · show p + 1 * 0 = p; omega
  · show r + 1 * a.val = r; omega
  · show ρ + 1 * a.val = ρ; omega
  · show 0 + 1 * b.val = 0 + 1 * b.val; rfl

end Cert.Kernel4Ideal.Combine

end
-- ==== Proof.Combine.Steps.lean ====
/-
  The steps of the combine kernel's loops: the read of a row's number, the issue of the copy of that row, the waits for
  one row each.
-/
module

public import proofs.«01_k».proof.Proof.Combine.Rows
public import Idealize.SL.BI.BigOpNat

@[expose] public section

noncomputable section

namespace Cert.Kernel4Ideal.Combine

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.Sem Idealize.SL.ProofMode
open Idealize.ShloMosaic.ValueIdx

variable {F : FTy → Type} [FloatOps F]

local notation "𝕄" => MT nD τ sig Unit (Elt F) ℕ (Pipeline.UD sig nD τ) ℕ

/-- The credit of one row's copy. -/
def rowCredit : ℕ := (YRow ![0, 0] inb_S73728x1024_S1x1024_0_0).view.dmaCredit

theorem rowCredit_pos : 0 < rowCredit := by unfold rowCredit; decide

/-- Elements of the products, of the two buffers, at their contents. -/
abbrev yAt (c : Dev nD) (S : Finset S73728x1024.Idx) (q : PosShare TreeShare) (f : S73728x1024.Idx → Elt F .f32) : sProp 𝕄 :=
  ((c : Thread nD τ).loc main_arg2) ↦[S]{q} f
abbrev aAt (c : Dev nD) (S : Finset S2x512x1024.Idx) (f : S2x512x1024.Idx → Elt F .f32) : sProp 𝕄 :=
  ((c : Thread nD τ).loc cc0_scratch0) ↦[S]{fullShare} f
abbrev bAt (c : Dev nD) (S : Finset S2x512x1024.Idx) (f : S2x512x1024.Idx → Elt F .f32) : sProp 𝕄 :=
  ((c : Thread nD τ).loc cc0_scratch1) ↦[S]{fullShare} f

/-- The buffer of the even steps, of the odd steps. -/
def bufAt (s : ℕ) (c : Dev nD) (S : Finset S2x512x1024.Idx) (f : S2x512x1024.Idx → Elt F .f32) : sProp 𝕄 :=
  if s % 2 = 0 then aAt c S f else bAt c S f

theorem bufAt_even {s : ℕ} (h : s % 2 = 0) (c : Dev nD) (S : Finset S2x512x1024.Idx) (f : S2x512x1024.Idx → Elt F .f32) :
    bufAt s c S f = aAt c S f := if_pos h
theorem bufAt_odd {s : ℕ} (h : s % 2 = 1) (c : Dev nD) (S : Finset S2x512x1024.Idx) (f : S2x512x1024.Idx → Elt F .f32) :
    bufAt s c S f = bAt c S f := if_neg (by omega)

/-- A batch of `n` copies of a row on cell `sm`. -/
abbrev batch (c : Dev nD) (sm : DmaSem sig) {n : ℕ} (D : Fin n → sProp 𝕄) (j u : ℕ) : sProp 𝕄 :=
  Transfers.Batch (countersEmb (U := Pipeline.UD sig nD τ)) (c : Thread nD τ) (.dma sm) () rowCredit D j u

/-- What a run of the kernel is about: the two tables of rows, the products, the shares the tables are held at. -/
structure Data (F : FTy → Type) where
  f1 : S32768.Idx → Elt F .i32
  f2 : S32768.Idx → Elt F .i32
  y : S73728x1024.Idx → Elt F .f32
  q1 : PosShare TreeShare
  q2 : PosShare TreeShare

/-- Token `t`'s row by one of the tables. -/
def rowOf (f : S32768.Idx → Elt F .i32) (t : ℕ) : ℕ :=
  BitVec.toNat (f (ix1 (⟨t % 32768, Nat.mod_lt _ (by decide)⟩ : Fin 32768)) : BitVec 32)

namespace Data

variable (d : Data F)

/-- The row of copy `n`: copies `2t` and `2t + 1` are token `t`'s. -/
def row (n : ℕ) : ℕ := if n % 2 = 0 then rowOf d.f1 (n / 2) else rowOf d.f2 (n / 2)

/-- What the precondition says of the tables. -/
def OK : Prop := ∀ n, n < 65536 → d.row n < 73728

theorem row_even (n : ℕ) : d.row (2 * n) = rowOf d.f1 n := by
  unfold row; rw [if_pos (by omega), show 2 * n / 2 = n by omega]
theorem row_odd (n : ℕ) : d.row (2 * n + 1) = rowOf d.f2 n := by
  unfold row; rw [if_neg (by omega), show (2 * n + 1) / 2 = n by omega]

/-- A buffer with step `k`'s rows: plane `p` holds at row `r` the row of copy `2r + p` of the step. -/
def got (k : ℕ) : S2x512x1024.Idx → Elt F .f32 := fun z =>
  d.y (ix2 (⟨d.row (1024 * k + (2 * (z 1).val + (z 0).val)) % 73728, Nat.mod_lt _ (by decide)⟩ : Fin 73728) (z 2 : Fin 1024))

end Data

/-- The half of the products' share the even steps, the odd steps read by. -/
def halfOf (s : ℕ) : PosShare TreeShare := if s % 2 = 0 then PosShare.left fullShare else PosShare.right fullShare

variable (c : Dev nD) (d : Data F)

/-- Copy `j` of step `k`: its share of its row of the products, its row of the buffer at `f`. -/
def copy (f : S2x512x1024.Idx → Elt F .f32) (k j : ℕ) : sProp 𝕄 :=
  iprop(yAt c (rowSet (d.row (1024 * k + j))) (Transfers.shareTokN (halfOf k) j) d.y ∗ bufAt k c (stSet (j % 2) (j / 2)) f)

/-- What step `k`'s copies deliver. -/
def issued (k : ℕ) : Fin 1024 → sProp 𝕄 := fun j => copy c d (d.got k) k j.val

instance bufAt_storable (s : ℕ) (S : Finset S2x512x1024.Idx) (f : S2x512x1024.Idx → Elt F .f32) :
    Storable (upEmb : UEmb _ 𝕄) (bufAt s c S f) := by
  unfold bufAt; split <;> infer_instance

instance issued_storable (k : ℕ) (j : Fin 1024) : Storable (upEmb : UEmb _ 𝕄) (issued c d k j) := by
  unfold issued copy; infer_instance

/-- The cell a step's copies signal. -/
def cell (k : ℕ) : DmaSem sig := ⟨6 + k % 2, by show 6 + k % 2 < 8; omega⟩

abbrev tab1 : sProp 𝕄 := ((c : Thread nD τ).loc main_arg0) ↦{d.q1} d.f1
abbrev tab2 : sProp 𝕄 := ((c : Thread nD τ).loc main_arg1) ↦{d.q2} d.f2

/-- Step `k` with its first `j` copies issued. -/
def Issuing (f : S2x512x1024.Idx → Elt F .f32) (k j : ℕ) : sProp 𝕄 :=
  iprop(tab1 c d ∗ tab2 c d ∗ batch c (cell k) (issued c d k) j 0 ∗ bigSep (Finset.Ico j 1024) (copy c d f k))

local notation "WP" => wp frame (wpE (defs₀ (F := F)) Variants.none c none) Set.univ

/-- The read of a row's number from a table, found inside. -/
theorem read_row {tab : Memref sig .tc .smem S32768 .i32} {qt : PosShare TreeShare} {ft : Buf (Elt F) (tab.view.loc (c : Thread nD τ))}
    {offA : Fin 1 → ℕ} {hA : ∀ a, offA a + S1.size a ≤ S32768.size a} {hn : (Rect.unit (s := S32768) offA S1.size hA).shape.numel = 1} {hl : EltTy.i32.packing = 1}
    {chk : BitVec 32 → Prop} {dec : ∀ v, Decidable (chk v)}
    {α : Type} {kk : ∀ v : Elt F .i32, PLift (chk v) → Prog (TpuEff nD τ sig (Elt F) Λ₀ .tc) α} {Q : α → sProp 𝕄} {ρ : ℕ}
    (hchk : ∀ v : BitVec 32, v.toNat = ρ → chk v)
    (hread : ((tab.access (Rect.unit (s := S32768) offA S1.size hA)).read (Elt F) ft (Shape.Idx.first (hn.symm ▸ Nat.one_pos)) : BitVec 32).toNat = ρ) :
    (tab.view.loc (c : Thread nD τ) ↦{qt} ft : sProp 𝕄)
      ⊢ iprop((∀ v : BitVec 32, ∀ hv : v.toNat = ρ, ∀ hw : chk v, (tab.view.loc (c : Thread nD τ) ↦{qt} ft) -∗ WP (kk v ⟨hw⟩) Q)
          -∗ WP (smemLoad tab (Rect.unit (s := S32768) offA S1.size hA) hn hl >>= fun v =>
              Prog.lift (TpuEff.assume (chk v) (dec v)) >>= fun h => kk v h) Q) := by
  have hp : (smemLoad tab (Rect.unit (s := S32768) offA S1.size hA) hn hl >>= fun v =>
        Prog.lift (TpuEff.assume (chk v) (dec v)) >>= fun h => kk v h
        : Prog (TpuEff nD τ sig (Elt F) Λ₀ .tc) α)
      = smemLoadElt tab (Rect.unit (s := S32768) offA S1.size hA) (View.loads_smem_one hl hn) (Shape.Idx.first (hn.symm ▸ Nat.one_pos)) fun v =>
        .op (.assume (chk v) (dec v)) fun h => kk v h := rfl
  rw [hp]
  iintro HT Hk
  iapply (wp_smemLoadElt Variants.none (c : Thread nD τ) none Set.univ (m := tab) (r := Rect.unit (s := S32768) offA S1.size hA) (q := qt) (f := ft) (Finset.subset_univ _)) $$ HT
  iintro HT
  iapply (wp_assume Variants.none (c : Thread nD τ) none Set.univ (hchk _ hread))
  ispecialize Hk $$ %_
  ispecialize Hk $$ %hread
  ispecialize Hk $$ %(hchk _ hread)
  iapply Hk
  iexact HT

/-- The word a table's read gives. -/
theorem tok_read1 {off : Fin 1 → ℕ} {h : ∀ a, off a + S1.size a ≤ S32768.size a} (t : ℕ) (ht : t < 32768) (e : off = ![t])
    (ft : S32768.Idx → Elt F .i32) (i : S1.Idx) :
    BitVec.toNat (((Memref.whole main_arg0).access (Rect.unit (s := S32768) off S1.size h)).read (Elt F) ft i : BitVec 32) = rowOf ft t := by
  subst e
  show BitVec.toNat (ft _ : BitVec 32) = BitVec.toNat (ft _ : BitVec 32)
  refine congrArg (fun x => BitVec.toNat (ft x : BitVec 32)) ?_
  funext a; apply Fin.ext
  match a with
  | ⟨0, _⟩ =>
    have hi : (i 0).val < 1 := (i 0).isLt
    show t + 1 * (i 0).val = t % 32768
    omega
theorem tok_read2 {off : Fin 1 → ℕ} {h : ∀ a, off a + S1.size a ≤ S32768.size a} (t : ℕ) (ht : t < 32768) (e : off = ![t])
    (ft : S32768.Idx → Elt F .i32) (i : S1.Idx) :
    BitVec.toNat (((Memref.whole main_arg1).access (Rect.unit (s := S32768) off S1.size h)).read (Elt F) ft i : BitVec 32) = rowOf ft t := by
  subst e
  show BitVec.toNat (ft _ : BitVec 32) = BitVec.toNat (ft _ : BitVec 32)
  refine congrArg (fun x => BitVec.toNat (ft x : BitVec 32)) ?_
  funext a; apply Fin.ext
  match a with
  | ⟨0, _⟩ =>
    have hi : (i 0).val < 1 := (i 0).isLt
    show t + 1 * (i 0).val = t % 32768
    omega

theorem row_inside {v : BitVec 32} {ρ : ℕ} (hv : v.toNat = ρ) (hρ : ρ < 73728) : ∀ a, (![v.toNat, 0] : Fin 2 → ℕ) a + S1x1024.size a ≤ S73728x1024.size a := by
  subst hv
  intro a
  match a with
  | ⟨0, _⟩ => show v.toNat + 1 ≤ 73728; omega
  | ⟨1, _⟩ => show 0 + 1024 ≤ 1024; omega

/-- The read of the row of an even copy, of an odd one. -/
theorem read1 {d : Data F} (hd : d.OK) {f : S2x512x1024.Idx → Elt F .f32}
    {offA : Fin 1 → ℕ} {hA : ∀ a, offA a + S1.size a ≤ S32768.size a} {hn : (Rect.unit (s := S32768) offA S1.size hA).shape.numel = 1} {hl : EltTy.i32.packing = 1}
    {chk : BitVec 32 → Prop} {dec : ∀ v, Decidable (chk v)}
    {α : Type} {kk : ∀ v : Elt F .i32, PLift (chk v) → Prog (TpuEff nD τ sig (Elt F) Λ₀ .tc) α} {Q : α → sProp 𝕄} {k j r : ℕ}
    (eA : offA = ![512 * k + r])
    (hchk : ∀ v : BitVec 32, (∀ a, (![v.toNat, 0] : Fin 2 → ℕ) a + S1x1024.size a ≤ S73728x1024.size a) → chk v)
    (hk : k < 64) (hr : r < 512) (hj : j = 2 * r) :
    Issuing c d f k j
      ⊢ iprop((∀ v : BitVec 32, ∀ hv : v.toNat = d.row (1024 * k + j), ∀ hw : chk v, Issuing c d f k j -∗ WP (kk v ⟨hw⟩) Q)
          -∗ WP (smemLoad (Memref.whole main_arg0) (Rect.unit (s := S32768) offA S1.size hA) hn hl >>= fun v =>
              Prog.lift (TpuEff.assume (chk v) (dec v)) >>= fun h => kk v h) Q) := by
  subst hj
  have hlt : 512 * k + r < 32768 := by omega
  have e : d.row (1024 * k + (2 * r)) = rowOf d.f1 (512 * k + r) := by
    rw [← d.row_even]; exact congrArg d.row (by omega)
  have hrow : d.row (1024 * k + (2 * r)) < 73728 := hd _ (by omega)
  unfold Issuing
  iintro ⟨H1, H2, HB, HS⟩ Hk
  iapply (read_row c (tab := Memref.whole main_arg0) (qt := d.q1) (ft := d.f1) (ρ := d.row (1024 * k + (2 * r)))
    (fun v hv => hchk v (row_inside hv hrow)) ((tok_read1 (512 * k + r) hlt eA d.f1 _).trans e.symm)) $$ [H1]
  · iexact H1
  iintro %v %hv %hw H1
  ispecialize Hk $$ %v
  ispecialize Hk $$ %hv
  ispecialize Hk $$ %hw
  iapply Hk
  isplitl [H1]; · iexact H1
  isplitl [H2]; · iexact H2
  isplitl [HB] <;> iassumption
theorem read2 {d : Data F} (hd : d.OK) {f : S2x512x1024.Idx → Elt F .f32}
    {offA : Fin 1 → ℕ} {hA : ∀ a, offA a + S1.size a ≤ S32768.size a} {hn : (Rect.unit (s := S32768) offA S1.size hA).shape.numel = 1} {hl : EltTy.i32.packing = 1}
    {chk : BitVec 32 → Prop} {dec : ∀ v, Decidable (chk v)}
    {α : Type} {kk : ∀ v : Elt F .i32, PLift (chk v) → Prog (TpuEff nD τ sig (Elt F) Λ₀ .tc) α} {Q : α → sProp 𝕄} {k j r : ℕ}
    (eA : offA = ![512 * k + r])
    (hchk : ∀ v : BitVec 32, (∀ a, (![v.toNat, 0] : Fin 2 → ℕ) a + S1x1024.size a ≤ S73728x1024.size a) → chk v)
    (hk : k < 64) (hr : r < 512) (hj : j = 2 * r + 1) :
    Issuing c d f k j
      ⊢ iprop((∀ v : BitVec 32, ∀ hv : v.toNat = d.row (1024 * k + j), ∀ hw : chk v, Issuing c d f k j -∗ WP (kk v ⟨hw⟩) Q)
          -∗ WP (smemLoad (Memref.whole main_arg1) (Rect.unit (s := S32768) offA S1.size hA) hn hl >>= fun v =>
              Prog.lift (TpuEff.assume (chk v) (dec v)) >>= fun h => kk v h) Q) := by
  subst hj
  have hlt : 512 * k + r < 32768 := by omega
  have e : d.row (1024 * k + (2 * r + 1)) = rowOf d.f2 (512 * k + r) := by
    rw [← d.row_odd]; exact congrArg d.row (by omega)
  have hrow : d.row (1024 * k + (2 * r + 1)) < 73728 := hd _ (by omega)
  unfold Issuing
  iintro ⟨H1, H2, HB, HS⟩ Hk
  iapply (read_row c (tab := Memref.whole main_arg1) (qt := d.q2) (ft := d.f2) (ρ := d.row (1024 * k + (2 * r + 1)))
    (fun v hv => hchk v (row_inside hv hrow)) ((tok_read2 (512 * k + r) hlt eA d.f2 _).trans e.symm)) $$ [H2]
  · iexact H2
  iintro %v %hv %hw H2
  ispecialize Hk $$ %v
  ispecialize Hk $$ %hv
  ispecialize Hk $$ %hw
  iapply Hk
  isplitl [H1]; · iexact H1
  isplitl [H2]; · iexact H2
  isplitl [HB] <;> iassumption

/-- What the row of copy `j` brings. -/
theorem got_at (d : Data F) (k j : ℕ) (h : d.row (1024 * k + j) < 73728) (z : S2x512x1024.Idx) (w : S73728x1024.Idx)
    (h0 : (z 0).val = j % 2) (h1 : (z 1).val = j / 2) (hw0 : (w 0).val = d.row (1024 * k + j)) (hw1 : (w 1).val = (z 2).val) : d.y w = d.got k z := by
  unfold Data.got
  refine congrArg d.y ?_
  have e : 2 * (z 1).val + (z 0).val = j := by omega
  funext a; apply Fin.ext
  match a with
  | ⟨0, _⟩ =>
    show (w 0).val = d.row (1024 * k + (2 * (z 1).val + (z 0).val)) % 73728
    rw [e, hw0, Nat.mod_eq_of_lt h]
  | ⟨1, _⟩ => exact hw1

abbrev ATo (off : Fin 3 → ℕ) (h : ∀ a, off a + S1x1x1024.size a ≤ S2x512x1024.size a) : DmaTarget nD τ sig .tc .vmem S1x1024 .f32 :=
  .here (ARow off h)
abbrev BTo (off : Fin 3 → ℕ) (h : ∀ a, off a + S1x1x1024.size a ≤ S2x512x1024.size a) : DmaTarget nD τ sig .tc .vmem S1x1024 .f32 :=
  .here (BRow off h)

/-- The issue of copy `j` of an even step, of an odd one. -/
theorem sendA {d : Data F} (hd : d.OK) {f : S2x512x1024.Idx → Elt F .f32}
    {offC : Fin 2 → ℕ} {hC : ∀ a, offC a + S1x1024.size a ≤ S73728x1024.size a}
    {offD : Fin 3 → ℕ} {hD : ∀ a, offD a + S1x1x1024.size a ≤ S2x512x1024.size a} {sem : DmaSem sig}
    {p1 : (YRow offC hC).view.WordExact} {p2 : (ATo offD hD).view.WordExact}
    {p3 : DmaTarget.Typed .hbm (.dma sem) (ATo offD hD)}
    {α : Type} {kk : PUnit → Prog (TpuEff nD τ sig (Elt F) Λ₀ .tc) α} {Q : α → sProp 𝕄} {k j p r : ℕ} {v : BitVec 32}
    (hv : v.toNat = d.row (1024 * k + j)) (eC : offC = ![v.toNat, 0]) (eD : offD = ![p, r, 0])
    (eS : sem = cell k) (hk : k < 64) (hpar : k % 2 = 0) (hp : p < 2) (hr : r < 512) (hj : j = 2 * r + p) :
    Issuing c d f k j
      ⊢ iprop((Issuing c d f k (j + 1) -∗ WP (kk ⟨⟩) Q)
          -∗ WP (Prog.lift (.enqueueDma (YRow offC hC) (ATo offD hD) (.dma sem) p1 p2 p3) >>= kk) Q) := by
  subst eS
  rw [hv] at eC
  subst eC eD
  have hrow : d.row (1024 * k + j) < 73728 := hd _ (by omega)
  have hj' : j < 1024 := by omega
  have h0 : j % 2 = p := by omega
  have h1 : j / 2 = r := by omega
  have hc : ∀ g : S2x512x1024.Idx → Elt F .f32, copy c d g k j
      = iprop(yAt c (rowSet (d.row (1024 * k + j))) (Transfers.shareTokN (halfOf k) j) d.y ∗ aAt c (stSet p r) g) := fun g => by
    unfold copy; rw [bufAt_even hpar, h0, h1]
  unfold Issuing
  rw [bigSep_Ico_succ_bot hj', hc]
  iintro ⟨H1, H2, HB, ⟨HY, HX⟩, HS⟩ Hk
  have hop : (Prog.lift (.enqueueDma (YRow ![d.row (1024 * k + j), 0] hC) (ATo ![p, r, 0] hD) (.dma (cell k)) p1 p2 p3) >>= kk
      : Prog (TpuEff nD τ sig (Elt F) Λ₀ .tc) α)
      = .op (.enqueueDma (YRow ![d.row (1024 * k + j), 0] hC) (ATo ![p, r, 0] hD) (.dma (cell k)) p1 p2 p3) kk := rfl
  rw [hop]
  iapply (Transfers.wp_dmaBatch (countersEmb (U := Pipeline.UD sig nD τ)) Variants.none (c : Thread nD τ) none
    (src := YRow ![d.row (1024 * k + j), 0] hC) (dst := ARow ![p, r, 0] hD) (q := Transfers.shareTokN (halfOf k) j) (fs := d.y) (Sd := stSet p r) (fd := f)
    (D := issued c d k) () rowCredit rfl
    (by rw [ARow_set]) hj' (Nat.zero_le _) ?_) $$ [HB HY HX] [H1 H2 HS Hk]
  · rw [show issued c d k ⟨j, hj'⟩ = copy c d (d.got k) k j from rfl, hc, YRow_set]
    have e : (aAt c (stSet p r) ((ARow ![p, r, 0] hD).view.write (Elt F) f (ReadAs.same.apply ((YRow ![d.row (1024 * k + j), 0] hC).view.read (Elt F) d.y)) Finset.univ) : sProp 𝕄)
        = aAt c (stSet p r) (d.got k) :=
      pointsTo_congr fun y hy => gather_writeA p r _ hD hC f d.y (d.got k)
        (fun z w z0 z1 w0 w1 => got_at d k j hrow z w (z0.trans h0.symm) (z1.trans h1.symm) w0 w1) y hy
    rw [← e]
    iintro ⟨HX, HY⟩
    isplitl [HY] <;> iassumption
  · rw [YRow_set]
    isplitl [HY]; · iexact HY
    isplitl [HX]; · iexact HX
    iexact HB
  · iintro HB
    iapply Hk
    isplitl [H1]; · iexact H1
    isplitl [H2]; · iexact H2
    isplitl [HB] <;> iassumption
theorem sendB {d : Data F} (hd : d.OK) {f : S2x512x1024.Idx → Elt F .f32}
    {offC : Fin 2 → ℕ} {hC : ∀ a, offC a + S1x1024.size a ≤ S73728x1024.size a}
    {offD : Fin 3 → ℕ} {hD : ∀ a, offD a + S1x1x1024.size a ≤ S2x512x1024.size a} {sem : DmaSem sig}
    {p1 : (YRow offC hC).view.WordExact} {p2 : (BTo offD hD).view.WordExact}
    {p3 : DmaTarget.Typed .hbm (.dma sem) (BTo offD hD)}
    {α : Type} {kk : PUnit → Prog (TpuEff nD τ sig (Elt F) Λ₀ .tc) α} {Q : α → sProp 𝕄} {k j p r : ℕ} {v : BitVec 32}
    (hv : v.toNat = d.row (1024 * k + j)) (eC : offC = ![v.toNat, 0]) (eD : offD = ![p, r, 0])
    (eS : sem = cell k) (hk : k < 64) (hpar : k % 2 = 1) (hp : p < 2) (hr : r < 512) (hj : j = 2 * r + p) :
    Issuing c d f k j
      ⊢ iprop((Issuing c d f k (j + 1) -∗ WP (kk ⟨⟩) Q)
          -∗ WP (Prog.lift (.enqueueDma (YRow offC hC) (BTo offD hD) (.dma sem) p1 p2 p3) >>= kk) Q) := by
  subst eS
  rw [hv] at eC
  subst eC eD
  have hrow : d.row (1024 * k + j) < 73728 := hd _ (by omega)
  have hj' : j < 1024 := by omega
  have h0 : j % 2 = p := by omega
  have h1 : j / 2 = r := by omega
  have hc : ∀ g : S2x512x1024.Idx → Elt F .f32, copy c d g k j
      = iprop(yAt c (rowSet (d.row (1024 * k + j))) (Transfers.shareTokN (halfOf k) j) d.y ∗ bAt c (stSet p r) g) := fun g => by
    unfold copy; rw [bufAt_odd hpar, h0, h1]
  unfold Issuing
  rw [bigSep_Ico_succ_bot hj', hc]
  iintro ⟨H1, H2, HB, ⟨HY, HX⟩, HS⟩ Hk
  have hop : (Prog.lift (.enqueueDma (YRow ![d.row (1024 * k + j), 0] hC) (BTo ![p, r, 0] hD) (.dma (cell k)) p1 p2 p3) >>= kk
      : Prog (TpuEff nD τ sig (Elt F) Λ₀ .tc) α)
      = .op (.enqueueDma (YRow ![d.row (1024 * k + j), 0] hC) (BTo ![p, r, 0] hD) (.dma (cell k)) p1 p2 p3) kk := rfl
  rw [hop]
  iapply (Transfers.wp_dmaBatch (countersEmb (U := Pipeline.UD sig nD τ)) Variants.none (c : Thread nD τ) none
    (src := YRow ![d.row (1024 * k + j), 0] hC) (dst := BRow ![p, r, 0] hD) (q := Transfers.shareTokN (halfOf k) j) (fs := d.y) (Sd := stSet p r) (fd := f)
    (D := issued c d k) () rowCredit rfl
    (by rw [BRow_set]) hj' (Nat.zero_le _) ?_) $$ [HB HY HX] [H1 H2 HS Hk]
  · rw [show issued c d k ⟨j, hj'⟩ = copy c d (d.got k) k j from rfl, hc, YRow_set]
    have e : (bAt c (stSet p r) ((BRow ![p, r, 0] hD).view.write (Elt F) f (ReadAs.same.apply ((YRow ![d.row (1024 * k + j), 0] hC).view.read (Elt F) d.y)) Finset.univ) : sProp 𝕄)
        = bAt c (stSet p r) (d.got k) :=
      pointsTo_congr fun y hy => gather_writeB p r _ hD hC f d.y (d.got k)
        (fun z w z0 z1 w0 w1 => got_at d k j hrow z w (z0.trans h0.symm) (z1.trans h1.symm) w0 w1) y hy
    rw [← e]
    iintro ⟨HX, HY⟩
    isplitl [HY] <;> iassumption
  · rw [YRow_set]
    isplitl [HY]; · iexact HY
    isplitl [HX]; · iexact HX
    iexact HB
  · iintro HB
    iapply Hk
    isplitl [H1]; · iexact H1
    isplitl [H2]; · iexact H2
    isplitl [HB] <;> iassumption

/-- The core owes nothing, whatever it has waited for. -/
abbrev owing : sProp 𝕄 := iprop(∃ W : Waits sig Unit, owes (c : Thread nD τ) 0 W)

/-- A part of a program, then the rest. -/
theorem run_bind {α β : Type} {p : Prog (TpuEff nD τ sig (Elt F) Λ₀ .tc) α} {kk : α → Prog (TpuEff nD τ sig (Elt F) Λ₀ .tc) β} {Q : β → sProp 𝕄} :
    WP p (fun x => WP (kk x) Q) ⊢ WP (p >>= kk) Q := by
  rw [wp_bind]

/-- A loop of waits for one row each: every trip takes one row's credit off the batch. -/
theorem wait_loop {l : Scf.Loop 32} {hok : l.OK} {σ α : Type} {init : σ} {body : Fin l.trips → σ → Prog (TpuEff nD τ sig (Elt F) Λ₀ .tc) σ}
    {kk : σ → Prog (TpuEff nD τ sig (Elt F) Λ₀ .tc) α} {Q : α → sProp 𝕄} {sem sem' : DmaSem sig} {srcw : Memref sig .tc .hbm S1x1024 .f32}
    {dstw : Memref sig .tc .vmem S1x1024 .f32} {p1 : srcw.view.WordExact} {p2 : dstw.view.WordExact}
    (out : Fin l.trips → σ → σ)
    (hb : ∀ k acc, body k acc = Prog.lift (.waitDma2 sem srcw dstw p1 p2) >>= fun _ => pure (out k acc))
    (eS : sem = sem') {n : ℕ} {D : Fin n → sProp 𝕄} {j u : ℕ} (hu : u + rowCredit * l.trips ≤ rowCredit * j) :
    iprop(batch c sem' D j u ∗ owing c)
      ⊢ iprop((∀ acc, iprop(batch c sem' D j (u + rowCredit * l.trips) ∗ owing c) -∗ WP (kk acc) Q)
          -∗ WP (Scf.for l.lb l.ub l.st hok init body >>= kk) Q) := by
  subst eS
  iintro HI Hk
  iapply (Scf.wp_for_bind frame (wpE (defs₀ (F := F)) Variants.none c none) Set.univ l.lb l.ub l.st hok init body
    (fun k _ => iprop(batch c sem D j (u + rowCredit * k) ∗ owing c)) ?_) $$ [HI]
  · intro k acc
    rw [hb]
    have hk : k.val < l.trips := k.isLt
    have hle : u + rowCredit * k.val + 1 * rowCredit ≤ rowCredit * j := by
      have h1 : rowCredit * (k.val + 1) ≤ rowCredit * l.trips := Nat.mul_le_mul_left _ hk
      rw [Nat.mul_add] at h1
      omega
    iintro ⟨HB, %W, HO⟩
    iapply (Transfers.wp_waitBatchMul (countersEmb (U := Pipeline.UD sig nD τ)) Variants.none (c : Thread nD τ) none () 1
      (show dstw.view.dmaCredit = 1 * rowCredit from (Nat.one_mul _).symm) (D := D) hle (W := W)) $$ [HB HO]
    · isplitl [HB] <;> iassumption
    iintro ⟨HB, HO⟩
    iapply (le_wp_ret _ _ _ _ _)
    have e : u + rowCredit * k.val + 1 * rowCredit = u + rowCredit * (k.val + 1) := by rw [Nat.mul_add]; omega
    rw [← e]
    isplitl [HB]; · iexact HB
    iexists _; iexact HO
  · rw [Nat.mul_zero, Nat.add_zero]; iexact HI
  iexact Hk

end Cert.Kernel4Ideal.Combine

end
-- ==== Proof.Combine.Pre.lean ====
/-
  What the combine's precondition says: every row of either table is a row of the experts' products.
-/
module

public import proofs.«01_k».proof.Pre_rows_ok
public import proofs.«01_k».proof.Proof.Combine.Steps
public import Idealize.ShloMosaic.Lib.StableHlo.Predicate
public import Idealize.ShloMosaic.Lib.ReduceAll
public import Idealize.ShloMosaic.Lib.WordArith
public import Idealize.ShloMosaic.Lib.Affine
public import Idealize.ShloMosaic.Lib.Pipeline.Value

@[expose] public section

noncomputable section

namespace Cert.Kernel4Ideal.Combine

open Cert.Kernel4Ideal
open Idealize.ShloMosaic
open Idealize.ShloMosaic.ValueIdx
open Idealize.ShloMosaic.StableHlo.Predicate

variable {F : FTy → Type} [FloatOps F]

/-- A word from zero on and below the count of rows is a row. -/
theorem row_bound (x : BitVec 32) (h0 : IntOp.cmpi .sge x 0#32 = 1#1) (h1 : IntOp.cmpi .slt x 73728#32 = 1#1) : x.toNat < 73728 :=
  WordArith.toNat_lt_of_zero_sle_of_slt_ofNat x 73728 (by norm_num) ((ofBool_eq_one_iff _).1 h0) ((ofBool_eq_one_iff _).1 h1)

variable (f1 f2 : S32768.Idx → BitVec 32) (y : FVec F S73728x1024 .f32) (x : FVec F S32768x1024 .f32) (w : FVec F S32768x128 .f32)
variable [Cert.Pre_rows_ok.Facts]

/-- The predicate over the two tables. -/
theorem rows_of_pre (e : Cert.Pre_rows_ok.fn (F := F) f1 f2 y x w = fun _ => 1#1) :
    ∀ t : Fin 32768, (f1 (ix1 t)).toNat < 73728 ∧ (f2 (ix1 t)).toNat < 73728 := by
  haveI : Subsingleton Cert.Pre_rows_ok.S_.Idx := ⟨fun a b => funext fun i => i.elim0⟩
  have e0 := congrFun e Idealize.ShloMosaic.ValueIdx.ix0
  obtain ⟨hA, hB⟩ := IntOp.andi_eq_one.1 (e0 : IntOp.andi _ _ = 1#1)
  intro t
  obtain ⟨a0, a1⟩ := IntOp.andi_eq_one.1 (Host.reduce_andi_all _ _ _ _ _ hA (ix1 t))
  obtain ⟨b0, b1⟩ := IntOp.andi_eq_one.1 (Host.reduce_andi_all _ _ _ _ _ hB (ix1 t))
  exact ⟨row_bound _ a0 a1, row_bound _ b0 b1⟩

/-- So the data's copies are of rows there are. -/
theorem data_ok (d : Data F) (h : ∀ t : Fin 32768, BitVec.toNat (d.f1 (ix1 t) : BitVec 32) < 73728 ∧ BitVec.toNat (d.f2 (ix1 t) : BitVec 32) < 73728) : d.OK := by
  intro n _
  unfold Data.row rowOf
  split
  · exact (h _).1
  · exact (h _).2

end Cert.Kernel4Ideal.Combine

end
-- ==== Proof.Combine.Same.lean ====
/-
  The combine is printed twice, once for each reading of its floats.  The two texts are the
  same, so over any one carrier the two programs are equal, and what is proved of a run of the one
  is proved of a run of the other.
-/
module
public import proofs.«01_k».proof.Proof.Gen.Kernel4
public import proofs.«01_k».proof.Proof.Gen.Kernel4Ideal

@[expose] public section

namespace Cert.Kernel4Ideal.Combine

open Idealize.ShloMosaic Idealize.ShloMosaic.TcCoe Idealize.SL.Sem

variable {F : FTy → Type} [FloatOps F]

set_option backward.isDefEq.respectTransparency.types false in
set_option maxHeartbeats 1000000 in
/-- The tables of bodies agree, label by label. -/
theorem bodies_eq : Cert.Kernel4.defs₀ (F := F) = Cert.Kernel4Ideal.defs₀ (F := F) := by
  unfold Cert.Kernel4.defs₀ Cert.Kernel4Ideal.defs₀
  refine congrArg (Defs.onTc (nD := Cert.Kernel4Ideal.nD) (τ := Cert.Kernel4Ideal.τ) (sig := Cert.Kernel4Ideal.sig) (Λ := Cert.Kernel4Ideal.Λ₀)) (funext fun l => ?_)
  funext x
  match l, x with
  | 0, (t, s) => rfl

set_option backward.isDefEq.respectTransparency.types false in
set_option maxHeartbeats 1000000 in
/-- So do the tables with the pipelines' own labels. -/
theorem defs_eq : Cert.Kernel4.defs (F := F) = Cert.Kernel4Ideal.defs (F := F) :=
  congrArg (Pipeline.defs (Cert.Kernel4Ideal.pcfgs (F := F))) bodies_eq

set_option backward.isDefEq.respectTransparency.types false in
set_option maxHeartbeats 1000000 in
/-- And the main programs. -/
theorem main_eq : Cert.Kernel4.main (F := F) = Cert.Kernel4Ideal.main (F := F) := rfl

set_option backward.isDefEq.respectTransparency.types false in
set_option maxHeartbeats 1000000 in
/-- A run of the one program is a run of the other. -/
theorem run_eq (m : (ℓ : Loc Cert.Kernel4Ideal.nD Cert.Kernel4Ideal.τ Cert.Kernel4Ideal.sig) → Buf (Elt F) ℓ)
    (ρ : Dev Cert.Kernel4Ideal.nD → PrngReg) :
    θ_run (Cert.Kernel4.defs (F := F)) (onTc (τ := Cert.Kernel4.τ) (Cert.Kernel4.main (F := F))) ⟨m, fun _ => 0, ρ⟩
      = θ_run (Cert.Kernel4Ideal.defs (F := F)) (onTc (τ := Cert.Kernel4Ideal.τ) (Cert.Kernel4Ideal.main (F := F))) ⟨m, fun _ => 0, ρ⟩ :=
  congrArg₂ (fun D M => θ_run D (onTc (τ := Cert.Kernel4Ideal.τ) M)
    (⟨m, fun _ => 0, ρ⟩ : MemSt Cert.Kernel4Ideal.nD Cert.Kernel4Ideal.τ Cert.Kernel4Ideal.sig (Elt F))) (defs_eq (F := F)) (main_eq (F := F))

set_option backward.isDefEq.respectTransparency.types false in
set_option maxHeartbeats 1000000 in
/-- What holds of every end of the one holds of every end of the other. -/
theorem run_of (m : (ℓ : Loc Cert.Kernel4Ideal.nD Cert.Kernel4Ideal.τ Cert.Kernel4Ideal.sig) → Buf (Elt F) ℓ)
    (ρ : Dev Cert.Kernel4Ideal.nD → PrngReg) (Q : PUnit × MemSt Cert.Kernel4Ideal.nD Cert.Kernel4Ideal.τ Cert.Kernel4Ideal.sig (Elt F) → Prop)
    (h : θ_run (Cert.Kernel4Ideal.defs (F := F)) (onTc (τ := Cert.Kernel4Ideal.τ) (Cert.Kernel4Ideal.main (F := F))) ⟨m, fun _ => 0, ρ⟩ Q) :
    θ_run (Cert.Kernel4.defs (F := F)) (onTc (τ := Cert.Kernel4.τ) (Cert.Kernel4.main (F := F))) ⟨m, fun _ => 0, ρ⟩ Q := by
  rw [run_eq]
  exact h

end Cert.Kernel4Ideal.Combine
-- ==== Proof.Combine.Words.lean ====
/-
  The combine kernel's index words as numbers: its loops' trips, its conditions, the offsets of its slices, its
  semaphores.
-/
module

public import proofs.«01_k».proof.Proof.Combine.Rows
public import Idealize.ShloMosaic.Lib.WordArith.Masks
public import Idealize.ShloMosaic.Lib.WordCmp

@[expose] public section

noncomputable section

namespace Cert.Kernel4Ideal.Combine

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.Sem Idealize.SL.ProofMode
open Idealize.ShloMosaic.ValueIdx

variable {F : FTy → Type} [FloatOps F]

local notation "𝕄" => MT nD τ sig Unit (Elt F) ℕ (Pipeline.UD sig nD τ) ℕ

theorem t1_trips : k0_t1_loop.trips = 64 := by decide
theorem t2_trips : k0_t2_loop.trips = 64 := by decide
theorem t3_trips : k0_t3_loop.trips = 1024 := by decide
theorem t4_trips : k0_t4_loop.trips = 64 := by decide
theorem t5_trips : k0_t5_loop.trips = 1024 := by decide

/-! ## The conditions -/

theorem cond1_iff (i : grid0.Coords) : k0_cond1 i = 1#1 ↔ (i 0).val = 0 := by
  have h : (i 0).val < 64 := (i 0).isLt
  unfold k0_cond1
  generalize (i 0).val = n at h ⊢
  interval_cases n <;> decide
theorem cond2_iff (i : grid0.Coords) : k0_cond2 i = 1#1 ↔ (i 0).val % 2 = 0 := by
  have h : (i 0).val < 64 := (i 0).isLt
  unfold k0_cond2
  generalize (i 0).val = n at h ⊢
  interval_cases n <;> decide
theorem cond3_iff (i : grid0.Coords) : k0_cond3 i = 1#1 ↔ (i 0).val + 1 < 64 := by
  have h : (i 0).val < 64 := (i 0).isLt
  unfold k0_cond3
  generalize (i 0).val = n at h ⊢
  interval_cases n <;> decide
theorem cond4_iff (i : grid0.Coords) : k0_cond4 i = 1#1 ↔ (i 0).val % 2 = 1 := by
  have h : (i 0).val < 64 := (i 0).isLt
  unfold k0_cond4
  generalize (i 0).val = n at h ⊢
  interval_cases n <;> decide
theorem cond5_iff (i : grid0.Coords) : k0_cond5 i = 1#1 ↔ (i 0).val + 1 < 64 := by
  have h : (i 0).val < 64 := (i 0).isLt
  unfold k0_cond5
  generalize (i 0).val = n at h ⊢
  interval_cases n <;> decide

/-! ## The offsets of a group of eight tokens -/

theorem group_word (b : ℕ) (hb : b < 64) (u : BitVec 32) (hu : u.toNat < 8) :
    (Scf.iv 0#32 1#32 b * 8#32 + u).toNat = 8 * b + u.toNat := by
  rw [BitVec.toNat_add, BitVec.toNat_mul, WordArith.toNat_iv_zero_one _ (by omega)]
  show (b * 8 % 4294967296 + u.toNat) % 4294967296 = _
  omega
theorem first_word (b : ℕ) (hb : b < 64) (u : BitVec 32) (hu : u.toNat < 8) :
    (0#32 + (Scf.iv 0#32 1#32 b * 8#32 + u)).toNat = 512 * 0 + (8 * b + u.toNat) := by
  rw [BitVec.zero_add, group_word b hb u hu]; omega
theorem token_word (a : ℕ) (ha : a < 64) (b : ℕ) (hb : b < 64) (u : BitVec 32) (hu : u.toNat < 8) :
    ((BitVec.ofNat 32 a + 1#32) * 512#32 + (Scf.iv 0#32 1#32 b * 8#32 + u)).toNat = 512 * (a + 1) + (8 * b + u.toNat) := by
  rw [BitVec.toNat_add, BitVec.toNat_mul, BitVec.toNat_add, group_word b hb u hu, BitVec.toNat_ofNat]
  show ((a % 4294967296 + 1) % 4294967296 * 512 % 4294967296 + (8 * b + u.toNat)) % 4294967296 = _
  omega

theorem off1_eq (b : Fin k0_t1_loop.trips) : k0_off1 b = ![512 * 0 + (8 * b.val + 0)] :=
  congrArg (fun n : ℕ => (![n] : Fin 1 → ℕ)) (first_word b.val (lt_of_lt_of_eq b.isLt t1_trips) 0#32 (by decide))
theorem off2_eq (b : Fin k0_t1_loop.trips) : k0_off2 b = ![0, 8 * b.val + 0, 0] :=
  congrArg (fun n : ℕ => (![0, n, 0] : Fin 3 → ℕ)) (group_word b.val (lt_of_lt_of_eq b.isLt t1_trips) 0#32 (by decide))
theorem off4_eq (b : Fin k0_t1_loop.trips) : k0_off4 b = ![512 * 0 + (8 * b.val + 0)] :=
  congrArg (fun n : ℕ => (![n] : Fin 1 → ℕ)) (first_word b.val (lt_of_lt_of_eq b.isLt t1_trips) 0#32 (by decide))
theorem off5_eq (b : Fin k0_t1_loop.trips) : k0_off5 b = ![1, 8 * b.val + 0, 0] :=
  congrArg (fun n : ℕ => (![1, n, 0] : Fin 3 → ℕ)) (group_word b.val (lt_of_lt_of_eq b.isLt t1_trips) 0#32 (by decide))
theorem off7_eq (b : Fin k0_t1_loop.trips) : k0_off7 b = ![512 * 0 + (8 * b.val + 1)] :=
  congrArg (fun n : ℕ => (![n] : Fin 1 → ℕ)) (first_word b.val (lt_of_lt_of_eq b.isLt t1_trips) 1#32 (by decide))
theorem off8_eq (b : Fin k0_t1_loop.trips) : k0_off8 b = ![0, 8 * b.val + 1, 0] :=
  congrArg (fun n : ℕ => (![0, n, 0] : Fin 3 → ℕ)) (group_word b.val (lt_of_lt_of_eq b.isLt t1_trips) 1#32 (by decide))
theorem off10_eq (b : Fin k0_t1_loop.trips) : k0_off10 b = ![512 * 0 + (8 * b.val + 1)] :=
  congrArg (fun n : ℕ => (![n] : Fin 1 → ℕ)) (first_word b.val (lt_of_lt_of_eq b.isLt t1_trips) 1#32 (by decide))
theorem off11_eq (b : Fin k0_t1_loop.trips) : k0_off11 b = ![1, 8 * b.val + 1, 0] :=
  congrArg (fun n : ℕ => (![1, n, 0] : Fin 3 → ℕ)) (group_word b.val (lt_of_lt_of_eq b.isLt t1_trips) 1#32 (by decide))
theorem off13_eq (b : Fin k0_t1_loop.trips) : k0_off13 b = ![512 * 0 + (8 * b.val + 2)] :=
  congrArg (fun n : ℕ => (![n] : Fin 1 → ℕ)) (first_word b.val (lt_of_lt_of_eq b.isLt t1_trips) 2#32 (by decide))
theorem off14_eq (b : Fin k0_t1_loop.trips) : k0_off14 b = ![0, 8 * b.val + 2, 0] :=
  congrArg (fun n : ℕ => (![0, n, 0] : Fin 3 → ℕ)) (group_word b.val (lt_of_lt_of_eq b.isLt t1_trips) 2#32 (by decide))
theorem off16_eq (b : Fin k0_t1_loop.trips) : k0_off16 b = ![512 * 0 + (8 * b.val + 2)] :=
  congrArg (fun n : ℕ => (![n] : Fin 1 → ℕ)) (first_word b.val (lt_of_lt_of_eq b.isLt t1_trips) 2#32 (by decide))
theorem off17_eq (b : Fin k0_t1_loop.trips) : k0_off17 b = ![1, 8 * b.val + 2, 0] :=
  congrArg (fun n : ℕ => (![1, n, 0] : Fin 3 → ℕ)) (group_word b.val (lt_of_lt_of_eq b.isLt t1_trips) 2#32 (by decide))
theorem off19_eq (b : Fin k0_t1_loop.trips) : k0_off19 b = ![512 * 0 + (8 * b.val + 3)] :=
  congrArg (fun n : ℕ => (![n] : Fin 1 → ℕ)) (first_word b.val (lt_of_lt_of_eq b.isLt t1_trips) 3#32 (by decide))
theorem off20_eq (b : Fin k0_t1_loop.trips) : k0_off20 b = ![0, 8 * b.val + 3, 0] :=
  congrArg (fun n : ℕ => (![0, n, 0] : Fin 3 → ℕ)) (group_word b.val (lt_of_lt_of_eq b.isLt t1_trips) 3#32 (by decide))
theorem off22_eq (b : Fin k0_t1_loop.trips) : k0_off22 b = ![512 * 0 + (8 * b.val + 3)] :=
  congrArg (fun n : ℕ => (![n] : Fin 1 → ℕ)) (first_word b.val (lt_of_lt_of_eq b.isLt t1_trips) 3#32 (by decide))
theorem off23_eq (b : Fin k0_t1_loop.trips) : k0_off23 b = ![1, 8 * b.val + 3, 0] :=
  congrArg (fun n : ℕ => (![1, n, 0] : Fin 3 → ℕ)) (group_word b.val (lt_of_lt_of_eq b.isLt t1_trips) 3#32 (by decide))
theorem off25_eq (b : Fin k0_t1_loop.trips) : k0_off25 b = ![512 * 0 + (8 * b.val + 4)] :=
  congrArg (fun n : ℕ => (![n] : Fin 1 → ℕ)) (first_word b.val (lt_of_lt_of_eq b.isLt t1_trips) 4#32 (by decide))
theorem off26_eq (b : Fin k0_t1_loop.trips) : k0_off26 b = ![0, 8 * b.val + 4, 0] :=
  congrArg (fun n : ℕ => (![0, n, 0] : Fin 3 → ℕ)) (group_word b.val (lt_of_lt_of_eq b.isLt t1_trips) 4#32 (by decide))
theorem off28_eq (b : Fin k0_t1_loop.trips) : k0_off28 b = ![512 * 0 + (8 * b.val + 4)] :=
  congrArg (fun n : ℕ => (![n] : Fin 1 → ℕ)) (first_word b.val (lt_of_lt_of_eq b.isLt t1_trips) 4#32 (by decide))
theorem off29_eq (b : Fin k0_t1_loop.trips) : k0_off29 b = ![1, 8 * b.val + 4, 0] :=
  congrArg (fun n : ℕ => (![1, n, 0] : Fin 3 → ℕ)) (group_word b.val (lt_of_lt_of_eq b.isLt t1_trips) 4#32 (by decide))
theorem off31_eq (b : Fin k0_t1_loop.trips) : k0_off31 b = ![512 * 0 + (8 * b.val + 5)] :=
  congrArg (fun n : ℕ => (![n] : Fin 1 → ℕ)) (first_word b.val (lt_of_lt_of_eq b.isLt t1_trips) 5#32 (by decide))
theorem off32_eq (b : Fin k0_t1_loop.trips) : k0_off32 b = ![0, 8 * b.val + 5, 0] :=
  congrArg (fun n : ℕ => (![0, n, 0] : Fin 3 → ℕ)) (group_word b.val (lt_of_lt_of_eq b.isLt t1_trips) 5#32 (by decide))
theorem off34_eq (b : Fin k0_t1_loop.trips) : k0_off34 b = ![512 * 0 + (8 * b.val + 5)] :=
  congrArg (fun n : ℕ => (![n] : Fin 1 → ℕ)) (first_word b.val (lt_of_lt_of_eq b.isLt t1_trips) 5#32 (by decide))
theorem off35_eq (b : Fin k0_t1_loop.trips) : k0_off35 b = ![1, 8 * b.val + 5, 0] :=
  congrArg (fun n : ℕ => (![1, n, 0] : Fin 3 → ℕ)) (group_word b.val (lt_of_lt_of_eq b.isLt t1_trips) 5#32 (by decide))
theorem off37_eq (b : Fin k0_t1_loop.trips) : k0_off37 b = ![512 * 0 + (8 * b.val + 6)] :=
  congrArg (fun n : ℕ => (![n] : Fin 1 → ℕ)) (first_word b.val (lt_of_lt_of_eq b.isLt t1_trips) 6#32 (by decide))
theorem off38_eq (b : Fin k0_t1_loop.trips) : k0_off38 b = ![0, 8 * b.val + 6, 0] :=
  congrArg (fun n : ℕ => (![0, n, 0] : Fin 3 → ℕ)) (group_word b.val (lt_of_lt_of_eq b.isLt t1_trips) 6#32 (by decide))
theorem off40_eq (b : Fin k0_t1_loop.trips) : k0_off40 b = ![512 * 0 + (8 * b.val + 6)] :=
  congrArg (fun n : ℕ => (![n] : Fin 1 → ℕ)) (first_word b.val (lt_of_lt_of_eq b.isLt t1_trips) 6#32 (by decide))
theorem off41_eq (b : Fin k0_t1_loop.trips) : k0_off41 b = ![1, 8 * b.val + 6, 0] :=
  congrArg (fun n : ℕ => (![1, n, 0] : Fin 3 → ℕ)) (group_word b.val (lt_of_lt_of_eq b.isLt t1_trips) 6#32 (by decide))
theorem off43_eq (b : Fin k0_t1_loop.trips) : k0_off43 b = ![512 * 0 + (8 * b.val + 7)] :=
  congrArg (fun n : ℕ => (![n] : Fin 1 → ℕ)) (first_word b.val (lt_of_lt_of_eq b.isLt t1_trips) 7#32 (by decide))
theorem off44_eq (b : Fin k0_t1_loop.trips) : k0_off44 b = ![0, 8 * b.val + 7, 0] :=
  congrArg (fun n : ℕ => (![0, n, 0] : Fin 3 → ℕ)) (group_word b.val (lt_of_lt_of_eq b.isLt t1_trips) 7#32 (by decide))
theorem off46_eq (b : Fin k0_t1_loop.trips) : k0_off46 b = ![512 * 0 + (8 * b.val + 7)] :=
  congrArg (fun n : ℕ => (![n] : Fin 1 → ℕ)) (first_word b.val (lt_of_lt_of_eq b.isLt t1_trips) 7#32 (by decide))
theorem off47_eq (b : Fin k0_t1_loop.trips) : k0_off47 b = ![1, 8 * b.val + 7, 0] :=
  congrArg (fun n : ℕ => (![1, n, 0] : Fin 3 → ℕ)) (group_word b.val (lt_of_lt_of_eq b.isLt t1_trips) 7#32 (by decide))
theorem off49_eq (i : grid0.Coords) (b : Fin k0_t2_loop.trips) : k0_off49 i b = ![512 * ((i 0).val + 1) + (8 * b.val + 0)] :=
  congrArg (fun n : ℕ => (![n] : Fin 1 → ℕ)) (token_word (i 0).val (i 0).isLt b.val (lt_of_lt_of_eq b.isLt t2_trips) 0#32 (by decide))
theorem off50_eq (b : Fin k0_t2_loop.trips) : k0_off50 b = ![0, 8 * b.val + 0, 0] :=
  congrArg (fun n : ℕ => (![0, n, 0] : Fin 3 → ℕ)) (group_word b.val (lt_of_lt_of_eq b.isLt t2_trips) 0#32 (by decide))
theorem off52_eq (i : grid0.Coords) (b : Fin k0_t2_loop.trips) : k0_off52 i b = ![512 * ((i 0).val + 1) + (8 * b.val + 0)] :=
  congrArg (fun n : ℕ => (![n] : Fin 1 → ℕ)) (token_word (i 0).val (i 0).isLt b.val (lt_of_lt_of_eq b.isLt t2_trips) 0#32 (by decide))
theorem off53_eq (b : Fin k0_t2_loop.trips) : k0_off53 b = ![1, 8 * b.val + 0, 0] :=
  congrArg (fun n : ℕ => (![1, n, 0] : Fin 3 → ℕ)) (group_word b.val (lt_of_lt_of_eq b.isLt t2_trips) 0#32 (by decide))
theorem off55_eq (i : grid0.Coords) (b : Fin k0_t2_loop.trips) : k0_off55 i b = ![512 * ((i 0).val + 1) + (8 * b.val + 1)] :=
  congrArg (fun n : ℕ => (![n] : Fin 1 → ℕ)) (token_word (i 0).val (i 0).isLt b.val (lt_of_lt_of_eq b.isLt t2_trips) 1#32 (by decide))
theorem off56_eq (b : Fin k0_t2_loop.trips) : k0_off56 b = ![0, 8 * b.val + 1, 0] :=
  congrArg (fun n : ℕ => (![0, n, 0] : Fin 3 → ℕ)) (group_word b.val (lt_of_lt_of_eq b.isLt t2_trips) 1#32 (by decide))
theorem off58_eq (i : grid0.Coords) (b : Fin k0_t2_loop.trips) : k0_off58 i b = ![512 * ((i 0).val + 1) + (8 * b.val + 1)] :=
  congrArg (fun n : ℕ => (![n] : Fin 1 → ℕ)) (token_word (i 0).val (i 0).isLt b.val (lt_of_lt_of_eq b.isLt t2_trips) 1#32 (by decide))
theorem off59_eq (b : Fin k0_t2_loop.trips) : k0_off59 b = ![1, 8 * b.val + 1, 0] :=
  congrArg (fun n : ℕ => (![1, n, 0] : Fin 3 → ℕ)) (group_word b.val (lt_of_lt_of_eq b.isLt t2_trips) 1#32 (by decide))
theorem off61_eq (i : grid0.Coords) (b : Fin k0_t2_loop.trips) : k0_off61 i b = ![512 * ((i 0).val + 1) + (8 * b.val + 2)] :=
  congrArg (fun n : ℕ => (![n] : Fin 1 → ℕ)) (token_word (i 0).val (i 0).isLt b.val (lt_of_lt_of_eq b.isLt t2_trips) 2#32 (by decide))
theorem off62_eq (b : Fin k0_t2_loop.trips) : k0_off62 b = ![0, 8 * b.val + 2, 0] :=
  congrArg (fun n : ℕ => (![0, n, 0] : Fin 3 → ℕ)) (group_word b.val (lt_of_lt_of_eq b.isLt t2_trips) 2#32 (by decide))
theorem off64_eq (i : grid0.Coords) (b : Fin k0_t2_loop.trips) : k0_off64 i b = ![512 * ((i 0).val + 1) + (8 * b.val + 2)] :=
  congrArg (fun n : ℕ => (![n] : Fin 1 → ℕ)) (token_word (i 0).val (i 0).isLt b.val (lt_of_lt_of_eq b.isLt t2_trips) 2#32 (by decide))
theorem off65_eq (b : Fin k0_t2_loop.trips) : k0_off65 b = ![1, 8 * b.val + 2, 0] :=
  congrArg (fun n : ℕ => (![1, n, 0] : Fin 3 → ℕ)) (group_word b.val (lt_of_lt_of_eq b.isLt t2_trips) 2#32 (by decide))
theorem off67_eq (i : grid0.Coords) (b : Fin k0_t2_loop.trips) : k0_off67 i b = ![512 * ((i 0).val + 1) + (8 * b.val + 3)] :=
  congrArg (fun n : ℕ => (![n] : Fin 1 → ℕ)) (token_word (i 0).val (i 0).isLt b.val (lt_of_lt_of_eq b.isLt t2_trips) 3#32 (by decide))
theorem off68_eq (b : Fin k0_t2_loop.trips) : k0_off68 b = ![0, 8 * b.val + 3, 0] :=
  congrArg (fun n : ℕ => (![0, n, 0] : Fin 3 → ℕ)) (group_word b.val (lt_of_lt_of_eq b.isLt t2_trips) 3#32 (by decide))
theorem off70_eq (i : grid0.Coords) (b : Fin k0_t2_loop.trips) : k0_off70 i b = ![512 * ((i 0).val + 1) + (8 * b.val + 3)] :=
  congrArg (fun n : ℕ => (![n] : Fin 1 → ℕ)) (token_word (i 0).val (i 0).isLt b.val (lt_of_lt_of_eq b.isLt t2_trips) 3#32 (by decide))
theorem off71_eq (b : Fin k0_t2_loop.trips) : k0_off71 b = ![1, 8 * b.val + 3, 0] :=
  congrArg (fun n : ℕ => (![1, n, 0] : Fin 3 → ℕ)) (group_word b.val (lt_of_lt_of_eq b.isLt t2_trips) 3#32 (by decide))
theorem off73_eq (i : grid0.Coords) (b : Fin k0_t2_loop.trips) : k0_off73 i b = ![512 * ((i 0).val + 1) + (8 * b.val + 4)] :=
  congrArg (fun n : ℕ => (![n] : Fin 1 → ℕ)) (token_word (i 0).val (i 0).isLt b.val (lt_of_lt_of_eq b.isLt t2_trips) 4#32 (by decide))
theorem off74_eq (b : Fin k0_t2_loop.trips) : k0_off74 b = ![0, 8 * b.val + 4, 0] :=
  congrArg (fun n : ℕ => (![0, n, 0] : Fin 3 → ℕ)) (group_word b.val (lt_of_lt_of_eq b.isLt t2_trips) 4#32 (by decide))
theorem off76_eq (i : grid0.Coords) (b : Fin k0_t2_loop.trips) : k0_off76 i b = ![512 * ((i 0).val + 1) + (8 * b.val + 4)] :=
  congrArg (fun n : ℕ => (![n] : Fin 1 → ℕ)) (token_word (i 0).val (i 0).isLt b.val (lt_of_lt_of_eq b.isLt t2_trips) 4#32 (by decide))
theorem off77_eq (b : Fin k0_t2_loop.trips) : k0_off77 b = ![1, 8 * b.val + 4, 0] :=
  congrArg (fun n : ℕ => (![1, n, 0] : Fin 3 → ℕ)) (group_word b.val (lt_of_lt_of_eq b.isLt t2_trips) 4#32 (by decide))
theorem off79_eq (i : grid0.Coords) (b : Fin k0_t2_loop.trips) : k0_off79 i b = ![512 * ((i 0).val + 1) + (8 * b.val + 5)] :=
  congrArg (fun n : ℕ => (![n] : Fin 1 → ℕ)) (token_word (i 0).val (i 0).isLt b.val (lt_of_lt_of_eq b.isLt t2_trips) 5#32 (by decide))
theorem off80_eq (b : Fin k0_t2_loop.trips) : k0_off80 b = ![0, 8 * b.val + 5, 0] :=
  congrArg (fun n : ℕ => (![0, n, 0] : Fin 3 → ℕ)) (group_word b.val (lt_of_lt_of_eq b.isLt t2_trips) 5#32 (by decide))
theorem off82_eq (i : grid0.Coords) (b : Fin k0_t2_loop.trips) : k0_off82 i b = ![512 * ((i 0).val + 1) + (8 * b.val + 5)] :=
  congrArg (fun n : ℕ => (![n] : Fin 1 → ℕ)) (token_word (i 0).val (i 0).isLt b.val (lt_of_lt_of_eq b.isLt t2_trips) 5#32 (by decide))
theorem off83_eq (b : Fin k0_t2_loop.trips) : k0_off83 b = ![1, 8 * b.val + 5, 0] :=
  congrArg (fun n : ℕ => (![1, n, 0] : Fin 3 → ℕ)) (group_word b.val (lt_of_lt_of_eq b.isLt t2_trips) 5#32 (by decide))
theorem off85_eq (i : grid0.Coords) (b : Fin k0_t2_loop.trips) : k0_off85 i b = ![512 * ((i 0).val + 1) + (8 * b.val + 6)] :=
  congrArg (fun n : ℕ => (![n] : Fin 1 → ℕ)) (token_word (i 0).val (i 0).isLt b.val (lt_of_lt_of_eq b.isLt t2_trips) 6#32 (by decide))
theorem off86_eq (b : Fin k0_t2_loop.trips) : k0_off86 b = ![0, 8 * b.val + 6, 0] :=
  congrArg (fun n : ℕ => (![0, n, 0] : Fin 3 → ℕ)) (group_word b.val (lt_of_lt_of_eq b.isLt t2_trips) 6#32 (by decide))
theorem off88_eq (i : grid0.Coords) (b : Fin k0_t2_loop.trips) : k0_off88 i b = ![512 * ((i 0).val + 1) + (8 * b.val + 6)] :=
  congrArg (fun n : ℕ => (![n] : Fin 1 → ℕ)) (token_word (i 0).val (i 0).isLt b.val (lt_of_lt_of_eq b.isLt t2_trips) 6#32 (by decide))
theorem off89_eq (b : Fin k0_t2_loop.trips) : k0_off89 b = ![1, 8 * b.val + 6, 0] :=
  congrArg (fun n : ℕ => (![1, n, 0] : Fin 3 → ℕ)) (group_word b.val (lt_of_lt_of_eq b.isLt t2_trips) 6#32 (by decide))
theorem off91_eq (i : grid0.Coords) (b : Fin k0_t2_loop.trips) : k0_off91 i b = ![512 * ((i 0).val + 1) + (8 * b.val + 7)] :=
  congrArg (fun n : ℕ => (![n] : Fin 1 → ℕ)) (token_word (i 0).val (i 0).isLt b.val (lt_of_lt_of_eq b.isLt t2_trips) 7#32 (by decide))
theorem off92_eq (b : Fin k0_t2_loop.trips) : k0_off92 b = ![0, 8 * b.val + 7, 0] :=
  congrArg (fun n : ℕ => (![0, n, 0] : Fin 3 → ℕ)) (group_word b.val (lt_of_lt_of_eq b.isLt t2_trips) 7#32 (by decide))
theorem off94_eq (i : grid0.Coords) (b : Fin k0_t2_loop.trips) : k0_off94 i b = ![512 * ((i 0).val + 1) + (8 * b.val + 7)] :=
  congrArg (fun n : ℕ => (![n] : Fin 1 → ℕ)) (token_word (i 0).val (i 0).isLt b.val (lt_of_lt_of_eq b.isLt t2_trips) 7#32 (by decide))
theorem off95_eq (b : Fin k0_t2_loop.trips) : k0_off95 b = ![1, 8 * b.val + 7, 0] :=
  congrArg (fun n : ℕ => (![1, n, 0] : Fin 3 → ℕ)) (group_word b.val (lt_of_lt_of_eq b.isLt t2_trips) 7#32 (by decide))
theorem off97_eq (i : grid0.Coords) (b : Fin k0_t4_loop.trips) : k0_off97 i b = ![512 * ((i 0).val + 1) + (8 * b.val + 0)] :=
  congrArg (fun n : ℕ => (![n] : Fin 1 → ℕ)) (token_word (i 0).val (i 0).isLt b.val (lt_of_lt_of_eq b.isLt t4_trips) 0#32 (by decide))
theorem off98_eq (b : Fin k0_t4_loop.trips) : k0_off98 b = ![0, 8 * b.val + 0, 0] :=
  congrArg (fun n : ℕ => (![0, n, 0] : Fin 3 → ℕ)) (group_word b.val (lt_of_lt_of_eq b.isLt t4_trips) 0#32 (by decide))
theorem off100_eq (i : grid0.Coords) (b : Fin k0_t4_loop.trips) : k0_off100 i b = ![512 * ((i 0).val + 1) + (8 * b.val + 0)] :=
  congrArg (fun n : ℕ => (![n] : Fin 1 → ℕ)) (token_word (i 0).val (i 0).isLt b.val (lt_of_lt_of_eq b.isLt t4_trips) 0#32 (by decide))
theorem off101_eq (b : Fin k0_t4_loop.trips) : k0_off101 b = ![1, 8 * b.val + 0, 0] :=
  congrArg (fun n : ℕ => (![1, n, 0] : Fin 3 → ℕ)) (group_word b.val (lt_of_lt_of_eq b.isLt t4_trips) 0#32 (by decide))
theorem off103_eq (i : grid0.Coords) (b : Fin k0_t4_loop.trips) : k0_off103 i b = ![512 * ((i 0).val + 1) + (8 * b.val + 1)] :=
  congrArg (fun n : ℕ => (![n] : Fin 1 → ℕ)) (token_word (i 0).val (i 0).isLt b.val (lt_of_lt_of_eq b.isLt t4_trips) 1#32 (by decide))
theorem off104_eq (b : Fin k0_t4_loop.trips) : k0_off104 b = ![0, 8 * b.val + 1, 0] :=
  congrArg (fun n : ℕ => (![0, n, 0] : Fin 3 → ℕ)) (group_word b.val (lt_of_lt_of_eq b.isLt t4_trips) 1#32 (by decide))
theorem off106_eq (i : grid0.Coords) (b : Fin k0_t4_loop.trips) : k0_off106 i b = ![512 * ((i 0).val + 1) + (8 * b.val + 1)] :=
  congrArg (fun n : ℕ => (![n] : Fin 1 → ℕ)) (token_word (i 0).val (i 0).isLt b.val (lt_of_lt_of_eq b.isLt t4_trips) 1#32 (by decide))
theorem off107_eq (b : Fin k0_t4_loop.trips) : k0_off107 b = ![1, 8 * b.val + 1, 0] :=
  congrArg (fun n : ℕ => (![1, n, 0] : Fin 3 → ℕ)) (group_word b.val (lt_of_lt_of_eq b.isLt t4_trips) 1#32 (by decide))
theorem off109_eq (i : grid0.Coords) (b : Fin k0_t4_loop.trips) : k0_off109 i b = ![512 * ((i 0).val + 1) + (8 * b.val + 2)] :=
  congrArg (fun n : ℕ => (![n] : Fin 1 → ℕ)) (token_word (i 0).val (i 0).isLt b.val (lt_of_lt_of_eq b.isLt t4_trips) 2#32 (by decide))
theorem off110_eq (b : Fin k0_t4_loop.trips) : k0_off110 b = ![0, 8 * b.val + 2, 0] :=
  congrArg (fun n : ℕ => (![0, n, 0] : Fin 3 → ℕ)) (group_word b.val (lt_of_lt_of_eq b.isLt t4_trips) 2#32 (by decide))
theorem off112_eq (i : grid0.Coords) (b : Fin k0_t4_loop.trips) : k0_off112 i b = ![512 * ((i 0).val + 1) + (8 * b.val + 2)] :=
  congrArg (fun n : ℕ => (![n] : Fin 1 → ℕ)) (token_word (i 0).val (i 0).isLt b.val (lt_of_lt_of_eq b.isLt t4_trips) 2#32 (by decide))
theorem off113_eq (b : Fin k0_t4_loop.trips) : k0_off113 b = ![1, 8 * b.val + 2, 0] :=
  congrArg (fun n : ℕ => (![1, n, 0] : Fin 3 → ℕ)) (group_word b.val (lt_of_lt_of_eq b.isLt t4_trips) 2#32 (by decide))
theorem off115_eq (i : grid0.Coords) (b : Fin k0_t4_loop.trips) : k0_off115 i b = ![512 * ((i 0).val + 1) + (8 * b.val + 3)] :=
  congrArg (fun n : ℕ => (![n] : Fin 1 → ℕ)) (token_word (i 0).val (i 0).isLt b.val (lt_of_lt_of_eq b.isLt t4_trips) 3#32 (by decide))
theorem off116_eq (b : Fin k0_t4_loop.trips) : k0_off116 b = ![0, 8 * b.val + 3, 0] :=
  congrArg (fun n : ℕ => (![0, n, 0] : Fin 3 → ℕ)) (group_word b.val (lt_of_lt_of_eq b.isLt t4_trips) 3#32 (by decide))
theorem off118_eq (i : grid0.Coords) (b : Fin k0_t4_loop.trips) : k0_off118 i b = ![512 * ((i 0).val + 1) + (8 * b.val + 3)] :=
  congrArg (fun n : ℕ => (![n] : Fin 1 → ℕ)) (token_word (i 0).val (i 0).isLt b.val (lt_of_lt_of_eq b.isLt t4_trips) 3#32 (by decide))
theorem off119_eq (b : Fin k0_t4_loop.trips) : k0_off119 b = ![1, 8 * b.val + 3, 0] :=
  congrArg (fun n : ℕ => (![1, n, 0] : Fin 3 → ℕ)) (group_word b.val (lt_of_lt_of_eq b.isLt t4_trips) 3#32 (by decide))
theorem off121_eq (i : grid0.Coords) (b : Fin k0_t4_loop.trips) : k0_off121 i b = ![512 * ((i 0).val + 1) + (8 * b.val + 4)] :=
  congrArg (fun n : ℕ => (![n] : Fin 1 → ℕ)) (token_word (i 0).val (i 0).isLt b.val (lt_of_lt_of_eq b.isLt t4_trips) 4#32 (by decide))
theorem off122_eq (b : Fin k0_t4_loop.trips) : k0_off122 b = ![0, 8 * b.val + 4, 0] :=
  congrArg (fun n : ℕ => (![0, n, 0] : Fin 3 → ℕ)) (group_word b.val (lt_of_lt_of_eq b.isLt t4_trips) 4#32 (by decide))
theorem off124_eq (i : grid0.Coords) (b : Fin k0_t4_loop.trips) : k0_off124 i b = ![512 * ((i 0).val + 1) + (8 * b.val + 4)] :=
  congrArg (fun n : ℕ => (![n] : Fin 1 → ℕ)) (token_word (i 0).val (i 0).isLt b.val (lt_of_lt_of_eq b.isLt t4_trips) 4#32 (by decide))
theorem off125_eq (b : Fin k0_t4_loop.trips) : k0_off125 b = ![1, 8 * b.val + 4, 0] :=
  congrArg (fun n : ℕ => (![1, n, 0] : Fin 3 → ℕ)) (group_word b.val (lt_of_lt_of_eq b.isLt t4_trips) 4#32 (by decide))
theorem off127_eq (i : grid0.Coords) (b : Fin k0_t4_loop.trips) : k0_off127 i b = ![512 * ((i 0).val + 1) + (8 * b.val + 5)] :=
  congrArg (fun n : ℕ => (![n] : Fin 1 → ℕ)) (token_word (i 0).val (i 0).isLt b.val (lt_of_lt_of_eq b.isLt t4_trips) 5#32 (by decide))
theorem off128_eq (b : Fin k0_t4_loop.trips) : k0_off128 b = ![0, 8 * b.val + 5, 0] :=
  congrArg (fun n : ℕ => (![0, n, 0] : Fin 3 → ℕ)) (group_word b.val (lt_of_lt_of_eq b.isLt t4_trips) 5#32 (by decide))
theorem off130_eq (i : grid0.Coords) (b : Fin k0_t4_loop.trips) : k0_off130 i b = ![512 * ((i 0).val + 1) + (8 * b.val + 5)] :=
  congrArg (fun n : ℕ => (![n] : Fin 1 → ℕ)) (token_word (i 0).val (i 0).isLt b.val (lt_of_lt_of_eq b.isLt t4_trips) 5#32 (by decide))
theorem off131_eq (b : Fin k0_t4_loop.trips) : k0_off131 b = ![1, 8 * b.val + 5, 0] :=
  congrArg (fun n : ℕ => (![1, n, 0] : Fin 3 → ℕ)) (group_word b.val (lt_of_lt_of_eq b.isLt t4_trips) 5#32 (by decide))
theorem off133_eq (i : grid0.Coords) (b : Fin k0_t4_loop.trips) : k0_off133 i b = ![512 * ((i 0).val + 1) + (8 * b.val + 6)] :=
  congrArg (fun n : ℕ => (![n] : Fin 1 → ℕ)) (token_word (i 0).val (i 0).isLt b.val (lt_of_lt_of_eq b.isLt t4_trips) 6#32 (by decide))
theorem off134_eq (b : Fin k0_t4_loop.trips) : k0_off134 b = ![0, 8 * b.val + 6, 0] :=
  congrArg (fun n : ℕ => (![0, n, 0] : Fin 3 → ℕ)) (group_word b.val (lt_of_lt_of_eq b.isLt t4_trips) 6#32 (by decide))
theorem off136_eq (i : grid0.Coords) (b : Fin k0_t4_loop.trips) : k0_off136 i b = ![512 * ((i 0).val + 1) + (8 * b.val + 6)] :=
  congrArg (fun n : ℕ => (![n] : Fin 1 → ℕ)) (token_word (i 0).val (i 0).isLt b.val (lt_of_lt_of_eq b.isLt t4_trips) 6#32 (by decide))
theorem off137_eq (b : Fin k0_t4_loop.trips) : k0_off137 b = ![1, 8 * b.val + 6, 0] :=
  congrArg (fun n : ℕ => (![1, n, 0] : Fin 3 → ℕ)) (group_word b.val (lt_of_lt_of_eq b.isLt t4_trips) 6#32 (by decide))
theorem off139_eq (i : grid0.Coords) (b : Fin k0_t4_loop.trips) : k0_off139 i b = ![512 * ((i 0).val + 1) + (8 * b.val + 7)] :=
  congrArg (fun n : ℕ => (![n] : Fin 1 → ℕ)) (token_word (i 0).val (i 0).isLt b.val (lt_of_lt_of_eq b.isLt t4_trips) 7#32 (by decide))
theorem off140_eq (b : Fin k0_t4_loop.trips) : k0_off140 b = ![0, 8 * b.val + 7, 0] :=
  congrArg (fun n : ℕ => (![0, n, 0] : Fin 3 → ℕ)) (group_word b.val (lt_of_lt_of_eq b.isLt t4_trips) 7#32 (by decide))
theorem off142_eq (i : grid0.Coords) (b : Fin k0_t4_loop.trips) : k0_off142 i b = ![512 * ((i 0).val + 1) + (8 * b.val + 7)] :=
  congrArg (fun n : ℕ => (![n] : Fin 1 → ℕ)) (token_word (i 0).val (i 0).isLt b.val (lt_of_lt_of_eq b.isLt t4_trips) 7#32 (by decide))
theorem off143_eq (b : Fin k0_t4_loop.trips) : k0_off143 b = ![1, 8 * b.val + 7, 0] :=
  congrArg (fun n : ℕ => (![1, n, 0] : Fin 3 → ℕ)) (group_word b.val (lt_of_lt_of_eq b.isLt t4_trips) 7#32 (by decide))

/-! ## The semaphores -/

theorem sem_at (s : ℕ) (hs : s < 2) (h : ∀ a, (![s] : Fin 1 → ℕ) a + S1.size a ≤ S2.size a) :
    ((cc0_scratch2.slice (Rect.unit (s := S2) ![s] S1.size h)).squeeze S_ squeezes_S1_S_).sem = (⟨6 + s, by show 6 + s < 8; omega⟩ : DmaSem sig) := by
  apply Fin.ext
  show 6 + (Shape.rowMajor S2 ((Rect.unit (s := S2) ![s] S1.size h).emb (Shape.reshapeEquiv squeezes_S1_S_.numel_eq fun i => i.elim0))).val = 6 + s
  have key : ∀ x : S1.Idx, (Shape.rowMajor S2 ((Rect.unit (s := S2) ![s] S1.size h).emb x)).val = s := by
    intro x
    refine (Shape.rowMajor_val_one _).trans ?_
    have hx : (x 0).val < 1 := (x 0).isLt
    show s + 1 * (x 0).val = s
    omega
  refine (congrArg (6 + ·) (key _)).trans ?_
  rfl

end Cert.Kernel4Ideal.Combine

end
-- ==== Proof.Combine.Trip.lean ====
/-
  The three loops of copies of the combine kernel: one trip, a group of eight tokens' sixteen copies; a whole loop, a
  step's 1024 copies.
-/
module

public import proofs.«01_k».proof.Proof.Combine.Steps
public import proofs.«01_k».proof.Proof.Combine.Words

@[expose] public section

noncomputable section

namespace Cert.Kernel4Ideal.Combine

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.Sem Idealize.SL.ProofMode
open Idealize.ShloMosaic.ValueIdx

variable {F : FTy → Type} [FloatOps F]

local notation "𝕄" => MT nD τ sig Unit (Elt F) ℕ (Pipeline.UD sig nD τ) ℕ

variable (c : Dev nD)

local notation "WP" => wp frame (wpE (defs₀ (F := F)) Variants.none c none) Set.univ

theorem sem_cell {k p : ℕ} (e : k % 2 = p) (hp : p < 2) (h : ∀ a, (![p] : Fin 1 → ℕ) a + S1.size a ≤ S2.size a) :
    ((cc0_scratch2.slice (Rect.unit (s := S2) ![p] S1.size h)).squeeze S_ squeezes_S1_S_).sem = cell k := by
  subst e; exact sem_at (k % 2) hp h

theorem part1_run {d : Data F} (hd : d.OK) {f : S2x512x1024.Idx → Elt F .f32} (i : grid0.Coords) {w0 : Memref sig .tc .vmem S512x1024 .f32} {hw0 : w0.IsWhole} {w1 : Memref sig .tc .vmem S512x128 .f32} {hw1 : w1.IsWhole} {w2 : Memref sig .tc .vmem S512x1024 .f32} {hw2 : w2.IsWhole}
    (h1 : k0_cond1 i = 1#1) (b : Fin k0_t1_loop.trips) {K : (Σ' (_ : BitVec 32) (v : Elt F .i32), k0_chk4 i v) → sProp 𝕄} :
    Issuing c d f 0 (16 * b.val + 0)
      ⊢ iprop((∀ v : BitVec 32, ∀ hv : v.toNat = d.row (1024 * 0 + (16 * b.val + 3)), ∀ hw : k0_chk4 i v,
            Issuing c d f 0 (16 * b.val + 3) -∗ K ⟨Scf.iv 0#32 1#32 b.val, v, hw⟩)
          -∗ WP (k0_part1 i (Memref.whole main_arg0) (Memref.isWhole_whole _) (Memref.whole main_arg1) (Memref.isWhole_whole _) (Memref.whole main_arg2) (Memref.isWhole_whole _) w0 hw0 w1 hw1 w2 hw2 (Memref.whole cc0_scratch0) (Memref.isWhole_whole _) (Memref.whole cc0_scratch1) (Memref.isWhole_whole _) cc0_scratch2 h1 0#32 1#32 b) K) := by
  have hb : b.val < 64 := lt_of_lt_of_eq b.isLt t1_trips
  have hk : 0 < 64 := by decide
  have hp : 0 % 2 = 0 := by decide
  rw [k0_part1_eq_skeleton]
  unfold k0_part1_skel
  iintro H Hk
  iapply (read1 c hd (k := 0) (r := 8 * b.val + 0) (j := 16 * b.val + 0) (off1_eq b) (fun _ h _ => h) hk (by omega) (by omega)) $$ [H]
  · iexact H
  iintro %v0 %e0 %g0 H
  iapply (sendA c hd (k := 0) (p := 0) (r := 8 * b.val + 0) (j := 16 * b.val + 0) e0 rfl (off2_eq b) (sem_cell hp (by decide) _) hk hp (by decide) (by omega) (by omega)) $$ [H]
  · iexact H
  iintro H
  iapply (read2 c hd (k := 0) (r := 8 * b.val + 0) (j := 16 * b.val + 1) (off4_eq b) (fun _ h _ => h) hk (by omega) (by omega)) $$ [H]
  · iexact H
  iintro %v1 %e1 %g1 H
  iapply (sendA c hd (k := 0) (p := 1) (r := 8 * b.val + 0) (j := 16 * b.val + 1) e1 rfl (off5_eq b) (sem_cell hp (by decide) _) hk hp (by decide) (by omega) (by omega)) $$ [H]
  · iexact H
  iintro H
  iapply (read1 c hd (k := 0) (r := 8 * b.val + 1) (j := 16 * b.val + 2) (off7_eq b) (fun _ h _ => h) hk (by omega) (by omega)) $$ [H]
  · iexact H
  iintro %v2 %e2 %g2 H
  iapply (sendA c hd (k := 0) (p := 0) (r := 8 * b.val + 1) (j := 16 * b.val + 2) e2 rfl (off8_eq b) (sem_cell hp (by decide) _) hk hp (by decide) (by omega) (by omega)) $$ [H]
  · iexact H
  iintro H
  iapply (read2 c hd (k := 0) (r := 8 * b.val + 1) (j := 16 * b.val + 3) (off10_eq b) (fun _ h _ => h) hk (by omega) (by omega)) $$ [H]
  · iexact H
  iintro %v3 %e3 %g3 H
  iapply (le_wp_ret _ _ _ _ _)
  ispecialize Hk $$ %v3
  ispecialize Hk $$ %e3
  ispecialize Hk $$ %g3
  iapply Hk
  iexact H

theorem part2_run {d : Data F} (hd : d.OK) {f : S2x512x1024.Idx → Elt F .f32} (i : grid0.Coords) {w0 : Memref sig .tc .vmem S512x1024 .f32} {hw0 : w0.IsWhole} {w1 : Memref sig .tc .vmem S512x128 .f32} {hw1 : w1.IsWhole} {w2 : Memref sig .tc .vmem S512x1024 .f32} {hw2 : w2.IsWhole}
    (h1 : k0_cond1 i = 1#1) (b : Fin k0_t1_loop.trips) {v3 : BitVec 32} (e3 : v3.toNat = d.row (1024 * 0 + (16 * b.val + 3))) (g3 : k0_chk4 i v3) {K : (Σ' (v : Elt F .i32), k0_chk8 i v) → sProp 𝕄} :
    Issuing c d f 0 (16 * b.val + 3)
      ⊢ iprop((∀ v : BitVec 32, ∀ hv : v.toNat = d.row (1024 * 0 + (16 * b.val + 7)), ∀ hw : k0_chk8 i v,
            Issuing c d f 0 (16 * b.val + 7) -∗ K ⟨v, hw⟩)
          -∗ WP (k0_part2 i (Memref.whole main_arg0) (Memref.isWhole_whole _) (Memref.whole main_arg1) (Memref.isWhole_whole _) (Memref.whole main_arg2) (Memref.isWhole_whole _) w0 hw0 w1 hw1 w2 hw2 (Memref.whole cc0_scratch0) (Memref.isWhole_whole _) (Memref.whole cc0_scratch1) (Memref.isWhole_whole _) cc0_scratch2 h1 b (Scf.iv 0#32 1#32 b.val) v3 g3) K) := by
  have hb : b.val < 64 := lt_of_lt_of_eq b.isLt t1_trips
  have hk : 0 < 64 := by decide
  have hp : 0 % 2 = 0 := by decide
  rw [k0_part2_eq_skeleton]
  unfold k0_part2_skel
  iintro H Hk
  iapply (sendA c hd (k := 0) (p := 1) (r := 8 * b.val + 1) (j := 16 * b.val + 3) e3 rfl (off11_eq b) (sem_cell hp (by decide) _) hk hp (by decide) (by omega) (by omega)) $$ [H]
  · iexact H
  iintro H
  iapply (read1 c hd (k := 0) (r := 8 * b.val + 2) (j := 16 * b.val + 4) (off13_eq b) (fun _ h _ => h) hk (by omega) (by omega)) $$ [H]
  · iexact H
  iintro %v4 %e4 %g4 H
  iapply (sendA c hd (k := 0) (p := 0) (r := 8 * b.val + 2) (j := 16 * b.val + 4) e4 rfl (off14_eq b) (sem_cell hp (by decide) _) hk hp (by decide) (by omega) (by omega)) $$ [H]
  · iexact H
  iintro H
  iapply (read2 c hd (k := 0) (r := 8 * b.val + 2) (j := 16 * b.val + 5) (off16_eq b) (fun _ h _ => h) hk (by omega) (by omega)) $$ [H]
  · iexact H
  iintro %v5 %e5 %g5 H
  iapply (sendA c hd (k := 0) (p := 1) (r := 8 * b.val + 2) (j := 16 * b.val + 5) e5 rfl (off17_eq b) (sem_cell hp (by decide) _) hk hp (by decide) (by omega) (by omega)) $$ [H]
  · iexact H
  iintro H
  iapply (read1 c hd (k := 0) (r := 8 * b.val + 3) (j := 16 * b.val + 6) (off19_eq b) (fun _ h _ => h) hk (by omega) (by omega)) $$ [H]
  · iexact H
  iintro %v6 %e6 %g6 H
  iapply (sendA c hd (k := 0) (p := 0) (r := 8 * b.val + 3) (j := 16 * b.val + 6) e6 rfl (off20_eq b) (sem_cell hp (by decide) _) hk hp (by decide) (by omega) (by omega)) $$ [H]
  · iexact H
  iintro H
  iapply (read2 c hd (k := 0) (r := 8 * b.val + 3) (j := 16 * b.val + 7) (off22_eq b) (fun _ h _ => h) hk (by omega) (by omega)) $$ [H]
  · iexact H
  iintro %v7 %e7 %g7 H
  iapply (le_wp_ret _ _ _ _ _)
  ispecialize Hk $$ %v7
  ispecialize Hk $$ %e7
  ispecialize Hk $$ %g7
  iapply Hk
  iexact H

theorem part3_run {d : Data F} (hd : d.OK) {f : S2x512x1024.Idx → Elt F .f32} (i : grid0.Coords) {w0 : Memref sig .tc .vmem S512x1024 .f32} {hw0 : w0.IsWhole} {w1 : Memref sig .tc .vmem S512x128 .f32} {hw1 : w1.IsWhole} {w2 : Memref sig .tc .vmem S512x1024 .f32} {hw2 : w2.IsWhole}
    (h1 : k0_cond1 i = 1#1) (b : Fin k0_t1_loop.trips) {v7 : BitVec 32} (e7 : v7.toNat = d.row (1024 * 0 + (16 * b.val + 7))) (g7 : k0_chk8 i v7) {K : (Σ' (v : Elt F .i32), k0_chk12 i v) → sProp 𝕄} :
    Issuing c d f 0 (16 * b.val + 7)
      ⊢ iprop((∀ v : BitVec 32, ∀ hv : v.toNat = d.row (1024 * 0 + (16 * b.val + 11)), ∀ hw : k0_chk12 i v,
            Issuing c d f 0 (16 * b.val + 11) -∗ K ⟨v, hw⟩)
          -∗ WP (k0_part3 i (Memref.whole main_arg0) (Memref.isWhole_whole _) (Memref.whole main_arg1) (Memref.isWhole_whole _) (Memref.whole main_arg2) (Memref.isWhole_whole _) w0 hw0 w1 hw1 w2 hw2 (Memref.whole cc0_scratch0) (Memref.isWhole_whole _) (Memref.whole cc0_scratch1) (Memref.isWhole_whole _) cc0_scratch2 h1 b (Scf.iv 0#32 1#32 b.val) v7 g7) K) := by
  have hb : b.val < 64 := lt_of_lt_of_eq b.isLt t1_trips
  have hk : 0 < 64 := by decide
  have hp : 0 % 2 = 0 := by decide
  rw [k0_part3_eq_skeleton]
  unfold k0_part3_skel
  iintro H Hk
  iapply (sendA c hd (k := 0) (p := 1) (r := 8 * b.val + 3) (j := 16 * b.val + 7) e7 rfl (off23_eq b) (sem_cell hp (by decide) _) hk hp (by decide) (by omega) (by omega)) $$ [H]
  · iexact H
  iintro H
  iapply (read1 c hd (k := 0) (r := 8 * b.val + 4) (j := 16 * b.val + 8) (off25_eq b) (fun _ h _ => h) hk (by omega) (by omega)) $$ [H]
  · iexact H
  iintro %v8 %e8 %g8 H
  iapply (sendA c hd (k := 0) (p := 0) (r := 8 * b.val + 4) (j := 16 * b.val + 8) e8 rfl (off26_eq b) (sem_cell hp (by decide) _) hk hp (by decide) (by omega) (by omega)) $$ [H]
  · iexact H
  iintro H
  iapply (read2 c hd (k := 0) (r := 8 * b.val + 4) (j := 16 * b.val + 9) (off28_eq b) (fun _ h _ => h) hk (by omega) (by omega)) $$ [H]
  · iexact H
  iintro %v9 %e9 %g9 H
  iapply (sendA c hd (k := 0) (p := 1) (r := 8 * b.val + 4) (j := 16 * b.val + 9) e9 rfl (off29_eq b) (sem_cell hp (by decide) _) hk hp (by decide) (by omega) (by omega)) $$ [H]
  · iexact H
  iintro H
  iapply (read1 c hd (k := 0) (r := 8 * b.val + 5) (j := 16 * b.val + 10) (off31_eq b) (fun _ h _ => h) hk (by omega) (by omega)) $$ [H]
  · iexact H
  iintro %v10 %e10 %g10 H
  iapply (sendA c hd (k := 0) (p := 0) (r := 8 * b.val + 5) (j := 16 * b.val + 10) e10 rfl (off32_eq b) (sem_cell hp (by decide) _) hk hp (by decide) (by omega) (by omega)) $$ [H]
  · iexact H
  iintro H
  iapply (read2 c hd (k := 0) (r := 8 * b.val + 5) (j := 16 * b.val + 11) (off34_eq b) (fun _ h _ => h) hk (by omega) (by omega)) $$ [H]
  · iexact H
  iintro %v11 %e11 %g11 H
  iapply (le_wp_ret _ _ _ _ _)
  ispecialize Hk $$ %v11
  ispecialize Hk $$ %e11
  ispecialize Hk $$ %g11
  iapply Hk
  iexact H

theorem part4_run {d : Data F} (hd : d.OK) {f : S2x512x1024.Idx → Elt F .f32} (i : grid0.Coords) {w0 : Memref sig .tc .vmem S512x1024 .f32} {hw0 : w0.IsWhole} {w1 : Memref sig .tc .vmem S512x128 .f32} {hw1 : w1.IsWhole} {w2 : Memref sig .tc .vmem S512x1024 .f32} {hw2 : w2.IsWhole}
    (h1 : k0_cond1 i = 1#1) (b : Fin k0_t1_loop.trips) {v11 : BitVec 32} (e11 : v11.toNat = d.row (1024 * 0 + (16 * b.val + 11))) (g11 : k0_chk12 i v11) {K : (Σ' (v : Elt F .i32), k0_chk16 i v) → sProp 𝕄} :
    Issuing c d f 0 (16 * b.val + 11)
      ⊢ iprop((∀ v : BitVec 32, ∀ hv : v.toNat = d.row (1024 * 0 + (16 * b.val + 15)), ∀ hw : k0_chk16 i v,
            Issuing c d f 0 (16 * b.val + 15) -∗ K ⟨v, hw⟩)
          -∗ WP (k0_part4 i (Memref.whole main_arg0) (Memref.isWhole_whole _) (Memref.whole main_arg1) (Memref.isWhole_whole _) (Memref.whole main_arg2) (Memref.isWhole_whole _) w0 hw0 w1 hw1 w2 hw2 (Memref.whole cc0_scratch0) (Memref.isWhole_whole _) (Memref.whole cc0_scratch1) (Memref.isWhole_whole _) cc0_scratch2 h1 b (Scf.iv 0#32 1#32 b.val) v11 g11) K) := by
  have hb : b.val < 64 := lt_of_lt_of_eq b.isLt t1_trips
  have hk : 0 < 64 := by decide
  have hp : 0 % 2 = 0 := by decide
  rw [k0_part4_eq_skeleton]
  unfold k0_part4_skel
  iintro H Hk
  iapply (sendA c hd (k := 0) (p := 1) (r := 8 * b.val + 5) (j := 16 * b.val + 11) e11 rfl (off35_eq b) (sem_cell hp (by decide) _) hk hp (by decide) (by omega) (by omega)) $$ [H]
  · iexact H
  iintro H
  iapply (read1 c hd (k := 0) (r := 8 * b.val + 6) (j := 16 * b.val + 12) (off37_eq b) (fun _ h _ => h) hk (by omega) (by omega)) $$ [H]
  · iexact H
  iintro %v12 %e12 %g12 H
  iapply (sendA c hd (k := 0) (p := 0) (r := 8 * b.val + 6) (j := 16 * b.val + 12) e12 rfl (off38_eq b) (sem_cell hp (by decide) _) hk hp (by decide) (by omega) (by omega)) $$ [H]
  · iexact H
  iintro H
  iapply (read2 c hd (k := 0) (r := 8 * b.val + 6) (j := 16 * b.val + 13) (off40_eq b) (fun _ h _ => h) hk (by omega) (by omega)) $$ [H]
  · iexact H
  iintro %v13 %e13 %g13 H
  iapply (sendA c hd (k := 0) (p := 1) (r := 8 * b.val + 6) (j := 16 * b.val + 13) e13 rfl (off41_eq b) (sem_cell hp (by decide) _) hk hp (by decide) (by omega) (by omega)) $$ [H]
  · iexact H
  iintro H
  iapply (read1 c hd (k := 0) (r := 8 * b.val + 7) (j := 16 * b.val + 14) (off43_eq b) (fun _ h _ => h) hk (by omega) (by omega)) $$ [H]
  · iexact H
  iintro %v14 %e14 %g14 H
  iapply (sendA c hd (k := 0) (p := 0) (r := 8 * b.val + 7) (j := 16 * b.val + 14) e14 rfl (off44_eq b) (sem_cell hp (by decide) _) hk hp (by decide) (by omega) (by omega)) $$ [H]
  · iexact H
  iintro H
  iapply (read2 c hd (k := 0) (r := 8 * b.val + 7) (j := 16 * b.val + 15) (off46_eq b) (fun _ h _ => h) hk (by omega) (by omega)) $$ [H]
  · iexact H
  iintro %v15 %e15 %g15 H
  iapply (le_wp_ret _ _ _ _ _)
  ispecialize Hk $$ %v15
  ispecialize Hk $$ %e15
  ispecialize Hk $$ %g15
  iapply Hk
  iexact H

/-- One trip of the loop: sixteen copies. -/
theorem trip1_run {d : Data F} (hd : d.OK) {f : S2x512x1024.Idx → Elt F .f32} (i : grid0.Coords) {w0 : Memref sig .tc .vmem S512x1024 .f32} {hw0 : w0.IsWhole} {w1 : Memref sig .tc .vmem S512x128 .f32} {hw1 : w1.IsWhole} {w2 : Memref sig .tc .vmem S512x1024 .f32} {hw2 : w2.IsWhole}
    (h1 : k0_cond1 i = 1#1) (b : Fin k0_t1_loop.trips) (acc : Unit) :
    Issuing c d f 0 (16 * b.val)
      ⊢ WP (k0_t1_body i (Memref.whole main_arg0) (Memref.isWhole_whole _) (Memref.whole main_arg1) (Memref.isWhole_whole _) (Memref.whole main_arg2) (Memref.isWhole_whole _) w0 hw0 w1 hw1 w2 hw2 (Memref.whole cc0_scratch0) (Memref.isWhole_whole _) (Memref.whole cc0_scratch1) (Memref.isWhole_whole _) cc0_scratch2 h1 b acc) (fun _ => Issuing c d f 0 (16 * (b.val + 1))) := by
  have hb : b.val < 64 := lt_of_lt_of_eq b.isLt t1_trips
  have hk : 0 < 64 := by decide
  have hp : 0 % 2 = 0 := by decide
  unfold k0_t1_body
  iintro H
  iapply (run_bind c)
  iapply (part1_run c hd i h1 b) $$ [H]
  · iexact H
  iintro %v3 %e3 %g3 H
  iapply (run_bind c)
  iapply (part2_run c hd i h1 b e3 g3) $$ [H]
  · iexact H
  iintro %v7 %e7 %g7 H
  iapply (run_bind c)
  iapply (part3_run c hd i h1 b e7 g7) $$ [H]
  · iexact H
  iintro %v11 %e11 %g11 H
  iapply (run_bind c)
  iapply (part4_run c hd i h1 b e11 g11) $$ [H]
  · iexact H
  iintro %v15 %e15 %g15 H
  iapply (sendA c hd (k := 0) (p := 1) (r := 8 * b.val + 7) (j := 16 * b.val + 15) e15 rfl (off47_eq b) (sem_cell hp (by decide) _) hk hp (by decide) (by omega) (by omega)) $$ [H]
  · iexact H
  iintro H
  iapply (le_wp_ret _ _ _ _ _)
  have e : 16 * b.val + 15 + 1 = 16 * (b.val + 1) := by omega
  rw [← e]
  iexact H

/-- The loop: a step's copies, all of them. -/
theorem issue1 {d : Data F} (hd : d.OK) {f : S2x512x1024.Idx → Elt F .f32} (i : grid0.Coords) {w0 : Memref sig .tc .vmem S512x1024 .f32} {hw0 : w0.IsWhole} {w1 : Memref sig .tc .vmem S512x128 .f32} {hw1 : w1.IsWhole} {w2 : Memref sig .tc .vmem S512x1024 .f32} {hw2 : w2.IsWhole}
    (h1 : k0_cond1 i = 1#1) (hok : k0_t1_loop.OK) {α : Type} {kk : Unit → Prog (TpuEff nD τ sig (Elt F) Λ₀ .tc) α} {Q : α → sProp 𝕄} :
    Issuing c d f 0 0
      ⊢ iprop((Issuing c d f 0 1024 -∗ WP (kk ⟨⟩) Q)
          -∗ WP (Scf.Loop.for k0_t1_loop hok ⟨⟩ (k0_t1_body i (Memref.whole main_arg0) (Memref.isWhole_whole _) (Memref.whole main_arg1) (Memref.isWhole_whole _) (Memref.whole main_arg2) (Memref.isWhole_whole _) w0 hw0 w1 hw1 w2 hw2 (Memref.whole cc0_scratch0) (Memref.isWhole_whole _) (Memref.whole cc0_scratch1) (Memref.isWhole_whole _) cc0_scratch2 h1) >>= kk) Q) := by
  iintro H Hk
  iapply (Scf.wp_for_bind frame (wpE (defs₀ (F := F)) Variants.none c none) Set.univ k0_t1_loop.lb k0_t1_loop.ub k0_t1_loop.st hok ⟨⟩ _
    (fun k _ => Issuing c d f 0 (16 * k)) (fun k acc => trip1_run c hd i h1 k acc)) $$ [H]
  · iexact H
  iintro %acc H
  have e : 16 * Scf.trips k0_t1_loop.lb k0_t1_loop.ub k0_t1_loop.st = 1024 := congrArg (16 * ·) t1_trips
  rw [e]
  iapply Hk
  iexact H

theorem part5_run {d : Data F} (hd : d.OK) {f : S2x512x1024.Idx → Elt F .f32} (i : grid0.Coords) {w0 : Memref sig .tc .vmem S512x1024 .f32} {hw0 : w0.IsWhole} {w1 : Memref sig .tc .vmem S512x128 .f32} {hw1 : w1.IsWhole} {w2 : Memref sig .tc .vmem S512x1024 .f32} {hw2 : w2.IsWhole}
    (h2 : k0_cond2 i = 1#1) (h3 : k0_cond3 i = 1#1) (b : Fin k0_t2_loop.trips) {K : (Σ' (_ : BitVec 32) (v : Elt F .i32), k0_chk20 i v) → sProp 𝕄} :
    Issuing c d f ((i 0).val + 1) (16 * b.val + 0)
      ⊢ iprop((∀ v : BitVec 32, ∀ hv : v.toNat = d.row (1024 * ((i 0).val + 1) + (16 * b.val + 3)), ∀ hw : k0_chk20 i v,
            Issuing c d f ((i 0).val + 1) (16 * b.val + 3) -∗ K ⟨Scf.iv 0#32 1#32 b.val, v, hw⟩)
          -∗ WP (k0_part5 i (Memref.whole main_arg0) (Memref.isWhole_whole _) (Memref.whole main_arg1) (Memref.isWhole_whole _) (Memref.whole main_arg2) (Memref.isWhole_whole _) w0 hw0 w1 hw1 w2 hw2 (Memref.whole cc0_scratch0) (Memref.isWhole_whole _) (Memref.whole cc0_scratch1) (Memref.isWhole_whole _) cc0_scratch2 h2 h3 (Scalar.addi (BitVec.ofNat 32 (i 0).val) 1#32) 0#32 1#32 b) K) := by
  have hb : b.val < 64 := lt_of_lt_of_eq b.isLt t2_trips
  have hk : (i 0).val + 1 < 64 := (cond3_iff i).mp h3
  have hpi : (i 0).val % 2 = 0 := (cond2_iff i).mp h2
  have hp : ((i 0).val + 1) % 2 = 1 := by omega
  rw [k0_part5_eq_skeleton]
  unfold k0_part5_skel
  iintro H Hk
  iapply (read1 c hd (k := ((i 0).val + 1)) (r := 8 * b.val + 0) (j := 16 * b.val + 0) (off49_eq i b) (fun _ h _ _ => h) hk (by omega) (by omega)) $$ [H]
  · iexact H
  iintro %v0 %e0 %g0 H
  iapply (sendB c hd (k := ((i 0).val + 1)) (p := 0) (r := 8 * b.val + 0) (j := 16 * b.val + 0) e0 rfl (off50_eq b) (sem_cell hp (by decide) _) hk hp (by decide) (by omega) (by omega)) $$ [H]
  · iexact H
  iintro H
  iapply (read2 c hd (k := ((i 0).val + 1)) (r := 8 * b.val + 0) (j := 16 * b.val + 1) (off52_eq i b) (fun _ h _ _ => h) hk (by omega) (by omega)) $$ [H]
  · iexact H
  iintro %v1 %e1 %g1 H
  iapply (sendB c hd (k := ((i 0).val + 1)) (p := 1) (r := 8 * b.val + 0) (j := 16 * b.val + 1) e1 rfl (off53_eq b) (sem_cell hp (by decide) _) hk hp (by decide) (by omega) (by omega)) $$ [H]
  · iexact H
  iintro H
  iapply (read1 c hd (k := ((i 0).val + 1)) (r := 8 * b.val + 1) (j := 16 * b.val + 2) (off55_eq i b) (fun _ h _ _ => h) hk (by omega) (by omega)) $$ [H]
  · iexact H
  iintro %v2 %e2 %g2 H
  iapply (sendB c hd (k := ((i 0).val + 1)) (p := 0) (r := 8 * b.val + 1) (j := 16 * b.val + 2) e2 rfl (off56_eq b) (sem_cell hp (by decide) _) hk hp (by decide) (by omega) (by omega)) $$ [H]
  · iexact H
  iintro H
  iapply (read2 c hd (k := ((i 0).val + 1)) (r := 8 * b.val + 1) (j := 16 * b.val + 3) (off58_eq i b) (fun _ h _ _ => h) hk (by omega) (by omega)) $$ [H]
  · iexact H
  iintro %v3 %e3 %g3 H
  iapply (le_wp_ret _ _ _ _ _)
  ispecialize Hk $$ %v3
  ispecialize Hk $$ %e3
  ispecialize Hk $$ %g3
  iapply Hk
  iexact H

theorem part6_run {d : Data F} (hd : d.OK) {f : S2x512x1024.Idx → Elt F .f32} (i : grid0.Coords) {w0 : Memref sig .tc .vmem S512x1024 .f32} {hw0 : w0.IsWhole} {w1 : Memref sig .tc .vmem S512x128 .f32} {hw1 : w1.IsWhole} {w2 : Memref sig .tc .vmem S512x1024 .f32} {hw2 : w2.IsWhole}
    (h2 : k0_cond2 i = 1#1) (h3 : k0_cond3 i = 1#1) (b : Fin k0_t2_loop.trips) {v3 : BitVec 32} (e3 : v3.toNat = d.row (1024 * ((i 0).val + 1) + (16 * b.val + 3))) (g3 : k0_chk20 i v3) {K : (Σ' (v : Elt F .i32), k0_chk24 i v) → sProp 𝕄} :
    Issuing c d f ((i 0).val + 1) (16 * b.val + 3)
      ⊢ iprop((∀ v : BitVec 32, ∀ hv : v.toNat = d.row (1024 * ((i 0).val + 1) + (16 * b.val + 7)), ∀ hw : k0_chk24 i v,
            Issuing c d f ((i 0).val + 1) (16 * b.val + 7) -∗ K ⟨v, hw⟩)
          -∗ WP (k0_part6 i (Memref.whole main_arg0) (Memref.isWhole_whole _) (Memref.whole main_arg1) (Memref.isWhole_whole _) (Memref.whole main_arg2) (Memref.isWhole_whole _) w0 hw0 w1 hw1 w2 hw2 (Memref.whole cc0_scratch0) (Memref.isWhole_whole _) (Memref.whole cc0_scratch1) (Memref.isWhole_whole _) cc0_scratch2 h2 h3 (Scalar.addi (BitVec.ofNat 32 (i 0).val) 1#32) b (Scf.iv 0#32 1#32 b.val) v3 g3) K) := by
  have hb : b.val < 64 := lt_of_lt_of_eq b.isLt t2_trips
  have hk : (i 0).val + 1 < 64 := (cond3_iff i).mp h3
  have hpi : (i 0).val % 2 = 0 := (cond2_iff i).mp h2
  have hp : ((i 0).val + 1) % 2 = 1 := by omega
  rw [k0_part6_eq_skeleton]
  unfold k0_part6_skel
  iintro H Hk
  iapply (sendB c hd (k := ((i 0).val + 1)) (p := 1) (r := 8 * b.val + 1) (j := 16 * b.val + 3) e3 rfl (off59_eq b) (sem_cell hp (by decide) _) hk hp (by decide) (by omega) (by omega)) $$ [H]
  · iexact H
  iintro H
  iapply (read1 c hd (k := ((i 0).val + 1)) (r := 8 * b.val + 2) (j := 16 * b.val + 4) (off61_eq i b) (fun _ h _ _ => h) hk (by omega) (by omega)) $$ [H]
  · iexact H
  iintro %v4 %e4 %g4 H
  iapply (sendB c hd (k := ((i 0).val + 1)) (p := 0) (r := 8 * b.val + 2) (j := 16 * b.val + 4) e4 rfl (off62_eq b) (sem_cell hp (by decide) _) hk hp (by decide) (by omega) (by omega)) $$ [H]
  · iexact H
  iintro H
  iapply (read2 c hd (k := ((i 0).val + 1)) (r := 8 * b.val + 2) (j := 16 * b.val + 5) (off64_eq i b) (fun _ h _ _ => h) hk (by omega) (by omega)) $$ [H]
  · iexact H
  iintro %v5 %e5 %g5 H
  iapply (sendB c hd (k := ((i 0).val + 1)) (p := 1) (r := 8 * b.val + 2) (j := 16 * b.val + 5) e5 rfl (off65_eq b) (sem_cell hp (by decide) _) hk hp (by decide) (by omega) (by omega)) $$ [H]
  · iexact H
  iintro H
  iapply (read1 c hd (k := ((i 0).val + 1)) (r := 8 * b.val + 3) (j := 16 * b.val + 6) (off67_eq i b) (fun _ h _ _ => h) hk (by omega) (by omega)) $$ [H]
  · iexact H
  iintro %v6 %e6 %g6 H
  iapply (sendB c hd (k := ((i 0).val + 1)) (p := 0) (r := 8 * b.val + 3) (j := 16 * b.val + 6) e6 rfl (off68_eq b) (sem_cell hp (by decide) _) hk hp (by decide) (by omega) (by omega)) $$ [H]
  · iexact H
  iintro H
  iapply (read2 c hd (k := ((i 0).val + 1)) (r := 8 * b.val + 3) (j := 16 * b.val + 7) (off70_eq i b) (fun _ h _ _ => h) hk (by omega) (by omega)) $$ [H]
  · iexact H
  iintro %v7 %e7 %g7 H
  iapply (le_wp_ret _ _ _ _ _)
  ispecialize Hk $$ %v7
  ispecialize Hk $$ %e7
  ispecialize Hk $$ %g7
  iapply Hk
  iexact H

theorem part7_run {d : Data F} (hd : d.OK) {f : S2x512x1024.Idx → Elt F .f32} (i : grid0.Coords) {w0 : Memref sig .tc .vmem S512x1024 .f32} {hw0 : w0.IsWhole} {w1 : Memref sig .tc .vmem S512x128 .f32} {hw1 : w1.IsWhole} {w2 : Memref sig .tc .vmem S512x1024 .f32} {hw2 : w2.IsWhole}
    (h2 : k0_cond2 i = 1#1) (h3 : k0_cond3 i = 1#1) (b : Fin k0_t2_loop.trips) {v7 : BitVec 32} (e7 : v7.toNat = d.row (1024 * ((i 0).val + 1) + (16 * b.val + 7))) (g7 : k0_chk24 i v7) {K : (Σ' (v : Elt F .i32), k0_chk28 i v) → sProp 𝕄} :
    Issuing c d f ((i 0).val + 1) (16 * b.val + 7)
      ⊢ iprop((∀ v : BitVec 32, ∀ hv : v.toNat = d.row (1024 * ((i 0).val + 1) + (16 * b.val + 11)), ∀ hw : k0_chk28 i v,
            Issuing c d f ((i 0).val + 1) (16 * b.val + 11) -∗ K ⟨v, hw⟩)
          -∗ WP (k0_part7 i (Memref.whole main_arg0) (Memref.isWhole_whole _) (Memref.whole main_arg1) (Memref.isWhole_whole _) (Memref.whole main_arg2) (Memref.isWhole_whole _) w0 hw0 w1 hw1 w2 hw2 (Memref.whole cc0_scratch0) (Memref.isWhole_whole _) (Memref.whole cc0_scratch1) (Memref.isWhole_whole _) cc0_scratch2 h2 h3 (Scalar.addi (BitVec.ofNat 32 (i 0).val) 1#32) b (Scf.iv 0#32 1#32 b.val) v7 g7) K) := by
  have hb : b.val < 64 := lt_of_lt_of_eq b.isLt t2_trips
  have hk : (i 0).val + 1 < 64 := (cond3_iff i).mp h3
  have hpi : (i 0).val % 2 = 0 := (cond2_iff i).mp h2
  have hp : ((i 0).val + 1) % 2 = 1 := by omega
  rw [k0_part7_eq_skeleton]
  unfold k0_part7_skel
  iintro H Hk
  iapply (sendB c hd (k := ((i 0).val + 1)) (p := 1) (r := 8 * b.val + 3) (j := 16 * b.val + 7) e7 rfl (off71_eq b) (sem_cell hp (by decide) _) hk hp (by decide) (by omega) (by omega)) $$ [H]
  · iexact H
  iintro H
  iapply (read1 c hd (k := ((i 0).val + 1)) (r := 8 * b.val + 4) (j := 16 * b.val + 8) (off73_eq i b) (fun _ h _ _ => h) hk (by omega) (by omega)) $$ [H]
  · iexact H
  iintro %v8 %e8 %g8 H
  iapply (sendB c hd (k := ((i 0).val + 1)) (p := 0) (r := 8 * b.val + 4) (j := 16 * b.val + 8) e8 rfl (off74_eq b) (sem_cell hp (by decide) _) hk hp (by decide) (by omega) (by omega)) $$ [H]
  · iexact H
  iintro H
  iapply (read2 c hd (k := ((i 0).val + 1)) (r := 8 * b.val + 4) (j := 16 * b.val + 9) (off76_eq i b) (fun _ h _ _ => h) hk (by omega) (by omega)) $$ [H]
  · iexact H
  iintro %v9 %e9 %g9 H
  iapply (sendB c hd (k := ((i 0).val + 1)) (p := 1) (r := 8 * b.val + 4) (j := 16 * b.val + 9) e9 rfl (off77_eq b) (sem_cell hp (by decide) _) hk hp (by decide) (by omega) (by omega)) $$ [H]
  · iexact H
  iintro H
  iapply (read1 c hd (k := ((i 0).val + 1)) (r := 8 * b.val + 5) (j := 16 * b.val + 10) (off79_eq i b) (fun _ h _ _ => h) hk (by omega) (by omega)) $$ [H]
  · iexact H
  iintro %v10 %e10 %g10 H
  iapply (sendB c hd (k := ((i 0).val + 1)) (p := 0) (r := 8 * b.val + 5) (j := 16 * b.val + 10) e10 rfl (off80_eq b) (sem_cell hp (by decide) _) hk hp (by decide) (by omega) (by omega)) $$ [H]
  · iexact H
  iintro H
  iapply (read2 c hd (k := ((i 0).val + 1)) (r := 8 * b.val + 5) (j := 16 * b.val + 11) (off82_eq i b) (fun _ h _ _ => h) hk (by omega) (by omega)) $$ [H]
  · iexact H
  iintro %v11 %e11 %g11 H
  iapply (le_wp_ret _ _ _ _ _)
  ispecialize Hk $$ %v11
  ispecialize Hk $$ %e11
  ispecialize Hk $$ %g11
  iapply Hk
  iexact H

theorem part8_run {d : Data F} (hd : d.OK) {f : S2x512x1024.Idx → Elt F .f32} (i : grid0.Coords) {w0 : Memref sig .tc .vmem S512x1024 .f32} {hw0 : w0.IsWhole} {w1 : Memref sig .tc .vmem S512x128 .f32} {hw1 : w1.IsWhole} {w2 : Memref sig .tc .vmem S512x1024 .f32} {hw2 : w2.IsWhole}
    (h2 : k0_cond2 i = 1#1) (h3 : k0_cond3 i = 1#1) (b : Fin k0_t2_loop.trips) {v11 : BitVec 32} (e11 : v11.toNat = d.row (1024 * ((i 0).val + 1) + (16 * b.val + 11))) (g11 : k0_chk28 i v11) {K : (Σ' (v : Elt F .i32), k0_chk32 i v) → sProp 𝕄} :
    Issuing c d f ((i 0).val + 1) (16 * b.val + 11)
      ⊢ iprop((∀ v : BitVec 32, ∀ hv : v.toNat = d.row (1024 * ((i 0).val + 1) + (16 * b.val + 15)), ∀ hw : k0_chk32 i v,
            Issuing c d f ((i 0).val + 1) (16 * b.val + 15) -∗ K ⟨v, hw⟩)
          -∗ WP (k0_part8 i (Memref.whole main_arg0) (Memref.isWhole_whole _) (Memref.whole main_arg1) (Memref.isWhole_whole _) (Memref.whole main_arg2) (Memref.isWhole_whole _) w0 hw0 w1 hw1 w2 hw2 (Memref.whole cc0_scratch0) (Memref.isWhole_whole _) (Memref.whole cc0_scratch1) (Memref.isWhole_whole _) cc0_scratch2 h2 h3 (Scalar.addi (BitVec.ofNat 32 (i 0).val) 1#32) b (Scf.iv 0#32 1#32 b.val) v11 g11) K) := by
  have hb : b.val < 64 := lt_of_lt_of_eq b.isLt t2_trips
  have hk : (i 0).val + 1 < 64 := (cond3_iff i).mp h3
  have hpi : (i 0).val % 2 = 0 := (cond2_iff i).mp h2
  have hp : ((i 0).val + 1) % 2 = 1 := by omega
  rw [k0_part8_eq_skeleton]
  unfold k0_part8_skel
  iintro H Hk
  iapply (sendB c hd (k := ((i 0).val + 1)) (p := 1) (r := 8 * b.val + 5) (j := 16 * b.val + 11) e11 rfl (off83_eq b) (sem_cell hp (by decide) _) hk hp (by decide) (by omega) (by omega)) $$ [H]
  · iexact H
  iintro H
  iapply (read1 c hd (k := ((i 0).val + 1)) (r := 8 * b.val + 6) (j := 16 * b.val + 12) (off85_eq i b) (fun _ h _ _ => h) hk (by omega) (by omega)) $$ [H]
  · iexact H
  iintro %v12 %e12 %g12 H
  iapply (sendB c hd (k := ((i 0).val + 1)) (p := 0) (r := 8 * b.val + 6) (j := 16 * b.val + 12) e12 rfl (off86_eq b) (sem_cell hp (by decide) _) hk hp (by decide) (by omega) (by omega)) $$ [H]
  · iexact H
  iintro H
  iapply (read2 c hd (k := ((i 0).val + 1)) (r := 8 * b.val + 6) (j := 16 * b.val + 13) (off88_eq i b) (fun _ h _ _ => h) hk (by omega) (by omega)) $$ [H]
  · iexact H
  iintro %v13 %e13 %g13 H
  iapply (sendB c hd (k := ((i 0).val + 1)) (p := 1) (r := 8 * b.val + 6) (j := 16 * b.val + 13) e13 rfl (off89_eq b) (sem_cell hp (by decide) _) hk hp (by decide) (by omega) (by omega)) $$ [H]
  · iexact H
  iintro H
  iapply (read1 c hd (k := ((i 0).val + 1)) (r := 8 * b.val + 7) (j := 16 * b.val + 14) (off91_eq i b) (fun _ h _ _ => h) hk (by omega) (by omega)) $$ [H]
  · iexact H
  iintro %v14 %e14 %g14 H
  iapply (sendB c hd (k := ((i 0).val + 1)) (p := 0) (r := 8 * b.val + 7) (j := 16 * b.val + 14) e14 rfl (off92_eq b) (sem_cell hp (by decide) _) hk hp (by decide) (by omega) (by omega)) $$ [H]
  · iexact H
  iintro H
  iapply (read2 c hd (k := ((i 0).val + 1)) (r := 8 * b.val + 7) (j := 16 * b.val + 15) (off94_eq i b) (fun _ h _ _ => h) hk (by omega) (by omega)) $$ [H]
  · iexact H
  iintro %v15 %e15 %g15 H
  iapply (le_wp_ret _ _ _ _ _)
  ispecialize Hk $$ %v15
  ispecialize Hk $$ %e15
  ispecialize Hk $$ %g15
  iapply Hk
  iexact H

/-- One trip of the loop: sixteen copies. -/
theorem trip2_run {d : Data F} (hd : d.OK) {f : S2x512x1024.Idx → Elt F .f32} (i : grid0.Coords) {w0 : Memref sig .tc .vmem S512x1024 .f32} {hw0 : w0.IsWhole} {w1 : Memref sig .tc .vmem S512x128 .f32} {hw1 : w1.IsWhole} {w2 : Memref sig .tc .vmem S512x1024 .f32} {hw2 : w2.IsWhole}
    (h2 : k0_cond2 i = 1#1) (h3 : k0_cond3 i = 1#1) (b : Fin k0_t2_loop.trips) (acc : Unit) :
    Issuing c d f ((i 0).val + 1) (16 * b.val)
      ⊢ WP (k0_t2_body i (Memref.whole main_arg0) (Memref.isWhole_whole _) (Memref.whole main_arg1) (Memref.isWhole_whole _) (Memref.whole main_arg2) (Memref.isWhole_whole _) w0 hw0 w1 hw1 w2 hw2 (Memref.whole cc0_scratch0) (Memref.isWhole_whole _) (Memref.whole cc0_scratch1) (Memref.isWhole_whole _) cc0_scratch2 (BitVec.ofNat 32 (i 0).val) h2 h3 (Scalar.addi (BitVec.ofNat 32 (i 0).val) 1#32) b acc) (fun _ => Issuing c d f ((i 0).val + 1) (16 * (b.val + 1))) := by
  have hb : b.val < 64 := lt_of_lt_of_eq b.isLt t2_trips
  have hk : (i 0).val + 1 < 64 := (cond3_iff i).mp h3
  have hpi : (i 0).val % 2 = 0 := (cond2_iff i).mp h2
  have hp : ((i 0).val + 1) % 2 = 1 := by omega
  unfold k0_t2_body
  iintro H
  iapply (run_bind c)
  iapply (part5_run c hd i h2 h3 b) $$ [H]
  · iexact H
  iintro %v3 %e3 %g3 H
  iapply (run_bind c)
  iapply (part6_run c hd i h2 h3 b e3 g3) $$ [H]
  · iexact H
  iintro %v7 %e7 %g7 H
  iapply (run_bind c)
  iapply (part7_run c hd i h2 h3 b e7 g7) $$ [H]
  · iexact H
  iintro %v11 %e11 %g11 H
  iapply (run_bind c)
  iapply (part8_run c hd i h2 h3 b e11 g11) $$ [H]
  · iexact H
  iintro %v15 %e15 %g15 H
  iapply (sendB c hd (k := ((i 0).val + 1)) (p := 1) (r := 8 * b.val + 7) (j := 16 * b.val + 15) e15 rfl (off95_eq b) (sem_cell hp (by decide) _) hk hp (by decide) (by omega) (by omega)) $$ [H]
  · iexact H
  iintro H
  iapply (le_wp_ret _ _ _ _ _)
  have e : 16 * b.val + 15 + 1 = 16 * (b.val + 1) := by omega
  rw [← e]
  iexact H

/-- The loop: a step's copies, all of them. -/
theorem issue2 {d : Data F} (hd : d.OK) {f : S2x512x1024.Idx → Elt F .f32} (i : grid0.Coords) {w0 : Memref sig .tc .vmem S512x1024 .f32} {hw0 : w0.IsWhole} {w1 : Memref sig .tc .vmem S512x128 .f32} {hw1 : w1.IsWhole} {w2 : Memref sig .tc .vmem S512x1024 .f32} {hw2 : w2.IsWhole}
    (h2 : k0_cond2 i = 1#1) (h3 : k0_cond3 i = 1#1) (hok : k0_t2_loop.OK) {α : Type} {kk : Unit → Prog (TpuEff nD τ sig (Elt F) Λ₀ .tc) α} {Q : α → sProp 𝕄} :
    Issuing c d f ((i 0).val + 1) 0
      ⊢ iprop((Issuing c d f ((i 0).val + 1) 1024 -∗ WP (kk ⟨⟩) Q)
          -∗ WP (Scf.Loop.for k0_t2_loop hok ⟨⟩ (k0_t2_body i (Memref.whole main_arg0) (Memref.isWhole_whole _) (Memref.whole main_arg1) (Memref.isWhole_whole _) (Memref.whole main_arg2) (Memref.isWhole_whole _) w0 hw0 w1 hw1 w2 hw2 (Memref.whole cc0_scratch0) (Memref.isWhole_whole _) (Memref.whole cc0_scratch1) (Memref.isWhole_whole _) cc0_scratch2 (BitVec.ofNat 32 (i 0).val) h2 h3 (Scalar.addi (BitVec.ofNat 32 (i 0).val) 1#32)) >>= kk) Q) := by
  iintro H Hk
  iapply (Scf.wp_for_bind frame (wpE (defs₀ (F := F)) Variants.none c none) Set.univ k0_t2_loop.lb k0_t2_loop.ub k0_t2_loop.st hok ⟨⟩ _
    (fun k _ => Issuing c d f ((i 0).val + 1) (16 * k)) (fun k acc => trip2_run c hd i h2 h3 k acc)) $$ [H]
  · iexact H
  iintro %acc H
  have e : 16 * Scf.trips k0_t2_loop.lb k0_t2_loop.ub k0_t2_loop.st = 1024 := congrArg (16 * ·) t2_trips
  rw [e]
  iapply Hk
  iexact H

theorem part10_run {d : Data F} (hd : d.OK) {f : S2x512x1024.Idx → Elt F .f32} (i : grid0.Coords) {w0 : Memref sig .tc .vmem S512x1024 .f32} {hw0 : w0.IsWhole} {w1 : Memref sig .tc .vmem S512x128 .f32} {hw1 : w1.IsWhole} {w2 : Memref sig .tc .vmem S512x1024 .f32} {hw2 : w2.IsWhole}
    (h4 : k0_cond4 i = 1#1) (h5 : k0_cond5 i = 1#1) (b : Fin k0_t4_loop.trips) {K : (Σ' (_ : BitVec 32) (v : Elt F .i32), k0_chk36 i v) → sProp 𝕄} :
    Issuing c d f ((i 0).val + 1) (16 * b.val + 0)
      ⊢ iprop((∀ v : BitVec 32, ∀ hv : v.toNat = d.row (1024 * ((i 0).val + 1) + (16 * b.val + 3)), ∀ hw : k0_chk36 i v,
            Issuing c d f ((i 0).val + 1) (16 * b.val + 3) -∗ K ⟨Scf.iv 0#32 1#32 b.val, v, hw⟩)
          -∗ WP (k0_part10 i (Memref.whole main_arg0) (Memref.isWhole_whole _) (Memref.whole main_arg1) (Memref.isWhole_whole _) (Memref.whole main_arg2) (Memref.isWhole_whole _) w0 hw0 w1 hw1 w2 hw2 (Memref.whole cc0_scratch0) (Memref.isWhole_whole _) (Memref.whole cc0_scratch1) (Memref.isWhole_whole _) cc0_scratch2 h4 h5 (Scalar.addi (BitVec.ofNat 32 (i 0).val) 1#32) 0#32 1#32 b) K) := by
  have hb : b.val < 64 := lt_of_lt_of_eq b.isLt t4_trips
  have hk : (i 0).val + 1 < 64 := (cond5_iff i).mp h5
  have hpi : (i 0).val % 2 = 1 := (cond4_iff i).mp h4
  have hp : ((i 0).val + 1) % 2 = 0 := by omega
  rw [k0_part10_eq_skeleton]
  unfold k0_part10_skel
  iintro H Hk
  iapply (read1 c hd (k := ((i 0).val + 1)) (r := 8 * b.val + 0) (j := 16 * b.val + 0) (off97_eq i b) (fun _ h _ _ => h) hk (by omega) (by omega)) $$ [H]
  · iexact H
  iintro %v0 %e0 %g0 H
  iapply (sendA c hd (k := ((i 0).val + 1)) (p := 0) (r := 8 * b.val + 0) (j := 16 * b.val + 0) e0 rfl (off98_eq b) (sem_cell hp (by decide) _) hk hp (by decide) (by omega) (by omega)) $$ [H]
  · iexact H
  iintro H
  iapply (read2 c hd (k := ((i 0).val + 1)) (r := 8 * b.val + 0) (j := 16 * b.val + 1) (off100_eq i b) (fun _ h _ _ => h) hk (by omega) (by omega)) $$ [H]
  · iexact H
  iintro %v1 %e1 %g1 H
  iapply (sendA c hd (k := ((i 0).val + 1)) (p := 1) (r := 8 * b.val + 0) (j := 16 * b.val + 1) e1 rfl (off101_eq b) (sem_cell hp (by decide) _) hk hp (by decide) (by omega) (by omega)) $$ [H]
  · iexact H
  iintro H
  iapply (read1 c hd (k := ((i 0).val + 1)) (r := 8 * b.val + 1) (j := 16 * b.val + 2) (off103_eq i b) (fun _ h _ _ => h) hk (by omega) (by omega)) $$ [H]
  · iexact H
  iintro %v2 %e2 %g2 H
  iapply (sendA c hd (k := ((i 0).val + 1)) (p := 0) (r := 8 * b.val + 1) (j := 16 * b.val + 2) e2 rfl (off104_eq b) (sem_cell hp (by decide) _) hk hp (by decide) (by omega) (by omega)) $$ [H]
  · iexact H
  iintro H
  iapply (read2 c hd (k := ((i 0).val + 1)) (r := 8 * b.val + 1) (j := 16 * b.val + 3) (off106_eq i b) (fun _ h _ _ => h) hk (by omega) (by omega)) $$ [H]
  · iexact H
  iintro %v3 %e3 %g3 H
  iapply (le_wp_ret _ _ _ _ _)
  ispecialize Hk $$ %v3
  ispecialize Hk $$ %e3
  ispecialize Hk $$ %g3
  iapply Hk
  iexact H

theorem part11_run {d : Data F} (hd : d.OK) {f : S2x512x1024.Idx → Elt F .f32} (i : grid0.Coords) {w0 : Memref sig .tc .vmem S512x1024 .f32} {hw0 : w0.IsWhole} {w1 : Memref sig .tc .vmem S512x128 .f32} {hw1 : w1.IsWhole} {w2 : Memref sig .tc .vmem S512x1024 .f32} {hw2 : w2.IsWhole}
    (h4 : k0_cond4 i = 1#1) (h5 : k0_cond5 i = 1#1) (b : Fin k0_t4_loop.trips) {v3 : BitVec 32} (e3 : v3.toNat = d.row (1024 * ((i 0).val + 1) + (16 * b.val + 3))) (g3 : k0_chk36 i v3) {K : (Σ' (v : Elt F .i32), k0_chk40 i v) → sProp 𝕄} :
    Issuing c d f ((i 0).val + 1) (16 * b.val + 3)
      ⊢ iprop((∀ v : BitVec 32, ∀ hv : v.toNat = d.row (1024 * ((i 0).val + 1) + (16 * b.val + 7)), ∀ hw : k0_chk40 i v,
            Issuing c d f ((i 0).val + 1) (16 * b.val + 7) -∗ K ⟨v, hw⟩)
          -∗ WP (k0_part11 i (Memref.whole main_arg0) (Memref.isWhole_whole _) (Memref.whole main_arg1) (Memref.isWhole_whole _) (Memref.whole main_arg2) (Memref.isWhole_whole _) w0 hw0 w1 hw1 w2 hw2 (Memref.whole cc0_scratch0) (Memref.isWhole_whole _) (Memref.whole cc0_scratch1) (Memref.isWhole_whole _) cc0_scratch2 h4 h5 (Scalar.addi (BitVec.ofNat 32 (i 0).val) 1#32) b (Scf.iv 0#32 1#32 b.val) v3 g3) K) := by
  have hb : b.val < 64 := lt_of_lt_of_eq b.isLt t4_trips
  have hk : (i 0).val + 1 < 64 := (cond5_iff i).mp h5
  have hpi : (i 0).val % 2 = 1 := (cond4_iff i).mp h4
  have hp : ((i 0).val + 1) % 2 = 0 := by omega
  rw [k0_part11_eq_skeleton]
  unfold k0_part11_skel
  iintro H Hk
  iapply (sendA c hd (k := ((i 0).val + 1)) (p := 1) (r := 8 * b.val + 1) (j := 16 * b.val + 3) e3 rfl (off107_eq b) (sem_cell hp (by decide) _) hk hp (by decide) (by omega) (by omega)) $$ [H]
  · iexact H
  iintro H
  iapply (read1 c hd (k := ((i 0).val + 1)) (r := 8 * b.val + 2) (j := 16 * b.val + 4) (off109_eq i b) (fun _ h _ _ => h) hk (by omega) (by omega)) $$ [H]
  · iexact H
  iintro %v4 %e4 %g4 H
  iapply (sendA c hd (k := ((i 0).val + 1)) (p := 0) (r := 8 * b.val + 2) (j := 16 * b.val + 4) e4 rfl (off110_eq b) (sem_cell hp (by decide) _) hk hp (by decide) (by omega) (by omega)) $$ [H]
  · iexact H
  iintro H
  iapply (read2 c hd (k := ((i 0).val + 1)) (r := 8 * b.val + 2) (j := 16 * b.val + 5) (off112_eq i b) (fun _ h _ _ => h) hk (by omega) (by omega)) $$ [H]
  · iexact H
  iintro %v5 %e5 %g5 H
  iapply (sendA c hd (k := ((i 0).val + 1)) (p := 1) (r := 8 * b.val + 2) (j := 16 * b.val + 5) e5 rfl (off113_eq b) (sem_cell hp (by decide) _) hk hp (by decide) (by omega) (by omega)) $$ [H]
  · iexact H
  iintro H
  iapply (read1 c hd (k := ((i 0).val + 1)) (r := 8 * b.val + 3) (j := 16 * b.val + 6) (off115_eq i b) (fun _ h _ _ => h) hk (by omega) (by omega)) $$ [H]
  · iexact H
  iintro %v6 %e6 %g6 H
  iapply (sendA c hd (k := ((i 0).val + 1)) (p := 0) (r := 8 * b.val + 3) (j := 16 * b.val + 6) e6 rfl (off116_eq b) (sem_cell hp (by decide) _) hk hp (by decide) (by omega) (by omega)) $$ [H]
  · iexact H
  iintro H
  iapply (read2 c hd (k := ((i 0).val + 1)) (r := 8 * b.val + 3) (j := 16 * b.val + 7) (off118_eq i b) (fun _ h _ _ => h) hk (by omega) (by omega)) $$ [H]
  · iexact H
  iintro %v7 %e7 %g7 H
  iapply (le_wp_ret _ _ _ _ _)
  ispecialize Hk $$ %v7
  ispecialize Hk $$ %e7
  ispecialize Hk $$ %g7
  iapply Hk
  iexact H

theorem part12_run {d : Data F} (hd : d.OK) {f : S2x512x1024.Idx → Elt F .f32} (i : grid0.Coords) {w0 : Memref sig .tc .vmem S512x1024 .f32} {hw0 : w0.IsWhole} {w1 : Memref sig .tc .vmem S512x128 .f32} {hw1 : w1.IsWhole} {w2 : Memref sig .tc .vmem S512x1024 .f32} {hw2 : w2.IsWhole}
    (h4 : k0_cond4 i = 1#1) (h5 : k0_cond5 i = 1#1) (b : Fin k0_t4_loop.trips) {v7 : BitVec 32} (e7 : v7.toNat = d.row (1024 * ((i 0).val + 1) + (16 * b.val + 7))) (g7 : k0_chk40 i v7) {K : (Σ' (v : Elt F .i32), k0_chk44 i v) → sProp 𝕄} :
    Issuing c d f ((i 0).val + 1) (16 * b.val + 7)
      ⊢ iprop((∀ v : BitVec 32, ∀ hv : v.toNat = d.row (1024 * ((i 0).val + 1) + (16 * b.val + 11)), ∀ hw : k0_chk44 i v,
            Issuing c d f ((i 0).val + 1) (16 * b.val + 11) -∗ K ⟨v, hw⟩)
          -∗ WP (k0_part12 i (Memref.whole main_arg0) (Memref.isWhole_whole _) (Memref.whole main_arg1) (Memref.isWhole_whole _) (Memref.whole main_arg2) (Memref.isWhole_whole _) w0 hw0 w1 hw1 w2 hw2 (Memref.whole cc0_scratch0) (Memref.isWhole_whole _) (Memref.whole cc0_scratch1) (Memref.isWhole_whole _) cc0_scratch2 h4 h5 (Scalar.addi (BitVec.ofNat 32 (i 0).val) 1#32) b (Scf.iv 0#32 1#32 b.val) v7 g7) K) := by
  have hb : b.val < 64 := lt_of_lt_of_eq b.isLt t4_trips
  have hk : (i 0).val + 1 < 64 := (cond5_iff i).mp h5
  have hpi : (i 0).val % 2 = 1 := (cond4_iff i).mp h4
  have hp : ((i 0).val + 1) % 2 = 0 := by omega
  rw [k0_part12_eq_skeleton]
  unfold k0_part12_skel
  iintro H Hk
  iapply (sendA c hd (k := ((i 0).val + 1)) (p := 1) (r := 8 * b.val + 3) (j := 16 * b.val + 7) e7 rfl (off119_eq b) (sem_cell hp (by decide) _) hk hp (by decide) (by omega) (by omega)) $$ [H]
  · iexact H
  iintro H
  iapply (read1 c hd (k := ((i 0).val + 1)) (r := 8 * b.val + 4) (j := 16 * b.val + 8) (off121_eq i b) (fun _ h _ _ => h) hk (by omega) (by omega)) $$ [H]
  · iexact H
  iintro %v8 %e8 %g8 H
  iapply (sendA c hd (k := ((i 0).val + 1)) (p := 0) (r := 8 * b.val + 4) (j := 16 * b.val + 8) e8 rfl (off122_eq b) (sem_cell hp (by decide) _) hk hp (by decide) (by omega) (by omega)) $$ [H]
  · iexact H
  iintro H
  iapply (read2 c hd (k := ((i 0).val + 1)) (r := 8 * b.val + 4) (j := 16 * b.val + 9) (off124_eq i b) (fun _ h _ _ => h) hk (by omega) (by omega)) $$ [H]
  · iexact H
  iintro %v9 %e9 %g9 H
  iapply (sendA c hd (k := ((i 0).val + 1)) (p := 1) (r := 8 * b.val + 4) (j := 16 * b.val + 9) e9 rfl (off125_eq b) (sem_cell hp (by decide) _) hk hp (by decide) (by omega) (by omega)) $$ [H]
  · iexact H
  iintro H
  iapply (read1 c hd (k := ((i 0).val + 1)) (r := 8 * b.val + 5) (j := 16 * b.val + 10) (off127_eq i b) (fun _ h _ _ => h) hk (by omega) (by omega)) $$ [H]
  · iexact H
  iintro %v10 %e10 %g10 H
  iapply (sendA c hd (k := ((i 0).val + 1)) (p := 0) (r := 8 * b.val + 5) (j := 16 * b.val + 10) e10 rfl (off128_eq b) (sem_cell hp (by decide) _) hk hp (by decide) (by omega) (by omega)) $$ [H]
  · iexact H
  iintro H
  iapply (read2 c hd (k := ((i 0).val + 1)) (r := 8 * b.val + 5) (j := 16 * b.val + 11) (off130_eq i b) (fun _ h _ _ => h) hk (by omega) (by omega)) $$ [H]
  · iexact H
  iintro %v11 %e11 %g11 H
  iapply (le_wp_ret _ _ _ _ _)
  ispecialize Hk $$ %v11
  ispecialize Hk $$ %e11
  ispecialize Hk $$ %g11
  iapply Hk
  iexact H

theorem part13_run {d : Data F} (hd : d.OK) {f : S2x512x1024.Idx → Elt F .f32} (i : grid0.Coords) {w0 : Memref sig .tc .vmem S512x1024 .f32} {hw0 : w0.IsWhole} {w1 : Memref sig .tc .vmem S512x128 .f32} {hw1 : w1.IsWhole} {w2 : Memref sig .tc .vmem S512x1024 .f32} {hw2 : w2.IsWhole}
    (h4 : k0_cond4 i = 1#1) (h5 : k0_cond5 i = 1#1) (b : Fin k0_t4_loop.trips) {v11 : BitVec 32} (e11 : v11.toNat = d.row (1024 * ((i 0).val + 1) + (16 * b.val + 11))) (g11 : k0_chk44 i v11) {K : (Σ' (v : Elt F .i32), k0_chk48 i v) → sProp 𝕄} :
    Issuing c d f ((i 0).val + 1) (16 * b.val + 11)
      ⊢ iprop((∀ v : BitVec 32, ∀ hv : v.toNat = d.row (1024 * ((i 0).val + 1) + (16 * b.val + 15)), ∀ hw : k0_chk48 i v,
            Issuing c d f ((i 0).val + 1) (16 * b.val + 15) -∗ K ⟨v, hw⟩)
          -∗ WP (k0_part13 i (Memref.whole main_arg0) (Memref.isWhole_whole _) (Memref.whole main_arg1) (Memref.isWhole_whole _) (Memref.whole main_arg2) (Memref.isWhole_whole _) w0 hw0 w1 hw1 w2 hw2 (Memref.whole cc0_scratch0) (Memref.isWhole_whole _) (Memref.whole cc0_scratch1) (Memref.isWhole_whole _) cc0_scratch2 h4 h5 (Scalar.addi (BitVec.ofNat 32 (i 0).val) 1#32) b (Scf.iv 0#32 1#32 b.val) v11 g11) K) := by
  have hb : b.val < 64 := lt_of_lt_of_eq b.isLt t4_trips
  have hk : (i 0).val + 1 < 64 := (cond5_iff i).mp h5
  have hpi : (i 0).val % 2 = 1 := (cond4_iff i).mp h4
  have hp : ((i 0).val + 1) % 2 = 0 := by omega
  rw [k0_part13_eq_skeleton]
  unfold k0_part13_skel
  iintro H Hk
  iapply (sendA c hd (k := ((i 0).val + 1)) (p := 1) (r := 8 * b.val + 5) (j := 16 * b.val + 11) e11 rfl (off131_eq b) (sem_cell hp (by decide) _) hk hp (by decide) (by omega) (by omega)) $$ [H]
  · iexact H
  iintro H
  iapply (read1 c hd (k := ((i 0).val + 1)) (r := 8 * b.val + 6) (j := 16 * b.val + 12) (off133_eq i b) (fun _ h _ _ => h) hk (by omega) (by omega)) $$ [H]
  · iexact H
  iintro %v12 %e12 %g12 H
  iapply (sendA c hd (k := ((i 0).val + 1)) (p := 0) (r := 8 * b.val + 6) (j := 16 * b.val + 12) e12 rfl (off134_eq b) (sem_cell hp (by decide) _) hk hp (by decide) (by omega) (by omega)) $$ [H]
  · iexact H
  iintro H
  iapply (read2 c hd (k := ((i 0).val + 1)) (r := 8 * b.val + 6) (j := 16 * b.val + 13) (off136_eq i b) (fun _ h _ _ => h) hk (by omega) (by omega)) $$ [H]
  · iexact H
  iintro %v13 %e13 %g13 H
  iapply (sendA c hd (k := ((i 0).val + 1)) (p := 1) (r := 8 * b.val + 6) (j := 16 * b.val + 13) e13 rfl (off137_eq b) (sem_cell hp (by decide) _) hk hp (by decide) (by omega) (by omega)) $$ [H]
  · iexact H
  iintro H
  iapply (read1 c hd (k := ((i 0).val + 1)) (r := 8 * b.val + 7) (j := 16 * b.val + 14) (off139_eq i b) (fun _ h _ _ => h) hk (by omega) (by omega)) $$ [H]
  · iexact H
  iintro %v14 %e14 %g14 H
  iapply (sendA c hd (k := ((i 0).val + 1)) (p := 0) (r := 8 * b.val + 7) (j := 16 * b.val + 14) e14 rfl (off140_eq b) (sem_cell hp (by decide) _) hk hp (by decide) (by omega) (by omega)) $$ [H]
  · iexact H
  iintro H
  iapply (read2 c hd (k := ((i 0).val + 1)) (r := 8 * b.val + 7) (j := 16 * b.val + 15) (off142_eq i b) (fun _ h _ _ => h) hk (by omega) (by omega)) $$ [H]
  · iexact H
  iintro %v15 %e15 %g15 H
  iapply (le_wp_ret _ _ _ _ _)
  ispecialize Hk $$ %v15
  ispecialize Hk $$ %e15
  ispecialize Hk $$ %g15
  iapply Hk
  iexact H

/-- One trip of the loop: sixteen copies. -/
theorem trip4_run {d : Data F} (hd : d.OK) {f : S2x512x1024.Idx → Elt F .f32} (i : grid0.Coords) {w0 : Memref sig .tc .vmem S512x1024 .f32} {hw0 : w0.IsWhole} {w1 : Memref sig .tc .vmem S512x128 .f32} {hw1 : w1.IsWhole} {w2 : Memref sig .tc .vmem S512x1024 .f32} {hw2 : w2.IsWhole}
    (h4 : k0_cond4 i = 1#1) (h5 : k0_cond5 i = 1#1) (b : Fin k0_t4_loop.trips) (acc : Unit) :
    Issuing c d f ((i 0).val + 1) (16 * b.val)
      ⊢ WP (k0_t4_body i (Memref.whole main_arg0) (Memref.isWhole_whole _) (Memref.whole main_arg1) (Memref.isWhole_whole _) (Memref.whole main_arg2) (Memref.isWhole_whole _) w0 hw0 w1 hw1 w2 hw2 (Memref.whole cc0_scratch0) (Memref.isWhole_whole _) (Memref.whole cc0_scratch1) (Memref.isWhole_whole _) cc0_scratch2 (BitVec.ofNat 32 (i 0).val) h4 h5 (Scalar.addi (BitVec.ofNat 32 (i 0).val) 1#32) b acc) (fun _ => Issuing c d f ((i 0).val + 1) (16 * (b.val + 1))) := by
  have hb : b.val < 64 := lt_of_lt_of_eq b.isLt t4_trips
  have hk : (i 0).val + 1 < 64 := (cond5_iff i).mp h5
  have hpi : (i 0).val % 2 = 1 := (cond4_iff i).mp h4
  have hp : ((i 0).val + 1) % 2 = 0 := by omega
  unfold k0_t4_body
  iintro H
  iapply (run_bind c)
  iapply (part10_run c hd i h4 h5 b) $$ [H]
  · iexact H
  iintro %v3 %e3 %g3 H
  iapply (run_bind c)
  iapply (part11_run c hd i h4 h5 b e3 g3) $$ [H]
  · iexact H
  iintro %v7 %e7 %g7 H
  iapply (run_bind c)
  iapply (part12_run c hd i h4 h5 b e7 g7) $$ [H]
  · iexact H
  iintro %v11 %e11 %g11 H
  iapply (run_bind c)
  iapply (part13_run c hd i h4 h5 b e11 g11) $$ [H]
  · iexact H
  iintro %v15 %e15 %g15 H
  iapply (sendA c hd (k := ((i 0).val + 1)) (p := 1) (r := 8 * b.val + 7) (j := 16 * b.val + 15) e15 rfl (off143_eq b) (sem_cell hp (by decide) _) hk hp (by decide) (by omega) (by omega)) $$ [H]
  · iexact H
  iintro H
  iapply (le_wp_ret _ _ _ _ _)
  have e : 16 * b.val + 15 + 1 = 16 * (b.val + 1) := by omega
  rw [← e]
  iexact H

/-- The loop: a step's copies, all of them. -/
theorem issue4 {d : Data F} (hd : d.OK) {f : S2x512x1024.Idx → Elt F .f32} (i : grid0.Coords) {w0 : Memref sig .tc .vmem S512x1024 .f32} {hw0 : w0.IsWhole} {w1 : Memref sig .tc .vmem S512x128 .f32} {hw1 : w1.IsWhole} {w2 : Memref sig .tc .vmem S512x1024 .f32} {hw2 : w2.IsWhole}
    (h4 : k0_cond4 i = 1#1) (h5 : k0_cond5 i = 1#1) (hok : k0_t4_loop.OK) {α : Type} {kk : Unit → Prog (TpuEff nD τ sig (Elt F) Λ₀ .tc) α} {Q : α → sProp 𝕄} :
    Issuing c d f ((i 0).val + 1) 0
      ⊢ iprop((Issuing c d f ((i 0).val + 1) 1024 -∗ WP (kk ⟨⟩) Q)
          -∗ WP (Scf.Loop.for k0_t4_loop hok ⟨⟩ (k0_t4_body i (Memref.whole main_arg0) (Memref.isWhole_whole _) (Memref.whole main_arg1) (Memref.isWhole_whole _) (Memref.whole main_arg2) (Memref.isWhole_whole _) w0 hw0 w1 hw1 w2 hw2 (Memref.whole cc0_scratch0) (Memref.isWhole_whole _) (Memref.whole cc0_scratch1) (Memref.isWhole_whole _) cc0_scratch2 (BitVec.ofNat 32 (i 0).val) h4 h5 (Scalar.addi (BitVec.ofNat 32 (i 0).val) 1#32)) >>= kk) Q) := by
  iintro H Hk
  iapply (Scf.wp_for_bind frame (wpE (defs₀ (F := F)) Variants.none c none) Set.univ k0_t4_loop.lb k0_t4_loop.ub k0_t4_loop.st hok ⟨⟩ _
    (fun k _ => Issuing c d f ((i 0).val + 1) (16 * k)) (fun k acc => trip4_run c hd i h4 h5 k acc)) $$ [H]
  · iexact H
  iintro %acc H
  have e : 16 * Scf.trips k0_t4_loop.lb k0_t4_loop.ub k0_t4_loop.st = 1024 := congrArg (16 * ·) t4_trips
  rw [e]
  iapply Hk
  iexact H

end Cert.Kernel4Ideal.Combine

end
-- ==== Proof.Combine.Split.lean ====
/-
  The combine kernel's two buffers as rows and the products as rows read at many shares; what a step holds before its
  copies are issued, while they are in flight, and after they have all arrived.
-/
module

public import proofs.«01_k».proof.Proof.Combine.Steps

@[expose] public section

noncomputable section

namespace Cert.Kernel4Ideal.Combine

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.Sem Idealize.SL.ProofMode
open Idealize.ShloMosaic.ValueIdx

variable {F : FTy → Type} [FloatOps F]

local notation "𝕄" => MT nD τ sig Unit (Elt F) ℕ (Pipeline.UD sig nD τ) ℕ

variable (c : Dev nD) (d : Data F)

theorem entails_eq {P Q : sProp 𝕄} (h : P ⊢ Q) (h' : Q ⊢ P) : P = Q := Idealize.SL.BI.Entails.antisymm h h'

theorem sep_sep {I : Type} (S : Finset I) (Φ Ψ : I → sProp 𝕄) :
    bigSep S (fun i => iprop(Φ i ∗ Ψ i)) = iprop(bigSep S Φ ∗ bigSep S Ψ) := bigSep_sep S Φ Ψ

/-! ## The products, read by many copies at once -/

/-- What is left of a step's share of the products while its copies read. -/
def aside (k : ℕ) : sProp 𝕄 :=
  iprop(bigSep (Finset.range 1024) (fun j => yAt c (Finset.univ \ rowSet (d.row (1024 * k + j))) (Transfers.shareTokN (halfOf k) j) d.y)
    ∗ yAt c Finset.univ (Transfers.shareDrop (halfOf k) 1024) d.y)

theorem y_split (k : ℕ) : (yAt c Finset.univ (halfOf k) d.y : sProp 𝕄)
    = iprop(bigSep (Finset.range 1024) (fun j => yAt c (rowSet (d.row (1024 * k + j))) (Transfers.shareTokN (halfOf k) j) d.y) ∗ aside c d k) := by
  have e : (yAt c Finset.univ (halfOf k) d.y : sProp 𝕄) = iprop(yAt c Finset.univ (Transfers.shareDrop (halfOf k) 1024) d.y
      ∗ bigSep (Finset.range 1024) (fun j => yAt c Finset.univ (Transfers.shareTokN (halfOf k) j) d.y)) :=
    have h := Transfers.pointsTo_toks_range (Ix := Unit) (Lvl := ℕ) (ℓ := (c : Thread nD τ).loc main_arg2) (S := Finset.univ) (f := d.y) (halfOf k) 1024
    entails_eq h.1 h.2
  have e' : ∀ j, (yAt c Finset.univ (Transfers.shareTokN (halfOf k) j) d.y : sProp 𝕄)
      = iprop(yAt c (rowSet (d.row (1024 * k + j))) (Transfers.shareTokN (halfOf k) j) d.y
        ∗ yAt c (Finset.univ \ rowSet (d.row (1024 * k + j))) (Transfers.shareTokN (halfOf k) j) d.y) := fun j =>
    have h : (yAt c Finset.univ (Transfers.shareTokN (halfOf k) j) d.y : sProp 𝕄)
      ⊣⊢ iprop(yAt c (rowSet (d.row (1024 * k + j))) (Transfers.shareTokN (halfOf k) j) d.y
        ∗ yAt c (Finset.univ \ rowSet (d.row (1024 * k + j))) (Transfers.shareTokN (halfOf k) j) d.y) :=
      pointsTo_split_subset (ℓ := (c : Thread nD τ).loc main_arg2) (Finset.subset_univ _)
    entails_eq h.1 h.2
  rw [e, bigSep_congr fun j _ => e' j, sep_sep]
  unfold aside
  refine entails_eq ?_ ?_
  · iintro ⟨H1, H2, H3⟩
    isplitl [H2]; · iexact H2
    isplitl [H3] <;> iassumption
  · iintro ⟨H2, H3, H1⟩
    isplitl [H1]; · iexact H1
    isplitl [H2] <;> iassumption

/-- The two halves of the products. -/
theorem y_halves : (yAt c Finset.univ fullShare d.y : sProp 𝕄)
    = iprop(yAt c Finset.univ (halfOf 0) d.y ∗ yAt c Finset.univ (halfOf 1) d.y) := by
  have e : (yAt c Finset.univ fullShare d.y : sProp 𝕄)
      ⊣⊢ iprop(yAt c Finset.univ (PosShare.left fullShare) d.y ∗ yAt c Finset.univ (PosShare.right fullShare) d.y) :=
    pointsTo_share (PosShare.mem_left_op_right fullShare)
  exact entails_eq e.1 e.2

/-! ## A buffer, its rows -/

theorem st_disjoint {j j' : ℕ} (h : j ≠ j') : Disjoint (stSet (j % 2) (j / 2)) (stSet (j' % 2) (j' / 2)) := by
  rw [Finset.disjoint_left]; intro y hy hy'; rw [mem_stSet] at hy hy'
  have h1 := hy.1.symm.trans hy'.1
  have h2 := hy.2.symm.trans hy'.2
  omega

theorem st_rows : (Finset.range 1024).biUnion (fun j => stSet (j % 2) (j / 2)) = Finset.univ := by
  ext y
  have h0 : (y 0).val < 2 := (y 0).isLt
  have h1 : (y 1).val < 512 := (y 1).isLt
  rw [Finset.mem_biUnion]
  exact ⟨fun _ => Finset.mem_univ _, fun _ => ⟨2 * (y 1).val + (y 0).val, Finset.mem_range.mpr (by omega), mem_stSet.mpr ⟨by omega, by omega⟩⟩⟩

theorem buf_split (k : ℕ) (f : S2x512x1024.Idx → Elt F .f32) :
    (bufAt k c Finset.univ f : sProp 𝕄) = bigSep (Finset.range 1024) (fun j => bufAt k c (stSet (j % 2) (j / 2)) f) := by
  rcases Nat.mod_two_eq_zero_or_one k with h | h
  · rw [bufAt_even h, bigSep_congr fun j _ => bufAt_even h c (stSet (j % 2) (j / 2)) f, ← st_rows]
    exact pointsTo_biUnion _ _ fun i _ j _ hij => st_disjoint hij
  · rw [bufAt_odd h, bigSep_congr fun j _ => bufAt_odd h c (stSet (j % 2) (j / 2)) f, ← st_rows]
    exact pointsTo_biUnion _ _ fun i _ j _ hij => st_disjoint hij

/-- A step's copies: its rows of the products and its buffer. -/
theorem copies_eq (f : S2x512x1024.Idx → Elt F .f32) (k : ℕ) :
    bigSep (Finset.range 1024) (copy c d f k)
      = iprop(bigSep (Finset.range 1024) (fun j => yAt c (rowSet (d.row (1024 * k + j))) (Transfers.shareTokN (halfOf k) j) d.y)
        ∗ bufAt k c Finset.univ f) := by
  rw [buf_split]
  exact sep_sep _ _ _

theorem issued_eq (k : ℕ) : bigSep Finset.univ (issued c d k) = bigSep (Finset.range 1024) (copy c d (d.got k) k) :=
  Ring.bigSep_fin_eq_range 1024 _ _ fun _ _ => rfl

/-! ## What a step has before it is issued, while it is in flight -/

abbrev zeroAt (sm : DmaSem sig) : sProp 𝕄 := semVal ((c : Thread nD τ), SemLoc.dma sm) 0

/-- A step's cell, buffer and half of the products, at rest. -/
def Free (k : ℕ) : sProp 𝕄 := iprop(zeroAt c (cell k) ∗ (∃ f, bufAt k c Finset.univ f) ∗ yAt c Finset.univ (halfOf k) d.y)

/-- A step's copies, all issued. -/
def Pend (k : ℕ) : sProp 𝕄 := iprop(batch c (cell k) (issued c d k) 1024 0 ∗ aside c d k)

theorem Free_mod {k k' : ℕ} (h : k % 2 = k' % 2) : Free c d k = Free c d k' := by
  have e1 : cell k = cell k' := Fin.ext (congrArg (6 + ·) h)
  have e2 : halfOf k = halfOf k' := by unfold halfOf; rw [h]
  have e3 : (fun f => (bufAt k c Finset.univ f : sProp 𝕄)) = fun f => bufAt k' c Finset.univ f := by funext f; unfold bufAt; rw [h]
  unfold Free
  rw [e1, e2, e3]

/-- Before grid point `n`: its step in flight (before the first, after the last: at rest), the next one at rest. -/
def St (n : ℕ) : sProp 𝕄 := iprop((if n = 0 ∨ n = 64 then Free c d n else Pend c d n) ∗ Free c d (n + 1))

theorem start (k : ℕ) : iprop(tab1 c d ∗ tab2 c d ∗ Free c d k)
    ⊢ (|={Set.univ}=> iprop(∃ f, Issuing c d f k 0 ∗ aside c d k) : sProp 𝕄) := by
  unfold Free
  rw [y_split]
  iintro ⟨T1, T2, HC, ⟨%f, HB⟩, HY, HA⟩
  imod (Transfers.batch_alloc' (Lvl := ℕ) (countersEmb (U := Pipeline.UD sig nD τ)) (c : Thread nD τ) () rowCredit (issued c d k) (sm := .dma (cell k)) (E := Set.univ)) $$ HC with HC
  imodintro
  iexists f
  unfold Issuing
  isplitr [HA]; swap; · iexact HA
  isplitl [T1]; · iexact T1
  isplitl [T2]; · iexact T2
  isplitl [HC]; · iexact HC
  rw [← Finset.range_eq_Ico, copies_eq]
  isplitl [HY] <;> iassumption

theorem issue_done (f : S2x512x1024.Idx → Elt F .f32) (k : ℕ) : iprop(Issuing c d f k 1024 ∗ aside c d k)
    ⊢ (iprop(tab1 c d ∗ tab2 c d ∗ Pend c d k) : sProp 𝕄) := by
  unfold Issuing Pend
  iintro ⟨⟨T1, T2, HB, -⟩, HA⟩
  isplitl [T1]; · iexact T1
  isplitl [T2]; · iexact T2
  isplitl [HB] <;> iassumption

theorem collect (k : ℕ) : iprop(batch c (cell k) (issued c d k) 1024 (rowCredit * 1024) ∗ aside c d k)
    ⊢ (|={Set.univ}=> iprop(zeroAt c (cell k) ∗ bufAt k c Finset.univ (d.got k) ∗ yAt c Finset.univ (halfOf k) d.y) : sProp 𝕄) := by
  have hB := Transfers.batch_collect' (countersEmb (U := Pipeline.UD sig nD τ)) (c : Thread nD τ) (sm := .dma (cell k)) (ι := ()) rowCredit_pos (D := issued c d k)
  rw [issued_eq, copies_eq] at hB
  rw [y_split]
  iintro ⟨HB, HA⟩
  imod hB $$ HB with ⟨⟨HY, HX⟩, HC⟩
  imodintro
  isplitl [HC]; · iexact HC
  isplitl [HX]; · iexact HX
  isplitl [HY] <;> iassumption

end Cert.Kernel4Ideal.Combine

end
-- ==== Proof.Combine.Body.lean ====
/-
  The combine kernel's body at one grid point: the next step's copies are issued, this step's waited for, and the output
  block written from the stream, the two weights and the two rows of every token.
-/
module

public import proofs.«01_k».proof.Proof.Combine.Trip
public import proofs.«01_k».proof.Proof.Combine.Split
public import Idealize.ShloMosaic.Lib.Pipeline.TableIdle
public import Idealize.ShloMosaic.Lib.Pipeline.FrameBody
public import Idealize.ShloMosaic.Lib.Pipeline.Value
public import Idealize.ShloMosaic.Lib.Writes
public import Idealize.ShloMosaic.Lib.Ring
public import Idealize.ShloMosaic.Lib.Exec
public import Idealize.ShloMosaic.Lib.Tactic

@[expose] public section

noncomputable section

namespace Cert.Kernel4Ideal.Combine

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.Sem Idealize.SL.ProofMode
open Idealize.ShloMosaic.ValueIdx

variable {F : FTy → Type} [FloatOps F]

local notation "𝕄" => MT nD τ sig Unit (Elt F) ℕ (Pipeline.UD sig nD τ) ℕ

variable (c : Dev nD)

local notation "WP" => wp frame (wpE (defs₀ (F := F)) Variants.none c none) Set.univ

/-- One plane of a buffer. -/
def plane (g : S2x512x1024.Idx → Elt F .f32) (p : Fin 2) : S1x512x1024.Idx → Elt F .f32 := fun z => g (ix3 p (z 1 : Fin 512) (z 2 : Fin 1024))

/-- The output block of step `k`. -/
def outVal (d : Data F) (k : ℕ) (x0 : S512x1024.Idx → Elt F .f32) (x1 : S512x128.Idx → Elt F .f32) : S512x1024.Idx → Elt F .f32 :=
  k0_pay1 x1 x0 (plane (d.got k) 0) (plane (d.got k) 1)

theorem hz2 : (![0, 0] : Fin 2 → Nat) = fun _ => 0 := by funext a; fin_cases a <;> rfl

/-- What a store of the whole block leaves. -/
theorem read_full (v : View sig .tc .vmem S512x1024 .f32) (f : v.ty.Contents (Elt F)) (inb : ∀ a, (![0, 0] : Fin 2 → Nat) a + S512x1024.size a ≤ S512x1024.size a)
    (w : S512x1024.Idx → Elt F .f32) (L : List (View.Piece (Elt F) S512x1024 .f32)) :
    v.read (Elt F) (v.writes (Elt F) f ((⟨Rect.unit (s := S512x1024) ![0, 0] S512x1024.size inb, w⟩ : View.Piece (Elt F) S512x1024 .f32) :: L)) = w := by
  have hc : ∀ y : S512x1024.Idx, ∃ p ∈ ((⟨Rect.unit (s := S512x1024) ![0, 0] S512x1024.size inb, w⟩ : View.Piece (Elt F) S512x1024 .f32) :: L), y ∈ p.1.set := by
    intro y
    refine ⟨_, List.mem_cons_self, ?_⟩
    exact View.mem_set_unit_zero (S := S512x1024) hz2 inb y
  rw [View.read_writes_eq_canon v f _ hc]
  exact View.canon_cons_unit_zero (S := S512x1024) hz2 inb w L

/-- The kernel's reads of a plane. -/
theorem plane_at (g : S2x512x1024.Idx → Elt F .f32) (p : Fin 2) (h : ∀ a, (![p.val, 0, 0] : Fin 3 → ℕ) a + S1x512x1024.size a ≤ S2x512x1024.size a)
    (z : S1x512x1024.Idx) : g ((Rect.unit (s := S2x512x1024) ![p.val, 0, 0] S1x512x1024.size h).emb z) = plane g p z := by
  unfold plane
  refine congrArg g ?_
  funext a; apply Fin.ext
  have h0 : (z 0).val < 1 := (z 0).isLt
  match a with
  | ⟨0, _⟩ => show p.val + 1 * (z 0).val = p.val; omega
  | ⟨1, _⟩ => show 0 + 1 * (z 1).val = (z 1).val; omega
  | ⟨2, _⟩ => show 0 + 1 * (z 2).val = (z 2).val; omega

theorem readW0 (v : View sig .tc .vmem S512x1024 .f32) (x : S512x1024.Idx → Elt F .f32) :
    View.readAt (Elt F) v (Rect.unit (s := S512x1024) ![0, 0] S512x1024.size inb_S512x1024_S512x1024_0_0).toLoadRect (v.rep x) = x := by
  simp only [View.readAt_eq_ld, View.read_rep, View.ld_unit_zero (S := S512x1024) hz2]
theorem readW1 (v : View sig .tc .vmem S512x128 .f32) (x : S512x128.Idx → Elt F .f32) :
    View.readAt (Elt F) v (Rect.unit (s := S512x128) ![0, 0] S512x128.size inb_S512x128_S512x128_0_0).toLoadRect (v.rep x) = x := by
  simp only [View.readAt_eq_ld, View.read_rep, View.ld_unit_zero (S := S512x128) hz2]
theorem planeA0 (g : S2x512x1024.Idx → Elt F .f32) :
    View.readAt (Elt F) (Memref.whole cc0_scratch0).view (Rect.unit (s := S2x512x1024) ![0, 0, 0] S1x512x1024.size inb_S2x512x1024_S1x512x1024_0_0_0).toLoadRect g = plane g 0 :=
  funext fun z => plane_at g 0 inb_S2x512x1024_S1x512x1024_0_0_0 z
theorem planeA1 (g : S2x512x1024.Idx → Elt F .f32) :
    View.readAt (Elt F) (Memref.whole cc0_scratch0).view (Rect.unit (s := S2x512x1024) ![1, 0, 0] S1x512x1024.size inb_S2x512x1024_S1x512x1024_1_0_0).toLoadRect g = plane g 1 :=
  funext fun z => plane_at g 1 inb_S2x512x1024_S1x512x1024_1_0_0 z
theorem planeB0 (g : S2x512x1024.Idx → Elt F .f32) :
    View.readAt (Elt F) (Memref.whole cc0_scratch1).view (Rect.unit (s := S2x512x1024) ![0, 0, 0] S1x512x1024.size inb_S2x512x1024_S1x512x1024_0_0_0).toLoadRect g = plane g 0 :=
  funext fun z => plane_at g 0 inb_S2x512x1024_S1x512x1024_0_0_0 z
theorem planeB1 (g : S2x512x1024.Idx → Elt F .f32) :
    View.readAt (Elt F) (Memref.whole cc0_scratch1).view (Rect.unit (s := S2x512x1024) ![1, 0, 0] S1x512x1024.size inb_S2x512x1024_S1x512x1024_1_0_0).toLoadRect g = plane g 1 :=
  funext fun z => plane_at g 1 inb_S2x512x1024_S1x512x1024_1_0_0 z

theorem pend_eq (d : Data F) (k : ℕ) : (Pend c d k : sProp 𝕄) ⊢ iprop(batch c (cell k) (issued c d k) 1024 0 ∗ aside c d k) := by
  unfold Pend; exact Entails.refl _

theorem St_mid (d : Data F) {n : ℕ} (h0 : 0 < n) (h : n < 64) : St c d n = iprop(Pend c d n ∗ Free c d (n + 1)) := by
  unfold St; rw [if_neg (by omega)]
theorem St_end (d : Data F) {n : ℕ} (h : n = 0 ∨ n = 64) : St c d n = iprop(Free c d n ∗ Free c d (n + 1)) := by
  unfold St; rw [if_pos h]

set_option maxHeartbeats 4000000 in
/-- An even step: the next step's copies issued, this one's waited for, the block written. -/
theorem part9_run {d : Data F} (hd : d.OK) (i : grid0.Coords) (w0 : Memref sig .tc .vmem S512x1024 .f32) (hw0 : w0.IsWhole) (w1 : Memref sig .tc .vmem S512x128 .f32) (hw1 : w1.IsWhole) (w2 : Memref sig .tc .vmem S512x1024 .f32) (hw2 : w2.IsWhole) (h2 : k0_cond2 i = 1#1)
    (x0 : S512x1024.Idx → Elt F .f32) (x1 : S512x128.Idx → Elt F .f32) (y : S512x1024.Idx → Elt F .f32) (K : PUnit → sProp 𝕄) :
    iprop(tab1 c d ∗ tab2 c d ∗ Pend c d (i 0).val ∗ Free c d ((i 0).val + 1) ∗ owing c
      ∗ (w0.view.loc (c : Thread nD τ) ↦[w0.view.set]{fullShare} w0.view.rep x0)
      ∗ (w1.view.loc (c : Thread nD τ) ↦[w1.view.set]{fullShare} w1.view.rep x1)
      ∗ owns (c : Thread nD τ) w2 fullShare y
      ∗ (iprop(tab1 c d ∗ tab2 c d ∗ St c d ((i 0).val + 1) ∗ owing c
        ∗ (w0.view.loc (c : Thread nD τ) ↦[w0.view.set]{fullShare} w0.view.rep x0)
      ∗ (w1.view.loc (c : Thread nD τ) ↦[w1.view.set]{fullShare} w1.view.rep x1)
        ∗ owns (c : Thread nD τ) w2 fullShare (outVal d (i 0).val x0 x1)) -∗ K ⟨⟩))
      ⊢ WP (k0_part9 i (Memref.whole main_arg0) (Memref.isWhole_whole _) (Memref.whole main_arg1) (Memref.isWhole_whole _) (Memref.whole main_arg2) (Memref.isWhole_whole _) w0 hw0 w1 hw1 w2 hw2 (Memref.whole cc0_scratch0) (Memref.isWhole_whole _) (Memref.whole cc0_scratch1) (Memref.isWhole_whole _) cc0_scratch2 (BitVec.ofNat 32 (i 0).val) h2) K := by
  have hi : (i 0).val < 64 := (i 0).isLt
  have hk2 : (i 0).val % 2 = 0 := (cond2_iff i).mp h2
  have eX : (bufAt (i 0).val c Finset.univ (d.got (i 0).val) : sProp 𝕄) ⊢ ((Memref.whole cc0_scratch0).view.loc (c : Thread nD τ) ↦{fullShare} d.got (i 0).val) := by
    rw [bufAt_even hk2]
  have eX' : ((Memref.whole cc0_scratch0).view.loc (c : Thread nD τ) ↦{fullShare} d.got (i 0).val) ⊢ (bufAt (i 0).val c Finset.univ (d.got (i 0).val) : sProp 𝕄) := by
    rw [bufAt_even hk2]
  unfold owns
  rw [k0_part9_eq_skeleton]
  unfold k0_part9_skel
  by_cases h3 : k0_cond3 i = 1#1
  · have hl : (i 0).val + 1 < 64 := (cond3_iff i).mp h3
    have eN : iprop(Pend c d ((i 0).val + 1) ∗ Free c d (i 0).val) ⊢ St c d ((i 0).val + 1) := by
      rw [St_mid c d (by omega) hl, Free_mod c d (k := (i 0).val + 1 + 1) (k' := (i 0).val) (by omega)]
    rw [dif_pos h3]
    iintro ⟨T1, T2, HP, HF, HO, W0, W1, ⟨%f4, %hf4, W2⟩, Hk⟩
    obtain rfl := hw2.eq_unread hf4
    imod (start c d ((i 0).val + 1)) $$ [T1 T2 HF] with ⟨%f, HI, HA⟩
    · isplitl [T1]; · iexact T1
      isplitl [T2] <;> iassumption
    iapply (issue2 c hd i h2 h3 _) $$ HI
    iintro HI
    icases (issue_done c d f ((i 0).val + 1)) $$ [HI HA] with ⟨T1, T2, HN⟩
    · isplitl [HI] <;> iassumption
    icases (pend_eq c d (i 0).val) $$ HP with ⟨HB, HA⟩
    iapply (wait_loop c (l := k0_t3_loop) (body := k0_t3_body i (Memref.whole main_arg0) (Memref.isWhole_whole _) (Memref.whole main_arg1) (Memref.isWhole_whole _) (Memref.whole main_arg2) (Memref.isWhole_whole _) w0 hw0 w1 hw1 w2 hw2 (Memref.whole cc0_scratch0) (Memref.isWhole_whole _) (Memref.whole cc0_scratch1) (Memref.isWhole_whole _) cc0_scratch2 (BitVec.ofNat 32 (i 0).val) h2) (fun _ _ => ⟨⟩) (fun _ _ => rfl) (sem_cell hk2 (by decide) _) (D := issued c d (i 0).val) (j := 1024) (u := 0)
      (by rw [show k0_t3_loop.trips = 1024 from t3_trips]; omega)) $$ [HB HO]
    · isplitl [HB] <;> iassumption
    iintro %_ ⟨HB, HO⟩
    rw [show k0_t3_loop.trips = 1024 from t3_trips, Nat.zero_add]
    imod (collect c d (i 0).val) $$ [HB HA] with ⟨HC, HX, HY⟩
    · isplitl [HB] <;> iassumption
    icases eX $$ HX with HX
    sl_exec!
    sl_step
    iapply Hk
    isplitl [T1]; · iexact T1
    isplitl [T2]; · iexact T2
    isplitl [HN HC HX HY]
    · iapply eN
      isplitl [HN]; · iexact HN
      unfold Free
      isplitl [HC]; · iexact HC
      isplitl [HX]; · iexists (d.got (i 0).val); iapply eX'; iexact HX
      iexact HY
    isplitl [HO]; · iexact HO
    isplitl [W0]; · iexact W0
    isplitl [W1]; · iexact W1
    iexists _; isplitr; swap
    · iexact W2
    ipureintro
    sl_unfold_words
    rw [read_full]
    unfold outVal
    rw [readW0, readW1, planeA0, planeA1]

  · have hl : ¬ (i 0).val + 1 < 64 := fun h => h3 ((cond3_iff i).mpr h)
    have eN : iprop(Free c d ((i 0).val + 1) ∗ Free c d (i 0).val) ⊢ St c d ((i 0).val + 1) := by
      rw [St_end c d (by omega), Free_mod c d (k := (i 0).val + 1 + 1) (k' := (i 0).val) (by omega)]
    rw [dif_neg h3]
    iintro ⟨T1, T2, HP, HN, HO, W0, W1, ⟨%f4, %hf4, W2⟩, Hk⟩
    obtain rfl := hw2.eq_unread hf4
    icases (pend_eq c d (i 0).val) $$ HP with ⟨HB, HA⟩
    iapply (wait_loop c (l := k0_t3_loop) (body := k0_t3_body i (Memref.whole main_arg0) (Memref.isWhole_whole _) (Memref.whole main_arg1) (Memref.isWhole_whole _) (Memref.whole main_arg2) (Memref.isWhole_whole _) w0 hw0 w1 hw1 w2 hw2 (Memref.whole cc0_scratch0) (Memref.isWhole_whole _) (Memref.whole cc0_scratch1) (Memref.isWhole_whole _) cc0_scratch2 (BitVec.ofNat 32 (i 0).val) h2) (fun _ _ => ⟨⟩) (fun _ _ => rfl) (sem_cell hk2 (by decide) _) (D := issued c d (i 0).val) (j := 1024) (u := 0)
      (by rw [show k0_t3_loop.trips = 1024 from t3_trips]; omega)) $$ [HB HO]
    · isplitl [HB] <;> iassumption
    iintro %_ ⟨HB, HO⟩
    rw [show k0_t3_loop.trips = 1024 from t3_trips, Nat.zero_add]
    imod (collect c d (i 0).val) $$ [HB HA] with ⟨HC, HX, HY⟩
    · isplitl [HB] <;> iassumption
    icases eX $$ HX with HX
    sl_exec!
    sl_step
    iapply Hk
    isplitl [T1]; · iexact T1
    isplitl [T2]; · iexact T2
    isplitl [HN HC HX HY]
    · iapply eN
      isplitl [HN]; · iexact HN
      unfold Free
      isplitl [HC]; · iexact HC
      isplitl [HX]; · iexists (d.got (i 0).val); iapply eX'; iexact HX
      iexact HY
    isplitl [HO]; · iexact HO
    isplitl [W0]; · iexact W0
    isplitl [W1]; · iexact W1
    iexists _; isplitr; swap
    · iexact W2
    ipureintro
    sl_unfold_words
    rw [read_full]
    unfold outVal
    rw [readW0, readW1, planeA0, planeA1]

set_option maxHeartbeats 4000000 in
/-- An odd step: the next step's copies issued, this one's waited for, the block written. -/
theorem part14_run {d : Data F} (hd : d.OK) (i : grid0.Coords) (w0 : Memref sig .tc .vmem S512x1024 .f32) (hw0 : w0.IsWhole) (w1 : Memref sig .tc .vmem S512x128 .f32) (hw1 : w1.IsWhole) (w2 : Memref sig .tc .vmem S512x1024 .f32) (hw2 : w2.IsWhole) (h4 : k0_cond4 i = 1#1)
    (x0 : S512x1024.Idx → Elt F .f32) (x1 : S512x128.Idx → Elt F .f32) (y : S512x1024.Idx → Elt F .f32) (K : PUnit → sProp 𝕄) :
    iprop(tab1 c d ∗ tab2 c d ∗ Pend c d (i 0).val ∗ Free c d ((i 0).val + 1) ∗ owing c
      ∗ (w0.view.loc (c : Thread nD τ) ↦[w0.view.set]{fullShare} w0.view.rep x0)
      ∗ (w1.view.loc (c : Thread nD τ) ↦[w1.view.set]{fullShare} w1.view.rep x1)
      ∗ owns (c : Thread nD τ) w2 fullShare y
      ∗ (iprop(tab1 c d ∗ tab2 c d ∗ St c d ((i 0).val + 1) ∗ owing c
        ∗ (w0.view.loc (c : Thread nD τ) ↦[w0.view.set]{fullShare} w0.view.rep x0)
      ∗ (w1.view.loc (c : Thread nD τ) ↦[w1.view.set]{fullShare} w1.view.rep x1)
        ∗ owns (c : Thread nD τ) w2 fullShare (outVal d (i 0).val x0 x1)) -∗ K ⟨⟩))
      ⊢ WP (k0_part14 i (Memref.whole main_arg0) (Memref.isWhole_whole _) (Memref.whole main_arg1) (Memref.isWhole_whole _) (Memref.whole main_arg2) (Memref.isWhole_whole _) w0 hw0 w1 hw1 w2 hw2 (Memref.whole cc0_scratch0) (Memref.isWhole_whole _) (Memref.whole cc0_scratch1) (Memref.isWhole_whole _) cc0_scratch2 (BitVec.ofNat 32 (i 0).val) h4) K := by
  have hi : (i 0).val < 64 := (i 0).isLt
  have hk2 : (i 0).val % 2 = 1 := (cond4_iff i).mp h4
  have eX : (bufAt (i 0).val c Finset.univ (d.got (i 0).val) : sProp 𝕄) ⊢ ((Memref.whole cc0_scratch1).view.loc (c : Thread nD τ) ↦{fullShare} d.got (i 0).val) := by
    rw [bufAt_odd hk2]
  have eX' : ((Memref.whole cc0_scratch1).view.loc (c : Thread nD τ) ↦{fullShare} d.got (i 0).val) ⊢ (bufAt (i 0).val c Finset.univ (d.got (i 0).val) : sProp 𝕄) := by
    rw [bufAt_odd hk2]
  unfold owns
  rw [k0_part14_eq_skeleton]
  unfold k0_part14_skel
  by_cases h5 : k0_cond5 i = 1#1
  · have hl : (i 0).val + 1 < 64 := (cond5_iff i).mp h5
    have eN : iprop(Pend c d ((i 0).val + 1) ∗ Free c d (i 0).val) ⊢ St c d ((i 0).val + 1) := by
      rw [St_mid c d (by omega) hl, Free_mod c d (k := (i 0).val + 1 + 1) (k' := (i 0).val) (by omega)]
    rw [dif_pos h5]
    iintro ⟨T1, T2, HP, HF, HO, W0, W1, ⟨%f4, %hf4, W2⟩, Hk⟩
    obtain rfl := hw2.eq_unread hf4
    imod (start c d ((i 0).val + 1)) $$ [T1 T2 HF] with ⟨%f, HI, HA⟩
    · isplitl [T1]; · iexact T1
      isplitl [T2] <;> iassumption
    iapply (issue4 c hd i h4 h5 _) $$ HI
    iintro HI
    icases (issue_done c d f ((i 0).val + 1)) $$ [HI HA] with ⟨T1, T2, HN⟩
    · isplitl [HI] <;> iassumption
    icases (pend_eq c d (i 0).val) $$ HP with ⟨HB, HA⟩
    iapply (wait_loop c (l := k0_t5_loop) (body := k0_t5_body i (Memref.whole main_arg0) (Memref.isWhole_whole _) (Memref.whole main_arg1) (Memref.isWhole_whole _) (Memref.whole main_arg2) (Memref.isWhole_whole _) w0 hw0 w1 hw1 w2 hw2 (Memref.whole cc0_scratch0) (Memref.isWhole_whole _) (Memref.whole cc0_scratch1) (Memref.isWhole_whole _) cc0_scratch2 (BitVec.ofNat 32 (i 0).val) h4) (fun _ _ => ⟨⟩) (fun _ _ => rfl) (sem_cell hk2 (by decide) _) (D := issued c d (i 0).val) (j := 1024) (u := 0)
      (by rw [show k0_t5_loop.trips = 1024 from t5_trips]; omega)) $$ [HB HO]
    · isplitl [HB] <;> iassumption
    iintro %_ ⟨HB, HO⟩
    rw [show k0_t5_loop.trips = 1024 from t5_trips, Nat.zero_add]
    imod (collect c d (i 0).val) $$ [HB HA] with ⟨HC, HX, HY⟩
    · isplitl [HB] <;> iassumption
    icases eX $$ HX with HX
    sl_exec!
    sl_step
    iapply Hk
    isplitl [T1]; · iexact T1
    isplitl [T2]; · iexact T2
    isplitl [HN HC HX HY]
    · iapply eN
      isplitl [HN]; · iexact HN
      unfold Free
      isplitl [HC]; · iexact HC
      isplitl [HX]; · iexists (d.got (i 0).val); iapply eX'; iexact HX
      iexact HY
    isplitl [HO]; · iexact HO
    isplitl [W0]; · iexact W0
    isplitl [W1]; · iexact W1
    iexists _; isplitr; swap
    · iexact W2
    ipureintro
    sl_unfold_words
    rw [read_full]
    unfold outVal
    rw [readW0, readW1, planeB0, planeB1]
    rfl

  · have hl : ¬ (i 0).val + 1 < 64 := fun h => h5 ((cond5_iff i).mpr h)
    have eN : iprop(Free c d ((i 0).val + 1) ∗ Free c d (i 0).val) ⊢ St c d ((i 0).val + 1) := by
      rw [St_end c d (by omega), Free_mod c d (k := (i 0).val + 1 + 1) (k' := (i 0).val) (by omega)]
    rw [dif_neg h5]
    iintro ⟨T1, T2, HP, HN, HO, W0, W1, ⟨%f4, %hf4, W2⟩, Hk⟩
    obtain rfl := hw2.eq_unread hf4
    icases (pend_eq c d (i 0).val) $$ HP with ⟨HB, HA⟩
    iapply (wait_loop c (l := k0_t5_loop) (body := k0_t5_body i (Memref.whole main_arg0) (Memref.isWhole_whole _) (Memref.whole main_arg1) (Memref.isWhole_whole _) (Memref.whole main_arg2) (Memref.isWhole_whole _) w0 hw0 w1 hw1 w2 hw2 (Memref.whole cc0_scratch0) (Memref.isWhole_whole _) (Memref.whole cc0_scratch1) (Memref.isWhole_whole _) cc0_scratch2 (BitVec.ofNat 32 (i 0).val) h4) (fun _ _ => ⟨⟩) (fun _ _ => rfl) (sem_cell hk2 (by decide) _) (D := issued c d (i 0).val) (j := 1024) (u := 0)
      (by rw [show k0_t5_loop.trips = 1024 from t5_trips]; omega)) $$ [HB HO]
    · isplitl [HB] <;> iassumption
    iintro %_ ⟨HB, HO⟩
    rw [show k0_t5_loop.trips = 1024 from t5_trips, Nat.zero_add]
    imod (collect c d (i 0).val) $$ [HB HA] with ⟨HC, HX, HY⟩
    · isplitl [HB] <;> iassumption
    icases eX $$ HX with HX
    sl_exec!
    sl_step
    iapply Hk
    isplitl [T1]; · iexact T1
    isplitl [T2]; · iexact T2
    isplitl [HN HC HX HY]
    · iapply eN
      isplitl [HN]; · iexact HN
      unfold Free
      isplitl [HC]; · iexact HC
      isplitl [HX]; · iexists (d.got (i 0).val); iapply eX'; iexact HX
      iexact HY
    isplitl [HO]; · iexact HO
    isplitl [W0]; · iexact W0
    isplitl [W1]; · iexact W1
    iexists _; isplitr; swap
    · iexact W2
    ipureintro
    sl_unfold_words
    rw [read_full]
    unfold outVal
    rw [readW0, readW1, planeB0, planeB1]
    rfl

/-- The body at every grid point. -/
theorem body_run {d : Data F} (hd : d.OK) (i : grid0.Coords) (w0 : Memref sig .tc .vmem S512x1024 .f32) (hw0 : w0.IsWhole) (w1 : Memref sig .tc .vmem S512x128 .f32) (hw1 : w1.IsWhole) (w2 : Memref sig .tc .vmem S512x1024 .f32) (hw2 : w2.IsWhole)
    (x0 : S512x1024.Idx → Elt F .f32) (x1 : S512x128.Idx → Elt F .f32) (y : S512x1024.Idx → Elt F .f32) (K : PUnit → sProp 𝕄) :
    iprop(tab1 c d ∗ tab2 c d ∗ St c d (i 0).val ∗ owing c
      ∗ (w0.view.loc (c : Thread nD τ) ↦[w0.view.set]{fullShare} w0.view.rep x0)
      ∗ (w1.view.loc (c : Thread nD τ) ↦[w1.view.set]{fullShare} w1.view.rep x1)
      ∗ owns (c : Thread nD τ) w2 fullShare y
      ∗ (iprop(tab1 c d ∗ tab2 c d ∗ St c d ((i 0).val + 1) ∗ owing c
        ∗ (w0.view.loc (c : Thread nD τ) ↦[w0.view.set]{fullShare} w0.view.rep x0)
      ∗ (w1.view.loc (c : Thread nD τ) ↦[w1.view.set]{fullShare} w1.view.rep x1)
        ∗ owns (c : Thread nD τ) w2 fullShare (outVal d (i 0).val x0 x1)) -∗ K ⟨⟩))
      ⊢ WP (cc0_moe_combine i (Memref.whole main_arg0) (Memref.isWhole_whole _) (Memref.whole main_arg1) (Memref.isWhole_whole _) (Memref.whole main_arg2) (Memref.isWhole_whole _) w0 hw0 w1 hw1 w2 hw2 (Memref.whole cc0_scratch0) (Memref.isWhole_whole _) (Memref.whole cc0_scratch1) (Memref.isWhole_whole _) cc0_scratch2) K := by
  have hi : (i 0).val < 64 := (i 0).isLt
  rw [cc0_moe_combine_eq_skeleton]
  unfold cc0_moe_combine_skel
  by_cases h1 : k0_cond1 i = 1#1
  · have e0 : (i 0).val = 0 := (cond1_iff i).mp h1
    have h2 : k0_cond2 i = 1#1 := (cond2_iff i).mpr (by omega)
    have h4 : ¬ k0_cond4 i = 1#1 := fun h => by have := (cond4_iff i).mp h; omega
    have eS : (St c d (i 0).val : sProp 𝕄) ⊢ iprop(Free c d 0 ∗ Free c d ((i 0).val + 1)) := by
      rw [St_end c d (Or.inl e0), e0]
    have eP : (Pend c d 0 : sProp 𝕄) ⊢ Pend c d (i 0).val := by rw [e0]
    rw [dif_pos h1, dif_pos h2, dif_neg h4]
    iintro ⟨T1, T2, HS, HO, W0, W1, W2, Hk⟩
    icases eS $$ HS with ⟨HF, HN⟩
    imod (start c d 0) $$ [T1 T2 HF] with ⟨%f, HI, HA⟩
    · isplitl [T1]; · iexact T1
      isplitl [T2] <;> iassumption
    iapply (issue1 c hd i h1 _) $$ HI
    iintro HI
    icases (issue_done c d f 0) $$ [HI HA] with ⟨T1, T2, HP⟩
    · isplitl [HI] <;> iassumption
    icases eP $$ HP with HP
    iapply (run_bind c)
    iapply (part9_run c hd i w0 hw0 w1 hw1 w2 hw2 h2 x0 x1 y _) $$ [T1 T2 HP HN HO W0 W1 W2 Hk]
    isplitl [T1]; · iexact T1
    isplitl [T2]; · iexact T2
    isplitl [HP]; · iexact HP
    isplitl [HN]; · iexact HN
    isplitl [HO]; · iexact HO
    isplitl [W0]; · iexact W0
    isplitl [W1]; · iexact W1
    isplitl [W2]; · iexact W2
    iintro H
    iapply (le_wp_ret _ _ _ _ _)
    iapply Hk
    iexact H
  · have e0 : (i 0).val ≠ 0 := fun h => h1 ((cond1_iff i).mpr h)
    rw [St_mid c d (by omega) hi]
    by_cases h2 : k0_cond2 i = 1#1
    · have h4 : ¬ k0_cond4 i = 1#1 := fun h => by have := (cond4_iff i).mp h; have := (cond2_iff i).mp h2; omega
      rw [dif_neg h1, dif_pos h2, dif_neg h4]
      iintro ⟨T1, T2, ⟨HP, HN⟩, HO, W0, W1, W2, Hk⟩
      iapply (run_bind c)
      iapply (part9_run c hd i w0 hw0 w1 hw1 w2 hw2 h2 x0 x1 y _) $$ [T1 T2 HP HN HO W0 W1 W2 Hk]
      isplitl [T1]; · iexact T1
      isplitl [T2]; · iexact T2
      isplitl [HP]; · iexact HP
      isplitl [HN]; · iexact HN
      isplitl [HO]; · iexact HO
      isplitl [W0]; · iexact W0
      isplitl [W1]; · iexact W1
      isplitl [W2]; · iexact W2
      iintro H
      iapply (le_wp_ret _ _ _ _ _)
      iapply Hk
      iexact H
    · have hodd : (i 0).val % 2 ≠ 0 := fun h => h2 ((cond2_iff i).mpr h)
      have h4 : k0_cond4 i = 1#1 := (cond4_iff i).mpr (by omega)
      rw [dif_neg h1, dif_neg h2, dif_pos h4]
      iintro ⟨T1, T2, ⟨HP, HN⟩, HO, W0, W1, W2, Hk⟩
      iapply (run_bind c)
      iapply (part14_run c hd i w0 hw0 w1 hw1 w2 hw2 h4 x0 x1 y _) $$ [T1 T2 HP HN HO W0 W1 W2 Hk]
      isplitl [T1]; · iexact T1
      isplitl [T2]; · iexact T2
      isplitl [HP]; · iexact HP
      isplitl [HN]; · iexact HN
      isplitl [HO]; · iexact HO
      isplitl [W0]; · iexact W0
      isplitl [W1]; · iexact W1
      isplitl [W2]; · iexact W2
      iintro H
      iapply (le_wp_ret _ _ _ _ _)
      iapply Hk
      iexact H

end Cert.Kernel4Ideal.Combine

end
-- ==== Proof.Combine.Frame.lean ====
/-
  The launch: from memory to the kernel's data, every grid point's obligation, and back to memory. The run's end holds
  the result as the blocks make it, the arguments unchanged and every semaphore at zero.
-/
module

public import proofs.«01_k».proof.Proof.Combine.Body
public import Idealize.ShloMosaic.Lib.Pipeline.FrameBody
public import Idealize.ShloMosaic.Lib.Pipeline.FrameValue
public import Idealize.ShloMosaic.Lib.Pipeline.Quiescent
public import Idealize.ShloMosaic.Lib.Claim
public import Idealize.ShloMosaic.Adequacy
public import Idealize.ShloMosaic.Init

@[expose] public section

noncomputable section

namespace Cert.Kernel4Ideal.Combine

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.Sem Idealize.SL.ProofMode
open Idealize.ShloMosaic.ValueIdx
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The kernel's data, read off memory: the two tables and the experts' products. -/
def dataOf (c : Dev nD) : Data F where
  f1 := m ((c : Thread nD τ).loc main_arg0)
  f2 := m ((c : Thread nD τ).loc main_arg1)
  y := m ((c : Thread nD τ).loc main_arg2)
  q1 := fullShare.right
  q2 := fullShare.right

/-- The buffers' contents at the region's entry and at its end. -/
abbrev V (c : Dev nD) (b : Ref sig .tc) : Buf (Elt F) ((c : Thread nD τ).loc b) := m ((c : Thread nD τ).loc b)

def H0 : Finset (Ref sig .tc) := {main_arg2}
def R0 : Finset (Ref sig .tc) := ∅
theorem H0_sub : H0 ⊆ Pipeline.restRefsP sig pre0 spec0 := by decide
theorem R0_sub : R0 ⊆ Pipeline.restRefsP sig pre0 spec0 \ H0 := by decide

/-- The tables and the products are not arrays the windows move. -/
theorem apart0 : ∀ w : Fin 3, (spec0 w).arr.view.ref ≠ main_arg0 := by decide
theorem apart1 : ∀ w : Fin 3, (spec0 w).arr.view.ref ≠ main_arg1 := by decide
theorem apart2 : ∀ w : Fin 3, (spec0 w).arr.view.ref ≠ main_arg2 := by decide

/-- The kernel's own semaphore cells. -/
abbrev osem0 : Fin 2 → SemLoc sig := fun j => SemLoc.dma (cell j.val)
theorem ownSemFacts0 : Pipeline.OwnSemFacts spec0 osem0 := by decide

theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_region pcfgs 0 defs₀ 𝒱₀ m main fun c => (main_chain c).trans rfl

/-- The tables at the region's entry. -/
def tbl : pre0.Contents (Elt F) := fun j => V m (0 : Dev nD) (pre0.ref j)
theorem V_pre (c : Dev nD) (j : Fin 2) : V m c (pre0.ref j) = tbl m j := by
  obtain rfl : c = 0 := Subsingleton.elim _ _; rfl
abbrev adm : (pcfg0 (F := F)).Adm := ⟨tbl m, trivial⟩
abbrev cfgA : Cfg sig Λ₀ := cfg0 (adm m)
abbrev crd (t : Fin (cfgA m).N) : grid0.Coords := grid0.coords t

abbrev ms0_0 (t : Fin (cfgA m).N) : Memref sig .tc .vmem S512x1024 .f32 := spec0_0.stage ((cfgA m).slots t 0)
abbrev hs0_0 (t : Fin (cfgA m).N) : (ms0_0 m t).IsWhole := hstage0_0 (((cfgA m).slots t 0).cast nbuf0_0)
abbrev ms0_1 (t : Fin (cfgA m).N) : Memref sig .tc .vmem S512x128 .f32 := spec0_1.stage ((cfgA m).slots t 1)
abbrev hs0_1 (t : Fin (cfgA m).N) : (ms0_1 m t).IsWhole := hstage0_1 (((cfgA m).slots t 1).cast nbuf0_1)
abbrev ms0_2 (t : Fin (cfgA m).N) : Memref sig .tc .vmem S512x1024 .f32 := spec0_2.stage ((cfgA m).slots t 2)
abbrev hs0_2 (t : Fin (cfgA m).N) : (ms0_2 m t).IsWhole := hstage0_2 (((cfgA m).slots t 2).cast nbuf0_2)

theorem pt_lt (t : Fin (cfgA m).N) : t.val < 64 := lt_of_lt_of_eq t.isLt N_0
theorem crd_eq (t : Fin (cfgA m).N) : (crd m t 0).val = t.val := by
  have h := pt_lt m t
  show t.val / 1 % 64 = _
  rw [Nat.div_one, Nat.mod_eq_of_lt h]

/-- The block of a window's array at a grid point. -/
def iblk (c : Dev nD) (w : Fin 3) (t : Fin (cfgA m).N) : ((cfgA m).win w).block.Idx → Elt F ((cfgA m).win w).elt :=
  (((cfgA m).win w).blk t).view.read (Elt F) (m (((cfgA m).win w).arr.view.loc (c : Thread nD τ)))

theorem ownSems0_eq (c : Dev nD) :
    (Pipeline.ownSems0 (Ix := Unit) (Name := ℕ) (U := Pipeline.UD sig nD τ) (Lvl := ℕ) (Val := Elt F) (τ := τ) osem0 c : sProp 𝕄)
      = iprop(zeroAt c (cell 0) ∗ zeroAt c (cell 1)) := by
  rw [Pipeline.ownSems0_eq_of_list c osem0 [0, 1] (by decide) (by decide)]; rfl

theorem read_eq (c : Dev nD) :
    (bigSep H0 (fun b => ((c : Thread nD τ).loc b) ↦{fullShare} V m c b) : sProp 𝕄) = yAt c Finset.univ fullShare (dataOf m c).y := by
  rw [BI.bigSep_eq_bigSepL_of_eq [main_arg2] (by decide) (by decide)]; rfl

theorem written_eq (c : Dev nD) (W : (b : Ref sig .tc) → Buf (Elt F) ((c : Thread nD τ).loc b)) :
    (Pipeline.routed R0 c W : sProp 𝕄) = iprop(emp) := by
  unfold Pipeline.routed R0
  rw [bigSep_empty]
  rfl

theorem tables_eq (c : Dev nD) :
    (Pipeline.ΦT (U := Pipeline.UD sig nD τ) pre0 (tbl m) c : sProp 𝕄) = iprop(tab1 c (dataOf m c) ∗ tab2 c (dataOf m c)) := by
  obtain rfl : c = 0 := Subsingleton.elim _ _
  show Pipeline.prefHeld _ _ _ _ = _
  unfold Pipeline.prefHeld
  rw [BI.bigSep_eq_bigSepL_of_eq [0, 1] (by decide) (by decide)]; rfl

/-- What the region holds besides the windows and the tables, at rest. -/
def Held (c : Dev nD) : sProp 𝕄 :=
  iprop(((∃ f, bufAt 0 c Finset.univ f) ∗ (∃ f, bufAt 1 c Finset.univ f)) ∗ (∃ r, prngReg c r)
    ∗ (zeroAt c (cell 0) ∗ zeroAt c (cell 1)) ∗ yAt c Finset.univ fullShare (dataOf m c).y ∗ emp)

theorem held_eq (c : Dev nD) (W : (c : Dev nD) → (b : Ref sig .tc) → Buf (Elt F) ((c : Thread nD τ).loc b)) :
    (Pipeline.ΦDRG osem0 spec0 H0 R0 (V m) W c : sProp 𝕄) = Held m c := by
  rw [Pipeline.ΦDRG_eq, scopedRest0_eq, ownSems0_eq, read_eq, written_eq]; rfl

/-- At rest every step's cell, buffer and half of the products are free. -/
theorem held_rest (c : Dev nD) (d : Data F) (n : ℕ) (hn : n = 0 ∨ n = 64) :
    (St c d n : sProp 𝕄) = iprop(Free c d 0 ∗ Free c d 1) := by
  rw [St_end c d hn]
  rcases hn with rfl | rfl
  · rfl
  · rw [Free_mod c d (k := 64) (k' := 0) rfl, Free_mod c d (k := 64 + 1) (k' := 1) rfl]

theorem held_iff (c : Dev nD) :
    (Held m c : sProp 𝕄) = iprop((∃ r, prngReg c r) ∗ Free c (dataOf m c) 0 ∗ Free c (dataOf m c) 1) := by
  unfold Held Free
  rw [y_halves]
  refine entails_eq ?_ ?_
  · iintro ⟨⟨B0, B1⟩, HP, ⟨Z0, Z1⟩, ⟨Y0, Y1⟩, -⟩
    isplitl [HP]; · iexact HP
    isplitl [Z0 B0 Y0]
    · isplitl [Z0]; · iexact Z0
      isplitl [B0] <;> iassumption
    · isplitl [Z1]; · iexact Z1
      isplitl [B1] <;> iassumption
  · iintro ⟨HP, ⟨Z0, B0, Y0⟩, Z1, B1, Y1⟩
    isplitl [B0 B1]
    · isplitl [B0] <;> iassumption
    isplitl [HP]; · iexact HP
    isplitl [Z0 Z1]
    · isplitl [Z0] <;> iassumption
    isplitl [Y0 Y1]
    · isplitl [Y0] <;> iassumption
    iempintro

/-- The invariant before a grid point: the tables, and the two steps' cells, buffers and halves of the products. -/
def Phi (c : Dev nD) (n : ℕ) : sProp 𝕄 :=
  iprop(tab1 c (dataOf m c) ∗ tab2 c (dataOf m c) ∗ (∃ r, prngReg c r) ∗ St c (dataOf m c) n)

/-- The output block after a point. -/
def blkVal (c : Dev nD) (t : Fin (cfgA m).N) : S512x1024.Idx → Elt F .f32 :=
  outVal (dataOf m c) t.val (iblk m c 0 t) (iblk m c 1 t)

def dats (_ : Fin 1) (c : Dev nD) : Dat τ (Elt F) Unit ℕ (Pipeline.UD sig nD τ) ℕ (cfgA m) c where
  A w := m (((cfgA m).win w).arr.view.loc (c : Thread nD τ))
  after w t := match w with
    | ⟨0, _⟩ => iblk m c 0 t
    | ⟨1, _⟩ => iblk m c 1 t
    | ⟨2, _⟩ => blkVal m c t
  Φ t := Phi m c t.val
  q _ := fullShare
  owed _ := 0

theorem after0_0 (c : Dev nD) (t : Fin (cfgA m).N) : (dats m 0 c).after (0 : Fin 3) t = iblk m c 0 t := rfl
theorem after0_1 (c : Dev nD) (t : Fin (cfgA m).N) : (dats m 0 c).after (1 : Fin 3) t = iblk m c 1 t := rfl
theorem after0_2 (c : Dev nD) (t : Fin (cfgA m).N) : (dats m 0 c).after (2 : Fin 3) t = blkVal m c t := rfl

theorem before0_0 (c : Dev nD) (t : Fin (cfgA m).N) (d) : (dats m 0 c).before (0 : Fin 3) t d = iblk m c 0 t :=
  ((dats m 0 c).before_in_eq_fetched (0 : Fin 3) rfl (fun _ => rfl) (fun _ _ _ => rfl) (fun t => by rw [after0_0]; unfold Dat.blockOf iblk; rfl) t d).trans
    (by unfold Dat.fetched Dat.blockOf iblk; rfl)
theorem before0_1 (c : Dev nD) (t : Fin (cfgA m).N) (d) : (dats m 0 c).before (1 : Fin 3) t d = iblk m c 1 t :=
  ((dats m 0 c).before_in_eq_fetched (1 : Fin 3) rfl (fun _ => rfl) (fun _ _ _ => rfl) (fun t => by rw [after0_1]; unfold Dat.blockOf iblk; rfl) t d).trans
    (by unfold Dat.fetched Dat.blockOf iblk; rfl)

/-- Every point writes the output block. -/
theorem idle2 (t : Fin (cfgA m).N) : (cfgA m).idle (2 : Fin 3) ((cfgA m).grid.coords t) = false := by
  show (!(k0_cond2 (crd m t) == 1#1) && !(k0_cond4 (crd m t) == 1#1)) = false
  have h2 := cond2_iff (crd m t)
  have h4 := cond4_iff (crd m t)
  by_cases h : (crd m t 0).val % 2 = 0
  · rw [h2.mpr h]; rfl
  · rw [h4.mpr (by omega)]
    exact Bool.and_false _

abbrev bodyAt0 (t : Fin (cfgA m).N) : Prog (TpuEff nD τ sig (Elt F) Λ₀ .tc) PUnit :=
  cc0_moe_combine (crd m t) (Memref.whole main_arg0) (Memref.isWhole_whole _) (Memref.whole main_arg1) (Memref.isWhole_whole _) (Memref.whole main_arg2) (Memref.isWhole_whole _) (ms0_0 m t) (hs0_0 m t) (ms0_1 m t) (hs0_1 m t) (ms0_2 m t) (hs0_2 m t) (Memref.whole cc0_scratch0) (Memref.isWhole_whole _) (Memref.whole cc0_scratch1) (Memref.isWhole_whole _) cc0_scratch2

variable (hd : ∀ c, (dataOf m c).OK)

section
include hd

set_option maxHeartbeats 4000000 in
theorem sound_body (c : Dev nD) (t : Fin (cfgA m).N) :
    iprop((dats m 0 c).Φ t.castSucc ∗ (dats m 0 c).owesAt () t.castSucc
        ∗ (∃ d, owns (c : Thread nD τ) (ms0_0 m t) fullShare ((dats m 0 c).before (0 : Fin 3) t d))
        ∗ (∃ d, owns (c : Thread nD τ) (ms0_1 m t) fullShare ((dats m 0 c).before (1 : Fin 3) t d))
        ∗ (∃ d, owns (c : Thread nD τ) (ms0_2 m t) fullShare ((dats m 0 c).before (2 : Fin 3) t d)))
      ⊢ wp frame (wpE (defs₀ (F := F)) Variants.none c none) Set.univ (bodyAt0 m t) fun _ =>
          iprop((dats m 0 c).Φ t.succ ∗ (dats m 0 c).owesAt () t.succ
            ∗ bigSep Finset.univ fun w : Fin (cfgA m).W =>
                match (cfgA m).idle w ((cfgA m).grid.coords t) with
                | true =>
                  match ((cfgA m).win w).flush t with
                  | false => iprop(∃ d, owns (c : Thread nD τ) (((cfgA m).win w).stage ((cfgA m).slots t w)) fullShare ((dats m 0 c).before w t d))
                  | true => owns (c : Thread nD τ) (((cfgA m).win w).stage ((cfgA m).slots t w)) fullShare ((dats m 0 c).after w t)
                | false => owns (c : Thread nD τ) (((cfgA m).win w).stage ((cfgA m).slots t w)) fullShare ((dats m 0 c).after w t)) := by
  rw [bigSep_W0]
  have hi := crd_eq m t
  have ho : ∀ s, (dats m 0 c).owesAt () s ⊢ (owing c : sProp 𝕄) := fun s => by
    unfold Dat.owesAt Pipeline.owesWithin owing
    iintro ⟨%W, -, HW⟩; iexists W; iexact HW
  have ho' : ∀ s, (owing c : sProp 𝕄) ⊢ (dats m 0 c).owesAt () s := fun s => by
    unfold Dat.owesAt Pipeline.owesWithin owing
    iintro ⟨%W, HW⟩; iexists W
    isplitr
    · ipureintro; exact fun _ _ => Or.inl trivial
    · iexact HW
  have hlast : (owns (c : Thread nD τ) (ms0_2 m t) fullShare (outVal (dataOf m c) (crd m t 0).val (iblk m c 0 t) (iblk m c 1 t)) : sProp 𝕄)
      ⊢ (match (cfgA m).idle 2 ((cfgA m).grid.coords t) with
          | true =>
            match ((cfgA m).win 2).flush t with
            | false => iprop(∃ d, owns (c : Thread nD τ) (((cfgA m).win 2).stage ((cfgA m).slots t 2)) fullShare ((dats m 0 c).before 2 t d))
            | true => owns (c : Thread nD τ) (((cfgA m).win 2).stage ((cfgA m).slots t 2)) fullShare ((dats m 0 c).after 2 t)
          | false => owns (c : Thread nD τ) (((cfgA m).win 2).stage ((cfgA m).slots t 2)) fullShare ((dats m 0 c).after 2 t)) := by
    rw [idle2, hi]
    exact .rfl
  have e0 : (St c (dataOf m c) t.val : sProp 𝕄) ⊢ St c (dataOf m c) (crd m t 0).val := by rw [hi]
  have e1 : (St c (dataOf m c) ((crd m t 0).val + 1) : sProp 𝕄) ⊢ St c (dataOf m c) (t.val + 1) := by rw [hi]
  rewrite [show (dats m 0 c).Φ t.succ = Phi m c (t.val + 1) from rfl, show (dats m 0 c).Φ t.castSucc = Phi m c t.val from rfl]
  simp only [before0_0, before0_1, after0_0, after0_1]
  unfold Phi
  iintro ⟨⟨T1, T2, HP, HS⟩, Ho, ⟨%d0, W0⟩, ⟨%d1, W1⟩, ⟨%d2, W2⟩⟩
  iapply (body_run c (hd c) (crd m t) (ms0_0 m t) (hs0_0 m t) (ms0_1 m t) (hs0_1 m t) (ms0_2 m t) (hs0_2 m t)
    (iblk m c 0 t) (iblk m c 1 t) ((dats m 0 c).before (2 : Fin 3) t d2) _)
  isplitl [T1]; · iexact T1
  isplitl [T2]; · iexact T2
  isplitl [HS]; · iapply e0; iexact HS
  isplitl [Ho]; · iapply (ho _); iexact Ho
  isplitl [W0]; · iapply rep_of_owns; iexact W0
  isplitl [W1]; · iapply rep_of_owns; iexact W1
  isplitl [W2]; · iexact W2
  iintro ⟨T1, T2, HS, Ho, W0, W1, W2⟩
  isplitl [T1 T2 HP HS]
  · isplitl [T1]; · iexact T1
    isplitl [T2]; · iexact T2
    isplitl [HP]; · iexact HP
    iapply e1; iexact HS
  isplitl [Ho]; · iapply (ho' _); iexact Ho
  isplitl [W0]
  · iapply owns_of_rep; iexact W0
  isplitl [W1]
  · iapply owns_of_rep; iexact W1
  iapply hlast
  iexact W2

theorem body_obligation (c : Dev nD) : BodyObligation (dats m 0 c) (defs₀ (F := F)) Variants.none () Set.univ := fun t => by
  rw [bigSep_W0]
  exact sound_body m hd c t

end

theorem share_eq (c : Dev nD) (w : Fin (cfgA m).W) : (dats m 0 c).share w = fullShare := by unfold Dat.share; split <;> rfl

theorem enter (c : Dev nD) :
    (iprop(Pipeline.ΦDRG osem0 spec0 H0 R0 (V m) (V m) c ∗ Pipeline.ΦT (U := Pipeline.UD sig nD τ) pre0 (tbl m) c) : sProp 𝕄) ⊢ (dats m 0 c).Φ 0 := by
  rw [held_eq, tables_eq, held_iff, show (dats m 0 c).Φ 0 = Phi m c 0 from rfl]
  unfold Phi
  rw [held_rest c _ 0 (Or.inl rfl)]
  iintro ⟨⟨HP, HF⟩, T1, T2⟩
  isplitl [T1]; · iexact T1
  isplitl [T2]; · iexact T2
  isplitl [HP] <;> iassumption

theorem leave (c : Dev nD) :
    (dats m 0 c).Φ (Fin.last (cfgA m).N) ⊢ (Pipeline.ΦDRG osem0 spec0 H0 R0 (V m) (V m) c : sProp 𝕄) := by
  have h : (dats m 0 c).Φ (Fin.last (cfgA m).N) = Phi m c 64 := congrArg (Phi m c) (show (cfgA m).N = 64 from N_0)
  rw [held_eq, held_iff, h]
  unfold Phi
  rw [held_rest c _ 64 (Or.inr rfl)]
  iintro ⟨-, -, HP, HF⟩
  isplitl [HP] <;> iassumption

include hd

set_option backward.isDefEq.respectTransparency.types false in
theorem run_main :
    θ_run defs (onTc (τ := τ) (main (F := F))) ⟨m, fun _ => 0, ρ⟩
      (fun r => Pipeline.FramePostRG (Pipeline.pin pcfgs fun _ => adm m) (dats m) 0 R0 (V m) (V m) r ∧ r.2.sem = fun _ => 0) :=
  Pipeline.θ_run_frameP_dmaRG (Q' := _) pcfgs (fun _ => adm m) (dats m) (0 : Fin 1) launch0 osem0 defs₀ Variants.none ownSemFacts0 H0 R0 H0_sub R0_sub m ρ main
    (hbody := fun c => (body_obligation m hd c).loose) (hshare := share_eq m)
    (howed := fun _ _ => rfl) (V := V m) (hmain := hmain m Variants.none) (hA := fun _ _ => rfl) (hpf := V_pre m) (G := V m)
    (hin := fun c => enter m c) (hout := fun c => leave m c)

/-- THE RUN: the arguments unchanged, the result as the blocks make it, every semaphore at zero. -/
theorem run :
    θ_run defs (onTc (τ := τ) (main (F := F))) ⟨m, fun _ => 0, ρ⟩ (fun r => (∀ c : Dev nD,
      r.2.mem ((c.tc : Thread nD τ).loc main_v0) = (dats m 0 c).arrAt 2 (cfgA m).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(h.1.1 c).1 2,
      (h.1.1 c).2 main_arg0 (Finset.mem_sdiff.mpr ⟨Pipeline.mem_restRefs_of main_arg0 (by decide) apart0, by decide⟩),
      (h.1.1 c).2 main_arg1 (Finset.mem_sdiff.mpr ⟨Pipeline.mem_restRefs_of main_arg1 (by decide) apart1, by decide⟩),
      (h.1.1 c).2 main_arg2 (Finset.mem_sdiff.mpr ⟨Pipeline.mem_restRefs_of main_arg2 (by decide) apart2, by decide⟩),
      ((h.1.1 c).1 0).trans ((dats m 0 c).arrAt_in (0 : Fin 3) rfl _),
      ((h.1.1 c).1 1).trans ((dats m 0 c).arrAt_in (1 : Fin 3) rfl _)⟩, h.2⟩) (run_main m ρ hd)

end Cert.Kernel4Ideal.Combine

end
-- ==== Proof.Combine.Spec.lean ====
/-
  The weighted combine as a sum over the extended reals: the stream, and a token's two rows of the experts' products by
  the token's two weights.
-/
module

public import Idealize.ShloMosaic.PureOps.Ideal
public import Idealize.ShloMosaic.Lib.ValueIdx

@[expose] public section

noncomputable section

namespace Cert.Combine

open Idealize.ShloMosaic
open Idealize.ShloMosaic.ValueIdx

/-- A table of rows, the products' rows, the stream, and what the router says of each token. -/
abbrev RowTable := (⟨1, ![32768]⟩ : Shape).Idx → BitVec 32
abbrev Prods := (⟨2, ![73728, 1024]⟩ : Shape).Idx → EReal
abbrev Rows := (⟨2, ![32768, 1024]⟩ : Shape).Idx → EReal
abbrev Info := (⟨2, ![32768, 128]⟩ : Shape).Idx → EReal

/-- A token's row by a table. -/
def pick (f : RowTable) (t : Fin 32768) : Fin 73728 := ⟨(f (ix1 t)).toNat % 73728, Nat.mod_lt _ (by decide)⟩

/-- The stream with both of a token's experts added to it. -/
def layer (f1 f2 : RowTable) (y : Prods) (x : Rows) (w : Info) : Rows := fun i =>
  (x i + w (ix2 (i 0) (4 : Fin 128)) * y (ix2 (pick f1 (i 0)) (i 1))) + w (ix2 (i 0) (5 : Fin 128)) * y (ix2 (pick f2 (i 0)) (i 1))

end Cert.Combine

end
-- ==== Proof.Combine.Value.lean ====
/-
  The kernel computes the combine: the blocks a point reads, the output block, and the array the blocks make up.
-/
module

public import proofs.«01_k».proof.Proof.Combine.Frame
public import proofs.«01_k».proof.Proof.Combine.Spec
public import Idealize.ShloMosaic.Lib.Pipeline.ValueKit.Geometry
public import Idealize.ShloMosaic.Lib.ValueLayout
public import Idealize.ShloMosaic.Lib.ValueLayoutCasts
public import Idealize.ShloMosaic.PureOps.Ideal.Laws
public import Mathlib.Algebra.BigOperators.Fin

@[expose] public section

noncomputable section

namespace Cert.Kernel4Ideal.Combine

open Cert.Kernel4Ideal Cert.Kernel4Ideal.Gen
open Idealize.ShloMosaic Idealize.ShloMosaic.TcCoe
open Idealize.ShloMosaic.ValueIdx
open Idealize.ShloMosaic.Pipeline (Dat Cfg Window)
open Cert.Combine

/-! ## One block's arithmetic -/

/-- Column `k` put back into a row's index. -/
theorem lift_row (h : S512x128.Reduces [1] S512) (r : Fin 512) (k : Fin (S512x128.size 1)) :
    h.lift (ix1 r) k = ix2 r (⟨k.val, k.isLt⟩ : Fin 128) := by
  funext a; apply Fin.ext
  fin_cases a <;> rfl

/-- A row's sum of the lanes equal to one lane, the others taken as zero, is that lane. -/
theorem lane (w : S512x128.Idx → EReal) (n : Fin 128) (hr : S512x128.Reduces [1] S512) (r : Fin 512) :
    multiReduction (F := Ideal) (φ := .f32) .add [1] S512
        (select (cmpi .eq (iota .tc S512x128 32 [1] iota_S512x128_d1_w32) (broadcast S512x128 (BitVec.ofNat 32 n.val))) w
          (broadcast S512x128 (Scalar.ofBits (F := Ideal) .f32 0x00000000#32))) 0x00000000#32 hr (.inl rfl) rfl (ix1 r)
      = w (ix2 r n) := by
  refine (Idealize.ShloMosaic.Ideal.multiReduction_add_single _ _ _ _ _ _).trans ?_
  have hz : (Scalar.ofBits (F := Ideal) .f32 0x00000000#32 : EReal) = 0 := by
    show Ideal.ofBits .f32 0x00000000#32 = 0
    simp [Ideal.ofBits, Ideal.ieee]
  have term : ∀ k : Fin 128, Scalar.select (IntOp.cmpi .eq (BitVec.ofNat 32 k.val) (BitVec.ofNat 32 n.val)) (w (ix2 r k))
      (Scalar.ofBits (F := Ideal) .f32 0x00000000#32 : EReal) = if k = n then w (ix2 r n) else 0 := by
    intro k
    rw [hz]
    by_cases hk : k = n
    · subst hk
      rw [if_pos rfl]
      have e : IntOp.cmpi .eq (BitVec.ofNat 32 k.val) (BitVec.ofNat 32 k.val) = 1#1 := by
        unfold IntOp.cmpi; simp
      rw [e]; rfl
    · rw [if_neg hk]
      have hne : BitVec.ofNat 32 k.val ≠ BitVec.ofNat 32 n.val := by
        intro h
        have := congrArg BitVec.toNat h
        rw [BitVec.toNat_ofNat, BitVec.toNat_ofNat, Nat.mod_eq_of_lt (by omega), Nat.mod_eq_of_lt (by omega)] at this
        exact hk (Fin.ext this)
      have e : IntOp.cmpi .eq (BitVec.ofNat 32 k.val) (BitVec.ofNat 32 n.val) = 0#1 := by
        show BitVec.ofBool (BitVec.ofNat 32 k.val == BitVec.ofNat 32 n.val) = 0#1
        rw [beq_false_of_ne hne]; rfl
      rw [e]; rfl
  refine Eq.trans (Finset.sum_congr rfl (g := fun k : Fin 128 => if k = n then w (ix2 r n) else 0) fun k _ => ?_) ?_
  · refine (congrArg (fun i => Scalar.select (IntOp.cmpi .eq (iota .tc S512x128 32 [1] iota_S512x128_d1_w32 i) (BitVec.ofNat 32 n.val)) (w i)
      (Scalar.ofBits (F := Ideal) .f32 0x00000000#32 : EReal)) (lift_row hr r k)).trans (Eq.trans ?_ (term k))
    show Scalar.select (IntOp.cmpi .eq (iota .tc S512x128 32 [1] iota_S512x128_d1_w32 (ix2 r k)) _) _ _ = _
    rw [iota_single_apply]
  · exact (Finset.sum_ite_eq' Finset.univ n _).trans (if_pos (Finset.mem_univ n))

/-- A vector of one lane to a row, read along the row. -/
theorem spread (v : S512.Idx → EReal) (h1 : S512.ShapeCasts S512x1) (h2 : S512x1.Broadcasts S512x1024) (r : Fin 512) (q : Fin 1024) :
    broadcastTo S512x1024 (shapeCast S512x1 v h1) h2 (ix2 r q) = v (ix1 r) :=
  (broadcastTo_apply _ h2 (ix2 r q) (ix2 r (0 : Fin 1)) (fun a => by
    match a with
    | ⟨0, _⟩ => rfl
    | ⟨1, _⟩ => rfl)).trans (shapeCast_a_a1_apply v h1 r 0)

/-- The output block: the stream's row, and the two planes' by the token's weights. -/
theorem pay_apply (w : S512x128.Idx → EReal) (x : S512x1024.Idx → EReal) (g0 g1 : S1x512x1024.Idx → EReal) (r : Fin 512) (q : Fin 1024) :
    k0_pay1 (F := Ideal) w x g0 g1 (ix2 r q)
      = (x (ix2 r q) + w (ix2 r (4 : Fin 128)) * g0 (ix3 (0 : Fin 1) r q)) + w (ix2 r (5 : Fin 128)) * g1 (ix3 (0 : Fin 1) r q) := by
  unfold k0_pay1
  refine congrArg₂ (· + ·) (congrArg (x (ix2 r q) + ·) (congrArg₂ (· * ·) ?_ ?_)) (congrArg₂ (· * ·) ?_ ?_)
  · exact (spread _ _ _ r q).trans (lane w 4 _ r)
  · exact shapeCast_1ab_ab_apply g0 _ r q
  · exact (spread _ _ _ r q).trans (lane w 5 _ r)
  · exact shapeCast_1ab_ab_apply g1 _ r q

/-! ## The blocks a point reads and writes -/

variable (m : (ℓ : Loc nD τ sig) → Buf (Elt Ideal) ℓ) (hd : ∀ c, (dataOf m c).OK) (c : Dev nD)

/-- The tables, the products, the stream and the router's word on each token, at the launch. -/
abbrev aF1 : RowTable := m ((c : Thread nD τ).loc main_arg0)
abbrev aF2 : RowTable := m ((c : Thread nD τ).loc main_arg1)
abbrev aY : Prods := m ((c : Thread nD τ).loc main_arg2)
abbrev aX : Rows := m ((c : Thread nD τ).loc main_arg3)
abbrev aW : Info := m ((c : Thread nD τ).loc main_arg4)

variable (t : Fin (cfgA m).N)

/-- A point's row of the stream. -/
def rowAt (r : Fin 512) : Fin 32768 := ⟨t.val * 512 + r.val, by have := pt_lt m t; omega⟩

theorem word_pt : (BitVec.ofNat 32 (crd m t 0).val).toNat = t.val := by
  have := pt_lt m t
  rw [crd_eq, BitVec.toNat_ofNat, Nat.mod_eq_of_lt (by omega)]

theorem idx0 : ((cfgA m).win 0).index t = ![t.val, 0] := by
  show ![(BitVec.ofNat 32 (crd m t 0).val).toNat, 0] = _
  rw [word_pt]
theorem idx1 : ((cfgA m).win 1).index t = ![t.val, 0] := by
  show ![(BitVec.ofNat 32 (crd m t 0).val).toNat, 0] = _
  rw [word_pt]
theorem idx2 : ((cfgA m).win 2).index t = ![t.val, 0] := by
  show ![(BitVec.ofNat 32 (crd m t 0).val).toNat, 0] = _
  rw [word_pt]

theorem blk0 (r : Fin 512) (q : Fin 1024) : iblk m c 0 t (ix2 r q) = aX m c (ix2 (rowAt m t r) q) := by
  show aX m c ((((cfgA m).win 0).rect t).emb (ix2 r q)) = _
  refine congrArg (aX m c) (funext fun a => Fin.ext ?_)
  refine (Window.rect_emb_val ((cfgA m).win 0) t (ix2 r q) a).trans ?_
  rw [idx0]
  match a with
  | ⟨0, _⟩ => rfl
  | ⟨1, _⟩ => show 0 * 1024 + q.val = q.val; omega

theorem blk1 (r : Fin 512) (l : Fin 128) : iblk m c 1 t (ix2 r l) = aW m c (ix2 (rowAt m t r) l) := by
  show aW m c ((((cfgA m).win 1).rect t).emb (ix2 r l)) = _
  refine congrArg (aW m c) (funext fun a => Fin.ext ?_)
  refine (Window.rect_emb_val ((cfgA m).win 1) t (ix2 r l) a).trans ?_
  rw [idx1]
  match a with
  | ⟨0, _⟩ => rfl
  | ⟨1, _⟩ => show 0 * 128 + l.val = l.val; omega

theorem emb2 (z : S512x1024.Idx) : (((cfgA m).win 2).rect t).emb z = ix2 (rowAt m t (z 0)) (z 1) := by
  refine funext fun a => Fin.ext ?_
  refine (Window.rect_emb_val ((cfgA m).win 2) t z a).trans ?_
  rw [idx2]
  match a with
  | ⟨0, _⟩ => rfl
  | ⟨1, _⟩ => show 0 * 1024 + (z 1).val = (z 1).val; omega

theorem rowOf_pick (f : RowTable) (r : Fin 512) : rowOf (F := Ideal) f (512 * t.val + r.val) % 73728 = (pick f (rowAt m t r)).val := by
  have := pt_lt m t
  unfold rowOf pick
  refine congrArg (fun i => (f (ix1 i)).toNat % 73728) (Fin.ext ?_)
  show (512 * t.val + r.val) % 32768 = t.val * 512 + r.val
  omega

/-- The first plane holds the rows of the first table, -/
theorem plane0 (r : Fin 512) (q : Fin 1024) :
    plane ((dataOf m c).got t.val) 0 (ix3 (0 : Fin 1) r q) = aY m c (ix2 (pick (aF1 m c) (rowAt m t r)) q) := by
  refine congrArg (fun i => aY m c (ix2 i q)) (Fin.ext ?_)
  show (dataOf m c).row (1024 * t.val + (2 * r.val + 0)) % 73728 = _
  rw [show 1024 * t.val + (2 * r.val + 0) = 2 * (512 * t.val + r.val) by omega, Data.row_even]
  exact rowOf_pick m t (aF1 m c) r

/-- the second plane those of the second. -/
theorem plane1 (r : Fin 512) (q : Fin 1024) :
    plane ((dataOf m c).got t.val) 1 (ix3 (0 : Fin 1) r q) = aY m c (ix2 (pick (aF2 m c) (rowAt m t r)) q) := by
  refine congrArg (fun i => aY m c (ix2 i q)) (Fin.ext ?_)
  show (dataOf m c).row (1024 * t.val + (2 * r.val + 1)) % 73728 = _
  rw [show 1024 * t.val + (2 * r.val + 1) = 2 * (512 * t.val + r.val) + 1 by omega, Data.row_odd]
  exact rowOf_pick m t (aF2 m c) r

/-- The block a point writes is the combine's. -/
theorem blkVal_apply (z : S512x1024.Idx) :
    blkVal m c t z = layer (aF1 m c) (aF2 m c) (aY m c) (aX m c) (aW m c) (ix2 (rowAt m t (z 0)) (z 1)) := by
  obtain ⟨r, q, rfl⟩ : ∃ (r : Fin 512) (q : Fin 1024), z = ix2 r q :=
    ⟨z 0, z 1, by funext a; match a with | ⟨0, _⟩ => rfl | ⟨1, _⟩ => rfl⟩
  unfold blkVal outVal
  refine (pay_apply _ _ _ _ r q).trans ?_
  exact congrArg₂ (· + ·) (congrArg₂ (· + ·) (blk0 m c t r q) (congrArg₂ (· * ·) (blk1 m c t r 4) (plane0 m c t r q)))
    (congrArg₂ (· * ·) (blk1 m c t r 5) (plane1 m c t r q))

/-! ## The result -/

/-- Every point's block is written back. -/
theorem flush2 : ((cfgA m).win 2).flush t = true := by
  have h := pt_lt m t
  have e : (cfgA m).grid.N = 64 := N_0
  unfold Window.flush
  rw [Bool.and_eq_true, Bool.or_eq_true, decide_eq_true_iff, decide_eq_true_iff]
  refine ⟨rfl, ?_⟩
  by_cases h5 : t.val + 1 = (cfgA m).grid.N
  · exact .inl h5
  · refine .inr ⟨by omega, ?_⟩
    rw [idx2, idx2]
    intro h6
    have h7 : t.val + 1 = t.val := congrFun h6 0
    omega

theorem mem2 (z : S512x1024.Idx) (i : S32768x1024.Idx) (h : (((cfgA m).win 2).rect t).emb z = i) :
    i ∈ (((cfgA m).win 2).blk t).view.set := by
  subst h
  exact View.emb_mem_set (((cfgA m).win 2).blk t).view z

theorem cover2 (i : S32768x1024.Idx) : ∃ t : Fin (cfgA m).N, ((cfgA m).win 2).flush t = true ∧ i ∈ (((cfgA m).win 2).blk t).view.set := by
  have h0 : (i 0).val < 32768 := (i 0).isLt
  refine ⟨⟨(i 0).val / 512, by show (i 0).val / 512 < 64; omega⟩, flush2 m _, ?_⟩
  refine mem2 m _ (ix2 (⟨(i 0).val % 512, by omega⟩ : Fin 512) (i 1)) i ((emb2 m _ _).trans (funext fun a => Fin.ext ?_))
  match a with
  | ⟨0, _⟩ => show (i 0).val / 512 * 512 + (i 0).val % 512 = (i 0).val; omega
  | ⟨1, _⟩ => rfl

/-- So the result array ends holding the combine. -/
theorem result_eq : (dats m 0 c).arrAt 2 (cfgA m).N = layer (aF1 m c) (aF2 m c) (aY m c) (aX m c) (aW m c) := by
  refine (dats m 0 c).arrAt_eq_of_emb 2 _ (fun t _ z => ?_) (cover2 m)
  show blkVal m c t z = layer (aF1 m c) (aF2 m c) (aY m c) (aX m c) (aW m c) ((((cfgA m).win 2).rect t).emb z)
  exact (blkVal_apply m c t z).trans (congrArg (layer (aF1 m c) (aF2 m c) (aY m c) (aX m c) (aW m c)) (emb2 m t z).symm)

end Cert.Kernel4Ideal.Combine

end
-- ==== Proof.Combine.Reference.lean ====
/-
  The combine's reference computes the combine, from tables of rows there are.
-/
module

public import proofs.«01_k».proof.Proof.Gen.Reference4Ideal.Read
public import proofs.«01_k».proof.Proof.Combine.Spec
public import Idealize.ShloMosaic.Lib.Routing.Ops

@[expose] public section

noncomputable section

namespace Cert.Reference4Ideal.Combine

open Cert.Reference4Ideal Cert.Reference4Ideal.Gen Cert.Reference4Ideal.Read
open Idealize.ShloMosaic
open Idealize.ShloMosaic.ValueIdx
open Cert.Combine

variable (f1 f2 : IVec S32768 32) (y : FVec Ideal S73728x1024 .f32) (x : FVec Ideal S32768x1024 .f32) (w : FVec Ideal S32768x128 .f32)

/-- A row's word is not negative. -/
theorem not_negative (v : BitVec 32) (h : v.toNat < 73728) : IntOp.cmpi .slt v 0#32 = 0#1 := by
  have e : v.slt 0#32 = false := by
    rw [BitVec.slt_eq_decide, decide_eq_false_iff_not, BitVec.toInt_eq_toNat_of_lt (by omega)]
    have : (0#32 : BitVec 32).toInt = 0 := by decide
    omega
  show BitVec.ofBool (v.slt 0#32) = 0#1
  rw [e]; rfl

/-- So the row it names counts from the front. -/
theorem index_apply (f : IVec S32768 32) (hf : ∀ t : Fin 32768, (f (ix1 t)).toNat < 73728) (t : Fin 32768) :
    val_main_v5 (F := Ideal) f (ix2 t (0 : Fin 1)) = BitVec.ofNat 32 (pick f t).val := by
  have hi : idx_main_v5 (ix2 t (0 : Fin 1)) = ix1 t := by
    funext a; match a with | ⟨0, _⟩ => rfl
  rw [val_main_v5_apply, hi, val_main_v4_apply, val_main_v1_apply, val_main_v0_apply, val_main_c_apply, not_negative _ (hf t)]
  show f (ix1 t) = BitVec.ofNat 32 ((f (ix1 t)).toNat % 73728)
  rw [Nat.mod_eq_of_lt (hf t), BitVec.ofNat_toNat, BitVec.setWidth_eq]

/-- And the rows picked are those the table names. -/
theorem rows_apply (f : IVec S32768 32) (hf : ∀ t : Fin 32768, (f (ix1 t)).toNat < 73728) (t : Fin 32768) (q : Fin 1024) :
    val_main_v6 (F := Ideal) f y (ix2 t q) = y (ix2 (pick f t) q) :=
  Routing.gather_row gather_S73728x1024_S32768x1_S32768x1024_1_0_n_n_0_1_11024 rfl rfl rfl rfl rfl y (val_main_v5 (F := Ideal) f) t q
    (pick f t) (index_apply f hf t) (by norm_num)

/-- The first weight and the second, along a token's row. -/
theorem weight4 (t : Fin 32768) (q : Fin 1024) : val_main_v15 (F := Ideal) w (ix2 t q) = w (ix2 t (4 : Fin 128)) := by
  rw [val_main_v15_apply, val_main_v14_apply]
  refine congrArg w (funext fun a => Fin.ext ?_)
  match a with
  | ⟨0, _⟩ => rfl
  | ⟨1, _⟩ => rfl
theorem weight5 (t : Fin 32768) (q : Fin 1024) : val_main_v19 (F := Ideal) w (ix2 t q) = w (ix2 t (5 : Fin 128)) := by
  rw [val_main_v19_apply, val_main_v18_apply]
  refine congrArg w (funext fun a => Fin.ext ?_)
  match a with
  | ⟨0, _⟩ => rfl
  | ⟨1, _⟩ => rfl

/-- The reference is the combine. -/
theorem value (h1 : ∀ t : Fin 32768, (f1 (ix1 t)).toNat < 73728) (h2 : ∀ t : Fin 32768, (f2 (ix1 t)).toNat < 73728) :
    val_main_v21 (F := Ideal) f1 f2 y x w = layer f1 f2 y x w := by
  funext i
  obtain ⟨t, q, rfl⟩ : ∃ (t : Fin 32768) (q : Fin 1024), i = ix2 t q :=
    ⟨i 0, i 1, by funext a; match a with | ⟨0, _⟩ => rfl | ⟨1, _⟩ => rfl⟩
  have e2 : val_main_v13 (F := Ideal) f2 y (ix2 t q) = y (ix2 (pick f2 t) q) := rows_apply y f2 h2 t q
  refine congrArg₂ (· + ·) (congrArg (x (ix2 t q) + ·) (congrArg₂ (· * ·) ?_ ?_)) (congrArg₂ (· * ·) ?_ ?_)
  · exact weight4 w t q
  · exact rows_apply y f1 h1 t q
  · exact weight5 w t q
  · exact e2

end Cert.Reference4Ideal.Combine

end
-- ==== Proof.Dispatch.Rows.lean ====
/-
  The table of rows and the staging buffer of the dispatch kernel as sets of elements: one row of the table, one row
  of a staging slot, one chunk of the tokens; what a copy of a row, of a chunk, writes, element by element.
-/
module

public import proofs.«01_k».proof.Proof.Gen.KernelIdeal.Skeleton
public import proofs.«01_k».proof.Proof.Gen.KernelIdeal.Launch
public import Idealize.ShloMosaic.Lib.ValueLayout
public import Idealize.ShloMosaic.Lib.Ring
public import Idealize.ShloMosaic.Lib.Batch

@[expose] public section

noncomputable section

namespace Cert.KernelIdeal.Dispatch

open Cert.KernelIdeal Cert.KernelIdeal.Gen
open Idealize.ShloMosaic Idealize.ShloMosaic.TcCoe
open Idealize.SL Idealize.SL.RA Idealize.SL.BI
open Idealize.SL.Sem
open Idealize.ShloMosaic.ValueIdx

variable {F : FTy → Type} [FloatOps F]

/-- Row `r` of the table, row `r` of staging slot `s`, slot `s`, the tokens of chunk `k`, the first row of the zeros. -/
def rowSet (r : ℕ) : Finset S73728x1024.Idx := Finset.univ.filter fun y => (y 0).val = r
def stSet (s r : ℕ) : Finset S3x512x1024.Idx := Finset.univ.filter fun y => (y 0).val = s ∧ (y 1).val = r
def slotSet (s : ℕ) : Finset S3x512x1024.Idx := Finset.univ.filter fun y => (y 0).val = s
def chunkSet (k : ℕ) : Finset S32768x1024.Idx := Finset.univ.filter fun y => (y 0).val / 512 = k
def zSet : Finset S8x1024.Idx := Finset.univ.filter fun y => (y 0).val = 0

theorem mem_rowSet {r : ℕ} {y : S73728x1024.Idx} : y ∈ rowSet r ↔ (y 0).val = r := by simp [rowSet]
theorem mem_stSet {s r : ℕ} {y : S3x512x1024.Idx} : y ∈ stSet s r ↔ (y 0).val = s ∧ (y 1).val = r := by simp [stSet]
theorem mem_slotSet {s : ℕ} {y : S3x512x1024.Idx} : y ∈ slotSet s ↔ (y 0).val = s := by simp [slotSet]
theorem mem_chunkSet {k : ℕ} {y : S32768x1024.Idx} : y ∈ chunkSet k ↔ (y 0).val / 512 = k := by simp [chunkSet]
theorem mem_zSet {y : S8x1024.Idx} : y ∈ zSet ↔ (y 0).val = 0 := by simp [zSet]

theorem rowSet_disjoint {r r' : ℕ} (h : r ≠ r') : Disjoint (rowSet r) (rowSet r') := by
  rw [Finset.disjoint_left]; intro y hy hy'; rw [mem_rowSet] at hy hy'; exact h (hy.symm.trans hy')

/-! ## The views' elements -/

abbrev XRow (off : Fin 2 → ℕ) (h : ∀ a, off a + S1x1024.size a ≤ S73728x1024.size a) : Memref sig .tc .hbm S1x1024 .f32 :=
  (Memref.whole main_v0).slice (Rect.unit (s := S73728x1024) off S1x1024.size h) (fun _ => rfl)
abbrev StRow (off : Fin 3 → ℕ) (h : ∀ a, off a + S1x1x1024.size a ≤ S3x512x1024.size a) : Memref sig .tc .vmem S1x1024 .f32 :=
  ((Memref.whole cc0_scratch0).slice (Rect.unit (s := S3x512x1024) off S1x1x1024.size h) (fun _ => rfl)).squeeze S1x1024 squeezes_S1x1x1024_S1x1024
abbrev Slot (off : Fin 3 → ℕ) (h : ∀ a, off a + S1x512x1024.size a ≤ S3x512x1024.size a) : Memref sig .tc .vmem S512x1024 .f32 :=
  ((Memref.whole cc0_scratch0).slice (Rect.unit (s := S3x512x1024) off S1x512x1024.size h) (fun _ => rfl)).squeeze S512x1024 squeezes_S1x512x1024_S512x1024
abbrev Chunk (off : Fin 2 → ℕ) (h : ∀ a, off a + S512x1024.size a ≤ S32768x1024.size a) : Memref sig .tc .hbm S512x1024 .f32 :=
  (Memref.whole main_arg3).slice (Rect.unit (s := S32768x1024) off S512x1024.size h) (fun _ => rfl)
abbrev ZRow : Memref sig .tc .vmem S1x1024 .f32 :=
  (Memref.whole cc0_scratch1).slice (Rect.unit (s := S8x1024) ![0, 0] S1x1024.size inb_S8x1024_S1x1024_0_0) (fun _ => rfl)

theorem XRow_set (r : ℕ) (h : ∀ a, (![r, 0] : Fin 2 → ℕ) a + S1x1024.size a ≤ S73728x1024.size a) :
    (XRow ![r, 0] h).view.set = rowSet r := by
  show ((View.whole main_v0).slice (Rect.unit (s := S73728x1024) ![r, 0] S1x1024.size h)).set = _
  refine (View.set_slice_whole _ _).trans ?_
  ext y
  have h1 : (y 1).val < 1024 := (y 1).isLt
  refine (Rect.mem_set_unit).trans (Iff.trans ?_ mem_rowSet.symm)
  constructor
  · intro H; have a0 : r ≤ (y 0).val ∧ (y 0).val < r + 1 := H 0; omega
  · intro H a; fin_cases a
    · show r ≤ (y 0).val ∧ (y 0).val < r + 1; omega
    · show 0 ≤ (y 1).val ∧ (y 1).val < 0 + 1024; omega

theorem StRow_set (s r : ℕ) (h : ∀ a, (![s, r, 0] : Fin 3 → ℕ) a + S1x1x1024.size a ≤ S3x512x1024.size a) :
    (StRow ![s, r, 0] h).view.set = stSet s r := by
  refine (View.set_reshape _ _).trans ((View.set_slice_whole _ _).trans ?_)
  ext y
  have h1 : (y 2).val < 1024 := (y 2).isLt
  refine (Rect.mem_set_unit).trans (Iff.trans ?_ mem_stSet.symm)
  constructor
  · intro H
    have a0 : s ≤ (y 0).val ∧ (y 0).val < s + 1 := H 0
    have a1 : r ≤ (y 1).val ∧ (y 1).val < r + 1 := H 1
    omega
  · intro H a; fin_cases a
    · show s ≤ (y 0).val ∧ (y 0).val < s + 1; omega
    · show r ≤ (y 1).val ∧ (y 1).val < r + 1; omega
    · show 0 ≤ (y 2).val ∧ (y 2).val < 0 + 1024; omega

theorem Slot_set (s : ℕ) (h : ∀ a, (![s, 0, 0] : Fin 3 → ℕ) a + S1x512x1024.size a ≤ S3x512x1024.size a) :
    (Slot ![s, 0, 0] h).view.set = slotSet s := by
  refine (View.set_reshape _ _).trans ((View.set_slice_whole _ _).trans ?_)
  ext y
  have h1 : (y 2).val < 1024 := (y 2).isLt
  have h2 : (y 1).val < 512 := (y 1).isLt
  refine (Rect.mem_set_unit).trans (Iff.trans ?_ mem_slotSet.symm)
  constructor
  · intro H
    have a0 : s ≤ (y 0).val ∧ (y 0).val < s + 1 := H 0
    omega
  · intro H a; fin_cases a
    · show s ≤ (y 0).val ∧ (y 0).val < s + 1; omega
    · show 0 ≤ (y 1).val ∧ (y 1).val < 0 + 512; omega
    · show 0 ≤ (y 2).val ∧ (y 2).val < 0 + 1024; omega

theorem Chunk_set (k : ℕ) (h : ∀ a, (![512 * k, 0] : Fin 2 → ℕ) a + S512x1024.size a ≤ S32768x1024.size a) :
    (Chunk ![512 * k, 0] h).view.set = chunkSet k := by
  refine (View.set_slice_whole _ _).trans ?_
  ext y
  have h1 : (y 1).val < 1024 := (y 1).isLt
  refine (Rect.mem_set_unit).trans (Iff.trans ?_ mem_chunkSet.symm)
  constructor
  · intro H; have a0 : 512 * k ≤ (y 0).val ∧ (y 0).val < 512 * k + 512 := H 0; omega
  · intro H a; fin_cases a
    · show 512 * k ≤ (y 0).val ∧ (y 0).val < 512 * k + 512; omega
    · show 0 ≤ (y 1).val ∧ (y 1).val < 0 + 1024; omega

theorem ZRow_set : ZRow.view.set = zSet := by
  refine (View.set_slice_whole _ _).trans ?_
  ext y
  have h1 : (y 1).val < 1024 := (y 1).isLt
  refine (Rect.mem_set_unit).trans (Iff.trans ?_ mem_zSet.symm)
  constructor
  · intro H; have a0 : 0 ≤ (y 0).val ∧ (y 0).val < 0 + 1 := H 0; omega
  · intro H a; fin_cases a
    · show 0 ≤ (y 0).val ∧ (y 0).val < 0 + 1; omega
    · show 0 ≤ (y 1).val ∧ (y 1).val < 0 + 1024; omega

/-! ## What the copies write -/

/-- A row of a staging slot copied onto row `r` of the table: the row's elements are the staging row's. -/
theorem scatter_write (s q r : ℕ) (hd : ∀ a, (![r, 0] : Fin 2 → ℕ) a + S1x1024.size a ≤ S73728x1024.size a)
    (hs : ∀ a, (![s, q, 0] : Fin 3 → ℕ) a + S1x1x1024.size a ≤ S3x512x1024.size a)
    (fd : S73728x1024.Idx → Elt F .f32) (fs : S3x512x1024.Idx → Elt F .f32) (g : ℕ → Elt F .f32)
    (hg : ∀ z : S3x512x1024.Idx, (z 0).val = s → (z 1).val = q → fs z = g (z 2).val)
    (y : S73728x1024.Idx) (hy : y ∈ rowSet r) :
    (XRow ![r, 0] hd).view.write (Elt F) fd (ReadAs.same.apply ((StRow ![s, q, 0] hs).view.read (Elt F) fs)) Finset.univ y = g (y 1).val := by
  rw [← XRow_set r hd] at hy
  obtain ⟨x, -, rfl⟩ := Finset.mem_map.mp hy
  refine (View.write_emb_of_mem _ _ (Finset.mem_univ x)).trans ?_
  obtain ⟨a, b, rfl⟩ : ∃ (a : Fin 1) (b : Fin 1024), x = ix2 a b := ⟨x 0, x 1, (eq_ix2 x)⟩
  show fs ((StRow ![s, q, 0] hs).view.emb (ix2 a b)) = _
  have e0 : (StRow ![s, q, 0] hs).view.emb (ix2 a b)
      = (Rect.unit (s := S3x512x1024) ![s, q, 0] S1x1x1024.size hs).emb (ix3 (0 : Fin 1) a b) :=
    congrArg (Rect.unit (s := S3x512x1024) ![s, q, 0] S1x1x1024.size hs).emb (reshapeEquiv_ix2_1ab _ a b)
  rw [e0]
  have ha : a.val = 0 := by omega
  refine (hg _ ?_ ?_).trans ?_
  · show s + 1 * 0 = s; omega
  · show q + 1 * a.val = q; omega
  · refine congrArg g ?_
    show 0 + 1 * b.val = 0 + 1 * b.val; rfl

/-- The row of zeros copied onto row `r` of the table. -/
theorem zero_write (r : ℕ) (hd : ∀ a, (![r, 0] : Fin 2 → ℕ) a + S1x1024.size a ≤ S73728x1024.size a)
    (fd : S73728x1024.Idx → Elt F .f32) (fs : S8x1024.Idx → Elt F .f32) (g : Elt F .f32)
    (hg : ∀ z : S8x1024.Idx, fs z = g)
    (y : S73728x1024.Idx) (hy : y ∈ rowSet r) :
    (XRow ![r, 0] hd).view.write (Elt F) fd (ReadAs.same.apply (ZRow.view.read (Elt F) fs)) Finset.univ y = g := by
  rw [← XRow_set r hd] at hy
  obtain ⟨x, -, rfl⟩ := Finset.mem_map.mp hy
  exact (View.write_emb_of_mem _ _ (Finset.mem_univ x)).trans (hg _)

/-- A chunk of tokens copied into a staging slot. -/
theorem load_write (s k : ℕ) (hd : ∀ a, (![s, 0, 0] : Fin 3 → ℕ) a + S1x512x1024.size a ≤ S3x512x1024.size a)
    (hs : ∀ a, (![512 * k, 0] : Fin 2 → ℕ) a + S512x1024.size a ≤ S32768x1024.size a)
    (fd : S3x512x1024.Idx → Elt F .f32) (fs : S32768x1024.Idx → Elt F .f32) (g : S3x512x1024.Idx → Elt F .f32)
    (hg : ∀ (z : S3x512x1024.Idx) (w : S32768x1024.Idx), (w 0).val = 512 * k + (z 1).val → (w 1).val = (z 2).val → fs w = g z)
    (y : S3x512x1024.Idx) (hy : y ∈ slotSet s) :
    (Slot ![s, 0, 0] hd).view.write (Elt F) fd (ReadAs.same.apply ((Chunk ![512 * k, 0] hs).view.read (Elt F) fs)) Finset.univ y = g y := by
  rw [← Slot_set s hd] at hy
  obtain ⟨x, -, rfl⟩ := Finset.mem_map.mp hy
  refine (View.write_emb_of_mem _ _ (Finset.mem_univ x)).trans ?_
  obtain ⟨a, b, rfl⟩ : ∃ (a : Fin 512) (b : Fin 1024), x = ix2 a b := ⟨x 0, x 1, (eq_ix2 x)⟩
  show fs ((Chunk ![512 * k, 0] hs).view.emb (ix2 a b)) = _
  have e0 : (Slot ![s, 0, 0] hd).view.emb (ix2 a b)
      = (Rect.unit (s := S3x512x1024) ![s, 0, 0] S1x512x1024.size hd).emb (ix3 (0 : Fin 1) a b) :=
    congrArg (Rect.unit (s := S3x512x1024) ![s, 0, 0] S1x512x1024.size hd).emb (reshapeEquiv_ix2_1ab _ a b)
  rw [e0]
  refine hg _ _ ?_ ?_
  · show 512 * k + 1 * a.val = 512 * k + (0 + 1 * a.val); omega
  · show 0 + 1 * b.val = 0 + 1 * b.val; rfl

end Cert.KernelIdeal.Dispatch

end
-- ==== Proof.Dispatch.Table.lean ====
/-
  The router's tables as plain functions: which row of the table each copy of a token is written to, which row each
  copy of zeros is written to, what the rows hold in the end, and the table's elements split by these rows.
-/
module

public import proofs.«01_k».proof.Proof.Dispatch.Rows
public import Idealize.ShloMosaic.Lib.Pipeline.FrameBody
public import Idealize.ShloMosaic.Lib.Tactic

@[expose] public section

noncomputable section

namespace Cert.KernelIdeal.Dispatch

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.Sem Idealize.SL.ProofMode
open Idealize.ShloMosaic.ValueIdx

/-- Token `t`'s two rows `p1 t` and `p2 t`; expert `e`'s run of padding rows, its first row `pd e` and length `cn e`. -/
structure Tab where
  p1 : ℕ → ℕ
  p2 : ℕ → ℕ
  pd : ℕ → ℕ
  cn : ℕ → ℕ

namespace Tab

variable (X : Tab)

/-- The row of copy `n`: copies `2t` and `2t + 1` are token `t`'s. -/
def row (n : ℕ) : ℕ := if n % 2 = 0 then X.p1 (n / 2) else X.p2 (n / 2)

/-- How many padding rows the experts before `e` have. -/
def before : ℕ → ℕ
  | 0 => 0
  | e + 1 => before e + X.cn e

/-- The row of the `i`-th copy of zeros. -/
def zrow (i : ℕ) : ℕ :=
  haveI := Classical.propDecidable
  if h : ∃ p : ℕ × ℕ, p.1 < 8 ∧ p.2 < X.cn p.1 ∧ i = X.before p.1 + p.2 then X.pd h.choose.1 + h.choose.2 else 0

/-- What the precondition says of the tables. -/
structure OK : Prop where
  row_lt : ∀ n, n < 65536 → X.row n < 73728
  row_inj : ∀ n m, n < 65536 → m < 65536 → X.row n = X.row m → n = m
  run_lt : ∀ e, e < 8 → X.pd e + X.cn e ≤ 73728
  apart : ∀ e e', e < 8 → e' < 8 → e ≠ e' → X.pd e + X.cn e ≤ X.pd e' ∨ X.pd e' + X.cn e' ≤ X.pd e
  away : ∀ n e, n < 65536 → e < 8 → X.row n < X.pd e ∨ X.pd e + X.cn e ≤ X.row n

theorem before_mono {a b : ℕ} (h : a ≤ b) : X.before a ≤ X.before b := by
  induction h with
  | refl => exact le_rfl
  | step _ ih => exact ih.trans (Nat.le_add_right _ _)

theorem before_unique {e e' k k' : ℕ} (hk : k < X.cn e) (hk' : k' < X.cn e')
    (h : X.before e + k = X.before e' + k') : e = e' ∧ k = k' := by
  rcases Nat.lt_trichotomy e e' with hl | hl | hl
  · have := X.before_mono (show e + 1 ≤ e' from hl)
    have h2 : X.before (e + 1) = X.before e + X.cn e := rfl
    omega
  · subst hl; omega
  · have := X.before_mono (show e' + 1 ≤ e from hl)
    have h2 : X.before (e' + 1) = X.before e' + X.cn e' := rfl
    omega

theorem before_find (m i : ℕ) (h : i < X.before m) : ∃ e k, e < m ∧ k < X.cn e ∧ i = X.before e + k := by
  induction m with
  | zero => exact absurd h (Nat.not_lt_zero _)
  | succ m ih =>
    by_cases hi : i < X.before m
    · obtain ⟨e, k, he, hk, hh⟩ := ih hi; exact ⟨e, k, by omega, hk, hh⟩
    · have h2 : X.before (m + 1) = X.before m + X.cn m := rfl
      exact ⟨m, i - X.before m, by omega, by omega, by omega⟩

theorem zrow_at (e k : ℕ) (he : e < 8) (hk : k < X.cn e) : X.zrow (X.before e + k) = X.pd e + k := by
  have h : ∃ p : ℕ × ℕ, p.1 < 8 ∧ p.2 < X.cn p.1 ∧ X.before e + k = X.before p.1 + p.2 := ⟨(e, k), he, hk, rfl⟩
  obtain ⟨h1, h2⟩ := X.before_unique h.choose_spec.2.1 hk h.choose_spec.2.2.symm
  unfold zrow
  rw [dif_pos h, h1, h2]

variable {X}

theorem OK.zrow_lt (hX : X.OK) {i : ℕ} (hi : i < X.before 8) : X.zrow i < 73728 := by
  obtain ⟨e, k, he, hk, rfl⟩ := X.before_find 8 i hi
  rw [X.zrow_at e k he hk]; have := hX.run_lt e he; omega

theorem OK.zrow_inj (hX : X.OK) {i j : ℕ} (hi : i < X.before 8) (hj : j < X.before 8) (h : X.zrow i = X.zrow j) : i = j := by
  obtain ⟨e, k, he, hk, rfl⟩ := X.before_find 8 i hi
  obtain ⟨e', k', he', hk', rfl⟩ := X.before_find 8 j hj
  rw [X.zrow_at e k he hk, X.zrow_at e' k' he' hk'] at h
  by_cases hee : e = e'
  · subst hee; omega
  · have := hX.apart e e' he he' hee; omega

theorem OK.zrow_ne (hX : X.OK) {i n : ℕ} (hi : i < X.before 8) (hn : n < 65536) : X.row n ≠ X.zrow i := by
  obtain ⟨e, k, he, hk, rfl⟩ := X.before_find 8 i hi
  rw [X.zrow_at e k he hk]; have := hX.away n e hn he; omega

/-! ## What the rows hold -/

variable (X) {α : Type}

/-- Row `row n` holds token `n / 2`'s row of `h`, a padding row holds `z`, the others what they held. -/
def out (h : S32768x1024.Idx → α) (z : α) (V : S73728x1024.Idx → α) : S73728x1024.Idx → α := fun y =>
  haveI := Classical.propDecidable
  if H : ∃ n, n < 65536 ∧ X.row n = (y 0).val then
    h (ix2 (⟨H.choose / 2, Nat.div_lt_of_lt_mul (show H.choose < 2 * 32768 from H.choose_spec.1)⟩ : Fin 32768) (y 1 : Fin 1024))
  else if ∃ i, i < X.before 8 ∧ X.zrow i = (y 0).val then z else V y

variable {X} {h : S32768x1024.Idx → α} {z : α} {V : S73728x1024.Idx → α}

theorem OK.out_row (hX : X.OK) {n : ℕ} (hn : n < 65536) {y : S73728x1024.Idx} (hy : (y 0).val = X.row n)
    (w : S32768x1024.Idx) (hw0 : (w 0).val = n / 2) (hw1 : (w 1).val = (y 1).val) : X.out h z V y = h w := by
  have H : ∃ n, n < 65536 ∧ X.row n = (y 0).val := ⟨n, hn, hy.symm⟩
  have e : H.choose = n := hX.row_inj _ _ H.choose_spec.1 hn (H.choose_spec.2.trans hy)
  unfold out
  rw [dif_pos H]
  refine congrArg h ?_
  funext a; apply Fin.ext
  match a with
  | ⟨0, _⟩ => show H.choose / 2 = (w 0).val; rw [e, hw0]
  | ⟨1, _⟩ => exact hw1.symm

theorem OK.out_zrow (hX : X.OK) {i : ℕ} (hi : i < X.before 8) {y : S73728x1024.Idx} (hy : (y 0).val = X.zrow i) :
    X.out h z V y = z := by
  unfold out
  rw [dif_neg (by rintro ⟨n, hn, e⟩; exact hX.zrow_ne hi hn (e.trans hy)), if_pos ⟨i, hi, hy.symm⟩]

theorem out_rest {y : S73728x1024.Idx} (h1 : ∀ n, n < 65536 → X.row n ≠ (y 0).val)
    (h2 : ∀ i, i < X.before 8 → X.zrow i ≠ (y 0).val) : X.out h z V y = V y := by
  unfold out
  rw [dif_neg (by rintro ⟨n, hn, e⟩; exact h1 n hn e), if_neg (by rintro ⟨n, hn, e⟩; exact h2 n hn e)]

end Tab

/-! ## The table split by its rows -/

variable {F : FTy → Type} [FloatOps F]

local notation "𝕄" => MT nD τ sig Unit (Elt F) ℕ (Pipeline.UD sig nD τ) ℕ

/-- Two propositions that entail each other are equal. -/
theorem entails_eq {P Q : sProp 𝕄} (h : P ⊢ Q) (h' : Q ⊢ P) : P = Q := Idealize.SL.BI.Entails.antisymm h h'

/-- The rows neither a token nor the padding names. -/
def restSet (X : Tab) : Finset S73728x1024.Idx :=
  Finset.univ \ ((Finset.range (X.before 8)).biUnion (fun i => rowSet (X.zrow i))
    ∪ (Finset.range 65536).biUnion (fun n => rowSet (X.row n)))

theorem table_split (X : Tab) (hX : X.OK) (c : Dev nD) (f : S73728x1024.Idx → Elt F .f32) :
    (((c : Thread nD τ).loc main_v0) ↦[Finset.univ]{fullShare} f : sProp 𝕄)
      = iprop(bigSep (Finset.range (X.before 8)) (fun i => (((c : Thread nD τ).loc main_v0) ↦[rowSet (X.zrow i)]{fullShare} f : sProp 𝕄))
        ∗ bigSep (Finset.range 65536) (fun n => (((c : Thread nD τ).loc main_v0) ↦[rowSet (X.row n)]{fullShare} f : sProp 𝕄))
        ∗ (((c : Thread nD τ).loc main_v0) ↦[restSet X]{fullShare} f)) := by
  have hz : (((c : Thread nD τ).loc main_v0) ↦[(Finset.range (X.before 8)).biUnion (fun i => rowSet (X.zrow i))]{fullShare} f : sProp 𝕄)
      = bigSep (Finset.range (X.before 8)) (fun i => ((c : Thread nD τ).loc main_v0) ↦[rowSet (X.zrow i)]{fullShare} f) :=
    pointsTo_biUnion _ _ fun i hi j hj hij =>
      rowSet_disjoint fun h => hij (hX.zrow_inj (Finset.mem_range.mp hi) (Finset.mem_range.mp hj) h)
  have hr : (((c : Thread nD τ).loc main_v0) ↦[(Finset.range 65536).biUnion (fun n => rowSet (X.row n))]{fullShare} f : sProp 𝕄)
      = bigSep (Finset.range 65536) (fun n => ((c : Thread nD τ).loc main_v0) ↦[rowSet (X.row n)]{fullShare} f) :=
    pointsTo_biUnion _ _ fun i hi j hj hij =>
      rowSet_disjoint fun h => hij (hX.row_inj _ _ (Finset.mem_range.mp hi) (Finset.mem_range.mp hj) h)
  have hd : Disjoint ((Finset.range (X.before 8)).biUnion (fun i => rowSet (X.zrow i)))
      ((Finset.range 65536).biUnion (fun n => rowSet (X.row n))) := by
    rw [Finset.disjoint_biUnion_left]; intro i hi
    rw [Finset.disjoint_biUnion_right]; intro n hn
    exact rowSet_disjoint fun h => hX.zrow_ne (Finset.mem_range.mp hi) (Finset.mem_range.mp hn) h.symm
  rw [← hz, ← hr]
  have h1 : (((c : Thread nD τ).loc main_v0) ↦[Finset.univ]{fullShare} f : sProp 𝕄)
      ⊣⊢ iprop((((c : Thread nD τ).loc main_v0) ↦[(Finset.range (X.before 8)).biUnion (fun i => rowSet (X.zrow i))
          ∪ (Finset.range 65536).biUnion (fun n => rowSet (X.row n))]{fullShare} f)
        ∗ (((c : Thread nD τ).loc main_v0) ↦[restSet X]{fullShare} f)) :=
    pointsTo_split_subset (ℓ := (c : Thread nD τ).loc main_v0) (Finset.subset_univ _)
  have h2 := pointsTo_union (Ix := Unit) (nD := nD) (τ := τ) (sig := sig) (Val := Elt F) (Name := ℕ) (U := Pipeline.UD sig nD τ) (Lvl := ℕ) (ℓ := (c : Thread nD τ).loc main_v0) (q := fullShare) (f := f) hd
  rw [entails_eq h1.1 h1.2, entails_eq h2.1 h2.2]
  refine entails_eq ?_ ?_
  · iintro ⟨⟨H1, H2⟩, H3⟩
    isplitl [H1]; · iexact H1
    isplitl [H2]; · iexact H2
    iexact H3
  · iintro ⟨H1, H2, H3⟩
    isplitr [H3]
    · isplitl [H1]; · iexact H1
      iexact H2
    iexact H3

theorem mem_restSet {X : Tab} {y : S73728x1024.Idx} (hy : y ∈ restSet X) :
    (∀ n, n < 65536 → X.row n ≠ (y 0).val) ∧ (∀ i, i < X.before 8 → X.zrow i ≠ (y 0).val) := by
  unfold restSet at hy
  rw [Finset.mem_sdiff, Finset.mem_union, Finset.mem_biUnion, Finset.mem_biUnion] at hy
  constructor
  · intro n hn e; exact hy.2 (.inr ⟨n, Finset.mem_range.mpr hn, mem_rowSet.mpr e.symm⟩)
  · intro n hn e; exact hy.2 (.inl ⟨n, Finset.mem_range.mpr hn, mem_rowSet.mpr e.symm⟩)

end Cert.KernelIdeal.Dispatch

end
-- ==== Proof.Dispatch.Steps.lean ====
/-
  One step of each of the dispatch kernel's loops: the issue of one copy of a row (a token's row out of a staging
  slot, a row of zeros), the wait for one copy of a row.
-/
module

public import proofs.«01_k».proof.Proof.Dispatch.Table
public import Idealize.SL.BI.BigOpNat

@[expose] public section

noncomputable section

namespace Cert.KernelIdeal.Dispatch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.Sem Idealize.SL.ProofMode
open Idealize.ShloMosaic.ValueIdx

variable {F : FTy → Type} [FloatOps F]

local notation "𝕄" => MT nD τ sig Unit (Elt F) ℕ (Pipeline.UD sig nD τ) ℕ

/-- The credit of one row's copy. -/
def rowCredit : ℕ := (XRow ![0, 0] inb_S73728x1024_S1x1024_0_0).view.dmaCredit

theorem rowCredit_pos : 0 < rowCredit := by unfold rowCredit; decide

/-- Elements of the table, of the staging buffer, of the zeros, at their contents. -/
abbrev xsAt (c : Dev nD) (S : Finset S73728x1024.Idx) (f : S73728x1024.Idx → Elt F .f32) : sProp 𝕄 :=
  ((c : Thread nD τ).loc main_v0) ↦[S]{fullShare} f
abbrev stAt (c : Dev nD) (S : Finset S3x512x1024.Idx) (q : PosShare TreeShare) (f : S3x512x1024.Idx → Elt F .f32) : sProp 𝕄 :=
  ((c : Thread nD τ).loc cc0_scratch0) ↦[S]{q} f
abbrev zAt (c : Dev nD) (S : Finset S8x1024.Idx) (q : PosShare TreeShare) (f : S8x1024.Idx → Elt F .f32) : sProp 𝕄 :=
  ((c : Thread nD τ).loc cc0_scratch1) ↦[S]{q} f
abbrev hAt (c : Dev nD) (S : Finset S32768x1024.Idx) (f : S32768x1024.Idx → Elt F .f32) : sProp 𝕄 :=
  ((c : Thread nD τ).loc main_arg3) ↦[S]{fullShare} f

/-- A batch of `n` copies of a row on cell `sm`. -/
abbrev batch (c : Dev nD) (sm : DmaSem sig) {n : ℕ} (D : Fin n → sProp 𝕄) (j u : ℕ) : sProp 𝕄 :=
  Transfers.Batch (countersEmb (U := Pipeline.UD sig nD τ)) (c : Thread nD τ) (.dma sm) () rowCredit D j u

abbrev XTo (off : Fin 2 → ℕ) (h : ∀ a, off a + S1x1024.size a ≤ S73728x1024.size a) : DmaTarget nD τ sig .tc .hbm S1x1024 .f32 :=
  .here (XRow off h)

variable (c : Dev nD)

/-- The issue of the copy of one staging row onto one row of the table, the `j`-th of its batch. -/
theorem scatter_issue {offC : Fin 2 → ℕ} {hC : ∀ a, offC a + S1x1024.size a ≤ S73728x1024.size a}
    {offD : Fin 3 → ℕ} {hD : ∀ a, offD a + S1x1x1024.size a ≤ S3x512x1024.size a} {sem : DmaSem sig}
    {p1 : (StRow offD hD).view.WordExact} {p2 : (XTo offC hC).view.WordExact}
    {p3 : DmaTarget.Typed .vmem (.dma sem) (XTo offC hC)}
    {α : Type} {k : PUnit → Prog (TpuEff nD τ sig (Elt F) Λ₀ .tc) α} {Q : α → sProp 𝕄}
    {n : ℕ} {D : Fin n → sProp 𝕄} {Src : ℕ → sProp 𝕄} {j s r ρ : ℕ}
    {q : PosShare TreeShare} {fd g : S73728x1024.Idx → Elt F .f32} {fs : S3x512x1024.Idx → Elt F .f32}
    (eD : offD = ![s, r, 0]) (eC : offC = ![ρ, 0])
    (g' : ℕ → Elt F .f32) (hval : ∀ (z : S3x512x1024.Idx), (z 0).val = s → (z 1).val = r → fs z = g' (z 2).val)
    (hg : ∀ (y : S73728x1024.Idx), y ∈ rowSet ρ → g' (y 1).val = g y)
    (hj : j < n) (hSrc : Src j = iprop(xsAt c (rowSet ρ) fd ∗ stAt c (stSet s r) q fs))
    (hDel : D ⟨j, hj⟩ = iprop(xsAt c (rowSet ρ) g ∗ stAt c (stSet s r) q fs)) :
    iprop(batch c sem D j 0 ∗ bigSep (Finset.Ico j n) Src)
      ⊢ iprop((iprop(batch c sem D (j + 1) 0 ∗ bigSep (Finset.Ico (j + 1) n) Src)
            -∗ wp frame (wpE (defs₀ (F := F)) Variants.none c none) Set.univ (k ⟨⟩) Q)
          -∗ wp frame (wpE (defs₀ (F := F)) Variants.none c none) Set.univ
            (.op (.enqueueDma (StRow offD hD) (XTo offC hC) (.dma sem) p1 p2 p3) k) Q) := by
  subst eD eC
  rw [bigSep_Ico_succ_bot hj, hSrc]
  iintro ⟨HB, ⟨HX, HT⟩, HS⟩ Hk
  iapply (Transfers.wp_dmaBatch (countersEmb (U := Pipeline.UD sig nD τ)) Variants.none (c : Thread nD τ) none
    (src := StRow ![s, r, 0] hD) (dst := XRow ![ρ, 0] hC) (q := q) (fs := fs) (Sd := rowSet ρ) (fd := fd) (D := D) () rowCredit rfl
    (by rw [XRow_set]) hj (Nat.zero_le _) ?_) $$ [HB HX HT] [Hk HS]
  · rw [hDel, StRow_set]
    have e : (xsAt c (rowSet ρ) ((XRow ![ρ, 0] hC).view.write (Elt F) fd (ReadAs.same.apply ((StRow ![s, r, 0] hD).view.read (Elt F) fs)) Finset.univ) : sProp 𝕄)
        = xsAt c (rowSet ρ) g :=
      pointsTo_congr fun y hy => (scatter_write s r ρ hC hD fd fs g' hval y hy).trans (hg y hy)
    rw [← e]
  · rw [StRow_set]
    isplitl [HT]; · iexact HT
    isplitl [HX]; · iexact HX
    iexact HB
  · iintro HB
    iapply Hk
    isplitl [HB]; · iexact HB
    iexact HS

/-- ONE COPY OF A TOKEN'S ROW: the row's number is read from a table, found inside, and the copy issued: the `j`-th of
    its batch, delivering the table's row at `g` and the staging row's share back. -/
theorem issue_step {tab : Memref sig .tc .smem S32768 .i32} {qt : PosShare TreeShare} {ft : Buf (Elt F) (tab.view.loc (c : Thread nD τ))}
    {offA : Fin 1 → ℕ} {hA : ∀ a, offA a + S1.size a ≤ S32768.size a} {hn : (Rect.unit (s := S32768) offA S1.size hA).shape.numel = 1} {hl : EltTy.i32.packing = 1}
    {chk : BitVec 32 → Prop} {dec : ∀ v, Decidable (chk v)} {offC : BitVec 32 → Fin 2 → ℕ}
    {hC : ∀ v, chk v → ∀ a, offC v a + S1x1024.size a ≤ S73728x1024.size a}
    {offD : Fin 3 → ℕ} {hD : ∀ a, offD a + S1x1x1024.size a ≤ S3x512x1024.size a} {sem : DmaSem sig}
    {p1 : (StRow offD hD).view.WordExact} {p2 : ∀ v h, (XTo (offC v) (hC v h)).view.WordExact}
    {p3 : ∀ v h, DmaTarget.Typed .vmem (.dma sem) (XTo (offC v) (hC v h))}
    {α : Type} {k : PUnit → Prog (TpuEff nD τ sig (Elt F) Λ₀ .tc) α} {Q : α → sProp 𝕄}
    {n : ℕ} {D : Fin n → sProp 𝕄} {Src : ℕ → sProp 𝕄} {j s r ρ : ℕ} {sem' : DmaSem sig}
    {q : PosShare TreeShare} {fd g : S73728x1024.Idx → Elt F .f32} {fs : S3x512x1024.Idx → Elt F .f32}
    (eD : offD = ![s, r, 0]) (eS : sem = sem') (eC : ∀ v : BitVec 32, v.toNat = ρ → offC v = ![ρ, 0])
    (hchk : ∀ v : BitVec 32, v.toNat = ρ → chk v)
    (hread : ((tab.access (Rect.unit (s := S32768) offA S1.size hA)).read (Elt F) ft (Shape.Idx.first (hn.symm ▸ Nat.one_pos)) : BitVec 32).toNat = ρ)
    (g' : ℕ → Elt F .f32) (hval : ∀ (z : S3x512x1024.Idx), (z 0).val = s → (z 1).val = r → fs z = g' (z 2).val)
    (hg : ∀ (y : S73728x1024.Idx), y ∈ rowSet ρ → g' (y 1).val = g y)
    (hj : j < n) (hSrc : Src j = iprop(xsAt c (rowSet ρ) fd ∗ stAt c (stSet s r) q fs))
    (hDel : D ⟨j, hj⟩ = iprop(xsAt c (rowSet ρ) g ∗ stAt c (stSet s r) q fs)) :
    iprop((tab.view.loc (c : Thread nD τ) ↦{qt} ft) ∗ batch c sem' D j 0 ∗ bigSep (Finset.Ico j n) Src)
      ⊢ iprop((iprop((tab.view.loc (c : Thread nD τ) ↦{qt} ft) ∗ batch c sem' D (j + 1) 0 ∗ bigSep (Finset.Ico (j + 1) n) Src)
            -∗ wp frame (wpE (defs₀ (F := F)) Variants.none c none) Set.univ (k ⟨⟩) Q)
          -∗ wp frame (wpE (defs₀ (F := F)) Variants.none c none) Set.univ
            (smemLoad tab (Rect.unit (s := S32768) offA S1.size hA) hn hl >>= fun v =>
              Prog.lift (TpuEff.assume (chk v) (dec v)) >>= fun h =>
                Prog.lift (.enqueueDma (StRow offD hD) (XTo (offC v) (hC v h.down)) (.dma sem) p1 (p2 v h.down) (p3 v h.down)) >>= k) Q) := by
  subst eS
  have hp : (smemLoad tab (Rect.unit (s := S32768) offA S1.size hA) hn hl >>= fun v =>
        Prog.lift (TpuEff.assume (chk v) (dec v)) >>= fun h =>
          Prog.lift (.enqueueDma (StRow offD hD) (XTo (offC v) (hC v h.down)) (.dma sem) p1 (p2 v h.down) (p3 v h.down)) >>= k
        : Prog (TpuEff nD τ sig (Elt F) Λ₀ .tc) α)
      = smemLoadElt tab (Rect.unit (s := S32768) offA S1.size hA) (View.loads_smem_one hl hn) (Shape.Idx.first (hn.symm ▸ Nat.one_pos)) fun v =>
        .op (.assume (chk v) (dec v)) fun h =>
          .op (.enqueueDma (StRow offD hD) (XTo (offC v) (hC v h.down)) (.dma sem) p1 (p2 v h.down) (p3 v h.down)) k := rfl
  rw [hp]
  iintro ⟨HT, HB, HS⟩ Hk
  iapply (wp_smemLoadElt Variants.none (c : Thread nD τ) none Set.univ (m := tab) (r := Rect.unit (s := S32768) offA S1.size hA) (q := qt) (f := ft) (Finset.subset_univ _)) $$ HT
  iintro HT
  iapply (wp_assume Variants.none (c : Thread nD τ) none Set.univ (hchk _ hread))
  iapply (scatter_issue c eD (eC _ hread) g' hval hg hj hSrc hDel) $$ [HB HS]
  · isplitl [HB] <;> iassumption
  iintro ⟨HB, HS⟩
  iapply Hk
  isplitl [HT]; · iexact HT
  isplitl [HB] <;> iassumption

end Cert.KernelIdeal.Dispatch

end
-- ==== Proof.Dispatch.Words.lean ====
/-
  The dispatch kernel's index words as numbers: the bounds of its loops, the offsets of its slices, its conditions.
-/
module

public import proofs.«01_k».proof.Proof.Dispatch.Table
public import Idealize.ShloMosaic.Lib.WordArith.Masks
public import Idealize.ShloMosaic.Lib.WordCmp

@[expose] public section

noncomputable section

namespace Cert.KernelIdeal.Dispatch

open Cert.KernelIdeal Cert.KernelIdeal.Gen
open Idealize.ShloMosaic

/-! ## The padding loops: one trip a row, none left over -/

theorem full_word (v : BitVec 32) (h : v.toNat ≤ 73728) : Scalar.muli (Scalar.divsi (Scalar.subi v 0#32) 1#32) 1#32 = v := by
  have e1 : Scalar.subi v 0#32 = v := by show v - 0#32 = v; simp
  rw [e1]
  have e2 : Scalar.divsi v 1#32 = v := by
    show IntOp.divsi .scalar v 1#32 = v
    unfold IntOp.divsi
    rw [if_neg (by unfold IntOp.SDivCorner; simp), BitVec.sdiv_one]
  rw [e2]; show v * 1#32 = v; simp

abbrev runLoop (v : BitVec 32) : Scf.Loop 32 := ⟨0#32, v, 1#32⟩
abbrev noLoop (v : BitVec 32) : Scf.Loop 32 := ⟨v, v, 1#32⟩

theorem runLoop_trips (v : BitVec 32) (h : v.toNat ≤ 73728) : (runLoop v).trips = v.toNat := by
  show ((v.toInt - (0#32).toInt + (1#32).toInt - 1) / (1#32).toInt).toNat = _
  have e : v.toInt = v.toNat := BitVec.toInt_eq_toNat_of_lt (by omega)
  have e0 : (0#32 : BitVec 32).toInt = 0 := by decide
  have e1 : (1#32 : BitVec 32).toInt = 1 := by decide
  rw [e, e0, e1]; simp
theorem runLoop_ok (v : BitVec 32) (h : v.toNat ≤ 73728) : (runLoop v).OK := by
  have e0 : (0#32 : BitVec 32).toInt = 0 := by decide
  have e1 : (1#32 : BitVec 32).toInt = 1 := by decide
  have ht : Scf.trips 0#32 v 1#32 = v.toNat := runLoop_trips v h
  refine ⟨by show 0 < (1#32 : BitVec 32).toInt; rw [e1]; decide, ?_⟩
  show (0#32 : BitVec 32).toInt + (Scf.trips 0#32 v 1#32 : ℤ) * (1#32 : BitVec 32).toInt < 2 ^ (32 - 1)
  rw [ht, e0, e1]; omega
theorem noLoop_trips (v : BitVec 32) : (noLoop v).trips = 0 := by
  show ((v.toInt - v.toInt + (1#32).toInt - 1) / (1#32).toInt).toNat = _
  have e1 : (1#32 : BitVec 32).toInt = 1 := by decide
  rw [e1]; simp
theorem noLoop_ok (v : BitVec 32) (h : v.toNat ≤ 73728) : (noLoop v).OK := by
  have e : v.toInt = v.toNat := BitVec.toInt_eq_toNat_of_lt (by omega)
  have e1 : (1#32 : BitVec 32).toInt = 1 := by decide
  have ht : Scf.trips v v 1#32 = 0 := noLoop_trips v
  refine ⟨by show 0 < (1#32 : BitVec 32).toInt; rw [e1]; decide, ?_⟩
  show v.toInt + (Scf.trips v v 1#32 : ℤ) * (1#32 : BitVec 32).toInt < 2 ^ (32 - 1)
  rw [ht, e, e1]; omega

theorem t1_eq (v : BitVec 32) (h : v.toNat ≤ 73728) : k0_t1_loop v = runLoop v := by
  show (⟨0#32, 0#32 + Scalar.muli (Scalar.divsi (Scalar.subi v 0#32) 1#32) 1#32, 1#32⟩ : Scf.Loop 32) = _
  rw [full_word v h, BitVec.zero_add]
theorem t2_eq (v : BitVec 32) (h : v.toNat ≤ 73728) : k0_t2_loop v = noLoop v := by
  show (⟨0#32 + Scalar.muli (Scalar.divsi (Scalar.subi v 0#32) 1#32) 1#32, 0#32 + (v - 0#32), 1#32⟩ : Scf.Loop 32) = _
  rw [full_word v h, BitVec.zero_add, BitVec.zero_add, BitVec.sub_zero]
theorem run_trips (v : BitVec 32) (h : v.toNat ≤ 73728) : (k0_t1_loop v).trips = v.toNat :=
  (congrArg Scf.Loop.trips (t1_eq v h)).trans (runLoop_trips v h)
theorem rest_trips (v : BitVec 32) (h : v.toNat ≤ 73728) : (k0_t2_loop v).trips = 0 :=
  (congrArg Scf.Loop.trips (t2_eq v h)).trans (noLoop_trips v)
theorem run_chk (v : BitVec 32) (h : v.toNat ≤ 73728) : (k0_t1_loop v).OK ∧ (k0_t2_loop v).OK := by
  rw [t1_eq v h, t2_eq v h]; exact ⟨runLoop_ok v h, noLoop_ok v h⟩

/-- Padding row `k` of a run. -/
theorem pad_word (w : BitVec 32) (k : ℕ) (h : w.toNat + k ≤ 73728) : (Scalar.addi w (Scf.iv 0#32 1#32 k)).toNat = w.toNat + k := by
  show (w + Scf.iv 0#32 1#32 k).toNat = _
  rw [BitVec.toNat_add, WordArith.toNat_iv_zero_one _ (by omega)]; omega

/-! ## The chunk loop -/

theorem t33_trips : k0_t33_loop.trips = 64 := by decide
theorem t34_trips : k0_t34_loop.trips = 1024 := by decide
theorem t35_trips : k0_t35_loop.trips = 64 := by decide
theorem t36_trips : k0_t36_loop.trips = 1024 := by decide
theorem t37_trips : k0_t37_loop.trips = 1024 := by decide

theorem off17_eq : ∀ t : Fin k0_t33_loop.trips, k0_off17 t = ![t.val % 3] := by decide +kernel
theorem off18_eq : ∀ t : Fin k0_t33_loop.trips, k0_off18 t = ![t.val % 3, 0, 0] := by decide +kernel
theorem off19_eq : ∀ t : Fin k0_t33_loop.trips, k0_off19 t = ![512 * t.val, 0] := by decide +kernel
theorem off20_eq : ∀ t : Fin k0_t33_loop.trips, 2 ≤ t.val → k0_off20 t = ![(t.val + 1) % 3] := by decide +kernel
theorem off21_eq : ∀ t : Fin k0_t33_loop.trips, k0_off21 t = ![(t.val + 1) % 3] := by decide +kernel
theorem off22_eq : ∀ t : Fin k0_t33_loop.trips, k0_off22 t = ![(t.val + 1) % 3, 0, 0] := by decide +kernel
theorem off23_eq : ∀ t : Fin k0_t33_loop.trips, k0_off23 t = ![512 * (t.val + 1), 0] := by decide +kernel
theorem cond1_iff : ∀ t : Fin k0_t33_loop.trips, k0_cond1 t = 1#1 ↔ 2 ≤ t.val := by decide +kernel
theorem cond2_iff : ∀ t : Fin k0_t33_loop.trips, k0_cond2 t = 1#1 ↔ t.val + 1 < 64 := by decide +kernel

theorem slot_word : ∀ t : Fin k0_t33_loop.trips, (Scalar.remsi (Scf.iv 0#32 1#32 t) 3#32).toNat = t.val % 3 := by decide +kernel
theorem group_word (b : Fin k0_t35_loop.trips) (u : BitVec 32) (hu : u.toNat < 8) :
    (Scf.iv 0#32 1#32 b * 8#32 + u).toNat = 8 * b.val + u.toNat := by
  have hb : b.val < 64 := lt_of_lt_of_eq b.isLt t35_trips
  rw [BitVec.toNat_add, BitVec.toNat_mul, WordArith.toNat_iv_zero_one _ (by omega)]
  show (b.val * 8 % 4294967296 + u.toNat) % 4294967296 = _
  omega
theorem token_word (a : Fin k0_t33_loop.trips) (b : Fin k0_t35_loop.trips) (u : BitVec 32) (hu : u.toNat < 8) :
    (Scf.iv 0#32 1#32 a * 512#32 + (Scf.iv 0#32 1#32 b * 8#32 + u)).toNat = 512 * a.val + (8 * b.val + u.toNat) := by
  have ha : a.val < 64 := lt_of_lt_of_eq a.isLt t33_trips
  have hb : b.val < 64 := lt_of_lt_of_eq b.isLt t35_trips
  rw [BitVec.toNat_add, BitVec.toNat_mul, group_word b u hu, WordArith.toNat_iv_zero_one _ (by omega)]
  show (a.val * 512 % 4294967296 + (8 * b.val + u.toNat)) % 4294967296 = _
  omega

theorem off24_eq (a : Fin k0_t33_loop.trips) (b : Fin k0_t35_loop.trips) : k0_off24 a b = ![512 * a.val + (8 * b.val + 0)] :=
  congrArg (fun n : ℕ => (![n] : Fin 1 → ℕ)) (token_word a b 0#32 (by decide))
theorem off25_eq (a : Fin k0_t33_loop.trips) : k0_off25 a = ![a.val % 3] := congrArg (fun n : ℕ => (![n] : Fin 1 → ℕ)) (slot_word a)
theorem off27_eq (a : Fin k0_t33_loop.trips) (b : Fin k0_t35_loop.trips) : k0_off27 a b = ![a.val % 3, 8 * b.val + 0, 0] :=
  congrArg₂ (fun m n : ℕ => (![m, n, 0] : Fin 3 → ℕ)) (slot_word a) (group_word b 0#32 (by decide))
theorem off28_eq (a : Fin k0_t33_loop.trips) (b : Fin k0_t35_loop.trips) : k0_off28 a b = ![512 * a.val + (8 * b.val + 0)] :=
  congrArg (fun n : ℕ => (![n] : Fin 1 → ℕ)) (token_word a b 0#32 (by decide))
theorem off29_eq (a : Fin k0_t33_loop.trips) : k0_off29 a = ![a.val % 3] := congrArg (fun n : ℕ => (![n] : Fin 1 → ℕ)) (slot_word a)
theorem off31_eq (a : Fin k0_t33_loop.trips) (b : Fin k0_t35_loop.trips) : k0_off31 a b = ![a.val % 3, 8 * b.val + 0, 0] :=
  congrArg₂ (fun m n : ℕ => (![m, n, 0] : Fin 3 → ℕ)) (slot_word a) (group_word b 0#32 (by decide))
theorem off32_eq (a : Fin k0_t33_loop.trips) (b : Fin k0_t35_loop.trips) : k0_off32 a b = ![512 * a.val + (8 * b.val + 1)] :=
  congrArg (fun n : ℕ => (![n] : Fin 1 → ℕ)) (token_word a b 1#32 (by decide))
theorem off33_eq (a : Fin k0_t33_loop.trips) : k0_off33 a = ![a.val % 3] := congrArg (fun n : ℕ => (![n] : Fin 1 → ℕ)) (slot_word a)
theorem off35_eq (a : Fin k0_t33_loop.trips) (b : Fin k0_t35_loop.trips) : k0_off35 a b = ![a.val % 3, 8 * b.val + 1, 0] :=
  congrArg₂ (fun m n : ℕ => (![m, n, 0] : Fin 3 → ℕ)) (slot_word a) (group_word b 1#32 (by decide))
theorem off36_eq (a : Fin k0_t33_loop.trips) (b : Fin k0_t35_loop.trips) : k0_off36 a b = ![512 * a.val + (8 * b.val + 1)] :=
  congrArg (fun n : ℕ => (![n] : Fin 1 → ℕ)) (token_word a b 1#32 (by decide))
theorem off37_eq (a : Fin k0_t33_loop.trips) : k0_off37 a = ![a.val % 3] := congrArg (fun n : ℕ => (![n] : Fin 1 → ℕ)) (slot_word a)
theorem off39_eq (a : Fin k0_t33_loop.trips) (b : Fin k0_t35_loop.trips) : k0_off39 a b = ![a.val % 3, 8 * b.val + 1, 0] :=
  congrArg₂ (fun m n : ℕ => (![m, n, 0] : Fin 3 → ℕ)) (slot_word a) (group_word b 1#32 (by decide))
theorem off40_eq (a : Fin k0_t33_loop.trips) (b : Fin k0_t35_loop.trips) : k0_off40 a b = ![512 * a.val + (8 * b.val + 2)] :=
  congrArg (fun n : ℕ => (![n] : Fin 1 → ℕ)) (token_word a b 2#32 (by decide))
theorem off41_eq (a : Fin k0_t33_loop.trips) : k0_off41 a = ![a.val % 3] := congrArg (fun n : ℕ => (![n] : Fin 1 → ℕ)) (slot_word a)
theorem off43_eq (a : Fin k0_t33_loop.trips) (b : Fin k0_t35_loop.trips) : k0_off43 a b = ![a.val % 3, 8 * b.val + 2, 0] :=
  congrArg₂ (fun m n : ℕ => (![m, n, 0] : Fin 3 → ℕ)) (slot_word a) (group_word b 2#32 (by decide))
theorem off44_eq (a : Fin k0_t33_loop.trips) (b : Fin k0_t35_loop.trips) : k0_off44 a b = ![512 * a.val + (8 * b.val + 2)] :=
  congrArg (fun n : ℕ => (![n] : Fin 1 → ℕ)) (token_word a b 2#32 (by decide))
theorem off45_eq (a : Fin k0_t33_loop.trips) : k0_off45 a = ![a.val % 3] := congrArg (fun n : ℕ => (![n] : Fin 1 → ℕ)) (slot_word a)
theorem off47_eq (a : Fin k0_t33_loop.trips) (b : Fin k0_t35_loop.trips) : k0_off47 a b = ![a.val % 3, 8 * b.val + 2, 0] :=
  congrArg₂ (fun m n : ℕ => (![m, n, 0] : Fin 3 → ℕ)) (slot_word a) (group_word b 2#32 (by decide))
theorem off48_eq (a : Fin k0_t33_loop.trips) (b : Fin k0_t35_loop.trips) : k0_off48 a b = ![512 * a.val + (8 * b.val + 3)] :=
  congrArg (fun n : ℕ => (![n] : Fin 1 → ℕ)) (token_word a b 3#32 (by decide))
theorem off49_eq (a : Fin k0_t33_loop.trips) : k0_off49 a = ![a.val % 3] := congrArg (fun n : ℕ => (![n] : Fin 1 → ℕ)) (slot_word a)
theorem off51_eq (a : Fin k0_t33_loop.trips) (b : Fin k0_t35_loop.trips) : k0_off51 a b = ![a.val % 3, 8 * b.val + 3, 0] :=
  congrArg₂ (fun m n : ℕ => (![m, n, 0] : Fin 3 → ℕ)) (slot_word a) (group_word b 3#32 (by decide))
theorem off52_eq (a : Fin k0_t33_loop.trips) (b : Fin k0_t35_loop.trips) : k0_off52 a b = ![512 * a.val + (8 * b.val + 3)] :=
  congrArg (fun n : ℕ => (![n] : Fin 1 → ℕ)) (token_word a b 3#32 (by decide))
theorem off53_eq (a : Fin k0_t33_loop.trips) : k0_off53 a = ![a.val % 3] := congrArg (fun n : ℕ => (![n] : Fin 1 → ℕ)) (slot_word a)
theorem off55_eq (a : Fin k0_t33_loop.trips) (b : Fin k0_t35_loop.trips) : k0_off55 a b = ![a.val % 3, 8 * b.val + 3, 0] :=
  congrArg₂ (fun m n : ℕ => (![m, n, 0] : Fin 3 → ℕ)) (slot_word a) (group_word b 3#32 (by decide))
theorem off56_eq (a : Fin k0_t33_loop.trips) (b : Fin k0_t35_loop.trips) : k0_off56 a b = ![512 * a.val + (8 * b.val + 4)] :=
  congrArg (fun n : ℕ => (![n] : Fin 1 → ℕ)) (token_word a b 4#32 (by decide))
theorem off57_eq (a : Fin k0_t33_loop.trips) : k0_off57 a = ![a.val % 3] := congrArg (fun n : ℕ => (![n] : Fin 1 → ℕ)) (slot_word a)
theorem off59_eq (a : Fin k0_t33_loop.trips) (b : Fin k0_t35_loop.trips) : k0_off59 a b = ![a.val % 3, 8 * b.val + 4, 0] :=
  congrArg₂ (fun m n : ℕ => (![m, n, 0] : Fin 3 → ℕ)) (slot_word a) (group_word b 4#32 (by decide))
theorem off60_eq (a : Fin k0_t33_loop.trips) (b : Fin k0_t35_loop.trips) : k0_off60 a b = ![512 * a.val + (8 * b.val + 4)] :=
  congrArg (fun n : ℕ => (![n] : Fin 1 → ℕ)) (token_word a b 4#32 (by decide))
theorem off61_eq (a : Fin k0_t33_loop.trips) : k0_off61 a = ![a.val % 3] := congrArg (fun n : ℕ => (![n] : Fin 1 → ℕ)) (slot_word a)
theorem off63_eq (a : Fin k0_t33_loop.trips) (b : Fin k0_t35_loop.trips) : k0_off63 a b = ![a.val % 3, 8 * b.val + 4, 0] :=
  congrArg₂ (fun m n : ℕ => (![m, n, 0] : Fin 3 → ℕ)) (slot_word a) (group_word b 4#32 (by decide))
theorem off64_eq (a : Fin k0_t33_loop.trips) (b : Fin k0_t35_loop.trips) : k0_off64 a b = ![512 * a.val + (8 * b.val + 5)] :=
  congrArg (fun n : ℕ => (![n] : Fin 1 → ℕ)) (token_word a b 5#32 (by decide))
theorem off65_eq (a : Fin k0_t33_loop.trips) : k0_off65 a = ![a.val % 3] := congrArg (fun n : ℕ => (![n] : Fin 1 → ℕ)) (slot_word a)
theorem off67_eq (a : Fin k0_t33_loop.trips) (b : Fin k0_t35_loop.trips) : k0_off67 a b = ![a.val % 3, 8 * b.val + 5, 0] :=
  congrArg₂ (fun m n : ℕ => (![m, n, 0] : Fin 3 → ℕ)) (slot_word a) (group_word b 5#32 (by decide))
theorem off68_eq (a : Fin k0_t33_loop.trips) (b : Fin k0_t35_loop.trips) : k0_off68 a b = ![512 * a.val + (8 * b.val + 5)] :=
  congrArg (fun n : ℕ => (![n] : Fin 1 → ℕ)) (token_word a b 5#32 (by decide))
theorem off69_eq (a : Fin k0_t33_loop.trips) : k0_off69 a = ![a.val % 3] := congrArg (fun n : ℕ => (![n] : Fin 1 → ℕ)) (slot_word a)
theorem off71_eq (a : Fin k0_t33_loop.trips) (b : Fin k0_t35_loop.trips) : k0_off71 a b = ![a.val % 3, 8 * b.val + 5, 0] :=
  congrArg₂ (fun m n : ℕ => (![m, n, 0] : Fin 3 → ℕ)) (slot_word a) (group_word b 5#32 (by decide))
theorem off72_eq (a : Fin k0_t33_loop.trips) (b : Fin k0_t35_loop.trips) : k0_off72 a b = ![512 * a.val + (8 * b.val + 6)] :=
  congrArg (fun n : ℕ => (![n] : Fin 1 → ℕ)) (token_word a b 6#32 (by decide))
theorem off73_eq (a : Fin k0_t33_loop.trips) : k0_off73 a = ![a.val % 3] := congrArg (fun n : ℕ => (![n] : Fin 1 → ℕ)) (slot_word a)
theorem off75_eq (a : Fin k0_t33_loop.trips) (b : Fin k0_t35_loop.trips) : k0_off75 a b = ![a.val % 3, 8 * b.val + 6, 0] :=
  congrArg₂ (fun m n : ℕ => (![m, n, 0] : Fin 3 → ℕ)) (slot_word a) (group_word b 6#32 (by decide))
theorem off76_eq (a : Fin k0_t33_loop.trips) (b : Fin k0_t35_loop.trips) : k0_off76 a b = ![512 * a.val + (8 * b.val + 6)] :=
  congrArg (fun n : ℕ => (![n] : Fin 1 → ℕ)) (token_word a b 6#32 (by decide))
theorem off77_eq (a : Fin k0_t33_loop.trips) : k0_off77 a = ![a.val % 3] := congrArg (fun n : ℕ => (![n] : Fin 1 → ℕ)) (slot_word a)
theorem off79_eq (a : Fin k0_t33_loop.trips) (b : Fin k0_t35_loop.trips) : k0_off79 a b = ![a.val % 3, 8 * b.val + 6, 0] :=
  congrArg₂ (fun m n : ℕ => (![m, n, 0] : Fin 3 → ℕ)) (slot_word a) (group_word b 6#32 (by decide))
theorem off80_eq (a : Fin k0_t33_loop.trips) (b : Fin k0_t35_loop.trips) : k0_off80 a b = ![512 * a.val + (8 * b.val + 7)] :=
  congrArg (fun n : ℕ => (![n] : Fin 1 → ℕ)) (token_word a b 7#32 (by decide))
theorem off81_eq (a : Fin k0_t33_loop.trips) : k0_off81 a = ![a.val % 3] := congrArg (fun n : ℕ => (![n] : Fin 1 → ℕ)) (slot_word a)
theorem off83_eq (a : Fin k0_t33_loop.trips) (b : Fin k0_t35_loop.trips) : k0_off83 a b = ![a.val % 3, 8 * b.val + 7, 0] :=
  congrArg₂ (fun m n : ℕ => (![m, n, 0] : Fin 3 → ℕ)) (slot_word a) (group_word b 7#32 (by decide))
theorem off84_eq (a : Fin k0_t33_loop.trips) (b : Fin k0_t35_loop.trips) : k0_off84 a b = ![512 * a.val + (8 * b.val + 7)] :=
  congrArg (fun n : ℕ => (![n] : Fin 1 → ℕ)) (token_word a b 7#32 (by decide))
theorem off85_eq (a : Fin k0_t33_loop.trips) : k0_off85 a = ![a.val % 3] := congrArg (fun n : ℕ => (![n] : Fin 1 → ℕ)) (slot_word a)
theorem off87_eq (a : Fin k0_t33_loop.trips) (b : Fin k0_t35_loop.trips) : k0_off87 a b = ![a.val % 3, 8 * b.val + 7, 0] :=
  congrArg₂ (fun m n : ℕ => (![m, n, 0] : Fin 3 → ℕ)) (slot_word a) (group_word b 7#32 (by decide))

/-! ## The semaphores of the slots -/

theorem load_sem (s : ℕ) (hs : s < 3) (h : ∀ a, (![s] : Fin 1 → ℕ) a + S1.size a ≤ S3.size a) :
    ((cc0_scratch2.slice (Rect.unit (s := S3) ![s] S1.size h)).squeeze S_ squeezes_S1_S_).sem = (⟨s, by show s < 7; omega⟩ : DmaSem sig) := by
  apply Fin.ext
  show 0 + (Shape.rowMajor S3 ((Rect.unit (s := S3) ![s] S1.size h).emb (Shape.reshapeEquiv squeezes_S1_S_.numel_eq fun i => i.elim0))).val = s
  have key : ∀ x : S1.Idx, (Shape.rowMajor S3 ((Rect.unit (s := S3) ![s] S1.size h).emb x)).val = s := by
    intro x
    refine (Shape.rowMajor_val_one _).trans ?_
    have hx : (x 0).val < 1 := (x 0).isLt
    show s + 1 * (x 0).val = s
    omega
  refine (congrArg (0 + ·) (key _)).trans ?_
  exact Nat.zero_add s
theorem scat_sem (s : ℕ) (hs : s < 3) (h : ∀ a, (![s] : Fin 1 → ℕ) a + S1.size a ≤ S3.size a) :
    ((cc0_scratch3.slice (Rect.unit (s := S3) ![s] S1.size h)).squeeze S_ squeezes_S1_S_).sem = (⟨3 + s, by show 3 + s < 7; omega⟩ : DmaSem sig) := by
  apply Fin.ext
  show 3 + (Shape.rowMajor S3 ((Rect.unit (s := S3) ![s] S1.size h).emb (Shape.reshapeEquiv squeezes_S1_S_.numel_eq fun i => i.elim0))).val = 3 + s
  have key : ∀ x : S1.Idx, (Shape.rowMajor S3 ((Rect.unit (s := S3) ![s] S1.size h).emb x)).val = s := by
    intro x
    refine (Shape.rowMajor_val_one _).trans ?_
    have hx : (x 0).val < 1 := (x 0).isLt
    show s + 1 * (x 0).val = s
    omega
  refine (congrArg (3 + ·) (key _)).trans ?_
  rfl
theorem zero_sem : (cc0_scratch4 : DmaSems sig S_).sem = (⟨6, by decide⟩ : DmaSem sig) := rfl

end Cert.KernelIdeal.Dispatch

end
-- ==== Proof.Dispatch.Loops.lean ====
/-
  The dispatch kernel's counted loops of single steps: the waits for one row each, the issues of one row of zeros
  each, the loops without trips; and the reads of the padding table.
-/
module

public import proofs.«01_k».proof.Proof.Dispatch.Steps
public import proofs.«01_k».proof.Proof.Dispatch.Words

@[expose] public section

noncomputable section

namespace Cert.KernelIdeal.Dispatch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.Sem Idealize.SL.ProofMode
open Idealize.ShloMosaic.ValueIdx

variable {F : FTy → Type} [FloatOps F]

local notation "𝕄" => MT nD τ sig Unit (Elt F) ℕ (Pipeline.UD sig nD τ) ℕ

/-- The core owes nothing, whatever it has waited for. -/
abbrev owing (c : Dev nD) : sProp 𝕄 := iprop(∃ W : Waits sig Unit, owes (c : Thread nD τ) 0 W)

variable (c : Dev nD)

/-- A loop with no trips is its initial value. -/
theorem no_loop {l : Scf.Loop 32} {hok : l.OK} {σ α : Type} {init : σ} {body : Fin l.trips → σ → Prog (TpuEff nD τ sig (Elt F) Λ₀ .tc) σ}
    {kk : σ → Prog (TpuEff nD τ sig (Elt F) Λ₀ .tc) α} {Q : α → sProp 𝕄} (h : l.trips = 0) :
    wp frame (wpE (defs₀ (F := F)) Variants.none c none) Set.univ (kk init) Q
      ⊢ wp frame (wpE (defs₀ (F := F)) Variants.none c none) Set.univ (Scf.for l.lb l.ub l.st hok init body >>= kk) Q := by
  have e : Scf.for l.lb l.ub l.st hok init body = pure init := by
    rw [Scf.for_eq]
    have h' : Scf.trips l.lb l.ub l.st = 0 := h
    have hl : List.finRange (Scf.trips l.lb l.ub l.st) = [] := by
      apply List.eq_nil_of_length_eq_zero; rw [List.length_finRange, h']
    rw [hl]; rfl
  rw [e]
  iintro H
  iexact H

/-- A loop of waits for one row each: every trip takes one row's credit off the batch. -/
theorem wait_loop {l : Scf.Loop 32} {hok : l.OK} {σ α : Type} {init : σ} {body : Fin l.trips → σ → Prog (TpuEff nD τ sig (Elt F) Λ₀ .tc) σ}
    {kk : σ → Prog (TpuEff nD τ sig (Elt F) Λ₀ .tc) α} {Q : α → sProp 𝕄} {sem sem' : DmaSem sig} {srcw : Memref sig .tc .vmem S1x1024 .f32}
    {p1 : srcw.view.WordExact} {p2 : (XRow ![0, 0] inb_S73728x1024_S1x1024_0_0).view.WordExact}
    (out : Fin l.trips → σ → σ)
    (hb : ∀ k acc, body k acc
      = Prog.lift (.waitDma2 sem srcw (XRow ![0, 0] inb_S73728x1024_S1x1024_0_0) p1 p2) >>= fun _ => pure (out k acc))
    (eS : sem = sem') {n : ℕ} {D : Fin n → sProp 𝕄} {j u : ℕ} (hu : u + rowCredit * l.trips ≤ rowCredit * j) :
    iprop(batch c sem' D j u ∗ owing c)
      ⊢ iprop((∀ acc, iprop(batch c sem' D j (u + rowCredit * l.trips) ∗ owing c)
            -∗ wp frame (wpE (defs₀ (F := F)) Variants.none c none) Set.univ (kk acc) Q)
          -∗ wp frame (wpE (defs₀ (F := F)) Variants.none c none) Set.univ (Scf.for l.lb l.ub l.st hok init body >>= kk) Q) := by
  subst eS
  iintro HI Hk
  iapply (Scf.wp_for_bind frame (wpE (defs₀ (F := F)) Variants.none c none) Set.univ l.lb l.ub l.st hok init body
    (fun k _ => iprop(batch c sem D j (u + rowCredit * k) ∗ owing c)) ?_) $$ [HI]
  · intro k acc
    rw [hb]
    have hk : k.val < l.trips := k.isLt
    have hle : u + rowCredit * k.val + 1 * rowCredit ≤ rowCredit * j := by
      have h1 : rowCredit * (k.val + 1) ≤ rowCredit * l.trips := Nat.mul_le_mul_left _ hk
      rw [Nat.mul_add] at h1
      omega
    iintro ⟨HB, %W, HO⟩
    iapply (Transfers.wp_waitBatchMul (countersEmb (U := Pipeline.UD sig nD τ)) Variants.none (c : Thread nD τ) none () 1
      (show (XRow ![0, 0] inb_S73728x1024_S1x1024_0_0).view.dmaCredit = 1 * rowCredit from (Nat.one_mul _).symm) (D := D) hle (W := W)) $$ [HB HO]
    · isplitl [HB] <;> iassumption
    iintro ⟨HB, HO⟩
    iapply (le_wp_ret _ _ _ _ _)
    have e : u + rowCredit * k.val + 1 * rowCredit = u + rowCredit * (k.val + 1) := by rw [Nat.mul_add]; omega
    rw [← e]
    isplitl [HB]; · iexact HB
    iexists _; iexact HO
  · rw [Nat.mul_zero, Nat.add_zero]; iexact HI
  iexact Hk

/-- The word a table read gives. -/
theorem pad_read (e : ℕ) (he : e < 16) (h : ∀ a, (![e] : Fin 1 → ℕ) a + S1.size a ≤ S16.size a) (ft : S16.Idx → Elt F .i32) (i : S1.Idx) :
    (((Memref.whole main_arg2).access (Rect.unit (s := S16) ![e] S1.size h)).read (Elt F) ft i : Elt F .i32) = ft (ix1 (⟨e, he⟩ : Fin 16)) := by
  show ft _ = ft _
  refine congrArg ft ?_
  funext a; apply Fin.ext
  match a with
  | ⟨0, _⟩ =>
    have hi : (i 0).val < 1 := (i 0).isLt
    show e + 1 * (i 0).val = e
    omega

/-- The read of one word of the padding table. -/
theorem pad_load {e : ℕ} (he : e < 16) {h : ∀ a, (![e] : Fin 1 → ℕ) a + S1.size a ≤ S16.size a}
    {hn : (Rect.unit (s := S16) ![e] S1.size h).shape.numel = 1} {hl : EltTy.i32.packing = 1}
    {α : Type} {k : Elt F .i32 → Prog (TpuEff nD τ sig (Elt F) Λ₀ .tc) α} {Q : α → sProp 𝕄} {q : PosShare TreeShare} {ft : S16.Idx → Elt F .i32} :
    (((c : Thread nD τ).loc main_arg2) ↦{q} ft : sProp 𝕄)
      ⊢ iprop(((((c : Thread nD τ).loc main_arg2) ↦{q} ft) -∗ wp frame (wpE (defs₀ (F := F)) Variants.none c none) Set.univ (k (ft (ix1 (⟨e, he⟩ : Fin 16)))) Q)
          -∗ wp frame (wpE (defs₀ (F := F)) Variants.none c none) Set.univ
            (smemLoad (Memref.whole main_arg2) (Rect.unit (s := S16) ![e] S1.size h) hn hl >>= k) Q) := by
  have hp : (smemLoad (Memref.whole main_arg2) (Rect.unit (s := S16) ![e] S1.size h) hn hl >>= k : Prog (TpuEff nD τ sig (Elt F) Λ₀ .tc) α)
      = smemLoadElt (Memref.whole main_arg2) (Rect.unit (s := S16) ![e] S1.size h) (View.loads_smem_one hl hn) (Shape.Idx.first (hn.symm ▸ Nat.one_pos)) k := rfl
  rw [hp, ← pad_read e he h ft (Shape.Idx.first (hn.symm ▸ Nat.one_pos))]
  iintro HT Hk
  iapply (wp_smemLoadElt Variants.none (c : Thread nD τ) none Set.univ (m := Memref.whole main_arg2) (r := Rect.unit (s := S16) ![e] S1.size h) (q := q) (f := ft) (Finset.subset_univ _)) $$ HT
  iexact Hk

/-- The issue of the copy of the row of zeros onto one row of the table, the `j`-th of its batch. -/
theorem zero_issue {offC : Fin 2 → ℕ} {hC : ∀ a, offC a + S1x1024.size a ≤ S73728x1024.size a} {sem : DmaSem sig}
    {p1 : ZRow.view.WordExact} {p2 : (XTo offC hC).view.WordExact}
    {p3 : DmaTarget.Typed .vmem (.dma sem) (XTo offC hC)}
    {α : Type} {k : PUnit → Prog (TpuEff nD τ sig (Elt F) Λ₀ .tc) α} {Q : α → sProp 𝕄}
    {n : ℕ} {D : Fin n → sProp 𝕄} {j ρ : ℕ} {q : PosShare TreeShare} {V g : S73728x1024.Idx → Elt F .f32} {zf : S8x1024.Idx → Elt F .f32} {z : Elt F .f32}
    (eC : offC = ![ρ, 0]) (hz : ∀ y, zf y = z) (hg : ∀ y : S73728x1024.Idx, y ∈ rowSet ρ → z = g y) (hj : j < n)
    (hDel : D ⟨j, hj⟩ = iprop(xsAt c (rowSet ρ) g ∗ zAt c zSet q zf)) :
    iprop(batch c sem D j 0 ∗ xsAt c (rowSet ρ) V ∗ zAt c zSet q zf)
      ⊢ iprop((batch c sem D (j + 1) 0 -∗ wp frame (wpE (defs₀ (F := F)) Variants.none c none) Set.univ (k ⟨⟩) Q)
          -∗ wp frame (wpE (defs₀ (F := F)) Variants.none c none) Set.univ
            (.op (.enqueueDma ZRow (XTo offC hC) (.dma sem) p1 p2 p3) k) Q) := by
  subst eC
  iintro ⟨HB, HX, HZ⟩ Hk
  iapply (Transfers.wp_dmaBatch (countersEmb (U := Pipeline.UD sig nD τ)) Variants.none (c : Thread nD τ) none
    (src := ZRow) (dst := XRow ![ρ, 0] hC) (q := q) (fs := zf) (Sd := rowSet ρ) (fd := V) (D := D) () rowCredit rfl
    (by rw [XRow_set]) hj (Nat.zero_le _) ?_) $$ [HB HX HZ] [Hk]
  · rw [hDel, ZRow_set]
    have e : (xsAt c (rowSet ρ) ((XRow ![ρ, 0] hC).view.write (Elt F) V (ReadAs.same.apply (ZRow.view.read (Elt F) zf)) Finset.univ) : sProp 𝕄)
        = xsAt c (rowSet ρ) g :=
      pointsTo_congr fun y hy => (zero_write _ hC V zf z hz y hy).trans (hg y hy)
    rw [← e]
  · rw [ZRow_set]
    isplitl [HZ]; · iexact HZ
    isplitl [HX]; · iexact HX
    iexact HB
  · iexact Hk

/-- A loop of issues of one row of zeros each, the `b0`-th on: row `p0 + k` at trip `k`. -/
theorem zero_loop {l : Scf.Loop 32} {hok : l.OK} {σ α : Type} {init : σ} {body : Fin l.trips → σ → Prog (TpuEff nD τ sig (Elt F) Λ₀ .tc) σ}
    {kk : σ → Prog (TpuEff nD τ sig (Elt F) Λ₀ .tc) α} {Q : α → sProp 𝕄} {e : ℕ} (he : e < 16)
    {h : ∀ a, (![e] : Fin 1 → ℕ) a + S1.size a ≤ S16.size a}
    {hn : (Rect.unit (s := S16) ![e] S1.size h).shape.numel = 1} {hl : EltTy.i32.packing = 1}
    {chk : Fin l.trips → BitVec 32 → Prop} {dec : ∀ k v, Decidable (chk k v)} {offC : Fin l.trips → BitVec 32 → Fin 2 → ℕ}
    {hC : ∀ k v, chk k v → ∀ a, offC k v a + S1x1024.size a ≤ S73728x1024.size a} {sem : DmaSem sig}
    {p1 : ZRow.view.WordExact} {p2 : ∀ k v h, (XTo (offC k v) (hC k v h)).view.WordExact}
    {p3 : ∀ k v h, DmaTarget.Typed .vmem (.dma sem) (XTo (offC k v) (hC k v h))}
    (out : Fin l.trips → σ → σ)
    (hb : ∀ k acc, body k acc
      = (smemLoad (Memref.whole main_arg2) (Rect.unit (s := S16) ![e] S1.size h) hn hl >>= fun v =>
          Prog.lift (TpuEff.assume (chk k v) (dec k v)) >>= fun hw =>
            Prog.lift (.enqueueDma ZRow (XTo (offC k v) (hC k v hw.down)) (.dma sem) p1 (p2 k v hw.down) (p3 k v hw.down)) >>= fun _ => pure (out k acc)))
    {n : ℕ} {D : Fin n → sProp 𝕄} {Src : ℕ → sProp 𝕄} {b0 : ℕ} {sem' : DmaSem sig} {q : ℕ → PosShare TreeShare} {qt : PosShare TreeShare} {ft : S16.Idx → Elt F .i32}
    {V g : S73728x1024.Idx → Elt F .f32} {zf : S8x1024.Idx → Elt F .f32} {z : Elt F .f32} {zr : ℕ → ℕ}
    (eS : sem = sem') (hb0 : b0 + l.trips ≤ n)
    (eC : ∀ k : Fin l.trips, offC k (ft (ix1 (⟨e, he⟩ : Fin 16))) = ![zr (b0 + k.val), 0])
    (hchk : ∀ k : Fin l.trips, chk k (ft (ix1 (⟨e, he⟩ : Fin 16))))
    (hz : ∀ y, zf y = z) (hg : ∀ k < l.trips, ∀ y : S73728x1024.Idx, y ∈ rowSet (zr (b0 + k)) → z = g y)
    (hSrc : ∀ i, Src i = iprop(xsAt c (rowSet (zr i)) V ∗ zAt c zSet (q i) zf))
    (hDel : ∀ i : Fin n, D i = iprop(xsAt c (rowSet (zr i.val)) g ∗ zAt c zSet (q i.val) zf)) :
    iprop((((c : Thread nD τ).loc main_arg2) ↦{qt} ft) ∗ batch c sem' D b0 0 ∗ bigSep (Finset.Ico b0 n) Src)
      ⊢ iprop((∀ acc, iprop((((c : Thread nD τ).loc main_arg2) ↦{qt} ft) ∗ batch c sem' D (b0 + l.trips) 0 ∗ bigSep (Finset.Ico (b0 + l.trips) n) Src)
            -∗ wp frame (wpE (defs₀ (F := F)) Variants.none c none) Set.univ (kk acc) Q)
          -∗ wp frame (wpE (defs₀ (F := F)) Variants.none c none) Set.univ (Scf.for l.lb l.ub l.st hok init body >>= kk) Q) := by
  subst eS
  iintro HI Hk
  iapply (Scf.wp_for_bind frame (wpE (defs₀ (F := F)) Variants.none c none) Set.univ l.lb l.ub l.st hok init body
    (fun k _ => iprop((((c : Thread nD τ).loc main_arg2) ↦{qt} ft) ∗ batch c sem D (b0 + k) 0 ∗ bigSep (Finset.Ico (b0 + k) n) Src)) ?_) $$ [HI]
  · intro k acc
    rw [hb]
    have hk : k.val < l.trips := k.isLt
    have hj : b0 + k.val < n := by omega
    rw [bigSep_Ico_succ_bot hj, hSrc]
    iintro ⟨HT, HB, ⟨HX, HZ⟩, HS⟩
    iapply (pad_load c he) $$ HT
    iintro HT
    iapply (wp_assume Variants.none (c : Thread nD τ) none Set.univ (hchk k))
    iapply (zero_issue c (eC k) hz (hg k.val hk) hj (hDel ⟨_, hj⟩)) $$ [HB HX HZ] [HT HS]
    · isplitl [HB]; · iexact HB
      isplitl [HX] <;> iassumption
    · iintro HB
      iapply (le_wp_ret _ _ _ _ _)
      isplitl [HT]; · iexact HT
      isplitl [HB]; · iexact HB
      iexact HS
  · rw [Nat.add_zero]; iexact HI
  iexact Hk

end Cert.KernelIdeal.Dispatch

end
-- ==== Proof.Dispatch.Group.lean ====
/-
  The sixteen copies of one group of eight tokens: the part of a chunk's work one trip of the inner loop issues.
-/
module

public import proofs.«01_k».proof.Proof.Dispatch.Loops

@[expose] public section

noncomputable section

namespace Cert.KernelIdeal.Dispatch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.Sem Idealize.SL.ProofMode
open Idealize.ShloMosaic.ValueIdx

variable {F : FTy → Type} [FloatOps F]

local notation "𝕄" => MT nD τ sig Unit (Elt F) ℕ (Pipeline.UD sig nD τ) ℕ

/-- A staging slot with chunk `k` of the tokens' rows. -/
def stg (h : S32768x1024.Idx → Elt F .f32) (k : ℕ) : S3x512x1024.Idx → Elt F .f32 := fun z =>
  h (ix2 (⟨(512 * k + (z 1).val) % 32768, Nat.mod_lt _ (by decide)⟩ : Fin 32768) (z 2 : Fin 1024))

/-- The two copies of a staging row read it at the two halves of the full share. -/
def half (j : ℕ) : PosShare TreeShare := if j % 2 = 0 then PosShare.left fullShare else PosShare.right fullShare

/-- Everything a run of the kernel is about: the tables, the rows' contents, the table's contents at first and at last. -/
structure Data (F : FTy → Type) where
  X : Tab
  f1 : S32768.Idx → Elt F .i32
  f2 : S32768.Idx → Elt F .i32
  f3 : S16.Idx → Elt F .i32
  h : S32768x1024.Idx → Elt F .f32
  V : S73728x1024.Idx → Elt F .f32
  g : S73728x1024.Idx → Elt F .f32
  z : Elt F .f32
  q1 : PosShare TreeShare
  q2 : PosShare TreeShare
  q3 : PosShare TreeShare

/-- The tables are the words the kernel reads; the last contents are the tables' (`Tab.out`). -/
structure Data.OK (d : Data F) : Prop where
  tab : d.X.OK
  p1 : ∀ (t : ℕ) (ht : t < 32768), (d.f1 (ix1 (⟨t, ht⟩ : Fin 32768)) : BitVec 32).toNat = d.X.p1 t
  p2 : ∀ (t : ℕ) (ht : t < 32768), (d.f2 (ix1 (⟨t, ht⟩ : Fin 32768)) : BitVec 32).toNat = d.X.p2 t
  pd : ∀ (e : ℕ) (he : e < 8), (d.f3 (ix1 (⟨e, by omega⟩ : Fin 16)) : BitVec 32).toNat = d.X.pd e
  cn : ∀ (e : ℕ) (he : e < 8), (d.f3 (ix1 (⟨8 + e, by omega⟩ : Fin 16)) : BitVec 32).toNat = d.X.cn e
  out : d.g = d.X.out d.h d.z d.V

variable (c : Dev nD) (d : Data F)

/-- Copy `j` of chunk `k`: its row of the table at `f`, its share of its staging row. -/
def copy (f : S73728x1024.Idx → Elt F .f32) (k j : ℕ) : sProp 𝕄 :=
  iprop(xsAt c (rowSet (d.X.row (1024 * k + j))) f ∗ stAt c (stSet (k % 3) (j / 2)) (half j) (stg d.h k))

/-- What chunk `k`'s copies deliver. -/
def issued (k : ℕ) : Fin 1024 → sProp 𝕄 := fun j => copy c d d.g k j.val

instance issued_storable (k : ℕ) (j : Fin 1024) : Storable (upEmb : UEmb _ 𝕄) (issued c d k j) := by
  unfold issued copy; infer_instance

/-- The cell a chunk's copies signal. -/
def cell (k : ℕ) : DmaSem sig := ⟨3 + k % 3, by show 3 + k % 3 < 7; omega⟩

abbrev tab1 : sProp 𝕄 := ((c : Thread nD τ).loc main_arg0) ↦{d.q1} d.f1
abbrev tab2 : sProp 𝕄 := ((c : Thread nD τ).loc main_arg1) ↦{d.q2} d.f2
abbrev tab3 : sProp 𝕄 := ((c : Thread nD τ).loc main_arg2) ↦{d.q3} d.f3

/-- Chunk `k` with its first `j` copies issued. -/
def Issuing (k j : ℕ) : sProp 𝕄 :=
  iprop(tab1 c d ∗ tab2 c d ∗ batch c (cell k) (issued c d k) j 0 ∗ bigSep (Finset.Ico j 1024) (copy c d d.V k))

theorem copy_even (f : S73728x1024.Idx → Elt F .f32) (k r : ℕ) :
    copy c d f k (2 * r) = iprop(xsAt c (rowSet (d.X.p1 (512 * k + r))) f ∗ stAt c (stSet (k % 3) r) (PosShare.left fullShare) (stg d.h k)) := by
  unfold copy half Tab.row
  rw [if_pos (by omega), if_pos (by omega), show (1024 * k + 2 * r) / 2 = 512 * k + r by omega, show 2 * r / 2 = r by omega]
theorem copy_odd (f : S73728x1024.Idx → Elt F .f32) (k r : ℕ) :
    copy c d f k (2 * r + 1) = iprop(xsAt c (rowSet (d.X.p2 (512 * k + r))) f ∗ stAt c (stSet (k % 3) r) (PosShare.right fullShare) (stg d.h k)) := by
  unfold copy half Tab.row
  rw [if_neg (by omega), if_neg (by omega), show (1024 * k + (2 * r + 1)) / 2 = 512 * k + r by omega, show (2 * r + 1) / 2 = r by omega]

/-- The word a token table's read gives. -/
theorem tok_read1 {off : Fin 1 → ℕ} {h : ∀ a, off a + S1.size a ≤ S32768.size a} (t : ℕ) (ht : t < 32768) (e : off = ![t])
    (ft : S32768.Idx → Elt F .i32) (i : S1.Idx) :
    (((Memref.whole main_arg0).access (Rect.unit (s := S32768) off S1.size h)).read (Elt F) ft i : Elt F .i32) = ft (ix1 (⟨t, ht⟩ : Fin 32768)) := by
  subst e
  show ft _ = ft _
  refine congrArg ft ?_
  funext a; apply Fin.ext
  match a with
  | ⟨0, _⟩ =>
    have hi : (i 0).val < 1 := (i 0).isLt
    show t + 1 * (i 0).val = t
    omega
theorem tok_read2 {off : Fin 1 → ℕ} {h : ∀ a, off a + S1.size a ≤ S32768.size a} (t : ℕ) (ht : t < 32768) (e : off = ![t])
    (ft : S32768.Idx → Elt F .i32) (i : S1.Idx) :
    (((Memref.whole main_arg1).access (Rect.unit (s := S32768) off S1.size h)).read (Elt F) ft i : Elt F .i32) = ft (ix1 (⟨t, ht⟩ : Fin 32768)) := by
  subst e
  show ft _ = ft _
  refine congrArg ft ?_
  funext a; apply Fin.ext
  match a with
  | ⟨0, _⟩ =>
    have hi : (i 0).val < 1 := (i 0).isLt
    show t + 1 * (i 0).val = t
    omega

theorem scat_sem_of {off : Fin 1 → ℕ} {h : ∀ a, off a + S1.size a ≤ S3.size a} {k : ℕ} (e : off = ![k % 3]) :
    ((cc0_scratch3.slice (Rect.unit (s := S3) off S1.size h)).squeeze S_ squeezes_S1_S_).sem = cell k := by
  subst e; exact scat_sem (k % 3) (Nat.mod_lt _ (by decide)) h

theorem row_inside {v : BitVec 32} {ρ : ℕ} (hv : v.toNat = ρ) (hρ : ρ < 73728) : ∀ a, (![v.toNat, 0] : Fin 2 → ℕ) a + S1x1024.size a ≤ S73728x1024.size a := by
  subst hv
  intro a
  match a with
  | ⟨0, _⟩ => show v.toNat + 1 ≤ 73728; omega
  | ⟨1, _⟩ => show 0 + 1024 ≤ 1024; omega

theorem stg_at (h : S32768x1024.Idx → Elt F .f32) (k r : ℕ) (z : S3x512x1024.Idx) (hz : (z 1).val = r) :
    stg h k z = h (ix2 (⟨(512 * k + r) % 32768, Nat.mod_lt _ (by decide)⟩ : Fin 32768) (⟨(z 2).val % 1024, Nat.mod_lt _ (by decide)⟩ : Fin 1024)) := by
  subst hz
  have e : (⟨(z 2).val % 1024, Nat.mod_lt _ (by decide)⟩ : Fin 1024) = z 2 := Fin.ext (Nat.mod_eq_of_lt (z 2).isLt)
  rw [e]; rfl

theorem Data.OK.row_val {d : Data F} (hd : d.OK) {n k r : ℕ} (hn : n < 65536) (hk : n / 2 = 512 * k + r) (y : S73728x1024.Idx) (hy : y ∈ rowSet (d.X.row n)) :
    d.h (ix2 (⟨(512 * k + r) % 32768, Nat.mod_lt _ (by decide)⟩ : Fin 32768) (⟨(y 1).val % 1024, Nat.mod_lt _ (by decide)⟩ : Fin 1024)) = d.g y := by
  rw [hd.out]
  refine (hd.tab.out_row hn (mem_rowSet.mp hy) _ ?_ ?_).symm
  · show (512 * k + r) % 32768 = n / 2
    omega
  · exact Nat.mod_eq_of_lt (y 1).isLt

theorem Tab.row_even (X : Tab) (n : ℕ) : X.row (2 * n) = X.p1 n := by
  unfold Tab.row; rw [if_pos (by omega), show 2 * n / 2 = n by omega]
theorem Tab.row_odd (X : Tab) (n : ℕ) : X.row (2 * n + 1) = X.p2 n := by
  unfold Tab.row; rw [if_neg (by omega), show (2 * n + 1) / 2 = n by omega]

/-- The copy of token `r` of chunk `k` onto its first row. -/
theorem issue_even {d : Data F} (hd : d.OK)
    {offA : Fin 1 → ℕ} {hA : ∀ a, offA a + S1.size a ≤ S32768.size a} {hn : (Rect.unit (s := S32768) offA S1.size hA).shape.numel = 1} {hl : EltTy.i32.packing = 1}
    {chk : BitVec 32 → Prop} {dec : ∀ v, Decidable (chk v)} {offC : BitVec 32 → Fin 2 → ℕ}
    {hC : ∀ v, chk v → ∀ a, offC v a + S1x1024.size a ≤ S73728x1024.size a}
    {offB : Fin 1 → ℕ} {hB : ∀ a, offB a + S1.size a ≤ S3.size a}
    {offD : Fin 3 → ℕ} {hD : ∀ a, offD a + S1x1x1024.size a ≤ S3x512x1024.size a}
    {p1 : (StRow offD hD).view.WordExact} {p2 : ∀ v h, (XTo (offC v) (hC v h)).view.WordExact}
    {p3 : ∀ v h, DmaTarget.Typed .vmem (.dma ((cc0_scratch3.slice (Rect.unit (s := S3) offB S1.size hB)).squeeze S_ squeezes_S1_S_).sem) (XTo (offC v) (hC v h))}
    {α : Type} {k' : PUnit → Prog (TpuEff nD τ sig (Elt F) Λ₀ .tc) α} {Q : α → sProp 𝕄} {k j r : ℕ}
    (eA : offA = ![512 * k + r]) (eB : offB = ![k % 3]) (eD : offD = ![k % 3, r, 0])
    (eC : ∀ v : BitVec 32, offC v = ![v.toNat, 0]) (hchk : ∀ v : BitVec 32, (∀ a, (![v.toNat, 0] : Fin 2 → ℕ) a + S1x1024.size a ≤ S73728x1024.size a) → chk v)
    (hk : k < 64) (hr : r < 512) (hj : j = 2 * r) :
    Issuing c d k j
      ⊢ iprop((Issuing c d k (j + 1) -∗ wp frame (wpE (defs₀ (F := F)) Variants.none c none) Set.univ (k' ⟨⟩) Q)
          -∗ wp frame (wpE (defs₀ (F := F)) Variants.none c none) Set.univ
            (smemLoad (Memref.whole main_arg0) (Rect.unit (s := S32768) offA S1.size hA) hn hl >>= fun v =>
              Prog.lift (TpuEff.assume (chk v) (dec v)) >>= fun h =>
                Prog.lift (.enqueueDma (StRow offD hD) (XTo (offC v) (hC v h.down))
                  (.dma ((cc0_scratch3.slice (Rect.unit (s := S3) offB S1.size hB)).squeeze S_ squeezes_S1_S_).sem) p1 (p2 v h.down) (p3 v h.down)) >>= k') Q) := by
  subst hj
  have hlt : 512 * k + r < 32768 := by omega
  have hrow : d.X.p1 (512 * k + r) < 73728 := by
    rw [← Tab.row_even]; exact hd.tab.row_lt _ (by omega)
  unfold Issuing
  iintro ⟨H1, H2, HB, HS⟩ Hk
  iapply (issue_step c (tab := Memref.whole main_arg0) (qt := d.q1) (ft := d.f1) (Src := copy c d d.V k) (D := issued c d k) (j := 2 * r) (ρ := d.X.p1 (512 * k + r))
    (q := PosShare.left fullShare) (fd := d.V) (g := d.g) (fs := stg d.h k)
    eD (scat_sem_of eB) (fun v hv => by rw [eC v, hv]) (fun v hv => hchk v (row_inside hv hrow))
    ((congrArg BitVec.toNat (tok_read1 (512 * k + r) hlt eA d.f1 _)).trans (hd.p1 _ hlt))
    (fun n => d.h (ix2 (⟨(512 * k + r) % 32768, Nat.mod_lt _ (by decide)⟩ : Fin 32768) (⟨n % 1024, Nat.mod_lt _ (by decide)⟩ : Fin 1024)))
    (fun z _ hz => stg_at d.h k r z hz)
    (fun y hy => hd.row_val (n := 2 * (512 * k + r)) (by omega) (by omega) y (by rw [Tab.row_even]; exact hy))
    (by omega) (copy_even c d d.V k r) (copy_even c d d.g k r)) $$ [H1 HB HS]
  · isplitl [H1]; · iexact H1
    isplitl [HB] <;> iassumption
  iintro ⟨H1, HB, HS⟩
  iapply Hk
  isplitl [H1]; · iexact H1
  isplitl [H2]; · iexact H2
  isplitl [HB] <;> iassumption

/-- The copy of token `r` of chunk `k` onto its second row. -/
theorem issue_odd {d : Data F} (hd : d.OK)
    {offA : Fin 1 → ℕ} {hA : ∀ a, offA a + S1.size a ≤ S32768.size a} {hn : (Rect.unit (s := S32768) offA S1.size hA).shape.numel = 1} {hl : EltTy.i32.packing = 1}
    {chk : BitVec 32 → Prop} {dec : ∀ v, Decidable (chk v)} {offC : BitVec 32 → Fin 2 → ℕ}
    {hC : ∀ v, chk v → ∀ a, offC v a + S1x1024.size a ≤ S73728x1024.size a}
    {offB : Fin 1 → ℕ} {hB : ∀ a, offB a + S1.size a ≤ S3.size a}
    {offD : Fin 3 → ℕ} {hD : ∀ a, offD a + S1x1x1024.size a ≤ S3x512x1024.size a}
    {p1 : (StRow offD hD).view.WordExact} {p2 : ∀ v h, (XTo (offC v) (hC v h)).view.WordExact}
    {p3 : ∀ v h, DmaTarget.Typed .vmem (.dma ((cc0_scratch3.slice (Rect.unit (s := S3) offB S1.size hB)).squeeze S_ squeezes_S1_S_).sem) (XTo (offC v) (hC v h))}
    {α : Type} {k' : PUnit → Prog (TpuEff nD τ sig (Elt F) Λ₀ .tc) α} {Q : α → sProp 𝕄} {k j r : ℕ}
    (eA : offA = ![512 * k + r]) (eB : offB = ![k % 3]) (eD : offD = ![k % 3, r, 0])
    (eC : ∀ v : BitVec 32, offC v = ![v.toNat, 0]) (hchk : ∀ v : BitVec 32, (∀ a, (![v.toNat, 0] : Fin 2 → ℕ) a + S1x1024.size a ≤ S73728x1024.size a) → chk v)
    (hk : k < 64) (hr : r < 512) (hj : j = 2 * r + 1) :
    Issuing c d k j
      ⊢ iprop((Issuing c d k (j + 1) -∗ wp frame (wpE (defs₀ (F := F)) Variants.none c none) Set.univ (k' ⟨⟩) Q)
          -∗ wp frame (wpE (defs₀ (F := F)) Variants.none c none) Set.univ
            (smemLoad (Memref.whole main_arg1) (Rect.unit (s := S32768) offA S1.size hA) hn hl >>= fun v =>
              Prog.lift (TpuEff.assume (chk v) (dec v)) >>= fun h =>
                Prog.lift (.enqueueDma (StRow offD hD) (XTo (offC v) (hC v h.down))
                  (.dma ((cc0_scratch3.slice (Rect.unit (s := S3) offB S1.size hB)).squeeze S_ squeezes_S1_S_).sem) p1 (p2 v h.down) (p3 v h.down)) >>= k') Q) := by
  subst hj
  have hlt : 512 * k + r < 32768 := by omega
  have hrow : d.X.p2 (512 * k + r) < 73728 := by
    rw [← Tab.row_odd]; exact hd.tab.row_lt _ (by omega)
  unfold Issuing
  iintro ⟨H1, H2, HB, HS⟩ Hk
  iapply (issue_step c (tab := Memref.whole main_arg1) (qt := d.q2) (ft := d.f2) (Src := copy c d d.V k) (D := issued c d k) (j := 2 * r + 1) (ρ := d.X.p2 (512 * k + r))
    (q := PosShare.right fullShare) (fd := d.V) (g := d.g) (fs := stg d.h k)
    eD (scat_sem_of eB) (fun v hv => by rw [eC v, hv]) (fun v hv => hchk v (row_inside hv hrow))
    ((congrArg BitVec.toNat (tok_read2 (512 * k + r) hlt eA d.f2 _)).trans (hd.p2 _ hlt))
    (fun n => d.h (ix2 (⟨(512 * k + r) % 32768, Nat.mod_lt _ (by decide)⟩ : Fin 32768) (⟨n % 1024, Nat.mod_lt _ (by decide)⟩ : Fin 1024)))
    (fun z _ hz => stg_at d.h k r z hz)
    (fun y hy => hd.row_val (n := 2 * (512 * k + r) + 1) (by omega) (by omega) y (by rw [Tab.row_odd]; exact hy))
    (by omega) (copy_odd c d d.V k r) (copy_odd c d d.g k r)) $$ [H2 HB HS]
  · isplitl [H2]; · iexact H2
    isplitl [HB] <;> iassumption
  iintro ⟨H2, HB, HS⟩
  iapply Hk
  isplitl [H1]; · iexact H1
  isplitl [H2]; · iexact H2
  isplitl [HB] <;> iassumption

end Cert.KernelIdeal.Dispatch

end
-- ==== Proof.Dispatch.Trip.lean ====
/-
  One trip of the inner loop: the sixteen copies of a group of eight tokens; and the loop, a chunk's 1024 copies.
-/
module

public import proofs.«01_k».proof.Proof.Dispatch.Group

@[expose] public section

noncomputable section

namespace Cert.KernelIdeal.Dispatch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.Sem Idealize.SL.ProofMode
open Idealize.ShloMosaic.ValueIdx

variable {F : FTy → Type} [FloatOps F]

local notation "𝕄" => MT nD τ sig Unit (Elt F) ℕ (Pipeline.UD sig nD τ) ℕ

variable (c : Dev nD) (d : Data F)

/-- A part of a program, then the rest. -/
theorem run_bind {α β : Type} {p : Prog (TpuEff nD τ sig (Elt F) Λ₀ .tc) α} {kk : α → Prog (TpuEff nD τ sig (Elt F) Λ₀ .tc) β} {Q : β → sProp 𝕄} :
    wp frame (wpE (defs₀ (F := F)) Variants.none c none) Set.univ p (fun x => wp frame (wpE (defs₀ (F := F)) Variants.none c none) Set.univ (kk x) Q)
      ⊢ wp frame (wpE (defs₀ (F := F)) Variants.none c none) Set.univ (p >>= kk) Q := by
  rw [wp_bind]

theorem part1_run {d : Data F} (hd : d.OK) (i : grid0.Coords) (a : Fin k0_t33_loop.trips) (b : Fin k0_t35_loop.trips) {K : (Σ' (_ : BitVec 32), BitVec 32) → sProp 𝕄} :
    Issuing c d a.val (16 * b.val + 0)
      ⊢ iprop((Issuing c d a.val (16 * b.val + 4) -∗ K ⟨Scf.iv 0#32 1#32 b.val, 8#32⟩)
          -∗ wp frame (wpE (defs₀ (F := F)) Variants.none c none) Set.univ
            (k0_part1 i (Memref.whole main_arg0) (Memref.isWhole_whole _) (Memref.whole main_arg1) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) cc0_scratch2 cc0_scratch3 cc0_scratch4 a (Scf.iv 0#32 1#32 a.val) 0#32 1#32 b) K) := by
  have ha : a.val < 64 := lt_of_lt_of_eq a.isLt t33_trips
  have hb : b.val < 64 := lt_of_lt_of_eq b.isLt t35_trips
  rw [k0_part1_eq_skeleton]
  unfold k0_part1_skel
  iintro H Hk
  iapply (issue_even c hd (k := a.val) (r := 8 * b.val + 0) (j := 16 * b.val + 0) (off24_eq a b) (off25_eq a) (off27_eq a b) (fun _ => rfl) (fun _ h => h) ha (by omega) (by omega)) $$ [H]
  · iexact H
  iintro H
  iapply (issue_odd c hd (k := a.val) (r := 8 * b.val + 0) (j := 16 * b.val + 1) (off28_eq a b) (off29_eq a) (off31_eq a b) (fun _ => rfl) (fun _ h => h) ha (by omega) (by omega)) $$ [H]
  · iexact H
  iintro H
  iapply (issue_even c hd (k := a.val) (r := 8 * b.val + 1) (j := 16 * b.val + 2) (off32_eq a b) (off33_eq a) (off35_eq a b) (fun _ => rfl) (fun _ h => h) ha (by omega) (by omega)) $$ [H]
  · iexact H
  iintro H
  iapply (issue_odd c hd (k := a.val) (r := 8 * b.val + 1) (j := 16 * b.val + 3) (off36_eq a b) (off37_eq a) (off39_eq a b) (fun _ => rfl) (fun _ h => h) ha (by omega) (by omega)) $$ [H]
  · iexact H
  iintro H
  iapply (le_wp_ret _ _ _ _ _)
  iapply Hk
  iexact H

theorem part2_run {d : Data F} (hd : d.OK) (i : grid0.Coords) (a : Fin k0_t33_loop.trips) (b : Fin k0_t35_loop.trips) {K : (Σ' (_ : BitVec 32), BitVec 32) → sProp 𝕄} :
    Issuing c d a.val (16 * b.val + 4)
      ⊢ iprop((Issuing c d a.val (16 * b.val + 8) -∗ K ⟨Scalar.muli (Scf.iv 0#32 1#32 b.val) 8#32, 4#32⟩)
          -∗ wp frame (wpE (defs₀ (F := F)) Variants.none c none) Set.univ
            (k0_part2 i (Memref.whole main_arg0) (Memref.isWhole_whole _) (Memref.whole main_arg1) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) cc0_scratch2 cc0_scratch3 cc0_scratch4 a (Scf.iv 0#32 1#32 a.val) b (Scf.iv 0#32 1#32 b.val) 8#32) K) := by
  have ha : a.val < 64 := lt_of_lt_of_eq a.isLt t33_trips
  have hb : b.val < 64 := lt_of_lt_of_eq b.isLt t35_trips
  rw [k0_part2_eq_skeleton]
  unfold k0_part2_skel
  iintro H Hk
  iapply (issue_even c hd (k := a.val) (r := 8 * b.val + 2) (j := 16 * b.val + 4) (off40_eq a b) (off41_eq a) (off43_eq a b) (fun _ => rfl) (fun _ h => h) ha (by omega) (by omega)) $$ [H]
  · iexact H
  iintro H
  iapply (issue_odd c hd (k := a.val) (r := 8 * b.val + 2) (j := 16 * b.val + 5) (off44_eq a b) (off45_eq a) (off47_eq a b) (fun _ => rfl) (fun _ h => h) ha (by omega) (by omega)) $$ [H]
  · iexact H
  iintro H
  iapply (issue_even c hd (k := a.val) (r := 8 * b.val + 3) (j := 16 * b.val + 6) (off48_eq a b) (off49_eq a) (off51_eq a b) (fun _ => rfl) (fun _ h => h) ha (by omega) (by omega)) $$ [H]
  · iexact H
  iintro H
  iapply (issue_odd c hd (k := a.val) (r := 8 * b.val + 3) (j := 16 * b.val + 7) (off52_eq a b) (off53_eq a) (off55_eq a b) (fun _ => rfl) (fun _ h => h) ha (by omega) (by omega)) $$ [H]
  · iexact H
  iintro H
  iapply (le_wp_ret _ _ _ _ _)
  iapply Hk
  iexact H

theorem part3_run {d : Data F} (hd : d.OK) (i : grid0.Coords) (a : Fin k0_t33_loop.trips) (b : Fin k0_t35_loop.trips) {K : (Σ' (_ : BitVec 32), BitVec 32) → sProp 𝕄} :
    Issuing c d a.val (16 * b.val + 8)
      ⊢ iprop((Issuing c d a.val (16 * b.val + 12) -∗ K ⟨Scalar.addi (Scalar.muli (Scf.iv 0#32 1#32 b.val) 8#32) 6#32, 512#32⟩)
          -∗ wp frame (wpE (defs₀ (F := F)) Variants.none c none) Set.univ
            (k0_part3 i (Memref.whole main_arg0) (Memref.isWhole_whole _) (Memref.whole main_arg1) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) cc0_scratch2 cc0_scratch3 cc0_scratch4 a (Scf.iv 0#32 1#32 a.val) b (Scf.iv 0#32 1#32 b.val) (Scalar.muli (Scf.iv 0#32 1#32 b.val) 8#32) 4#32) K) := by
  have ha : a.val < 64 := lt_of_lt_of_eq a.isLt t33_trips
  have hb : b.val < 64 := lt_of_lt_of_eq b.isLt t35_trips
  rw [k0_part3_eq_skeleton]
  unfold k0_part3_skel
  iintro H Hk
  iapply (issue_even c hd (k := a.val) (r := 8 * b.val + 4) (j := 16 * b.val + 8) (off56_eq a b) (off57_eq a) (off59_eq a b) (fun _ => rfl) (fun _ h => h) ha (by omega) (by omega)) $$ [H]
  · iexact H
  iintro H
  iapply (issue_odd c hd (k := a.val) (r := 8 * b.val + 4) (j := 16 * b.val + 9) (off60_eq a b) (off61_eq a) (off63_eq a b) (fun _ => rfl) (fun _ h => h) ha (by omega) (by omega)) $$ [H]
  · iexact H
  iintro H
  iapply (issue_even c hd (k := a.val) (r := 8 * b.val + 5) (j := 16 * b.val + 10) (off64_eq a b) (off65_eq a) (off67_eq a b) (fun _ => rfl) (fun _ h => h) ha (by omega) (by omega)) $$ [H]
  · iexact H
  iintro H
  iapply (issue_odd c hd (k := a.val) (r := 8 * b.val + 5) (j := 16 * b.val + 11) (off68_eq a b) (off69_eq a) (off71_eq a b) (fun _ => rfl) (fun _ h => h) ha (by omega) (by omega)) $$ [H]
  · iexact H
  iintro H
  iapply (le_wp_ret _ _ _ _ _)
  iapply Hk
  iexact H

/-- One trip: sixteen copies. -/
theorem trip_run {d : Data F} (hd : d.OK) (i : grid0.Coords) (a : Fin k0_t33_loop.trips) (b : Fin k0_t35_loop.trips) (acc : Unit) :
    Issuing c d a.val (16 * b.val)
      ⊢ wp frame (wpE (defs₀ (F := F)) Variants.none c none) Set.univ
          (k0_t35_body i (Memref.whole main_arg0) (Memref.isWhole_whole _) (Memref.whole main_arg1) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) cc0_scratch2 cc0_scratch3 cc0_scratch4 a (Scf.iv 0#32 1#32 a.val) b acc) (fun _ => Issuing c d a.val (16 * (b.val + 1))) := by
  have ha : a.val < 64 := lt_of_lt_of_eq a.isLt t33_trips
  have hb : b.val < 64 := lt_of_lt_of_eq b.isLt t35_trips
  unfold k0_t35_body
  iintro H
  iapply (run_bind c)
  iapply (part1_run c hd i a b) $$ [H]
  · iexact H
  iintro H
  iapply (run_bind c)
  iapply (part2_run c hd i a b) $$ [H]
  · iexact H
  iintro H
  iapply (run_bind c)
  iapply (part3_run c hd i a b) $$ [H]
  · iexact H
  iintro H
  iapply (issue_even c hd (k := a.val) (r := 8 * b.val + 6) (j := 16 * b.val + 12) (off72_eq a b) (off73_eq a) (off75_eq a b) (fun _ => rfl) (fun _ h => h) ha (by omega) (by omega)) $$ [H]
  · iexact H
  iintro H
  iapply (issue_odd c hd (k := a.val) (r := 8 * b.val + 6) (j := 16 * b.val + 13) (off76_eq a b) (off77_eq a) (off79_eq a b) (fun _ => rfl) (fun _ h => h) ha (by omega) (by omega)) $$ [H]
  · iexact H
  iintro H
  iapply (issue_even c hd (k := a.val) (r := 8 * b.val + 7) (j := 16 * b.val + 14) (off80_eq a b) (off81_eq a) (off83_eq a b) (fun _ => rfl) (fun _ h => h) ha (by omega) (by omega)) $$ [H]
  · iexact H
  iintro H
  iapply (issue_odd c hd (k := a.val) (r := 8 * b.val + 7) (j := 16 * b.val + 15) (off84_eq a b) (off85_eq a) (off87_eq a b) (fun _ => rfl) (fun _ h => h) ha (by omega) (by omega)) $$ [H]
  · iexact H
  iintro H
  iapply (le_wp_ret _ _ _ _ _)
  have e : 16 * b.val + 15 + 1 = 16 * (b.val + 1) := by omega
  rw [← e]
  iexact H

/-- The inner loop: a chunk's copies, all of them. -/
theorem chunk_issue {d : Data F} (hd : d.OK) (i : grid0.Coords) (a : Fin k0_t33_loop.trips) (hok : k0_t35_loop.OK) {α : Type} {kk : Unit → Prog (TpuEff nD τ sig (Elt F) Λ₀ .tc) α} {Q : α → sProp 𝕄} :
    Issuing c d a.val 0
      ⊢ iprop((Issuing c d a.val 1024 -∗ wp frame (wpE (defs₀ (F := F)) Variants.none c none) Set.univ (kk ⟨⟩) Q)
          -∗ wp frame (wpE (defs₀ (F := F)) Variants.none c none) Set.univ
            (Scf.Loop.for k0_t35_loop hok ⟨⟩ (k0_t35_body i (Memref.whole main_arg0) (Memref.isWhole_whole _) (Memref.whole main_arg1) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) cc0_scratch2 cc0_scratch3 cc0_scratch4 a (Scf.iv 0#32 1#32 a.val)) >>= kk) Q) := by
  iintro H Hk
  iapply (Scf.wp_for_bind frame (wpE (defs₀ (F := F)) Variants.none c none) Set.univ k0_t35_loop.lb k0_t35_loop.ub k0_t35_loop.st hok ⟨⟩ _
    (fun k _ => Issuing c d a.val (16 * k)) (fun k acc => trip_run c hd i a k acc)) $$ [H]
  · iexact H
  iintro %acc H
  have e : 16 * Scf.trips k0_t35_loop.lb k0_t35_loop.ub k0_t35_loop.st = 1024 := congrArg (16 * ·) t35_trips
  rw [e]
  iapply Hk
  iexact H

end Cert.KernelIdeal.Dispatch

end
-- ==== Proof.Dispatch.Split.lean ====
/-
  What the copies of a chunk read and write, split and joined: a staging slot by rows and halves, the table by copies, the
  tokens' array by chunks, the zeros by tokens.
-/
module

public import proofs.«01_k».proof.Proof.Dispatch.Group

public import Idealize.ShloMosaic.Lib.Ring

@[expose] public section

noncomputable section

namespace Cert.KernelIdeal.Dispatch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.Sem Idealize.SL.ProofMode
open Idealize.ShloMosaic.ValueIdx

variable {F : FTy → Type} [FloatOps F]

local notation "𝕄" => MT nD τ sig Unit (Elt F) ℕ (Pipeline.UD sig nD τ) ℕ

variable (c : Dev nD) (d : Data F)

/-- Consecutive numbers from `a` on, counted from 0. -/
theorem sep_shift (a n : ℕ) (Φ : ℕ → sProp 𝕄) : bigSep (Finset.Ico a (a + n)) Φ = bigSep (Finset.range n) (fun j => Φ (a + j)) := by
  induction n with
  | zero => rw [Nat.add_zero, Finset.Ico_self, Finset.range_zero, bigSep_empty, bigSep_empty]
  | succ n ih => rw [← Nat.add_assoc, bigSep_Ico_succ_top (Nat.le_add_right _ _), bigSep_range_succ, ih]

theorem sep_sep {I : Type} (S : Finset I) (Φ Ψ : I → sProp 𝕄) :
    bigSep S (fun i => iprop(Φ i ∗ Ψ i)) = iprop(bigSep S Φ ∗ bigSep S Ψ) := bigSep_sep S Φ Ψ

theorem sep_split {a b e : ℕ} (h : a ≤ b) (h' : b ≤ e) (Φ : ℕ → sProp 𝕄) :
    bigSep (Finset.Ico a e) Φ = iprop(bigSep (Finset.Ico a b) Φ ∗ bigSep (Finset.Ico b e) Φ) := by
  rw [← Finset.Ico_union_Ico_eq_Ico h h', bigSep_union (Finset.Ico_disjoint_Ico_consecutive a b e)]; rfl

theorem sep_range_split {b e : ℕ} (h : b ≤ e) (Φ : ℕ → sProp 𝕄) :
    bigSep (Finset.range e) Φ = iprop(bigSep (Finset.range b) Φ ∗ bigSep (Finset.Ico b e) Φ) := by
  rw [Finset.range_eq_Ico, Finset.range_eq_Ico, sep_split (Nat.zero_le b) h]

theorem stSet_disjoint {s r r' : ℕ} (h : r ≠ r') : Disjoint (stSet s r) (stSet s r') := by
  rw [Finset.disjoint_left]; intro y hy hy'; rw [mem_stSet] at hy hy'; exact h (hy.2.symm.trans hy'.2)

theorem slot_rows (s : ℕ) : (Finset.range 512).biUnion (fun r => stSet s r) = slotSet s := by
  ext y
  rw [Finset.mem_biUnion, mem_slotSet]
  constructor
  · rintro ⟨r, -, hr⟩; exact (mem_stSet.mp hr).1
  · intro h; exact ⟨(y 1).val, Finset.mem_range.mpr (y 1).isLt, mem_stSet.mpr ⟨h, rfl⟩⟩

/-- A staging slot is its rows, each at the two halves of the full share. -/
theorem slot_split (k : ℕ) (f : S3x512x1024.Idx → Elt F .f32) :
    (stAt c (slotSet (k % 3)) fullShare f : sProp 𝕄)
      = bigSep (Finset.range 1024) (fun j => stAt c (stSet (k % 3) (j / 2)) (half j) f) := by
  have h1 : (stAt c (slotSet (k % 3)) fullShare f : sProp 𝕄) = bigSep (Finset.range 512) (fun r => stAt c (stSet (k % 3) r) fullShare f) := by
    rw [← slot_rows]
    exact pointsTo_biUnion _ _ fun i _ j _ hij => stSet_disjoint hij
  have h2 : ∀ r, (stAt c (stSet (k % 3) r) fullShare f : sProp 𝕄)
      = iprop(stAt c (stSet (k % 3) r) (PosShare.left fullShare) f ∗ stAt c (stSet (k % 3) r) (PosShare.right fullShare) f) := fun r =>
    have e : (stAt c (stSet (k % 3) r) fullShare f : sProp 𝕄)
      ⊣⊢ iprop(stAt c (stSet (k % 3) r) (PosShare.left fullShare) f ∗ stAt c (stSet (k % 3) r) (PosShare.right fullShare) f) :=
        pointsTo_share (PosShare.mem_left_op_right fullShare)
    entails_eq e.1 e.2
  have h3 : bigSep (Finset.range 1024) (fun j => (stAt c (stSet (k % 3) (j / 2)) (half j) f : sProp 𝕄))
      = iprop(bigSep (Finset.range 512) (fun r => (stAt c (stSet (k % 3) r) (PosShare.left fullShare) f : sProp 𝕄))
        ∗ bigSep (Finset.range 512) (fun r => (stAt c (stSet (k % 3) r) (PosShare.right fullShare) f : sProp 𝕄))) := by
    refine (Ring.bigSep_range_deinterleave 512 _).trans ?_
    refine congrArg₂ (fun A B : sProp 𝕄 => iprop(A ∗ B)) (bigSep_congr fun r _ => ?_) (bigSep_congr fun r _ => ?_)
    · unfold half; rw [if_pos (by omega), show 2 * r / 2 = r by omega]
    · unfold half; rw [if_neg (by omega), show (2 * r + 1) / 2 = r by omega]
  rw [h1, h3, ← sep_sep]
  exact bigSep_congr fun r _ => h2 r

/-- A chunk's copies: its rows of the table and its staging slot. -/
theorem copies_eq (f : S73728x1024.Idx → Elt F .f32) (k : ℕ) :
    bigSep (Finset.range 1024) (copy c d f k)
      = iprop(bigSep (Finset.Ico (1024 * k) (1024 * (k + 1))) (fun n => (xsAt c (rowSet (d.X.row n)) f : sProp 𝕄))
        ∗ stAt c (slotSet (k % 3)) fullShare (stg d.h k)) := by
  unfold copy
  rw [sep_sep, slot_split, show 1024 * (k + 1) = 1024 * k + 1024 by omega, sep_shift]

theorem issued_eq (k : ℕ) : bigSep Finset.univ (issued c d k) = bigSep (Finset.range 1024) (copy c d d.g k) :=
  Ring.bigSep_fin_eq_range 1024 _ _ fun _ _ => rfl

/-- The tokens' array: one chunk and the rest. -/
theorem chunk_split (k : ℕ) (f : S32768x1024.Idx → Elt F .f32) :
    (hAt c Finset.univ f : sProp 𝕄) = iprop(hAt c (chunkSet k) f ∗ hAt c (Finset.univ \ chunkSet k) f) := by
  have e : (hAt c Finset.univ f : sProp 𝕄) ⊣⊢ iprop(hAt c (chunkSet k) f ∗ hAt c (Finset.univ \ chunkSet k) f) :=
    pointsTo_split_subset (ℓ := (c : Thread nD τ).loc main_arg3) (Finset.subset_univ _)
  exact entails_eq e.1 e.2

theorem chunk_last : (Finset.univ \ chunkSet 64) = (Finset.univ : Finset S32768x1024.Idx) := by
  ext y
  have hy : (y 0).val < 32768 := (y 0).isLt
  rw [Finset.mem_sdiff, mem_chunkSet]
  constructor
  · intro _; exact Finset.mem_univ _
  · intro _; exact ⟨Finset.mem_univ _, by omega⟩

/-- The staging buffer is its three slots. -/
theorem slots_split (f : S3x512x1024.Idx → Elt F .f32) :
    (stAt c Finset.univ fullShare f : sProp 𝕄)
      = iprop(stAt c (slotSet 0) fullShare f ∗ stAt c (slotSet 1) fullShare f ∗ stAt c (slotSet 2) fullShare f) := by
  have e : (Finset.range 3).biUnion (fun s => slotSet s) = Finset.univ := by
    ext y
    rw [Finset.mem_biUnion]
    exact ⟨fun _ => Finset.mem_univ _, fun _ => ⟨(y 0).val, Finset.mem_range.mpr (y 0).isLt, mem_slotSet.mpr rfl⟩⟩
  have h : (stAt c Finset.univ fullShare f : sProp 𝕄) = bigSep (Finset.range 3) (fun s => stAt c (slotSet s) fullShare f) := by
    rw [← e]
    refine pointsTo_biUnion _ _ fun i _ j _ hij => ?_
    rw [Finset.disjoint_left]; intro y hy hy'; rw [mem_slotSet] at hy hy'; exact hij (hy.symm.trans hy')
  rw [h, bigSep_range_succ, bigSep_range_succ, bigSep_range_succ, Finset.range_zero, bigSep_empty]
  refine entails_eq ?_ ?_
  · iintro ⟨H2, H1, H0, -⟩
    isplitl [H0]; · iexact H0
    isplitl [H1] <;> iassumption
  · iintro ⟨H0, H1, H2⟩
    isplitl [H2]; · iexact H2
    isplitl [H1]; · iexact H1
    isplitl [H0]; · iexact H0
    iempintro

/-- Slots at any contents make the buffer at some contents. -/
theorem slots_join :
    iprop((∃ f, stAt c (slotSet 0) fullShare f) ∗ (∃ f, stAt c (slotSet 1) fullShare f) ∗ (∃ f, stAt c (slotSet 2) fullShare f))
      ⊢ (iprop(∃ f, stAt c Finset.univ fullShare f) : sProp 𝕄) := by
  iintro ⟨⟨%f0, H0⟩, ⟨%f1, H1⟩, ⟨%f2, H2⟩⟩
  have e0 : (stAt c (slotSet 0) fullShare f0 : sProp 𝕄)
      = stAt c (slotSet 0) fullShare (fun y => if (y 0).val = 0 then f0 y else if (y 0).val = 1 then f1 y else f2 y) :=
    pointsTo_congr fun y hy => by rw [if_pos (mem_slotSet.mp hy)]
  have e1 : (stAt c (slotSet 1) fullShare f1 : sProp 𝕄)
      = stAt c (slotSet 1) fullShare (fun y => if (y 0).val = 0 then f0 y else if (y 0).val = 1 then f1 y else f2 y) :=
    pointsTo_congr fun y hy => by
      have h := mem_slotSet.mp hy
      rw [if_neg (by omega), if_pos h]
  have e2 : (stAt c (slotSet 2) fullShare f2 : sProp 𝕄)
      = stAt c (slotSet 2) fullShare (fun y => if (y 0).val = 0 then f0 y else if (y 0).val = 1 then f1 y else f2 y) :=
    pointsTo_congr fun y hy => by
      have h := mem_slotSet.mp hy
      rw [if_neg (by omega), if_neg (by omega)]
  have e : (stAt c Finset.univ fullShare (fun y => if (y 0).val = 0 then f0 y else if (y 0).val = 1 then f1 y else f2 y) : sProp 𝕄)
      = iprop(stAt c (slotSet 0) fullShare f0 ∗ stAt c (slotSet 1) fullShare f1 ∗ stAt c (slotSet 2) fullShare f2) := by
    rw [slots_split, ← e0, ← e1, ← e2]
  iexists (fun y => if (y 0).val = 0 then f0 y else if (y 0).val = 1 then f1 y else f2 y)
  rw [e]
  isplitl [H0]; · iexact H0
  isplitl [H1] <;> iassumption

end Cert.KernelIdeal.Dispatch

end
-- ==== Proof.Dispatch.Chunk.lean ====
/-
  One chunk of the dispatch kernel's main loop: its load awaited, the copies of the chunk before the last awaited, the
  next chunk's load started, its own copies issued.
-/
module

public import proofs.«01_k».proof.Proof.Dispatch.Trip
public import proofs.«01_k».proof.Proof.Dispatch.Split

@[expose] public section

noncomputable section

namespace Cert.KernelIdeal.Dispatch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.Sem Idealize.SL.ProofMode
open Idealize.ShloMosaic.ValueIdx

variable {F : FTy → Type} [FloatOps F]

local notation "𝕄" => MT nD τ sig Unit (Elt F) ℕ (Pipeline.UD sig nD τ) ℕ

variable (c : Dev nD) (d : Data F)

local notation "WP" => wp frame (wpE (defs₀ (F := F)) Variants.none c none) Set.univ

/-- The cell a chunk's load signals. -/
def lcell (k : ℕ) : DmaSem sig := ⟨k % 3, by show k % 3 < 7; omega⟩

theorem load_sem_of {off : Fin 1 → ℕ} {h : ∀ a, off a + S1.size a ≤ S3.size a} {k : ℕ} (e : off = ![k % 3]) :
    ((cc0_scratch2.slice (Rect.unit (s := S3) off S1.size h)).squeeze S_ squeezes_S1_S_).sem = lcell k := by
  subst e; exact load_sem (k % 3) (Nat.mod_lt _ (by decide)) h

theorem lcell_mod {k k' : ℕ} (h : k % 3 = k' % 3) : lcell k = lcell k' := Fin.ext h
theorem cell_mod {k k' : ℕ} (h : k % 3 = k' % 3) : cell k = cell k' := Fin.ext (congrArg (3 + ·) h)

/-- The credit of one chunk's load. -/
def loadCredit : ℕ := (Slot ![0, 0, 0] inb_S3x512x1024_S1x512x1024_0_0_0).view.dmaCredit

theorem loadCredit_pos : 0 < loadCredit := by unfold loadCredit; decide

/-- Chunk `k` on its way into its slot. -/
def loading (k : ℕ) : sProp 𝕄 :=
  Transfers.Flight (countersEmb (U := Pipeline.UD sig nD τ)) (c : Thread nD τ) (.dma (lcell k)) () loadCredit
    iprop(stAt c (slotSet (k % 3)) fullShare (stg d.h k) ∗ hAt c (chunkSet k) d.h)

abbrev zeroAt (sm : DmaSem sig) : sProp 𝕄 := semVal ((c : Thread nD τ), SemLoc.dma sm) 0
/-- A staging slot at any contents. -/
abbrev slotAny (s : ℕ) : sProp 𝕄 := iprop(∃ f, stAt c (slotSet s) fullShare f)

abbrev SlotTo (off : Fin 3 → ℕ) (h : ∀ a, off a + S1x512x1024.size a ≤ S3x512x1024.size a) : DmaTarget nD τ sig .tc .vmem S512x1024 .f32 :=
  .here (Slot off h)

theorem load_issue {k : ℕ} {offS : Fin 3 → ℕ} {hS : ∀ a, offS a + S1x512x1024.size a ≤ S3x512x1024.size a}
    {offC : Fin 2 → ℕ} {hC : ∀ a, offC a + S512x1024.size a ≤ S32768x1024.size a} {sem : DmaSem sig}
    {p1 : (Chunk offC hC).view.WordExact} {p2 : (SlotTo offS hS).view.WordExact} {p3 : DmaTarget.Typed .hbm (.dma sem) (SlotTo offS hS)}
    {α : Type} {kk : PUnit → Prog (TpuEff nD τ sig (Elt F) Λ₀ .tc) α} {Q : α → sProp 𝕄}
    (eS : offS = ![k % 3, 0, 0]) (eC : offC = ![512 * k, 0]) (eM : sem = lcell k) (hk : k < 64) :
    iprop(hAt c (chunkSet k) d.h ∗ slotAny c (k % 3) ∗ zeroAt c (lcell k))
      ⊢ iprop((loading c d k -∗ WP (kk ⟨⟩) Q)
          -∗ WP (.op (.enqueueDma (Chunk offC hC) (SlotTo offS hS) (.dma sem) p1 p2 p3) kk) Q) := by
  subst eS eC eM
  iintro ⟨HH, ⟨%f, HS⟩, HM⟩ Hk
  iapply (Transfers.wp_dmaLocal (countersEmb (U := Pipeline.UD sig nD τ)) Variants.none (c : Thread nD τ) none
    (src := Chunk ![512 * k, 0] hC) (dst := Slot ![k % 3, 0, 0] hS) (q := fullShare) (fs := d.h) (Sd := slotSet (k % 3)) (fd := f) () loadCredit rfl loadCredit_pos
    (by rw [Slot_set])) $$ [HH HS HM]
  · rw [Chunk_set]
    isplitl [HH]; · iexact HH
    isplitl [HS]; · iexact HS
    iexact HM
  iintro HF
  iapply Hk
  have e : (stAt c (slotSet (k % 3)) fullShare ((Slot ![k % 3, 0, 0] hS).view.write (Elt F) f (ReadAs.same.apply ((Chunk ![512 * k, 0] hC).view.read (Elt F) d.h)) Finset.univ) : sProp 𝕄)
      = stAt c (slotSet (k % 3)) fullShare (stg d.h k) :=
    pointsTo_congr fun y hy => load_write (k % 3) k hS hC f d.h (stg d.h k) (fun z w h0 h1 => by
      unfold stg
      refine congrArg d.h ?_
      funext a; apply Fin.ext
      have hz : (z 1).val < 512 := (z 1).isLt
      match a with
      | ⟨0, _⟩ => show (w 0).val = (512 * k + (z 1).val) % 32768; omega
      | ⟨1, _⟩ => exact h1) y hy
  unfold loading
  rw [Chunk_set]
  rw [← e]
  iexact HF

theorem load_wait {k : ℕ} {offS : Fin 3 → ℕ} {hS : ∀ a, offS a + S1x512x1024.size a ≤ S3x512x1024.size a}
    {srcw : Memref sig .tc .hbm S512x1024 .f32} {sem : DmaSem sig}
    {p1 : srcw.view.WordExact} {p2 : (Slot offS hS).view.WordExact}
    {α : Type} {kk : PUnit → Prog (TpuEff nD τ sig (Elt F) Λ₀ .tc) α} {Q : α → sProp 𝕄} (eM : sem = lcell k) :
    iprop(loading c d k ∗ owing c)
      ⊢ iprop((iprop(stAt c (slotSet (k % 3)) fullShare (stg d.h k) ∗ hAt c (chunkSet k) d.h ∗ zeroAt c (lcell k) ∗ owing c) -∗ WP (kk ⟨⟩) Q)
          -∗ WP (.op (.waitDma2 sem srcw (Slot offS hS) p1 p2) kk) Q) := by
  subst eM
  unfold loading
  iintro ⟨HF, %W, HW⟩ Hk
  iapply (Transfers.wp_waitLocal (countersEmb (U := Pipeline.UD sig nD τ)) Variants.none (c : Thread nD τ) none (dstw := Slot offS hS) () (N := loadCredit) rfl (W := W)) $$ [HF HW]
  · isplitl [HF] <;> iassumption
  iintro ⟨⟨HS, HH⟩, HM, HW⟩
  iapply Hk
  isplitl [HS]; · iexact HS
  isplitl [HH]; · iexact HH
  isplitl [HM]; · iexact HM
  iexists _; iexact HW

/-! ## What holds between chunks -/

/-- The copies of chunk `k`, all issued, none awaited. -/
def pend (k : ℕ) : sProp 𝕄 := batch c (cell k) (issued c d k) 1024 0
/-- A slot with nothing on its way in or out. -/
def free (k : ℕ) : sProp 𝕄 := iprop(zeroAt c (cell k) ∗ slotAny c (k % 3))

def role1 (k : ℕ) : sProp 𝕄 := if 1 ≤ k then pend c d (k - 1) else free c (k + 2)
def role2 (k : ℕ) : sProp 𝕄 := if 2 ≤ k then pend c d (k - 2) else free c (k + 1)
def front (k : ℕ) : sProp 𝕄 := if k < 64 then loading c d k else iprop(zeroAt c (lcell k) ∗ slotAny c (k % 3))

/-- Rows of the table by copy, at `f`. -/
abbrev rows (f : S73728x1024.Idx → Elt F .f32) (a b : ℕ) : sProp 𝕄 := bigSep (Finset.Ico a b) (fun n => xsAt c (rowSet (d.X.row n)) f)

/-- Before chunk `k`. -/
def Inv (k : ℕ) : sProp 𝕄 :=
  iprop(owing c ∗ tab1 c d ∗ tab2 c d ∗ rows c d d.V (1024 * k) 65536 ∗ rows c d d.g 0 (1024 * (k - 2))
    ∗ hAt c (Finset.univ \ chunkSet k) d.h ∗ front c d k ∗ zeroAt c (lcell (k + 1)) ∗ zeroAt c (lcell (k + 2))
    ∗ zeroAt c (cell k) ∗ role1 c d k ∗ role2 c d k)

theorem pend_done (k : ℕ) : batch c (cell k) (issued c d k) 1024 (rowCredit * 1024)
    ⊢ (|={Set.univ}=> iprop(rows c d d.g (1024 * k) (1024 * (k + 1)) ∗ free c k) : sProp 𝕄) := by
  have e : bigSep Finset.univ (issued c d k) = iprop(rows c d d.g (1024 * k) (1024 * (k + 1)) ∗ stAt c (slotSet (k % 3)) fullShare (stg d.h k)) := by
    rw [issued_eq, copies_eq]
  have hB := Transfers.batch_collect' (countersEmb (U := Pipeline.UD sig nD τ)) (c : Thread nD τ) (sm := .dma (cell k)) (ι := ()) rowCredit_pos (D := issued c d k)
  rw [e] at hB
  iintro HB
  imod hB $$ HB with ⟨⟨HR, HS⟩, HM⟩
  imodintro
  unfold free
  isplitl [HR]; · iexact HR
  isplitl [HM]; · iexact HM
  iexists _; iexact HS

/-- The wait for all copies of chunk `k`. -/
theorem pend_wait {l : Scf.Loop 32} {hok : l.OK} {σ α : Type} {init : σ} {body : Fin l.trips → σ → Prog (TpuEff nD τ sig (Elt F) Λ₀ .tc) σ}
    {kk : σ → Prog (TpuEff nD τ sig (Elt F) Λ₀ .tc) α} {Q : α → sProp 𝕄} {sem : DmaSem sig} {srcw : Memref sig .tc .vmem S1x1024 .f32}
    {p1 : srcw.view.WordExact} {p2 : (XRow ![0, 0] inb_S73728x1024_S1x1024_0_0).view.WordExact}
    (out : Fin l.trips → σ → σ)
    (hb : ∀ k acc, body k acc
      = Prog.lift (.waitDma2 sem srcw (XRow ![0, 0] inb_S73728x1024_S1x1024_0_0) p1 p2) >>= fun _ => pure (out k acc))
    (k : ℕ) (eS : sem = cell k) (ht : l.trips = 1024) :
    iprop(pend c d k ∗ owing c)
      ⊢ iprop((∀ acc, iprop(rows c d d.g (1024 * k) (1024 * (k + 1)) ∗ free c k ∗ owing c) -∗ WP (kk acc) Q)
          -∗ WP (Scf.for l.lb l.ub l.st hok init body >>= kk) Q) := by
  unfold pend
  iintro HI Hk
  iapply (wait_loop c out hb eS (D := issued c d k) (j := 1024) (u := 0) (by rw [ht]; omega)) $$ [HI]
  · iexact HI
  iintro %acc ⟨HB, HO⟩
  rw [ht, Nat.zero_add]
  imod (pend_done c d k) $$ HB with ⟨HR, HF⟩
  iapply Hk
  isplitl [HR]; · iexact HR
  isplitl [HF] <;> iassumption

theorem role1_pos {k : ℕ} (h : 1 ≤ k) : role1 c d k = pend c d (k - 1) := if_pos h
theorem role1_neg {k : ℕ} (h : ¬ 1 ≤ k) : role1 c d k = free c (k + 2) := if_neg h
theorem role2_pos {k : ℕ} (h : 2 ≤ k) : role2 c d k = pend c d (k - 2) := if_pos h
theorem role2_neg {k : ℕ} (h : ¬ 2 ≤ k) : role2 c d k = free c (k + 1) := if_neg h
theorem front_pos {k : ℕ} (h : k < 64) : front c d k = loading c d k := if_pos h
theorem front_neg {k : ℕ} (h : ¬ k < 64) : front c d k = iprop(zeroAt c (lcell k) ∗ slotAny c (k % 3)) := if_neg h

/-- What follows a chunk moves on with the next. -/
theorem role_shift (k : ℕ) : role1 c d k ⊢ role2 c d (k + 1) := by
  by_cases h1 : 1 ≤ k
  · rw [role2_pos c d (k := k + 1) (by omega), role1_pos c d h1, show k + 1 - 2 = k - 1 by omega]
  · rw [role2_neg c d (k := k + 1) (by omega), role1_neg c d h1]

theorem free_mod {k k' : ℕ} (h : k % 3 = k' % 3) : (free c k : sProp 𝕄) = free c k' := by
  unfold free; rw [cell_mod h, h]

/-- The chunk before the last is finished with: its rows are written and its slot is free. -/
theorem before_last {k : ℕ} (h : 2 ≤ k) :
    iprop(rows c d d.g 0 (1024 * (k - 2)) ∗ rows c d d.g (1024 * (k - 2)) (1024 * (k - 2 + 1)))
      = (rows c d d.g 0 (1024 * (k + 1 - 2)) : sProp 𝕄) := by
  rw [show k + 1 - 2 = k - 2 + 1 by omega]
  exact (sep_split (Nat.zero_le _) (by omega) _).symm

/-- The rows of chunk `k` taken off the rows still to write, with the chunk as it lies in its slot, are its copies. -/
theorem take_chunk {k : ℕ} (h : k < 64) :
    iprop(rows c d d.V (1024 * k) 65536 ∗ stAt c (slotSet (k % 3)) fullShare (stg d.h k))
      = iprop(bigSep (Finset.Ico 0 1024) (copy c d d.V k) ∗ rows c d d.V (1024 * (k + 1)) 65536 : sProp 𝕄) := by
  have e : (rows c d d.V (1024 * k) 65536 : sProp 𝕄) = iprop(rows c d d.V (1024 * k) (1024 * (k + 1)) ∗ rows c d d.V (1024 * (k + 1)) 65536) :=
    sep_split (by omega) (by omega) _
  rw [e, ← Finset.range_eq_Ico, copies_eq]
  refine entails_eq ?_ ?_
  · iintro ⟨⟨A, B⟩, C⟩
    isplitr [B]; · isplitl [A] <;> iassumption
    iexact B
  · iintro ⟨⟨A, C⟩, B⟩
    isplitr [C]; · isplitl [A] <;> iassumption
    iexact C

/-- Starting the next chunk's load, and the copies of this one. -/
def Mid (k : ℕ) : sProp 𝕄 :=
  iprop(owing c ∗ tab1 c d ∗ tab2 c d ∗ rows c d d.V (1024 * k) 65536 ∗ rows c d d.g 0 (1024 * (k + 1 - 2))
    ∗ hAt c Finset.univ d.h ∗ stAt c (slotSet (k % 3)) fullShare (stg d.h k) ∗ zeroAt c (lcell k) ∗ zeroAt c (lcell (k + 1)) ∗ zeroAt c (lcell (k + 2))
    ∗ zeroAt c (cell k) ∗ role1 c d k ∗ free c (k + 1))

/-- The same with the next load started. -/
def Late (k : ℕ) : sProp 𝕄 :=
  iprop(owing c ∗ tab1 c d ∗ tab2 c d ∗ rows c d d.V (1024 * k) 65536 ∗ rows c d d.g 0 (1024 * (k + 1 - 2))
    ∗ hAt c (Finset.univ \ chunkSet (k + 1)) d.h ∗ stAt c (slotSet (k % 3)) fullShare (stg d.h k) ∗ zeroAt c (lcell k) ∗ front c d (k + 1) ∗ zeroAt c (lcell (k + 2))
    ∗ zeroAt c (cell k) ∗ role1 c d k ∗ zeroAt c (cell (k + 1)))

theorem chunk_tail (hd : d.OK) (i : grid0.Coords) (a : Fin k0_t33_loop.trips) :
    Late c d a.val ⊢ WP (Scf.Loop.for k0_t35_loop k0_t35_ok ⟨⟩ (k0_t35_body i (Memref.whole main_arg0) (Memref.isWhole_whole _) (Memref.whole main_arg1) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) cc0_scratch2 cc0_scratch3 cc0_scratch4 a (Scf.iv 0#32 1#32 a.val)) >>= fun _ => pure PUnit.unit) (fun _ => Inv c d (a.val + 1)) := by
  have ha : a.val < 64 := lt_of_lt_of_eq a.isLt t33_trips
  unfold Late
  iintro ⟨HO, T1, T2, RV, RG, HH, HS, L0, HF, L2, C0, R1, C1⟩
  have eT := take_chunk c d ha
  have hT : iprop(rows c d d.V (1024 * a.val) 65536 ∗ stAt c (slotSet (a.val % 3)) fullShare (stg d.h a.val))
      ⊢ iprop(bigSep (Finset.Ico 0 1024) (copy c d d.V a.val) ∗ rows c d d.V (1024 * (a.val + 1)) 65536 : sProp 𝕄) := by rw [eT]
  icases hT $$ [RV HS] with ⟨HC, RV⟩
  · isplitl [RV] <;> iassumption
  imod (Transfers.batch_alloc' (Lvl := ℕ) (countersEmb (U := Pipeline.UD sig nD τ)) (c : Thread nD τ) () rowCredit (issued c d a.val) (sm := .dma (cell a.val)) (E := Set.univ)) $$ C0 with HB
  iapply (chunk_issue c hd i a k0_t35_ok) $$ [T1 T2 HB HC]
  · unfold Issuing
    isplitl [T1]; · iexact T1
    isplitl [T2]; · iexact T2
    isplitl [HB]; · iexact HB
    iexact HC
  unfold Issuing
  iintro ⟨T1, T2, HB, -⟩
  iapply (le_wp_ret _ _ _ _ _)
  unfold Inv
  isplitl [HO]; · iexact HO
  isplitl [T1]; · iexact T1
  isplitl [T2]; · iexact T2
  isplitl [RV]; · iexact RV
  isplitl [RG]; · iexact RG
  isplitl [HH]; · iexact HH
  isplitl [HF]; · iexact HF
  rw [show lcell (a.val + 1 + 1) = lcell (a.val + 2) from rfl, show lcell (a.val + 1 + 2) = lcell a.val from lcell_mod (by omega)]
  isplitl [L2]; · iexact L2
  isplitl [L0]; · iexact L0
  isplitl [C1]; · iexact C1
  have e1 : batch c (cell a.val) (issued c d a.val) 1024 0 ⊢ role1 c d (a.val + 1) := by rw [role1_pos c d (k := a.val + 1) (by omega)]; exact .rfl
  isplitl [HB]; · iapply e1; iexact HB
  iapply (role_shift c d a.val); iexact R1

theorem chunk_mid (hd : d.OK) (i : grid0.Coords) (a : Fin k0_t33_loop.trips) :
    Mid c d a.val ⊢ WP (if k0_h2 : k0_cond2 a = 1#1 then
        Prog.lift (.enqueueDma (Chunk (k0_off23 a) (k0_off23_inb a k0_h2)) (SlotTo (k0_off22 a) (k0_off22_inb a k0_h2))
          (.dma ((cc0_scratch2.slice (Rect.unit (s := S3) (k0_off21 a) S1.size (k0_off21_inb a k0_h2))).squeeze S_ squeezes_S1_S_).sem)
          (View.wordExact_bits rfl) ((View.wordExact_bits rfl).reshape _ _) ⟨Or.inl rfl, trivial⟩) >>= fun _ =>
        (Scf.Loop.for k0_t35_loop k0_t35_ok ⟨⟩ (k0_t35_body i (Memref.whole main_arg0) (Memref.isWhole_whole _) (Memref.whole main_arg1) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) cc0_scratch2 cc0_scratch3 cc0_scratch4 a (Scf.iv 0#32 1#32 a.val)) >>= fun _ => pure PUnit.unit)
      else (Scf.Loop.for k0_t35_loop k0_t35_ok ⟨⟩ (k0_t35_body i (Memref.whole main_arg0) (Memref.isWhole_whole _) (Memref.whole main_arg1) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) cc0_scratch2 cc0_scratch3 cc0_scratch4 a (Scf.iv 0#32 1#32 a.val)) >>= fun _ => pure PUnit.unit))
      (fun _ => Inv c d (a.val + 1)) := by
  have ha : a.val < 64 := lt_of_lt_of_eq a.isLt t33_trips
  by_cases h2 : k0_cond2 a = 1#1
  · have h2' := (cond2_iff a).mp h2
    rw [dif_pos h2]
    unfold Mid free
    iintro ⟨HO, T1, T2, RV, RG, HH, HS, L0, L1, L2, C0, R1, C1, HN⟩
    have eH : hAt c Finset.univ d.h ⊢ (iprop(hAt c (chunkSet (a.val + 1)) d.h ∗ hAt c (Finset.univ \ chunkSet (a.val + 1)) d.h) : sProp 𝕄) := by
      rw [← chunk_split]
    icases eH $$ HH with ⟨HK, HH⟩
    iapply (load_issue c d (off22_eq a) (off23_eq a) (load_sem_of (off21_eq a)) h2') $$ [HK HN L1]
    · isplitl [HK]; · iexact HK
      isplitl [HN] <;> iassumption
    iintro HF
    iapply (chunk_tail c d hd i a)
    unfold Late
    rw [front_pos c d h2']
    iframe
  · have h2' : ¬ a.val + 1 < 64 := fun h => h2 ((cond2_iff a).mpr h)
    have h63 : a.val + 1 = 64 := by omega
    rw [dif_neg h2]
    refine .trans ?_ (chunk_tail c d hd i a)
    unfold Mid Late free
    rw [front_neg c d h2', h63, chunk_last]
    iintro ⟨HO, T1, T2, RV, RG, HH, HS, L0, L1, L2, C0, R1, C1, HN⟩
    iframe

theorem chunk_step (hd : d.OK) (i : grid0.Coords) (a : Fin k0_t33_loop.trips) (acc : Unit) :
    Inv c d a.val ⊢ WP (k0_t33_body i (Memref.whole main_arg0) (Memref.isWhole_whole _) (Memref.whole main_arg1) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) cc0_scratch2 cc0_scratch3 cc0_scratch4 a acc) (fun _ => Inv c d (a.val + 1)) := by
  have ha : a.val < 64 := lt_of_lt_of_eq a.isLt t33_trips
  have eH : iprop(hAt c (chunkSet a.val) d.h ∗ hAt c (Finset.univ \ chunkSet a.val) d.h) ⊢ (hAt c Finset.univ d.h : sProp 𝕄) := by
    rw [← chunk_split]
  unfold k0_t33_body
  dsimp only
  by_cases h1 : k0_cond1 a = 1#1
  · have h1' := (cond1_iff a).mp h1
    have eC : cell (a.val - 2) = cell (a.val + 1) := cell_mod (by omega)
    have eR : iprop(rows c d d.g 0 (1024 * (a.val - 2)) ∗ rows c d d.g (1024 * (a.val - 2)) (1024 * (a.val - 2 + 1)))
        ⊢ (rows c d d.g 0 (1024 * (a.val + 1 - 2)) : sProp 𝕄) := by rw [before_last c d h1']
    have eI : Inv c d a.val ⊢ iprop(owing c ∗ tab1 c d ∗ tab2 c d ∗ rows c d d.V (1024 * a.val) 65536 ∗ rows c d d.g 0 (1024 * (a.val - 2))
        ∗ hAt c (Finset.univ \ chunkSet a.val) d.h ∗ loading c d a.val ∗ zeroAt c (lcell (a.val + 1)) ∗ zeroAt c (lcell (a.val + 2))
        ∗ zeroAt c (cell a.val) ∗ role1 c d a.val ∗ pend c d (a.val - 2) : sProp 𝕄) := by
      unfold Inv; rw [front_pos c d ha, role2_pos c d h1']
    have eF : (free c (a.val - 2) : sProp 𝕄) ⊢ free c (a.val + 1) := by rw [free_mod c (k := a.val - 2) (k' := a.val + 1) (by omega)]
    rw [dif_pos h1]
    refine eI.trans ?_
    iintro ⟨HO, T1, T2, RV, RG, HH, HF, L1, L2, C0, R1, R2⟩
    iapply (load_wait c d (load_sem_of (off17_eq a))) $$ [HF HO]
    · isplitl [HF] <;> iassumption
    iintro ⟨HS, HK, L0, HO⟩
    icases eH $$ [HK HH] with HH
    · isplitl [HK] <;> iassumption
    iapply (pend_wait c d (body := k0_t34_body i (Memref.whole main_arg0) (Memref.isWhole_whole _) (Memref.whole main_arg1) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) cc0_scratch2 cc0_scratch3 cc0_scratch4 a h1) (fun _ _ => ⟨⟩) (fun _ _ => rfl) (a.val - 2) ((scat_sem_of (k := a.val + 1) (off20_eq a h1')).trans eC.symm) t34_trips) $$ [R2 HO]
    · isplitl [R2] <;> iassumption
    iintro %acc ⟨RN, HN, HO⟩
    icases eR $$ [RG RN] with RG
    · isplitl [RG] <;> iassumption
    icases eF $$ HN with HN
    iapply (chunk_mid c d hd i a)
    unfold Mid
    iframe
  · have h1' : ¬ 2 ≤ a.val := fun h => h1 ((cond1_iff a).mpr h)
    have eI : Inv c d a.val ⊢ iprop(owing c ∗ tab1 c d ∗ tab2 c d ∗ rows c d d.V (1024 * a.val) 65536 ∗ rows c d d.g 0 (1024 * (a.val + 1 - 2))
        ∗ hAt c (Finset.univ \ chunkSet a.val) d.h ∗ loading c d a.val ∗ zeroAt c (lcell (a.val + 1)) ∗ zeroAt c (lcell (a.val + 2))
        ∗ zeroAt c (cell a.val) ∗ role1 c d a.val ∗ free c (a.val + 1) : sProp 𝕄) := by
      unfold Inv; rw [front_pos c d ha, role2_neg c d h1', show 1024 * (a.val - 2) = 1024 * (a.val + 1 - 2) by omega]
    rw [dif_neg h1]
    refine eI.trans ?_
    iintro ⟨HO, T1, T2, RV, RG, HH, HF, L1, L2, C0, R1, R2⟩
    iapply (load_wait c d (load_sem_of (off17_eq a))) $$ [HF HO]
    · isplitl [HF] <;> iassumption
    iintro ⟨HS, HK, L0, HO⟩
    icases eH $$ [HK HH] with HH
    · isplitl [HK] <;> iassumption
    iapply (chunk_mid c d hd i a)
    unfold Mid
    iframe

/-- The main loop. -/
theorem chunks_run (hd : d.OK) (i : grid0.Coords) (hok : k0_t33_loop.OK) {α : Type} {kk : Unit → Prog (TpuEff nD τ sig (Elt F) Λ₀ .tc) α} {Q : α → sProp 𝕄} :
    Inv c d 0 ⊢ iprop((Inv c d 64 -∗ WP (kk ⟨⟩) Q) -∗ WP (Scf.Loop.for k0_t33_loop hok ⟨⟩ (k0_t33_body i (Memref.whole main_arg0) (Memref.isWhole_whole _) (Memref.whole main_arg1) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) cc0_scratch2 cc0_scratch3 cc0_scratch4) >>= kk) Q) := by
  iintro H Hk
  iapply (Scf.wp_for_bind frame (wpE (defs₀ (F := F)) Variants.none c none) Set.univ k0_t33_loop.lb k0_t33_loop.ub k0_t33_loop.st hok ⟨⟩ _
    (fun k _ => Inv c d k) (fun k acc => chunk_step c d hd i k acc)) $$ [H]
  · iexact H
  iintro %acc H
  have e : Scf.trips k0_t33_loop.lb k0_t33_loop.ub k0_t33_loop.st = 64 := t33_trips
  rw [e]
  iapply Hk
  iexact H

/-- What the main loop and the two waits after it leave. -/
def Done : sProp 𝕄 :=
  iprop(owing c ∗ tab1 c d ∗ tab2 c d ∗ rows c d d.g 0 65536 ∗ hAt c Finset.univ d.h
    ∗ zeroAt c (lcell 0) ∗ zeroAt c (lcell 1) ∗ zeroAt c (lcell 2) ∗ free c 0 ∗ free c 1 ∗ free c 2)

/-- The main loop and the waits for the copies of the last two chunks. -/
theorem tail_run (hd : d.OK) (i : grid0.Coords) {Q : Unit → sProp 𝕄} :
    Inv c d 0 ⊢ iprop((Done c d -∗ Q ⟨⟩) -∗ WP (Scf.Loop.for k0_t33_loop k0_t33_ok ⟨⟩ (k0_t33_body i (Memref.whole main_arg0) (Memref.isWhole_whole _) (Memref.whole main_arg1) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) cc0_scratch2 cc0_scratch3 cc0_scratch4) >>= fun _ =>
      Scf.Loop.for k0_t36_loop k0_t36_ok ⟨⟩ (k0_t36_body i (Memref.whole main_arg0) (Memref.isWhole_whole _) (Memref.whole main_arg1) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) cc0_scratch2 cc0_scratch3 cc0_scratch4) >>= fun _ =>
      Scf.Loop.for k0_t37_loop k0_t37_ok ⟨⟩ (k0_t37_body i (Memref.whole main_arg0) (Memref.isWhole_whole _) (Memref.whole main_arg1) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) cc0_scratch2 cc0_scratch3 cc0_scratch4) >>= fun _ => pure PUnit.unit) Q) := by
  iintro H Hk
  iapply (chunks_run c d hd i k0_t33_ok) $$ H
  unfold Inv
  rw [role1_pos c d (k := 64) (by decide), role2_pos c d (k := 64) (by decide), front_neg c d (k := 64) (by decide), chunk_last]
  iintro ⟨HO, T1, T2, -, RG, HH, HF, L1, L2, C1, R1, R2⟩
  iapply (pend_wait c d (body := k0_t36_body i (Memref.whole main_arg0) (Memref.isWhole_whole _) (Memref.whole main_arg1) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) cc0_scratch2 cc0_scratch3 cc0_scratch4) (fun _ _ => ⟨⟩) (fun _ _ => rfl) 62 (scat_sem_of (k := 62) rfl) t36_trips) $$ [R2 HO]
  · isplitl [R2] <;> iassumption
  iintro %_ ⟨R2, F2, HO⟩
  iapply (pend_wait c d (body := k0_t37_body i (Memref.whole main_arg0) (Memref.isWhole_whole _) (Memref.whole main_arg1) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) cc0_scratch2 cc0_scratch3 cc0_scratch4) (fun _ _ => ⟨⟩) (fun _ _ => rfl) 63 (scat_sem_of (k := 63) rfl) t37_trips) $$ [R1 HO]
  · isplitl [R1] <;> iassumption
  iintro %_ ⟨R3, F0, HO⟩
  iapply (le_wp_ret _ _ _ _ _)
  iapply Hk
  have e1 : (rows c d d.g 0 65536 : sProp 𝕄) = iprop(rows c d d.g 0 (1024 * 62) ∗ rows c d d.g (1024 * 62) 65536) :=
    sep_split (by omega) (by omega) _
  have e2 : (rows c d d.g (1024 * 62) 65536 : sProp 𝕄) = iprop(rows c d d.g (1024 * 62) (1024 * 63) ∗ rows c d d.g (1024 * 63) 65536) :=
    sep_split (by omega) (by omega) _
  unfold Done
  rw [e1, e2]
  isplitl [HO]; · iexact HO
  isplitl [T1]; · iexact T1
  isplitl [T2]; · iexact T2
  isplitl [RG R2 R3]
  · isplitl [RG]; · iexact RG
    isplitl [R2]; · iexact R2
    iexact R3
  isplitl [HH]; · iexact HH
  icases HF with ⟨L0, S1⟩
  isplitl [L2]; · iexact L2
  isplitl [L0]; · iexact L0
  isplitl [L1]; · iexact L1
  isplitl [F0]; · iexact F0
  isplitl [C1 S1]
  · unfold free
    isplitl [C1]; · iexact C1
    iexact S1
  iexact F2

end Cert.KernelIdeal.Dispatch

end
-- ==== Proof.Dispatch.Experts.lean ====
/-
  The first half of the dispatch kernel: the row of zeros is filled and copied onto every padding row, expert by expert,
  and all these copies are awaited.
-/
module

public import proofs.«01_k».proof.Proof.Dispatch.Chunk
public import proofs.«01_k».proof.Proof.Dispatch.Split

@[expose] public section

noncomputable section

namespace Cert.KernelIdeal.Dispatch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.Sem Idealize.SL.ProofMode
open Idealize.ShloMosaic.ValueIdx

variable {F : FTy → Type} [FloatOps F]

local notation "𝕄" => MT nD τ sig Unit (Elt F) ℕ (Pipeline.UD sig nD τ) ℕ

variable (c : Dev nD) (d : Data F)

local notation "WP" => wp frame (wpE (defs₀ (F := F)) Variants.none c none) Set.univ

/-- The cell the copies of zeros signal. -/
def zcell : DmaSem sig := ⟨6, by decide⟩

theorem zero_cell : cc0_scratch4.sem = zcell := zero_sem

/-- The row of zeros the copies read. -/
def zf : S8x1024.Idx → Elt F .f32 := fun _ => d.z

/-- What the `i`-th copy of zeros takes and what it brings back. -/
def zsrc (i : ℕ) : sProp 𝕄 := iprop(xsAt c (rowSet (d.X.zrow i)) d.V ∗ zAt c zSet (Transfers.shareTokN fullShare i) (zf d))
def zdel (i : ℕ) : sProp 𝕄 := iprop(xsAt c (rowSet (d.X.zrow i)) d.g ∗ zAt c zSet (Transfers.shareTokN fullShare i) (zf d))
def zissued : Fin (d.X.before 8) → sProp 𝕄 := fun i => zdel c d i.val

instance zissued_storable (i : Fin (d.X.before 8)) : Storable (upEmb : UEmb _ 𝕄) (zissued c d i) := by
  unfold zissued zdel; infer_instance

abbrev zb (j u : ℕ) : sProp 𝕄 := batch c zcell (zissued c d) j u

variable {d}

theorem Data.OK.run_len (hd : d.OK) (e : ℕ) (he : e < 8) : (d.f3 (ix1 (⟨8 + e, by omega⟩ : Fin 16)) : BitVec 32).toNat ≤ 73728 := by
  rw [hd.cn e he]; have := hd.tab.run_lt e he; omega

theorem before_le (X : Tab) {e : ℕ} (he : e < 8) : X.before e + X.cn e ≤ X.before 8 := X.before_mono (show e + 1 ≤ 8 from he)

/-- The copies of zeros onto expert `E`'s padding rows. -/
theorem expert_issue (hd : d.OK) {E : ℕ} (hE : E < 8) {l : Scf.Loop 32} {hok : l.OK} {σ α : Type} {init : σ} {body : Fin l.trips → σ → Prog (TpuEff nD τ sig (Elt F) Λ₀ .tc) σ}
    {kk : σ → Prog (TpuEff nD τ sig (Elt F) Λ₀ .tc) α} {Q : α → sProp 𝕄}
    {h : ∀ a, (![E] : Fin 1 → ℕ) a + S1.size a ≤ S16.size a}
    {hn : (Rect.unit (s := S16) ![E] S1.size h).shape.numel = 1} {hl : EltTy.i32.packing = 1}
    {chk : Fin l.trips → BitVec 32 → Prop} {dec : ∀ k v, Decidable (chk k v)} {offC : Fin l.trips → BitVec 32 → Fin 2 → ℕ}
    {hC : ∀ k v, chk k v → ∀ a, offC k v a + S1x1024.size a ≤ S73728x1024.size a} {sem : DmaSem sig}
    {p1 : ZRow.view.WordExact} {p2 : ∀ k v h, (XTo (offC k v) (hC k v h)).view.WordExact}
    {p3 : ∀ k v h, DmaTarget.Typed .vmem (.dma sem) (XTo (offC k v) (hC k v h))}
    (out : Fin l.trips → σ → σ)
    (hb : ∀ k acc, body k acc
      = (smemLoad (Memref.whole main_arg2) (Rect.unit (s := S16) ![E] S1.size h) hn hl >>= fun v =>
          Prog.lift (TpuEff.assume (chk k v) (dec k v)) >>= fun hw =>
            Prog.lift (.enqueueDma ZRow (XTo (offC k v) (hC k v hw.down)) (.dma sem) p1 (p2 k v hw.down) (p3 k v hw.down)) >>= fun _ => pure (out k acc)))
    (eS : sem = zcell) (ht : l.trips = (d.f3 (ix1 (⟨8 + E, by omega⟩ : Fin 16)) : BitVec 32).toNat)
    (eC : ∀ (k : Fin l.trips) v, offC k v = ![(Scalar.addi v (Scf.iv 0#32 1#32 k)).toNat, 0])
    (hchk : ∀ (k : Fin l.trips) v, (∀ a, (![(Scalar.addi v (Scf.iv 0#32 1#32 k)).toNat, 0] : Fin 2 → ℕ) a + S1x1024.size a ≤ S73728x1024.size a) → chk k v) :
    iprop(tab3 c d ∗ zb c d (d.X.before E) 0 ∗ bigSep (Finset.Ico (d.X.before E) (d.X.before 8)) (zsrc c d))
      ⊢ iprop((∀ acc, iprop(tab3 c d ∗ zb c d (d.X.before (E + 1)) 0 ∗ bigSep (Finset.Ico (d.X.before (E + 1)) (d.X.before 8)) (zsrc c d)) -∗ WP (kk acc) Q)
          -∗ WP (Scf.for l.lb l.ub l.st hok init body >>= kk) Q) := by
  have hcn : l.trips = d.X.cn E := ht.trans (hd.cn E hE)
  have hbe : d.X.before E + l.trips = d.X.before (E + 1) := by rw [hcn]; rfl
  have hle := before_le d.X hE
  have hrun := hd.tab.run_lt E hE
  have hw : ∀ k : Fin l.trips, (Scalar.addi (d.f3 (ix1 (⟨E, by omega⟩ : Fin 16)) : BitVec 32) (Scf.iv 0#32 1#32 k)).toNat = d.X.pd E + k.val := fun k => by
    have hk : k.val < d.X.cn E := lt_of_lt_of_eq k.isLt hcn
    rw [pad_word _ _ (by rw [hd.pd E hE]; omega), hd.pd E hE]
  have hz : ∀ k : Fin l.trips, d.X.zrow (d.X.before E + k.val) = d.X.pd E + k.val := fun k => d.X.zrow_at E k.val hE (lt_of_lt_of_eq k.isLt hcn)
  have := zero_loop c (kk := kk) (Q := Q) (init := init) (hok := hok) (e := E) (by omega) out hb (D := zissued c d) (Src := zsrc c d) (b0 := d.X.before E) (q := Transfers.shareTokN fullShare) (qt := d.q3) (ft := d.f3)
    (V := d.V) (g := d.g) (zf := zf d) (z := d.z) (zr := d.X.zrow) eS (by rw [hcn]; exact hle)
    (fun k => by rw [eC, hw, hz]) (fun k => hchk k _ (row_inside (hw k) (by have : k.val < d.X.cn E := lt_of_lt_of_eq k.isLt hcn; omega)))
    (fun _ => rfl)
    (fun k hk y hy => by
      rw [hd.out]
      exact (hd.tab.out_zrow (i := d.X.before E + k) (by rw [hcn] at hk; omega) (mem_rowSet.mp hy)).symm)
    (fun _ => rfl) (fun _ => rfl)
  rw [hbe] at this
  exact this

/-- The waits for as many copies of zeros as expert `E` has padding rows. -/
theorem expert_wait (hd : d.OK) {E : ℕ} (hE : E < 8) {l : Scf.Loop 32} {hok : l.OK} {σ α : Type} {init : σ} {body : Fin l.trips → σ → Prog (TpuEff nD τ sig (Elt F) Λ₀ .tc) σ}
    {kk : σ → Prog (TpuEff nD τ sig (Elt F) Λ₀ .tc) α} {Q : α → sProp 𝕄} {sem : DmaSem sig} {srcw : Memref sig .tc .vmem S1x1024 .f32}
    {p1 : srcw.view.WordExact} {p2 : (XRow ![0, 0] inb_S73728x1024_S1x1024_0_0).view.WordExact}
    (out : Fin l.trips → σ → σ)
    (hb : ∀ k acc, body k acc
      = Prog.lift (.waitDma2 sem srcw (XRow ![0, 0] inb_S73728x1024_S1x1024_0_0) p1 p2) >>= fun _ => pure (out k acc))
    (eS : sem = zcell) (ht : l.trips = (d.f3 (ix1 (⟨8 + E, by omega⟩ : Fin 16)) : BitVec 32).toNat) :
    iprop(zb c d (d.X.before 8) (rowCredit * d.X.before E) ∗ owing c)
      ⊢ iprop((∀ acc, iprop(zb c d (d.X.before 8) (rowCredit * d.X.before (E + 1)) ∗ owing c) -∗ WP (kk acc) Q)
          -∗ WP (Scf.for l.lb l.ub l.st hok init body >>= kk) Q) := by
  have hcn : l.trips = d.X.cn E := ht.trans (hd.cn E hE)
  have hle := before_le d.X hE
  have hbe : rowCredit * d.X.before E + rowCredit * l.trips = rowCredit * d.X.before (E + 1) := by
    rw [← Nat.mul_add, hcn]; rfl
  have := wait_loop c (kk := kk) (Q := Q) (init := init) (hok := hok) out hb eS (D := zissued c d) (j := d.X.before 8) (u := rowCredit * d.X.before E)
    (by rw [hbe]; exact Nat.mul_le_mul_left _ (d.X.before_mono (show E + 1 ≤ 8 from hE)))
  rw [hbe] at this
  exact this

end Cert.KernelIdeal.Dispatch

end
-- ==== Proof.Dispatch.Run.lean ====
/-
  The whole dispatch kernel, part by part: the first load and the row of zeros, the copies of zeros, the waits for them,
  the main loop.
-/
module

public import proofs.«01_k».proof.Proof.Dispatch.Experts
public import proofs.«01_k».proof.Proof.Dispatch.Split

@[expose] public section

noncomputable section

namespace Cert.KernelIdeal.Dispatch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.Sem Idealize.SL.ProofMode
open Idealize.ShloMosaic.ValueIdx

variable {F : FTy → Type} [FloatOps F]

local notation "𝕄" => MT nD τ sig Unit (Elt F) ℕ (Pipeline.UD sig nD τ) ℕ

variable (c : Dev nD) {d : Data F}

local notation "WP" => wp frame (wpE (defs₀ (F := F)) Variants.none c none) Set.univ

/-- The row of zeros, as the store fills it. -/
theorem zeros_stored (hz : d.z = Scalar.ofBits .f32 0x00000000#32) (f : S8x1024.Idx → Elt F .f32) :
    (((Memref.whole cc0_scratch1).access (Rect.unit (s := S8x1024) ![0, 0] S8x1024.size inb_S8x1024_S8x1024_0_0)).write (Elt F) f (k0_pay1 (F := F)) Finset.univ
      : S8x1024.Idx → Elt F .f32) = zf d := by
  refine (View.write_whole_slice_unit cc0_scratch1 ![0, 0] S8x1024.size inb_S8x1024_S8x1024_0_0 f (k0_pay1 (F := F))).trans ?_
  funext y
  unfold updateSlice zf
  rw [dif_pos (by
    intro a
    match a with
    | ⟨0, _⟩ => exact ⟨Nat.zero_le _, (y 0).isLt⟩
    | ⟨1, _⟩ => exact ⟨Nat.zero_le _, (y 1).isLt⟩), hz]
  rfl

/-- The part of the zeros' buffer no copy reads, and what is left of the row once every copy has its share. -/
def zkeep (d : Data F) : sProp 𝕄 :=
  iprop(zAt c (Finset.univ \ zSet) fullShare (zf d) ∗ zAt c zSet (Transfers.shareDrop fullShare (d.X.before 8)) (zf d))

theorem zsrc_eq (d : Data F) (n : ℕ) :
    iprop(bigSep (Finset.range n) (fun i => xsAt c (rowSet (d.X.zrow i)) d.V) ∗ bigSep (Finset.range n) (fun i => zAt c zSet (Transfers.shareTokN fullShare i) (zf d)))
      = (bigSep (Finset.Ico 0 n) (zsrc c d) : sProp 𝕄) := by
  rw [← Finset.range_eq_Ico, ← sep_sep]; rfl

theorem zdel_eq (d : Data F) (n : ℕ) :
    (bigSep (Finset.range n) (zdel c d) : sProp 𝕄)
      = iprop(bigSep (Finset.range n) (fun i => xsAt c (rowSet (d.X.zrow i)) d.g) ∗ bigSep (Finset.range n) (fun i => zAt c zSet (Transfers.shareTokN fullShare i) (zf d))) := by
  rw [← sep_sep]; rfl

theorem zbuf_split (d : Data F) :
    (zAt c Finset.univ fullShare (zf d) : sProp 𝕄)
      ⊣⊢ iprop(zkeep c d ∗ bigSep (Finset.range (d.X.before 8)) (fun i => zAt c zSet (Transfers.shareTokN fullShare i) (zf d))) := by
  have h1 : (zAt c Finset.univ fullShare (zf d) : sProp 𝕄) ⊣⊢ iprop(zAt c zSet fullShare (zf d) ∗ zAt c (Finset.univ \ zSet) fullShare (zf d)) :=
    pointsTo_split_subset (ℓ := (c : Thread nD τ).loc cc0_scratch1) (Finset.subset_univ _)
  have h2 : (zAt c zSet fullShare (zf d) : sProp 𝕄) ⊣⊢ iprop(zAt c zSet (Transfers.shareDrop fullShare (d.X.before 8)) (zf d)
      ∗ bigSep (Finset.range (d.X.before 8)) (fun i => zAt c zSet (Transfers.shareTokN fullShare i) (zf d))) :=
    Transfers.pointsTo_toks_range (ℓ := (c : Thread nD τ).loc cc0_scratch1) fullShare (d.X.before 8)
  unfold zkeep
  constructor
  · refine h1.1.trans ?_
    iintro ⟨A, B⟩
    icases h2.1 $$ A with ⟨A, C⟩
    iframe
  · refine .trans ?_ h1.2
    iintro ⟨⟨B, A⟩, C⟩
    isplitr [B]
    · iapply h2.2
      isplitl [A] <;> iassumption
    iexact B

/-- All copies of zeros awaited. -/
theorem zeros_done (d : Data F) : iprop(zb c d (d.X.before 8) (rowCredit * d.X.before 8) ∗ zkeep c d)
    ⊢ (|={Set.univ}=> iprop(bigSep (Finset.range (d.X.before 8)) (fun i => xsAt c (rowSet (d.X.zrow i)) d.g) ∗ zAt c Finset.univ fullShare (zf d) ∗ zeroAt c zcell) : sProp 𝕄) := by
  have hB := Transfers.batch_collect' (countersEmb (U := Pipeline.UD sig nD τ)) (c : Thread nD τ) (sm := .dma zcell) (ι := ()) rowCredit_pos (D := zissued c d)
  have e : bigSep Finset.univ (zissued c d) = bigSep (Finset.range (d.X.before 8)) (zdel c d) :=
    Ring.bigSep_fin_eq_range _ _ _ (fun _ _ => rfl)
  rw [e, zdel_eq] at hB
  iintro ⟨HB, HK⟩
  imod hB $$ HB with ⟨⟨HX, HZ⟩, HM⟩
  imodintro
  isplitl [HX]; · iexact HX
  isplitr [HM]
  · iapply (zbuf_split c d).2
    isplitl [HK] <;> iassumption
  iexact HM

/-! ## The parts -/

/-- While the copies of zeros are issued: experts before `e` are done. -/
def ZI (d : Data F) (e : ℕ) : sProp 𝕄 :=
  iprop(tab3 c d ∗ zb c d (d.X.before e) 0 ∗ bigSep (Finset.Ico (d.X.before e) (d.X.before 8)) (zsrc c d))
/-- While they are awaited. -/
def ZW (d : Data F) (e : ℕ) : sProp 𝕄 := iprop(tab3 c d ∗ zb c d (d.X.before 8) (rowCredit * d.X.before e) ∗ owing c)

theorem part4_run (hd : d.OK) (hz : d.z = Scalar.ofBits .f32 0x00000000#32) (i : grid0.Coords) {K : (Σ' (v : Elt F .i32) (_ : k0_chk7 v) (_ : BitVec 32) (_ : BitVec 32) (_ : BitVec 32), BitVec 32) → sProp 𝕄} :
    iprop(hAt c Finset.univ d.h ∗ slotAny c 0 ∗ zeroAt c (lcell 0) ∗ (∃ f, zAt c Finset.univ fullShare f) ∗ tab3 c d
        ∗ bigSep (Finset.range (d.X.before 8)) (fun i => xsAt c (rowSet (d.X.zrow i)) d.V) ∗ zeroAt c zcell)
      ⊢ iprop((∀ hw, iprop(loading c d 0 ∗ hAt c (Finset.univ \ chunkSet 0) d.h ∗ zkeep c d ∗ ZI c d 2) -∗ K ⟨(d.f3 (ix1 (⟨10, by decide⟩ : Fin 16))), hw, 0#32, 0#32, 1#32, Scalar.divsi (Scalar.subi (d.f3 (ix1 (⟨10, by decide⟩ : Fin 16))) 0#32) 1#32⟩)
          -∗ WP (k0_part4 i (Memref.whole main_arg0) (Memref.isWhole_whole _) (Memref.whole main_arg1) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) cc0_scratch2 cc0_scratch3 cc0_scratch4) K) := by
  have eH : hAt c Finset.univ d.h ⊢ (iprop(hAt c (chunkSet 0) d.h ∗ hAt c (Finset.univ \ chunkSet 0) d.h) : sProp 𝕄) := by
    rw [← chunk_split]
  have eS : iprop(bigSep (Finset.range (d.X.before 8)) (fun i => xsAt c (rowSet (d.X.zrow i)) d.V) ∗ bigSep (Finset.range (d.X.before 8)) (fun i => zAt c zSet (Transfers.shareTokN fullShare i) (zf d)))
      ⊢ (bigSep (Finset.Ico (d.X.before 0) (d.X.before 8)) (zsrc c d) : sProp 𝕄) := by
    rw [zsrc_eq]; exact .rfl
  have eZ : ∀ f, ((((Memref.whole cc0_scratch1).access (Rect.unit (s := S8x1024) ![0, 0] S8x1024.size inb_S8x1024_S8x1024_0_0)).loc c)
      ↦{fullShare} (((Memref.whole cc0_scratch1).access (Rect.unit (s := S8x1024) ![0, 0] S8x1024.size inb_S8x1024_S8x1024_0_0)).write (Elt F) f (k0_pay1 (F := F)) Finset.univ) : sProp 𝕄)
      ⊢ zAt c Finset.univ fullShare (zf d) := fun f => by
    rw [← zeros_stored hz f]
  rw [k0_part4_eq_skeleton]
  unfold k0_part4_skel
  iintro ⟨HH, HN, L0, ⟨%f, HZ⟩, T3, HX, CZ⟩ Hk
  icases eH $$ HH with ⟨HC, HH⟩
  iapply (load_issue c d (k := 0) rfl rfl (load_sem_of (k := 0) rfl) (by decide)) $$ [HC HN L0]
  · isplitl [HC]; · iexact HC
    isplitl [HN] <;> iassumption
  iintro HF
  iapply (wp_load_rect Variants.none (c : Thread nD τ) none Set.univ (m := Memref.whole cc0_scratch1) (r := Rect.unit (s := S8x1024) ![0, 0] S8x1024.size inb_S8x1024_S8x1024_0_0) (q := fullShare) (S := Finset.univ) (f := f) (Finset.subset_univ _)) $$ HZ
  iintro HZ
  iapply (wp_store Variants.none (c : Thread nD τ) none Set.univ (m := Memref.whole cc0_scratch1) (r := Rect.unit (s := S8x1024) ![0, 0] S8x1024.size inb_S8x1024_S8x1024_0_0) (S := Finset.univ) (f := f) (Finset.subset_univ _)) $$ HZ
  iintro HZ
  icases (eZ f) $$ HZ with HZ
  icases (zbuf_split c d).1 $$ HZ with ⟨HK, HZ⟩
  icases eS $$ [HX HZ] with HS
  · isplitl [HX] <;> iassumption
  imod (Transfers.batch_alloc' (Lvl := ℕ) (countersEmb (U := Pipeline.UD sig nD τ)) (c : Thread nD τ) () rowCredit (zissued c d) (sm := .dma zcell) (E := Set.univ)) $$ CZ with HB
  iapply (pad_load c (e := 8) (by decide) (hn := numel1_S1) (hl := rfl)) $$ T3
  iintro T3
  iapply (wp_assume Variants.none (c : Thread nD τ) none Set.univ (run_chk _ (hd.run_len 0 (by decide))))
  iapply (expert_issue c hd (E := 0) (by decide) (hn := numel1_S1) (hl := rfl) (body := k0_t1_body i (Memref.whole main_arg0) (Memref.isWhole_whole _) (Memref.whole main_arg1) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) cc0_scratch2 cc0_scratch3 cc0_scratch4 _ _) (fun _ _ => 0#32) (fun _ _ => rfl) zero_cell (run_trips _ (hd.run_len 0 (by decide))) (fun _ _ => rfl) (fun _ _ h => h)) $$ [T3 HB HS]
  · isplitl [T3]; · iexact T3
    isplitl [HB]; · iexact HB
    iexact HS
  iintro %_ ⟨T3, HB, HS⟩
  iapply (no_loop c (rest_trips _ (hd.run_len 0 (by decide))))
  iapply (pad_load c (e := 9) (by decide) (hn := numel1_S1) (hl := rfl)) $$ T3
  iintro T3
  iapply (wp_assume Variants.none (c : Thread nD τ) none Set.univ (run_chk _ (hd.run_len 1 (by decide))))
  iapply (expert_issue c hd (E := 1) (by decide) (hn := numel1_S1) (hl := rfl) (body := k0_t3_body i (Memref.whole main_arg0) (Memref.isWhole_whole _) (Memref.whole main_arg1) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) cc0_scratch2 cc0_scratch3 cc0_scratch4 _ _) (fun _ _ => 0#32) (fun _ _ => rfl) zero_cell (run_trips _ (hd.run_len 1 (by decide))) (fun _ _ => rfl) (fun _ _ h => h)) $$ [T3 HB HS]
  · isplitl [T3]; · iexact T3
    isplitl [HB]; · iexact HB
    iexact HS
  iintro %_ ⟨T3, HB, HS⟩
  iapply (no_loop c (rest_trips _ (hd.run_len 1 (by decide))))
  iapply (pad_load c (e := 10) (by decide) (hn := numel1_S1) (hl := rfl)) $$ T3
  iintro T3
  iapply (wp_assume Variants.none (c : Thread nD τ) none Set.univ (run_chk _ (hd.run_len 2 (by decide))))
  iapply (le_wp_ret _ _ _ _ _)
  iapply Hk
  isplitl [HF]; · iexact HF
  isplitl [HH]; · iexact HH
  isplitl [HK]; · iexact HK
  unfold ZI
  isplitl [T3]; · iexact T3
  isplitl [HB] <;> iassumption

theorem part5_run (hd : d.OK) (i : grid0.Coords) (hw0 : k0_chk7 (d.f3 (ix1 (⟨10, by decide⟩ : Fin 16)))) (c0 c1 c2 c3 : BitVec 32) {K : (Σ' (v : Elt F .i32) (_ : k0_chk19 v) (_ : BitVec 32) (_ : BitVec 32) (_ : BitVec 32), BitVec 32) → sProp 𝕄} :
    ZI c d 2 ⊢ iprop((∀ hw, ZI c d 6 -∗ K ⟨(d.f3 (ix1 (⟨14, by decide⟩ : Fin 16))), hw, 0#32, 0#32, 1#32, Scalar.divsi (Scalar.subi (d.f3 (ix1 (⟨14, by decide⟩ : Fin 16))) 0#32) 1#32⟩)
          -∗ WP (k0_part5 i (Memref.whole main_arg0) (Memref.isWhole_whole _) (Memref.whole main_arg1) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) cc0_scratch2 cc0_scratch3 cc0_scratch4 (d.f3 (ix1 (⟨10, by decide⟩ : Fin 16))) hw0 c0 c1 c2 c3) K) := by
  rw [k0_part5_eq_skeleton]
  unfold k0_part5_skel ZI
  iintro ⟨T3, HB, HS⟩ Hk
  iapply (expert_issue c hd (E := 2) (by decide) (hn := numel1_S1) (hl := rfl) (body := k0_t5_body i (Memref.whole main_arg0) (Memref.isWhole_whole _) (Memref.whole main_arg1) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) cc0_scratch2 cc0_scratch3 cc0_scratch4 _ _ _ _ _ _) (fun _ _ => 0#32) (fun _ _ => rfl) zero_cell (run_trips _ (hd.run_len 2 (by decide))) (fun _ _ => rfl) (fun _ _ h => h)) $$ [T3 HB HS]
  · isplitl [T3]; · iexact T3
    isplitl [HB]; · iexact HB
    iexact HS
  iintro %_ ⟨T3, HB, HS⟩
  iapply (no_loop c (rest_trips _ (hd.run_len 2 (by decide))))
  iapply (pad_load c (e := 11) (by decide) (hn := numel1_S1) (hl := rfl)) $$ T3
  iintro T3
  iapply (wp_assume Variants.none (c : Thread nD τ) none Set.univ (run_chk _ (hd.run_len 3 (by decide))))
  iapply (expert_issue c hd (E := 3) (by decide) (hn := numel1_S1) (hl := rfl) (body := k0_t7_body i (Memref.whole main_arg0) (Memref.isWhole_whole _) (Memref.whole main_arg1) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) cc0_scratch2 cc0_scratch3 cc0_scratch4 _ _ _ _ _ _ _ _) (fun _ _ => 0#32) (fun _ _ => rfl) zero_cell (run_trips _ (hd.run_len 3 (by decide))) (fun _ _ => rfl) (fun _ _ h => h)) $$ [T3 HB HS]
  · isplitl [T3]; · iexact T3
    isplitl [HB]; · iexact HB
    iexact HS
  iintro %_ ⟨T3, HB, HS⟩
  iapply (no_loop c (rest_trips _ (hd.run_len 3 (by decide))))
  iapply (pad_load c (e := 12) (by decide) (hn := numel1_S1) (hl := rfl)) $$ T3
  iintro T3
  iapply (wp_assume Variants.none (c : Thread nD τ) none Set.univ (run_chk _ (hd.run_len 4 (by decide))))
  iapply (expert_issue c hd (E := 4) (by decide) (hn := numel1_S1) (hl := rfl) (body := k0_t9_body i (Memref.whole main_arg0) (Memref.isWhole_whole _) (Memref.whole main_arg1) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) cc0_scratch2 cc0_scratch3 cc0_scratch4 _ _ _ _ _ _ _ _) (fun _ _ => 0#32) (fun _ _ => rfl) zero_cell (run_trips _ (hd.run_len 4 (by decide))) (fun _ _ => rfl) (fun _ _ h => h)) $$ [T3 HB HS]
  · isplitl [T3]; · iexact T3
    isplitl [HB]; · iexact HB
    iexact HS
  iintro %_ ⟨T3, HB, HS⟩
  iapply (no_loop c (rest_trips _ (hd.run_len 4 (by decide))))
  iapply (pad_load c (e := 13) (by decide) (hn := numel1_S1) (hl := rfl)) $$ T3
  iintro T3
  iapply (wp_assume Variants.none (c : Thread nD τ) none Set.univ (run_chk _ (hd.run_len 5 (by decide))))
  iapply (expert_issue c hd (E := 5) (by decide) (hn := numel1_S1) (hl := rfl) (body := k0_t11_body i (Memref.whole main_arg0) (Memref.isWhole_whole _) (Memref.whole main_arg1) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) cc0_scratch2 cc0_scratch3 cc0_scratch4 _ _ _ _ _ _ _ _) (fun _ _ => 0#32) (fun _ _ => rfl) zero_cell (run_trips _ (hd.run_len 5 (by decide))) (fun _ _ => rfl) (fun _ _ h => h)) $$ [T3 HB HS]
  · isplitl [T3]; · iexact T3
    isplitl [HB]; · iexact HB
    iexact HS
  iintro %_ ⟨T3, HB, HS⟩
  iapply (no_loop c (rest_trips _ (hd.run_len 5 (by decide))))
  iapply (pad_load c (e := 14) (by decide) (hn := numel1_S1) (hl := rfl)) $$ T3
  iintro T3
  iapply (wp_assume Variants.none (c : Thread nD τ) none Set.univ (run_chk _ (hd.run_len 6 (by decide))))
  iapply (le_wp_ret _ _ _ _ _)
  iapply Hk
  isplitl [T3]; · iexact T3
  isplitl [HB] <;> iassumption

theorem part6_run (hd : d.OK) (i : grid0.Coords) (hw0 : k0_chk19 (d.f3 (ix1 (⟨14, by decide⟩ : Fin 16)))) (c0 c1 c2 c3 : BitVec 32) {K : (Σ' (v : Elt F .i32) (_ : k0_chk27 v) (_ : BitVec 32) (_ : BitVec 32) (_ : BitVec 32), BitVec 32) → sProp 𝕄} :
    iprop(ZI c d 6 ∗ owing c) ⊢ iprop((∀ hw, ZW c d 2 -∗ K ⟨(d.f3 (ix1 (⟨10, by decide⟩ : Fin 16))), hw, 0#32, 0#32, 1#32, Scalar.divsi (Scalar.subi (d.f3 (ix1 (⟨10, by decide⟩ : Fin 16))) 0#32) 1#32⟩)
          -∗ WP (k0_part6 i (Memref.whole main_arg0) (Memref.isWhole_whole _) (Memref.whole main_arg1) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) cc0_scratch2 cc0_scratch3 cc0_scratch4 (d.f3 (ix1 (⟨14, by decide⟩ : Fin 16))) hw0 c0 c1 c2 c3) K) := by
  have e0 : zb c d (d.X.before (7 + 1)) 0 ⊢ zb c d (d.X.before 8) (rowCredit * d.X.before 0) := by
    rw [show d.X.before 0 = 0 from rfl, Nat.mul_zero]
  rw [k0_part6_eq_skeleton]
  unfold k0_part6_skel ZI ZW
  iintro ⟨⟨T3, HB, HS⟩, HO⟩ Hk
  iapply (expert_issue c hd (E := 6) (by decide) (hn := numel1_S1) (hl := rfl) (body := k0_t13_body i (Memref.whole main_arg0) (Memref.isWhole_whole _) (Memref.whole main_arg1) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) cc0_scratch2 cc0_scratch3 cc0_scratch4 _ _ _ _ _ _) (fun _ _ => 0#32) (fun _ _ => rfl) zero_cell (run_trips _ (hd.run_len 6 (by decide))) (fun _ _ => rfl) (fun _ _ h => h)) $$ [T3 HB HS]
  · isplitl [T3]; · iexact T3
    isplitl [HB]; · iexact HB
    iexact HS
  iintro %_ ⟨T3, HB, HS⟩
  iapply (no_loop c (rest_trips _ (hd.run_len 6 (by decide))))
  iapply (pad_load c (e := 15) (by decide) (hn := numel1_S1) (hl := rfl)) $$ T3
  iintro T3
  iapply (wp_assume Variants.none (c : Thread nD τ) none Set.univ (run_chk _ (hd.run_len 7 (by decide))))
  iapply (expert_issue c hd (E := 7) (by decide) (hn := numel1_S1) (hl := rfl) (body := k0_t15_body i (Memref.whole main_arg0) (Memref.isWhole_whole _) (Memref.whole main_arg1) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) cc0_scratch2 cc0_scratch3 cc0_scratch4 _ _ _ _ _ _ _ _) (fun _ _ => 0#32) (fun _ _ => rfl) zero_cell (run_trips _ (hd.run_len 7 (by decide))) (fun _ _ => rfl) (fun _ _ h => h)) $$ [T3 HB HS]
  · isplitl [T3]; · iexact T3
    isplitl [HB]; · iexact HB
    iexact HS
  iintro %_ ⟨T3, HB, HS⟩
  iapply (no_loop c (rest_trips _ (hd.run_len 7 (by decide))))
  icases e0 $$ HB with HB
  iapply (pad_load c (e := 8) (by decide) (hn := numel1_S1) (hl := rfl)) $$ T3
  iintro T3
  iapply (wp_assume Variants.none (c : Thread nD τ) none Set.univ (run_chk _ (hd.run_len 0 (by decide))))
  iapply (expert_wait c hd (E := 0) (by decide) (body := k0_t17_body i (Memref.whole main_arg0) (Memref.isWhole_whole _) (Memref.whole main_arg1) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) cc0_scratch2 cc0_scratch3 cc0_scratch4 _ _ _ _ _ _ _ _) (fun _ _ => 0#32) (fun _ _ => rfl) zero_cell (run_trips _ (hd.run_len 0 (by decide)))) $$ [HB HO]
  · isplitl [HB] <;> iassumption
  iintro %_ ⟨HB, HO⟩
  iapply (no_loop c (rest_trips _ (hd.run_len 0 (by decide))))
  iapply (pad_load c (e := 9) (by decide) (hn := numel1_S1) (hl := rfl)) $$ T3
  iintro T3
  iapply (wp_assume Variants.none (c : Thread nD τ) none Set.univ (run_chk _ (hd.run_len 1 (by decide))))
  iapply (expert_wait c hd (E := 1) (by decide) (body := k0_t19_body i (Memref.whole main_arg0) (Memref.isWhole_whole _) (Memref.whole main_arg1) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) cc0_scratch2 cc0_scratch3 cc0_scratch4 _ _ _ _ _ _ _ _) (fun _ _ => 0#32) (fun _ _ => rfl) zero_cell (run_trips _ (hd.run_len 1 (by decide)))) $$ [HB HO]
  · isplitl [HB] <;> iassumption
  iintro %_ ⟨HB, HO⟩
  iapply (no_loop c (rest_trips _ (hd.run_len 1 (by decide))))
  iapply (pad_load c (e := 10) (by decide) (hn := numel1_S1) (hl := rfl)) $$ T3
  iintro T3
  iapply (wp_assume Variants.none (c : Thread nD τ) none Set.univ (run_chk _ (hd.run_len 2 (by decide))))
  iapply (le_wp_ret _ _ _ _ _)
  iapply Hk
  isplitl [T3]; · iexact T3
  isplitl [HB] <;> iassumption

theorem part7_run (hd : d.OK) (i : grid0.Coords) (hw0 : k0_chk27 (d.f3 (ix1 (⟨10, by decide⟩ : Fin 16)))) (c0 c1 c2 c3 : BitVec 32) {K : (Σ' (v : Elt F .i32) (_ : k0_chk31 v) (_ : BitVec 32) (_ : BitVec 32) (_ : BitVec 32), BitVec 32) → sProp 𝕄} :
    ZW c d 2 ⊢ iprop((∀ hw, ZW c d 6 -∗ K ⟨(d.f3 (ix1 (⟨14, by decide⟩ : Fin 16))), hw, 0#32, 0#32, 1#32, Scalar.divsi (Scalar.subi (d.f3 (ix1 (⟨14, by decide⟩ : Fin 16))) 0#32) 1#32⟩)
          -∗ WP (k0_part7 i (Memref.whole main_arg0) (Memref.isWhole_whole _) (Memref.whole main_arg1) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) cc0_scratch2 cc0_scratch3 cc0_scratch4 (d.f3 (ix1 (⟨10, by decide⟩ : Fin 16))) hw0 c0 c1 c2 c3) K) := by
  rw [k0_part7_eq_skeleton]
  unfold k0_part7_skel ZW
  iintro ⟨T3, HB, HO⟩ Hk
  iapply (expert_wait c hd (E := 2) (by decide) (body := k0_t21_body i (Memref.whole main_arg0) (Memref.isWhole_whole _) (Memref.whole main_arg1) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) cc0_scratch2 cc0_scratch3 cc0_scratch4 _ _ _ _ _ _) (fun _ _ => 0#32) (fun _ _ => rfl) zero_cell (run_trips _ (hd.run_len 2 (by decide)))) $$ [HB HO]
  · isplitl [HB] <;> iassumption
  iintro %_ ⟨HB, HO⟩
  iapply (no_loop c (rest_trips _ (hd.run_len 2 (by decide))))
  iapply (pad_load c (e := 11) (by decide) (hn := numel1_S1) (hl := rfl)) $$ T3
  iintro T3
  iapply (wp_assume Variants.none (c : Thread nD τ) none Set.univ (run_chk _ (hd.run_len 3 (by decide))))
  iapply (expert_wait c hd (E := 3) (by decide) (body := k0_t23_body i (Memref.whole main_arg0) (Memref.isWhole_whole _) (Memref.whole main_arg1) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) cc0_scratch2 cc0_scratch3 cc0_scratch4 _ _ _ _ _ _ _ _) (fun _ _ => 0#32) (fun _ _ => rfl) zero_cell (run_trips _ (hd.run_len 3 (by decide)))) $$ [HB HO]
  · isplitl [HB] <;> iassumption
  iintro %_ ⟨HB, HO⟩
  iapply (no_loop c (rest_trips _ (hd.run_len 3 (by decide))))
  iapply (pad_load c (e := 12) (by decide) (hn := numel1_S1) (hl := rfl)) $$ T3
  iintro T3
  iapply (wp_assume Variants.none (c : Thread nD τ) none Set.univ (run_chk _ (hd.run_len 4 (by decide))))
  iapply (expert_wait c hd (E := 4) (by decide) (body := k0_t25_body i (Memref.whole main_arg0) (Memref.isWhole_whole _) (Memref.whole main_arg1) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) cc0_scratch2 cc0_scratch3 cc0_scratch4 _ _ _ _ _ _ _ _) (fun _ _ => 0#32) (fun _ _ => rfl) zero_cell (run_trips _ (hd.run_len 4 (by decide)))) $$ [HB HO]
  · isplitl [HB] <;> iassumption
  iintro %_ ⟨HB, HO⟩
  iapply (no_loop c (rest_trips _ (hd.run_len 4 (by decide))))
  iapply (pad_load c (e := 13) (by decide) (hn := numel1_S1) (hl := rfl)) $$ T3
  iintro T3
  iapply (wp_assume Variants.none (c : Thread nD τ) none Set.univ (run_chk _ (hd.run_len 5 (by decide))))
  iapply (expert_wait c hd (E := 5) (by decide) (body := k0_t27_body i (Memref.whole main_arg0) (Memref.isWhole_whole _) (Memref.whole main_arg1) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) cc0_scratch2 cc0_scratch3 cc0_scratch4 _ _ _ _ _ _ _ _) (fun _ _ => 0#32) (fun _ _ => rfl) zero_cell (run_trips _ (hd.run_len 5 (by decide)))) $$ [HB HO]
  · isplitl [HB] <;> iassumption
  iintro %_ ⟨HB, HO⟩
  iapply (no_loop c (rest_trips _ (hd.run_len 5 (by decide))))
  iapply (pad_load c (e := 14) (by decide) (hn := numel1_S1) (hl := rfl)) $$ T3
  iintro T3
  iapply (wp_assume Variants.none (c : Thread nD τ) none Set.univ (run_chk _ (hd.run_len 6 (by decide))))
  iapply (le_wp_ret _ _ _ _ _)
  iapply Hk
  isplitl [T3]; · iexact T3
  isplitl [HB] <;> iassumption

/-- What the kernel is given. -/
def Given (d : Data F) : sProp 𝕄 :=
  iprop(owing c ∗ tab1 c d ∗ tab2 c d ∗ tab3 c d ∗ hAt c Finset.univ d.h ∗ xsAt c Finset.univ d.V
    ∗ (∃ f, stAt c Finset.univ fullShare f) ∗ (∃ f, zAt c Finset.univ fullShare f)
    ∗ zeroAt c (lcell 0) ∗ zeroAt c (lcell 1) ∗ zeroAt c (lcell 2) ∗ zeroAt c (cell 0) ∗ zeroAt c (cell 1) ∗ zeroAt c (cell 2) ∗ zeroAt c zcell)

/-- What it leaves: the same, with the table as the copies make it. -/
def Left (d : Data F) : sProp 𝕄 :=
  iprop(owing c ∗ tab1 c d ∗ tab2 c d ∗ tab3 c d ∗ hAt c Finset.univ d.h ∗ xsAt c Finset.univ d.g
    ∗ (∃ f, stAt c Finset.univ fullShare f) ∗ (∃ f, zAt c Finset.univ fullShare f)
    ∗ zeroAt c (lcell 0) ∗ zeroAt c (lcell 1) ∗ zeroAt c (lcell 2) ∗ zeroAt c (cell 0) ∗ zeroAt c (cell 1) ∗ zeroAt c (cell 2) ∗ zeroAt c zcell)

theorem rows_zero (d : Data F) : (rows c d d.g 0 (1024 * (0 - 2)) : sProp 𝕄) = iprop(emp) := by
  show bigSep (Finset.Ico 0 0) _ = _
  rw [Finset.Ico_self, bigSep_empty]; rfl

/-- Rows no copy writes hold what they held. -/
theorem rest_kept (hd : d.OK) : (xsAt c (restSet d.X) d.V : sProp 𝕄) = xsAt c (restSet d.X) d.g :=
  pointsTo_congr fun y hy => by
    rw [hd.out]
    exact (Tab.out_rest (mem_restSet hy).1 (mem_restSet hy).2).symm

/-- The table taken apart: padding rows, the copies' rows, the rest. -/
theorem table_rows (hd : d.OK) (f : S73728x1024.Idx → Elt F .f32) :
    (xsAt c Finset.univ f : sProp 𝕄) = iprop(bigSep (Finset.range (d.X.before 8)) (fun i => xsAt c (rowSet (d.X.zrow i)) f) ∗ rows c d f 0 65536 ∗ xsAt c (restSet d.X) f) := by
  have t := table_split d.X hd.tab c f
  rw [Finset.range_eq_Ico (a := 65536)] at t
  exact t

theorem kernel_run (hd : d.OK) (hz : d.z = Scalar.ofBits .f32 0x00000000#32) (i : grid0.Coords) :
    Given c d ⊢ WP (cc0_moe_dispatch i (Memref.whole main_arg0) (Memref.isWhole_whole _) (Memref.whole main_arg1) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) cc0_scratch2 cc0_scratch3 cc0_scratch4) (fun _ => Left c d) := by
  have eV : (xsAt c Finset.univ d.V : sProp 𝕄) ⊢ iprop(bigSep (Finset.range (d.X.before 8)) (fun i => xsAt c (rowSet (d.X.zrow i)) d.V) ∗ rows c d d.V (1024 * 0) 65536 ∗ xsAt c (restSet d.X) d.V) := by
    rw [table_rows c hd]
  have eG : iprop(bigSep (Finset.range (d.X.before 8)) (fun i => xsAt c (rowSet (d.X.zrow i)) d.g) ∗ rows c d d.g 0 65536 ∗ xsAt c (restSet d.X) d.V) ⊢ (xsAt c Finset.univ d.g : sProp 𝕄) := by
    rw [rest_kept c hd, ← table_rows c hd]
  have eS : ∀ f, (stAt c Finset.univ fullShare f : sProp 𝕄) ⊢ iprop(slotAny c 0 ∗ slotAny c 1 ∗ slotAny c 2) := fun f => by
    rw [slots_split]
    iintro ⟨A, B, C⟩
    isplitl [A]; · iexists _; iexact A
    isplitl [B]; · iexists _; iexact B
    iexists _; iexact C
  have eR : iprop(zeroAt c (cell 2) ∗ slotAny c 2) ⊢ (role1 c d 0 : sProp 𝕄) := by
    rw [role1_neg c d (k := 0) (by decide)]; exact .rfl
  have eR' : iprop(zeroAt c (cell 1) ∗ slotAny c 1) ⊢ (role2 c d 0 : sProp 𝕄) := by
    rw [role2_neg c d (k := 0) (by decide)]; exact .rfl
  have eF : loading c d 0 ⊢ front c d 0 := by rw [front_pos c d (k := 0) (by decide)]
  have eE : owing c ⊢ (iprop(owing c ∗ rows c d d.g 0 (1024 * (0 - 2))) : sProp 𝕄) := by rw [rows_zero]; exact Laws.sep_emp.2
  rw [cc0_moe_dispatch_eq_skeleton]
  unfold cc0_moe_dispatch_skel Given
  iintro ⟨HO, T1, T2, T3, HH, HV, ⟨%f, HS⟩, HZ, L0, L1, L2, C0, C1, C2, CZ⟩
  icases eV $$ HV with ⟨HX, RV, HR⟩
  icases (eS f) $$ HS with ⟨S0, S1, S2⟩
  iapply (run_bind c)
  iapply (part4_run c hd hz i) $$ [HH S0 L0 HZ T3 HX CZ]
  · iframe
  iintro %hw4 ⟨HF, HH, HK, HI⟩
  iapply (run_bind c)
  iapply (part5_run c hd i) $$ [HI]
  · iexact HI
  iintro %hw5 HI
  iapply (run_bind c)
  iapply (part6_run c hd i) $$ [HI HO]
  · isplitl [HI] <;> iassumption
  iintro %hw6 HI
  iapply (run_bind c)
  iapply (part7_run c hd i) $$ [HI]
  · iexact HI
  iintro %hw7 HI
  unfold ZW
  icases HI with ⟨T3, HB, HO⟩
  iapply (expert_wait c hd (E := 6) (by decide) (body := k0_t29_body i (Memref.whole main_arg0) (Memref.isWhole_whole _) (Memref.whole main_arg1) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) cc0_scratch2 cc0_scratch3 cc0_scratch4 _ _) (fun _ _ => 0#32) (fun _ _ => rfl) zero_cell (run_trips _ (hd.run_len 6 (by decide)))) $$ [HB HO]
  · isplitl [HB] <;> iassumption
  iintro %_ ⟨HB, HO⟩
  iapply (no_loop c (rest_trips _ (hd.run_len 6 (by decide))))
  iapply (pad_load c (e := 15) (by decide) (hn := numel1_S1) (hl := rfl)) $$ T3
  iintro T3
  iapply (wp_assume Variants.none (c : Thread nD τ) none Set.univ (run_chk _ (hd.run_len 7 (by decide))))
  iapply (expert_wait c hd (E := 7) (by decide) (body := k0_t31_body i (Memref.whole main_arg0) (Memref.isWhole_whole _) (Memref.whole main_arg1) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) cc0_scratch2 cc0_scratch3 cc0_scratch4 _ _) (fun _ _ => 0#32) (fun _ _ => rfl) zero_cell (run_trips _ (hd.run_len 7 (by decide)))) $$ [HB HO]
  · isplitl [HB] <;> iassumption
  iintro %_ ⟨HB, HO⟩
  iapply (no_loop c (rest_trips _ (hd.run_len 7 (by decide))))
  imod (zeros_done c d) $$ [HB HK] with ⟨HX, HZ, CZ⟩
  · isplitl [HB] <;> iassumption
  icases (eR) $$ [C2 S2] with R1
  · isplitl [C2] <;> iassumption
  icases (eR') $$ [C1 S1] with R2
  · isplitl [C1] <;> iassumption
  icases eF $$ HF with HF
  icases eE $$ HO with ⟨HO, RG⟩
  iapply (tail_run c d hd i) $$ [HO T1 T2 RV RG HH HF L1 L2 C0 R1 R2]
  · unfold Inv
    iframe
  unfold Done free
  iintro ⟨HO, T1, T2, RG, HH, L0, L1, L2, ⟨C0, S0⟩, ⟨C1, S1⟩, ⟨C2, S2⟩⟩
  icases eG $$ [HX RG HR] with HV
  · isplitl [HX]; · iexact HX
    isplitl [RG] <;> iassumption
  icases (slots_join c) $$ [S0 S1 S2] with HS
  · isplitl [S0]; · iexact S0
    isplitl [S1] <;> iassumption
  unfold Left
  isplitl [HO]; · iexact HO
  isplitl [T1]; · iexact T1
  isplitl [T2]; · iexact T2
  isplitl [T3]; · iexact T3
  isplitl [HH]; · iexact HH
  isplitl [HV]; · iexact HV
  isplitl [HS]; · iexact HS
  isplitl [HZ]; · iexists _; iexact HZ
  iframe

end Cert.KernelIdeal.Dispatch

end
-- ==== Proof.Dispatch.Frame.lean ====
/-
  The launch: from memory to the kernel's data, through the region, and back to memory. The run's end holds the table as
  the copies make it, the arguments unchanged and every semaphore at zero.
-/
module

public import proofs.«01_k».proof.Proof.Dispatch.Run
public import proofs.«01_k».proof.Proof.Gen.KernelIdeal.Launch
public import Idealize.ShloMosaic.Lib.Pipeline.FrameBody
public import Idealize.ShloMosaic.Lib.Pipeline.FrameValue

@[expose] public section

noncomputable section

namespace Cert.KernelIdeal.Dispatch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.Sem Idealize.SL.ProofMode
open Idealize.ShloMosaic.ValueIdx
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The tables' words as natural numbers. -/
def tabOf (f1 f2 : S32768.Idx → BitVec 32) (f3 : S16.Idx → BitVec 32) : Tab where
  p1 t := if ht : t < 32768 then (f1 (ix1 (⟨t, ht⟩ : Fin 32768))).toNat else 0
  p2 t := if ht : t < 32768 then (f2 (ix1 (⟨t, ht⟩ : Fin 32768))).toNat else 0
  pd e := if he : e < 8 then (f3 (ix1 (⟨e, by omega⟩ : Fin 16))).toNat else 0
  cn e := if he : e < 8 then (f3 (ix1 (⟨8 + e, by omega⟩ : Fin 16))).toNat else 0

/-- The kernel's data, read off memory: the tables, the tokens' rows, the table of rows before and after. -/
def dataOf (c : Dev nD) : Data F where
  X := tabOf (m ((c : Thread nD τ).loc main_arg0)) (m ((c : Thread nD τ).loc main_arg1)) (m ((c : Thread nD τ).loc main_arg2))
  f1 := m ((c : Thread nD τ).loc main_arg0)
  f2 := m ((c : Thread nD τ).loc main_arg1)
  f3 := m ((c : Thread nD τ).loc main_arg2)
  h := m ((c : Thread nD τ).loc main_arg3)
  V := m ((c : Thread nD τ).loc main_v0)
  g := (tabOf (m ((c : Thread nD τ).loc main_arg0)) (m ((c : Thread nD τ).loc main_arg1)) (m ((c : Thread nD τ).loc main_arg2))).out
    (m ((c : Thread nD τ).loc main_arg3)) (Scalar.ofBits .f32 0x00000000#32) (m ((c : Thread nD τ).loc main_v0))
  z := Scalar.ofBits .f32 0x00000000#32
  q1 := fullShare.right
  q2 := fullShare.right
  q3 := fullShare.right

theorem dataOf_ok (c : Dev nD) (h : (dataOf m c).X.OK) : (dataOf m c).OK where
  tab := h
  p1 t ht := by show _ = dite (t < 32768) _ _; rw [dif_pos ht]; rfl
  p2 t ht := by show _ = dite (t < 32768) _ _; rw [dif_pos ht]; rfl
  pd e he := by show _ = dite (e < 8) _ _; rw [dif_pos he]; rfl
  cn e he := by show _ = dite (e < 8) _ _; rw [dif_pos he]; rfl
  out := rfl

/-- The buffers' contents at the region's entry and at its end. -/
abbrev V (c : Dev nD) (b : Ref sig .tc) : Buf (Elt F) ((c : Thread nD τ).loc b) := m ((c : Thread nD τ).loc b)
def G (c : Dev nD) (b : Ref sig .tc) : Buf (Elt F) ((c : Thread nD τ).loc b) :=
  if e : b = main_v0 then e ▸ (dataOf m c).g else V m c b

theorem G_out (c : Dev nD) : G m c main_v0 = (dataOf m c).g := dif_pos rfl

def H0 : Finset (Ref sig .tc) := {main_arg3}
def R0 : Finset (Ref sig .tc) := {main_v0}
theorem H0_sub : H0 ⊆ Pipeline.restRefsP sig pre0 spec0 := by decide
theorem R0_sub : R0 ⊆ Pipeline.restRefsP sig pre0 spec0 \ H0 := by decide

/-- The kernel's own semaphore cells. -/
abbrev osem0 : Fin 7 → SemLoc sig := fun j => SemLoc.dma j
theorem ownSemFacts0 : Pipeline.OwnSemFacts spec0 osem0 := by decide

theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_region pcfgs 0 defs₀ 𝒱₀ m main fun c => (main_chain c).trans rfl

/-- The tables at the region's entry. -/
def tbl : pre0.Contents (Elt F) := fun j => V m (0 : Dev nD) (pre0.ref j)
theorem V_pre (c : Dev nD) (j : Fin 3) : V m c (pre0.ref j) = tbl m j := by
  obtain rfl : c = 0 := Subsingleton.elim _ _; rfl
abbrev adm : (pcfg0 (F := F)).Adm := ⟨tbl m, trivial⟩

theorem ownSems0_eq (c : Dev nD) :
    (Pipeline.ownSems0 (Ix := Unit) (Name := ℕ) (U := Pipeline.UD sig nD τ) (Lvl := ℕ) (Val := Elt F) (τ := τ) osem0 c : sProp 𝕄)
      = iprop(zeroAt c (lcell 0) ∗ zeroAt c (lcell 1) ∗ zeroAt c (lcell 2) ∗ zeroAt c (cell 0) ∗ zeroAt c (cell 1) ∗ zeroAt c (cell 2) ∗ zeroAt c zcell) := by
  rw [Pipeline.ownSems0_eq_of_list c osem0 [0, 1, 2, 3, 4, 5, 6] (by decide) (by decide)]; rfl

theorem read_eq (c : Dev nD) :
    (bigSep H0 (fun b => ((c : Thread nD τ).loc b) ↦{fullShare} V m c b) : sProp 𝕄) = hAt c Finset.univ (dataOf m c).h := by
  rw [BI.bigSep_eq_bigSepL_of_eq [main_arg3] (by decide) (by decide)]; rfl

theorem written_eq (c : Dev nD) (W : (b : Ref sig .tc) → Buf (Elt F) ((c : Thread nD τ).loc b)) :
    (Pipeline.routed R0 c W : sProp 𝕄) = xsAt c Finset.univ (W main_v0) := by
  unfold Pipeline.routed
  rw [BI.bigSep_eq_bigSepL_of_eq [main_v0] (by decide) (by decide)]; rfl

theorem tables_eq (c : Dev nD) :
    (Pipeline.ΦT (U := Pipeline.UD sig nD τ) pre0 (tbl m) c : sProp 𝕄)
      = iprop(tab1 c (dataOf m c) ∗ tab2 c (dataOf m c) ∗ tab3 c (dataOf m c)) := by
  obtain rfl : c = 0 := Subsingleton.elim _ _
  show Pipeline.prefHeld _ _ _ _ = _
  unfold Pipeline.prefHeld
  rw [BI.bigSep_eq_bigSepL_of_eq [0, 1, 2] (by decide) (by decide)]; rfl

/-- The region's own holdings, with the table of rows at `W`. -/
def Held (c : Dev nD) (W : S73728x1024.Idx → Elt F .f32) : sProp 𝕄 :=
  iprop(((∃ f, stAt c Finset.univ fullShare f) ∗ (∃ f, zAt c Finset.univ fullShare f)) ∗ (∃ r, prngReg c r)
    ∗ (zeroAt c (lcell 0) ∗ zeroAt c (lcell 1) ∗ zeroAt c (lcell 2) ∗ zeroAt c (cell 0) ∗ zeroAt c (cell 1) ∗ zeroAt c (cell 2) ∗ zeroAt c zcell)
    ∗ hAt c Finset.univ (dataOf m c).h ∗ xsAt c Finset.univ W)

theorem held_eq (c : Dev nD) (W : (c : Dev nD) → (b : Ref sig .tc) → Buf (Elt F) ((c : Thread nD τ).loc b)) :
    (Pipeline.ΦDRG osem0 spec0 H0 R0 (V m) W c : sProp 𝕄) = Held m c (W c main_v0) := by
  rw [Pipeline.ΦDRG_eq, scopedRest0_eq, ownSems0_eq, read_eq, written_eq]; rfl

/-- The invariant before the grid's one point and after it. -/
def dats (_ : Fin 1) (c : Dev nD) : Dat τ (Elt F) Unit ℕ (Pipeline.UD sig nD τ) ℕ (cfg0 (adm m)) c where
  A w := w.elim0
  after w _ := w.elim0
  Φ t := iprop(Held m c (if t.val = 0 then (dataOf m c).V else (dataOf m c).g) ∗ tab1 c (dataOf m c) ∗ tab2 c (dataOf m c) ∗ tab3 c (dataOf m c))
  q _ := fullShare
  owed _ := 0

/-- The body at the grid's one point. -/
theorem body_run (hX : ∀ c, (dataOf m c).X.OK) (c : Dev nD) (i : grid0.Coords) :
    iprop((Held m c (dataOf m c).V ∗ tab1 c (dataOf m c) ∗ tab2 c (dataOf m c) ∗ tab3 c (dataOf m c)) ∗ owing c)
      ⊢ wp frame (wpE (defs₀ (F := F)) Variants.none c none) Set.univ
        (cc0_moe_dispatch i (Memref.whole main_arg0) (Memref.isWhole_whole _) (Memref.whole main_arg1) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) cc0_scratch2 cc0_scratch3 cc0_scratch4) (fun _ => iprop((Held m c (dataOf m c).g ∗ tab1 c (dataOf m c) ∗ tab2 c (dataOf m c) ∗ tab3 c (dataOf m c)) ∗ owing c)) := by
  have hr : iprop(Given c (dataOf m c) ∗ (∃ r, prngReg c r)) ⊢ wp frame (wpE (defs₀ (F := F)) Variants.none c none) Set.univ
        (cc0_moe_dispatch i (Memref.whole main_arg0) (Memref.isWhole_whole _) (Memref.whole main_arg1) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) cc0_scratch2 cc0_scratch3 cc0_scratch4) (fun _ => iprop((∃ r, prngReg c r) ∗ Left c (dataOf m c))) :=
    (sep_comm.1.trans (sep_mono .rfl (kernel_run c (dataOf_ok m c (hX c)) rfl i))).trans (wp_frame_l _ _ _)
  have h1 : (iprop((Held m c (dataOf m c).V ∗ tab1 c (dataOf m c) ∗ tab2 c (dataOf m c) ∗ tab3 c (dataOf m c)) ∗ owing c) : sProp 𝕄)
      ⊢ iprop(Given c (dataOf m c) ∗ (∃ r, prngReg c r)) := by
    unfold Held Given
    iintro ⟨⟨⟨⟨S, Z⟩, Hg, ⟨L0, L1, L2, C0, C1, C2, CZ⟩, HH, HX⟩, T1, T2, T3⟩, HO⟩
    iframe
  have h2 : (iprop((∃ r, prngReg c r) ∗ Left c (dataOf m c)) : sProp 𝕄)
      ⊢ iprop((Held m c (dataOf m c).g ∗ tab1 c (dataOf m c) ∗ tab2 c (dataOf m c) ∗ tab3 c (dataOf m c)) ∗ owing c) := by
    unfold Held Left
    iintro ⟨Hg, HO, T1, T2, T3, HH, HX, S, Z, L0, L1, L2, C0, C1, C2, CZ⟩
    iframe
  exact h1.trans (hr.trans (wp_mono _ _ _ fun _ => h2))

theorem body_obligation (hX : ∀ c, (dataOf m c).X.OK) (c : Dev nD) :
    BodyObligation (dats (F := F) m 0 c) (defs₀ (F := F)) Variants.none () Set.univ := fun t => by
  have ht : t.val = 0 := by have := t.isLt; have e : (cfg0 (adm m)).N = 1 := N_0; omega
  have h0 : (dats m 0 c).Φ t.castSucc = iprop(Held m c (dataOf m c).V ∗ tab1 c (dataOf m c) ∗ tab2 c (dataOf m c) ∗ tab3 c (dataOf m c)) := by
    show iprop(Held m c (if t.val = 0 then _ else _) ∗ _) = _
    rw [if_pos ht]
  have h1 : (dats m 0 c).Φ t.succ = iprop(Held m c (dataOf m c).g ∗ tab1 c (dataOf m c) ∗ tab2 c (dataOf m c) ∗ tab3 c (dataOf m c)) := by
    show iprop(Held m c (if t.val + 1 = 0 then _ else _) ∗ _) = _
    rw [if_neg (Nat.succ_ne_zero _)]
  have ho : ∀ s, (dats m 0 c).owesAt () s ⊢ (owing c : sProp 𝕄) := fun s => by
    unfold Dat.owesAt Pipeline.owesWithin owing
    iintro ⟨%W, -, HW⟩; iexists W; iexact HW
  have ho' : ∀ s, (owing c : sProp 𝕄) ⊢ (dats m 0 c).owesAt () s := fun s => by
    unfold Dat.owesAt Pipeline.owesWithin owing
    iintro ⟨%W, HW⟩; iexists W
    isplitr
    · ipureintro; exact fun _ _ => Or.inl trivial
    · iexact HW
  have hrow : defs₀ (F := F) .tc (cfg0 (adm m)).body ((cfg0 (adm m)).bodyArgs t ((cfg0 (adm m)).slots t))
      = (let i := grid0.coords t; cc0_moe_dispatch i (Memref.whole main_arg0) (Memref.isWhole_whole _) (Memref.whole main_arg1) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) cc0_scratch2 cc0_scratch3 cc0_scratch4) := by
    unfold defs₀; rw [Defs.onTc_tc]
  rw [h0, h1, hrow, Finset.univ_eq_empty (α := Fin (cfg0 (adm m)).W), bigSep_empty]
  refine BI.Entails.trans (sep_mono .rfl ((sep_mono (ho _) .rfl).trans Laws.sep_emp.1)) ((body_run m hX c _).trans (wp_mono _ _ _ fun _ => ?_))
  exact sep_mono .rfl ((ho' _).trans Laws.sep_emp.2)

theorem enter (c : Dev nD) :
    (iprop(Pipeline.ΦDRG osem0 spec0 H0 R0 (V m) (V m) c ∗ Pipeline.ΦT (U := Pipeline.UD sig nD τ) pre0 (tbl m) c) : sProp 𝕄) ⊢ (dats m 0 c).Φ 0 := by
  rw [held_eq, tables_eq]; exact .rfl

theorem leave (c : Dev nD) :
    (dats m 0 c).Φ (Fin.last (cfg0 (adm m)).N) ⊢ (Pipeline.ΦDRG osem0 spec0 H0 R0 (V m) (G m) c : sProp 𝕄) := by
  rw [held_eq, G_out]
  have h1 : (dats m 0 c).Φ (Fin.last (cfg0 (adm m)).N) = iprop(Held m c (dataOf m c).g ∗ tab1 c (dataOf m c) ∗ tab2 c (dataOf m c) ∗ tab3 c (dataOf m c)) := by
    show iprop(Held m c (if (cfg0 (adm m)).N = 0 then _ else _) ∗ _) = _
    rw [if_neg (by rw [show (cfg0 (adm m)).N = 1 from N_0]; decide)]
  rw [h1]
  iintro ⟨H, -⟩
  iexact H

set_option backward.isDefEq.respectTransparency.types false in
theorem run_main (hX : ∀ c, (dataOf m c).X.OK) :
    θ_run defs (onTc (τ := τ) (main (F := F))) ⟨m, fun _ => 0, ρ⟩
      (fun r => Pipeline.FramePostRG (Pipeline.pin pcfgs fun _ => adm m) (dats m) 0 R0 (V m) (G m) r ∧ r.2.sem = fun _ => 0) :=
  Pipeline.θ_run_frameP_dmaRG (Q' := _) pcfgs (fun _ => adm m) (dats m) (0 : Fin 1) launch0 osem0 defs₀ Variants.none ownSemFacts0 H0 R0 H0_sub R0_sub m ρ main
    (hbody := fun c => (body_obligation m hX c).loose) (hshare := fun c w => w.elim0)
    (howed := fun _ _ => rfl) (V := V m) (hmain := hmain m Variants.none) (hA := fun c w => w.elim0) (hpf := V_pre m) (G := G m)
    (hin := fun c => enter m c) (hout := fun c => leave m c)

/-- THE RUN: the arguments unchanged, the table as the copies make it, every semaphore at zero. -/
theorem run (hX : ∀ c, (dataOf m c).X.OK) :
    θ_run defs (onTc (τ := τ) (main (F := F))) ⟨m, fun _ => 0, ρ⟩ (fun r => (∀ c : Dev nD,
      r.2.mem ((c.tc : Thread nD τ).loc main_v0) = (dataOf m c).g
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨(h.1.2 c main_v0 (Finset.mem_singleton_self _)).trans (G_out m c),
      (h.1.1 c).2 main_arg0 (Finset.mem_sdiff.mpr ⟨Pipeline.mem_restRefs_of main_arg0 (by decide) (fun w => w.elim0), by decide⟩),
      (h.1.1 c).2 main_arg1 (Finset.mem_sdiff.mpr ⟨Pipeline.mem_restRefs_of main_arg1 (by decide) (fun w => w.elim0), by decide⟩),
      (h.1.1 c).2 main_arg2 (Finset.mem_sdiff.mpr ⟨Pipeline.mem_restRefs_of main_arg2 (by decide) (fun w => w.elim0), by decide⟩),
      (h.1.1 c).2 main_arg3 (Finset.mem_sdiff.mpr ⟨Pipeline.mem_restRefs_of main_arg3 (by decide) (fun w => w.elim0), by decide⟩)⟩, h.2⟩) (run_main m ρ hX)

end Cert.KernelIdeal.Dispatch

end
-- ==== Proof.Dispatch.Pre.lean ====
/-
  What the precondition says: the conjunction the predicate computes over the words of the tables, read as facts of the
  tables of numbers.
-/
module

public import proofs.«01_k».proof.Pre_tables_ok
public import proofs.«01_k».proof.Proof.Dispatch.Frame
public import Idealize.ShloMosaic.Lib.StableHlo.Predicate
public import Idealize.ShloMosaic.Lib.ReduceAll
public import Idealize.ShloMosaic.Lib.SortFacts
public import Idealize.ShloMosaic.Lib.WordArith
public import Idealize.ShloMosaic.Lib.Affine
public import Idealize.ShloMosaic.Lib.Routing.OpsSet
public import Idealize.ShloMosaic.Lib.Routing.Ops
public import Idealize.ShloMosaic.Lib.Pipeline.Value

@[expose] public section

noncomputable section

namespace Cert.KernelIdeal.Dispatch.Tables

open Cert.KernelIdeal Cert.KernelIdeal.Dispatch
open Idealize.ShloMosaic Idealize.ShloMosaic.Routing
open Idealize.ShloMosaic.ValueIdx
open Idealize.ShloMosaic.StableHlo.Predicate

variable {F : FTy → Type} [FloatOps F]

/-! ## Signed comparisons of words in range -/

theorem lt_bound (x : BitVec 32) (h0 : IntOp.cmpi .sge x 0#32 = 1#1) (h1 : IntOp.cmpi .slt x 73728#32 = 1#1) :
    x.toNat < 73728 :=
  WordArith.toNat_lt_of_zero_sle_of_slt_ofNat x 73728 (by norm_num) ((ofBool_eq_one_iff _).1 h0) ((ofBool_eq_one_iff _).1 h1)

theorem le_bound (x : BitVec 32) (h0 : IntOp.cmpi .sge x 0#32 = 1#1) (h1 : IntOp.cmpi .sle x 73728#32 = 1#1) :
    x.toNat ≤ 73728 := by
  have a : BitVec.sle 0#32 x = true := (ofBool_eq_one_iff _).1 h0
  have b : BitVec.sle x 73728#32 = true := (ofBool_eq_one_iff _).1 h1
  have c : BitVec.slt x 73729#32 = true := by
    rw [BitVec.sle_eq_decide, decide_eq_true_eq] at b
    rw [BitVec.slt_eq_decide, decide_eq_true_eq]
    have e1 : (73728#32 : BitVec 32).toInt = 73728 := by decide
    have e2 : (73729#32 : BitVec 32).toInt = 73729 := by decide
    omega
  have := WordArith.toNat_lt_of_zero_sle_of_slt_ofNat x 73729 (by norm_num) a c
  omega

theorem sum_word (a b : BitVec 32) (ha : a.toNat ≤ 73728) (hb : b.toNat ≤ 73728) :
    (IntOp.addi a b).toNat = a.toNat + b.toNat := by
  show (a + b).toNat = _
  rw [BitVec.toNat_add, Nat.mod_eq_of_lt]
  omega

/-! ## The words the predicate looks at -/

section
variable (f1 f2 : S32768.Idx → BitVec 32) (f3 : S16.Idx → BitVec 32)
variable [Cert.Pre_tables_ok.Facts]

/-- All the rows, the first ones and then the second ones. -/
def rowsW : IVec (shape1 65536) 32 :=
  concatenate Cert.Pre_tables_ok.S65536 0 [⟨Cert.Pre_tables_ok.S32768, f1⟩, ⟨Cert.Pre_tables_ok.S32768, f2⟩]
    Cert.Pre_tables_ok.Facts.concatenates_S32768_S32768_S65536_d0

/-- The runs' first rows. -/
def firstW : IVec (shape1 8) 32 := extractStridedSlice Cert.Pre_tables_ok.S8 ![0] f3 Cert.Pre_tables_ok.Facts.slices_S16_S8_0

/-- The runs' lengths. -/
def countW : IVec (shape1 8) 32 := extractStridedSlice Cert.Pre_tables_ok.S8 ![8] f3 Cert.Pre_tables_ok.Facts.slices_S16_S8_8

theorem rowsW_left (k : Fin 65536) (h : k.val < 32768) : rowsW f1 f2 (ix1 k) = f1 (ix1 (⟨k.val, h⟩ : Fin 32768)) :=
  concatenate_pair_apply_left (t := Cert.Pre_tables_ok.S65536) 0 f1 f2 _ (ix1 k) rfl (ix1 (⟨k.val, h⟩ : Fin 32768)) (fun b => by
    match b with | ⟨0, _⟩ => rfl)

theorem rowsW_right (k : Fin 65536) (h : 32768 ≤ k.val) : rowsW f1 f2 (ix1 k) = f2 (ix1 (⟨k.val - 32768, by omega⟩ : Fin 32768)) :=
  concatenate_pair_apply_right (t := Cert.Pre_tables_ok.S65536) 0 f1 f2 _ (ix1 k) rfl rfl (ix1 (⟨k.val - 32768, by omega⟩ : Fin 32768))
    (fun b hb => by match b with | ⟨0, _⟩ => exact absurd rfl hb)
    (by show k.val - 32768 + 32768 = k.val; omega)

theorem firstW_at (e : Fin 8) : firstW f3 (ix1 e) = f3 (ix1 (⟨e.val, by omega⟩ : Fin 16)) := by
  refine (slice1 (m := 16) (n := 8) 0 f3 _ e (by omega)).trans ?_
  refine congrArg f3 (congrArg ix1 (Fin.ext ?_))
  show 0 + e.val = e.val; omega

theorem countW_at (e : Fin 8) : countW f3 (ix1 e) = f3 (ix1 (⟨8 + e.val, by omega⟩ : Fin 16)) :=
  slice1 (m := 16) (n := 8) 8 f3 _ e (by omega)

/-- Where copy `n`'s row is among all the rows. -/
def place (n : ℕ) : ℕ := if n % 2 = 0 then n / 2 else 32768 + n / 2

theorem place_lt {n : ℕ} (h : n < 65536) : place n < 65536 := by unfold place; split <;> omega

theorem place_inj {n m : ℕ} (hn : n < 65536) (hm : m < 65536) (h : place n = place m) : n = m := by
  unfold place at h; split at h <;> split at h <;> omega

theorem row_eq {n : ℕ} (h : n < 65536) : (tabOf f1 f2 f3).row n = (rowsW f1 f2 (ix1 ⟨place n, place_lt h⟩)).toNat := by
  have h2 : n / 2 < 32768 := by omega
  by_cases hp : n % 2 = 0
  · have hv : place n = n / 2 := if_pos hp
    rw [rowsW_left f1 f2 _ (by show place n < 32768; omega)]
    unfold Tab.row
    rw [if_pos hp]
    show dite _ _ _ = _
    rw [dif_pos h2]
    exact congrArg (fun i => (f1 (ix1 i)).toNat) (Fin.ext hv.symm)
  · have hv : place n = 32768 + n / 2 := if_neg hp
    rw [rowsW_right f1 f2 _ (by show 32768 ≤ place n; omega)]
    unfold Tab.row
    rw [if_neg hp]
    show dite _ _ _ = _
    rw [dif_pos h2]
    exact congrArg (fun i => (f2 (ix1 i)).toNat) (Fin.ext (by show n / 2 = place n - 32768; omega))

theorem pd_eq {e : ℕ} (h : e < 8) : (tabOf f1 f2 f3).pd e = (firstW f3 (ix1 ⟨e, h⟩)).toNat := by
  rw [firstW_at]; show dite _ _ _ = _; rw [dif_pos h]

theorem cn_eq {e : ℕ} (h : e < 8) : (tabOf f1 f2 f3).cn e = (countW f3 (ix1 ⟨e, h⟩)).toNat := by
  rw [countW_at]; show dite _ _ _ = _; rw [dif_pos h]

/-! ## The conjuncts -/

/-- The predicate's five conjuncts at the words. -/
theorem conjuncts (h : FVec F S32768x1024 .f32) (e : Cert.Pre_tables_ok.fn (F := F) f1 f2 f3 h = fun _ => 1#1) :
    (∀ k : Fin 65536, IntOp.cmpi .sge (rowsW f1 f2 (ix1 k)) 0#32 = 1#1 ∧ IntOp.cmpi .slt (rowsW f1 f2 (ix1 k)) 73728#32 = 1#1)
    ∧ (∀ k : Fin 65535, IntOp.cmpi .slt
        (Host.sort (shape1 65536) 0 Cert.Pre_tables_ok.comparator_i32_d0 (rowsW f1 f2) (ix1 ⟨k.val, by omega⟩))
        (Host.sort (shape1 65536) 0 Cert.Pre_tables_ok.comparator_i32_d0 (rowsW f1 f2) (ix1 ⟨1 + k.val, by omega⟩)) = 1#1)
    ∧ (∀ x : Fin 8, ((((IntOp.cmpi .sge (firstW f3 (ix1 x)) 0#32 = 1#1 ∧ IntOp.cmpi .sle (firstW f3 (ix1 x)) 73728#32 = 1#1)
        ∧ IntOp.cmpi .sge (countW f3 (ix1 x)) 0#32 = 1#1) ∧ IntOp.cmpi .sle (countW f3 (ix1 x)) 73728#32 = 1#1)
        ∧ IntOp.cmpi .sle (IntOp.addi (firstW f3 (ix1 x)) (countW f3 (ix1 x))) 73728#32 = 1#1))
    ∧ (∀ x y : Fin 8, (IntOp.cmpi .eq (BitVec.ofNat 32 x.val) (BitVec.ofNat 32 y.val) = 1#1
        ∨ IntOp.cmpi .sle (IntOp.addi (firstW f3 (ix1 x)) (countW f3 (ix1 x))) (firstW f3 (ix1 y)) = 1#1)
        ∨ IntOp.cmpi .sle (IntOp.addi (firstW f3 (ix1 y)) (countW f3 (ix1 y))) (firstW f3 (ix1 x)) = 1#1)
    ∧ (∀ (k : Fin 65536) (x : Fin 8), IntOp.cmpi .slt (rowsW f1 f2 (ix1 k)) (firstW f3 (ix1 x)) = 1#1
        ∨ IntOp.cmpi .sle (IntOp.addi (firstW f3 (ix1 x)) (countW f3 (ix1 x))) (rowsW f1 f2 (ix1 k)) = 1#1) := by
  haveI : Subsingleton Cert.Pre_tables_ok.S_.Idx := ⟨fun a b => funext fun i => i.elim0⟩
  have e0 := congrFun e Idealize.ShloMosaic.ValueIdx.ix0
  obtain ⟨e1, hE⟩ := IntOp.andi_eq_one.1 (e0 : IntOp.andi _ _ = 1#1)
  obtain ⟨e2, hD⟩ := IntOp.andi_eq_one.1 (e1 : IntOp.andi _ _ = 1#1)
  obtain ⟨e3, hC⟩ := IntOp.andi_eq_one.1 (e2 : IntOp.andi _ _ = 1#1)
  obtain ⟨hA, hB⟩ := IntOp.andi_eq_one.1 (e3 : IntOp.andi _ _ = 1#1)
  refine ⟨fun k => ?_, fun k => ?_, fun x => ?_, fun x y => ?_, fun k x => ?_⟩
  · exact IntOp.andi_eq_one.1 (Host.reduce_andi_all _ _ _ _ _ hA (ix1 k))
  · have q := Host.reduce_andi_all _ _ _ _ _ hB (ix1 k)
    have q' : IntOp.cmpi .slt
        (extractStridedSlice (shape1 65535) ![0] (Host.sort (shape1 65536) 0 Cert.Pre_tables_ok.comparator_i32_d0 (rowsW f1 f2))
          Cert.Pre_tables_ok.Facts.slices_S65536_S65535_0 (ix1 k))
        (extractStridedSlice (shape1 65535) ![1] (Host.sort (shape1 65536) 0 Cert.Pre_tables_ok.comparator_i32_d0 (rowsW f1 f2))
          Cert.Pre_tables_ok.Facts.slices_S65536_S65535_1 (ix1 k)) = 1#1 := q
    rw [slice1 (m := 65536) (n := 65535) 0 _ _ k (by omega), slice1 (m := 65536) (n := 65535) 1 _ _ k (by omega)] at q'
    have z : (⟨0 + k.val, by omega⟩ : Fin 65536) = ⟨k.val, by omega⟩ := Fin.ext (Nat.zero_add _)
    rw [z] at q'
    exact q'
  · have q := Host.reduce_andi_all _ _ _ _ _ hC (ix1 x)
    obtain ⟨q1, p5⟩ := IntOp.andi_eq_one.1 (q : IntOp.andi _ _ = 1#1)
    obtain ⟨q2, p4⟩ := IntOp.andi_eq_one.1 (q1 : IntOp.andi _ _ = 1#1)
    obtain ⟨q3, p3⟩ := IntOp.andi_eq_one.1 (q2 : IntOp.andi _ _ = 1#1)
    obtain ⟨p1, p2⟩ := IntOp.andi_eq_one.1 (q3 : IntOp.andi _ _ = 1#1)
    exact ⟨⟨⟨⟨p1, p2⟩, p3⟩, p4⟩, p5⟩
  · have q := Host.reduce_andi_all _ _ _ _ _ hD (ix2 x y)
    rcases IntOp.ori_eq_one.1 (q : IntOp.ori _ _ = 1#1) with q1 | p3
    · left
      rcases IntOp.ori_eq_one.1 (q1 : IntOp.ori _ _ = 1#1) with p1 | p2
      · left
        have p : IntOp.cmpi .eq _ _ = 1#1 := p1
        rw [bcRows (n := 8) (m := 8), bcCols (n := 8) (m := 8)] at p
        exact p
      · right
        have p : IntOp.cmpi .sle _ _ = 1#1 := p2
        rw [bcRows (n := 8) (m := 8), bcCols (n := 8) (m := 8)] at p
        exact p
    · right
      have p : IntOp.cmpi .sle _ _ = 1#1 := p3
      rw [bcRows (n := 8) (m := 8), bcCols (n := 8) (m := 8)] at p
      exact p
  · have q := Host.reduce_andi_all _ _ _ _ _ hE (ix2 k x)
    rcases IntOp.ori_eq_one.1 (q : IntOp.ori _ _ = 1#1) with p1 | p2
    · left
      have p : IntOp.cmpi .slt _ _ = 1#1 := p1
      rw [bcRows (n := 65536) (m := 8), bcCols (n := 65536) (m := 8)] at p
      exact p
    · right
      have p : IntOp.cmpi .sle _ _ = 1#1 := p2
      rw [bcRows (n := 65536) (m := 8), bcCols (n := 65536) (m := 8)] at p
      exact p

/-- A list whose neighbours increase is strictly increasing. -/
theorem strict_of_step {N : ℕ} (f : ℕ → ℕ) (h : ∀ k, k + 1 < N → f k < f (k + 1)) (d : ℕ) :
    ∀ k, k + d + 1 < N → f k < f (k + d + 1) := by
  induction d with
  | zero => exact fun k hk => h k hk
  | succ d ih => exact fun k hk => (ih k (by omega)).trans (h (k + d + 1) hk)

/-- The precondition, read as facts of the tables. -/
theorem ok_of_pre (h : FVec F S32768x1024 .f32) (e : Cert.Pre_tables_ok.fn (F := F) f1 f2 f3 h = fun _ => 1#1) :
    (tabOf f1 f2 f3).OK := by
  obtain ⟨hA, hB, hC, hD, hE⟩ := conjuncts f1 f2 f3 h e
  have hrow : ∀ k : Fin 65536, (rowsW f1 f2 (ix1 k)).toNat < 73728 := fun k => lt_bound _ (hA k).1 (hA k).2
  have hfirst : ∀ x : Fin 8, (firstW f3 (ix1 x)).toNat ≤ 73728 := fun x => le_bound _ (hC x).1.1.1.1 (hC x).1.1.1.2
  have hcount : ∀ x : Fin 8, (countW f3 (ix1 x)).toNat ≤ 73728 := fun x => le_bound _ (hC x).1.1.2 (hC x).1.2
  have hpast : ∀ x : Fin 8, (IntOp.addi (firstW f3 (ix1 x)) (countW f3 (ix1 x))).toNat
      = (firstW f3 (ix1 x)).toNat + (countW f3 (ix1 x)).toNat := fun x => sum_word _ _ (hfirst x) (hcount x)
  have c31 : (73728#32 : BitVec 32).toNat = 73728 := by decide
  have hinj : Function.Injective fun j => (rowsW f1 f2 j).toNat := by
    refine injective_toNat_of_sort_strict Cert.Pre_tables_ok.comparator_i32_d0 (rowsW f1 f2) fun k k' hk => ?_
    have hs : ∀ j : Fin 65536, (Host.sort (shape1 65536) 0 Cert.Pre_tables_ok.comparator_i32_d0 (rowsW f1 f2) (ix1 j)).toNat < 73728 := by
      intro j
      have hj : (ix1 j : (shape1 65536).Idx) = Shape.Idx.ofFin j := by
        funext a; match a with | ⟨0, _⟩ => rfl
      rw [hj]
      obtain ⟨i, hi⟩ : ∃ i, Host.sort (shape1 65536) 0 Cert.Pre_tables_ok.comparator_i32_d0 (rowsW f1 f2) (Shape.Idx.ofFin j) = rowsW f1 f2 i :=
        ⟨_, Host.sort_rank1 _ _ _⟩
      rw [hi, eq_ix1 i]
      exact hrow _
    let f : ℕ → ℕ := fun j => if hj : j < 65536 then
      (Host.sort (shape1 65536) 0 Cert.Pre_tables_ok.comparator_i32_d0 (rowsW f1 f2) (ix1 ⟨j, hj⟩)).toNat else 0
    have hf : ∀ j, j + 1 < 65536 → f j < f (j + 1) := by
      intro j hj
      have b := hB ⟨j, by omega⟩
      rw [slt_iff_toNat (lt_trans (hs ⟨j, by omega⟩) (by norm_num)) (lt_trans (hs ⟨1 + j, by omega⟩) (by norm_num))] at b
      have e1 : f j = _ := dif_pos (show j < 65536 by omega)
      have e2 : f (j + 1) = _ := dif_pos hj
      rw [e1, e2]
      have e3 : (⟨1 + j, by omega⟩ : Fin 65536) = ⟨j + 1, hj⟩ := Fin.ext (Nat.add_comm 1 j)
      rw [← e3]
      exact b
    have := strict_of_step f hf (k'.val - k.val - 1) k.val (by have := k'.isLt; have : k.val < k'.val := hk; omega)
    have e4 : k.val + (k'.val - k.val - 1) + 1 = k'.val := by have : k.val < k'.val := hk; omega
    rw [e4] at this
    have e1 : f k.val = _ := dif_pos k.isLt
    have e2 : f k'.val = _ := dif_pos k'.isLt
    rw [e1, e2] at this
    have i1 : ∀ j : Fin 65536, (ix1 j : (shape1 65536).Idx) = Shape.Idx.ofFin j := fun j => by
      funext a; match a with | ⟨0, _⟩ => rfl
    rw [i1, i1] at this
    exact this
  refine ⟨fun n hn => ?_, fun n m hn hm hh => ?_, fun x hx => ?_, fun x y hx hy hxy => ?_, fun n x hn hx => ?_⟩
  · rw [row_eq f1 f2 f3 hn]; exact hrow _
  · rw [row_eq f1 f2 f3 hn, row_eq f1 f2 f3 hm] at hh
    have := congrFun (hinj hh) 0
    exact place_inj hn hm (congrArg Fin.val (this : (⟨place n, place_lt hn⟩ : Fin 65536) = ⟨place m, place_lt hm⟩))
  · rw [pd_eq f1 f2 f3 hx, cn_eq f1 f2 f3 hx, ← hpast]
    have f := hfirst ⟨x, hx⟩
    have g := hcount ⟨x, hx⟩
    have b := (hC ⟨x, hx⟩).2
    rw [sle_iff_toNat (by rw [hpast]; omega) (by rw [c31]; omega), c31] at b
    exact b
  · have f := hfirst ⟨x, hx⟩
    have g := hcount ⟨x, hx⟩
    have f' := hfirst ⟨y, hy⟩
    have g' := hcount ⟨y, hy⟩
    rw [pd_eq f1 f2 f3 hx, cn_eq f1 f2 f3 hx, pd_eq f1 f2 f3 hy, cn_eq f1 f2 f3 hy, ← hpast, ← hpast]
    rcases hD ⟨x, hx⟩ ⟨y, hy⟩ with (a | a) | a
    · refine absurd (congrArg BitVec.toNat (cmpi_eq_iff.1 a)) ?_
      show ¬ (BitVec.ofNat 32 x).toNat = (BitVec.ofNat 32 y).toNat
      rw [BitVec.toNat_ofNat, BitVec.toNat_ofNat, Nat.mod_eq_of_lt (by omega), Nat.mod_eq_of_lt (by omega)]
      exact hxy
    · left
      rwa [sle_iff_toNat (by rw [hpast]; omega) (by omega)] at a
    · right
      rwa [sle_iff_toNat (by rw [hpast]; omega) (by omega)] at a
  · have f := hfirst ⟨x, hx⟩
    have g := hcount ⟨x, hx⟩
    have r := hrow ⟨place n, place_lt hn⟩
    rw [row_eq f1 f2 f3 hn, pd_eq f1 f2 f3 hx, cn_eq f1 f2 f3 hx, ← hpast]
    rcases hE ⟨place n, place_lt hn⟩ ⟨x, hx⟩ with a | a
    · left
      rwa [slt_iff_toNat (by omega) (by omega)] at a
    · right
      rwa [sle_iff_toNat (by rw [hpast]; omega) (by omega)] at a

end

end Cert.KernelIdeal.Dispatch.Tables
-- ==== Proof.Dispatch.Value.lean ====
/-
  The reference's table of rows, read at the rows the mask marks: a token's row holds the token, a padding row holds
  zero. The kernel's table holds the same there.
-/
module

public import proofs.«01_k».proof.On_rows_written
public import proofs.«01_k».proof.Proof.Gen.ReferenceIdeal.Run
public import proofs.«01_k».proof.Proof.Dispatch.Pre

@[expose] public section

noncomputable section

namespace Cert.KernelIdeal.Dispatch.Tables

open Cert.KernelIdeal Cert.KernelIdeal.Dispatch
open Idealize.ShloMosaic Idealize.ShloMosaic.Routing
open Idealize.ShloMosaic.ValueIdx
open Idealize.ShloMosaic.StableHlo.Predicate

variable {F : FTy → Type} [FloatOps F]

/-! ## Where an update lands -/

/-- One index word per update of a vector: update `k` starts at its word. -/
theorem start_word {s u : Shape} {U : ℕ} (d : ScatterDims s (shape2 U 1) u) (a0 : Fin s.rank) (hsd : d.scatterDimsToOperandDims = [a0])
    (hivd : d.indexVectorDim = 1) (idx : IVec (shape2 U 1) 32) (j : u.Idx) (k : Fin U)
    (hk : ∀ hb, (d.siCoord j (0 : Fin 2) hb).val = k.val) : d.start j idx a0 = (idx (ix2 k (0 : Fin 1))).toInt := by
  have hm : a0 ∈ d.scatterDimsToOperandDims := by rw [hsd]; exact List.mem_singleton.2 rfl
  unfold ScatterDims.start
  rw [dif_pos hm]
  have hsi : d.siIdx j ⟨d.scatterDimsToOperandDims.idxOf a0, List.idxOf_lt_length_iff.2 hm⟩ = ix2 k (0 : Fin 1) := by
    funext b'
    apply Fin.ext
    match b' with
    | ⟨0, _⟩ =>
      unfold ScatterDims.siIdx
      rw [dif_neg (by rw [hivd]; exact Nat.zero_ne_one)]
      exact hk _
    | ⟨1, _⟩ =>
      unfold ScatterDims.siIdx
      rw [dif_pos (by rw [hivd])]
      show List.idxOf a0 d.scatterDimsToOperandDims = 0
      rw [hsd]; simp
  rw [hsi]

/-- A scalar per index word, into a vector. -/
theorem lands_vec {N U : ℕ} (d : ScatterDims (shape1 N) (shape2 U 1) (shape1 U)) (hiw : d.insertedWindowDims = [0])
    (hsd : d.scatterDimsToOperandDims = [0]) (hivd : d.indexVectorDim = 1) (idx : IVec (shape2 U 1) 32) (k : Fin U) (r : Fin N) :
    d.resultIdx? (ix1 k) idx = some (ix1 r) ↔ (idx (ix2 k (0 : Fin 1))).toInt = (r.val : Int) := by
  have hwin : d.window (ix1 k) 0 = 0 := by
    unfold ScatterDims.window
    rw [dif_neg fun h => (of_decide_eq_true (List.mem_filter.1 h).2) (by rw [hiw]; exact List.mem_singleton.2 rfl)]
  have hst : d.start (ix1 k) idx 0 = (idx (ix2 k (0 : Fin 1))).toInt := by
    refine start_word d 0 hsd hivd idx (ix1 k) k fun hb => ?_
    unfold ScatterDims.siCoord
    simp only [Fin.val_cast]
    have e : ∀ X : Fin 1, (ix1 k X).val = k.val := fun X => by
      obtain rfl : X = 0 := Subsingleton.elim _ _
      rfl
    exact e _
  rw [resultIdx?_ix1, hst, hwin]
  simp

/-- A row per index word, into a matrix of rows as long. -/
theorem lands_row {R C U : ℕ} (d : ScatterDims (shape2 R C) (shape2 U 1) (shape2 U C)) (huw : d.updateWindowDims = [1])
    (hiw : d.insertedWindowDims = [0]) (hsd : d.scatterDimsToOperandDims = [0]) (hivd : d.indexVectorDim = 1)
    (idx : IVec (shape2 U 1) 32) (k : Fin U) (j : Fin C) (r : Fin R) (c : Fin C) :
    d.resultIdx? (ix2 k j) idx = some (ix2 r c) ↔ (idx (ix2 k (0 : Fin 1))).toInt = (r.val : Int) ∧ j = c := by
  have hkept : d.sKept = [1] := by
    show (shape2 R C).kept d.insertedWindowDims = _
    rw [hiw]; rfl
  have hw0 : d.window (ix2 k j) 0 = 0 := by
    unfold ScatterDims.window
    rw [dif_neg fun h => (of_decide_eq_true (List.mem_filter.1 h).2) (by rw [hiw]; exact List.mem_singleton.2 rfl)]
  have hw1 : d.window (ix2 k j) 1 = j.val := by
    unfold ScatterDims.window
    rw [dif_pos (by rw [hkept]; exact List.mem_singleton.2 rfl)]
    have e : ∀ X : Fin 2, X = 1 → ((ix2 k j : (shape2 U C).Idx) X).val = j.val := fun X hX => by subst hX; rfl
    refine e _ ?_
    have q : ∀ (l : List (Fin 2)) (hl : l = [1]) (n : ℕ) (hn : n < l.length), l[n] = 1 := by
      intro l hl n hn; subst hl
      have : n = 0 := by simpa using hn
      subst this; rfl
    exact q _ huw _ _
  have hs1 : d.start (ix2 k j) idx 1 = 0 := by
    unfold ScatterDims.start
    rw [dif_neg fun h => by rw [hsd] at h; exact absurd (List.mem_singleton.1 h) (by decide : (1 : Fin 2) ≠ 0)]
  have hs0 : d.start (ix2 k j) idx 0 = (idx (ix2 k (0 : Fin 1))).toInt := by
    refine start_word d 0 hsd hivd idx (ix2 k j) k fun hb => ?_
    have husc : d.uScatter = [0] := by
      show (shape2 U C).kept d.updateWindowDims = _
      rw [huw]; rfl
    unfold ScatterDims.siCoord
    simp only [Fin.val_cast]
    have e : ∀ X : Fin 2, X = 0 → ((ix2 k j : (shape2 U C).Idx) X).val = k.val := fun X hX => by subst hX; rfl
    refine e _ ?_
    have q : ∀ (l : List (Fin 2)) (hl : l = [0]) (n : ℕ) (hn : n < l.length), l[n] = 0 := by
      intro l hl n hn; subst hl
      have : n = 0 := by simpa using hn
      subst this; rfl
    exact q _ husc _ _
  rw [resultIdx?_ix2, hs0, hs1, hw0, hw1, Fin.ext_iff]
  omega

/-! ## The index words -/

/-- The index words of a table as `.at[…]` takes them: a negative one counted from the end. -/
def wrapped (h1 : (shape0).BroadcastsInDim (shape1 32768) (![] : Fin 0 → Fin (shape1 32768).rank))
    (h2 : (shape1 32768).BroadcastsInDim (shape2 32768 1) (![0] : Fin 1 → Fin (shape2 32768 1).rank)) (f : IVec (shape1 32768) 32) :
    IVec (shape2 32768 1) 32 :=
  broadcastInDim (shape2 32768 1) ![0] h2
    (select (cmpi .slt f (broadcastInDim (shape1 32768) ![] h1 (constantI shape0 32 0#32)))
      (addi f (broadcastInDim (shape1 32768) ![] h1 (constantI shape0 32 73728#32))) f)

theorem wrapped_at (h1) (h2) (f : IVec (shape1 32768) 32) (k : Fin 32768) (hf : (f (ix1 k)).toNat < 2 ^ 31) :
    wrapped h1 h2 f (ix2 k (0 : Fin 1)) = f (ix1 k) :=
  (bcCol h2 _ k).trans (wrap_of_lt (f (ix1 k)) _ hf)

theorem wrapped_toInt (h1) (h2) (f : IVec (shape1 32768) 32) (k : Fin 32768) (hf : (f (ix1 k)).toNat < 73728) :
    (wrapped h1 h2 f (ix2 k (0 : Fin 1))).toInt = ((f (ix1 k)).toNat : Int) := by
  rw [wrapped_at h1 h2 f k (by omega), toInt_eq_toNat_of_lt (by omega)]

/-! ## The tables' rows -/

section
variable (f1 f2 : S32768.Idx → BitVec 32) (f3 : S16.Idx → BitVec 32)

theorem row_even (t : Fin 32768) : (tabOf f1 f2 f3).row (2 * t.val) = (f1 (ix1 t)).toNat := by
  unfold Tab.row
  rw [if_pos (by omega)]
  have e : 2 * t.val / 2 = t.val := by omega
  rw [e]
  show dite _ _ _ = _
  rw [dif_pos t.isLt]

theorem row_odd (t : Fin 32768) : (tabOf f1 f2 f3).row (2 * t.val + 1) = (f2 (ix1 t)).toNat := by
  unfold Tab.row
  rw [if_neg (by omega)]
  have e : (2 * t.val + 1) / 2 = t.val := by omega
  rw [e]
  show dite _ _ _ = _
  rw [dif_pos t.isLt]

variable {f1 f2 f3} (hX : (tabOf f1 f2 f3).OK)
include hX

theorem first_lt (t : Fin 32768) : (f1 (ix1 t)).toNat < 73728 := by
  rw [← row_even f1 f2 f3 t]; exact hX.row_lt _ (by omega)
theorem second_lt (t : Fin 32768) : (f2 (ix1 t)).toNat < 73728 := by
  rw [← row_odd f1 f2 f3 t]; exact hX.row_lt _ (by omega)
theorem first_inj (t t' : Fin 32768) (h : (f1 (ix1 t)).toNat = (f1 (ix1 t')).toNat) : t = t' := by
  rw [← row_even f1 f2 f3 t, ← row_even f1 f2 f3 t'] at h
  have := hX.row_inj _ _ (by omega) (by omega) h
  exact Fin.ext (by omega)
theorem second_inj (t t' : Fin 32768) (h : (f2 (ix1 t)).toNat = (f2 (ix1 t')).toNat) : t = t' := by
  rw [← row_odd f1 f2 f3 t, ← row_odd f1 f2 f3 t'] at h
  have := hX.row_inj _ _ (by omega) (by omega) h
  exact Fin.ext (by omega)
theorem first_ne_second (t t' : Fin 32768) : (f1 (ix1 t)).toNat ≠ (f2 (ix1 t')).toNat := by
  intro h
  rw [← row_even f1 f2 f3 t, ← row_odd f1 f2 f3 t'] at h
  have := hX.row_inj _ _ (by omega) (by omega) h
  omega

end

/-! ## The reference's rows -/

section
open Cert.ReferenceIdeal.Gen

variable (f1 f2 : S32768.Idx → BitVec 32) (f3 : S16.Idx → BitVec 32) (h : FVec F S32768x1024 .f32)

/-- One `.at[…].set(h)` of the reference. -/
def setRows (f : IVec (shape1 32768) 32) (x : FVec F S73728x1024 .f32) : FVec F S73728x1024 .f32 :=
  Host.scatter Cert.ReferenceIdeal.scatter_S73728x1024_S32768x1_S32768x1024_1_0_0_1 (fun _ b => b) x
    (wrapped Cert.ReferenceIdeal.Facts₀.bcast_S_S32768 Cert.ReferenceIdeal.Facts₀.bcast_S32768_S32768x1_0 f) h

/-- The reference's zeros. -/
def zeroRows : FVec F S73728x1024 .f32 :=
  broadcastInDim Cert.ReferenceIdeal.S73728x1024 ![] Cert.ReferenceIdeal.Facts₀.bcast_S_S73728x1024 (constant Cert.ReferenceIdeal.S_ .f32 0x00000000#32)

theorem setRows_hit (f : IVec (shape1 32768) 32) (x : FVec F S73728x1024 .f32) (hlt : ∀ t, (f (ix1 t)).toNat < 73728)
    (hinj : ∀ t t', (f (ix1 t)).toNat = (f (ix1 t')).toNat → t = t') (t : Fin 32768) (r : Fin 73728) (c : Fin 1024)
    (hr : (f (ix1 t)).toNat = r.val) : setRows h f x (ix2 r c) = h (ix2 t c) := by
  have hl := fun k j => lands_row Cert.ReferenceIdeal.scatter_S73728x1024_S32768x1_S32768x1024_1_0_0_1 rfl rfl rfl rfl
    (wrapped Cert.ReferenceIdeal.Facts₀.bcast_S_S32768 Cert.ReferenceIdeal.Facts₀.bcast_S32768_S32768x1_0 f) k j r c
  refine scatter_set_hit _ _ _ _ _ _ (fun k hk => ?_) (ix2 t c) ((hl t c).2 ⟨?_, rfl⟩)
  · obtain ⟨a, b, rfl⟩ : ∃ (a : Fin 32768) (b : Fin 1024), k = ix2 a b := ⟨k 0, k 1, eq_ix2 k⟩
    obtain ⟨h1, h2⟩ := (hl a b).1 hk
    rw [wrapped_toInt _ _ f a (hlt a)] at h1
    have : a = t := hinj _ _ (by omega)
    rw [this, h2]
  · rw [wrapped_toInt _ _ f t (hlt t), hr]

theorem setRows_miss (f : IVec (shape1 32768) 32) (x : FVec F S73728x1024 .f32) (hlt : ∀ t, (f (ix1 t)).toNat < 73728)
    (r : Fin 73728) (c : Fin 1024) (hr : ∀ t, (f (ix1 t)).toNat ≠ r.val) : setRows h f x (ix2 r c) = x (ix2 r c) := by
  refine scatter_set_miss _ _ _ _ _ fun k hk => ?_
  obtain ⟨a, b, rfl⟩ : ∃ (a : Fin 32768) (b : Fin 1024), k = ix2 a b := ⟨k 0, k 1, eq_ix2 k⟩
  obtain ⟨h1, h2⟩ := (lands_row Cert.ReferenceIdeal.scatter_S73728x1024_S32768x1_S32768x1024_1_0_0_1 rfl rfl rfl rfl _ a b r c).1 hk
  rw [wrapped_toInt _ _ f a (hlt a)] at h1
  exact hr a (by omega)

/-- The reference's result. -/
def refRows : FVec F S73728x1024 .f32 := setRows h f2 (setRows h f1 zeroRows)

/-! ## The rows the mask marks -/

variable [Cert.Pre_tables_ok.Facts] [Cert.On_rows_written.Facts]

theorem foldl_ori_eq_one {ι : Type} (f : ι → BitVec 1) :
    ∀ (l : List ι) (init : BitVec 1), l.foldl (fun r n => IntOp.ori r (f n)) init = 1#1 → init = 1#1 ∨ ∃ n ∈ l, f n = 1#1
  | [], init, h => Or.inl h
  | a :: l, init, h => by
    rcases foldl_ori_eq_one f l _ h with h1 | ⟨n, hn, h2⟩
    · rcases IntOp.ori_eq_one.1 h1 with hi | ha
      · exact Or.inl hi
      · exact Or.inr ⟨a, List.mem_cons_self .., ha⟩
    · exact Or.inr ⟨n, List.mem_cons_of_mem _ hn, h2⟩

/-- A disjunction over a row of eight that came out true had a true term. -/
theorem reduce_ori_row {R : ℕ} (x : (shape2 R 8).Idx → BitVec 1) (hh : (shape2 R 8).ReducesTo [1] (shape1 R)) (hu : 0 < shape0.numel)
    (r : Fin R) (e : Host.reduce IntOp.ori x (constantI shape0 1 0#1) hh hu (ix1 r) = 1#1) : ∃ k : Fin 8, x (ix2 r k) = 1#1 := by
  rw [Host.reduce_eq_foldl] at e
  rcases foldl_ori_eq_one _ _ _ e with h0 | ⟨n, hn, h1⟩
  · exact absurd h0 (by show ¬ (0#1 : BitVec 1) = 1#1; decide)
  · rw [List.mem_filter] at hn
    have hd : hh.drop n = ix1 r := of_decide_eq_true (by simpa using hn.2)
    obtain ⟨a, b, rfl⟩ : ∃ (a : Fin R) (b : Fin 8), n = ix2 a b := ⟨n 0, n 1, eq_ix2 n⟩
    have : a = r := by
      have q := congrFun hd 0
      exact q
    exact ⟨b, this ▸ h1⟩

/-- A marked element's row is in a padding run or is a token's. -/
theorem mask_cases (r : Fin 73728) (c : Fin 1024) (hX : (tabOf f1 f2 f3).OK)
    (e : Cert.On_rows_written.fn (F := F) f1 f2 f3 h (ix2 r c) = 1#1) :
    (∃ x : Fin 8, (tabOf f1 f2 f3).pd x.val ≤ r.val ∧ r.val < (tabOf f1 f2 f3).pd x.val + (tabOf f1 f2 f3).cn x.val)
      ∨ (∃ t, (f1 (ix1 t)).toNat = r.val) ∨ ∃ t, (f2 (ix1 t)).toNat = r.val := by
  have e1 := e
  unfold Cert.On_rows_written.fn Cert.On_rows_written.fn_part1 Cert.On_rows_written.fn_part2 at e1
  dsimp only at e1
  rw [bcRows (n := 73728) (m := 1024)] at e1
  rcases IntOp.ori_eq_one.1 (e1 : IntOp.ori _ _ = 1#1) with a | a
  · left
    obtain ⟨x, hx⟩ := reduce_ori_row _ _ _ r a
    obtain ⟨h1, h2⟩ := IntOp.andi_eq_one.1 (hx : IntOp.andi _ _ = 1#1)
    have p1 : IntOp.cmpi .sle _ _ = 1#1 := h1
    have p2 : IntOp.cmpi .slt _ _ = 1#1 := h2
    rw [bcRows (n := 73728) (m := 8), bcCols (n := 73728) (m := 8)] at p1 p2
    have q1 : IntOp.cmpi .sle (firstW f3 (ix1 x)) (BitVec.ofNat 32 r.val) = 1#1 := p1
    have q2 : IntOp.cmpi .slt (BitVec.ofNat 32 r.val) (IntOp.addi (firstW f3 (ix1 x)) (countW f3 (ix1 x))) = 1#1 := p2
    have hr : (BitVec.ofNat 32 r.val).toNat = r.val := by
      rw [BitVec.toNat_ofNat]; exact Nat.mod_eq_of_lt (by have := r.isLt; omega)
    have hp := pd_eq f1 f2 f3 x.isLt
    have hc := cn_eq f1 f2 f3 x.isLt
    have hb := hX.run_lt x.val x.isLt
    rw [hp, hc] at hb
    have hs : (IntOp.addi (firstW f3 (ix1 x)) (countW f3 (ix1 x))).toNat = (firstW f3 (ix1 x)).toNat + (countW f3 (ix1 x)).toNat :=
      sum_word _ _ (le_trans (Nat.le_add_right _ _) hb) (le_trans (Nat.le_add_left _ _) hb)
    have hr' := r.isLt
    rw [sle_iff_toNat (by change (firstW f3 (ix1 x)).toNat + (countW f3 (ix1 x)).toNat ≤ 73728 at hb; omega) (by rw [hr]; omega), hr] at q1
    rw [slt_iff_toNat (by rw [hr]; omega) (by rw [hs]; change (firstW f3 (ix1 x)).toNat + (countW f3 (ix1 x)).toNat ≤ 73728 at hb; omega), hr, hs] at q2
    exact ⟨x, by rw [hp]; exact q1, by rw [hp, hc]; exact q2⟩
  · right
    by_contra hno
    rw [not_or, not_exists, not_exists] at hno
    have miss : ∀ (f : IVec (shape1 32768) 32) (hlt : ∀ t, (f (ix1 t)).toNat < 73728) (hf : ∀ t, ¬ (f (ix1 t)).toNat = r.val)
        (x : IVec (shape1 73728) 32) (u : IVec (shape1 32768) 32),
        Host.scatter Cert.On_rows_written.scatter_S73728_S32768x1_S32768_n_0_0_1 (fun _ b => b) x
          (wrapped Cert.On_rows_written.Facts.bcast_S_S32768 Cert.On_rows_written.Facts.bcast_S32768_S32768x1_0 f) u (ix1 r) = x (ix1 r) := by
      intro f hlt hf x u
      refine scatter_set_miss _ _ _ _ _ fun k hk => ?_
      obtain ⟨a, rfl⟩ : ∃ a : Fin 32768, k = ix1 a := ⟨k 0, eq_ix1 k⟩
      have h1 := (lands_vec Cert.On_rows_written.scatter_S73728_S32768x1_S32768_n_0_0_1 rfl rfl rfl _ a r).1 hk
      rw [wrapped_toInt _ _ f a (hlt a)] at h1
      exact hf a (by omega)
    rcases IntOp.ori_eq_one.1 (a : IntOp.ori _ _ = 1#1) with a | a
    · have b := cmpi_eq_iff.1 (a : IntOp.cmpi .eq _ _ = 1#1)
      exact absurd ((miss f1 (first_lt hX) hno.1 _ _).symm.trans b) (by show ¬ (0#32 : BitVec 32) = 1#32; decide)
    · have b := cmpi_eq_iff.1 (a : IntOp.cmpi .eq _ _ = 1#1)
      exact absurd ((miss f2 (second_lt hX) hno.2 _ _).symm.trans b) (by show ¬ (0#32 : BitVec 32) = 1#32; decide)

/-- Where the mask is set, the kernel's table and the reference's hold the same. -/
theorem rows_agree (hX : (tabOf f1 f2 f3).OK) (V : FVec F S73728x1024 .f32) (i : S73728x1024.Idx)
    (e : Cert.On_rows_written.fn (F := F) f1 f2 f3 h i = 1#1) :
    refRows f1 f2 h i = (tabOf f1 f2 f3).out h (Scalar.ofBits .f32 0x00000000#32) V i := by
  obtain ⟨r, c, rfl⟩ : ∃ (r : Fin 73728) (c : Fin 1024), i = ix2 r c := ⟨i 0, i 1, eq_ix2 i⟩
  rcases mask_cases f1 f2 f3 h r c hX e with ⟨x, hx1, hx2⟩ | ⟨t, ht⟩ | ⟨t, ht⟩
  · have hn1 : ∀ t, (f1 (ix1 t)).toNat ≠ r.val := fun t hh => by
      have := hX.away (2 * t.val) x.val (by omega) x.isLt
      rw [row_even] at this; omega
    have hn2 : ∀ t, (f2 (ix1 t)).toNat ≠ r.val := fun t hh => by
      have := hX.away (2 * t.val + 1) x.val (by omega) x.isLt
      rw [row_odd] at this; omega
    have hz : (tabOf f1 f2 f3).zrow ((tabOf f1 f2 f3).before x.val + (r.val - (tabOf f1 f2 f3).pd x.val)) = r.val := by
      rw [(tabOf f1 f2 f3).zrow_at x.val _ x.isLt (by omega)]; omega
    have hb : (tabOf f1 f2 f3).before x.val + (r.val - (tabOf f1 f2 f3).pd x.val) < (tabOf f1 f2 f3).before 8 := by
      have := (tabOf f1 f2 f3).before_mono (show x.val + 1 ≤ 8 from x.isLt)
      have h2 : (tabOf f1 f2 f3).before (x.val + 1) = (tabOf f1 f2 f3).before x.val + (tabOf f1 f2 f3).cn x.val := rfl
      omega
    rw [hX.out_zrow hb (show r.val = _ from hz.symm)]
    unfold refRows
    rw [setRows_miss h f2 _ (second_lt hX) r c hn2, setRows_miss h f1 _ (first_lt hX) r c hn1]
    rfl
  · rw [hX.out_row (n := 2 * t.val) (by omega) (show r.val = _ by rw [row_even]; exact ht.symm) (ix2 t c)
      (show t.val = _ by omega) rfl]
    unfold refRows
    rw [setRows_miss h f2 _ (second_lt hX) r c (fun t' hh => first_ne_second hX t t' (ht.trans hh.symm)),
      setRows_hit h f1 _ (first_lt hX) (first_inj hX) t r c ht]
  · rw [hX.out_row (n := 2 * t.val + 1) (by omega) (show r.val = _ by rw [row_odd]; exact ht.symm) (ix2 t c)
      (show t.val = _ by omega) rfl]
    unfold refRows
    rw [setRows_hit h f2 _ (second_lt hX) (second_inj hX) t r c ht]

end

end Cert.KernelIdeal.Dispatch.Tables
-- ==== Proof.Grouped.Pre.lean ====
/-
  What the precondition says: each tile's expert is one of the eight, each tile's mark is 0 or 1.
-/
module

public import proofs.«01_k».proof.Pre_tiles_ok
public import proofs.«01_k».proof.Proof.Grouped.Sched
public import Idealize.ShloMosaic.Lib.StableHlo.Predicate
public import Idealize.ShloMosaic.Lib.ReduceAll
public import Idealize.ShloMosaic.Lib.WordArith
public import Idealize.ShloMosaic.Lib.Routing.OpsSet
public import Idealize.ShloMosaic.Lib.Routing.Ops

@[expose] public section

noncomputable section

namespace Cert.Kernel2Ideal.Grouped

open Cert.Kernel2Ideal
open Idealize.ShloMosaic Idealize.ShloMosaic.Routing
open Idealize.ShloMosaic.ValueIdx
open Idealize.ShloMosaic.StableHlo.Predicate

variable {F : FTy → Type} [FloatOps F]

theorem inRange_of_pre [Cert.Pre_tiles_ok.Facts] (x0 x1 : S72.Idx → BitVec 32) (x2 : FVec F S73728x1024 .f32)
    (x3 x4 : FVec F S8x1024x3584 .f32) (x5 : FVec F S8x3584x1024 .f32)
    (e : Cert.Pre_tiles_ok.fn (F := F) x0 x1 x2 x3 x4 x5 = fun _ => 1#1) : InRange x0 x1 := by
  haveI : Subsingleton Cert.Pre_tiles_ok.S_.Idx := ⟨fun a b => funext fun i => i.elim0⟩
  have e0 := congrFun e Idealize.ShloMosaic.ValueIdx.ix0
  obtain ⟨hA, hB⟩ := IntOp.andi_eq_one.1 (e0 : IntOp.andi _ _ = 1#1)
  intro j
  obtain ⟨h0, h1⟩ := IntOp.andi_eq_one.1 (Host.reduce_andi_all _ _ _ _ _ hA j : IntOp.andi _ _ = 1#1)
  refine ⟨WordArith.toNat_lt_of_zero_sle_of_slt_ofNat _ 8 (by norm_num) ((ofBool_eq_one_iff _).1 h0) ((ofBool_eq_one_iff _).1 h1), ?_⟩
  rcases IntOp.ori_eq_one.1 (Host.reduce_andi_all _ _ _ _ _ hB j : IntOp.ori _ _ = 1#1) with h | h
  · exact .inl (cmpi_eq_iff.1 h)
  · exact .inr (cmpi_eq_iff.1 h)

end Cert.Kernel2Ideal.Grouped

end
-- ==== Proof.Grouped.Same.lean ====
/-
  The experts' layer is printed twice, once for each reading of its floats.  The two texts are the
  same, so over any one carrier the two programs are equal, and what is proved of a run of the one
  is proved of a run of the other.
-/
module
public import proofs.«01_k».proof.Proof.Gen.Kernel2
public import proofs.«01_k».proof.Proof.Gen.Kernel2Ideal

@[expose] public section

namespace Cert.Kernel2Ideal.Grouped

open Idealize.ShloMosaic Idealize.ShloMosaic.TcCoe Idealize.SL.Sem

variable {F : FTy → Type} [FloatOps F]

set_option backward.isDefEq.respectTransparency.types false in
set_option maxHeartbeats 1000000 in
/-- The tables of bodies agree, label by label. -/
theorem bodies_eq : Cert.Kernel2.defs₀ (F := F) = Cert.Kernel2Ideal.defs₀ (F := F) := by
  unfold Cert.Kernel2.defs₀ Cert.Kernel2Ideal.defs₀
  refine congrArg (Defs.onTc (nD := Cert.Kernel2Ideal.nD) (τ := Cert.Kernel2Ideal.τ) (sig := Cert.Kernel2Ideal.sig) (Λ := Cert.Kernel2Ideal.Λ₀)) (funext fun l => ?_)
  funext x
  match l, x with
  | 0, (t, s) => rfl

set_option backward.isDefEq.respectTransparency.types false in
set_option maxHeartbeats 1000000 in
/-- So do the tables with the pipelines' own labels. -/
theorem defs_eq : Cert.Kernel2.defs (F := F) = Cert.Kernel2Ideal.defs (F := F) :=
  congrArg (Pipeline.defs (Cert.Kernel2Ideal.pcfgs (F := F))) bodies_eq

set_option backward.isDefEq.respectTransparency.types false in
set_option maxHeartbeats 1000000 in
/-- And the main programs. -/
theorem main_eq : Cert.Kernel2.main (F := F) = Cert.Kernel2Ideal.main (F := F) := rfl

set_option backward.isDefEq.respectTransparency.types false in
set_option maxHeartbeats 1000000 in
/-- A run of the one program is a run of the other. -/
theorem run_eq (m : (ℓ : Loc Cert.Kernel2Ideal.nD Cert.Kernel2Ideal.τ Cert.Kernel2Ideal.sig) → Buf (Elt F) ℓ)
    (ρ : Dev Cert.Kernel2Ideal.nD → PrngReg) :
    θ_run (Cert.Kernel2.defs (F := F)) (onTc (τ := Cert.Kernel2.τ) (Cert.Kernel2.main (F := F))) ⟨m, fun _ => 0, ρ⟩
      = θ_run (Cert.Kernel2Ideal.defs (F := F)) (onTc (τ := Cert.Kernel2Ideal.τ) (Cert.Kernel2Ideal.main (F := F))) ⟨m, fun _ => 0, ρ⟩ :=
  congrArg₂ (fun D M => θ_run D (onTc (τ := Cert.Kernel2Ideal.τ) M)
    (⟨m, fun _ => 0, ρ⟩ : MemSt Cert.Kernel2Ideal.nD Cert.Kernel2Ideal.τ Cert.Kernel2Ideal.sig (Elt F))) (defs_eq (F := F)) (main_eq (F := F))

set_option backward.isDefEq.respectTransparency.types false in
set_option maxHeartbeats 1000000 in
/-- What holds of every end of the one holds of every end of the other. -/
theorem run_of (m : (ℓ : Loc Cert.Kernel2Ideal.nD Cert.Kernel2Ideal.τ Cert.Kernel2Ideal.sig) → Buf (Elt F) ℓ)
    (ρ : Dev Cert.Kernel2Ideal.nD → PrngReg) (Q : PUnit × MemSt Cert.Kernel2Ideal.nD Cert.Kernel2Ideal.τ Cert.Kernel2Ideal.sig (Elt F) → Prop)
    (h : θ_run (Cert.Kernel2Ideal.defs (F := F)) (onTc (τ := Cert.Kernel2Ideal.τ) (Cert.Kernel2Ideal.main (F := F))) ⟨m, fun _ => 0, ρ⟩ Q) :
    θ_run (Cert.Kernel2.defs (F := F)) (onTc (τ := Cert.Kernel2.τ) (Cert.Kernel2.main (F := F))) ⟨m, fun _ => 0, ρ⟩ Q := by
  rw [run_eq]
  exact h

end Cert.Kernel2Ideal.Grouped
-- ==== Proof.Grouped.Value.lean ====
/-
  The kernel computes the layer: the blocks a point reads, the output block after a tile's last chunk, and the array
  the blocks make up.
-/
module

public import proofs.«01_k».proof.Proof.Grouped.Payload
public import Idealize.ShloMosaic.Lib.Pipeline.ValueKit.Geometry
public import Mathlib.Algebra.BigOperators.Fin

@[expose] public section

noncomputable section

namespace Cert.Kernel2Ideal.Grouped

open Cert.Kernel2Ideal Cert.Kernel2Ideal.Gen
open Idealize.ShloMosaic Idealize.ShloMosaic.TcCoe
open Idealize.ShloMosaic.ValueIdx
open Idealize.ShloMosaic.Pipeline (Dat Cfg Window)
open Cert.Grouped

variable (m : (ℓ : Loc nD τ sig) → Buf (Elt Ideal) ℓ) (hT : InRange (T0 m) (T1 m)) (c : Dev nD)

/-- The rows and the weights at the launch. -/
abbrev aX : Rows := m ((c : Thread nD τ).loc main_arg2)
abbrev aG : Wide := m ((c : Thread nD τ).loc main_arg3)
abbrev aU : Wide := m ((c : Thread nD τ).loc main_arg4)
abbrev aD : Narrow := m ((c : Thread nD τ).loc main_arg5)

/-! ## The blocks a point of a tile in use reads -/

section
variable (t : Fin (cfgA m hT).N)

/-- A point's tile, its row of the rows, its hidden column, its expert. -/
theorem pt_lt : t.val < 288 := t.isLt
def rowAt (r : Fin 1024) : Fin 73728 := ⟨t.val / 4 * 1024 + r.val, by have := pt_lt m hT t; omega⟩
def colAt (k : Fin 896) : Fin 3584 := ⟨t.val % 4 * 896 + k.val, by omega⟩
abbrev tl : S72.Idx := tileIx (crd m hT t)
def exAt : Fin 8 := ⟨(T0 m (tl m hT t)).toNat, (hT (tl m hT t)).1⟩

variable (h1 : T1 m (tl m hT t) = 1#32)
include h1

theorem idx0 : ((cfgA m hT).win 0).index t = ![t.val / 4, 0] := by
  refine (t0_eq (tbl m) (crd m hT t)).trans ?_
  rw [show tbl m 1 (tileIx (crd m hT t)) = 1#32 from h1, tile_one, row_coords]

theorem idx1 : ((cfgA m hT).win 1).index t = ![(T0 m (tl m hT t)).toNat, 0, t.val % 4] := by
  refine (t1_eq (tbl m) (crd m hT t)).trans ?_
  rw [show tbl m 1 (tileIx (crd m hT t)) = 1#32 from h1, chunk_one, col_coords]; rfl

theorem idx2 : ((cfgA m hT).win 2).index t = ![(T0 m (tl m hT t)).toNat, 0, t.val % 4] := by
  refine (t2_eq (tbl m) (crd m hT t)).trans ?_
  rw [show tbl m 1 (tileIx (crd m hT t)) = 1#32 from h1, chunk_one, col_coords]; rfl

theorem idx3 : ((cfgA m hT).win 3).index t = ![(T0 m (tl m hT t)).toNat, t.val % 4, 0] := by
  refine (t3_eq (tbl m) (crd m hT t)).trans ?_
  rw [show tbl m 1 (tileIx (crd m hT t)) = 1#32 from h1, chunk_one, col_coords]; rfl

theorem blk0 (r q : Fin 1024) : iblk m hT c 0 t (ix2 r q) = aX m c (ix2 (rowAt m hT t r) q) := by
  show aX m c ((((cfgA m hT).win 0).rect t).emb (ix2 r q)) = _
  refine congrArg (aX m c) (funext fun a => Fin.ext ?_)
  refine (Window.rect_emb_val ((cfgA m hT).win 0) t (ix2 r q) a).trans ?_
  rw [idx0 m hT t h1]
  match a with
  | ⟨0, _⟩ => rfl
  | ⟨1, _⟩ => show 0 * 1024 + q.val = q.val; omega

theorem blk1 (q : Fin 1024) (k : Fin 896) : iblk m hT c 1 t (ix3 (0 : Fin 1) q k) = aG m c (ix3 (exAt m hT t) q (colAt m hT t k)) := by
  show aG m c ((((cfgA m hT).win 1).rect t).emb (ix3 (0 : Fin 1) q k)) = _
  refine congrArg (aG m c) (funext fun a => Fin.ext ?_)
  refine (Window.rect_emb_val ((cfgA m hT).win 1) t (ix3 (0 : Fin 1) q k) a).trans ?_
  rw [idx1 m hT t h1]
  match a with
  | ⟨0, _⟩ => show (T0 m (tl m hT t)).toNat * 1 + 0 = (T0 m (tl m hT t)).toNat; omega
  | ⟨1, _⟩ => show 0 * 1024 + q.val = q.val; omega
  | ⟨2, _⟩ => rfl

theorem blk2 (q : Fin 1024) (k : Fin 896) : iblk m hT c 2 t (ix3 (0 : Fin 1) q k) = aU m c (ix3 (exAt m hT t) q (colAt m hT t k)) := by
  show aU m c ((((cfgA m hT).win 2).rect t).emb (ix3 (0 : Fin 1) q k)) = _
  refine congrArg (aU m c) (funext fun a => Fin.ext ?_)
  refine (Window.rect_emb_val ((cfgA m hT).win 2) t (ix3 (0 : Fin 1) q k) a).trans ?_
  rw [idx2 m hT t h1]
  match a with
  | ⟨0, _⟩ => show (T0 m (tl m hT t)).toNat * 1 + 0 = (T0 m (tl m hT t)).toNat; omega
  | ⟨1, _⟩ => show 0 * 1024 + q.val = q.val; omega
  | ⟨2, _⟩ => rfl

theorem blk3 (k : Fin 896) (q : Fin 1024) : iblk m hT c 3 t (ix3 (0 : Fin 1) k q) = aD m c (ix3 (exAt m hT t) (colAt m hT t k) q) := by
  show aD m c ((((cfgA m hT).win 3).rect t).emb (ix3 (0 : Fin 1) k q)) = _
  refine congrArg (aD m c) (funext fun a => Fin.ext ?_)
  refine (Window.rect_emb_val ((cfgA m hT).win 3) t (ix3 (0 : Fin 1) k q) a).trans ?_
  rw [idx3 m hT t h1]
  match a with
  | ⟨0, _⟩ => show (T0 m (tl m hT t)).toNat * 1 + 0 = (T0 m (tl m hT t)).toNat; omega
  | ⟨1, _⟩ => rfl
  | ⟨2, _⟩ => show 0 * 1024 + q.val = q.val; omega

end

/-! ## The output block -/

/-- What a chunk of hidden columns adds to a row of an expert's layer. -/
def chunk (r : Fin 73728) (e : Fin 8) (q : Fin 1024) (f : ℕ) : EReal :=
  if hf : f < 4 then ∑ k : Fin 896, act (aX m c) (aG m c) (aU m c) r e ⟨f * 896 + k.val, by omega⟩ * aD m c (ix3 e ⟨f * 896 + k.val, by omega⟩ q) else 0

/-- A chunk of the hidden columns after another, all of them. -/
theorem chunks (r : Fin 73728) (e : Fin 8) (q : Fin 1024) :
    ∑ f ∈ Finset.range 4, chunk m c r e q f = ffn (aX m c) (aG m c) (aU m c) (aD m c) r e q := by
  rw [Finset.sum_range]
  unfold ffn
  rw [← Equiv.sum_comp (finProdFinEquiv (m := 4) (n := 896)) (fun k : Fin 3584 => act (aX m c) (aG m c) (aU m c) r e k * aD m c (ix3 e k q)),
    Fintype.sum_prod_type]
  refine Finset.sum_congr rfl fun f _ => ?_
  unfold chunk
  rw [dif_pos f.isLt]
  refine Finset.sum_congr rfl fun k _ => ?_
  have hk : (⟨f.val * 896 + k.val, by omega⟩ : Fin 3584) = finProdFinEquiv (f, k) := Fin.ext (by
    show f.val * 896 + k.val = k.val + 896 * f.val; omega)
  rw [hk]

section
variable (t : Fin (cfgA m hT).N)

theorem bsum_eq (h1 : T1 m (tl m hT t) = 1#32) (i : S1024x1024.Idx) :
    bsum (iblk m hT c 0 t) (iblk m hT c 1 t) (iblk m hT c 2 t) (iblk m hT c 3 t) i
      = chunk m c (rowAt m hT t (i 0)) (exAt m hT t) (i 1) (t.val % 4) := by
  unfold bsum chunk
  rw [dif_pos (Nat.mod_lt _ (by omega))]
  refine Finset.sum_congr rfl fun k _ => congrArg₂ (· * ·) ?_ (blk3 m hT c t h1 k (i 1))
  have hg : bproj (iblk m hT c 0 t) (iblk m hT c 1 t) (i 0) k = proj (aX m c) (aG m c) (rowAt m hT t (i 0)) (exAt m hT t) (colAt m hT t k) :=
    Finset.sum_congr rfl fun q _ => congrArg₂ (· * ·) (blk0 m hT c t h1 (i 0) q) (blk1 m hT c t h1 q k)
  have hu : bproj (iblk m hT c 0 t) (iblk m hT c 2 t) (i 0) k = proj (aX m c) (aU m c) (rowAt m hT t (i 0)) (exAt m hT t) (colAt m hT t k) :=
    Finset.sum_congr rfl fun q _ => congrArg₂ (· * ·) (blk0 m hT c t h1 (i 0) q) (blk2 m hT c t h1 q k)
  rw [hg, hu]
  rfl

/-- A step at a tile in use adds its chunk to what the block held, or to zero at the first chunk. -/
theorem step_one (h1 : T1 m (tl m hT t) = 1#32) (y : S1024x1024.Idx → EReal) (i : S1024x1024.Idx) :
    step m hT c t y i = (if t.val % 4 = 0 then 0 else y i) + chunk m c (rowAt m hT t (i 0)) (exAt m hT t) (i 1) (t.val % 4) := by
  unfold step stepVal
  rw [h1, if_pos cond2_one, pay2_apply, bsum_eq m hT c t h1]
  refine congrArg (· + _) ?_
  unfold start
  have hc := cond1_iff (crd m hT t)
  rw [col_coords] at hc
  by_cases h0 : t.val % 4 = 0
  · rw [if_pos (hc.2 h0), if_pos h0]; exact pay1_apply i
  · rw [if_neg fun h => h0 (hc.1 h), if_neg h0]

/-- A step at a tile not in use leaves the block, or sets it to zero at the first chunk. -/
theorem step_zero (h1 : T1 m (tl m hT t) = 0#32) (y : S1024x1024.Idx → EReal) (i : S1024x1024.Idx) :
    step m hT c t y i = if t.val % 4 = 0 then 0 else y i := by
  unfold step stepVal
  rw [h1, if_neg cond2_zero]
  unfold start
  have hc := cond1_iff (crd m hT t)
  rw [col_coords] at hc
  by_cases h0 : t.val % 4 = 0
  · rw [if_pos (hc.2 h0), if_pos h0]; exact pay1_apply i
  · rw [if_neg fun h => h0 (hc.1 h), if_neg h0]

end

/-- The points of one tile. -/
def pt (a : Fin 72) (j : ℕ) (hj : j < 4) : Fin (cfgA m hT).N := ⟨4 * a.val + j, by show 4 * a.val + j < 288; omega⟩

theorem pt_div (a : Fin 72) (j : ℕ) (hj : j < 4) : (pt m hT a j hj).val / 4 = a.val := by show (4 * a.val + j) / 4 = _; omega
theorem pt_mod (a : Fin 72) (j : ℕ) (hj : j < 4) : (pt m hT a j hj).val % 4 = j := by show (4 * a.val + j) % 4 = _; omega
theorem tl_pt (a : Fin 72) (j : ℕ) (hj : j < 4) : tl m hT (pt m hT a j hj) = ix1 a :=
  congrArg ix1 (Fin.ext ((row_coords _).trans (pt_div m hT a j hj)))

/-- A row of a tile. -/
def rowOf (a : Fin 72) (r : Fin 1024) : Fin 73728 := ⟨a.val * 1024 + r.val, by omega⟩

theorem rowAt_pt (a : Fin 72) (j : ℕ) (hj : j < 4) (r : Fin 1024) : rowAt m hT (pt m hT a j hj) r = rowOf a r :=
  Fin.ext (by show (pt m hT a j hj).val / 4 * 1024 + r.val = _; rw [pt_div]; rfl)
theorem exAt_pt (a : Fin 72) (j : ℕ) (hj : j < 4) : exAt m hT (pt m hT a j hj) = expertOf (T0 m) (ix1 a) :=
  Fin.ext (by
    show (T0 m (tl m hT (pt m hT a j hj))).toNat = (T0 m (ix1 a)).toNat % 8
    rw [tl_pt, Nat.mod_eq_of_lt (hT _).1])

theorem chunk_pt (a : Fin 72) (j : ℕ) (hj : j < 4) (r q : Fin 1024) (f : ℕ) :
    chunk m c (rowAt m hT (pt m hT a j hj) r) (exAt m hT (pt m hT a j hj)) q f = chunk m c (rowOf a r) (expertOf (T0 m) (ix1 a)) q f := by
  rw [rowAt_pt, exAt_pt]

/-- The block after a chunk of a tile: the chunks so far where the tile is in use, zero otherwise. -/
theorem traj_pt (a : Fin 72) (i : S1024x1024.Idx) : ∀ (j : ℕ) (hj : j < 4),
    traj m hT c (pt m hT a j hj).val (pt m hT a j hj).isLt i
      = if T1 m (ix1 a) = 1#32 then ∑ f ∈ Finset.range (j + 1), chunk m c (rowOf a (i 0)) (expertOf (T0 m) (ix1 a)) (i 1) f else 0
  | 0, hj => by
    rw [traj_eq]
    rcases (hT (ix1 a)).2 with h | h
    · rw [step_zero m hT c _ (by rw [tl_pt]; exact h), if_pos (pt_mod m hT a 0 hj), if_neg (by rw [h]; decide)]
    · rw [step_one m hT c _ (by rw [tl_pt]; exact h), if_pos (pt_mod m hT a 0 hj), if_pos h, pt_mod, Finset.sum_range_one, zero_add]
      exact chunk_pt m hT c a 0 hj (i 0) (i 1) 0
  | j + 1, hj => by
    have ih := traj_pt a i j (by omega)
    have hm := pt_mod m hT a (j + 1) hj
    have hp : prev m hT c (pt m hT a (j + 1) hj) = traj m hT c (pt m hT a j (by omega)).val (pt m hT a j (by omega)).isLt := by
      unfold prev
      rw [dif_neg (show ¬ (pt m hT a (j + 1) hj).val = 0 from Nat.succ_ne_zero _)]
      rfl
    rw [traj_eq, hp]
    rcases (hT (ix1 a)).2 with h | h
    · rw [step_zero m hT c _ (by rw [tl_pt]; exact h), if_neg (by rw [hm]; omega), if_neg (by rw [h]; decide), ih, if_neg (by rw [h]; decide)]
    · rw [step_one m hT c _ (by rw [tl_pt]; exact h), if_neg (by rw [hm]; omega), if_pos h, hm, ih, if_pos h,
        Finset.sum_range_succ _ (j + 1)]
      exact congrArg (_ + ·) (chunk_pt m hT c a (j + 1) hj (i 0) (i 1) (j + 1))

/-- The block written back after a tile's last chunk is the layer's. -/
theorem traj_last (a : Fin 72) (i : S1024x1024.Idx) :
    traj m hT c (pt m hT a 3 (by omega)).val (pt m hT a 3 (by omega)).isLt i
      = layer (T0 m) (T1 m) (aX m c) (aG m c) (aU m c) (aD m c) (ix2 (rowOf a (i 0)) (i 1)) := by
  have ht : tileOf (rowOf a (i 0)) = ix1 a := congrArg ix1 (Fin.ext (by
    have : (i 0).val < 1024 := (i 0).isLt
    show (a.val * 1024 + (i 0).val) / 1024 = a.val; omega))
  rw [traj_pt m hT c a i 3 (by omega)]
  refine Eq.trans (congrArg (fun z => if T1 m (ix1 a) = 1#32 then z else 0) (chunks m c (rowOf a (i 0)) (expertOf (T0 m) (ix1 a)) (i 1))) ?_
  show _ = if T1 m (tileOf (rowOf a (i 0))) = 1#32 then ffn _ _ _ _ (rowOf a (i 0)) (expertOf (T0 m) (tileOf (rowOf a (i 0)))) (i 1) else 0
  exact ht ▸ rfl

/-! ## The result -/

theorem emb4 (t : Fin (cfgA m hT).N) (y : S1024x1024.Idx) :
    (((cfgA m hT).win 4).rect t).emb y = ix2 (rowAt m hT t (y 0)) (y 1) := by
  refine funext fun a => Fin.ext ?_
  refine (Window.rect_emb_val ((cfgA m hT).win 4) t y a).trans ?_
  rw [index4]
  match a with
  | ⟨0, _⟩ => rfl
  | ⟨1, _⟩ => show 0 * 1024 + (y 1).val = (y 1).val; omega

theorem emb_pt (a : Fin 72) (j : ℕ) (hj : j < 4) (y : S1024x1024.Idx) :
    (((cfgA m hT).win 4).rect (pt m hT a j hj)).emb y = ix2 (rowOf a (y 0)) (y 1) :=
  (emb4 m hT _ y).trans (congrArg (fun r => ix2 r (y 1)) (rowAt_pt m hT a j hj (y 0)))

theorem mem4 (t : Fin (cfgA m hT).N) (y : S1024x1024.Idx) (i : S73728x1024.Idx) (h : (((cfgA m hT).win 4).rect t).emb y = i) :
    i ∈ (((cfgA m hT).win 4).blk t).view.set := by
  subst h
  exact View.emb_mem_set (((cfgA m hT).win 4).blk t).view y

theorem cover4 (i : S73728x1024.Idx) : ∃ t : Fin (cfgA m hT).N, ((cfgA m hT).win 4).flush t = true ∧ i ∈ (((cfgA m hT).win 4).blk t).view.set := by
  have h0 : (i 0).val < 73728 := (i 0).isLt
  have h1 : (i 1).val < 1024 := (i 1).isLt
  refine ⟨pt m hT ⟨(i 0).val / 1024, by omega⟩ 3 (by omega), ?_, ?_⟩
  · rw [flush4, pt_mod]; rfl
  · have he : (((cfgA m hT).win 4).rect (pt m hT ⟨(i 0).val / 1024, by omega⟩ 3 (by omega))).emb
        (ix2 (⟨(i 0).val % 1024, by omega⟩ : Fin 1024) (i 1)) = i := by
      refine (emb4 m hT _ _).trans ?_
      rw [rowAt_pt]
      refine funext fun a => Fin.ext ?_
      match a with
      | ⟨0, _⟩ => show (i 0).val / 1024 * 1024 + (i 0).val % 1024 = (i 0).val; omega
      | ⟨1, _⟩ => rfl
    exact mem4 m hT _ _ _ he

/-- So the result array ends holding the layer. -/
theorem result_eq : (dats m hT 0 c).arrAt 4 (cfgA m hT).N = layer (T0 m) (T1 m) (aX m c) (aG m c) (aU m c) (aD m c) := by
  refine (dats m hT 0 c).arrAt_eq_of_emb 4 _ (fun t hf y => ?_) (cover4 m hT)
  rw [flush4, decide_eq_true_iff] at hf
  have hlt := pt_lt m hT t
  have ht : t = pt m hT ⟨t.val / 4, by omega⟩ 3 (by decide) := Fin.ext (by show t.val = 4 * (t.val / 4) + 3; omega)
  show traj m hT c t.val t.isLt y = layer (T0 m) (T1 m) (aX m c) (aG m c) (aU m c) (aD m c) ((((cfgA m hT).win 4).rect t).emb y)
  generalize (⟨t.val / 4, _⟩ : Fin 72) = a at ht
  subst ht
  refine (traj_last m hT c a y).trans (congrArg (layer (T0 m) (T1 m) (aX m c) (aG m c) (aU m c) (aD m c)) ?_)
  exact (emb_pt m hT a 3 (by decide) y).symm

end Cert.Kernel2Ideal.Grouped

end
-- ==== Proof.Grouped.Reference.lean ====
/-
  The reference computes the layer: each expert's own computation is that expert's row on the tiles marked with it and
  zero elsewhere, and the sum over the experts keeps the tile's own.
-/
module

public import proofs.«01_k».proof.Proof.Gen.Reference2Ideal.Read
public import proofs.«01_k».proof.Proof.Grouped.Spec
public import Idealize.ShloMosaic.Lib.StableHlo.Predicate
public import Mathlib.Tactic.IntervalCases

@[expose] public section

noncomputable section

namespace Cert.Reference2Ideal.Grouped

open Cert.Reference2Ideal Cert.Reference2Ideal.Gen Cert.Reference2Ideal.Read
open Idealize.ShloMosaic
open Idealize.ShloMosaic.ValueIdx
open Cert.Grouped

/-! ## The two products, for any operands -/

theorem wide_apply (x : FVec Ideal S73728x1024 .f32) (w : FVec Ideal S1024x3584 .f32) (i : S73728x3584.Idx) :
    Host.dotGeneral (F := Ideal) dot_S73728x1024_S1024x3584_S73728x3584_1_0_0_1_n_n none x w i
      = ∑ k : Fin 1024, x (lidx_main_v19 i k) * w (ridx_main_v19 i k) := by
  simp only [Host.dotGeneral]
  rw [Ideal.dotGeneral_apply, ← Equiv.sum_comp (contrEquiv1 dot_S73728x1024_S1024x3584_S73728x3584_1_0_0_1_n_n 1024 rfl rfl).symm]
  refine Finset.sum_congr rfl fun k _ => ?_
  have hk := contrEquiv1_symm_val dot_S73728x1024_S1024x3584_S73728x3584_1_0_0_1_n_n 1024 rfl rfl k
  refine congrArg₂ (fun a b => x a * w b) (funext fun a => Fin.ext ?_) (funext fun a => Fin.ext ?_)
  · match a with
    | ⟨0, _⟩ => exact lhs_main_v19_0 _ _
    | ⟨1, _⟩ => exact (lhs_main_v19_1 _ _).trans hk
  · match a with
    | ⟨0, _⟩ => exact (rhs_main_v19_0 _ _).trans hk
    | ⟨1, _⟩ => exact rhs_main_v19_1 _ _

theorem narrow_apply (x : FVec Ideal S73728x3584 .f32) (w : FVec Ideal S3584x1024 .f32) (i : S73728x1024.Idx) :
    Host.dotGeneral (F := Ideal) dot_S73728x3584_S3584x1024_S73728x1024_1_0_0_1_n_n none x w i
      = ∑ k : Fin 3584, x (lidx_main_v23 i k) * w (ridx_main_v23 i k) := by
  simp only [Host.dotGeneral]
  rw [Ideal.dotGeneral_apply, ← Equiv.sum_comp (contrEquiv1 dot_S73728x3584_S3584x1024_S73728x1024_1_0_0_1_n_n 3584 rfl rfl).symm]
  refine Finset.sum_congr rfl fun k _ => ?_
  have hk := contrEquiv1_symm_val dot_S73728x3584_S3584x1024_S73728x1024_1_0_0_1_n_n 3584 rfl rfl k
  refine congrArg₂ (fun a b => x a * w b) (funext fun a => Fin.ext ?_) (funext fun a => Fin.ext ?_)
  · match a with
    | ⟨0, _⟩ => exact lhs_main_v23_0 _ _
    | ⟨1, _⟩ => exact (lhs_main_v23_1 _ _).trans hk
  · match a with
    | ⟨0, _⟩ => exact (rhs_main_v23_0 _ _).trans hk
    | ⟨1, _⟩ => exact rhs_main_v23_1 _ _

/-! ## One expert's weights -/

theorem wideOf (e : Fin 8) (off : Fin 3 → Nat) (ho : off = ![e.val, 0, 0]) (hs : S8x1024x3584.Slices off S1x1024x3584)
    (w : FVec Ideal S8x1024x3584 .f32) (j : S1024x3584.Idx) :
    shapeCast S1024x3584 (extractStridedSlice S1x1024x3584 off w hs) shapeCasts_S1x1024x3584_S1024x3584 j = w (ix3 e (j 0) (j 1)) := by
  subst ho
  refine (shapeCast_dropUnit_apply ![1024, 3584] _ _ j).trans ?_
  refine extractStridedSlice_apply _ w hs _ _ fun a => ?_
  match a with
  | ⟨0, _⟩ => rfl
  | ⟨1, _⟩ => exact (Nat.zero_add _).symm
  | ⟨2, _⟩ => exact (Nat.zero_add _).symm

theorem narrowOf (e : Fin 8) (off : Fin 3 → Nat) (ho : off = ![e.val, 0, 0]) (hs : S8x3584x1024.Slices off S1x3584x1024)
    (w : FVec Ideal S8x3584x1024 .f32) (j : S3584x1024.Idx) :
    shapeCast S3584x1024 (extractStridedSlice S1x3584x1024 off w hs) shapeCasts_S1x3584x1024_S3584x1024 j = w (ix3 e (j 0) (j 1)) := by
  subst ho
  refine (shapeCast_dropUnit_apply ![3584, 1024] _ _ j).trans ?_
  refine extractStridedSlice_apply _ w hs _ _ fun a => ?_
  match a with
  | ⟨0, _⟩ => rfl
  | ⟨1, _⟩ => exact (Nat.zero_add _).symm
  | ⟨2, _⟩ => exact (Nat.zero_add _).symm

/-! ## One expert's rows -/

section
variable (x : FVec Ideal S73728x1024 .f32) (wg wu : FVec Ideal S1024x3584 .f32) (wd : FVec Ideal S3584x1024 .f32)

/-- The reference's computation for one expert, from its weights. -/
def rows : FVec Ideal S73728x1024 .f32 :=
  let g := Host.dotGeneral (F := Ideal) dot_S73728x1024_S1024x3584_S73728x3584_1_0_0_1_n_n none x wg
  let ones : FVec Ideal S73728x3584 .f32 := broadcastInDim S73728x3584 ![] bcast_S_S73728x3584 (constant S_ .f32 0x3F800000#32)
  let s := mulf g (Host.divf ones (addf ones (Host.exp (Host.negf g))))
  Host.dotGeneral (F := Ideal) dot_S73728x3584_S3584x1024_S73728x1024_1_0_0_1_n_n none
    (mulf s (Host.dotGeneral (F := Ideal) dot_S73728x1024_S1024x3584_S73728x3584_1_0_0_1_n_n none x wu)) wd

theorem rows_apply (WG WU : Wide) (WD : Narrow) (e : Fin 8) (hg : ∀ j, wg j = WG (ix3 e (j 0) (j 1)))
    (hu : ∀ j, wu j = WU (ix3 e (j 0) (j 1))) (hd : ∀ j, wd j = WD (ix3 e (j 0) (j 1))) (i : S73728x1024.Idx) :
    rows x wg wu wd i = ffn x WG WU WD (i 0) e (i 1) := by
  unfold rows ffn
  refine (narrow_apply _ _ i).trans (Finset.sum_congr rfl fun k _ => ?_)
  rw [hd]
  refine congrArg₂ (· * ·) ?_ rfl
  have hp : ∀ (w : FVec Ideal S1024x3584 .f32) (W : Wide), (∀ j, w j = W (ix3 e (j 0) (j 1))) →
      Host.dotGeneral (F := Ideal) dot_S73728x1024_S1024x3584_S73728x3584_1_0_0_1_n_n none x w (lidx_main_v23 i k) = proj x W (i 0) e k := by
    intro w W hw
    refine (wide_apply x w _).trans (Finset.sum_congr rfl fun q _ => ?_)
    rw [hw]
    refine congrArg₂ (· * ·) (congrArg x (funext fun a => ?_)) rfl
    match a with
    | ⟨0, _⟩ => rfl
    | ⟨1, _⟩ => rfl
  have h1 := hp wg WG hg
  have h2 := hp wu WU hu
  unfold act silu
  rw [← h1, ← h2]
  rfl

end

/-! ## Which rows an expert's are kept on -/

/-- The reference's mask of one expert. -/
def mask (te ta : S72.Idx → BitVec 32) (e : BitVec 32) : IVec S73728x1024 1 :=
  broadcastInDim S73728x1024 ![0, 1] bcast_S73728x1_S73728x1024_0_1 (broadcastInDim S73728x1 ![0] bcast_S73728_S73728x1_0
    (andi (cmpi .eq (val_main_v2 (F := Ideal) te) (broadcastInDim S73728 ![] bcast_S_S73728 (constantI S_ 32 e)))
      (cmpi .eq (val_main_v5 (F := Ideal) ta) (broadcastInDim S73728 ![] bcast_S_S73728 (constantI S_ 32 1#32)))))

theorem mask_apply (te ta : S72.Idx → BitVec 32) (e : BitVec 32) (i : S73728x1024.Idx) :
    mask te ta e i = IntOp.andi (IntOp.cmpi .eq (te (tileOf (i 0))) e) (IntOp.cmpi .eq (ta (tileOf (i 0))) 1#32) := by
  have e2 : ∀ j : S73728.Idx, val_main_v2 (F := Ideal) te j = te (tileOf (j 0)) := fun j => by
    rw [val_main_v2_apply, val_main_v1_apply, val_main_v0_apply]
    exact congrArg te (funext fun a => match a with | ⟨0, _⟩ => rfl)
  have e5 : ∀ j : S73728.Idx, val_main_v5 (F := Ideal) ta j = ta (tileOf (j 0)) := fun j => by
    rw [val_main_v5_apply, val_main_v4_apply, val_main_v3_apply]
    exact congrArg ta (funext fun a => match a with | ⟨0, _⟩ => rfl)
  unfold mask
  refine (broadcastInDim_apply _ bcast_S73728x1_S73728x1024_0_1 _ i (idx_main_call1_v1 i) (fun a => match a with
    | ⟨0, _⟩ => by show (i 0).val = if (73728 : Nat) = 1 then 0 else (i 0).val; rw [if_neg (by decide)]
    | ⟨1, _⟩ => by show 0 = if (1 : Nat) = 1 then 0 else (i 1).val; rw [if_pos rfl])).trans ?_
  refine (broadcastInDim_apply _ bcast_S73728_S73728x1_0 _ _ (idx_main_v12 (idx_main_call1_v1 i)) (fun a => match a with
    | ⟨0, _⟩ => by show (i 0).val = if (73728 : Nat) = 1 then 0 else (i 0).val; rw [if_neg (by decide)])).trans ?_
  show IntOp.andi (IntOp.cmpi .eq (val_main_v2 (F := Ideal) te _) e) (IntOp.cmpi .eq (val_main_v5 (F := Ideal) ta _) 1#32) = _
  rw [e2, e5]
  rfl

/-- One expert's share of the reference's sum. -/
def share (te ta : S72.Idx → BitVec 32) (e : BitVec 32) (R : FVec Ideal S73728x1024 .f32) : FVec Ideal S73728x1024 .f32 :=
  select (mask te ta e) R (broadcastInDim S73728x1024 ![] bcast_S_S73728x1024 (constant S_ .f32 0x00000000#32))

theorem share_apply (te ta : S72.Idx → BitVec 32) (e : BitVec 32) (R : FVec Ideal S73728x1024 .f32) (i : S73728x1024.Idx) :
    share te ta e R i = if te (tileOf (i 0)) = e ∧ ta (tileOf (i 0)) = 1#32 then R i else 0 := by
  show Scalar.select (mask te ta e i) (R i) (Ideal.ofBits .f32 0x00000000#32) = _
  rw [mask_apply, Ideal.ofBits_zero_f32]
  by_cases h : te (tileOf (i 0)) = e ∧ ta (tileOf (i 0)) = 1#32
  · rw [if_pos h, IntOp.andi_eq_one.2 ⟨StableHlo.Predicate.cmpi_eq_iff.2 h.1, StableHlo.Predicate.cmpi_eq_iff.2 h.2⟩]
    exact select_one _ _
  · rw [if_neg h, eq_zero_of_ne_one fun h1 => h ⟨StableHlo.Predicate.cmpi_eq_iff.1 (IntOp.andi_eq_one.1 h1).1, StableHlo.Predicate.cmpi_eq_iff.1 (IntOp.andi_eq_one.1 h1).2⟩]
    exact select_zero _ _

/-! ## The experts, one by one -/

section
variable (te ta : S72.Idx → BitVec 32) (x : FVec Ideal S73728x1024 .f32) (wg wu : FVec Ideal S8x1024x3584 .f32)
  (wd : FVec Ideal S8x3584x1024 .f32) (i : S73728x1024.Idx)

theorem rows_0 : val_main_v23 (F := Ideal) x wg wu wd i = ffn x wg wu wd (i 0) 0 (i 1) :=
  rows_apply x (val_main_v14 (F := Ideal) wg) (val_main_v16 (F := Ideal) wu) (val_main_v18 (F := Ideal) wd) wg wu wd 0
    (wideOf 0 _ rfl slices_S8x1024x3584_S1x1024x3584_0_0_0 wg) (wideOf 0 _ rfl slices_S8x1024x3584_S1x1024x3584_0_0_0 wu)
    (narrowOf 0 _ rfl slices_S8x3584x1024_S1x3584x1024_0_0_0 wd) i
theorem rows_1 : val_main_v42 (F := Ideal) x wg wu wd i = ffn x wg wu wd (i 0) 1 (i 1) :=
  rows_apply x (val_main_v33 (F := Ideal) wg) (val_main_v35 (F := Ideal) wu) (val_main_v37 (F := Ideal) wd) wg wu wd 1
    (wideOf 1 _ rfl slices_S8x1024x3584_S1x1024x3584_1_0_0 wg) (wideOf 1 _ rfl slices_S8x1024x3584_S1x1024x3584_1_0_0 wu)
    (narrowOf 1 _ rfl slices_S8x3584x1024_S1x3584x1024_1_0_0 wd) i
theorem rows_2 : val_main_v61 (F := Ideal) x wg wu wd i = ffn x wg wu wd (i 0) 2 (i 1) :=
  rows_apply x (val_main_v52 (F := Ideal) wg) (val_main_v54 (F := Ideal) wu) (val_main_v56 (F := Ideal) wd) wg wu wd 2
    (wideOf 2 _ rfl slices_S8x1024x3584_S1x1024x3584_2_0_0 wg) (wideOf 2 _ rfl slices_S8x1024x3584_S1x1024x3584_2_0_0 wu)
    (narrowOf 2 _ rfl slices_S8x3584x1024_S1x3584x1024_2_0_0 wd) i
theorem rows_3 : val_main_v80 (F := Ideal) x wg wu wd i = ffn x wg wu wd (i 0) 3 (i 1) :=
  rows_apply x (val_main_v71 (F := Ideal) wg) (val_main_v73 (F := Ideal) wu) (val_main_v75 (F := Ideal) wd) wg wu wd 3
    (wideOf 3 _ rfl slices_S8x1024x3584_S1x1024x3584_3_0_0 wg) (wideOf 3 _ rfl slices_S8x1024x3584_S1x1024x3584_3_0_0 wu)
    (narrowOf 3 _ rfl slices_S8x3584x1024_S1x3584x1024_3_0_0 wd) i
theorem rows_4 : val_main_v99 (F := Ideal) x wg wu wd i = ffn x wg wu wd (i 0) 4 (i 1) :=
  rows_apply x (val_main_v90 (F := Ideal) wg) (val_main_v92 (F := Ideal) wu) (val_main_v94 (F := Ideal) wd) wg wu wd 4
    (wideOf 4 _ rfl slices_S8x1024x3584_S1x1024x3584_4_0_0 wg) (wideOf 4 _ rfl slices_S8x1024x3584_S1x1024x3584_4_0_0 wu)
    (narrowOf 4 _ rfl slices_S8x3584x1024_S1x3584x1024_4_0_0 wd) i
theorem rows_5 : val_main_v118 (F := Ideal) x wg wu wd i = ffn x wg wu wd (i 0) 5 (i 1) :=
  rows_apply x (val_main_v109 (F := Ideal) wg) (val_main_v111 (F := Ideal) wu) (val_main_v113 (F := Ideal) wd) wg wu wd 5
    (wideOf 5 _ rfl slices_S8x1024x3584_S1x1024x3584_5_0_0 wg) (wideOf 5 _ rfl slices_S8x1024x3584_S1x1024x3584_5_0_0 wu)
    (narrowOf 5 _ rfl slices_S8x3584x1024_S1x3584x1024_5_0_0 wd) i
theorem rows_6 : val_main_v137 (F := Ideal) x wg wu wd i = ffn x wg wu wd (i 0) 6 (i 1) :=
  rows_apply x (val_main_v128 (F := Ideal) wg) (val_main_v130 (F := Ideal) wu) (val_main_v132 (F := Ideal) wd) wg wu wd 6
    (wideOf 6 _ rfl slices_S8x1024x3584_S1x1024x3584_6_0_0 wg) (wideOf 6 _ rfl slices_S8x1024x3584_S1x1024x3584_6_0_0 wu)
    (narrowOf 6 _ rfl slices_S8x3584x1024_S1x3584x1024_6_0_0 wd) i
theorem rows_7 : val_main_v156 (F := Ideal) x wg wu wd i = ffn x wg wu wd (i 0) 7 (i 1) :=
  rows_apply x (val_main_v147 (F := Ideal) wg) (val_main_v149 (F := Ideal) wu) (val_main_v151 (F := Ideal) wd) wg wu wd 7
    (wideOf 7 _ rfl slices_S8x1024x3584_S1x1024x3584_7_0_0 wg) (wideOf 7 _ rfl slices_S8x1024x3584_S1x1024x3584_7_0_0 wu)
    (narrowOf 7 _ rfl slices_S8x3584x1024_S1x3584x1024_7_0_0 wd) i

/-- The reference's sum, one expert after another. -/
theorem sum_eq : val_main_v158 (F := Ideal) te ta x wg wu wd i =
    ((((((((0 : EReal)
      + share te ta 0#32 (val_main_v23 (F := Ideal) x wg wu wd) i)
      + share te ta 1#32 (val_main_v42 (F := Ideal) x wg wu wd) i)
      + share te ta 2#32 (val_main_v61 (F := Ideal) x wg wu wd) i)
      + share te ta 3#32 (val_main_v80 (F := Ideal) x wg wu wd) i)
      + share te ta 4#32 (val_main_v99 (F := Ideal) x wg wu wd) i)
      + share te ta 5#32 (val_main_v118 (F := Ideal) x wg wu wd) i)
      + share te ta 6#32 (val_main_v137 (F := Ideal) x wg wu wd) i)
      + share te ta 7#32 (val_main_v156 (F := Ideal) x wg wu wd) i := by
  rw [val_main_v158_apply, val_main_v139_apply, val_main_v120_apply, val_main_v101_apply, val_main_v82_apply, val_main_v63_apply, val_main_v44_apply, val_main_v25_apply]
  have h6 : val_main_v6 (F := Ideal) i = (0 : EReal) := Ideal.ofBits_zero_f32
  rw [h6]
  rfl

/-- Of the eight shares at most the tile's own is not zero. -/
theorem pick (t a : BitVec 32) (ht : t.toNat < 8) (f : Fin 8 → EReal) :
    (0 : EReal)
      + (if t = 0#32 ∧ a = 1#32 then f 0 else 0)
      + (if t = 1#32 ∧ a = 1#32 then f 1 else 0)
      + (if t = 2#32 ∧ a = 1#32 then f 2 else 0)
      + (if t = 3#32 ∧ a = 1#32 then f 3 else 0)
      + (if t = 4#32 ∧ a = 1#32 then f 4 else 0)
      + (if t = 5#32 ∧ a = 1#32 then f 5 else 0)
      + (if t = 6#32 ∧ a = 1#32 then f 6 else 0)
      + (if t = 7#32 ∧ a = 1#32 then f 7 else 0)
      = if a = 1#32 then f ⟨t.toNat % 8, by omega⟩ else 0 := by
  obtain ⟨n, hn⟩ : ∃ n, t.toNat = n := ⟨_, rfl⟩
  rw [hn] at ht
  obtain rfl : t = BitVec.ofNat 32 n := by rw [← hn, BitVec.ofNat_toNat, BitVec.setWidth_eq]
  by_cases ha : a = 1#32
  · subst ha
    interval_cases n <;> simp <;> rfl
  · simp [ha]

/-- So the reference is the layer, where every tile's expert is one of the eight. -/
theorem value (ht : ∀ j, (te j).toNat < 8) : val_main_v158 (F := Ideal) te ta x wg wu wd = layer te ta x wg wu wd := by
  funext i
  rw [sum_eq]
  simp only [share_apply]
  rw [rows_0, rows_1, rows_2, rows_3, rows_4, rows_5, rows_6, rows_7]
  exact pick _ _ (ht _) fun e => ffn x wg wu wd (i 0) e (i 1)

end

end Cert.Reference2Ideal.Grouped

end
-- ==== Proof.lean ====
/-
  The certificate: the runs of the six kernels, the dispatch, the experts' layer on the dispatched rows, the dense layer,
  the combine and the output projection, alone and with the router, and of their references, read at the tables the
  preconditions allow.
-/
module

public import proofs.«01_k».proof.Defs
public import proofs.«01_k».proof.Proof.Gen.ReferenceIdeal.Run
public import proofs.«01_k».proof.Proof.Gen.Kernel
public import proofs.«01_k».proof.Proof.Gen.Reference
public import proofs.«01_k».proof.Proof.Gen.Pre_tables_ok
public import proofs.«01_k».proof.Proof.Gen.On_rows_written
public import proofs.«01_k».proof.Proof.Gen.Kernel2
public import proofs.«01_k».proof.Proof.Gen.Kernel2Ideal
public import proofs.«01_k».proof.Proof.Gen.Kernel3
public import proofs.«01_k».proof.Proof.Gen.Kernel5
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel3Ideal.Value
public import proofs.«01_k».proof.Proof.Gen.Reference3Ideal.Run
public import proofs.«01_k».proof.Proof.Dense.Reference
public import proofs.«01_k».proof.Proof.Dense.Same
public import proofs.«01_k».proof.Proof.Dense.Value
public import proofs.«01_k».proof.Proof.Outproj.Reference
public import proofs.«01_k».proof.Proof.Outproj.Same
public import proofs.«01_k».proof.Proof.Outproj.Value
public import proofs.«01_k».proof.Proof.Routed.Reference
public import proofs.«01_k».proof.Proof.Routed.Same
public import proofs.«01_k».proof.Proof.Routed.Value
public import proofs.«01_k».proof.Proof.Combine.Pre
public import proofs.«01_k».proof.Proof.Combine.Same
public import proofs.«01_k».proof.Proof.Combine.Value
public import proofs.«01_k».proof.Proof.Combine.Reference
public import proofs.«01_k».proof.Proof.Gen.Kernel4
public import proofs.«01_k».proof.Proof.Gen.Kernel4Ideal
public import proofs.«01_k».proof.Proof.Gen.Kernel4Ideal.Launch
public import proofs.«01_k».proof.Proof.Gen.Kernel4Ideal.Skeleton
public import proofs.«01_k».proof.Proof.Gen.Reference4Ideal.Run
public import proofs.«01_k».proof.Proof.Gen.Reference4Ideal.Read
public import proofs.«01_k».proof.Proof.Gen.Pre_rows_ok
public import proofs.«01_k».proof.Proof.Gen.Pre_tiles_ok
public import proofs.«01_k».proof.Proof.Dispatch.Value
public import proofs.«01_k».proof.Proof.Grouped.Pre
public import proofs.«01_k».proof.Proof.Grouped.Same
public import proofs.«01_k».proof.Proof.Grouped.Value
public import proofs.«01_k».proof.Proof.Grouped.Reference
public import Idealize.ShloMosaic.Adequacy

@[expose] public section

noncomputable section

namespace Cert.Proof

open Idealize.ShloMosaic Idealize.ShloMosaic.TcCoe Idealize.SL.Sem
open Cert.KernelIdeal.Dispatch Cert.KernelIdeal.Dispatch.Tables

/-! ## The dispatch -/

section
variable {F : FTy → Type} [FloatOps F]

/-- The kernel's run from a memory whose tables the precondition allows. -/
theorem run_kernel (m : (ℓ : Loc Cert.KernelIdeal.nD Cert.KernelIdeal.τ Cert.KernelIdeal.sig) → Buf (Elt F) ℓ)
    (ρ : Dev Cert.KernelIdeal.nD → PrngReg)
    (hpre : ∀ c : Dev Cert.KernelIdeal.nD, Cert.Pre_tables_ok.fn (F := F)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) = fun _ => 1#1) :
    θ_run Cert.KernelIdeal.defs (onTc (τ := Cert.KernelIdeal.τ) (Cert.KernelIdeal.main (F := F))) ⟨m, fun _ => 0, ρ⟩
      (fun r => (∀ c : Dev Cert.KernelIdeal.nD,
        r.2.mem ((c.tc : Thread Cert.KernelIdeal.nD Cert.KernelIdeal.τ).loc Cert.KernelIdeal.main_v0) = (dataOf m c).g
        ∧ r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2)
            = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3)
            = m ((c.tc : Thread Cert.KernelIdeal.nD Cert.KernelIdeal.τ).loc Cert.KernelIdeal.main_arg3))
        ∧ r.2.sem = fun _ => 0) :=
  run m ρ fun c => ok_of_pre _ _ _ _ (hpre c)

/-- The reference's run: its result holds the rows it sets. -/
theorem run_reference (m : (ℓ : Loc Cert.ReferenceIdeal.nD Cert.ReferenceIdeal.τ Cert.ReferenceIdeal.sig) → Buf (Elt F) ℓ)
    (ρ : Dev Cert.ReferenceIdeal.nD → PrngReg)
    (f1 f2 : Dev Cert.ReferenceIdeal.nD → Cert.KernelIdeal.S32768.Idx → BitVec 32)
    (f4 : Dev Cert.ReferenceIdeal.nD → FVec F Cert.KernelIdeal.S32768x1024 .f32)
    (h1 : ∀ c : Dev Cert.ReferenceIdeal.nD, m ((c.tc : Thread Cert.ReferenceIdeal.nD Cert.ReferenceIdeal.τ).loc Cert.ReferenceIdeal.main_arg0) = f1 c) (h2 : ∀ c : Dev Cert.ReferenceIdeal.nD, m ((c.tc : Thread Cert.ReferenceIdeal.nD Cert.ReferenceIdeal.τ).loc Cert.ReferenceIdeal.main_arg1) = f2 c) (h4 : ∀ c : Dev Cert.ReferenceIdeal.nD, m ((c.tc : Thread Cert.ReferenceIdeal.nD Cert.ReferenceIdeal.τ).loc Cert.ReferenceIdeal.main_arg3) = f4 c) :
    θ_run Cert.ReferenceIdeal.defs (onTc (τ := Cert.ReferenceIdeal.τ) (Cert.ReferenceIdeal.main (F := F))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v14) = refRows (F := F) (f1 c) (f2 c) (f4 c)
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)) := by
  obtain rfl : (fun c : Dev Cert.ReferenceIdeal.nD => m ((c.tc : Thread Cert.ReferenceIdeal.nD Cert.ReferenceIdeal.τ).loc Cert.ReferenceIdeal.main_arg0)) = f1 := funext h1
  obtain rfl : (fun c : Dev Cert.ReferenceIdeal.nD => m ((c.tc : Thread Cert.ReferenceIdeal.nD Cert.ReferenceIdeal.τ).loc Cert.ReferenceIdeal.main_arg1)) = f2 := funext h2
  obtain rfl : (fun c : Dev Cert.ReferenceIdeal.nD => m ((c.tc : Thread Cert.ReferenceIdeal.nD Cert.ReferenceIdeal.τ).loc Cert.ReferenceIdeal.main_arg3)) = f4 := funext h4
  exact (θ_run Cert.ReferenceIdeal.defs _ _).mono (fun r h c => ⟨(h c).1, (h c).2⟩) (Cert.ReferenceIdeal.Value.run (F := F) m ρ)

/-- Where the mask is set, the reference's rows of the kernel's arguments are the kernel's result. -/
theorem agree (m : (ℓ : Loc Cert.KernelIdeal.nD Cert.KernelIdeal.τ Cert.KernelIdeal.sig) → Buf (Elt F) ℓ) (c : Dev Cert.KernelIdeal.nD)
    (hpre : Cert.Pre_tables_ok.fn (F := F) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) = fun _ => 1#1)
    (i : Cert.KernelIdeal.S73728x1024.Idx)
    (hi : Cert.On_rows_written.fn (F := F) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) i = 1#1) :
    refRows (F := F) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) i = (dataOf m c).g i :=
  rows_agree _ _ _ _ (ok_of_pre _ _ _ _ hpre) _ i hi

end

theorem frame_kernel : Cert.quiescent_Kernel := fun m ρ hpre =>
  (θ_run Cert.KernelIdeal.defs _ _).mono (fun _ h => ⟨fun c => (h.1 c).2, h.2⟩) (run_kernel (F := Bits) m ρ hpre)

theorem frame_kernelIdeal : Cert.quiescent_KernelIdeal := fun m ρ hpre =>
  (θ_run Cert.KernelIdeal.defs _ _).mono (fun _ h => ⟨fun c => (h.1 c).2, h.2⟩) (run_kernel (F := Ideal) m ρ hpre)

theorem frame_referenceIdeal_pre : Cert.quiescent_ReferenceIdeal_pre_tables_ok := fun m ρ _ =>
  (θ_run Cert.ReferenceIdeal.defs _ _).mono
    (fun r h => ⟨fun c => (h c).2, sem_eq_zero_of_no_sems (by decide) r.2⟩) (Cert.ReferenceIdeal.Value.run (F := Ideal) m ρ)

theorem frame_referenceIdeal : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run (F := Ideal) m ρ)

theorem frame_reference : Cert.quiescent_Reference := fun m ρ _ =>
  (θ_run Cert.ReferenceIdeal.defs _ _).mono
    (fun r h => ⟨fun c => (h c).2, sem_eq_zero_of_no_sems (by decide) r.2⟩) (Cert.ReferenceIdeal.Value.run (F := Bits) m ρ)

theorem bitexact : Cert.bitexact_Kernel_Reference_on_rows_written := fun m ρ m' ρ' hpre hagree =>
  ⟨fun c => (dataOf (F := Bits) m c).g,
    (θ_run Cert.KernelIdeal.defs _ _).mono
      (fun r h c => ⟨fun i _ => congrFun (h.1 c).1 i, (h.1 c).2⟩) (run_kernel (F := Bits) m ρ hpre),
    (θ_run Cert.ReferenceIdeal.defs _ _).mono
      (fun r h c => ⟨fun i hi =>
        (congrFun (h c).1 i).trans (agree (F := Bits) m c (hpre c) i hi), (h c).2⟩)
      (run_reference (F := Bits) m' ρ' _ _ _ (fun c => (hagree c).1) (fun c => (hagree c).2.1) (fun c => (hagree c).2.2.2))⟩

theorem algebraic : Cert.algebraic_KernelIdeal_ReferenceIdeal_on_rows_written := fun m ρ m' ρ' hpre hagree =>
  ⟨fun c => (dataOf (F := Ideal) m c).g,
    (θ_run Cert.KernelIdeal.defs _ _).mono
      (fun r h c => ⟨fun i _ => congrFun (h.1 c).1 i, (h.1 c).2⟩) (run_kernel (F := Ideal) m ρ hpre),
    (θ_run Cert.ReferenceIdeal.defs _ _).mono
      (fun r h c => ⟨fun i hi =>
        (congrFun (h c).1 i).trans (agree (F := Ideal) m c (hpre c) i hi), (h c).2⟩)
      (run_reference (F := Ideal) m' ρ' _ _ _ (fun c => (hagree c).1) (fun c => (hagree c).2.1) (fun c => (hagree c).2.2.2))⟩

/-! ## The experts' layer on the dispatched rows -/

open Cert.Kernel2Ideal.Grouped in
/-- The tables a memory's precondition allows are in range. -/
theorem tables_in_range {F : FTy → Type} [FloatOps F] (m : (ℓ : Loc Cert.Kernel2Ideal.nD Cert.Kernel2Ideal.τ Cert.Kernel2Ideal.sig) → Buf (Elt F) ℓ)
    (hpre : ∀ c : Dev Cert.Kernel2Ideal.nD, Cert.Pre_tiles_ok.fn (F := F)
      (m ((c.tc : Thread Cert.Kernel2Ideal.nD Cert.Kernel2Ideal.τ).loc Cert.Kernel2Ideal.main_arg0))
      (m ((c.tc : Thread Cert.Kernel2Ideal.nD Cert.Kernel2Ideal.τ).loc Cert.Kernel2Ideal.main_arg1))
      (m ((c.tc : Thread Cert.Kernel2Ideal.nD Cert.Kernel2Ideal.τ).loc Cert.Kernel2Ideal.main_arg2))
      (m ((c.tc : Thread Cert.Kernel2Ideal.nD Cert.Kernel2Ideal.τ).loc Cert.Kernel2Ideal.main_arg3))
      (m ((c.tc : Thread Cert.Kernel2Ideal.nD Cert.Kernel2Ideal.τ).loc Cert.Kernel2Ideal.main_arg4))
      (m ((c.tc : Thread Cert.Kernel2Ideal.nD Cert.Kernel2Ideal.τ).loc Cert.Kernel2Ideal.main_arg5)) = fun _ => 1#1) :
    InRange (T0 m) (T1 m) :=
  inRange_of_pre _ _ _ _ _ _ (hpre 0)

open Cert.Kernel2Ideal.Grouped in
/-- The kernel's run from a memory whose tables the precondition allows leaves its arguments and every semaphore at rest. -/
theorem run_grouped {F : FTy → Type} [FloatOps F] (m : (ℓ : Loc Cert.Kernel2Ideal.nD Cert.Kernel2Ideal.τ Cert.Kernel2Ideal.sig) → Buf (Elt F) ℓ)
    (ρ : Dev Cert.Kernel2Ideal.nD → PrngReg)
    (hpre : ∀ c : Dev Cert.Kernel2Ideal.nD, Cert.Pre_tiles_ok.fn (F := F)
      (m ((c.tc : Thread Cert.Kernel2Ideal.nD Cert.Kernel2Ideal.τ).loc Cert.Kernel2Ideal.main_arg0))
      (m ((c.tc : Thread Cert.Kernel2Ideal.nD Cert.Kernel2Ideal.τ).loc Cert.Kernel2Ideal.main_arg1))
      (m ((c.tc : Thread Cert.Kernel2Ideal.nD Cert.Kernel2Ideal.τ).loc Cert.Kernel2Ideal.main_arg2))
      (m ((c.tc : Thread Cert.Kernel2Ideal.nD Cert.Kernel2Ideal.τ).loc Cert.Kernel2Ideal.main_arg3))
      (m ((c.tc : Thread Cert.Kernel2Ideal.nD Cert.Kernel2Ideal.τ).loc Cert.Kernel2Ideal.main_arg4))
      (m ((c.tc : Thread Cert.Kernel2Ideal.nD Cert.Kernel2Ideal.τ).loc Cert.Kernel2Ideal.main_arg5)) = fun _ => 1#1) :
    θ_run Cert.Kernel2Ideal.defs (onTc (τ := Cert.Kernel2Ideal.τ) (Cert.Kernel2Ideal.main (F := F))) ⟨m, fun _ => 0, ρ⟩
      (fun r => (∀ c : Dev Cert.Kernel2Ideal.nD,
        r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
        ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
        ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
        ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
        ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
        ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
        ∧ r.2.sem = fun _ => 0) :=
  (θ_run Cert.Kernel2Ideal.defs _ _).mono (fun r h => ⟨args_kept m (tables_in_range m hpre) h.1, h.2⟩) (run_main m ρ (tables_in_range m hpre))

open Cert.Kernel2Ideal.Grouped in
/-- Over the extended reals its result is the layer. -/
theorem run_grouped_value (m : (ℓ : Loc Cert.Kernel2Ideal.nD Cert.Kernel2Ideal.τ Cert.Kernel2Ideal.sig) → Buf (Elt Ideal) ℓ)
    (ρ : Dev Cert.Kernel2Ideal.nD → PrngReg)
    (hpre : ∀ c : Dev Cert.Kernel2Ideal.nD, Cert.Pre_tiles_ok.fn (F := Ideal)
      (m ((c.tc : Thread Cert.Kernel2Ideal.nD Cert.Kernel2Ideal.τ).loc Cert.Kernel2Ideal.main_arg0))
      (m ((c.tc : Thread Cert.Kernel2Ideal.nD Cert.Kernel2Ideal.τ).loc Cert.Kernel2Ideal.main_arg1))
      (m ((c.tc : Thread Cert.Kernel2Ideal.nD Cert.Kernel2Ideal.τ).loc Cert.Kernel2Ideal.main_arg2))
      (m ((c.tc : Thread Cert.Kernel2Ideal.nD Cert.Kernel2Ideal.τ).loc Cert.Kernel2Ideal.main_arg3))
      (m ((c.tc : Thread Cert.Kernel2Ideal.nD Cert.Kernel2Ideal.τ).loc Cert.Kernel2Ideal.main_arg4))
      (m ((c.tc : Thread Cert.Kernel2Ideal.nD Cert.Kernel2Ideal.τ).loc Cert.Kernel2Ideal.main_arg5)) = fun _ => 1#1) :
    θ_run Cert.Kernel2Ideal.defs (onTc (τ := Cert.Kernel2Ideal.τ) (Cert.Kernel2Ideal.main (F := Ideal))) ⟨m, fun _ => 0, ρ⟩
      (fun r => ∀ c : Dev Cert.Kernel2Ideal.nD,
        r.2.mem ((c.tc : Thread Cert.Kernel2Ideal.nD Cert.Kernel2Ideal.τ).loc Cert.Kernel2Ideal.main_v0) = Cert.Grouped.layer (T0 m) (T1 m) (aX m c) (aG m c) (aU m c) (aD m c)
        ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
        ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
        ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
        ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
        ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
        ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)) :=
  (θ_run Cert.Kernel2Ideal.defs _ _).mono
    (fun r h c => ⟨((h.1 c).1 (4 : Fin 5)).trans (result_eq m (tables_in_range m hpre) c), args_kept m (tables_in_range m hpre) h.1 c⟩)
    (run_main m ρ (tables_in_range m hpre))

/-- The reference's run: its result is the layer of the arrays it is given. -/
theorem run_grouped_reference (m : (ℓ : Loc Cert.Reference2Ideal.nD Cert.Reference2Ideal.τ Cert.Reference2Ideal.sig) → Buf (Elt Ideal) ℓ) (ρ : Dev Cert.Reference2Ideal.nD → PrngReg)
    (te ta : Dev Cert.Reference2Ideal.nD → Cert.Grouped.Tiles) (x : Dev Cert.Reference2Ideal.nD → Cert.Grouped.Rows) (wg wu : Dev Cert.Reference2Ideal.nD → Cert.Grouped.Wide) (wd : Dev Cert.Reference2Ideal.nD → Cert.Grouped.Narrow)
    (hte : ∀ c j, (te c j).toNat < 8)
    (h0 : ∀ c : Dev Cert.Reference2Ideal.nD, m ((c.tc : Thread Cert.Reference2Ideal.nD Cert.Reference2Ideal.τ).loc Cert.Reference2Ideal.main_arg0) = te c)
    (h1 : ∀ c : Dev Cert.Reference2Ideal.nD, m ((c.tc : Thread Cert.Reference2Ideal.nD Cert.Reference2Ideal.τ).loc Cert.Reference2Ideal.main_arg1) = ta c)
    (h2 : ∀ c : Dev Cert.Reference2Ideal.nD, m ((c.tc : Thread Cert.Reference2Ideal.nD Cert.Reference2Ideal.τ).loc Cert.Reference2Ideal.main_arg2) = x c)
    (h3 : ∀ c : Dev Cert.Reference2Ideal.nD, m ((c.tc : Thread Cert.Reference2Ideal.nD Cert.Reference2Ideal.τ).loc Cert.Reference2Ideal.main_arg3) = wg c)
    (h4 : ∀ c : Dev Cert.Reference2Ideal.nD, m ((c.tc : Thread Cert.Reference2Ideal.nD Cert.Reference2Ideal.τ).loc Cert.Reference2Ideal.main_arg4) = wu c)
    (h5 : ∀ c : Dev Cert.Reference2Ideal.nD, m ((c.tc : Thread Cert.Reference2Ideal.nD Cert.Reference2Ideal.τ).loc Cert.Reference2Ideal.main_arg5) = wd c) :
    θ_run Cert.Reference2Ideal.defs (onTc (τ := Cert.Reference2Ideal.τ) (Cert.Reference2Ideal.main (F := Ideal))) ⟨m, fun _ => 0, ρ⟩
      (fun r => ∀ c : Dev Cert.Reference2Ideal.nD,
        r.2.mem ((c.tc : Thread Cert.Reference2Ideal.nD Cert.Reference2Ideal.τ).loc Cert.Reference2Ideal.main_v158) = Cert.Grouped.layer (te c) (ta c) (x c) (wg c) (wu c) (wd c)
        ∧ r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
        ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
        ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
        ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
        ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
        ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)) := by
  obtain rfl := funext h0
  obtain rfl := funext h1
  obtain rfl := funext h2
  obtain rfl := funext h3
  obtain rfl := funext h4
  obtain rfl := funext h5
  refine (θ_run Cert.Reference2Ideal.defs _ _).mono (fun r h c => ⟨(h c).1.trans ?_, (h c).2⟩) (Cert.Reference2Ideal.Value.run (F := Ideal) m ρ)
  refine (Cert.Reference2Ideal.Read.val_main_v158_eq _).trans ?_
  exact Cert.Reference2Ideal.Grouped.value _ _ _ _ _ _ (hte c)

theorem frame_kernel2 : Cert.quiescent_Kernel2 := fun m ρ hpre =>
  Cert.Kernel2Ideal.Grouped.run_of (F := Bits) m ρ _ (run_grouped (F := Bits) m ρ hpre)

theorem frame_kernel2Ideal : Cert.quiescent_Kernel2Ideal := fun m ρ hpre => run_grouped (F := Ideal) m ρ hpre

theorem frame_reference2Ideal : Cert.quiescent_Reference2Ideal := fun m ρ _ =>
  (θ_run Cert.Reference2Ideal.defs _ _).mono
    (fun r h => ⟨fun c => (h c).2, sem_eq_zero_of_no_sems (by decide) r.2⟩) (Cert.Reference2Ideal.Value.run (F := Ideal) m ρ)

theorem frame_reference2Ideal_pre : Cert.quiescent_Reference2Ideal_pre_tiles_ok := fun m ρ _ =>
  frame_reference2Ideal m ρ trivial

open Cert.Kernel2Ideal.Grouped in
theorem algebraic2 : Cert.algebraic_Kernel2Ideal_Reference2Ideal := fun m ρ m' ρ' hpre hagree =>
  ⟨fun c => Cert.Grouped.layer (T0 m) (T1 m) (aX m c) (aG m c) (aU m c) (aD m c),
    run_grouped_value m ρ hpre,
    run_grouped_reference m' ρ' (fun _ => T0 m) (fun _ => T1 m) (fun c => aX m c) (fun c => aG m c) (fun c => aU m c) (fun c => aD m c)
      (fun _ j => (tables_in_range m hpre j).1)
      (fun c => by obtain rfl : c = 0 := Subsingleton.elim _ _; exact (hagree 0).1)
      (fun c => by obtain rfl : c = 0 := Subsingleton.elim _ _; exact (hagree 0).2.1)
      (fun c => (hagree c).2.2.1) (fun c => (hagree c).2.2.2.1) (fun c => (hagree c).2.2.2.2.1) (fun c => (hagree c).2.2.2.2.2)⟩

/-! ## The dense layer -/

/-- The reference's run: its result is the layer of the arrays it is given. -/
theorem run_dense_reference (m : (ℓ : Loc Cert.Reference3Ideal.nD Cert.Reference3Ideal.τ Cert.Reference3Ideal.sig) → Buf (Elt Ideal) ℓ) (ρ : Dev Cert.Reference3Ideal.nD → PrngReg)
    (h x : Dev Cert.Reference3Ideal.nD → Cert.Dense.Rows) (wg wu : Dev Cert.Reference3Ideal.nD → Cert.Dense.Wide) (wd : Dev Cert.Reference3Ideal.nD → Cert.Dense.Narrow)
    (h0 : ∀ c : Dev Cert.Reference3Ideal.nD, m ((c.tc : Thread Cert.Reference3Ideal.nD Cert.Reference3Ideal.τ).loc Cert.Reference3Ideal.main_arg0) = h c)
    (h1 : ∀ c : Dev Cert.Reference3Ideal.nD, m ((c.tc : Thread Cert.Reference3Ideal.nD Cert.Reference3Ideal.τ).loc Cert.Reference3Ideal.main_arg1) = x c)
    (h2 : ∀ c : Dev Cert.Reference3Ideal.nD, m ((c.tc : Thread Cert.Reference3Ideal.nD Cert.Reference3Ideal.τ).loc Cert.Reference3Ideal.main_arg2) = wg c)
    (h3 : ∀ c : Dev Cert.Reference3Ideal.nD, m ((c.tc : Thread Cert.Reference3Ideal.nD Cert.Reference3Ideal.τ).loc Cert.Reference3Ideal.main_arg3) = wu c)
    (h4 : ∀ c : Dev Cert.Reference3Ideal.nD, m ((c.tc : Thread Cert.Reference3Ideal.nD Cert.Reference3Ideal.τ).loc Cert.Reference3Ideal.main_arg4) = wd c) :
    θ_run Cert.Reference3Ideal.defs (onTc (τ := Cert.Reference3Ideal.τ) (Cert.Reference3Ideal.main (F := Ideal))) ⟨m, fun _ => 0, ρ⟩
      (fun r => ∀ c : Dev Cert.Reference3Ideal.nD,
        r.2.mem ((c.tc : Thread Cert.Reference3Ideal.nD Cert.Reference3Ideal.τ).loc Cert.Reference3Ideal.main_v5) = Cert.Dense.layer (h c) (x c) (wg c) (wu c) (wd c)
        ∧ r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
        ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
        ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
        ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
        ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)) := by
  obtain rfl := funext h0
  obtain rfl := funext h1
  obtain rfl := funext h2
  obtain rfl := funext h3
  obtain rfl := funext h4
  refine (θ_run Cert.Reference3Ideal.defs _ _).mono (fun r h c => ⟨(h c).1.trans ?_, (h c).2⟩) (Cert.Reference3Ideal.Value.run (F := Ideal) m ρ)
  refine (Cert.Reference3Ideal.Read.val_main_v5_eq _ _ _ _ _).trans ?_
  exact Cert.Reference3Ideal.Dense.value _ _ _ _ _

theorem frame_kernel3 : Cert.quiescent_Kernel3 := fun m ρ _ =>
  Cert.Kernel3Ideal.Dense.run_of (F := Bits) m ρ _ (Cert.Kernel3Ideal.Gen.frame (F := Bits) m ρ)

theorem frame_kernel3Ideal : Cert.quiescent_Kernel3Ideal := fun m ρ _ => Cert.Kernel3Ideal.Gen.frame (F := Ideal) m ρ

theorem frame_reference3Ideal : Cert.quiescent_Reference3Ideal := fun m ρ _ =>
  (θ_run Cert.Reference3Ideal.defs _ _).mono
    (fun r h => ⟨fun c => (h c).2, sem_eq_zero_of_no_sems (by decide) r.2⟩) (Cert.Reference3Ideal.Value.run (F := Ideal) m ρ)

open Cert.Kernel3Ideal.Dense in
theorem algebraic3 : Cert.algebraic_Kernel3Ideal_Reference3Ideal := fun m ρ m' ρ' _ hagree =>
  ⟨fun c => Cert.Dense.layer (aH m c) (aX m c) (aG m c) (aU m c) (aD m c),
    (θ_run Cert.Kernel3Ideal.defs _ _).mono (fun r h c => ⟨(h c).1.trans (result_eq m c), (h c).2⟩)
      (Cert.Kernel3Ideal.Value.run (F := Ideal) m ρ),
    run_dense_reference m' ρ' (fun c => aH m c) (fun c => aX m c) (fun c => aG m c) (fun c => aU m c) (fun c => aD m c)
      (fun c => (hagree c).1) (fun c => (hagree c).2.1) (fun c => (hagree c).2.2.1) (fun c => (hagree c).2.2.2.1)
      (fun c => (hagree c).2.2.2.2)⟩

/-! ## The combine -/

/-- The rows a memory's precondition allows are rows of the experts' products. -/
theorem rows_in_range {F : FTy → Type} [FloatOps F] (m : (ℓ : Loc Cert.Kernel4Ideal.nD Cert.Kernel4Ideal.τ Cert.Kernel4Ideal.sig) → Buf (Elt F) ℓ)
    (hpre : ∀ c : Dev Cert.Kernel4Ideal.nD, Cert.Pre_rows_ok.fn (F := F)
      (m ((c.tc : Thread Cert.Kernel4Ideal.nD Cert.Kernel4Ideal.τ).loc Cert.Kernel4Ideal.main_arg0))
      (m ((c.tc : Thread Cert.Kernel4Ideal.nD Cert.Kernel4Ideal.τ).loc Cert.Kernel4Ideal.main_arg1))
      (m ((c.tc : Thread Cert.Kernel4Ideal.nD Cert.Kernel4Ideal.τ).loc Cert.Kernel4Ideal.main_arg2))
      (m ((c.tc : Thread Cert.Kernel4Ideal.nD Cert.Kernel4Ideal.τ).loc Cert.Kernel4Ideal.main_arg3))
      (m ((c.tc : Thread Cert.Kernel4Ideal.nD Cert.Kernel4Ideal.τ).loc Cert.Kernel4Ideal.main_arg4)) = fun _ => 1#1) (c : Dev Cert.Kernel4Ideal.nD) :
    (Cert.Kernel4Ideal.Combine.dataOf m c).OK :=
  Cert.Kernel4Ideal.Combine.data_ok _ (Cert.Kernel4Ideal.Combine.rows_of_pre _ _ _ _ _ (hpre c))

/-- The kernel's run from a memory whose rows the precondition allows leaves its arguments and every semaphore at rest. -/
theorem run_combine {F : FTy → Type} [FloatOps F] (m : (ℓ : Loc Cert.Kernel4Ideal.nD Cert.Kernel4Ideal.τ Cert.Kernel4Ideal.sig) → Buf (Elt F) ℓ)
    (ρ : Dev Cert.Kernel4Ideal.nD → PrngReg)
    (hpre : ∀ c : Dev Cert.Kernel4Ideal.nD, Cert.Pre_rows_ok.fn (F := F)
      (m ((c.tc : Thread Cert.Kernel4Ideal.nD Cert.Kernel4Ideal.τ).loc Cert.Kernel4Ideal.main_arg0))
      (m ((c.tc : Thread Cert.Kernel4Ideal.nD Cert.Kernel4Ideal.τ).loc Cert.Kernel4Ideal.main_arg1))
      (m ((c.tc : Thread Cert.Kernel4Ideal.nD Cert.Kernel4Ideal.τ).loc Cert.Kernel4Ideal.main_arg2))
      (m ((c.tc : Thread Cert.Kernel4Ideal.nD Cert.Kernel4Ideal.τ).loc Cert.Kernel4Ideal.main_arg3))
      (m ((c.tc : Thread Cert.Kernel4Ideal.nD Cert.Kernel4Ideal.τ).loc Cert.Kernel4Ideal.main_arg4)) = fun _ => 1#1) :
    θ_run Cert.Kernel4Ideal.defs (onTc (τ := Cert.Kernel4Ideal.τ) (Cert.Kernel4Ideal.main (F := F))) ⟨m, fun _ => 0, ρ⟩
      (fun r => (∀ c : Dev Cert.Kernel4Ideal.nD,
        r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
        ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
        ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
        ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
        ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
        ∧ r.2.sem = fun _ => 0) :=
  (θ_run Cert.Kernel4Ideal.defs _ _).mono (fun r h => ⟨fun c => (h.1 c).2, h.2⟩) (Cert.Kernel4Ideal.Combine.run m ρ (rows_in_range m hpre))

open Cert.Kernel4Ideal.Combine in
/-- Over the extended reals its result is the combine. -/
theorem run_combine_value (m : (ℓ : Loc Cert.Kernel4Ideal.nD Cert.Kernel4Ideal.τ Cert.Kernel4Ideal.sig) → Buf (Elt Ideal) ℓ)
    (ρ : Dev Cert.Kernel4Ideal.nD → PrngReg)
    (hpre : ∀ c : Dev Cert.Kernel4Ideal.nD, Cert.Pre_rows_ok.fn (F := Ideal)
      (m ((c.tc : Thread Cert.Kernel4Ideal.nD Cert.Kernel4Ideal.τ).loc Cert.Kernel4Ideal.main_arg0))
      (m ((c.tc : Thread Cert.Kernel4Ideal.nD Cert.Kernel4Ideal.τ).loc Cert.Kernel4Ideal.main_arg1))
      (m ((c.tc : Thread Cert.Kernel4Ideal.nD Cert.Kernel4Ideal.τ).loc Cert.Kernel4Ideal.main_arg2))
      (m ((c.tc : Thread Cert.Kernel4Ideal.nD Cert.Kernel4Ideal.τ).loc Cert.Kernel4Ideal.main_arg3))
      (m ((c.tc : Thread Cert.Kernel4Ideal.nD Cert.Kernel4Ideal.τ).loc Cert.Kernel4Ideal.main_arg4)) = fun _ => 1#1) :
    θ_run Cert.Kernel4Ideal.defs (onTc (τ := Cert.Kernel4Ideal.τ) (Cert.Kernel4Ideal.main (F := Ideal))) ⟨m, fun _ => 0, ρ⟩
      (fun r => ∀ c : Dev Cert.Kernel4Ideal.nD,
        r.2.mem ((c.tc : Thread Cert.Kernel4Ideal.nD Cert.Kernel4Ideal.τ).loc Cert.Kernel4Ideal.main_v0) = Cert.Combine.layer (aF1 m c) (aF2 m c) (aY m c) (aX m c) (aW m c)
        ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
        ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
        ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
        ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
        ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)) :=
  (θ_run Cert.Kernel4Ideal.defs _ _).mono (fun r h c => ⟨(h.1 c).1.trans (result_eq m c), (h.1 c).2⟩) (run m ρ (rows_in_range m hpre))

/-- The reference's run: its result is the combine of the arrays it is given. -/
theorem run_combine_reference (m : (ℓ : Loc Cert.Reference4Ideal.nD Cert.Reference4Ideal.τ Cert.Reference4Ideal.sig) → Buf (Elt Ideal) ℓ) (ρ : Dev Cert.Reference4Ideal.nD → PrngReg)
    (f1 f2 : Dev Cert.Reference4Ideal.nD → Cert.Combine.RowTable) (y : Dev Cert.Reference4Ideal.nD → Cert.Combine.Prods) (x : Dev Cert.Reference4Ideal.nD → Cert.Combine.Rows) (w : Dev Cert.Reference4Ideal.nD → Cert.Combine.Info)
    (hf : ∀ c (t : Fin 32768), (f1 c (ValueIdx.ix1 t)).toNat < 73728 ∧ (f2 c (ValueIdx.ix1 t)).toNat < 73728)
    (h0 : ∀ c : Dev Cert.Reference4Ideal.nD, m ((c.tc : Thread Cert.Reference4Ideal.nD Cert.Reference4Ideal.τ).loc Cert.Reference4Ideal.main_arg0) = f1 c)
    (h1 : ∀ c : Dev Cert.Reference4Ideal.nD, m ((c.tc : Thread Cert.Reference4Ideal.nD Cert.Reference4Ideal.τ).loc Cert.Reference4Ideal.main_arg1) = f2 c)
    (h2 : ∀ c : Dev Cert.Reference4Ideal.nD, m ((c.tc : Thread Cert.Reference4Ideal.nD Cert.Reference4Ideal.τ).loc Cert.Reference4Ideal.main_arg2) = y c)
    (h3 : ∀ c : Dev Cert.Reference4Ideal.nD, m ((c.tc : Thread Cert.Reference4Ideal.nD Cert.Reference4Ideal.τ).loc Cert.Reference4Ideal.main_arg3) = x c)
    (h4 : ∀ c : Dev Cert.Reference4Ideal.nD, m ((c.tc : Thread Cert.Reference4Ideal.nD Cert.Reference4Ideal.τ).loc Cert.Reference4Ideal.main_arg4) = w c) :
    θ_run Cert.Reference4Ideal.defs (onTc (τ := Cert.Reference4Ideal.τ) (Cert.Reference4Ideal.main (F := Ideal))) ⟨m, fun _ => 0, ρ⟩
      (fun r => ∀ c : Dev Cert.Reference4Ideal.nD,
        r.2.mem ((c.tc : Thread Cert.Reference4Ideal.nD Cert.Reference4Ideal.τ).loc Cert.Reference4Ideal.main_v21) = Cert.Combine.layer (f1 c) (f2 c) (y c) (x c) (w c)
        ∧ r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
        ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
        ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
        ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
        ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)) := by
  obtain rfl := funext h0
  obtain rfl := funext h1
  obtain rfl := funext h2
  obtain rfl := funext h3
  obtain rfl := funext h4
  refine (θ_run Cert.Reference4Ideal.defs _ _).mono (fun r h c => ⟨(h c).1.trans ?_, (h c).2⟩) (Cert.Reference4Ideal.Value.run (F := Ideal) m ρ)
  refine (Cert.Reference4Ideal.Read.val_main_v21_eq _ _ _ _ _).trans ?_
  exact Cert.Reference4Ideal.Combine.value _ _ _ _ _ (fun t => (hf c t).1) (fun t => (hf c t).2)

theorem frame_kernel4 : Cert.quiescent_Kernel4 := fun m ρ hpre =>
  Cert.Kernel4Ideal.Combine.run_of (F := Bits) m ρ _ (run_combine (F := Bits) m ρ hpre)

theorem frame_kernel4Ideal : Cert.quiescent_Kernel4Ideal := fun m ρ hpre => run_combine (F := Ideal) m ρ hpre

theorem frame_reference4Ideal : Cert.quiescent_Reference4Ideal := fun m ρ _ =>
  (θ_run Cert.Reference4Ideal.defs _ _).mono
    (fun r h => ⟨fun c => (h c).2, sem_eq_zero_of_no_sems (by decide) r.2⟩) (Cert.Reference4Ideal.Value.run (F := Ideal) m ρ)

theorem frame_reference4Ideal_pre : Cert.quiescent_Reference4Ideal_pre_rows_ok := fun m ρ _ =>
  frame_reference4Ideal m ρ trivial

open Cert.Kernel4Ideal.Combine in
theorem algebraic4 : Cert.algebraic_Kernel4Ideal_Reference4Ideal := fun m ρ m' ρ' hpre hagree =>
  ⟨fun c => Cert.Combine.layer (aF1 m c) (aF2 m c) (aY m c) (aX m c) (aW m c),
    run_combine_value m ρ hpre,
    run_combine_reference m' ρ' (fun c => aF1 m c) (fun c => aF2 m c) (fun c => aY m c) (fun c => aX m c) (fun c => aW m c)
      (fun c => rows_of_pre _ _ _ _ _ (hpre c))
      (fun c => (hagree c).1) (fun c => (hagree c).2.1) (fun c => (hagree c).2.2.1) (fun c => (hagree c).2.2.2.1)
      (fun c => (hagree c).2.2.2.2)⟩

/-! ## The output projection -/

/-- The reference's run: its results are the stream after the mixers and its norm. -/
theorem run_outproj_reference (m : (ℓ : Loc Cert.Reference5Ideal.nD Cert.Reference5Ideal.τ Cert.Reference5Ideal.sig) → Buf (Elt Ideal) ℓ) (ρ : Dev Cert.Reference5Ideal.nD → PrngReg)
    (x : Dev Cert.Reference5Ideal.nD → Cert.Outproj.Rows) (a : Dev Cert.Reference5Ideal.nD → Cert.Outproj.Half) (v : Dev Cert.Reference5Ideal.nD → Cert.Outproj.Quarter) (u : Dev Cert.Reference5Ideal.nD → Cert.Outproj.Quarter) (w : Dev Cert.Reference5Ideal.nD → Cert.Outproj.Weights) (g : Dev Cert.Reference5Ideal.nD → Cert.Outproj.Gain)
    (h0 : ∀ c : Dev Cert.Reference5Ideal.nD, m ((c.tc : Thread Cert.Reference5Ideal.nD Cert.Reference5Ideal.τ).loc Cert.Reference5Ideal.main_arg0) = x c)
    (h1 : ∀ c : Dev Cert.Reference5Ideal.nD, m ((c.tc : Thread Cert.Reference5Ideal.nD Cert.Reference5Ideal.τ).loc Cert.Reference5Ideal.main_arg1) = a c)
    (h2 : ∀ c : Dev Cert.Reference5Ideal.nD, m ((c.tc : Thread Cert.Reference5Ideal.nD Cert.Reference5Ideal.τ).loc Cert.Reference5Ideal.main_arg2) = v c)
    (h3 : ∀ c : Dev Cert.Reference5Ideal.nD, m ((c.tc : Thread Cert.Reference5Ideal.nD Cert.Reference5Ideal.τ).loc Cert.Reference5Ideal.main_arg3) = u c)
    (h4 : ∀ c : Dev Cert.Reference5Ideal.nD, m ((c.tc : Thread Cert.Reference5Ideal.nD Cert.Reference5Ideal.τ).loc Cert.Reference5Ideal.main_arg4) = w c)
    (h5 : ∀ c : Dev Cert.Reference5Ideal.nD, m ((c.tc : Thread Cert.Reference5Ideal.nD Cert.Reference5Ideal.τ).loc Cert.Reference5Ideal.main_arg5) = g c) :
    θ_run Cert.Reference5Ideal.defs (onTc (τ := Cert.Reference5Ideal.τ) (Cert.Reference5Ideal.main (F := Ideal))) ⟨m, fun _ => 0, ρ⟩
      (fun r => ∀ c : Dev Cert.Reference5Ideal.nD,
        r.2.mem ((c.tc : Thread Cert.Reference5Ideal.nD Cert.Reference5Ideal.τ).loc Cert.Reference5Ideal.main_v5) = Cert.Outproj.mixed (x c) (a c) (v c) (u c) (w c)
        ∧ r.2.mem ((c.tc : Thread Cert.Reference5Ideal.nD Cert.Reference5Ideal.τ).loc Cert.Reference5Ideal.main_v19) = Cert.Outproj.normed (x c) (a c) (v c) (u c) (w c) (g c)
        ∧ r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
        ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
        ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
        ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
        ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
        ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)) := by
  obtain rfl := funext h0
  obtain rfl := funext h1
  obtain rfl := funext h2
  obtain rfl := funext h3
  obtain rfl := funext h4
  obtain rfl := funext h5
  refine (θ_run Cert.Reference5Ideal.defs _ _).mono (fun r h c => ⟨(h c).1.trans ?_, (h c).2.1.trans ?_, (h c).2.2⟩) (Cert.Reference5Ideal.Value.run (F := Ideal) m ρ)
  · exact (Cert.Reference5Ideal.Read.val_main_v5_eq _ _ _ _ _).trans (Cert.Reference5Ideal.Outproj.value_mixed _ _ _ _ _)
  · exact (Cert.Reference5Ideal.Read.val_main_v19_eq _ _ _ _ _ _).trans (Cert.Reference5Ideal.Outproj.value_normed _ _ _ _ _ _)

theorem frame_kernel5 : Cert.quiescent_Kernel5 := fun m ρ _ =>
  Cert.Kernel5Ideal.Outproj.run_of (F := Bits) m ρ _ (Cert.Kernel5Ideal.Gen.frame (F := Bits) m ρ)

theorem frame_kernel5Ideal : Cert.quiescent_Kernel5Ideal := fun m ρ _ => Cert.Kernel5Ideal.Gen.frame (F := Ideal) m ρ

theorem frame_reference5Ideal : Cert.quiescent_Reference5Ideal := fun m ρ _ =>
  (θ_run Cert.Reference5Ideal.defs _ _).mono
    (fun r h => ⟨fun c => (h c).2.2, sem_eq_zero_of_no_sems (by decide) r.2⟩) (Cert.Reference5Ideal.Value.run (F := Ideal) m ρ)

open Cert.Kernel5Ideal.Outproj in
theorem algebraic5 : Cert.algebraic_Kernel5Ideal_Reference5Ideal := fun m ρ m' ρ' _ hagree =>
  ⟨fun c => Cert.Outproj.mixed (aX m c) (aA m c) (aV m c) (aR m c) (aW m c),
    fun c => Cert.Outproj.normed (aX m c) (aA m c) (aV m c) (aR m c) (aW m c) (aG m c),
    (θ_run Cert.Kernel5Ideal.defs _ _).mono (fun r h c => ⟨(h c).1.trans (mixed_eq m c), (h c).2.1.trans (normed_eq m c), (h c).2.2⟩)
      (Cert.Kernel5Ideal.Value.run_blocks (F := Ideal) m ρ),
    run_outproj_reference m' ρ' (fun c => aX m c) (fun c => aA m c) (fun c => aV m c) (fun c => aR m c) (fun c => aW m c) (fun c => aG m c)
      (fun c => (hagree c).1) (fun c => (hagree c).2.1) (fun c => (hagree c).2.2.1) (fun c => (hagree c).2.2.2.1)
      (fun c => (hagree c).2.2.2.2.1) (fun c => (hagree c).2.2.2.2.2)⟩

/-! ## The output projection before the router -/

/-- The reference's run here: its two results are the stream after the mixers and its norm. -/
theorem run_routed_reference (m : (ℓ : Loc Cert.Reference6Ideal.nD Cert.Reference6Ideal.τ Cert.Reference6Ideal.sig) → Buf (Elt Ideal) ℓ) (ρ : Dev Cert.Reference6Ideal.nD → PrngReg)
    (x : Dev Cert.Reference6Ideal.nD → Cert.Outproj.Rows) (a : Dev Cert.Reference6Ideal.nD → Cert.Outproj.Half) (v : Dev Cert.Reference6Ideal.nD → Cert.Outproj.Quarter) (u : Dev Cert.Reference6Ideal.nD → Cert.Outproj.Quarter) (w : Dev Cert.Reference6Ideal.nD → Cert.Outproj.Weights) (g : Dev Cert.Reference6Ideal.nD → Cert.Outproj.Gain)
    (h0 : ∀ c : Dev Cert.Reference6Ideal.nD, m ((c.tc : Thread Cert.Reference6Ideal.nD Cert.Reference6Ideal.τ).loc Cert.Reference6Ideal.main_arg0) = x c)
    (h1 : ∀ c : Dev Cert.Reference6Ideal.nD, m ((c.tc : Thread Cert.Reference6Ideal.nD Cert.Reference6Ideal.τ).loc Cert.Reference6Ideal.main_arg1) = a c)
    (h2 : ∀ c : Dev Cert.Reference6Ideal.nD, m ((c.tc : Thread Cert.Reference6Ideal.nD Cert.Reference6Ideal.τ).loc Cert.Reference6Ideal.main_arg2) = v c)
    (h3 : ∀ c : Dev Cert.Reference6Ideal.nD, m ((c.tc : Thread Cert.Reference6Ideal.nD Cert.Reference6Ideal.τ).loc Cert.Reference6Ideal.main_arg3) = u c)
    (h4 : ∀ c : Dev Cert.Reference6Ideal.nD, m ((c.tc : Thread Cert.Reference6Ideal.nD Cert.Reference6Ideal.τ).loc Cert.Reference6Ideal.main_arg4) = w c)
    (h5 : ∀ c : Dev Cert.Reference6Ideal.nD, m ((c.tc : Thread Cert.Reference6Ideal.nD Cert.Reference6Ideal.τ).loc Cert.Reference6Ideal.main_arg5) = g c) :
    θ_run Cert.Reference6Ideal.defs (onTc (τ := Cert.Reference6Ideal.τ) (Cert.Reference6Ideal.main (F := Ideal))) ⟨m, fun _ => 0, ρ⟩
      (fun r => ∀ c : Dev Cert.Reference6Ideal.nD,
        r.2.mem ((c.tc : Thread Cert.Reference6Ideal.nD Cert.Reference6Ideal.τ).loc Cert.Reference6Ideal.main_v5) = Cert.Outproj.mixed (x c) (a c) (v c) (u c) (w c)
        ∧ r.2.mem ((c.tc : Thread Cert.Reference6Ideal.nD Cert.Reference6Ideal.τ).loc Cert.Reference6Ideal.main_v18) = Cert.Outproj.normed (x c) (a c) (v c) (u c) (w c) (g c)
        ∧ r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
        ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
        ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
        ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
        ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
        ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
        ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
        ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)) := by
  obtain rfl := funext h0
  obtain rfl := funext h1
  obtain rfl := funext h2
  obtain rfl := funext h3
  obtain rfl := funext h4
  obtain rfl := funext h5
  refine (θ_run Cert.Reference6Ideal.defs _ _).mono (fun r h c => ⟨(h c).1.trans ?_, (h c).2.1.trans ?_, (h c).2.2⟩) (Cert.Reference6Ideal.Value.run (F := Ideal) m ρ)
  · exact (Cert.Reference6Ideal.Read.val_main_v5_eq _ _ _ _ _).trans (Cert.Reference6Ideal.Routed.value_mixed _ _ _ _ _)
  · exact (Cert.Reference6Ideal.Read.val_main_v18_eq _ _ _ _ _ _).trans (Cert.Reference6Ideal.Routed.value_normed _ _ _ _ _ _)

theorem frame_kernel6 : Cert.quiescent_Kernel6 := fun m ρ _ =>
  Cert.Kernel6Ideal.Routed.run_of (F := Bits) m ρ _ (Cert.Kernel6Ideal.Gen.frame (F := Bits) m ρ)

theorem frame_kernel6Ideal : Cert.quiescent_Kernel6Ideal := fun m ρ _ => Cert.Kernel6Ideal.Gen.frame (F := Ideal) m ρ

theorem frame_reference6Ideal : Cert.quiescent_Reference6Ideal := fun m ρ _ =>
  (θ_run Cert.Reference6Ideal.defs _ _).mono
    (fun r h => ⟨fun c => (h c).2.2, sem_eq_zero_of_no_sems (by decide) r.2⟩) (Cert.Reference6Ideal.Value.run (F := Ideal) m ρ)

open Cert.Kernel6Ideal.Routed in
theorem algebraic6 : Cert.algebraic_Kernel6Ideal_Reference6Ideal := fun m ρ m' ρ' _ hagree =>
  ⟨fun c => Cert.Outproj.mixed (aX m c) (aA m c) (aV m c) (aR m c) (aW m c),
    fun c => Cert.Outproj.normed (aX m c) (aA m c) (aV m c) (aR m c) (aW m c) (aG m c),
    (θ_run Cert.Kernel6Ideal.defs _ _).mono (fun r h c => ⟨(h c).1.trans (mixed_eq m c), (h c).2.1.trans (normed_eq m c), (h c).2.2.2.2.2⟩)
      (Cert.Kernel6Ideal.Value.run_blocks (F := Ideal) m ρ),
    run_routed_reference m' ρ' (fun c => aX m c) (fun c => aA m c) (fun c => aV m c) (fun c => aR m c) (fun c => aW m c) (fun c => aG m c)
      (fun c => (hagree c).1) (fun c => (hagree c).2.1) (fun c => (hagree c).2.2.1) (fun c => (hagree c).2.2.2.1)
      (fun c => (hagree c).2.2.2.2.1) (fun c => (hagree c).2.2.2.2.2.1)⟩

theorem claim : Cert.Claim := ⟨Cert.Kernel.Gen.facts, Cert.KernelIdeal.Gen.facts, Cert.ReferenceIdeal.Gen.facts,
  Cert.Reference.Gen.facts, Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Pre_tables_ok.Gen.facts, Cert.Pre_tiles_ok.Gen.facts, Cert.Pre_rows_ok.Gen.facts, Cert.On_rows_written.Gen.facts,
  frame_kernel, frame_kernelIdeal, frame_referenceIdeal, frame_referenceIdeal_pre, frame_reference,
  frame_kernel2, frame_kernel2Ideal, frame_reference2Ideal, frame_reference2Ideal_pre,
  frame_kernel3, frame_kernel3Ideal, frame_reference3Ideal,
  frame_kernel4, frame_kernel4Ideal, frame_reference4Ideal, frame_reference4Ideal_pre,
  frame_kernel5, frame_kernel5Ideal, frame_reference5Ideal,
  frame_kernel6, frame_kernel6Ideal, frame_reference6Ideal,
  trivial, bitexact, algebraic, trivial, algebraic2, trivial, algebraic3, trivial, algebraic4, trivial, algebraic5,
  trivial, algebraic6⟩

end Cert.Proof

end
